-- ==== Defs.lean ====
def Pre_DU (m : (ℓ : Loc Cert.DU.nD Cert.DU.τ Cert.DU.sig) → Buf (Elt Bits) ℓ) : Prop :=
  True

def Pre_DUIdeal (m : (ℓ : Loc Cert.DUIdeal.nD Cert.DUIdeal.τ Cert.DUIdeal.sig) → Buf (Elt Ideal) ℓ) : Prop :=
  True

def Pre_DURefIdeal (m : (ℓ : Loc Cert.DURefIdeal.nD Cert.DURefIdeal.τ Cert.DURefIdeal.sig) → Buf (Elt Ideal) ℓ) : Prop :=
  True

def Pre_DM (m : (ℓ : Loc Cert.DM.nD Cert.DM.τ Cert.DM.sig) → Buf (Elt Bits) ℓ) : Prop :=
  True

def Pre_DMIdeal (m : (ℓ : Loc Cert.DMIdeal.nD Cert.DMIdeal.τ Cert.DMIdeal.sig) → Buf (Elt Ideal) ℓ) : Prop :=
  True

def Pre_DMRefIdeal (m : (ℓ : Loc Cert.DMRefIdeal.nD Cert.DMRefIdeal.τ Cert.DMRefIdeal.sig) → Buf (Elt Ideal) ℓ) : Prop :=
  True

def Pre_DHp (m : (ℓ : Loc Cert.DHp.nD Cert.DHp.τ Cert.DHp.sig) → Buf (Elt Bits) ℓ) : Prop :=
  True

def Pre_DHpIdeal (m : (ℓ : Loc Cert.DHpIdeal.nD Cert.DHpIdeal.τ Cert.DHpIdeal.sig) → Buf (Elt Ideal) ℓ) : Prop :=
  True

def Pre_DHpIdeal_finite_dhp [hPre_finite_dhp : Cert.Pre_finite_dhp.Facts] (m : (ℓ : Loc Cert.DHpIdeal.nD Cert.DHpIdeal.τ Cert.DHpIdeal.sig) → Buf (Elt Ideal) ℓ) : Prop :=
  ∀ c : Dev Cert.DHpIdeal.nD,
    (Cert.Pre_finite_dhp.fn (F := Ideal) (m ((c.tc : Thread Cert.DHpIdeal.nD Cert.DHpIdeal.τ).loc Cert.DHpIdeal.main_arg0)) (m ((c.tc : Thread Cert.DHpIdeal.nD Cert.DHpIdeal.τ).loc Cert.DHpIdeal.main_arg1)) (m ((c.tc : Thread Cert.DHpIdeal.nD Cert.DHpIdeal.τ).loc Cert.DHpIdeal.main_arg2)) (m ((c.tc : Thread Cert.DHpIdeal.nD Cert.DHpIdeal.τ).loc Cert.DHpIdeal.main_arg3)) (m ((c.tc : Thread Cert.DHpIdeal.nD Cert.DHpIdeal.τ).loc Cert.DHpIdeal.main_arg4))).1 = (fun _ => 1#1)
    ∧ (Cert.Pre_finite_dhp.fn (F := Ideal) (m ((c.tc : Thread Cert.DHpIdeal.nD Cert.DHpIdeal.τ).loc Cert.DHpIdeal.main_arg0)) (m ((c.tc : Thread Cert.DHpIdeal.nD Cert.DHpIdeal.τ).loc Cert.DHpIdeal.main_arg1)) (m ((c.tc : Thread Cert.DHpIdeal.nD Cert.DHpIdeal.τ).loc Cert.DHpIdeal.main_arg2)) (m ((c.tc : Thread Cert.DHpIdeal.nD Cert.DHpIdeal.τ).loc Cert.DHpIdeal.main_arg3)) (m ((c.tc : Thread Cert.DHpIdeal.nD Cert.DHpIdeal.τ).loc Cert.DHpIdeal.main_arg4))).2.1 = (fun _ => 1#1)
    ∧ (Cert.Pre_finite_dhp.fn (F := Ideal) (m ((c.tc : Thread Cert.DHpIdeal.nD Cert.DHpIdeal.τ).loc Cert.DHpIdeal.main_arg0)) (m ((c.tc : Thread Cert.DHpIdeal.nD Cert.DHpIdeal.τ).loc Cert.DHpIdeal.main_arg1)) (m ((c.tc : Thread Cert.DHpIdeal.nD Cert.DHpIdeal.τ).loc Cert.DHpIdeal.main_arg2)) (m ((c.tc : Thread Cert.DHpIdeal.nD Cert.DHpIdeal.τ).loc Cert.DHpIdeal.main_arg3)) (m ((c.tc : Thread Cert.DHpIdeal.nD Cert.DHpIdeal.τ).loc Cert.DHpIdeal.main_arg4))).2.2.1 = (fun _ => 1#1)
    ∧ (Cert.Pre_finite_dhp.fn (F := Ideal) (m ((c.tc : Thread Cert.DHpIdeal.nD Cert.DHpIdeal.τ).loc Cert.DHpIdeal.main_arg0)) (m ((c.tc : Thread Cert.DHpIdeal.nD Cert.DHpIdeal.τ).loc Cert.DHpIdeal.main_arg1)) (m ((c.tc : Thread Cert.DHpIdeal.nD Cert.DHpIdeal.τ).loc Cert.DHpIdeal.main_arg2)) (m ((c.tc : Thread Cert.DHpIdeal.nD Cert.DHpIdeal.τ).loc Cert.DHpIdeal.main_arg3)) (m ((c.tc : Thread Cert.DHpIdeal.nD Cert.DHpIdeal.τ).loc Cert.DHpIdeal.main_arg4))).2.2.2 = (fun _ => 1#1)

def Pre_DHpRefIdeal (m : (ℓ : Loc Cert.DHpRefIdeal.nD Cert.DHpRefIdeal.τ Cert.DHpRefIdeal.sig) → Buf (Elt Ideal) ℓ) : Prop :=
  True

def Pre_DHpRefIdeal_finite_dhp [hPre_finite_dhp : Cert.Pre_finite_dhp.Facts] (m : (ℓ : Loc Cert.DHpRefIdeal.nD Cert.DHpRefIdeal.τ Cert.DHpRefIdeal.sig) → Buf (Elt Ideal) ℓ) : Prop :=
  ∀ c : Dev Cert.DHpRefIdeal.nD,
    (Cert.Pre_finite_dhp.fn (F := Ideal) (m ((c.tc : Thread Cert.DHpRefIdeal.nD Cert.DHpRefIdeal.τ).loc Cert.DHpRefIdeal.main_arg0)) (m ((c.tc : Thread Cert.DHpRefIdeal.nD Cert.DHpRefIdeal.τ).loc Cert.DHpRefIdeal.main_arg1)) (m ((c.tc : Thread Cert.DHpRefIdeal.nD Cert.DHpRefIdeal.τ).loc Cert.DHpRefIdeal.main_arg2)) (m ((c.tc : Thread Cert.DHpRefIdeal.nD Cert.DHpRefIdeal.τ).loc Cert.DHpRefIdeal.main_arg3)) (m ((c.tc : Thread Cert.DHpRefIdeal.nD Cert.DHpRefIdeal.τ).loc Cert.DHpRefIdeal.main_arg4))).1 = (fun _ => 1#1)
    ∧ (Cert.Pre_finite_dhp.fn (F := Ideal) (m ((c.tc : Thread Cert.DHpRefIdeal.nD Cert.DHpRefIdeal.τ).loc Cert.DHpRefIdeal.main_arg0)) (m ((c.tc : Thread Cert.DHpRefIdeal.nD Cert.DHpRefIdeal.τ).loc Cert.DHpRefIdeal.main_arg1)) (m ((c.tc : Thread Cert.DHpRefIdeal.nD Cert.DHpRefIdeal.τ).loc Cert.DHpRefIdeal.main_arg2)) (m ((c.tc : Thread Cert.DHpRefIdeal.nD Cert.DHpRefIdeal.τ).loc Cert.DHpRefIdeal.main_arg3)) (m ((c.tc : Thread Cert.DHpRefIdeal.nD Cert.DHpRefIdeal.τ).loc Cert.DHpRefIdeal.main_arg4))).2.1 = (fun _ => 1#1)
    ∧ (Cert.Pre_finite_dhp.fn (F := Ideal) (m ((c.tc : Thread Cert.DHpRefIdeal.nD Cert.DHpRefIdeal.τ).loc Cert.DHpRefIdeal.main_arg0)) (m ((c.tc : Thread Cert.DHpRefIdeal.nD Cert.DHpRefIdeal.τ).loc Cert.DHpRefIdeal.main_arg1)) (m ((c.tc : Thread Cert.DHpRefIdeal.nD Cert.DHpRefIdeal.τ).loc Cert.DHpRefIdeal.main_arg2)) (m ((c.tc : Thread Cert.DHpRefIdeal.nD Cert.DHpRefIdeal.τ).loc Cert.DHpRefIdeal.main_arg3)) (m ((c.tc : Thread Cert.DHpRefIdeal.nD Cert.DHpRefIdeal.τ).loc Cert.DHpRefIdeal.main_arg4))).2.2.1 = (fun _ => 1#1)
    ∧ (Cert.Pre_finite_dhp.fn (F := Ideal) (m ((c.tc : Thread Cert.DHpRefIdeal.nD Cert.DHpRefIdeal.τ).loc Cert.DHpRefIdeal.main_arg0)) (m ((c.tc : Thread Cert.DHpRefIdeal.nD Cert.DHpRefIdeal.τ).loc Cert.DHpRefIdeal.main_arg1)) (m ((c.tc : Thread Cert.DHpRefIdeal.nD Cert.DHpRefIdeal.τ).loc Cert.DHpRefIdeal.main_arg2)) (m ((c.tc : Thread Cert.DHpRefIdeal.nD Cert.DHpRefIdeal.τ).loc Cert.DHpRefIdeal.main_arg3)) (m ((c.tc : Thread Cert.DHpRefIdeal.nD Cert.DHpRefIdeal.τ).loc Cert.DHpRefIdeal.main_arg4))).2.2.2 = (fun _ => 1#1)

def Pre_DHm (m : (ℓ : Loc Cert.DHm.nD Cert.DHm.τ Cert.DHm.sig) → Buf (Elt Bits) ℓ) : Prop :=
  True

def Pre_DHmIdeal (m : (ℓ : Loc Cert.DHmIdeal.nD Cert.DHmIdeal.τ Cert.DHmIdeal.sig) → Buf (Elt Ideal) ℓ) : Prop :=
  True

def Pre_DHmIdeal_finite_dhm [hPre_finite_dhm : Cert.Pre_finite_dhm.Facts] (m : (ℓ : Loc Cert.DHmIdeal.nD Cert.DHmIdeal.τ Cert.DHmIdeal.sig) → Buf (Elt Ideal) ℓ) : Prop :=
  ∀ c : Dev Cert.DHmIdeal.nD,
    (Cert.Pre_finite_dhm.fn (F := Ideal) (m ((c.tc : Thread Cert.DHmIdeal.nD Cert.DHmIdeal.τ).loc Cert.DHmIdeal.main_arg0)) (m ((c.tc : Thread Cert.DHmIdeal.nD Cert.DHmIdeal.τ).loc Cert.DHmIdeal.main_arg1)) (m ((c.tc : Thread Cert.DHmIdeal.nD Cert.DHmIdeal.τ).loc Cert.DHmIdeal.main_arg2)) (m ((c.tc : Thread Cert.DHmIdeal.nD Cert.DHmIdeal.τ).loc Cert.DHmIdeal.main_arg3)) (m ((c.tc : Thread Cert.DHmIdeal.nD Cert.DHmIdeal.τ).loc Cert.DHmIdeal.main_arg4))).1 = (fun _ => 1#1)
    ∧ (Cert.Pre_finite_dhm.fn (F := Ideal) (m ((c.tc : Thread Cert.DHmIdeal.nD Cert.DHmIdeal.τ).loc Cert.DHmIdeal.main_arg0)) (m ((c.tc : Thread Cert.DHmIdeal.nD Cert.DHmIdeal.τ).loc Cert.DHmIdeal.main_arg1)) (m ((c.tc : Thread Cert.DHmIdeal.nD Cert.DHmIdeal.τ).loc Cert.DHmIdeal.main_arg2)) (m ((c.tc : Thread Cert.DHmIdeal.nD Cert.DHmIdeal.τ).loc Cert.DHmIdeal.main_arg3)) (m ((c.tc : Thread Cert.DHmIdeal.nD Cert.DHmIdeal.τ).loc Cert.DHmIdeal.main_arg4))).2.1 = (fun _ => 1#1)
    ∧ (Cert.Pre_finite_dhm.fn (F := Ideal) (m ((c.tc : Thread Cert.DHmIdeal.nD Cert.DHmIdeal.τ).loc Cert.DHmIdeal.main_arg0)) (m ((c.tc : Thread Cert.DHmIdeal.nD Cert.DHmIdeal.τ).loc Cert.DHmIdeal.main_arg1)) (m ((c.tc : Thread Cert.DHmIdeal.nD Cert.DHmIdeal.τ).loc Cert.DHmIdeal.main_arg2)) (m ((c.tc : Thread Cert.DHmIdeal.nD Cert.DHmIdeal.τ).loc Cert.DHmIdeal.main_arg3)) (m ((c.tc : Thread Cert.DHmIdeal.nD Cert.DHmIdeal.τ).loc Cert.DHmIdeal.main_arg4))).2.2.1 = (fun _ => 1#1)
    ∧ (Cert.Pre_finite_dhm.fn (F := Ideal) (m ((c.tc : Thread Cert.DHmIdeal.nD Cert.DHmIdeal.τ).loc Cert.DHmIdeal.main_arg0)) (m ((c.tc : Thread Cert.DHmIdeal.nD Cert.DHmIdeal.τ).loc Cert.DHmIdeal.main_arg1)) (m ((c.tc : Thread Cert.DHmIdeal.nD Cert.DHmIdeal.τ).loc Cert.DHmIdeal.main_arg2)) (m ((c.tc : Thread Cert.DHmIdeal.nD Cert.DHmIdeal.τ).loc Cert.DHmIdeal.main_arg3)) (m ((c.tc : Thread Cert.DHmIdeal.nD Cert.DHmIdeal.τ).loc Cert.DHmIdeal.main_arg4))).2.2.2 = (fun _ => 1#1)

def Pre_DHmRefIdeal (m : (ℓ : Loc Cert.DHmRefIdeal.nD Cert.DHmRefIdeal.τ Cert.DHmRefIdeal.sig) → Buf (Elt Ideal) ℓ) : Prop :=
  True

def Pre_DHmRefIdeal_finite_dhm [hPre_finite_dhm : Cert.Pre_finite_dhm.Facts] (m : (ℓ : Loc Cert.DHmRefIdeal.nD Cert.DHmRefIdeal.τ Cert.DHmRefIdeal.sig) → Buf (Elt Ideal) ℓ) : Prop :=
  ∀ c : Dev Cert.DHmRefIdeal.nD,
    (Cert.Pre_finite_dhm.fn (F := Ideal) (m ((c.tc : Thread Cert.DHmRefIdeal.nD Cert.DHmRefIdeal.τ).loc Cert.DHmRefIdeal.main_arg0)) (m ((c.tc : Thread Cert.DHmRefIdeal.nD Cert.DHmRefIdeal.τ).loc Cert.DHmRefIdeal.main_arg1)) (m ((c.tc : Thread Cert.DHmRefIdeal.nD Cert.DHmRefIdeal.τ).loc Cert.DHmRefIdeal.main_arg2)) (m ((c.tc : Thread Cert.DHmRefIdeal.nD Cert.DHmRefIdeal.τ).loc Cert.DHmRefIdeal.main_arg3)) (m ((c.tc : Thread Cert.DHmRefIdeal.nD Cert.DHmRefIdeal.τ).loc Cert.DHmRefIdeal.main_arg4))).1 = (fun _ => 1#1)
    ∧ (Cert.Pre_finite_dhm.fn (F := Ideal) (m ((c.tc : Thread Cert.DHmRefIdeal.nD Cert.DHmRefIdeal.τ).loc Cert.DHmRefIdeal.main_arg0)) (m ((c.tc : Thread Cert.DHmRefIdeal.nD Cert.DHmRefIdeal.τ).loc Cert.DHmRefIdeal.main_arg1)) (m ((c.tc : Thread Cert.DHmRefIdeal.nD Cert.DHmRefIdeal.τ).loc Cert.DHmRefIdeal.main_arg2)) (m ((c.tc : Thread Cert.DHmRefIdeal.nD Cert.DHmRefIdeal.τ).loc Cert.DHmRefIdeal.main_arg3)) (m ((c.tc : Thread Cert.DHmRefIdeal.nD Cert.DHmRefIdeal.τ).loc Cert.DHmRefIdeal.main_arg4))).2.1 = (fun _ => 1#1)
    ∧ (Cert.Pre_finite_dhm.fn (F := Ideal) (m ((c.tc : Thread Cert.DHmRefIdeal.nD Cert.DHmRefIdeal.τ).loc Cert.DHmRefIdeal.main_arg0)) (m ((c.tc : Thread Cert.DHmRefIdeal.nD Cert.DHmRefIdeal.τ).loc Cert.DHmRefIdeal.main_arg1)) (m ((c.tc : Thread Cert.DHmRefIdeal.nD Cert.DHmRefIdeal.τ).loc Cert.DHmRefIdeal.main_arg2)) (m ((c.tc : Thread Cert.DHmRefIdeal.nD Cert.DHmRefIdeal.τ).loc Cert.DHmRefIdeal.main_arg3)) (m ((c.tc : Thread Cert.DHmRefIdeal.nD Cert.DHmRefIdeal.τ).loc Cert.DHmRefIdeal.main_arg4))).2.2.1 = (fun _ => 1#1)
    ∧ (Cert.Pre_finite_dhm.fn (F := Ideal) (m ((c.tc : Thread Cert.DHmRefIdeal.nD Cert.DHmRefIdeal.τ).loc Cert.DHmRefIdeal.main_arg0)) (m ((c.tc : Thread Cert.DHmRefIdeal.nD Cert.DHmRefIdeal.τ).loc Cert.DHmRefIdeal.main_arg1)) (m ((c.tc : Thread Cert.DHmRefIdeal.nD Cert.DHmRefIdeal.τ).loc Cert.DHmRefIdeal.main_arg2)) (m ((c.tc : Thread Cert.DHmRefIdeal.nD Cert.DHmRefIdeal.τ).loc Cert.DHmRefIdeal.main_arg3)) (m ((c.tc : Thread Cert.DHmRefIdeal.nD Cert.DHmRefIdeal.τ).loc Cert.DHmRefIdeal.main_arg4))).2.2.2 = (fun _ => 1#1)

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHIdeal_finite_dh [hPre_finite_dh : Cert.Pre_finite_dh.Facts] (m : (ℓ : Loc Cert.DHIdeal.nD Cert.DHIdeal.τ Cert.DHIdeal.sig) → Buf (Elt Ideal) ℓ) : Prop :=
  ∀ c : Dev Cert.DHIdeal.nD,
    (Cert.Pre_finite_dh.fn (F := Ideal) (m ((c.tc : Thread Cert.DHIdeal.nD Cert.DHIdeal.τ).loc Cert.DHIdeal.main_arg0)) (m ((c.tc : Thread Cert.DHIdeal.nD Cert.DHIdeal.τ).loc Cert.DHIdeal.main_arg1)) (m ((c.tc : Thread Cert.DHIdeal.nD Cert.DHIdeal.τ).loc Cert.DHIdeal.main_arg2)) (m ((c.tc : Thread Cert.DHIdeal.nD Cert.DHIdeal.τ).loc Cert.DHIdeal.main_arg3)) (m ((c.tc : Thread Cert.DHIdeal.nD Cert.DHIdeal.τ).loc Cert.DHIdeal.main_arg4))).1 = (fun _ => 1#1)
    ∧ (Cert.Pre_finite_dh.fn (F := Ideal) (m ((c.tc : Thread Cert.DHIdeal.nD Cert.DHIdeal.τ).loc Cert.DHIdeal.main_arg0)) (m ((c.tc : Thread Cert.DHIdeal.nD Cert.DHIdeal.τ).loc Cert.DHIdeal.main_arg1)) (m ((c.tc : Thread Cert.DHIdeal.nD Cert.DHIdeal.τ).loc Cert.DHIdeal.main_arg2)) (m ((c.tc : Thread Cert.DHIdeal.nD Cert.DHIdeal.τ).loc Cert.DHIdeal.main_arg3)) (m ((c.tc : Thread Cert.DHIdeal.nD Cert.DHIdeal.τ).loc Cert.DHIdeal.main_arg4))).2.1 = (fun _ => 1#1)
    ∧ (Cert.Pre_finite_dh.fn (F := Ideal) (m ((c.tc : Thread Cert.DHIdeal.nD Cert.DHIdeal.τ).loc Cert.DHIdeal.main_arg0)) (m ((c.tc : Thread Cert.DHIdeal.nD Cert.DHIdeal.τ).loc Cert.DHIdeal.main_arg1)) (m ((c.tc : Thread Cert.DHIdeal.nD Cert.DHIdeal.τ).loc Cert.DHIdeal.main_arg2)) (m ((c.tc : Thread Cert.DHIdeal.nD Cert.DHIdeal.τ).loc Cert.DHIdeal.main_arg3)) (m ((c.tc : Thread Cert.DHIdeal.nD Cert.DHIdeal.τ).loc Cert.DHIdeal.main_arg4))).2.2.1 = (fun _ => 1#1)
    ∧ (Cert.Pre_finite_dh.fn (F := Ideal) (m ((c.tc : Thread Cert.DHIdeal.nD Cert.DHIdeal.τ).loc Cert.DHIdeal.main_arg0)) (m ((c.tc : Thread Cert.DHIdeal.nD Cert.DHIdeal.τ).loc Cert.DHIdeal.main_arg1)) (m ((c.tc : Thread Cert.DHIdeal.nD Cert.DHIdeal.τ).loc Cert.DHIdeal.main_arg2)) (m ((c.tc : Thread Cert.DHIdeal.nD Cert.DHIdeal.τ).loc Cert.DHIdeal.main_arg3)) (m ((c.tc : Thread Cert.DHIdeal.nD Cert.DHIdeal.τ).loc Cert.DHIdeal.main_arg4))).2.2.2 = (fun _ => 1#1)

def Pre_DHRefIdeal (m : (ℓ : Loc Cert.DHRefIdeal.nD Cert.DHRefIdeal.τ Cert.DHRefIdeal.sig) → Buf (Elt Ideal) ℓ) : Prop :=
  True

def Pre_DHRefIdeal_finite_dh [hPre_finite_dh : Cert.Pre_finite_dh.Facts] (m : (ℓ : Loc Cert.DHRefIdeal.nD Cert.DHRefIdeal.τ Cert.DHRefIdeal.sig) → Buf (Elt Ideal) ℓ) : Prop :=
  ∀ c : Dev Cert.DHRefIdeal.nD,
    (Cert.Pre_finite_dh.fn (F := Ideal) (m ((c.tc : Thread Cert.DHRefIdeal.nD Cert.DHRefIdeal.τ).loc Cert.DHRefIdeal.main_arg0)) (m ((c.tc : Thread Cert.DHRefIdeal.nD Cert.DHRefIdeal.τ).loc Cert.DHRefIdeal.main_arg1)) (m ((c.tc : Thread Cert.DHRefIdeal.nD Cert.DHRefIdeal.τ).loc Cert.DHRefIdeal.main_arg2)) (m ((c.tc : Thread Cert.DHRefIdeal.nD Cert.DHRefIdeal.τ).loc Cert.DHRefIdeal.main_arg3)) (m ((c.tc : Thread Cert.DHRefIdeal.nD Cert.DHRefIdeal.τ).loc Cert.DHRefIdeal.main_arg4))).1 = (fun _ => 1#1)
    ∧ (Cert.Pre_finite_dh.fn (F := Ideal) (m ((c.tc : Thread Cert.DHRefIdeal.nD Cert.DHRefIdeal.τ).loc Cert.DHRefIdeal.main_arg0)) (m ((c.tc : Thread Cert.DHRefIdeal.nD Cert.DHRefIdeal.τ).loc Cert.DHRefIdeal.main_arg1)) (m ((c.tc : Thread Cert.DHRefIdeal.nD Cert.DHRefIdeal.τ).loc Cert.DHRefIdeal.main_arg2)) (m ((c.tc : Thread Cert.DHRefIdeal.nD Cert.DHRefIdeal.τ).loc Cert.DHRefIdeal.main_arg3)) (m ((c.tc : Thread Cert.DHRefIdeal.nD Cert.DHRefIdeal.τ).loc Cert.DHRefIdeal.main_arg4))).2.1 = (fun _ => 1#1)
    ∧ (Cert.Pre_finite_dh.fn (F := Ideal) (m ((c.tc : Thread Cert.DHRefIdeal.nD Cert.DHRefIdeal.τ).loc Cert.DHRefIdeal.main_arg0)) (m ((c.tc : Thread Cert.DHRefIdeal.nD Cert.DHRefIdeal.τ).loc Cert.DHRefIdeal.main_arg1)) (m ((c.tc : Thread Cert.DHRefIdeal.nD Cert.DHRefIdeal.τ).loc Cert.DHRefIdeal.main_arg2)) (m ((c.tc : Thread Cert.DHRefIdeal.nD Cert.DHRefIdeal.τ).loc Cert.DHRefIdeal.main_arg3)) (m ((c.tc : Thread Cert.DHRefIdeal.nD Cert.DHRefIdeal.τ).loc Cert.DHRefIdeal.main_arg4))).2.2.1 = (fun _ => 1#1)
    ∧ (Cert.Pre_finite_dh.fn (F := Ideal) (m ((c.tc : Thread Cert.DHRefIdeal.nD Cert.DHRefIdeal.τ).loc Cert.DHRefIdeal.main_arg0)) (m ((c.tc : Thread Cert.DHRefIdeal.nD Cert.DHRefIdeal.τ).loc Cert.DHRefIdeal.main_arg1)) (m ((c.tc : Thread Cert.DHRefIdeal.nD Cert.DHRefIdeal.τ).loc Cert.DHRefIdeal.main_arg2)) (m ((c.tc : Thread Cert.DHRefIdeal.nD Cert.DHRefIdeal.τ).loc Cert.DHRefIdeal.main_arg3)) (m ((c.tc : Thread Cert.DHRefIdeal.nD Cert.DHRefIdeal.τ).loc Cert.DHRefIdeal.main_arg4))).2.2.2 = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_finite_head_call [hPre_finite_head_call : Cert.Pre_finite_head_call.Facts] (m : (ℓ : Loc Cert.HeadIdeal.nD Cert.HeadIdeal.τ Cert.HeadIdeal.sig) → Buf (Elt Ideal) ℓ) : Prop :=
  ∀ c : Dev Cert.HeadIdeal.nD,
    (Cert.Pre_finite_head_call.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).1 = (fun _ => 1#1)
    ∧ (Cert.Pre_finite_head_call.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).2.1 = (fun _ => 1#1)
    ∧ (Cert.Pre_finite_head_call.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).2.2.1 = (fun _ => 1#1)
    ∧ (Cert.Pre_finite_head_call.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).2.2.2.1 = (fun _ => 1#1)
    ∧ (Cert.Pre_finite_head_call.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).2.2.2.2.1 = (fun _ => 1#1)
    ∧ (Cert.Pre_finite_head_call.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).2.2.2.2.2 = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_finite_head_call [hPre_finite_head_call : Cert.Pre_finite_head_call.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_finite_head_call.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).1 = (fun _ => 1#1)
    ∧ (Cert.Pre_finite_head_call.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).2.1 = (fun _ => 1#1)
    ∧ (Cert.Pre_finite_head_call.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).2.2.1 = (fun _ => 1#1)
    ∧ (Cert.Pre_finite_head_call.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).2.2.2.1 = (fun _ => 1#1)
    ∧ (Cert.Pre_finite_head_call.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).2.2.2.2.1 = (fun _ => 1#1)
    ∧ (Cert.Pre_finite_head_call.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).2.2.2.2.2 = (fun _ => 1#1)

def Pre_Mpb (m : (ℓ : Loc Cert.Mpb.nD Cert.Mpb.τ Cert.Mpb.sig) → Buf (Elt Bits) ℓ) : Prop :=
  True

def Pre_MpbIdeal (m : (ℓ : Loc Cert.MpbIdeal.nD Cert.MpbIdeal.τ Cert.MpbIdeal.sig) → Buf (Elt Ideal) ℓ) : Prop :=
  True

def Pre_MpbIdeal_finite_mpb [hPre_finite_mpb : Cert.Pre_finite_mpb.Facts] (m : (ℓ : Loc Cert.MpbIdeal.nD Cert.MpbIdeal.τ Cert.MpbIdeal.sig) → Buf (Elt Ideal) ℓ) : Prop :=
  ∀ c : Dev Cert.MpbIdeal.nD,
    (Cert.Pre_finite_mpb.fn (F := Ideal) (m ((c.tc : Thread Cert.MpbIdeal.nD Cert.MpbIdeal.τ).loc Cert.MpbIdeal.main_arg0)) (m ((c.tc : Thread Cert.MpbIdeal.nD Cert.MpbIdeal.τ).loc Cert.MpbIdeal.main_arg1)) (m ((c.tc : Thread Cert.MpbIdeal.nD Cert.MpbIdeal.τ).loc Cert.MpbIdeal.main_arg2)) (m ((c.tc : Thread Cert.MpbIdeal.nD Cert.MpbIdeal.τ).loc Cert.MpbIdeal.main_arg3)) (m ((c.tc : Thread Cert.MpbIdeal.nD Cert.MpbIdeal.τ).loc Cert.MpbIdeal.main_arg4)) (m ((c.tc : Thread Cert.MpbIdeal.nD Cert.MpbIdeal.τ).loc Cert.MpbIdeal.main_arg5)) (m ((c.tc : Thread Cert.MpbIdeal.nD Cert.MpbIdeal.τ).loc Cert.MpbIdeal.main_arg6))).1 = (fun _ => 1#1)
    ∧ (Cert.Pre_finite_mpb.fn (F := Ideal) (m ((c.tc : Thread Cert.MpbIdeal.nD Cert.MpbIdeal.τ).loc Cert.MpbIdeal.main_arg0)) (m ((c.tc : Thread Cert.MpbIdeal.nD Cert.MpbIdeal.τ).loc Cert.MpbIdeal.main_arg1)) (m ((c.tc : Thread Cert.MpbIdeal.nD Cert.MpbIdeal.τ).loc Cert.MpbIdeal.main_arg2)) (m ((c.tc : Thread Cert.MpbIdeal.nD Cert.MpbIdeal.τ).loc Cert.MpbIdeal.main_arg3)) (m ((c.tc : Thread Cert.MpbIdeal.nD Cert.MpbIdeal.τ).loc Cert.MpbIdeal.main_arg4)) (m ((c.tc : Thread Cert.MpbIdeal.nD Cert.MpbIdeal.τ).loc Cert.MpbIdeal.main_arg5)) (m ((c.tc : Thread Cert.MpbIdeal.nD Cert.MpbIdeal.τ).loc Cert.MpbIdeal.main_arg6))).2.1 = (fun _ => 1#1)
    ∧ (Cert.Pre_finite_mpb.fn (F := Ideal) (m ((c.tc : Thread Cert.MpbIdeal.nD Cert.MpbIdeal.τ).loc Cert.MpbIdeal.main_arg0)) (m ((c.tc : Thread Cert.MpbIdeal.nD Cert.MpbIdeal.τ).loc Cert.MpbIdeal.main_arg1)) (m ((c.tc : Thread Cert.MpbIdeal.nD Cert.MpbIdeal.τ).loc Cert.MpbIdeal.main_arg2)) (m ((c.tc : Thread Cert.MpbIdeal.nD Cert.MpbIdeal.τ).loc Cert.MpbIdeal.main_arg3)) (m ((c.tc : Thread Cert.MpbIdeal.nD Cert.MpbIdeal.τ).loc Cert.MpbIdeal.main_arg4)) (m ((c.tc : Thread Cert.MpbIdeal.nD Cert.MpbIdeal.τ).loc Cert.MpbIdeal.main_arg5)) (m ((c.tc : Thread Cert.MpbIdeal.nD Cert.MpbIdeal.τ).loc Cert.MpbIdeal.main_arg6))).2.2.1 = (fun _ => 1#1)
    ∧ (Cert.Pre_finite_mpb.fn (F := Ideal) (m ((c.tc : Thread Cert.MpbIdeal.nD Cert.MpbIdeal.τ).loc Cert.MpbIdeal.main_arg0)) (m ((c.tc : Thread Cert.MpbIdeal.nD Cert.MpbIdeal.τ).loc Cert.MpbIdeal.main_arg1)) (m ((c.tc : Thread Cert.MpbIdeal.nD Cert.MpbIdeal.τ).loc Cert.MpbIdeal.main_arg2)) (m ((c.tc : Thread Cert.MpbIdeal.nD Cert.MpbIdeal.τ).loc Cert.MpbIdeal.main_arg3)) (m ((c.tc : Thread Cert.MpbIdeal.nD Cert.MpbIdeal.τ).loc Cert.MpbIdeal.main_arg4)) (m ((c.tc : Thread Cert.MpbIdeal.nD Cert.MpbIdeal.τ).loc Cert.MpbIdeal.main_arg5)) (m ((c.tc : Thread Cert.MpbIdeal.nD Cert.MpbIdeal.τ).loc Cert.MpbIdeal.main_arg6))).2.2.2.1 = (fun _ => 1#1)
    ∧ (Cert.Pre_finite_mpb.fn (F := Ideal) (m ((c.tc : Thread Cert.MpbIdeal.nD Cert.MpbIdeal.τ).loc Cert.MpbIdeal.main_arg0)) (m ((c.tc : Thread Cert.MpbIdeal.nD Cert.MpbIdeal.τ).loc Cert.MpbIdeal.main_arg1)) (m ((c.tc : Thread Cert.MpbIdeal.nD Cert.MpbIdeal.τ).loc Cert.MpbIdeal.main_arg2)) (m ((c.tc : Thread Cert.MpbIdeal.nD Cert.MpbIdeal.τ).loc Cert.MpbIdeal.main_arg3)) (m ((c.tc : Thread Cert.MpbIdeal.nD Cert.MpbIdeal.τ).loc Cert.MpbIdeal.main_arg4)) (m ((c.tc : Thread Cert.MpbIdeal.nD Cert.MpbIdeal.τ).loc Cert.MpbIdeal.main_arg5)) (m ((c.tc : Thread Cert.MpbIdeal.nD Cert.MpbIdeal.τ).loc Cert.MpbIdeal.main_arg6))).2.2.2.2 = (fun _ => 1#1)

def Pre_MpbRefIdeal (m : (ℓ : Loc Cert.MpbRefIdeal.nD Cert.MpbRefIdeal.τ Cert.MpbRefIdeal.sig) → Buf (Elt Ideal) ℓ) : Prop :=
  True

def Pre_MpbRefIdeal_finite_mpb [hPre_finite_mpb : Cert.Pre_finite_mpb.Facts] (m : (ℓ : Loc Cert.MpbRefIdeal.nD Cert.MpbRefIdeal.τ Cert.MpbRefIdeal.sig) → Buf (Elt Ideal) ℓ) : Prop :=
  ∀ c : Dev Cert.MpbRefIdeal.nD,
    (Cert.Pre_finite_mpb.fn (F := Ideal) (m ((c.tc : Thread Cert.MpbRefIdeal.nD Cert.MpbRefIdeal.τ).loc Cert.MpbRefIdeal.main_arg0)) (m ((c.tc : Thread Cert.MpbRefIdeal.nD Cert.MpbRefIdeal.τ).loc Cert.MpbRefIdeal.main_arg1)) (m ((c.tc : Thread Cert.MpbRefIdeal.nD Cert.MpbRefIdeal.τ).loc Cert.MpbRefIdeal.main_arg2)) (m ((c.tc : Thread Cert.MpbRefIdeal.nD Cert.MpbRefIdeal.τ).loc Cert.MpbRefIdeal.main_arg3)) (m ((c.tc : Thread Cert.MpbRefIdeal.nD Cert.MpbRefIdeal.τ).loc Cert.MpbRefIdeal.main_arg4)) (m ((c.tc : Thread Cert.MpbRefIdeal.nD Cert.MpbRefIdeal.τ).loc Cert.MpbRefIdeal.main_arg5)) (m ((c.tc : Thread Cert.MpbRefIdeal.nD Cert.MpbRefIdeal.τ).loc Cert.MpbRefIdeal.main_arg6))).1 = (fun _ => 1#1)
    ∧ (Cert.Pre_finite_mpb.fn (F := Ideal) (m ((c.tc : Thread Cert.MpbRefIdeal.nD Cert.MpbRefIdeal.τ).loc Cert.MpbRefIdeal.main_arg0)) (m ((c.tc : Thread Cert.MpbRefIdeal.nD Cert.MpbRefIdeal.τ).loc Cert.MpbRefIdeal.main_arg1)) (m ((c.tc : Thread Cert.MpbRefIdeal.nD Cert.MpbRefIdeal.τ).loc Cert.MpbRefIdeal.main_arg2)) (m ((c.tc : Thread Cert.MpbRefIdeal.nD Cert.MpbRefIdeal.τ).loc Cert.MpbRefIdeal.main_arg3)) (m ((c.tc : Thread Cert.MpbRefIdeal.nD Cert.MpbRefIdeal.τ).loc Cert.MpbRefIdeal.main_arg4)) (m ((c.tc : Thread Cert.MpbRefIdeal.nD Cert.MpbRefIdeal.τ).loc Cert.MpbRefIdeal.main_arg5)) (m ((c.tc : Thread Cert.MpbRefIdeal.nD Cert.MpbRefIdeal.τ).loc Cert.MpbRefIdeal.main_arg6))).2.1 = (fun _ => 1#1)
    ∧ (Cert.Pre_finite_mpb.fn (F := Ideal) (m ((c.tc : Thread Cert.MpbRefIdeal.nD Cert.MpbRefIdeal.τ).loc Cert.MpbRefIdeal.main_arg0)) (m ((c.tc : Thread Cert.MpbRefIdeal.nD Cert.MpbRefIdeal.τ).loc Cert.MpbRefIdeal.main_arg1)) (m ((c.tc : Thread Cert.MpbRefIdeal.nD Cert.MpbRefIdeal.τ).loc Cert.MpbRefIdeal.main_arg2)) (m ((c.tc : Thread Cert.MpbRefIdeal.nD Cert.MpbRefIdeal.τ).loc Cert.MpbRefIdeal.main_arg3)) (m ((c.tc : Thread Cert.MpbRefIdeal.nD Cert.MpbRefIdeal.τ).loc Cert.MpbRefIdeal.main_arg4)) (m ((c.tc : Thread Cert.MpbRefIdeal.nD Cert.MpbRefIdeal.τ).loc Cert.MpbRefIdeal.main_arg5)) (m ((c.tc : Thread Cert.MpbRefIdeal.nD Cert.MpbRefIdeal.τ).loc Cert.MpbRefIdeal.main_arg6))).2.2.1 = (fun _ => 1#1)
    ∧ (Cert.Pre_finite_mpb.fn (F := Ideal) (m ((c.tc : Thread Cert.MpbRefIdeal.nD Cert.MpbRefIdeal.τ).loc Cert.MpbRefIdeal.main_arg0)) (m ((c.tc : Thread Cert.MpbRefIdeal.nD Cert.MpbRefIdeal.τ).loc Cert.MpbRefIdeal.main_arg1)) (m ((c.tc : Thread Cert.MpbRefIdeal.nD Cert.MpbRefIdeal.τ).loc Cert.MpbRefIdeal.main_arg2)) (m ((c.tc : Thread Cert.MpbRefIdeal.nD Cert.MpbRefIdeal.τ).loc Cert.MpbRefIdeal.main_arg3)) (m ((c.tc : Thread Cert.MpbRefIdeal.nD Cert.MpbRefIdeal.τ).loc Cert.MpbRefIdeal.main_arg4)) (m ((c.tc : Thread Cert.MpbRefIdeal.nD Cert.MpbRefIdeal.τ).loc Cert.MpbRefIdeal.main_arg5)) (m ((c.tc : Thread Cert.MpbRefIdeal.nD Cert.MpbRefIdeal.τ).loc Cert.MpbRefIdeal.main_arg6))).2.2.2.1 = (fun _ => 1#1)
    ∧ (Cert.Pre_finite_mpb.fn (F := Ideal) (m ((c.tc : Thread Cert.MpbRefIdeal.nD Cert.MpbRefIdeal.τ).loc Cert.MpbRefIdeal.main_arg0)) (m ((c.tc : Thread Cert.MpbRefIdeal.nD Cert.MpbRefIdeal.τ).loc Cert.MpbRefIdeal.main_arg1)) (m ((c.tc : Thread Cert.MpbRefIdeal.nD Cert.MpbRefIdeal.τ).loc Cert.MpbRefIdeal.main_arg2)) (m ((c.tc : Thread Cert.MpbRefIdeal.nD Cert.MpbRefIdeal.τ).loc Cert.MpbRefIdeal.main_arg3)) (m ((c.tc : Thread Cert.MpbRefIdeal.nD Cert.MpbRefIdeal.τ).loc Cert.MpbRefIdeal.main_arg4)) (m ((c.tc : Thread Cert.MpbRefIdeal.nD Cert.MpbRefIdeal.τ).loc Cert.MpbRefIdeal.main_arg5)) (m ((c.tc : Thread Cert.MpbRefIdeal.nD Cert.MpbRefIdeal.τ).loc Cert.MpbRefIdeal.main_arg6))).2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_DProj (m : (ℓ : Loc Cert.DProj.nD Cert.DProj.τ Cert.DProj.sig) → Buf (Elt Bits) ℓ) : Prop :=
  True

def Pre_DProjIdeal (m : (ℓ : Loc Cert.DProjIdeal.nD Cert.DProjIdeal.τ Cert.DProjIdeal.sig) → Buf (Elt Ideal) ℓ) : Prop :=
  True

def Pre_DProjIdeal_finite_dproj [hPre_finite_dproj : Cert.Pre_finite_dproj.Facts] (m : (ℓ : Loc Cert.DProjIdeal.nD Cert.DProjIdeal.τ Cert.DProjIdeal.sig) → Buf (Elt Ideal) ℓ) : Prop :=
  ∀ c : Dev Cert.DProjIdeal.nD,
    (Cert.Pre_finite_dproj.fn (F := Ideal) (m ((c.tc : Thread Cert.DProjIdeal.nD Cert.DProjIdeal.τ).loc Cert.DProjIdeal.main_arg0)) (m ((c.tc : Thread Cert.DProjIdeal.nD Cert.DProjIdeal.τ).loc Cert.DProjIdeal.main_arg1)) (m ((c.tc : Thread Cert.DProjIdeal.nD Cert.DProjIdeal.τ).loc Cert.DProjIdeal.main_arg2)) (m ((c.tc : Thread Cert.DProjIdeal.nD Cert.DProjIdeal.τ).loc Cert.DProjIdeal.main_arg3)) (m ((c.tc : Thread Cert.DProjIdeal.nD Cert.DProjIdeal.τ).loc Cert.DProjIdeal.main_arg4)) (m ((c.tc : Thread Cert.DProjIdeal.nD Cert.DProjIdeal.τ).loc Cert.DProjIdeal.main_arg5)) (m ((c.tc : Thread Cert.DProjIdeal.nD Cert.DProjIdeal.τ).loc Cert.DProjIdeal.main_arg6)) (m ((c.tc : Thread Cert.DProjIdeal.nD Cert.DProjIdeal.τ).loc Cert.DProjIdeal.main_arg7)) (m ((c.tc : Thread Cert.DProjIdeal.nD Cert.DProjIdeal.τ).loc Cert.DProjIdeal.main_arg8)) (m ((c.tc : Thread Cert.DProjIdeal.nD Cert.DProjIdeal.τ).loc Cert.DProjIdeal.main_arg9)) (m ((c.tc : Thread Cert.DProjIdeal.nD Cert.DProjIdeal.τ).loc Cert.DProjIdeal.main_arg10)) (m ((c.tc : Thread Cert.DProjIdeal.nD Cert.DProjIdeal.τ).loc Cert.DProjIdeal.main_arg11)) (m ((c.tc : Thread Cert.DProjIdeal.nD Cert.DProjIdeal.τ).loc Cert.DProjIdeal.main_arg12)) (m ((c.tc : Thread Cert.DProjIdeal.nD Cert.DProjIdeal.τ).loc Cert.DProjIdeal.main_arg13)) (m ((c.tc : Thread Cert.DProjIdeal.nD Cert.DProjIdeal.τ).loc Cert.DProjIdeal.main_arg14))).1 = (fun _ => 1#1)
    ∧ (Cert.Pre_finite_dproj.fn (F := Ideal) (m ((c.tc : Thread Cert.DProjIdeal.nD Cert.DProjIdeal.τ).loc Cert.DProjIdeal.main_arg0)) (m ((c.tc : Thread Cert.DProjIdeal.nD Cert.DProjIdeal.τ).loc Cert.DProjIdeal.main_arg1)) (m ((c.tc : Thread Cert.DProjIdeal.nD Cert.DProjIdeal.τ).loc Cert.DProjIdeal.main_arg2)) (m ((c.tc : Thread Cert.DProjIdeal.nD Cert.DProjIdeal.τ).loc Cert.DProjIdeal.main_arg3)) (m ((c.tc : Thread Cert.DProjIdeal.nD Cert.DProjIdeal.τ).loc Cert.DProjIdeal.main_arg4)) (m ((c.tc : Thread Cert.DProjIdeal.nD Cert.DProjIdeal.τ).loc Cert.DProjIdeal.main_arg5)) (m ((c.tc : Thread Cert.DProjIdeal.nD Cert.DProjIdeal.τ).loc Cert.DProjIdeal.main_arg6)) (m ((c.tc : Thread Cert.DProjIdeal.nD Cert.DProjIdeal.τ).loc Cert.DProjIdeal.main_arg7)) (m ((c.tc : Thread Cert.DProjIdeal.nD Cert.DProjIdeal.τ).loc Cert.DProjIdeal.main_arg8)) (m ((c.tc : Thread Cert.DProjIdeal.nD Cert.DProjIdeal.τ).loc Cert.DProjIdeal.main_arg9)) (m ((c.tc : Thread Cert.DProjIdeal.nD Cert.DProjIdeal.τ).loc Cert.DProjIdeal.main_arg10)) (m ((c.tc : Thread Cert.DProjIdeal.nD Cert.DProjIdeal.τ).loc Cert.DProjIdeal.main_arg11)) (m ((c.tc : Thread Cert.DProjIdeal.nD Cert.DProjIdeal.τ).loc Cert.DProjIdeal.main_arg12)) (m ((c.tc : Thread Cert.DProjIdeal.nD Cert.DProjIdeal.τ).loc Cert.DProjIdeal.main_arg13)) (m ((c.tc : Thread Cert.DProjIdeal.nD Cert.DProjIdeal.τ).loc Cert.DProjIdeal.main_arg14))).2.1 = (fun _ => 1#1)
    ∧ (Cert.Pre_finite_dproj.fn (F := Ideal) (m ((c.tc : Thread Cert.DProjIdeal.nD Cert.DProjIdeal.τ).loc Cert.DProjIdeal.main_arg0)) (m ((c.tc : Thread Cert.DProjIdeal.nD Cert.DProjIdeal.τ).loc Cert.DProjIdeal.main_arg1)) (m ((c.tc : Thread Cert.DProjIdeal.nD Cert.DProjIdeal.τ).loc Cert.DProjIdeal.main_arg2)) (m ((c.tc : Thread Cert.DProjIdeal.nD Cert.DProjIdeal.τ).loc Cert.DProjIdeal.main_arg3)) (m ((c.tc : Thread Cert.DProjIdeal.nD Cert.DProjIdeal.τ).loc Cert.DProjIdeal.main_arg4)) (m ((c.tc : Thread Cert.DProjIdeal.nD Cert.DProjIdeal.τ).loc Cert.DProjIdeal.main_arg5)) (m ((c.tc : Thread Cert.DProjIdeal.nD Cert.DProjIdeal.τ).loc Cert.DProjIdeal.main_arg6)) (m ((c.tc : Thread Cert.DProjIdeal.nD Cert.DProjIdeal.τ).loc Cert.DProjIdeal.main_arg7)) (m ((c.tc : Thread Cert.DProjIdeal.nD Cert.DProjIdeal.τ).loc Cert.DProjIdeal.main_arg8)) (m ((c.tc : Thread Cert.DProjIdeal.nD Cert.DProjIdeal.τ).loc Cert.DProjIdeal.main_arg9)) (m ((c.tc : Thread Cert.DProjIdeal.nD Cert.DProjIdeal.τ).loc Cert.DProjIdeal.main_arg10)) (m ((c.tc : Thread Cert.DProjIdeal.nD Cert.DProjIdeal.τ).loc Cert.DProjIdeal.main_arg11)) (m ((c.tc : Thread Cert.DProjIdeal.nD Cert.DProjIdeal.τ).loc Cert.DProjIdeal.main_arg12)) (m ((c.tc : Thread Cert.DProjIdeal.nD Cert.DProjIdeal.τ).loc Cert.DProjIdeal.main_arg13)) (m ((c.tc : Thread Cert.DProjIdeal.nD Cert.DProjIdeal.τ).loc Cert.DProjIdeal.main_arg14))).2.2.1 = (fun _ => 1#1)
    ∧ (Cert.Pre_finite_dproj.fn (F := Ideal) (m ((c.tc : Thread Cert.DProjIdeal.nD Cert.DProjIdeal.τ).loc Cert.DProjIdeal.main_arg0)) (m ((c.tc : Thread Cert.DProjIdeal.nD Cert.DProjIdeal.τ).loc Cert.DProjIdeal.main_arg1)) (m ((c.tc : Thread Cert.DProjIdeal.nD Cert.DProjIdeal.τ).loc Cert.DProjIdeal.main_arg2)) (m ((c.tc : Thread Cert.DProjIdeal.nD Cert.DProjIdeal.τ).loc Cert.DProjIdeal.main_arg3)) (m ((c.tc : Thread Cert.DProjIdeal.nD Cert.DProjIdeal.τ).loc Cert.DProjIdeal.main_arg4)) (m ((c.tc : Thread Cert.DProjIdeal.nD Cert.DProjIdeal.τ).loc Cert.DProjIdeal.main_arg5)) (m ((c.tc : Thread Cert.DProjIdeal.nD Cert.DProjIdeal.τ).loc Cert.DProjIdeal.main_arg6)) (m ((c.tc : Thread Cert.DProjIdeal.nD Cert.DProjIdeal.τ).loc Cert.DProjIdeal.main_arg7)) (m ((c.tc : Thread Cert.DProjIdeal.nD Cert.DProjIdeal.τ).loc Cert.DProjIdeal.main_arg8)) (m ((c.tc : Thread Cert.DProjIdeal.nD Cert.DProjIdeal.τ).loc Cert.DProjIdeal.main_arg9)) (m ((c.tc : Thread Cert.DProjIdeal.nD Cert.DProjIdeal.τ).loc Cert.DProjIdeal.main_arg10)) (m ((c.tc : Thread Cert.DProjIdeal.nD Cert.DProjIdeal.τ).loc Cert.DProjIdeal.main_arg11)) (m ((c.tc : Thread Cert.DProjIdeal.nD Cert.DProjIdeal.τ).loc Cert.DProjIdeal.main_arg12)) (m ((c.tc : Thread Cert.DProjIdeal.nD Cert.DProjIdeal.τ).loc Cert.DProjIdeal.main_arg13)) (m ((c.tc : Thread Cert.DProjIdeal.nD Cert.DProjIdeal.τ).loc Cert.DProjIdeal.main_arg14))).2.2.2.1 = (fun _ => 1#1)
    ∧ (Cert.Pre_finite_dproj.fn (F := Ideal) (m ((c.tc : Thread Cert.DProjIdeal.nD Cert.DProjIdeal.τ).loc Cert.DProjIdeal.main_arg0)) (m ((c.tc : Thread Cert.DProjIdeal.nD Cert.DProjIdeal.τ).loc Cert.DProjIdeal.main_arg1)) (m ((c.tc : Thread Cert.DProjIdeal.nD Cert.DProjIdeal.τ).loc Cert.DProjIdeal.main_arg2)) (m ((c.tc : Thread Cert.DProjIdeal.nD Cert.DProjIdeal.τ).loc Cert.DProjIdeal.main_arg3)) (m ((c.tc : Thread Cert.DProjIdeal.nD Cert.DProjIdeal.τ).loc Cert.DProjIdeal.main_arg4)) (m ((c.tc : Thread Cert.DProjIdeal.nD Cert.DProjIdeal.τ).loc Cert.DProjIdeal.main_arg5)) (m ((c.tc : Thread Cert.DProjIdeal.nD Cert.DProjIdeal.τ).loc Cert.DProjIdeal.main_arg6)) (m ((c.tc : Thread Cert.DProjIdeal.nD Cert.DProjIdeal.τ).loc Cert.DProjIdeal.main_arg7)) (m ((c.tc : Thread Cert.DProjIdeal.nD Cert.DProjIdeal.τ).loc Cert.DProjIdeal.main_arg8)) (m ((c.tc : Thread Cert.DProjIdeal.nD Cert.DProjIdeal.τ).loc Cert.DProjIdeal.main_arg9)) (m ((c.tc : Thread Cert.DProjIdeal.nD Cert.DProjIdeal.τ).loc Cert.DProjIdeal.main_arg10)) (m ((c.tc : Thread Cert.DProjIdeal.nD Cert.DProjIdeal.τ).loc Cert.DProjIdeal.main_arg11)) (m ((c.tc : Thread Cert.DProjIdeal.nD Cert.DProjIdeal.τ).loc Cert.DProjIdeal.main_arg12)) (m ((c.tc : Thread Cert.DProjIdeal.nD Cert.DProjIdeal.τ).loc Cert.DProjIdeal.main_arg13)) (m ((c.tc : Thread Cert.DProjIdeal.nD Cert.DProjIdeal.τ).loc Cert.DProjIdeal.main_arg14))).2.2.2.2 = (fun _ => 1#1)

def Pre_DProjRefIdeal (m : (ℓ : Loc Cert.DProjRefIdeal.nD Cert.DProjRefIdeal.τ Cert.DProjRefIdeal.sig) → Buf (Elt Ideal) ℓ) : Prop :=
  True

def Pre_DProjRefIdeal_finite_dproj [hPre_finite_dproj : Cert.Pre_finite_dproj.Facts] (m : (ℓ : Loc Cert.DProjRefIdeal.nD Cert.DProjRefIdeal.τ Cert.DProjRefIdeal.sig) → Buf (Elt Ideal) ℓ) : Prop :=
  ∀ c : Dev Cert.DProjRefIdeal.nD,
    (Cert.Pre_finite_dproj.fn (F := Ideal) (m ((c.tc : Thread Cert.DProjRefIdeal.nD Cert.DProjRefIdeal.τ).loc Cert.DProjRefIdeal.main_arg0)) (m ((c.tc : Thread Cert.DProjRefIdeal.nD Cert.DProjRefIdeal.τ).loc Cert.DProjRefIdeal.main_arg1)) (m ((c.tc : Thread Cert.DProjRefIdeal.nD Cert.DProjRefIdeal.τ).loc Cert.DProjRefIdeal.main_arg2)) (m ((c.tc : Thread Cert.DProjRefIdeal.nD Cert.DProjRefIdeal.τ).loc Cert.DProjRefIdeal.main_arg3)) (m ((c.tc : Thread Cert.DProjRefIdeal.nD Cert.DProjRefIdeal.τ).loc Cert.DProjRefIdeal.main_arg4)) (m ((c.tc : Thread Cert.DProjRefIdeal.nD Cert.DProjRefIdeal.τ).loc Cert.DProjRefIdeal.main_arg5)) (m ((c.tc : Thread Cert.DProjRefIdeal.nD Cert.DProjRefIdeal.τ).loc Cert.DProjRefIdeal.main_arg6)) (m ((c.tc : Thread Cert.DProjRefIdeal.nD Cert.DProjRefIdeal.τ).loc Cert.DProjRefIdeal.main_arg7)) (m ((c.tc : Thread Cert.DProjRefIdeal.nD Cert.DProjRefIdeal.τ).loc Cert.DProjRefIdeal.main_arg8)) (m ((c.tc : Thread Cert.DProjRefIdeal.nD Cert.DProjRefIdeal.τ).loc Cert.DProjRefIdeal.main_arg9)) (m ((c.tc : Thread Cert.DProjRefIdeal.nD Cert.DProjRefIdeal.τ).loc Cert.DProjRefIdeal.main_arg10)) (m ((c.tc : Thread Cert.DProjRefIdeal.nD Cert.DProjRefIdeal.τ).loc Cert.DProjRefIdeal.main_arg11)) (m ((c.tc : Thread Cert.DProjRefIdeal.nD Cert.DProjRefIdeal.τ).loc Cert.DProjRefIdeal.main_arg12)) (m ((c.tc : Thread Cert.DProjRefIdeal.nD Cert.DProjRefIdeal.τ).loc Cert.DProjRefIdeal.main_arg13)) (m ((c.tc : Thread Cert.DProjRefIdeal.nD Cert.DProjRefIdeal.τ).loc Cert.DProjRefIdeal.main_arg14))).1 = (fun _ => 1#1)
    ∧ (Cert.Pre_finite_dproj.fn (F := Ideal) (m ((c.tc : Thread Cert.DProjRefIdeal.nD Cert.DProjRefIdeal.τ).loc Cert.DProjRefIdeal.main_arg0)) (m ((c.tc : Thread Cert.DProjRefIdeal.nD Cert.DProjRefIdeal.τ).loc Cert.DProjRefIdeal.main_arg1)) (m ((c.tc : Thread Cert.DProjRefIdeal.nD Cert.DProjRefIdeal.τ).loc Cert.DProjRefIdeal.main_arg2)) (m ((c.tc : Thread Cert.DProjRefIdeal.nD Cert.DProjRefIdeal.τ).loc Cert.DProjRefIdeal.main_arg3)) (m ((c.tc : Thread Cert.DProjRefIdeal.nD Cert.DProjRefIdeal.τ).loc Cert.DProjRefIdeal.main_arg4)) (m ((c.tc : Thread Cert.DProjRefIdeal.nD Cert.DProjRefIdeal.τ).loc Cert.DProjRefIdeal.main_arg5)) (m ((c.tc : Thread Cert.DProjRefIdeal.nD Cert.DProjRefIdeal.τ).loc Cert.DProjRefIdeal.main_arg6)) (m ((c.tc : Thread Cert.DProjRefIdeal.nD Cert.DProjRefIdeal.τ).loc Cert.DProjRefIdeal.main_arg7)) (m ((c.tc : Thread Cert.DProjRefIdeal.nD Cert.DProjRefIdeal.τ).loc Cert.DProjRefIdeal.main_arg8)) (m ((c.tc : Thread Cert.DProjRefIdeal.nD Cert.DProjRefIdeal.τ).loc Cert.DProjRefIdeal.main_arg9)) (m ((c.tc : Thread Cert.DProjRefIdeal.nD Cert.DProjRefIdeal.τ).loc Cert.DProjRefIdeal.main_arg10)) (m ((c.tc : Thread Cert.DProjRefIdeal.nD Cert.DProjRefIdeal.τ).loc Cert.DProjRefIdeal.main_arg11)) (m ((c.tc : Thread Cert.DProjRefIdeal.nD Cert.DProjRefIdeal.τ).loc Cert.DProjRefIdeal.main_arg12)) (m ((c.tc : Thread Cert.DProjRefIdeal.nD Cert.DProjRefIdeal.τ).loc Cert.DProjRefIdeal.main_arg13)) (m ((c.tc : Thread Cert.DProjRefIdeal.nD Cert.DProjRefIdeal.τ).loc Cert.DProjRefIdeal.main_arg14))).2.1 = (fun _ => 1#1)
    ∧ (Cert.Pre_finite_dproj.fn (F := Ideal) (m ((c.tc : Thread Cert.DProjRefIdeal.nD Cert.DProjRefIdeal.τ).loc Cert.DProjRefIdeal.main_arg0)) (m ((c.tc : Thread Cert.DProjRefIdeal.nD Cert.DProjRefIdeal.τ).loc Cert.DProjRefIdeal.main_arg1)) (m ((c.tc : Thread Cert.DProjRefIdeal.nD Cert.DProjRefIdeal.τ).loc Cert.DProjRefIdeal.main_arg2)) (m ((c.tc : Thread Cert.DProjRefIdeal.nD Cert.DProjRefIdeal.τ).loc Cert.DProjRefIdeal.main_arg3)) (m ((c.tc : Thread Cert.DProjRefIdeal.nD Cert.DProjRefIdeal.τ).loc Cert.DProjRefIdeal.main_arg4)) (m ((c.tc : Thread Cert.DProjRefIdeal.nD Cert.DProjRefIdeal.τ).loc Cert.DProjRefIdeal.main_arg5)) (m ((c.tc : Thread Cert.DProjRefIdeal.nD Cert.DProjRefIdeal.τ).loc Cert.DProjRefIdeal.main_arg6)) (m ((c.tc : Thread Cert.DProjRefIdeal.nD Cert.DProjRefIdeal.τ).loc Cert.DProjRefIdeal.main_arg7)) (m ((c.tc : Thread Cert.DProjRefIdeal.nD Cert.DProjRefIdeal.τ).loc Cert.DProjRefIdeal.main_arg8)) (m ((c.tc : Thread Cert.DProjRefIdeal.nD Cert.DProjRefIdeal.τ).loc Cert.DProjRefIdeal.main_arg9)) (m ((c.tc : Thread Cert.DProjRefIdeal.nD Cert.DProjRefIdeal.τ).loc Cert.DProjRefIdeal.main_arg10)) (m ((c.tc : Thread Cert.DProjRefIdeal.nD Cert.DProjRefIdeal.τ).loc Cert.DProjRefIdeal.main_arg11)) (m ((c.tc : Thread Cert.DProjRefIdeal.nD Cert.DProjRefIdeal.τ).loc Cert.DProjRefIdeal.main_arg12)) (m ((c.tc : Thread Cert.DProjRefIdeal.nD Cert.DProjRefIdeal.τ).loc Cert.DProjRefIdeal.main_arg13)) (m ((c.tc : Thread Cert.DProjRefIdeal.nD Cert.DProjRefIdeal.τ).loc Cert.DProjRefIdeal.main_arg14))).2.2.1 = (fun _ => 1#1)
    ∧ (Cert.Pre_finite_dproj.fn (F := Ideal) (m ((c.tc : Thread Cert.DProjRefIdeal.nD Cert.DProjRefIdeal.τ).loc Cert.DProjRefIdeal.main_arg0)) (m ((c.tc : Thread Cert.DProjRefIdeal.nD Cert.DProjRefIdeal.τ).loc Cert.DProjRefIdeal.main_arg1)) (m ((c.tc : Thread Cert.DProjRefIdeal.nD Cert.DProjRefIdeal.τ).loc Cert.DProjRefIdeal.main_arg2)) (m ((c.tc : Thread Cert.DProjRefIdeal.nD Cert.DProjRefIdeal.τ).loc Cert.DProjRefIdeal.main_arg3)) (m ((c.tc : Thread Cert.DProjRefIdeal.nD Cert.DProjRefIdeal.τ).loc Cert.DProjRefIdeal.main_arg4)) (m ((c.tc : Thread Cert.DProjRefIdeal.nD Cert.DProjRefIdeal.τ).loc Cert.DProjRefIdeal.main_arg5)) (m ((c.tc : Thread Cert.DProjRefIdeal.nD Cert.DProjRefIdeal.τ).loc Cert.DProjRefIdeal.main_arg6)) (m ((c.tc : Thread Cert.DProjRefIdeal.nD Cert.DProjRefIdeal.τ).loc Cert.DProjRefIdeal.main_arg7)) (m ((c.tc : Thread Cert.DProjRefIdeal.nD Cert.DProjRefIdeal.τ).loc Cert.DProjRefIdeal.main_arg8)) (m ((c.tc : Thread Cert.DProjRefIdeal.nD Cert.DProjRefIdeal.τ).loc Cert.DProjRefIdeal.main_arg9)) (m ((c.tc : Thread Cert.DProjRefIdeal.nD Cert.DProjRefIdeal.τ).loc Cert.DProjRefIdeal.main_arg10)) (m ((c.tc : Thread Cert.DProjRefIdeal.nD Cert.DProjRefIdeal.τ).loc Cert.DProjRefIdeal.main_arg11)) (m ((c.tc : Thread Cert.DProjRefIdeal.nD Cert.DProjRefIdeal.τ).loc Cert.DProjRefIdeal.main_arg12)) (m ((c.tc : Thread Cert.DProjRefIdeal.nD Cert.DProjRefIdeal.τ).loc Cert.DProjRefIdeal.main_arg13)) (m ((c.tc : Thread Cert.DProjRefIdeal.nD Cert.DProjRefIdeal.τ).loc Cert.DProjRefIdeal.main_arg14))).2.2.2.1 = (fun _ => 1#1)
    ∧ (Cert.Pre_finite_dproj.fn (F := Ideal) (m ((c.tc : Thread Cert.DProjRefIdeal.nD Cert.DProjRefIdeal.τ).loc Cert.DProjRefIdeal.main_arg0)) (m ((c.tc : Thread Cert.DProjRefIdeal.nD Cert.DProjRefIdeal.τ).loc Cert.DProjRefIdeal.main_arg1)) (m ((c.tc : Thread Cert.DProjRefIdeal.nD Cert.DProjRefIdeal.τ).loc Cert.DProjRefIdeal.main_arg2)) (m ((c.tc : Thread Cert.DProjRefIdeal.nD Cert.DProjRefIdeal.τ).loc Cert.DProjRefIdeal.main_arg3)) (m ((c.tc : Thread Cert.DProjRefIdeal.nD Cert.DProjRefIdeal.τ).loc Cert.DProjRefIdeal.main_arg4)) (m ((c.tc : Thread Cert.DProjRefIdeal.nD Cert.DProjRefIdeal.τ).loc Cert.DProjRefIdeal.main_arg5)) (m ((c.tc : Thread Cert.DProjRefIdeal.nD Cert.DProjRefIdeal.τ).loc Cert.DProjRefIdeal.main_arg6)) (m ((c.tc : Thread Cert.DProjRefIdeal.nD Cert.DProjRefIdeal.τ).loc Cert.DProjRefIdeal.main_arg7)) (m ((c.tc : Thread Cert.DProjRefIdeal.nD Cert.DProjRefIdeal.τ).loc Cert.DProjRefIdeal.main_arg8)) (m ((c.tc : Thread Cert.DProjRefIdeal.nD Cert.DProjRefIdeal.τ).loc Cert.DProjRefIdeal.main_arg9)) (m ((c.tc : Thread Cert.DProjRefIdeal.nD Cert.DProjRefIdeal.τ).loc Cert.DProjRefIdeal.main_arg10)) (m ((c.tc : Thread Cert.DProjRefIdeal.nD Cert.DProjRefIdeal.τ).loc Cert.DProjRefIdeal.main_arg11)) (m ((c.tc : Thread Cert.DProjRefIdeal.nD Cert.DProjRefIdeal.τ).loc Cert.DProjRefIdeal.main_arg12)) (m ((c.tc : Thread Cert.DProjRefIdeal.nD Cert.DProjRefIdeal.τ).loc Cert.DProjRefIdeal.main_arg13)) (m ((c.tc : Thread Cert.DProjRefIdeal.nD Cert.DProjRefIdeal.τ).loc Cert.DProjRefIdeal.main_arg14))).2.2.2.2 = (fun _ => 1#1)

def Pre_Mp (m : (ℓ : Loc Cert.Mp.nD Cert.Mp.τ Cert.Mp.sig) → Buf (Elt Bits) ℓ) : Prop :=
  True

def Pre_MpIdeal (m : (ℓ : Loc Cert.MpIdeal.nD Cert.MpIdeal.τ Cert.MpIdeal.sig) → Buf (Elt Ideal) ℓ) : Prop :=
  True

def Pre_MpRefIdeal (m : (ℓ : Loc Cert.MpRefIdeal.nD Cert.MpRefIdeal.τ Cert.MpRefIdeal.sig) → Buf (Elt Ideal) ℓ) : Prop :=
  True

def Pre_RetO (m : (ℓ : Loc Cert.RetO.nD Cert.RetO.τ Cert.RetO.sig) → Buf (Elt Bits) ℓ) : Prop :=
  True

def Pre_RetOIdeal (m : (ℓ : Loc Cert.RetOIdeal.nD Cert.RetOIdeal.τ Cert.RetOIdeal.sig) → Buf (Elt Ideal) ℓ) : Prop :=
  True

def Pre_RetORefIdeal (m : (ℓ : Loc Cert.RetORefIdeal.nD Cert.RetORefIdeal.τ Cert.RetORefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_OutP (m : (ℓ : Loc Cert.OutP.nD Cert.OutP.τ Cert.OutP.sig) → Buf (Elt Bits) ℓ) : Prop :=
  True

def Pre_OutPIdeal (m : (ℓ : Loc Cert.OutPIdeal.nD Cert.OutPIdeal.τ Cert.OutPIdeal.sig) → Buf (Elt Ideal) ℓ) : Prop :=
  True

def Pre_OutPRefIdeal (m : (ℓ : Loc Cert.OutPRefIdeal.nD Cert.OutPRefIdeal.τ Cert.OutPRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_finite_qkv [hPre_finite_qkv : Cert.Pre_finite_qkv.Facts] (m : (ℓ : Loc Cert.QkvIdeal.nD Cert.QkvIdeal.τ Cert.QkvIdeal.sig) → Buf (Elt Ideal) ℓ) : Prop :=
  ∀ c : Dev Cert.QkvIdeal.nD,
    (Cert.Pre_finite_qkv.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_finite_qkv [hPre_finite_qkv : Cert.Pre_finite_qkv.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_finite_qkv.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2))) = (fun _ => 1#1)

def quiescent_DU [hDU : Cert.DU.Facts] : Prop :=
  ∀ (m : (ℓ : Loc Cert.DU.nD Cert.DU.τ Cert.DU.sig) → Buf (Elt Bits) ℓ) (g : Dev Cert.DU.nD → PrngReg), Pre_DU m →
    θ_run (Cert.DU.defs (F := Bits)) (onTc (τ := Cert.DU.τ) (Cert.DU.main (F := Bits))) ⟨m, fun _ => 0, g⟩ (fun r => (∀ c : Dev Cert.DU.nD,
      r.2.mem ((c.tc : Thread Cert.DU.nD Cert.DU.τ).loc Cert.DU.main_arg0) = m ((c.tc : Thread Cert.DU.nD Cert.DU.τ).loc Cert.DU.main_arg0)
      ∧ r.2.mem ((c.tc : Thread Cert.DU.nD Cert.DU.τ).loc Cert.DU.main_arg1) = m ((c.tc : Thread Cert.DU.nD Cert.DU.τ).loc Cert.DU.main_arg1)
      ∧ r.2.mem ((c.tc : Thread Cert.DU.nD Cert.DU.τ).loc Cert.DU.main_arg2) = m ((c.tc : Thread Cert.DU.nD Cert.DU.τ).loc Cert.DU.main_arg2)
      ∧ r.2.mem ((c.tc : Thread Cert.DU.nD Cert.DU.τ).loc Cert.DU.main_arg3) = m ((c.tc : Thread Cert.DU.nD Cert.DU.τ).loc Cert.DU.main_arg3))
      ∧ r.2.sem = fun _ => 0)

def quiescent_DUIdeal [hDUIdeal : Cert.DUIdeal.Facts] : Prop :=
  ∀ (m : (ℓ : Loc Cert.DUIdeal.nD Cert.DUIdeal.τ Cert.DUIdeal.sig) → Buf (Elt Ideal) ℓ) (g : Dev Cert.DUIdeal.nD → PrngReg), Pre_DUIdeal m →
    θ_run (Cert.DUIdeal.defs (F := Ideal)) (onTc (τ := Cert.DUIdeal.τ) (Cert.DUIdeal.main (F := Ideal))) ⟨m, fun _ => 0, g⟩ (fun r => (∀ c : Dev Cert.DUIdeal.nD,
      r.2.mem ((c.tc : Thread Cert.DUIdeal.nD Cert.DUIdeal.τ).loc Cert.DUIdeal.main_arg0) = m ((c.tc : Thread Cert.DUIdeal.nD Cert.DUIdeal.τ).loc Cert.DUIdeal.main_arg0)
      ∧ r.2.mem ((c.tc : Thread Cert.DUIdeal.nD Cert.DUIdeal.τ).loc Cert.DUIdeal.main_arg1) = m ((c.tc : Thread Cert.DUIdeal.nD Cert.DUIdeal.τ).loc Cert.DUIdeal.main_arg1)
      ∧ r.2.mem ((c.tc : Thread Cert.DUIdeal.nD Cert.DUIdeal.τ).loc Cert.DUIdeal.main_arg2) = m ((c.tc : Thread Cert.DUIdeal.nD Cert.DUIdeal.τ).loc Cert.DUIdeal.main_arg2)
      ∧ r.2.mem ((c.tc : Thread Cert.DUIdeal.nD Cert.DUIdeal.τ).loc Cert.DUIdeal.main_arg3) = m ((c.tc : Thread Cert.DUIdeal.nD Cert.DUIdeal.τ).loc Cert.DUIdeal.main_arg3))
      ∧ r.2.sem = fun _ => 0)

def quiescent_DURefIdeal [hDURefIdeal : Cert.DURefIdeal.Facts] : Prop :=
  ∀ (m : (ℓ : Loc Cert.DURefIdeal.nD Cert.DURefIdeal.τ Cert.DURefIdeal.sig) → Buf (Elt Ideal) ℓ) (g : Dev Cert.DURefIdeal.nD → PrngReg), Pre_DURefIdeal m →
    θ_run (Cert.DURefIdeal.defs (F := Ideal)) (onTc (τ := Cert.DURefIdeal.τ) (Cert.DURefIdeal.main (F := Ideal))) ⟨m, fun _ => 0, g⟩ (fun r => (∀ c : Dev Cert.DURefIdeal.nD,
      r.2.mem ((c.tc : Thread Cert.DURefIdeal.nD Cert.DURefIdeal.τ).loc Cert.DURefIdeal.main_arg0) = m ((c.tc : Thread Cert.DURefIdeal.nD Cert.DURefIdeal.τ).loc Cert.DURefIdeal.main_arg0)
      ∧ r.2.mem ((c.tc : Thread Cert.DURefIdeal.nD Cert.DURefIdeal.τ).loc Cert.DURefIdeal.main_arg1) = m ((c.tc : Thread Cert.DURefIdeal.nD Cert.DURefIdeal.τ).loc Cert.DURefIdeal.main_arg1)
      ∧ r.2.mem ((c.tc : Thread Cert.DURefIdeal.nD Cert.DURefIdeal.τ).loc Cert.DURefIdeal.main_arg2) = m ((c.tc : Thread Cert.DURefIdeal.nD Cert.DURefIdeal.τ).loc Cert.DURefIdeal.main_arg2)
      ∧ r.2.mem ((c.tc : Thread Cert.DURefIdeal.nD Cert.DURefIdeal.τ).loc Cert.DURefIdeal.main_arg3) = m ((c.tc : Thread Cert.DURefIdeal.nD Cert.DURefIdeal.τ).loc Cert.DURefIdeal.main_arg3))
      ∧ r.2.sem = fun _ => 0)

def quiescent_DM [hDM : Cert.DM.Facts] : Prop :=
  ∀ (m : (ℓ : Loc Cert.DM.nD Cert.DM.τ Cert.DM.sig) → Buf (Elt Bits) ℓ) (g : Dev Cert.DM.nD → PrngReg), Pre_DM m →
    θ_run (Cert.DM.defs (F := Bits)) (onTc (τ := Cert.DM.τ) (Cert.DM.main (F := Bits))) ⟨m, fun _ => 0, g⟩ (fun r => (∀ c : Dev Cert.DM.nD,
      r.2.mem ((c.tc : Thread Cert.DM.nD Cert.DM.τ).loc Cert.DM.main_arg0) = m ((c.tc : Thread Cert.DM.nD Cert.DM.τ).loc Cert.DM.main_arg0)
      ∧ r.2.mem ((c.tc : Thread Cert.DM.nD Cert.DM.τ).loc Cert.DM.main_arg1) = m ((c.tc : Thread Cert.DM.nD Cert.DM.τ).loc Cert.DM.main_arg1)
      ∧ r.2.mem ((c.tc : Thread Cert.DM.nD Cert.DM.τ).loc Cert.DM.main_arg2) = m ((c.tc : Thread Cert.DM.nD Cert.DM.τ).loc Cert.DM.main_arg2)
      ∧ r.2.mem ((c.tc : Thread Cert.DM.nD Cert.DM.τ).loc Cert.DM.main_arg3) = m ((c.tc : Thread Cert.DM.nD Cert.DM.τ).loc Cert.DM.main_arg3)
      ∧ r.2.mem ((c.tc : Thread Cert.DM.nD Cert.DM.τ).loc Cert.DM.main_arg4) = m ((c.tc : Thread Cert.DM.nD Cert.DM.τ).loc Cert.DM.main_arg4))
      ∧ r.2.sem = fun _ => 0)

def quiescent_DMIdeal [hDMIdeal : Cert.DMIdeal.Facts] : Prop :=
  ∀ (m : (ℓ : Loc Cert.DMIdeal.nD Cert.DMIdeal.τ Cert.DMIdeal.sig) → Buf (Elt Ideal) ℓ) (g : Dev Cert.DMIdeal.nD → PrngReg), Pre_DMIdeal m →
    θ_run (Cert.DMIdeal.defs (F := Ideal)) (onTc (τ := Cert.DMIdeal.τ) (Cert.DMIdeal.main (F := Ideal))) ⟨m, fun _ => 0, g⟩ (fun r => (∀ c : Dev Cert.DMIdeal.nD,
      r.2.mem ((c.tc : Thread Cert.DMIdeal.nD Cert.DMIdeal.τ).loc Cert.DMIdeal.main_arg0) = m ((c.tc : Thread Cert.DMIdeal.nD Cert.DMIdeal.τ).loc Cert.DMIdeal.main_arg0)
      ∧ r.2.mem ((c.tc : Thread Cert.DMIdeal.nD Cert.DMIdeal.τ).loc Cert.DMIdeal.main_arg1) = m ((c.tc : Thread Cert.DMIdeal.nD Cert.DMIdeal.τ).loc Cert.DMIdeal.main_arg1)
      ∧ r.2.mem ((c.tc : Thread Cert.DMIdeal.nD Cert.DMIdeal.τ).loc Cert.DMIdeal.main_arg2) = m ((c.tc : Thread Cert.DMIdeal.nD Cert.DMIdeal.τ).loc Cert.DMIdeal.main_arg2)
      ∧ r.2.mem ((c.tc : Thread Cert.DMIdeal.nD Cert.DMIdeal.τ).loc Cert.DMIdeal.main_arg3) = m ((c.tc : Thread Cert.DMIdeal.nD Cert.DMIdeal.τ).loc Cert.DMIdeal.main_arg3)
      ∧ r.2.mem ((c.tc : Thread Cert.DMIdeal.nD Cert.DMIdeal.τ).loc Cert.DMIdeal.main_arg4) = m ((c.tc : Thread Cert.DMIdeal.nD Cert.DMIdeal.τ).loc Cert.DMIdeal.main_arg4))
      ∧ r.2.sem = fun _ => 0)

def quiescent_DMRefIdeal [hDMRefIdeal : Cert.DMRefIdeal.Facts] : Prop :=
  ∀ (m : (ℓ : Loc Cert.DMRefIdeal.nD Cert.DMRefIdeal.τ Cert.DMRefIdeal.sig) → Buf (Elt Ideal) ℓ) (g : Dev Cert.DMRefIdeal.nD → PrngReg), Pre_DMRefIdeal m →
    θ_run (Cert.DMRefIdeal.defs (F := Ideal)) (onTc (τ := Cert.DMRefIdeal.τ) (Cert.DMRefIdeal.main (F := Ideal))) ⟨m, fun _ => 0, g⟩ (fun r => (∀ c : Dev Cert.DMRefIdeal.nD,
      r.2.mem ((c.tc : Thread Cert.DMRefIdeal.nD Cert.DMRefIdeal.τ).loc Cert.DMRefIdeal.main_arg0) = m ((c.tc : Thread Cert.DMRefIdeal.nD Cert.DMRefIdeal.τ).loc Cert.DMRefIdeal.main_arg0)
      ∧ r.2.mem ((c.tc : Thread Cert.DMRefIdeal.nD Cert.DMRefIdeal.τ).loc Cert.DMRefIdeal.main_arg1) = m ((c.tc : Thread Cert.DMRefIdeal.nD Cert.DMRefIdeal.τ).loc Cert.DMRefIdeal.main_arg1)
      ∧ r.2.mem ((c.tc : Thread Cert.DMRefIdeal.nD Cert.DMRefIdeal.τ).loc Cert.DMRefIdeal.main_arg2) = m ((c.tc : Thread Cert.DMRefIdeal.nD Cert.DMRefIdeal.τ).loc Cert.DMRefIdeal.main_arg2)
      ∧ r.2.mem ((c.tc : Thread Cert.DMRefIdeal.nD Cert.DMRefIdeal.τ).loc Cert.DMRefIdeal.main_arg3) = m ((c.tc : Thread Cert.DMRefIdeal.nD Cert.DMRefIdeal.τ).loc Cert.DMRefIdeal.main_arg3)
      ∧ r.2.mem ((c.tc : Thread Cert.DMRefIdeal.nD Cert.DMRefIdeal.τ).loc Cert.DMRefIdeal.main_arg4) = m ((c.tc : Thread Cert.DMRefIdeal.nD Cert.DMRefIdeal.τ).loc Cert.DMRefIdeal.main_arg4))
      ∧ r.2.sem = fun _ => 0)

def quiescent_DHp [hDHp : Cert.DHp.Facts] : Prop :=
  ∀ (m : (ℓ : Loc Cert.DHp.nD Cert.DHp.τ Cert.DHp.sig) → Buf (Elt Bits) ℓ) (g : Dev Cert.DHp.nD → PrngReg), Pre_DHp m →
    θ_run (Cert.DHp.defs (F := Bits)) (onTc (τ := Cert.DHp.τ) (Cert.DHp.main (F := Bits))) ⟨m, fun _ => 0, g⟩ (fun r => (∀ c : Dev Cert.DHp.nD,
      r.2.mem ((c.tc : Thread Cert.DHp.nD Cert.DHp.τ).loc Cert.DHp.main_arg0) = m ((c.tc : Thread Cert.DHp.nD Cert.DHp.τ).loc Cert.DHp.main_arg0)
      ∧ r.2.mem ((c.tc : Thread Cert.DHp.nD Cert.DHp.τ).loc Cert.DHp.main_arg1) = m ((c.tc : Thread Cert.DHp.nD Cert.DHp.τ).loc Cert.DHp.main_arg1)
      ∧ r.2.mem ((c.tc : Thread Cert.DHp.nD Cert.DHp.τ).loc Cert.DHp.main_arg2) = m ((c.tc : Thread Cert.DHp.nD Cert.DHp.τ).loc Cert.DHp.main_arg2)
      ∧ r.2.mem ((c.tc : Thread Cert.DHp.nD Cert.DHp.τ).loc Cert.DHp.main_arg3) = m ((c.tc : Thread Cert.DHp.nD Cert.DHp.τ).loc Cert.DHp.main_arg3)
      ∧ r.2.mem ((c.tc : Thread Cert.DHp.nD Cert.DHp.τ).loc Cert.DHp.main_arg4) = m ((c.tc : Thread Cert.DHp.nD Cert.DHp.τ).loc Cert.DHp.main_arg4))
      ∧ r.2.sem = fun _ => 0)

def quiescent_DHpIdeal [hDHpIdeal : Cert.DHpIdeal.Facts] : Prop :=
  ∀ (m : (ℓ : Loc Cert.DHpIdeal.nD Cert.DHpIdeal.τ Cert.DHpIdeal.sig) → Buf (Elt Ideal) ℓ) (g : Dev Cert.DHpIdeal.nD → PrngReg), Pre_DHpIdeal m →
    θ_run (Cert.DHpIdeal.defs (F := Ideal)) (onTc (τ := Cert.DHpIdeal.τ) (Cert.DHpIdeal.main (F := Ideal))) ⟨m, fun _ => 0, g⟩ (fun r => (∀ c : Dev Cert.DHpIdeal.nD,
      r.2.mem ((c.tc : Thread Cert.DHpIdeal.nD Cert.DHpIdeal.τ).loc Cert.DHpIdeal.main_arg0) = m ((c.tc : Thread Cert.DHpIdeal.nD Cert.DHpIdeal.τ).loc Cert.DHpIdeal.main_arg0)
      ∧ r.2.mem ((c.tc : Thread Cert.DHpIdeal.nD Cert.DHpIdeal.τ).loc Cert.DHpIdeal.main_arg1) = m ((c.tc : Thread Cert.DHpIdeal.nD Cert.DHpIdeal.τ).loc Cert.DHpIdeal.main_arg1)
      ∧ r.2.mem ((c.tc : Thread Cert.DHpIdeal.nD Cert.DHpIdeal.τ).loc Cert.DHpIdeal.main_arg2) = m ((c.tc : Thread Cert.DHpIdeal.nD Cert.DHpIdeal.τ).loc Cert.DHpIdeal.main_arg2)
      ∧ r.2.mem ((c.tc : Thread Cert.DHpIdeal.nD Cert.DHpIdeal.τ).loc Cert.DHpIdeal.main_arg3) = m ((c.tc : Thread Cert.DHpIdeal.nD Cert.DHpIdeal.τ).loc Cert.DHpIdeal.main_arg3)
      ∧ r.2.mem ((c.tc : Thread Cert.DHpIdeal.nD Cert.DHpIdeal.τ).loc Cert.DHpIdeal.main_arg4) = m ((c.tc : Thread Cert.DHpIdeal.nD Cert.DHpIdeal.τ).loc Cert.DHpIdeal.main_arg4))
      ∧ r.2.sem = fun _ => 0)

def quiescent_DHpIdeal_pre_finite_dhp [hDHpIdeal : Cert.DHpIdeal.Facts] [hPre_finite_dhp : Cert.Pre_finite_dhp.Facts] : Prop :=
  ∀ (m : (ℓ : Loc Cert.DHpIdeal.nD Cert.DHpIdeal.τ Cert.DHpIdeal.sig) → Buf (Elt Ideal) ℓ) (g : Dev Cert.DHpIdeal.nD → PrngReg), Pre_DHpIdeal_finite_dhp m →
    θ_run (Cert.DHpIdeal.defs (F := Ideal)) (onTc (τ := Cert.DHpIdeal.τ) (Cert.DHpIdeal.main (F := Ideal))) ⟨m, fun _ => 0, g⟩ (fun r => (∀ c : Dev Cert.DHpIdeal.nD,
      r.2.mem ((c.tc : Thread Cert.DHpIdeal.nD Cert.DHpIdeal.τ).loc Cert.DHpIdeal.main_arg0) = m ((c.tc : Thread Cert.DHpIdeal.nD Cert.DHpIdeal.τ).loc Cert.DHpIdeal.main_arg0)
      ∧ r.2.mem ((c.tc : Thread Cert.DHpIdeal.nD Cert.DHpIdeal.τ).loc Cert.DHpIdeal.main_arg1) = m ((c.tc : Thread Cert.DHpIdeal.nD Cert.DHpIdeal.τ).loc Cert.DHpIdeal.main_arg1)
      ∧ r.2.mem ((c.tc : Thread Cert.DHpIdeal.nD Cert.DHpIdeal.τ).loc Cert.DHpIdeal.main_arg2) = m ((c.tc : Thread Cert.DHpIdeal.nD Cert.DHpIdeal.τ).loc Cert.DHpIdeal.main_arg2)
      ∧ r.2.mem ((c.tc : Thread Cert.DHpIdeal.nD Cert.DHpIdeal.τ).loc Cert.DHpIdeal.main_arg3) = m ((c.tc : Thread Cert.DHpIdeal.nD Cert.DHpIdeal.τ).loc Cert.DHpIdeal.main_arg3)
      ∧ r.2.mem ((c.tc : Thread Cert.DHpIdeal.nD Cert.DHpIdeal.τ).loc Cert.DHpIdeal.main_arg4) = m ((c.tc : Thread Cert.DHpIdeal.nD Cert.DHpIdeal.τ).loc Cert.DHpIdeal.main_arg4))
      ∧ r.2.sem = fun _ => 0)

def quiescent_DHpRefIdeal [hDHpRefIdeal : Cert.DHpRefIdeal.Facts] : Prop :=
  ∀ (m : (ℓ : Loc Cert.DHpRefIdeal.nD Cert.DHpRefIdeal.τ Cert.DHpRefIdeal.sig) → Buf (Elt Ideal) ℓ) (g : Dev Cert.DHpRefIdeal.nD → PrngReg), Pre_DHpRefIdeal m →
    θ_run (Cert.DHpRefIdeal.defs (F := Ideal)) (onTc (τ := Cert.DHpRefIdeal.τ) (Cert.DHpRefIdeal.main (F := Ideal))) ⟨m, fun _ => 0, g⟩ (fun r => (∀ c : Dev Cert.DHpRefIdeal.nD,
      r.2.mem ((c.tc : Thread Cert.DHpRefIdeal.nD Cert.DHpRefIdeal.τ).loc Cert.DHpRefIdeal.main_arg0) = m ((c.tc : Thread Cert.DHpRefIdeal.nD Cert.DHpRefIdeal.τ).loc Cert.DHpRefIdeal.main_arg0)
      ∧ r.2.mem ((c.tc : Thread Cert.DHpRefIdeal.nD Cert.DHpRefIdeal.τ).loc Cert.DHpRefIdeal.main_arg1) = m ((c.tc : Thread Cert.DHpRefIdeal.nD Cert.DHpRefIdeal.τ).loc Cert.DHpRefIdeal.main_arg1)
      ∧ r.2.mem ((c.tc : Thread Cert.DHpRefIdeal.nD Cert.DHpRefIdeal.τ).loc Cert.DHpRefIdeal.main_arg2) = m ((c.tc : Thread Cert.DHpRefIdeal.nD Cert.DHpRefIdeal.τ).loc Cert.DHpRefIdeal.main_arg2)
      ∧ r.2.mem ((c.tc : Thread Cert.DHpRefIdeal.nD Cert.DHpRefIdeal.τ).loc Cert.DHpRefIdeal.main_arg3) = m ((c.tc : Thread Cert.DHpRefIdeal.nD Cert.DHpRefIdeal.τ).loc Cert.DHpRefIdeal.main_arg3)
      ∧ r.2.mem ((c.tc : Thread Cert.DHpRefIdeal.nD Cert.DHpRefIdeal.τ).loc Cert.DHpRefIdeal.main_arg4) = m ((c.tc : Thread Cert.DHpRefIdeal.nD Cert.DHpRefIdeal.τ).loc Cert.DHpRefIdeal.main_arg4))
      ∧ r.2.sem = fun _ => 0)

def quiescent_DHpRefIdeal_pre_finite_dhp [hDHpRefIdeal : Cert.DHpRefIdeal.Facts] [hPre_finite_dhp : Cert.Pre_finite_dhp.Facts] : Prop :=
  ∀ (m : (ℓ : Loc Cert.DHpRefIdeal.nD Cert.DHpRefIdeal.τ Cert.DHpRefIdeal.sig) → Buf (Elt Ideal) ℓ) (g : Dev Cert.DHpRefIdeal.nD → PrngReg), Pre_DHpRefIdeal_finite_dhp m →
    θ_run (Cert.DHpRefIdeal.defs (F := Ideal)) (onTc (τ := Cert.DHpRefIdeal.τ) (Cert.DHpRefIdeal.main (F := Ideal))) ⟨m, fun _ => 0, g⟩ (fun r => (∀ c : Dev Cert.DHpRefIdeal.nD,
      r.2.mem ((c.tc : Thread Cert.DHpRefIdeal.nD Cert.DHpRefIdeal.τ).loc Cert.DHpRefIdeal.main_arg0) = m ((c.tc : Thread Cert.DHpRefIdeal.nD Cert.DHpRefIdeal.τ).loc Cert.DHpRefIdeal.main_arg0)
      ∧ r.2.mem ((c.tc : Thread Cert.DHpRefIdeal.nD Cert.DHpRefIdeal.τ).loc Cert.DHpRefIdeal.main_arg1) = m ((c.tc : Thread Cert.DHpRefIdeal.nD Cert.DHpRefIdeal.τ).loc Cert.DHpRefIdeal.main_arg1)
      ∧ r.2.mem ((c.tc : Thread Cert.DHpRefIdeal.nD Cert.DHpRefIdeal.τ).loc Cert.DHpRefIdeal.main_arg2) = m ((c.tc : Thread Cert.DHpRefIdeal.nD Cert.DHpRefIdeal.τ).loc Cert.DHpRefIdeal.main_arg2)
      ∧ r.2.mem ((c.tc : Thread Cert.DHpRefIdeal.nD Cert.DHpRefIdeal.τ).loc Cert.DHpRefIdeal.main_arg3) = m ((c.tc : Thread Cert.DHpRefIdeal.nD Cert.DHpRefIdeal.τ).loc Cert.DHpRefIdeal.main_arg3)
      ∧ r.2.mem ((c.tc : Thread Cert.DHpRefIdeal.nD Cert.DHpRefIdeal.τ).loc Cert.DHpRefIdeal.main_arg4) = m ((c.tc : Thread Cert.DHpRefIdeal.nD Cert.DHpRefIdeal.τ).loc Cert.DHpRefIdeal.main_arg4))
      ∧ r.2.sem = fun _ => 0)

def quiescent_DHm [hDHm : Cert.DHm.Facts] : Prop :=
  ∀ (m : (ℓ : Loc Cert.DHm.nD Cert.DHm.τ Cert.DHm.sig) → Buf (Elt Bits) ℓ) (g : Dev Cert.DHm.nD → PrngReg), Pre_DHm m →
    θ_run (Cert.DHm.defs (F := Bits)) (onTc (τ := Cert.DHm.τ) (Cert.DHm.main (F := Bits))) ⟨m, fun _ => 0, g⟩ (fun r => (∀ c : Dev Cert.DHm.nD,
      r.2.mem ((c.tc : Thread Cert.DHm.nD Cert.DHm.τ).loc Cert.DHm.main_arg0) = m ((c.tc : Thread Cert.DHm.nD Cert.DHm.τ).loc Cert.DHm.main_arg0)
      ∧ r.2.mem ((c.tc : Thread Cert.DHm.nD Cert.DHm.τ).loc Cert.DHm.main_arg1) = m ((c.tc : Thread Cert.DHm.nD Cert.DHm.τ).loc Cert.DHm.main_arg1)
      ∧ r.2.mem ((c.tc : Thread Cert.DHm.nD Cert.DHm.τ).loc Cert.DHm.main_arg2) = m ((c.tc : Thread Cert.DHm.nD Cert.DHm.τ).loc Cert.DHm.main_arg2)
      ∧ r.2.mem ((c.tc : Thread Cert.DHm.nD Cert.DHm.τ).loc Cert.DHm.main_arg3) = m ((c.tc : Thread Cert.DHm.nD Cert.DHm.τ).loc Cert.DHm.main_arg3)
      ∧ r.2.mem ((c.tc : Thread Cert.DHm.nD Cert.DHm.τ).loc Cert.DHm.main_arg4) = m ((c.tc : Thread Cert.DHm.nD Cert.DHm.τ).loc Cert.DHm.main_arg4))
      ∧ r.2.sem = fun _ => 0)

def quiescent_DHmIdeal [hDHmIdeal : Cert.DHmIdeal.Facts] : Prop :=
  ∀ (m : (ℓ : Loc Cert.DHmIdeal.nD Cert.DHmIdeal.τ Cert.DHmIdeal.sig) → Buf (Elt Ideal) ℓ) (g : Dev Cert.DHmIdeal.nD → PrngReg), Pre_DHmIdeal m →
    θ_run (Cert.DHmIdeal.defs (F := Ideal)) (onTc (τ := Cert.DHmIdeal.τ) (Cert.DHmIdeal.main (F := Ideal))) ⟨m, fun _ => 0, g⟩ (fun r => (∀ c : Dev Cert.DHmIdeal.nD,
      r.2.mem ((c.tc : Thread Cert.DHmIdeal.nD Cert.DHmIdeal.τ).loc Cert.DHmIdeal.main_arg0) = m ((c.tc : Thread Cert.DHmIdeal.nD Cert.DHmIdeal.τ).loc Cert.DHmIdeal.main_arg0)
      ∧ r.2.mem ((c.tc : Thread Cert.DHmIdeal.nD Cert.DHmIdeal.τ).loc Cert.DHmIdeal.main_arg1) = m ((c.tc : Thread Cert.DHmIdeal.nD Cert.DHmIdeal.τ).loc Cert.DHmIdeal.main_arg1)
      ∧ r.2.mem ((c.tc : Thread Cert.DHmIdeal.nD Cert.DHmIdeal.τ).loc Cert.DHmIdeal.main_arg2) = m ((c.tc : Thread Cert.DHmIdeal.nD Cert.DHmIdeal.τ).loc Cert.DHmIdeal.main_arg2)
      ∧ r.2.mem ((c.tc : Thread Cert.DHmIdeal.nD Cert.DHmIdeal.τ).loc Cert.DHmIdeal.main_arg3) = m ((c.tc : Thread Cert.DHmIdeal.nD Cert.DHmIdeal.τ).loc Cert.DHmIdeal.main_arg3)
      ∧ r.2.mem ((c.tc : Thread Cert.DHmIdeal.nD Cert.DHmIdeal.τ).loc Cert.DHmIdeal.main_arg4) = m ((c.tc : Thread Cert.DHmIdeal.nD Cert.DHmIdeal.τ).loc Cert.DHmIdeal.main_arg4))
      ∧ r.2.sem = fun _ => 0)

def quiescent_DHmIdeal_pre_finite_dhm [hDHmIdeal : Cert.DHmIdeal.Facts] [hPre_finite_dhm : Cert.Pre_finite_dhm.Facts] : Prop :=
  ∀ (m : (ℓ : Loc Cert.DHmIdeal.nD Cert.DHmIdeal.τ Cert.DHmIdeal.sig) → Buf (Elt Ideal) ℓ) (g : Dev Cert.DHmIdeal.nD → PrngReg), Pre_DHmIdeal_finite_dhm m →
    θ_run (Cert.DHmIdeal.defs (F := Ideal)) (onTc (τ := Cert.DHmIdeal.τ) (Cert.DHmIdeal.main (F := Ideal))) ⟨m, fun _ => 0, g⟩ (fun r => (∀ c : Dev Cert.DHmIdeal.nD,
      r.2.mem ((c.tc : Thread Cert.DHmIdeal.nD Cert.DHmIdeal.τ).loc Cert.DHmIdeal.main_arg0) = m ((c.tc : Thread Cert.DHmIdeal.nD Cert.DHmIdeal.τ).loc Cert.DHmIdeal.main_arg0)
      ∧ r.2.mem ((c.tc : Thread Cert.DHmIdeal.nD Cert.DHmIdeal.τ).loc Cert.DHmIdeal.main_arg1) = m ((c.tc : Thread Cert.DHmIdeal.nD Cert.DHmIdeal.τ).loc Cert.DHmIdeal.main_arg1)
      ∧ r.2.mem ((c.tc : Thread Cert.DHmIdeal.nD Cert.DHmIdeal.τ).loc Cert.DHmIdeal.main_arg2) = m ((c.tc : Thread Cert.DHmIdeal.nD Cert.DHmIdeal.τ).loc Cert.DHmIdeal.main_arg2)
      ∧ r.2.mem ((c.tc : Thread Cert.DHmIdeal.nD Cert.DHmIdeal.τ).loc Cert.DHmIdeal.main_arg3) = m ((c.tc : Thread Cert.DHmIdeal.nD Cert.DHmIdeal.τ).loc Cert.DHmIdeal.main_arg3)
      ∧ r.2.mem ((c.tc : Thread Cert.DHmIdeal.nD Cert.DHmIdeal.τ).loc Cert.DHmIdeal.main_arg4) = m ((c.tc : Thread Cert.DHmIdeal.nD Cert.DHmIdeal.τ).loc Cert.DHmIdeal.main_arg4))
      ∧ r.2.sem = fun _ => 0)

def quiescent_DHmRefIdeal [hDHmRefIdeal : Cert.DHmRefIdeal.Facts] : Prop :=
  ∀ (m : (ℓ : Loc Cert.DHmRefIdeal.nD Cert.DHmRefIdeal.τ Cert.DHmRefIdeal.sig) → Buf (Elt Ideal) ℓ) (g : Dev Cert.DHmRefIdeal.nD → PrngReg), Pre_DHmRefIdeal m →
    θ_run (Cert.DHmRefIdeal.defs (F := Ideal)) (onTc (τ := Cert.DHmRefIdeal.τ) (Cert.DHmRefIdeal.main (F := Ideal))) ⟨m, fun _ => 0, g⟩ (fun r => (∀ c : Dev Cert.DHmRefIdeal.nD,
      r.2.mem ((c.tc : Thread Cert.DHmRefIdeal.nD Cert.DHmRefIdeal.τ).loc Cert.DHmRefIdeal.main_arg0) = m ((c.tc : Thread Cert.DHmRefIdeal.nD Cert.DHmRefIdeal.τ).loc Cert.DHmRefIdeal.main_arg0)
      ∧ r.2.mem ((c.tc : Thread Cert.DHmRefIdeal.nD Cert.DHmRefIdeal.τ).loc Cert.DHmRefIdeal.main_arg1) = m ((c.tc : Thread Cert.DHmRefIdeal.nD Cert.DHmRefIdeal.τ).loc Cert.DHmRefIdeal.main_arg1)
      ∧ r.2.mem ((c.tc : Thread Cert.DHmRefIdeal.nD Cert.DHmRefIdeal.τ).loc Cert.DHmRefIdeal.main_arg2) = m ((c.tc : Thread Cert.DHmRefIdeal.nD Cert.DHmRefIdeal.τ).loc Cert.DHmRefIdeal.main_arg2)
      ∧ r.2.mem ((c.tc : Thread Cert.DHmRefIdeal.nD Cert.DHmRefIdeal.τ).loc Cert.DHmRefIdeal.main_arg3) = m ((c.tc : Thread Cert.DHmRefIdeal.nD Cert.DHmRefIdeal.τ).loc Cert.DHmRefIdeal.main_arg3)
      ∧ r.2.mem ((c.tc : Thread Cert.DHmRefIdeal.nD Cert.DHmRefIdeal.τ).loc Cert.DHmRefIdeal.main_arg4) = m ((c.tc : Thread Cert.DHmRefIdeal.nD Cert.DHmRefIdeal.τ).loc Cert.DHmRefIdeal.main_arg4))
      ∧ r.2.sem = fun _ => 0)

def quiescent_DHmRefIdeal_pre_finite_dhm [hDHmRefIdeal : Cert.DHmRefIdeal.Facts] [hPre_finite_dhm : Cert.Pre_finite_dhm.Facts] : Prop :=
  ∀ (m : (ℓ : Loc Cert.DHmRefIdeal.nD Cert.DHmRefIdeal.τ Cert.DHmRefIdeal.sig) → Buf (Elt Ideal) ℓ) (g : Dev Cert.DHmRefIdeal.nD → PrngReg), Pre_DHmRefIdeal_finite_dhm m →
    θ_run (Cert.DHmRefIdeal.defs (F := Ideal)) (onTc (τ := Cert.DHmRefIdeal.τ) (Cert.DHmRefIdeal.main (F := Ideal))) ⟨m, fun _ => 0, g⟩ (fun r => (∀ c : Dev Cert.DHmRefIdeal.nD,
      r.2.mem ((c.tc : Thread Cert.DHmRefIdeal.nD Cert.DHmRefIdeal.τ).loc Cert.DHmRefIdeal.main_arg0) = m ((c.tc : Thread Cert.DHmRefIdeal.nD Cert.DHmRefIdeal.τ).loc Cert.DHmRefIdeal.main_arg0)
      ∧ r.2.mem ((c.tc : Thread Cert.DHmRefIdeal.nD Cert.DHmRefIdeal.τ).loc Cert.DHmRefIdeal.main_arg1) = m ((c.tc : Thread Cert.DHmRefIdeal.nD Cert.DHmRefIdeal.τ).loc Cert.DHmRefIdeal.main_arg1)
      ∧ r.2.mem ((c.tc : Thread Cert.DHmRefIdeal.nD Cert.DHmRefIdeal.τ).loc Cert.DHmRefIdeal.main_arg2) = m ((c.tc : Thread Cert.DHmRefIdeal.nD Cert.DHmRefIdeal.τ).loc Cert.DHmRefIdeal.main_arg2)
      ∧ r.2.mem ((c.tc : Thread Cert.DHmRefIdeal.nD Cert.DHmRefIdeal.τ).loc Cert.DHmRefIdeal.main_arg3) = m ((c.tc : Thread Cert.DHmRefIdeal.nD Cert.DHmRefIdeal.τ).loc Cert.DHmRefIdeal.main_arg3)
      ∧ r.2.mem ((c.tc : Thread Cert.DHmRefIdeal.nD Cert.DHmRefIdeal.τ).loc Cert.DHmRefIdeal.main_arg4) = m ((c.tc : Thread Cert.DHmRefIdeal.nD Cert.DHmRefIdeal.τ).loc Cert.DHmRefIdeal.main_arg4))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1)
      ∧ r.2.mem ((c.tc : Thread Cert.DH.nD Cert.DH.τ).loc Cert.DH.main_arg2) = m ((c.tc : Thread Cert.DH.nD Cert.DH.τ).loc Cert.DH.main_arg2)
      ∧ r.2.mem ((c.tc : Thread Cert.DH.nD Cert.DH.τ).loc Cert.DH.main_arg3) = m ((c.tc : Thread Cert.DH.nD Cert.DH.τ).loc Cert.DH.main_arg3)
      ∧ r.2.mem ((c.tc : Thread Cert.DH.nD Cert.DH.τ).loc Cert.DH.main_arg4) = m ((c.tc : Thread Cert.DH.nD Cert.DH.τ).loc Cert.DH.main_arg4))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
      ∧ r.2.mem ((c.tc : Thread Cert.DHIdeal.nD Cert.DHIdeal.τ).loc Cert.DHIdeal.main_arg2) = m ((c.tc : Thread Cert.DHIdeal.nD Cert.DHIdeal.τ).loc Cert.DHIdeal.main_arg2)
      ∧ r.2.mem ((c.tc : Thread Cert.DHIdeal.nD Cert.DHIdeal.τ).loc Cert.DHIdeal.main_arg3) = m ((c.tc : Thread Cert.DHIdeal.nD Cert.DHIdeal.τ).loc Cert.DHIdeal.main_arg3)
      ∧ r.2.mem ((c.tc : Thread Cert.DHIdeal.nD Cert.DHIdeal.τ).loc Cert.DHIdeal.main_arg4) = m ((c.tc : Thread Cert.DHIdeal.nD Cert.DHIdeal.τ).loc Cert.DHIdeal.main_arg4))
      ∧ r.2.sem = fun _ => 0)

def quiescent_DHIdeal_pre_finite_dh [hDHIdeal : Cert.DHIdeal.Facts] [hPre_finite_dh : Cert.Pre_finite_dh.Facts] : Prop :=
  ∀ (m : (ℓ : Loc Cert.DHIdeal.nD Cert.DHIdeal.τ Cert.DHIdeal.sig) → Buf (Elt Ideal) ℓ) (g : Dev Cert.DHIdeal.nD → PrngReg), Pre_DHIdeal_finite_dh m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
      ∧ r.2.mem ((c.tc : Thread Cert.DHIdeal.nD Cert.DHIdeal.τ).loc Cert.DHIdeal.main_arg2) = m ((c.tc : Thread Cert.DHIdeal.nD Cert.DHIdeal.τ).loc Cert.DHIdeal.main_arg2)
      ∧ r.2.mem ((c.tc : Thread Cert.DHIdeal.nD Cert.DHIdeal.τ).loc Cert.DHIdeal.main_arg3) = m ((c.tc : Thread Cert.DHIdeal.nD Cert.DHIdeal.τ).loc Cert.DHIdeal.main_arg3)
      ∧ r.2.mem ((c.tc : Thread Cert.DHIdeal.nD Cert.DHIdeal.τ).loc Cert.DHIdeal.main_arg4) = m ((c.tc : Thread Cert.DHIdeal.nD Cert.DHIdeal.τ).loc Cert.DHIdeal.main_arg4))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1)
      ∧ r.2.mem ((c.tc : Thread Cert.DHRefIdeal.nD Cert.DHRefIdeal.τ).loc Cert.DHRefIdeal.main_arg2) = m ((c.tc : Thread Cert.DHRefIdeal.nD Cert.DHRefIdeal.τ).loc Cert.DHRefIdeal.main_arg2)
      ∧ r.2.mem ((c.tc : Thread Cert.DHRefIdeal.nD Cert.DHRefIdeal.τ).loc Cert.DHRefIdeal.main_arg3) = m ((c.tc : Thread Cert.DHRefIdeal.nD Cert.DHRefIdeal.τ).loc Cert.DHRefIdeal.main_arg3)
      ∧ r.2.mem ((c.tc : Thread Cert.DHRefIdeal.nD Cert.DHRefIdeal.τ).loc Cert.DHRefIdeal.main_arg4) = m ((c.tc : Thread Cert.DHRefIdeal.nD Cert.DHRefIdeal.τ).loc Cert.DHRefIdeal.main_arg4))
      ∧ r.2.sem = fun _ => 0)

def quiescent_DHRefIdeal_pre_finite_dh [hDHRefIdeal : Cert.DHRefIdeal.Facts] [hPre_finite_dh : Cert.Pre_finite_dh.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal_finite_dh m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1)
      ∧ r.2.mem ((c.tc : Thread Cert.DHRefIdeal.nD Cert.DHRefIdeal.τ).loc Cert.DHRefIdeal.main_arg2) = m ((c.tc : Thread Cert.DHRefIdeal.nD Cert.DHRefIdeal.τ).loc Cert.DHRefIdeal.main_arg2)
      ∧ r.2.mem ((c.tc : Thread Cert.DHRefIdeal.nD Cert.DHRefIdeal.τ).loc Cert.DHRefIdeal.main_arg3) = m ((c.tc : Thread Cert.DHRefIdeal.nD Cert.DHRefIdeal.τ).loc Cert.DHRefIdeal.main_arg3)
      ∧ r.2.mem ((c.tc : Thread Cert.DHRefIdeal.nD Cert.DHRefIdeal.τ).loc Cert.DHRefIdeal.main_arg4) = m ((c.tc : Thread Cert.DHRefIdeal.nD Cert.DHRefIdeal.τ).loc Cert.DHRefIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ r.2.sem = fun _ => 0)

def quiescent_HeadIdeal_pre_finite_head_call [hHeadIdeal : Cert.HeadIdeal.Facts] [hPre_finite_head_call : Cert.Pre_finite_head_call.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_finite_head_call m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5))
      ∧ r.2.sem = fun _ => 0)

def quiescent_HeadRefIdeal_pre_finite_head_call [hHeadRefIdeal : Cert.HeadRefIdeal.Facts] [hPre_finite_head_call : Cert.Pre_finite_head_call.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_finite_head_call m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5))
      ∧ r.2.sem = fun _ => 0)

def quiescent_Mpb [hMpb : Cert.Mpb.Facts] : Prop :=
  ∀ (m : (ℓ : Loc Cert.Mpb.nD Cert.Mpb.τ Cert.Mpb.sig) → Buf (Elt Bits) ℓ) (g : Dev Cert.Mpb.nD → PrngReg), Pre_Mpb m →
    θ_run (Cert.Mpb.defs (F := Bits)) (onTc (τ := Cert.Mpb.τ) (Cert.Mpb.main (F := Bits))) ⟨m, fun _ => 0, g⟩ (fun r => (∀ c : Dev Cert.Mpb.nD,
      r.2.mem ((c.tc : Thread Cert.Mpb.nD Cert.Mpb.τ).loc Cert.Mpb.main_arg0) = m ((c.tc : Thread Cert.Mpb.nD Cert.Mpb.τ).loc Cert.Mpb.main_arg0)
      ∧ r.2.mem ((c.tc : Thread Cert.Mpb.nD Cert.Mpb.τ).loc Cert.Mpb.main_arg1) = m ((c.tc : Thread Cert.Mpb.nD Cert.Mpb.τ).loc Cert.Mpb.main_arg1)
      ∧ r.2.mem ((c.tc : Thread Cert.Mpb.nD Cert.Mpb.τ).loc Cert.Mpb.main_arg2) = m ((c.tc : Thread Cert.Mpb.nD Cert.Mpb.τ).loc Cert.Mpb.main_arg2)
      ∧ r.2.mem ((c.tc : Thread Cert.Mpb.nD Cert.Mpb.τ).loc Cert.Mpb.main_arg3) = m ((c.tc : Thread Cert.Mpb.nD Cert.Mpb.τ).loc Cert.Mpb.main_arg3)
      ∧ r.2.mem ((c.tc : Thread Cert.Mpb.nD Cert.Mpb.τ).loc Cert.Mpb.main_arg4) = m ((c.tc : Thread Cert.Mpb.nD Cert.Mpb.τ).loc Cert.Mpb.main_arg4)
      ∧ r.2.mem ((c.tc : Thread Cert.Mpb.nD Cert.Mpb.τ).loc Cert.Mpb.main_arg5) = m ((c.tc : Thread Cert.Mpb.nD Cert.Mpb.τ).loc Cert.Mpb.main_arg5)
      ∧ r.2.mem ((c.tc : Thread Cert.Mpb.nD Cert.Mpb.τ).loc Cert.Mpb.main_arg6) = m ((c.tc : Thread Cert.Mpb.nD Cert.Mpb.τ).loc Cert.Mpb.main_arg6))
      ∧ r.2.sem = fun _ => 0)

def quiescent_MpbIdeal [hMpbIdeal : Cert.MpbIdeal.Facts] : Prop :=
  ∀ (m : (ℓ : Loc Cert.MpbIdeal.nD Cert.MpbIdeal.τ Cert.MpbIdeal.sig) → Buf (Elt Ideal) ℓ) (g : Dev Cert.MpbIdeal.nD → PrngReg), Pre_MpbIdeal m →
    θ_run (Cert.MpbIdeal.defs (F := Ideal)) (onTc (τ := Cert.MpbIdeal.τ) (Cert.MpbIdeal.main (F := Ideal))) ⟨m, fun _ => 0, g⟩ (fun r => (∀ c : Dev Cert.MpbIdeal.nD,
      r.2.mem ((c.tc : Thread Cert.MpbIdeal.nD Cert.MpbIdeal.τ).loc Cert.MpbIdeal.main_arg0) = m ((c.tc : Thread Cert.MpbIdeal.nD Cert.MpbIdeal.τ).loc Cert.MpbIdeal.main_arg0)
      ∧ r.2.mem ((c.tc : Thread Cert.MpbIdeal.nD Cert.MpbIdeal.τ).loc Cert.MpbIdeal.main_arg1) = m ((c.tc : Thread Cert.MpbIdeal.nD Cert.MpbIdeal.τ).loc Cert.MpbIdeal.main_arg1)
      ∧ r.2.mem ((c.tc : Thread Cert.MpbIdeal.nD Cert.MpbIdeal.τ).loc Cert.MpbIdeal.main_arg2) = m ((c.tc : Thread Cert.MpbIdeal.nD Cert.MpbIdeal.τ).loc Cert.MpbIdeal.main_arg2)
      ∧ r.2.mem ((c.tc : Thread Cert.MpbIdeal.nD Cert.MpbIdeal.τ).loc Cert.MpbIdeal.main_arg3) = m ((c.tc : Thread Cert.MpbIdeal.nD Cert.MpbIdeal.τ).loc Cert.MpbIdeal.main_arg3)
      ∧ r.2.mem ((c.tc : Thread Cert.MpbIdeal.nD Cert.MpbIdeal.τ).loc Cert.MpbIdeal.main_arg4) = m ((c.tc : Thread Cert.MpbIdeal.nD Cert.MpbIdeal.τ).loc Cert.MpbIdeal.main_arg4)
      ∧ r.2.mem ((c.tc : Thread Cert.MpbIdeal.nD Cert.MpbIdeal.τ).loc Cert.MpbIdeal.main_arg5) = m ((c.tc : Thread Cert.MpbIdeal.nD Cert.MpbIdeal.τ).loc Cert.MpbIdeal.main_arg5)
      ∧ r.2.mem ((c.tc : Thread Cert.MpbIdeal.nD Cert.MpbIdeal.τ).loc Cert.MpbIdeal.main_arg6) = m ((c.tc : Thread Cert.MpbIdeal.nD Cert.MpbIdeal.τ).loc Cert.MpbIdeal.main_arg6))
      ∧ r.2.sem = fun _ => 0)

def quiescent_MpbIdeal_pre_finite_mpb [hMpbIdeal : Cert.MpbIdeal.Facts] [hPre_finite_mpb : Cert.Pre_finite_mpb.Facts] : Prop :=
  ∀ (m : (ℓ : Loc Cert.MpbIdeal.nD Cert.MpbIdeal.τ Cert.MpbIdeal.sig) → Buf (Elt Ideal) ℓ) (g : Dev Cert.MpbIdeal.nD → PrngReg), Pre_MpbIdeal_finite_mpb m →
    θ_run (Cert.MpbIdeal.defs (F := Ideal)) (onTc (τ := Cert.MpbIdeal.τ) (Cert.MpbIdeal.main (F := Ideal))) ⟨m, fun _ => 0, g⟩ (fun r => (∀ c : Dev Cert.MpbIdeal.nD,
      r.2.mem ((c.tc : Thread Cert.MpbIdeal.nD Cert.MpbIdeal.τ).loc Cert.MpbIdeal.main_arg0) = m ((c.tc : Thread Cert.MpbIdeal.nD Cert.MpbIdeal.τ).loc Cert.MpbIdeal.main_arg0)
      ∧ r.2.mem ((c.tc : Thread Cert.MpbIdeal.nD Cert.MpbIdeal.τ).loc Cert.MpbIdeal.main_arg1) = m ((c.tc : Thread Cert.MpbIdeal.nD Cert.MpbIdeal.τ).loc Cert.MpbIdeal.main_arg1)
      ∧ r.2.mem ((c.tc : Thread Cert.MpbIdeal.nD Cert.MpbIdeal.τ).loc Cert.MpbIdeal.main_arg2) = m ((c.tc : Thread Cert.MpbIdeal.nD Cert.MpbIdeal.τ).loc Cert.MpbIdeal.main_arg2)
      ∧ r.2.mem ((c.tc : Thread Cert.MpbIdeal.nD Cert.MpbIdeal.τ).loc Cert.MpbIdeal.main_arg3) = m ((c.tc : Thread Cert.MpbIdeal.nD Cert.MpbIdeal.τ).loc Cert.MpbIdeal.main_arg3)
      ∧ r.2.mem ((c.tc : Thread Cert.MpbIdeal.nD Cert.MpbIdeal.τ).loc Cert.MpbIdeal.main_arg4) = m ((c.tc : Thread Cert.MpbIdeal.nD Cert.MpbIdeal.τ).loc Cert.MpbIdeal.main_arg4)
      ∧ r.2.mem ((c.tc : Thread Cert.MpbIdeal.nD Cert.MpbIdeal.τ).loc Cert.MpbIdeal.main_arg5) = m ((c.tc : Thread Cert.MpbIdeal.nD Cert.MpbIdeal.τ).loc Cert.MpbIdeal.main_arg5)
      ∧ r.2.mem ((c.tc : Thread Cert.MpbIdeal.nD Cert.MpbIdeal.τ).loc Cert.MpbIdeal.main_arg6) = m ((c.tc : Thread Cert.MpbIdeal.nD Cert.MpbIdeal.τ).loc Cert.MpbIdeal.main_arg6))
      ∧ r.2.sem = fun _ => 0)

def quiescent_MpbRefIdeal [hMpbRefIdeal : Cert.MpbRefIdeal.Facts] : Prop :=
  ∀ (m : (ℓ : Loc Cert.MpbRefIdeal.nD Cert.MpbRefIdeal.τ Cert.MpbRefIdeal.sig) → Buf (Elt Ideal) ℓ) (g : Dev Cert.MpbRefIdeal.nD → PrngReg), Pre_MpbRefIdeal m →
    θ_run (Cert.MpbRefIdeal.defs (F := Ideal)) (onTc (τ := Cert.MpbRefIdeal.τ) (Cert.MpbRefIdeal.main (F := Ideal))) ⟨m, fun _ => 0, g⟩ (fun r => (∀ c : Dev Cert.MpbRefIdeal.nD,
      r.2.mem ((c.tc : Thread Cert.MpbRefIdeal.nD Cert.MpbRefIdeal.τ).loc Cert.MpbRefIdeal.main_arg0) = m ((c.tc : Thread Cert.MpbRefIdeal.nD Cert.MpbRefIdeal.τ).loc Cert.MpbRefIdeal.main_arg0)
      ∧ r.2.mem ((c.tc : Thread Cert.MpbRefIdeal.nD Cert.MpbRefIdeal.τ).loc Cert.MpbRefIdeal.main_arg1) = m ((c.tc : Thread Cert.MpbRefIdeal.nD Cert.MpbRefIdeal.τ).loc Cert.MpbRefIdeal.main_arg1)
      ∧ r.2.mem ((c.tc : Thread Cert.MpbRefIdeal.nD Cert.MpbRefIdeal.τ).loc Cert.MpbRefIdeal.main_arg2) = m ((c.tc : Thread Cert.MpbRefIdeal.nD Cert.MpbRefIdeal.τ).loc Cert.MpbRefIdeal.main_arg2)
      ∧ r.2.mem ((c.tc : Thread Cert.MpbRefIdeal.nD Cert.MpbRefIdeal.τ).loc Cert.MpbRefIdeal.main_arg3) = m ((c.tc : Thread Cert.MpbRefIdeal.nD Cert.MpbRefIdeal.τ).loc Cert.MpbRefIdeal.main_arg3)
      ∧ r.2.mem ((c.tc : Thread Cert.MpbRefIdeal.nD Cert.MpbRefIdeal.τ).loc Cert.MpbRefIdeal.main_arg4) = m ((c.tc : Thread Cert.MpbRefIdeal.nD Cert.MpbRefIdeal.τ).loc Cert.MpbRefIdeal.main_arg4)
      ∧ r.2.mem ((c.tc : Thread Cert.MpbRefIdeal.nD Cert.MpbRefIdeal.τ).loc Cert.MpbRefIdeal.main_arg5) = m ((c.tc : Thread Cert.MpbRefIdeal.nD Cert.MpbRefIdeal.τ).loc Cert.MpbRefIdeal.main_arg5)
      ∧ r.2.mem ((c.tc : Thread Cert.MpbRefIdeal.nD Cert.MpbRefIdeal.τ).loc Cert.MpbRefIdeal.main_arg6) = m ((c.tc : Thread Cert.MpbRefIdeal.nD Cert.MpbRefIdeal.τ).loc Cert.MpbRefIdeal.main_arg6))
      ∧ r.2.sem = fun _ => 0)

def quiescent_MpbRefIdeal_pre_finite_mpb [hMpbRefIdeal : Cert.MpbRefIdeal.Facts] [hPre_finite_mpb : Cert.Pre_finite_mpb.Facts] : Prop :=
  ∀ (m : (ℓ : Loc Cert.MpbRefIdeal.nD Cert.MpbRefIdeal.τ Cert.MpbRefIdeal.sig) → Buf (Elt Ideal) ℓ) (g : Dev Cert.MpbRefIdeal.nD → PrngReg), Pre_MpbRefIdeal_finite_mpb m →
    θ_run (Cert.MpbRefIdeal.defs (F := Ideal)) (onTc (τ := Cert.MpbRefIdeal.τ) (Cert.MpbRefIdeal.main (F := Ideal))) ⟨m, fun _ => 0, g⟩ (fun r => (∀ c : Dev Cert.MpbRefIdeal.nD,
      r.2.mem ((c.tc : Thread Cert.MpbRefIdeal.nD Cert.MpbRefIdeal.τ).loc Cert.MpbRefIdeal.main_arg0) = m ((c.tc : Thread Cert.MpbRefIdeal.nD Cert.MpbRefIdeal.τ).loc Cert.MpbRefIdeal.main_arg0)
      ∧ r.2.mem ((c.tc : Thread Cert.MpbRefIdeal.nD Cert.MpbRefIdeal.τ).loc Cert.MpbRefIdeal.main_arg1) = m ((c.tc : Thread Cert.MpbRefIdeal.nD Cert.MpbRefIdeal.τ).loc Cert.MpbRefIdeal.main_arg1)
      ∧ r.2.mem ((c.tc : Thread Cert.MpbRefIdeal.nD Cert.MpbRefIdeal.τ).loc Cert.MpbRefIdeal.main_arg2) = m ((c.tc : Thread Cert.MpbRefIdeal.nD Cert.MpbRefIdeal.τ).loc Cert.MpbRefIdeal.main_arg2)
      ∧ r.2.mem ((c.tc : Thread Cert.MpbRefIdeal.nD Cert.MpbRefIdeal.τ).loc Cert.MpbRefIdeal.main_arg3) = m ((c.tc : Thread Cert.MpbRefIdeal.nD Cert.MpbRefIdeal.τ).loc Cert.MpbRefIdeal.main_arg3)
      ∧ r.2.mem ((c.tc : Thread Cert.MpbRefIdeal.nD Cert.MpbRefIdeal.τ).loc Cert.MpbRefIdeal.main_arg4) = m ((c.tc : Thread Cert.MpbRefIdeal.nD Cert.MpbRefIdeal.τ).loc Cert.MpbRefIdeal.main_arg4)
      ∧ r.2.mem ((c.tc : Thread Cert.MpbRefIdeal.nD Cert.MpbRefIdeal.τ).loc Cert.MpbRefIdeal.main_arg5) = m ((c.tc : Thread Cert.MpbRefIdeal.nD Cert.MpbRefIdeal.τ).loc Cert.MpbRefIdeal.main_arg5)
      ∧ r.2.mem ((c.tc : Thread Cert.MpbRefIdeal.nD Cert.MpbRefIdeal.τ).loc Cert.MpbRefIdeal.main_arg6) = m ((c.tc : Thread Cert.MpbRefIdeal.nD Cert.MpbRefIdeal.τ).loc Cert.MpbRefIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_DProj [hDProj : Cert.DProj.Facts] : Prop :=
  ∀ (m : (ℓ : Loc Cert.DProj.nD Cert.DProj.τ Cert.DProj.sig) → Buf (Elt Bits) ℓ) (g : Dev Cert.DProj.nD → PrngReg), Pre_DProj m →
    θ_run (Cert.DProj.defs (F := Bits)) (onTc (τ := Cert.DProj.τ) (Cert.DProj.main (F := Bits))) ⟨m, fun _ => 0, g⟩ (fun r => (∀ c : Dev Cert.DProj.nD,
      r.2.mem ((c.tc : Thread Cert.DProj.nD Cert.DProj.τ).loc Cert.DProj.main_arg0) = m ((c.tc : Thread Cert.DProj.nD Cert.DProj.τ).loc Cert.DProj.main_arg0)
      ∧ r.2.mem ((c.tc : Thread Cert.DProj.nD Cert.DProj.τ).loc Cert.DProj.main_arg1) = m ((c.tc : Thread Cert.DProj.nD Cert.DProj.τ).loc Cert.DProj.main_arg1)
      ∧ r.2.mem ((c.tc : Thread Cert.DProj.nD Cert.DProj.τ).loc Cert.DProj.main_arg2) = m ((c.tc : Thread Cert.DProj.nD Cert.DProj.τ).loc Cert.DProj.main_arg2)
      ∧ r.2.mem ((c.tc : Thread Cert.DProj.nD Cert.DProj.τ).loc Cert.DProj.main_arg3) = m ((c.tc : Thread Cert.DProj.nD Cert.DProj.τ).loc Cert.DProj.main_arg3)
      ∧ r.2.mem ((c.tc : Thread Cert.DProj.nD Cert.DProj.τ).loc Cert.DProj.main_arg4) = m ((c.tc : Thread Cert.DProj.nD Cert.DProj.τ).loc Cert.DProj.main_arg4)
      ∧ r.2.mem ((c.tc : Thread Cert.DProj.nD Cert.DProj.τ).loc Cert.DProj.main_arg5) = m ((c.tc : Thread Cert.DProj.nD Cert.DProj.τ).loc Cert.DProj.main_arg5)
      ∧ r.2.mem ((c.tc : Thread Cert.DProj.nD Cert.DProj.τ).loc Cert.DProj.main_arg6) = m ((c.tc : Thread Cert.DProj.nD Cert.DProj.τ).loc Cert.DProj.main_arg6)
      ∧ r.2.mem ((c.tc : Thread Cert.DProj.nD Cert.DProj.τ).loc Cert.DProj.main_arg7) = m ((c.tc : Thread Cert.DProj.nD Cert.DProj.τ).loc Cert.DProj.main_arg7)
      ∧ r.2.mem ((c.tc : Thread Cert.DProj.nD Cert.DProj.τ).loc Cert.DProj.main_arg8) = m ((c.tc : Thread Cert.DProj.nD Cert.DProj.τ).loc Cert.DProj.main_arg8)
      ∧ r.2.mem ((c.tc : Thread Cert.DProj.nD Cert.DProj.τ).loc Cert.DProj.main_arg9) = m ((c.tc : Thread Cert.DProj.nD Cert.DProj.τ).loc Cert.DProj.main_arg9)
      ∧ r.2.mem ((c.tc : Thread Cert.DProj.nD Cert.DProj.τ).loc Cert.DProj.main_arg10) = m ((c.tc : Thread Cert.DProj.nD Cert.DProj.τ).loc Cert.DProj.main_arg10)
      ∧ r.2.mem ((c.tc : Thread Cert.DProj.nD Cert.DProj.τ).loc Cert.DProj.main_arg11) = m ((c.tc : Thread Cert.DProj.nD Cert.DProj.τ).loc Cert.DProj.main_arg11)
      ∧ r.2.mem ((c.tc : Thread Cert.DProj.nD Cert.DProj.τ).loc Cert.DProj.main_arg12) = m ((c.tc : Thread Cert.DProj.nD Cert.DProj.τ).loc Cert.DProj.main_arg12)
      ∧ r.2.mem ((c.tc : Thread Cert.DProj.nD Cert.DProj.τ).loc Cert.DProj.main_arg13) = m ((c.tc : Thread Cert.DProj.nD Cert.DProj.τ).loc Cert.DProj.main_arg13)
      ∧ r.2.mem ((c.tc : Thread Cert.DProj.nD Cert.DProj.τ).loc Cert.DProj.main_arg14) = m ((c.tc : Thread Cert.DProj.nD Cert.DProj.τ).loc Cert.DProj.main_arg14))
      ∧ r.2.sem = fun _ => 0)

def quiescent_DProjIdeal [hDProjIdeal : Cert.DProjIdeal.Facts] : Prop :=
  ∀ (m : (ℓ : Loc Cert.DProjIdeal.nD Cert.DProjIdeal.τ Cert.DProjIdeal.sig) → Buf (Elt Ideal) ℓ) (g : Dev Cert.DProjIdeal.nD → PrngReg), Pre_DProjIdeal m →
    θ_run (Cert.DProjIdeal.defs (F := Ideal)) (onTc (τ := Cert.DProjIdeal.τ) (Cert.DProjIdeal.main (F := Ideal))) ⟨m, fun _ => 0, g⟩ (fun r => (∀ c : Dev Cert.DProjIdeal.nD,
      r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
      ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1)
      ∧ r.2.mem ((c.tc : Thread Cert.DProjIdeal.nD Cert.DProjIdeal.τ).loc Cert.DProjIdeal.main_arg2) = m ((c.tc : Thread Cert.DProjIdeal.nD Cert.DProjIdeal.τ).loc Cert.DProjIdeal.main_arg2)
      ∧ r.2.mem ((c.tc : Thread Cert.DProjIdeal.nD Cert.DProjIdeal.τ).loc Cert.DProjIdeal.main_arg3) = m ((c.tc : Thread Cert.DProjIdeal.nD Cert.DProjIdeal.τ).loc Cert.DProjIdeal.main_arg3)
      ∧ r.2.mem ((c.tc : Thread Cert.DProjIdeal.nD Cert.DProjIdeal.τ).loc Cert.DProjIdeal.main_arg4) = m ((c.tc : Thread Cert.DProjIdeal.nD Cert.DProjIdeal.τ).loc Cert.DProjIdeal.main_arg4)
      ∧ r.2.mem ((c.tc : Thread Cert.DProjIdeal.nD Cert.DProjIdeal.τ).loc Cert.DProjIdeal.main_arg5) = m ((c.tc : Thread Cert.DProjIdeal.nD Cert.DProjIdeal.τ).loc Cert.DProjIdeal.main_arg5)
      ∧ r.2.mem ((c.tc : Thread Cert.DProjIdeal.nD Cert.DProjIdeal.τ).loc Cert.DProjIdeal.main_arg6) = m ((c.tc : Thread Cert.DProjIdeal.nD Cert.DProjIdeal.τ).loc Cert.DProjIdeal.main_arg6)
      ∧ r.2.mem ((c.tc : Thread Cert.DProjIdeal.nD Cert.DProjIdeal.τ).loc Cert.DProjIdeal.main_arg7) = m ((c.tc : Thread Cert.DProjIdeal.nD Cert.DProjIdeal.τ).loc Cert.DProjIdeal.main_arg7)
      ∧ r.2.mem ((c.tc : Thread Cert.DProjIdeal.nD Cert.DProjIdeal.τ).loc Cert.DProjIdeal.main_arg8) = m ((c.tc : Thread Cert.DProjIdeal.nD Cert.DProjIdeal.τ).loc Cert.DProjIdeal.main_arg8)
      ∧ r.2.mem ((c.tc : Thread Cert.DProjIdeal.nD Cert.DProjIdeal.τ).loc Cert.DProjIdeal.main_arg9) = m ((c.tc : Thread Cert.DProjIdeal.nD Cert.DProjIdeal.τ).loc Cert.DProjIdeal.main_arg9)
      ∧ r.2.mem ((c.tc : Thread Cert.DProjIdeal.nD Cert.DProjIdeal.τ).loc Cert.DProjIdeal.main_arg10) = m ((c.tc : Thread Cert.DProjIdeal.nD Cert.DProjIdeal.τ).loc Cert.DProjIdeal.main_arg10)
      ∧ r.2.mem ((c.tc : Thread Cert.DProjIdeal.nD Cert.DProjIdeal.τ).loc Cert.DProjIdeal.main_arg11) = m ((c.tc : Thread Cert.DProjIdeal.nD Cert.DProjIdeal.τ).loc Cert.DProjIdeal.main_arg11)
      ∧ r.2.mem ((c.tc : Thread Cert.DProjIdeal.nD Cert.DProjIdeal.τ).loc Cert.DProjIdeal.main_arg12) = m ((c.tc : Thread Cert.DProjIdeal.nD Cert.DProjIdeal.τ).loc Cert.DProjIdeal.main_arg12)
      ∧ r.2.mem ((c.tc : Thread Cert.DProjIdeal.nD Cert.DProjIdeal.τ).loc Cert.DProjIdeal.main_arg13) = m ((c.tc : Thread Cert.DProjIdeal.nD Cert.DProjIdeal.τ).loc Cert.DProjIdeal.main_arg13)
      ∧ r.2.mem ((c.tc : Thread Cert.DProjIdeal.nD Cert.DProjIdeal.τ).loc Cert.DProjIdeal.main_arg14) = m ((c.tc : Thread Cert.DProjIdeal.nD Cert.DProjIdeal.τ).loc Cert.DProjIdeal.main_arg14))
      ∧ r.2.sem = fun _ => 0)

def quiescent_DProjIdeal_pre_finite_dproj [hDProjIdeal : Cert.DProjIdeal.Facts] [hPre_finite_dproj : Cert.Pre_finite_dproj.Facts] : Prop :=
  ∀ (m : (ℓ : Loc Cert.DProjIdeal.nD Cert.DProjIdeal.τ Cert.DProjIdeal.sig) → Buf (Elt Ideal) ℓ) (g : Dev Cert.DProjIdeal.nD → PrngReg), Pre_DProjIdeal_finite_dproj m →
    θ_run (Cert.DProjIdeal.defs (F := Ideal)) (onTc (τ := Cert.DProjIdeal.τ) (Cert.DProjIdeal.main (F := Ideal))) ⟨m, fun _ => 0, g⟩ (fun r => (∀ c : Dev Cert.DProjIdeal.nD,
      r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
      ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1)
      ∧ r.2.mem ((c.tc : Thread Cert.DProjIdeal.nD Cert.DProjIdeal.τ).loc Cert.DProjIdeal.main_arg2) = m ((c.tc : Thread Cert.DProjIdeal.nD Cert.DProjIdeal.τ).loc Cert.DProjIdeal.main_arg2)
      ∧ r.2.mem ((c.tc : Thread Cert.DProjIdeal.nD Cert.DProjIdeal.τ).loc Cert.DProjIdeal.main_arg3) = m ((c.tc : Thread Cert.DProjIdeal.nD Cert.DProjIdeal.τ).loc Cert.DProjIdeal.main_arg3)
      ∧ r.2.mem ((c.tc : Thread Cert.DProjIdeal.nD Cert.DProjIdeal.τ).loc Cert.DProjIdeal.main_arg4) = m ((c.tc : Thread Cert.DProjIdeal.nD Cert.DProjIdeal.τ).loc Cert.DProjIdeal.main_arg4)
      ∧ r.2.mem ((c.tc : Thread Cert.DProjIdeal.nD Cert.DProjIdeal.τ).loc Cert.DProjIdeal.main_arg5) = m ((c.tc : Thread Cert.DProjIdeal.nD Cert.DProjIdeal.τ).loc Cert.DProjIdeal.main_arg5)
      ∧ r.2.mem ((c.tc : Thread Cert.DProjIdeal.nD Cert.DProjIdeal.τ).loc Cert.DProjIdeal.main_arg6) = m ((c.tc : Thread Cert.DProjIdeal.nD Cert.DProjIdeal.τ).loc Cert.DProjIdeal.main_arg6)
      ∧ r.2.mem ((c.tc : Thread Cert.DProjIdeal.nD Cert.DProjIdeal.τ).loc Cert.DProjIdeal.main_arg7) = m ((c.tc : Thread Cert.DProjIdeal.nD Cert.DProjIdeal.τ).loc Cert.DProjIdeal.main_arg7)
      ∧ r.2.mem ((c.tc : Thread Cert.DProjIdeal.nD Cert.DProjIdeal.τ).loc Cert.DProjIdeal.main_arg8) = m ((c.tc : Thread Cert.DProjIdeal.nD Cert.DProjIdeal.τ).loc Cert.DProjIdeal.main_arg8)
      ∧ r.2.mem ((c.tc : Thread Cert.DProjIdeal.nD Cert.DProjIdeal.τ).loc Cert.DProjIdeal.main_arg9) = m ((c.tc : Thread Cert.DProjIdeal.nD Cert.DProjIdeal.τ).loc Cert.DProjIdeal.main_arg9)
      ∧ r.2.mem ((c.tc : Thread Cert.DProjIdeal.nD Cert.DProjIdeal.τ).loc Cert.DProjIdeal.main_arg10) = m ((c.tc : Thread Cert.DProjIdeal.nD Cert.DProjIdeal.τ).loc Cert.DProjIdeal.main_arg10)
      ∧ r.2.mem ((c.tc : Thread Cert.DProjIdeal.nD Cert.DProjIdeal.τ).loc Cert.DProjIdeal.main_arg11) = m ((c.tc : Thread Cert.DProjIdeal.nD Cert.DProjIdeal.τ).loc Cert.DProjIdeal.main_arg11)
      ∧ r.2.mem ((c.tc : Thread Cert.DProjIdeal.nD Cert.DProjIdeal.τ).loc Cert.DProjIdeal.main_arg12) = m ((c.tc : Thread Cert.DProjIdeal.nD Cert.DProjIdeal.τ).loc Cert.DProjIdeal.main_arg12)
      ∧ r.2.mem ((c.tc : Thread Cert.DProjIdeal.nD Cert.DProjIdeal.τ).loc Cert.DProjIdeal.main_arg13) = m ((c.tc : Thread Cert.DProjIdeal.nD Cert.DProjIdeal.τ).loc Cert.DProjIdeal.main_arg13)
      ∧ r.2.mem ((c.tc : Thread Cert.DProjIdeal.nD Cert.DProjIdeal.τ).loc Cert.DProjIdeal.main_arg14) = m ((c.tc : Thread Cert.DProjIdeal.nD Cert.DProjIdeal.τ).loc Cert.DProjIdeal.main_arg14))
      ∧ r.2.sem = fun _ => 0)

def quiescent_DProjRefIdeal [hDProjRefIdeal : Cert.DProjRefIdeal.Facts] : Prop :=
  ∀ (m : (ℓ : Loc Cert.DProjRefIdeal.nD Cert.DProjRefIdeal.τ Cert.DProjRefIdeal.sig) → Buf (Elt Ideal) ℓ) (g : Dev Cert.DProjRefIdeal.nD → PrngReg), Pre_DProjRefIdeal m →
    θ_run (Cert.DProjRefIdeal.defs (F := Ideal)) (onTc (τ := Cert.DProjRefIdeal.τ) (Cert.DProjRefIdeal.main (F := Ideal))) ⟨m, fun _ => 0, g⟩ (fun r => (∀ c : Dev Cert.DProjRefIdeal.nD,
      r.2.mem ((c.tc : Thread Cert.DProjRefIdeal.nD Cert.DProjRefIdeal.τ).loc Cert.DProjRefIdeal.main_arg0) = m ((c.tc : Thread Cert.DProjRefIdeal.nD Cert.DProjRefIdeal.τ).loc Cert.DProjRefIdeal.main_arg0)
      ∧ r.2.mem ((c.tc : Thread Cert.DProjRefIdeal.nD Cert.DProjRefIdeal.τ).loc Cert.DProjRefIdeal.main_arg1) = m ((c.tc : Thread Cert.DProjRefIdeal.nD Cert.DProjRefIdeal.τ).loc Cert.DProjRefIdeal.main_arg1)
      ∧ r.2.mem ((c.tc : Thread Cert.DProjRefIdeal.nD Cert.DProjRefIdeal.τ).loc Cert.DProjRefIdeal.main_arg2) = m ((c.tc : Thread Cert.DProjRefIdeal.nD Cert.DProjRefIdeal.τ).loc Cert.DProjRefIdeal.main_arg2)
      ∧ r.2.mem ((c.tc : Thread Cert.DProjRefIdeal.nD Cert.DProjRefIdeal.τ).loc Cert.DProjRefIdeal.main_arg3) = m ((c.tc : Thread Cert.DProjRefIdeal.nD Cert.DProjRefIdeal.τ).loc Cert.DProjRefIdeal.main_arg3)
      ∧ r.2.mem ((c.tc : Thread Cert.DProjRefIdeal.nD Cert.DProjRefIdeal.τ).loc Cert.DProjRefIdeal.main_arg4) = m ((c.tc : Thread Cert.DProjRefIdeal.nD Cert.DProjRefIdeal.τ).loc Cert.DProjRefIdeal.main_arg4)
      ∧ r.2.mem ((c.tc : Thread Cert.DProjRefIdeal.nD Cert.DProjRefIdeal.τ).loc Cert.DProjRefIdeal.main_arg5) = m ((c.tc : Thread Cert.DProjRefIdeal.nD Cert.DProjRefIdeal.τ).loc Cert.DProjRefIdeal.main_arg5)
      ∧ r.2.mem ((c.tc : Thread Cert.DProjRefIdeal.nD Cert.DProjRefIdeal.τ).loc Cert.DProjRefIdeal.main_arg6) = m ((c.tc : Thread Cert.DProjRefIdeal.nD Cert.DProjRefIdeal.τ).loc Cert.DProjRefIdeal.main_arg6)
      ∧ r.2.mem ((c.tc : Thread Cert.DProjRefIdeal.nD Cert.DProjRefIdeal.τ).loc Cert.DProjRefIdeal.main_arg7) = m ((c.tc : Thread Cert.DProjRefIdeal.nD Cert.DProjRefIdeal.τ).loc Cert.DProjRefIdeal.main_arg7)
      ∧ r.2.mem ((c.tc : Thread Cert.DProjRefIdeal.nD Cert.DProjRefIdeal.τ).loc Cert.DProjRefIdeal.main_arg8) = m ((c.tc : Thread Cert.DProjRefIdeal.nD Cert.DProjRefIdeal.τ).loc Cert.DProjRefIdeal.main_arg8)
      ∧ r.2.mem ((c.tc : Thread Cert.DProjRefIdeal.nD Cert.DProjRefIdeal.τ).loc Cert.DProjRefIdeal.main_arg9) = m ((c.tc : Thread Cert.DProjRefIdeal.nD Cert.DProjRefIdeal.τ).loc Cert.DProjRefIdeal.main_arg9)
      ∧ r.2.mem ((c.tc : Thread Cert.DProjRefIdeal.nD Cert.DProjRefIdeal.τ).loc Cert.DProjRefIdeal.main_arg10) = m ((c.tc : Thread Cert.DProjRefIdeal.nD Cert.DProjRefIdeal.τ).loc Cert.DProjRefIdeal.main_arg10)
      ∧ r.2.mem ((c.tc : Thread Cert.DProjRefIdeal.nD Cert.DProjRefIdeal.τ).loc Cert.DProjRefIdeal.main_arg11) = m ((c.tc : Thread Cert.DProjRefIdeal.nD Cert.DProjRefIdeal.τ).loc Cert.DProjRefIdeal.main_arg11)
      ∧ r.2.mem ((c.tc : Thread Cert.DProjRefIdeal.nD Cert.DProjRefIdeal.τ).loc Cert.DProjRefIdeal.main_arg12) = m ((c.tc : Thread Cert.DProjRefIdeal.nD Cert.DProjRefIdeal.τ).loc Cert.DProjRefIdeal.main_arg12)
      ∧ r.2.mem ((c.tc : Thread Cert.DProjRefIdeal.nD Cert.DProjRefIdeal.τ).loc Cert.DProjRefIdeal.main_arg13) = m ((c.tc : Thread Cert.DProjRefIdeal.nD Cert.DProjRefIdeal.τ).loc Cert.DProjRefIdeal.main_arg13)
      ∧ r.2.mem ((c.tc : Thread Cert.DProjRefIdeal.nD Cert.DProjRefIdeal.τ).loc Cert.DProjRefIdeal.main_arg14) = m ((c.tc : Thread Cert.DProjRefIdeal.nD Cert.DProjRefIdeal.τ).loc Cert.DProjRefIdeal.main_arg14))
      ∧ r.2.sem = fun _ => 0)

def quiescent_DProjRefIdeal_pre_finite_dproj [hDProjRefIdeal : Cert.DProjRefIdeal.Facts] [hPre_finite_dproj : Cert.Pre_finite_dproj.Facts] : Prop :=
  ∀ (m : (ℓ : Loc Cert.DProjRefIdeal.nD Cert.DProjRefIdeal.τ Cert.DProjRefIdeal.sig) → Buf (Elt Ideal) ℓ) (g : Dev Cert.DProjRefIdeal.nD → PrngReg), Pre_DProjRefIdeal_finite_dproj m →
    θ_run (Cert.DProjRefIdeal.defs (F := Ideal)) (onTc (τ := Cert.DProjRefIdeal.τ) (Cert.DProjRefIdeal.main (F := Ideal))) ⟨m, fun _ => 0, g⟩ (fun r => (∀ c : Dev Cert.DProjRefIdeal.nD,
      r.2.mem ((c.tc : Thread Cert.DProjRefIdeal.nD Cert.DProjRefIdeal.τ).loc Cert.DProjRefIdeal.main_arg0) = m ((c.tc : Thread Cert.DProjRefIdeal.nD Cert.DProjRefIdeal.τ).loc Cert.DProjRefIdeal.main_arg0)
      ∧ r.2.mem ((c.tc : Thread Cert.DProjRefIdeal.nD Cert.DProjRefIdeal.τ).loc Cert.DProjRefIdeal.main_arg1) = m ((c.tc : Thread Cert.DProjRefIdeal.nD Cert.DProjRefIdeal.τ).loc Cert.DProjRefIdeal.main_arg1)
      ∧ r.2.mem ((c.tc : Thread Cert.DProjRefIdeal.nD Cert.DProjRefIdeal.τ).loc Cert.DProjRefIdeal.main_arg2) = m ((c.tc : Thread Cert.DProjRefIdeal.nD Cert.DProjRefIdeal.τ).loc Cert.DProjRefIdeal.main_arg2)
      ∧ r.2.mem ((c.tc : Thread Cert.DProjRefIdeal.nD Cert.DProjRefIdeal.τ).loc Cert.DProjRefIdeal.main_arg3) = m ((c.tc : Thread Cert.DProjRefIdeal.nD Cert.DProjRefIdeal.τ).loc Cert.DProjRefIdeal.main_arg3)
      ∧ r.2.mem ((c.tc : Thread Cert.DProjRefIdeal.nD Cert.DProjRefIdeal.τ).loc Cert.DProjRefIdeal.main_arg4) = m ((c.tc : Thread Cert.DProjRefIdeal.nD Cert.DProjRefIdeal.τ).loc Cert.DProjRefIdeal.main_arg4)
      ∧ r.2.mem ((c.tc : Thread Cert.DProjRefIdeal.nD Cert.DProjRefIdeal.τ).loc Cert.DProjRefIdeal.main_arg5) = m ((c.tc : Thread Cert.DProjRefIdeal.nD Cert.DProjRefIdeal.τ).loc Cert.DProjRefIdeal.main_arg5)
      ∧ r.2.mem ((c.tc : Thread Cert.DProjRefIdeal.nD Cert.DProjRefIdeal.τ).loc Cert.DProjRefIdeal.main_arg6) = m ((c.tc : Thread Cert.DProjRefIdeal.nD Cert.DProjRefIdeal.τ).loc Cert.DProjRefIdeal.main_arg6)
      ∧ r.2.mem ((c.tc : Thread Cert.DProjRefIdeal.nD Cert.DProjRefIdeal.τ).loc Cert.DProjRefIdeal.main_arg7) = m ((c.tc : Thread Cert.DProjRefIdeal.nD Cert.DProjRefIdeal.τ).loc Cert.DProjRefIdeal.main_arg7)
      ∧ r.2.mem ((c.tc : Thread Cert.DProjRefIdeal.nD Cert.DProjRefIdeal.τ).loc Cert.DProjRefIdeal.main_arg8) = m ((c.tc : Thread Cert.DProjRefIdeal.nD Cert.DProjRefIdeal.τ).loc Cert.DProjRefIdeal.main_arg8)
      ∧ r.2.mem ((c.tc : Thread Cert.DProjRefIdeal.nD Cert.DProjRefIdeal.τ).loc Cert.DProjRefIdeal.main_arg9) = m ((c.tc : Thread Cert.DProjRefIdeal.nD Cert.DProjRefIdeal.τ).loc Cert.DProjRefIdeal.main_arg9)
      ∧ r.2.mem ((c.tc : Thread Cert.DProjRefIdeal.nD Cert.DProjRefIdeal.τ).loc Cert.DProjRefIdeal.main_arg10) = m ((c.tc : Thread Cert.DProjRefIdeal.nD Cert.DProjRefIdeal.τ).loc Cert.DProjRefIdeal.main_arg10)
      ∧ r.2.mem ((c.tc : Thread Cert.DProjRefIdeal.nD Cert.DProjRefIdeal.τ).loc Cert.DProjRefIdeal.main_arg11) = m ((c.tc : Thread Cert.DProjRefIdeal.nD Cert.DProjRefIdeal.τ).loc Cert.DProjRefIdeal.main_arg11)
      ∧ r.2.mem ((c.tc : Thread Cert.DProjRefIdeal.nD Cert.DProjRefIdeal.τ).loc Cert.DProjRefIdeal.main_arg12) = m ((c.tc : Thread Cert.DProjRefIdeal.nD Cert.DProjRefIdeal.τ).loc Cert.DProjRefIdeal.main_arg12)
      ∧ r.2.mem ((c.tc : Thread Cert.DProjRefIdeal.nD Cert.DProjRefIdeal.τ).loc Cert.DProjRefIdeal.main_arg13) = m ((c.tc : Thread Cert.DProjRefIdeal.nD Cert.DProjRefIdeal.τ).loc Cert.DProjRefIdeal.main_arg13)
      ∧ r.2.mem ((c.tc : Thread Cert.DProjRefIdeal.nD Cert.DProjRefIdeal.τ).loc Cert.DProjRefIdeal.main_arg14) = m ((c.tc : Thread Cert.DProjRefIdeal.nD Cert.DProjRefIdeal.τ).loc Cert.DProjRefIdeal.main_arg14))
      ∧ r.2.sem = fun _ => 0)

def quiescent_Mp [hMp : Cert.Mp.Facts] : Prop :=
  ∀ (m : (ℓ : Loc Cert.Mp.nD Cert.Mp.τ Cert.Mp.sig) → Buf (Elt Bits) ℓ) (g : Dev Cert.Mp.nD → PrngReg), Pre_Mp m →
    θ_run (Cert.Mp.defs (F := Bits)) (onTc (τ := Cert.Mp.τ) (Cert.Mp.main (F := Bits))) ⟨m, fun _ => 0, g⟩ (fun r => (∀ c : Dev Cert.Mp.nD,
      r.2.mem ((c.tc : Thread Cert.Mp.nD Cert.Mp.τ).loc Cert.Mp.main_arg0) = m ((c.tc : Thread Cert.Mp.nD Cert.Mp.τ).loc Cert.Mp.main_arg0)
      ∧ r.2.mem ((c.tc : Thread Cert.Mp.nD Cert.Mp.τ).loc Cert.Mp.main_arg1) = m ((c.tc : Thread Cert.Mp.nD Cert.Mp.τ).loc Cert.Mp.main_arg1)
      ∧ r.2.mem ((c.tc : Thread Cert.Mp.nD Cert.Mp.τ).loc Cert.Mp.main_arg2) = m ((c.tc : Thread Cert.Mp.nD Cert.Mp.τ).loc Cert.Mp.main_arg2)
      ∧ r.2.mem ((c.tc : Thread Cert.Mp.nD Cert.Mp.τ).loc Cert.Mp.main_arg3) = m ((c.tc : Thread Cert.Mp.nD Cert.Mp.τ).loc Cert.Mp.main_arg3)
      ∧ r.2.mem ((c.tc : Thread Cert.Mp.nD Cert.Mp.τ).loc Cert.Mp.main_arg4) = m ((c.tc : Thread Cert.Mp.nD Cert.Mp.τ).loc Cert.Mp.main_arg4))
      ∧ r.2.sem = fun _ => 0)

def quiescent_MpIdeal [hMpIdeal : Cert.MpIdeal.Facts] : Prop :=
  ∀ (m : (ℓ : Loc Cert.MpIdeal.nD Cert.MpIdeal.τ Cert.MpIdeal.sig) → Buf (Elt Ideal) ℓ) (g : Dev Cert.MpIdeal.nD → PrngReg), Pre_MpIdeal m →
    θ_run (Cert.MpIdeal.defs (F := Ideal)) (onTc (τ := Cert.MpIdeal.τ) (Cert.MpIdeal.main (F := Ideal))) ⟨m, fun _ => 0, g⟩ (fun r => (∀ c : Dev Cert.MpIdeal.nD,
      r.2.mem ((c.tc : Thread Cert.MpIdeal.nD Cert.MpIdeal.τ).loc Cert.MpIdeal.main_arg0) = m ((c.tc : Thread Cert.MpIdeal.nD Cert.MpIdeal.τ).loc Cert.MpIdeal.main_arg0)
      ∧ r.2.mem ((c.tc : Thread Cert.MpIdeal.nD Cert.MpIdeal.τ).loc Cert.MpIdeal.main_arg1) = m ((c.tc : Thread Cert.MpIdeal.nD Cert.MpIdeal.τ).loc Cert.MpIdeal.main_arg1)
      ∧ r.2.mem ((c.tc : Thread Cert.MpIdeal.nD Cert.MpIdeal.τ).loc Cert.MpIdeal.main_arg2) = m ((c.tc : Thread Cert.MpIdeal.nD Cert.MpIdeal.τ).loc Cert.MpIdeal.main_arg2)
      ∧ r.2.mem ((c.tc : Thread Cert.MpIdeal.nD Cert.MpIdeal.τ).loc Cert.MpIdeal.main_arg3) = m ((c.tc : Thread Cert.MpIdeal.nD Cert.MpIdeal.τ).loc Cert.MpIdeal.main_arg3)
      ∧ r.2.mem ((c.tc : Thread Cert.MpIdeal.nD Cert.MpIdeal.τ).loc Cert.MpIdeal.main_arg4) = m ((c.tc : Thread Cert.MpIdeal.nD Cert.MpIdeal.τ).loc Cert.MpIdeal.main_arg4))
      ∧ r.2.sem = fun _ => 0)

def quiescent_MpRefIdeal [hMpRefIdeal : Cert.MpRefIdeal.Facts] : Prop :=
  ∀ (m : (ℓ : Loc Cert.MpRefIdeal.nD Cert.MpRefIdeal.τ Cert.MpRefIdeal.sig) → Buf (Elt Ideal) ℓ) (g : Dev Cert.MpRefIdeal.nD → PrngReg), Pre_MpRefIdeal m →
    θ_run (Cert.MpRefIdeal.defs (F := Ideal)) (onTc (τ := Cert.MpRefIdeal.τ) (Cert.MpRefIdeal.main (F := Ideal))) ⟨m, fun _ => 0, g⟩ (fun r => (∀ c : Dev Cert.MpRefIdeal.nD,
      r.2.mem ((c.tc : Thread Cert.MpRefIdeal.nD Cert.MpRefIdeal.τ).loc Cert.MpRefIdeal.main_arg0) = m ((c.tc : Thread Cert.MpRefIdeal.nD Cert.MpRefIdeal.τ).loc Cert.MpRefIdeal.main_arg0)
      ∧ r.2.mem ((c.tc : Thread Cert.MpRefIdeal.nD Cert.MpRefIdeal.τ).loc Cert.MpRefIdeal.main_arg1) = m ((c.tc : Thread Cert.MpRefIdeal.nD Cert.MpRefIdeal.τ).loc Cert.MpRefIdeal.main_arg1)
      ∧ r.2.mem ((c.tc : Thread Cert.MpRefIdeal.nD Cert.MpRefIdeal.τ).loc Cert.MpRefIdeal.main_arg2) = m ((c.tc : Thread Cert.MpRefIdeal.nD Cert.MpRefIdeal.τ).loc Cert.MpRefIdeal.main_arg2)
      ∧ r.2.mem ((c.tc : Thread Cert.MpRefIdeal.nD Cert.MpRefIdeal.τ).loc Cert.MpRefIdeal.main_arg3) = m ((c.tc : Thread Cert.MpRefIdeal.nD Cert.MpRefIdeal.τ).loc Cert.MpRefIdeal.main_arg3)
      ∧ r.2.mem ((c.tc : Thread Cert.MpRefIdeal.nD Cert.MpRefIdeal.τ).loc Cert.MpRefIdeal.main_arg4) = m ((c.tc : Thread Cert.MpRefIdeal.nD Cert.MpRefIdeal.τ).loc Cert.MpRefIdeal.main_arg4))
      ∧ r.2.sem = fun _ => 0)

def quiescent_RetO [hRetO : Cert.RetO.Facts] : Prop :=
  ∀ (m : (ℓ : Loc Cert.RetO.nD Cert.RetO.τ Cert.RetO.sig) → Buf (Elt Bits) ℓ) (g : Dev Cert.RetO.nD → PrngReg), Pre_RetO m →
    θ_run (Cert.RetO.defs (F := Bits)) (onTc (τ := Cert.RetO.τ) (Cert.RetO.main (F := Bits))) ⟨m, fun _ => 0, g⟩ (fun r => (∀ c : Dev Cert.RetO.nD,
      r.2.mem ((c.tc : Thread Cert.RetO.nD Cert.RetO.τ).loc Cert.RetO.main_arg0) = m ((c.tc : Thread Cert.RetO.nD Cert.RetO.τ).loc Cert.RetO.main_arg0)
      ∧ r.2.mem ((c.tc : Thread Cert.RetO.nD Cert.RetO.τ).loc Cert.RetO.main_arg1) = m ((c.tc : Thread Cert.RetO.nD Cert.RetO.τ).loc Cert.RetO.main_arg1)
      ∧ r.2.mem ((c.tc : Thread Cert.RetO.nD Cert.RetO.τ).loc Cert.RetO.main_arg2) = m ((c.tc : Thread Cert.RetO.nD Cert.RetO.τ).loc Cert.RetO.main_arg2)
      ∧ r.2.mem ((c.tc : Thread Cert.RetO.nD Cert.RetO.τ).loc Cert.RetO.main_arg3) = m ((c.tc : Thread Cert.RetO.nD Cert.RetO.τ).loc Cert.RetO.main_arg3))
      ∧ r.2.sem = fun _ => 0)

def quiescent_RetOIdeal [hRetOIdeal : Cert.RetOIdeal.Facts] : Prop :=
  ∀ (m : (ℓ : Loc Cert.RetOIdeal.nD Cert.RetOIdeal.τ Cert.RetOIdeal.sig) → Buf (Elt Ideal) ℓ) (g : Dev Cert.RetOIdeal.nD → PrngReg), Pre_RetOIdeal m →
    θ_run (Cert.RetOIdeal.defs (F := Ideal)) (onTc (τ := Cert.RetOIdeal.τ) (Cert.RetOIdeal.main (F := Ideal))) ⟨m, fun _ => 0, g⟩ (fun r => (∀ c : Dev Cert.RetOIdeal.nD,
      r.2.mem ((c.tc : Thread Cert.RetOIdeal.nD Cert.RetOIdeal.τ).loc Cert.RetOIdeal.main_arg0) = m ((c.tc : Thread Cert.RetOIdeal.nD Cert.RetOIdeal.τ).loc Cert.RetOIdeal.main_arg0)
      ∧ r.2.mem ((c.tc : Thread Cert.RetOIdeal.nD Cert.RetOIdeal.τ).loc Cert.RetOIdeal.main_arg1) = m ((c.tc : Thread Cert.RetOIdeal.nD Cert.RetOIdeal.τ).loc Cert.RetOIdeal.main_arg1)
      ∧ r.2.mem ((c.tc : Thread Cert.RetOIdeal.nD Cert.RetOIdeal.τ).loc Cert.RetOIdeal.main_arg2) = m ((c.tc : Thread Cert.RetOIdeal.nD Cert.RetOIdeal.τ).loc Cert.RetOIdeal.main_arg2)
      ∧ r.2.mem ((c.tc : Thread Cert.RetOIdeal.nD Cert.RetOIdeal.τ).loc Cert.RetOIdeal.main_arg3) = m ((c.tc : Thread Cert.RetOIdeal.nD Cert.RetOIdeal.τ).loc Cert.RetOIdeal.main_arg3))
      ∧ r.2.sem = fun _ => 0)

def quiescent_RetORefIdeal [hRetORefIdeal : Cert.RetORefIdeal.Facts] : Prop :=
  ∀ (m : (ℓ : Loc Cert.RetORefIdeal.nD Cert.RetORefIdeal.τ Cert.RetORefIdeal.sig) → Buf (Elt Ideal) ℓ) (g : Dev Cert.RetORefIdeal.nD → PrngReg), Pre_RetORefIdeal m →
    θ_run (Cert.RetORefIdeal.defs (F := Ideal)) (onTc (τ := Cert.RetORefIdeal.τ) (Cert.RetORefIdeal.main (F := Ideal))) ⟨m, fun _ => 0, g⟩ (fun r => (∀ c : Dev Cert.RetORefIdeal.nD,
      r.2.mem ((c.tc : Thread Cert.RetORefIdeal.nD Cert.RetORefIdeal.τ).loc Cert.RetORefIdeal.main_arg0) = m ((c.tc : Thread Cert.RetORefIdeal.nD Cert.RetORefIdeal.τ).loc Cert.RetORefIdeal.main_arg0)
      ∧ r.2.mem ((c.tc : Thread Cert.RetORefIdeal.nD Cert.RetORefIdeal.τ).loc Cert.RetORefIdeal.main_arg1) = m ((c.tc : Thread Cert.RetORefIdeal.nD Cert.RetORefIdeal.τ).loc Cert.RetORefIdeal.main_arg1)
      ∧ r.2.mem ((c.tc : Thread Cert.RetORefIdeal.nD Cert.RetORefIdeal.τ).loc Cert.RetORefIdeal.main_arg2) = m ((c.tc : Thread Cert.RetORefIdeal.nD Cert.RetORefIdeal.τ).loc Cert.RetORefIdeal.main_arg2)
      ∧ r.2.mem ((c.tc : Thread Cert.RetORefIdeal.nD Cert.RetORefIdeal.τ).loc Cert.RetORefIdeal.main_arg3) = m ((c.tc : Thread Cert.RetORefIdeal.nD Cert.RetORefIdeal.τ).loc Cert.RetORefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_OutP [hOutP : Cert.OutP.Facts] : Prop :=
  ∀ (m : (ℓ : Loc Cert.OutP.nD Cert.OutP.τ Cert.OutP.sig) → Buf (Elt Bits) ℓ) (g : Dev Cert.OutP.nD → PrngReg), Pre_OutP m →
    θ_run (Cert.OutP.defs (F := Bits)) (onTc (τ := Cert.OutP.τ) (Cert.OutP.main (F := Bits))) ⟨m, fun _ => 0, g⟩ (fun r => (∀ c : Dev Cert.OutP.nD,
      r.2.mem ((c.tc : Thread Cert.OutP.nD Cert.OutP.τ).loc Cert.OutP.main_arg0) = m ((c.tc : Thread Cert.OutP.nD Cert.OutP.τ).loc Cert.OutP.main_arg0)
      ∧ r.2.mem ((c.tc : Thread Cert.OutP.nD Cert.OutP.τ).loc Cert.OutP.main_arg1) = m ((c.tc : Thread Cert.OutP.nD Cert.OutP.τ).loc Cert.OutP.main_arg1)
      ∧ r.2.mem ((c.tc : Thread Cert.OutP.nD Cert.OutP.τ).loc Cert.OutP.main_arg2) = m ((c.tc : Thread Cert.OutP.nD Cert.OutP.τ).loc Cert.OutP.main_arg2)
      ∧ r.2.mem ((c.tc : Thread Cert.OutP.nD Cert.OutP.τ).loc Cert.OutP.main_arg3) = m ((c.tc : Thread Cert.OutP.nD Cert.OutP.τ).loc Cert.OutP.main_arg3))
      ∧ r.2.sem = fun _ => 0)

def quiescent_OutPIdeal [hOutPIdeal : Cert.OutPIdeal.Facts] : Prop :=
  ∀ (m : (ℓ : Loc Cert.OutPIdeal.nD Cert.OutPIdeal.τ Cert.OutPIdeal.sig) → Buf (Elt Ideal) ℓ) (g : Dev Cert.OutPIdeal.nD → PrngReg), Pre_OutPIdeal m →
    θ_run (Cert.OutPIdeal.defs (F := Ideal)) (onTc (τ := Cert.OutPIdeal.τ) (Cert.OutPIdeal.main (F := Ideal))) ⟨m, fun _ => 0, g⟩ (fun r => (∀ c : Dev Cert.OutPIdeal.nD,
      r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
      ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1)
      ∧ r.2.mem ((c.tc : Thread Cert.OutPIdeal.nD Cert.OutPIdeal.τ).loc Cert.OutPIdeal.main_arg2) = m ((c.tc : Thread Cert.OutPIdeal.nD Cert.OutPIdeal.τ).loc Cert.OutPIdeal.main_arg2)
      ∧ r.2.mem ((c.tc : Thread Cert.OutPIdeal.nD Cert.OutPIdeal.τ).loc Cert.OutPIdeal.main_arg3) = m ((c.tc : Thread Cert.OutPIdeal.nD Cert.OutPIdeal.τ).loc Cert.OutPIdeal.main_arg3))
      ∧ r.2.sem = fun _ => 0)

def quiescent_OutPRefIdeal [hOutPRefIdeal : Cert.OutPRefIdeal.Facts] : Prop :=
  ∀ (m : (ℓ : Loc Cert.OutPRefIdeal.nD Cert.OutPRefIdeal.τ Cert.OutPRefIdeal.sig) → Buf (Elt Ideal) ℓ) (g : Dev Cert.OutPRefIdeal.nD → PrngReg), Pre_OutPRefIdeal m →
    θ_run (Cert.OutPRefIdeal.defs (F := Ideal)) (onTc (τ := Cert.OutPRefIdeal.τ) (Cert.OutPRefIdeal.main (F := Ideal))) ⟨m, fun _ => 0, g⟩ (fun r => (∀ c : Dev Cert.OutPRefIdeal.nD,
      r.2.mem ((c.tc : Thread Cert.OutPRefIdeal.nD Cert.OutPRefIdeal.τ).loc Cert.OutPRefIdeal.main_arg0) = m ((c.tc : Thread Cert.OutPRefIdeal.nD Cert.OutPRefIdeal.τ).loc Cert.OutPRefIdeal.main_arg0)
      ∧ r.2.mem ((c.tc : Thread Cert.OutPRefIdeal.nD Cert.OutPRefIdeal.τ).loc Cert.OutPRefIdeal.main_arg1) = m ((c.tc : Thread Cert.OutPRefIdeal.nD Cert.OutPRefIdeal.τ).loc Cert.OutPRefIdeal.main_arg1)
      ∧ r.2.mem ((c.tc : Thread Cert.OutPRefIdeal.nD Cert.OutPRefIdeal.τ).loc Cert.OutPRefIdeal.main_arg2) = m ((c.tc : Thread Cert.OutPRefIdeal.nD Cert.OutPRefIdeal.τ).loc Cert.OutPRefIdeal.main_arg2)
      ∧ r.2.mem ((c.tc : Thread Cert.OutPRefIdeal.nD Cert.OutPRefIdeal.τ).loc Cert.OutPRefIdeal.main_arg3) = m ((c.tc : Thread Cert.OutPRefIdeal.nD Cert.OutPRefIdeal.τ).loc Cert.OutPRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvIdeal_pre_finite_qkv [hQkvIdeal : Cert.QkvIdeal.Facts] [hPre_finite_qkv : Cert.Pre_finite_qkv.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_finite_qkv m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_QkvRefIdeal_pre_finite_qkv [hQkvRefIdeal : Cert.QkvRefIdeal.Facts] [hPre_finite_qkv : Cert.Pre_finite_qkv.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_finite_qkv m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def preserves_DU_DUIdeal : Prop :=
  True

def algebraic_DUIdeal_DURefIdeal [hDUIdeal : Cert.DUIdeal.Facts] [hDURefIdeal : Cert.DURefIdeal.Facts] : Prop :=
  ∀ (m : (ℓ : Loc Cert.DUIdeal.nD Cert.DUIdeal.τ Cert.DUIdeal.sig) → Buf (Elt Ideal) ℓ) (g : Dev Cert.DUIdeal.nD → PrngReg)
    (m' : (ℓ : Loc Cert.DURefIdeal.nD Cert.DURefIdeal.τ Cert.DURefIdeal.sig) → Buf (Elt Ideal) ℓ) (g' : Dev Cert.DURefIdeal.nD → PrngReg), Pre_DUIdeal m →
    (∀ c : Dev Cert.DUIdeal.nD,
      m' ((c.tc : Thread Cert.DURefIdeal.nD Cert.DURefIdeal.τ).loc Cert.DURefIdeal.main_arg0) = m ((c.tc : Thread Cert.DUIdeal.nD Cert.DUIdeal.τ).loc Cert.DUIdeal.main_arg0)
      ∧ m' ((c.tc : Thread Cert.DURefIdeal.nD Cert.DURefIdeal.τ).loc Cert.DURefIdeal.main_arg1) = m ((c.tc : Thread Cert.DUIdeal.nD Cert.DUIdeal.τ).loc Cert.DUIdeal.main_arg1)
      ∧ m' ((c.tc : Thread Cert.DURefIdeal.nD Cert.DURefIdeal.τ).loc Cert.DURefIdeal.main_arg2) = m ((c.tc : Thread Cert.DUIdeal.nD Cert.DUIdeal.τ).loc Cert.DUIdeal.main_arg2)
      ∧ m' ((c.tc : Thread Cert.DURefIdeal.nD Cert.DURefIdeal.τ).loc Cert.DURefIdeal.main_arg3) = m ((c.tc : Thread Cert.DUIdeal.nD Cert.DUIdeal.τ).loc Cert.DUIdeal.main_arg3)) →
    ∃ (v0 : (c : Dev Cert.DUIdeal.nD) → Buf (Elt Ideal) ((c.tc : Thread Cert.DUIdeal.nD Cert.DUIdeal.τ).loc Cert.DUIdeal.main_v6)),
      θ_run (Cert.DUIdeal.defs (F := Ideal)) (onTc (τ := Cert.DUIdeal.τ) (Cert.DUIdeal.main (F := Ideal))) ⟨m, fun _ => 0, g⟩ (fun r => ∀ c : Dev Cert.DUIdeal.nD,
          r.2.mem ((c.tc : Thread Cert.DUIdeal.nD Cert.DUIdeal.τ).loc Cert.DUIdeal.main_v6) = v0 c
          ∧ r.2.mem ((c.tc : Thread Cert.DUIdeal.nD Cert.DUIdeal.τ).loc Cert.DUIdeal.main_arg0) = m ((c.tc : Thread Cert.DUIdeal.nD Cert.DUIdeal.τ).loc Cert.DUIdeal.main_arg0)
          ∧ r.2.mem ((c.tc : Thread Cert.DUIdeal.nD Cert.DUIdeal.τ).loc Cert.DUIdeal.main_arg1) = m ((c.tc : Thread Cert.DUIdeal.nD Cert.DUIdeal.τ).loc Cert.DUIdeal.main_arg1)
          ∧ r.2.mem ((c.tc : Thread Cert.DUIdeal.nD Cert.DUIdeal.τ).loc Cert.DUIdeal.main_arg2) = m ((c.tc : Thread Cert.DUIdeal.nD Cert.DUIdeal.τ).loc Cert.DUIdeal.main_arg2)
          ∧ r.2.mem ((c.tc : Thread Cert.DUIdeal.nD Cert.DUIdeal.τ).loc Cert.DUIdeal.main_arg3) = m ((c.tc : Thread Cert.DUIdeal.nD Cert.DUIdeal.τ).loc Cert.DUIdeal.main_arg3))
      ∧ θ_run (Cert.DURefIdeal.defs (F := Ideal)) (onTc (τ := Cert.DURefIdeal.τ) (Cert.DURefIdeal.main (F := Ideal))) ⟨m', fun _ => 0, g'⟩ (fun r => ∀ c : Dev Cert.DURefIdeal.nD,
          r.2.mem ((c.tc : Thread Cert.DURefIdeal.nD Cert.DURefIdeal.τ).loc Cert.DURefIdeal.main_v13) = v0 c
          ∧ r.2.mem ((c.tc : Thread Cert.DURefIdeal.nD Cert.DURefIdeal.τ).loc Cert.DURefIdeal.main_arg0) = m' ((c.tc : Thread Cert.DURefIdeal.nD Cert.DURefIdeal.τ).loc Cert.DURefIdeal.main_arg0)
          ∧ r.2.mem ((c.tc : Thread Cert.DURefIdeal.nD Cert.DURefIdeal.τ).loc Cert.DURefIdeal.main_arg1) = m' ((c.tc : Thread Cert.DURefIdeal.nD Cert.DURefIdeal.τ).loc Cert.DURefIdeal.main_arg1)
          ∧ r.2.mem ((c.tc : Thread Cert.DURefIdeal.nD Cert.DURefIdeal.τ).loc Cert.DURefIdeal.main_arg2) = m' ((c.tc : Thread Cert.DURefIdeal.nD Cert.DURefIdeal.τ).loc Cert.DURefIdeal.main_arg2)
          ∧ r.2.mem ((c.tc : Thread Cert.DURefIdeal.nD Cert.DURefIdeal.τ).loc Cert.DURefIdeal.main_arg3) = m' ((c.tc : Thread Cert.DURefIdeal.nD Cert.DURefIdeal.τ).loc Cert.DURefIdeal.main_arg3))

def preserves_DM_DMIdeal : Prop :=
  True

def algebraic_DMIdeal_DMRefIdeal [hDMIdeal : Cert.DMIdeal.Facts] [hDMRefIdeal : Cert.DMRefIdeal.Facts] : Prop :=
  ∀ (m : (ℓ : Loc Cert.DMIdeal.nD Cert.DMIdeal.τ Cert.DMIdeal.sig) → Buf (Elt Ideal) ℓ) (g : Dev Cert.DMIdeal.nD → PrngReg)
    (m' : (ℓ : Loc Cert.DMRefIdeal.nD Cert.DMRefIdeal.τ Cert.DMRefIdeal.sig) → Buf (Elt Ideal) ℓ) (g' : Dev Cert.DMRefIdeal.nD → PrngReg), Pre_DMIdeal m →
    (∀ c : Dev Cert.DMIdeal.nD,
      m' ((c.tc : Thread Cert.DMRefIdeal.nD Cert.DMRefIdeal.τ).loc Cert.DMRefIdeal.main_arg0) = m ((c.tc : Thread Cert.DMIdeal.nD Cert.DMIdeal.τ).loc Cert.DMIdeal.main_arg0)
      ∧ m' ((c.tc : Thread Cert.DMRefIdeal.nD Cert.DMRefIdeal.τ).loc Cert.DMRefIdeal.main_arg1) = m ((c.tc : Thread Cert.DMIdeal.nD Cert.DMIdeal.τ).loc Cert.DMIdeal.main_arg1)
      ∧ m' ((c.tc : Thread Cert.DMRefIdeal.nD Cert.DMRefIdeal.τ).loc Cert.DMRefIdeal.main_arg2) = m ((c.tc : Thread Cert.DMIdeal.nD Cert.DMIdeal.τ).loc Cert.DMIdeal.main_arg2)
      ∧ m' ((c.tc : Thread Cert.DMRefIdeal.nD Cert.DMRefIdeal.τ).loc Cert.DMRefIdeal.main_arg3) = m ((c.tc : Thread Cert.DMIdeal.nD Cert.DMIdeal.τ).loc Cert.DMIdeal.main_arg3)
      ∧ m' ((c.tc : Thread Cert.DMRefIdeal.nD Cert.DMRefIdeal.τ).loc Cert.DMRefIdeal.main_arg4) = m ((c.tc : Thread Cert.DMIdeal.nD Cert.DMIdeal.τ).loc Cert.DMIdeal.main_arg4)) →
    ∃ (v0 : (c : Dev Cert.DMIdeal.nD) → Buf (Elt Ideal) ((c.tc : Thread Cert.DMIdeal.nD Cert.DMIdeal.τ).loc Cert.DMIdeal.main_v5_0)) (v1 : (c : Dev Cert.DMIdeal.nD) → Buf (Elt Ideal) ((c.tc : Thread Cert.DMIdeal.nD Cert.DMIdeal.τ).loc Cert.DMIdeal.main_v5_1)) (v2 : (c : Dev Cert.DMIdeal.nD) → Buf (Elt Ideal) ((c.tc : Thread Cert.DMIdeal.nD Cert.DMIdeal.τ).loc Cert.DMIdeal.main_v5_2)) (v3 : (c : Dev Cert.DMIdeal.nD) → Buf (Elt Ideal) ((c.tc : Thread Cert.DMIdeal.nD Cert.DMIdeal.τ).loc Cert.DMIdeal.main_v5_3)),
      θ_run (Cert.DMIdeal.defs (F := Ideal)) (onTc (τ := Cert.DMIdeal.τ) (Cert.DMIdeal.main (F := Ideal))) ⟨m, fun _ => 0, g⟩ (fun r => ∀ c : Dev Cert.DMIdeal.nD,
          r.2.mem ((c.tc : Thread Cert.DMIdeal.nD Cert.DMIdeal.τ).loc Cert.DMIdeal.main_v5_0) = v0 c
          ∧ r.2.mem ((c.tc : Thread Cert.DMIdeal.nD Cert.DMIdeal.τ).loc Cert.DMIdeal.main_v5_1) = v1 c
          ∧ r.2.mem ((c.tc : Thread Cert.DMIdeal.nD Cert.DMIdeal.τ).loc Cert.DMIdeal.main_v5_2) = v2 c
          ∧ r.2.mem ((c.tc : Thread Cert.DMIdeal.nD Cert.DMIdeal.τ).loc Cert.DMIdeal.main_v5_3) = v3 c
          ∧ r.2.mem ((c.tc : Thread Cert.DMIdeal.nD Cert.DMIdeal.τ).loc Cert.DMIdeal.main_arg0) = m ((c.tc : Thread Cert.DMIdeal.nD Cert.DMIdeal.τ).loc Cert.DMIdeal.main_arg0)
          ∧ r.2.mem ((c.tc : Thread Cert.DMIdeal.nD Cert.DMIdeal.τ).loc Cert.DMIdeal.main_arg1) = m ((c.tc : Thread Cert.DMIdeal.nD Cert.DMIdeal.τ).loc Cert.DMIdeal.main_arg1)
          ∧ r.2.mem ((c.tc : Thread Cert.DMIdeal.nD Cert.DMIdeal.τ).loc Cert.DMIdeal.main_arg2) = m ((c.tc : Thread Cert.DMIdeal.nD Cert.DMIdeal.τ).loc Cert.DMIdeal.main_arg2)
          ∧ r.2.mem ((c.tc : Thread Cert.DMIdeal.nD Cert.DMIdeal.τ).loc Cert.DMIdeal.main_arg3) = m ((c.tc : Thread Cert.DMIdeal.nD Cert.DMIdeal.τ).loc Cert.DMIdeal.main_arg3)
          ∧ r.2.mem ((c.tc : Thread Cert.DMIdeal.nD Cert.DMIdeal.τ).loc Cert.DMIdeal.main_arg4) = m ((c.tc : Thread Cert.DMIdeal.nD Cert.DMIdeal.τ).loc Cert.DMIdeal.main_arg4))
      ∧ θ_run (Cert.DMRefIdeal.defs (F := Ideal)) (onTc (τ := Cert.DMRefIdeal.τ) (Cert.DMRefIdeal.main (F := Ideal))) ⟨m', fun _ => 0, g'⟩ (fun r => ∀ c : Dev Cert.DMRefIdeal.nD,
          r.2.mem ((c.tc : Thread Cert.DMRefIdeal.nD Cert.DMRefIdeal.τ).loc Cert.DMRefIdeal.main_v31) = v0 c
          ∧ r.2.mem ((c.tc : Thread Cert.DMRefIdeal.nD Cert.DMRefIdeal.τ).loc Cert.DMRefIdeal.main_v32) = v1 c
          ∧ r.2.mem ((c.tc : Thread Cert.DMRefIdeal.nD Cert.DMRefIdeal.τ).loc Cert.DMRefIdeal.main_v33) = v2 c
          ∧ r.2.mem ((c.tc : Thread Cert.DMRefIdeal.nD Cert.DMRefIdeal.τ).loc Cert.DMRefIdeal.main_v34) = v3 c
          ∧ r.2.mem ((c.tc : Thread Cert.DMRefIdeal.nD Cert.DMRefIdeal.τ).loc Cert.DMRefIdeal.main_arg0) = m' ((c.tc : Thread Cert.DMRefIdeal.nD Cert.DMRefIdeal.τ).loc Cert.DMRefIdeal.main_arg0)
          ∧ r.2.mem ((c.tc : Thread Cert.DMRefIdeal.nD Cert.DMRefIdeal.τ).loc Cert.DMRefIdeal.main_arg1) = m' ((c.tc : Thread Cert.DMRefIdeal.nD Cert.DMRefIdeal.τ).loc Cert.DMRefIdeal.main_arg1)
          ∧ r.2.mem ((c.tc : Thread Cert.DMRefIdeal.nD Cert.DMRefIdeal.τ).loc Cert.DMRefIdeal.main_arg2) = m' ((c.tc : Thread Cert.DMRefIdeal.nD Cert.DMRefIdeal.τ).loc Cert.DMRefIdeal.main_arg2)
          ∧ r.2.mem ((c.tc : Thread Cert.DMRefIdeal.nD Cert.DMRefIdeal.τ).loc Cert.DMRefIdeal.main_arg3) = m' ((c.tc : Thread Cert.DMRefIdeal.nD Cert.DMRefIdeal.τ).loc Cert.DMRefIdeal.main_arg3)
          ∧ r.2.mem ((c.tc : Thread Cert.DMRefIdeal.nD Cert.DMRefIdeal.τ).loc Cert.DMRefIdeal.main_arg4) = m' ((c.tc : Thread Cert.DMRefIdeal.nD Cert.DMRefIdeal.τ).loc Cert.DMRefIdeal.main_arg4))

def preserves_DHp_DHpIdeal : Prop :=
  True

def algebraic_DHpIdeal_DHpRefIdeal_pre_finite_dhp [hDHpIdeal : Cert.DHpIdeal.Facts] [hDHpRefIdeal : Cert.DHpRefIdeal.Facts] [hPre_finite_dhp : Cert.Pre_finite_dhp.Facts] : Prop :=
  ∀ (m : (ℓ : Loc Cert.DHpIdeal.nD Cert.DHpIdeal.τ Cert.DHpIdeal.sig) → Buf (Elt Ideal) ℓ) (g : Dev Cert.DHpIdeal.nD → PrngReg)
    (m' : (ℓ : Loc Cert.DHpRefIdeal.nD Cert.DHpRefIdeal.τ Cert.DHpRefIdeal.sig) → Buf (Elt Ideal) ℓ) (g' : Dev Cert.DHpRefIdeal.nD → PrngReg), Pre_DHpIdeal_finite_dhp m →
    (∀ c : Dev Cert.DHpIdeal.nD,
      m' ((c.tc : Thread Cert.DHpRefIdeal.nD Cert.DHpRefIdeal.τ).loc Cert.DHpRefIdeal.main_arg0) = m ((c.tc : Thread Cert.DHpIdeal.nD Cert.DHpIdeal.τ).loc Cert.DHpIdeal.main_arg0)
      ∧ m' ((c.tc : Thread Cert.DHpRefIdeal.nD Cert.DHpRefIdeal.τ).loc Cert.DHpRefIdeal.main_arg1) = m ((c.tc : Thread Cert.DHpIdeal.nD Cert.DHpIdeal.τ).loc Cert.DHpIdeal.main_arg1)
      ∧ m' ((c.tc : Thread Cert.DHpRefIdeal.nD Cert.DHpRefIdeal.τ).loc Cert.DHpRefIdeal.main_arg2) = m ((c.tc : Thread Cert.DHpIdeal.nD Cert.DHpIdeal.τ).loc Cert.DHpIdeal.main_arg2)
      ∧ m' ((c.tc : Thread Cert.DHpRefIdeal.nD Cert.DHpRefIdeal.τ).loc Cert.DHpRefIdeal.main_arg3) = m ((c.tc : Thread Cert.DHpIdeal.nD Cert.DHpIdeal.τ).loc Cert.DHpIdeal.main_arg3)
      ∧ m' ((c.tc : Thread Cert.DHpRefIdeal.nD Cert.DHpRefIdeal.τ).loc Cert.DHpRefIdeal.main_arg4) = m ((c.tc : Thread Cert.DHpIdeal.nD Cert.DHpIdeal.τ).loc Cert.DHpIdeal.main_arg4)) →
    ∃ (v0 : (c : Dev Cert.DHpIdeal.nD) → Buf (Elt Ideal) ((c.tc : Thread Cert.DHpIdeal.nD Cert.DHpIdeal.τ).loc Cert.DHpIdeal.main_v3_0)) (v1 : (c : Dev Cert.DHpIdeal.nD) → Buf (Elt Ideal) ((c.tc : Thread Cert.DHpIdeal.nD Cert.DHpIdeal.τ).loc Cert.DHpIdeal.main_v3_1)) (v2 : (c : Dev Cert.DHpIdeal.nD) → Buf (Elt Ideal) ((c.tc : Thread Cert.DHpIdeal.nD Cert.DHpIdeal.τ).loc Cert.DHpIdeal.main_v3_2)),
      θ_run (Cert.DHpIdeal.defs (F := Ideal)) (onTc (τ := Cert.DHpIdeal.τ) (Cert.DHpIdeal.main (F := Ideal))) ⟨m, fun _ => 0, g⟩ (fun r => ∀ c : Dev Cert.DHpIdeal.nD,
          r.2.mem ((c.tc : Thread Cert.DHpIdeal.nD Cert.DHpIdeal.τ).loc Cert.DHpIdeal.main_v3_0) = v0 c
          ∧ r.2.mem ((c.tc : Thread Cert.DHpIdeal.nD Cert.DHpIdeal.τ).loc Cert.DHpIdeal.main_v3_1) = v1 c
          ∧ r.2.mem ((c.tc : Thread Cert.DHpIdeal.nD Cert.DHpIdeal.τ).loc Cert.DHpIdeal.main_v3_2) = v2 c
          ∧ r.2.mem ((c.tc : Thread Cert.DHpIdeal.nD Cert.DHpIdeal.τ).loc Cert.DHpIdeal.main_arg0) = m ((c.tc : Thread Cert.DHpIdeal.nD Cert.DHpIdeal.τ).loc Cert.DHpIdeal.main_arg0)
          ∧ r.2.mem ((c.tc : Thread Cert.DHpIdeal.nD Cert.DHpIdeal.τ).loc Cert.DHpIdeal.main_arg1) = m ((c.tc : Thread Cert.DHpIdeal.nD Cert.DHpIdeal.τ).loc Cert.DHpIdeal.main_arg1)
          ∧ r.2.mem ((c.tc : Thread Cert.DHpIdeal.nD Cert.DHpIdeal.τ).loc Cert.DHpIdeal.main_arg2) = m ((c.tc : Thread Cert.DHpIdeal.nD Cert.DHpIdeal.τ).loc Cert.DHpIdeal.main_arg2)
          ∧ r.2.mem ((c.tc : Thread Cert.DHpIdeal.nD Cert.DHpIdeal.τ).loc Cert.DHpIdeal.main_arg3) = m ((c.tc : Thread Cert.DHpIdeal.nD Cert.DHpIdeal.τ).loc Cert.DHpIdeal.main_arg3)
          ∧ r.2.mem ((c.tc : Thread Cert.DHpIdeal.nD Cert.DHpIdeal.τ).loc Cert.DHpIdeal.main_arg4) = m ((c.tc : Thread Cert.DHpIdeal.nD Cert.DHpIdeal.τ).loc Cert.DHpIdeal.main_arg4))
      ∧ θ_run (Cert.DHpRefIdeal.defs (F := Ideal)) (onTc (τ := Cert.DHpRefIdeal.τ) (Cert.DHpRefIdeal.main (F := Ideal))) ⟨m', fun _ => 0, g'⟩ (fun r => ∀ c : Dev Cert.DHpRefIdeal.nD,
          r.2.mem ((c.tc : Thread Cert.DHpRefIdeal.nD Cert.DHpRefIdeal.τ).loc Cert.DHpRefIdeal.main_v38) = v0 c
          ∧ r.2.mem ((c.tc : Thread Cert.DHpRefIdeal.nD Cert.DHpRefIdeal.τ).loc Cert.DHpRefIdeal.main_v39) = v1 c
          ∧ r.2.mem ((c.tc : Thread Cert.DHpRefIdeal.nD Cert.DHpRefIdeal.τ).loc Cert.DHpRefIdeal.main_v42) = v2 c
          ∧ r.2.mem ((c.tc : Thread Cert.DHpRefIdeal.nD Cert.DHpRefIdeal.τ).loc Cert.DHpRefIdeal.main_arg0) = m' ((c.tc : Thread Cert.DHpRefIdeal.nD Cert.DHpRefIdeal.τ).loc Cert.DHpRefIdeal.main_arg0)
          ∧ r.2.mem ((c.tc : Thread Cert.DHpRefIdeal.nD Cert.DHpRefIdeal.τ).loc Cert.DHpRefIdeal.main_arg1) = m' ((c.tc : Thread Cert.DHpRefIdeal.nD Cert.DHpRefIdeal.τ).loc Cert.DHpRefIdeal.main_arg1)
          ∧ r.2.mem ((c.tc : Thread Cert.DHpRefIdeal.nD Cert.DHpRefIdeal.τ).loc Cert.DHpRefIdeal.main_arg2) = m' ((c.tc : Thread Cert.DHpRefIdeal.nD Cert.DHpRefIdeal.τ).loc Cert.DHpRefIdeal.main_arg2)
          ∧ r.2.mem ((c.tc : Thread Cert.DHpRefIdeal.nD Cert.DHpRefIdeal.τ).loc Cert.DHpRefIdeal.main_arg3) = m' ((c.tc : Thread Cert.DHpRefIdeal.nD Cert.DHpRefIdeal.τ).loc Cert.DHpRefIdeal.main_arg3)
          ∧ r.2.mem ((c.tc : Thread Cert.DHpRefIdeal.nD Cert.DHpRefIdeal.τ).loc Cert.DHpRefIdeal.main_arg4) = m' ((c.tc : Thread Cert.DHpRefIdeal.nD Cert.DHpRefIdeal.τ).loc Cert.DHpRefIdeal.main_arg4))

def preserves_DHm_DHmIdeal : Prop :=
  True

def algebraic_DHmIdeal_DHmRefIdeal_pre_finite_dhm [hDHmIdeal : Cert.DHmIdeal.Facts] [hDHmRefIdeal : Cert.DHmRefIdeal.Facts] [hPre_finite_dhm : Cert.Pre_finite_dhm.Facts] : Prop :=
  ∀ (m : (ℓ : Loc Cert.DHmIdeal.nD Cert.DHmIdeal.τ Cert.DHmIdeal.sig) → Buf (Elt Ideal) ℓ) (g : Dev Cert.DHmIdeal.nD → PrngReg)
    (m' : (ℓ : Loc Cert.DHmRefIdeal.nD Cert.DHmRefIdeal.τ Cert.DHmRefIdeal.sig) → Buf (Elt Ideal) ℓ) (g' : Dev Cert.DHmRefIdeal.nD → PrngReg), Pre_DHmIdeal_finite_dhm m →
    (∀ c : Dev Cert.DHmIdeal.nD,
      m' ((c.tc : Thread Cert.DHmRefIdeal.nD Cert.DHmRefIdeal.τ).loc Cert.DHmRefIdeal.main_arg0) = m ((c.tc : Thread Cert.DHmIdeal.nD Cert.DHmIdeal.τ).loc Cert.DHmIdeal.main_arg0)
      ∧ m' ((c.tc : Thread Cert.DHmRefIdeal.nD Cert.DHmRefIdeal.τ).loc Cert.DHmRefIdeal.main_arg1) = m ((c.tc : Thread Cert.DHmIdeal.nD Cert.DHmIdeal.τ).loc Cert.DHmIdeal.main_arg1)
      ∧ m' ((c.tc : Thread Cert.DHmRefIdeal.nD Cert.DHmRefIdeal.τ).loc Cert.DHmRefIdeal.main_arg2) = m ((c.tc : Thread Cert.DHmIdeal.nD Cert.DHmIdeal.τ).loc Cert.DHmIdeal.main_arg2)
      ∧ m' ((c.tc : Thread Cert.DHmRefIdeal.nD Cert.DHmRefIdeal.τ).loc Cert.DHmRefIdeal.main_arg3) = m ((c.tc : Thread Cert.DHmIdeal.nD Cert.DHmIdeal.τ).loc Cert.DHmIdeal.main_arg3)
      ∧ m' ((c.tc : Thread Cert.DHmRefIdeal.nD Cert.DHmRefIdeal.τ).loc Cert.DHmRefIdeal.main_arg4) = m ((c.tc : Thread Cert.DHmIdeal.nD Cert.DHmIdeal.τ).loc Cert.DHmIdeal.main_arg4)) →
    ∃ (v0 : (c : Dev Cert.DHmIdeal.nD) → Buf (Elt Ideal) ((c.tc : Thread Cert.DHmIdeal.nD Cert.DHmIdeal.τ).loc Cert.DHmIdeal.main_v3_0)) (v1 : (c : Dev Cert.DHmIdeal.nD) → Buf (Elt Ideal) ((c.tc : Thread Cert.DHmIdeal.nD Cert.DHmIdeal.τ).loc Cert.DHmIdeal.main_v3_1)) (v2 : (c : Dev Cert.DHmIdeal.nD) → Buf (Elt Ideal) ((c.tc : Thread Cert.DHmIdeal.nD Cert.DHmIdeal.τ).loc Cert.DHmIdeal.main_v3_2)),
      θ_run (Cert.DHmIdeal.defs (F := Ideal)) (onTc (τ := Cert.DHmIdeal.τ) (Cert.DHmIdeal.main (F := Ideal))) ⟨m, fun _ => 0, g⟩ (fun r => ∀ c : Dev Cert.DHmIdeal.nD,
          r.2.mem ((c.tc : Thread Cert.DHmIdeal.nD Cert.DHmIdeal.τ).loc Cert.DHmIdeal.main_v3_0) = v0 c
          ∧ r.2.mem ((c.tc : Thread Cert.DHmIdeal.nD Cert.DHmIdeal.τ).loc Cert.DHmIdeal.main_v3_1) = v1 c
          ∧ r.2.mem ((c.tc : Thread Cert.DHmIdeal.nD Cert.DHmIdeal.τ).loc Cert.DHmIdeal.main_v3_2) = v2 c
          ∧ r.2.mem ((c.tc : Thread Cert.DHmIdeal.nD Cert.DHmIdeal.τ).loc Cert.DHmIdeal.main_arg0) = m ((c.tc : Thread Cert.DHmIdeal.nD Cert.DHmIdeal.τ).loc Cert.DHmIdeal.main_arg0)
          ∧ r.2.mem ((c.tc : Thread Cert.DHmIdeal.nD Cert.DHmIdeal.τ).loc Cert.DHmIdeal.main_arg1) = m ((c.tc : Thread Cert.DHmIdeal.nD Cert.DHmIdeal.τ).loc Cert.DHmIdeal.main_arg1)
          ∧ r.2.mem ((c.tc : Thread Cert.DHmIdeal.nD Cert.DHmIdeal.τ).loc Cert.DHmIdeal.main_arg2) = m ((c.tc : Thread Cert.DHmIdeal.nD Cert.DHmIdeal.τ).loc Cert.DHmIdeal.main_arg2)
          ∧ r.2.mem ((c.tc : Thread Cert.DHmIdeal.nD Cert.DHmIdeal.τ).loc Cert.DHmIdeal.main_arg3) = m ((c.tc : Thread Cert.DHmIdeal.nD Cert.DHmIdeal.τ).loc Cert.DHmIdeal.main_arg3)
          ∧ r.2.mem ((c.tc : Thread Cert.DHmIdeal.nD Cert.DHmIdeal.τ).loc Cert.DHmIdeal.main_arg4) = m ((c.tc : Thread Cert.DHmIdeal.nD Cert.DHmIdeal.τ).loc Cert.DHmIdeal.main_arg4))
      ∧ θ_run (Cert.DHmRefIdeal.defs (F := Ideal)) (onTc (τ := Cert.DHmRefIdeal.τ) (Cert.DHmRefIdeal.main (F := Ideal))) ⟨m', fun _ => 0, g'⟩ (fun r => ∀ c : Dev Cert.DHmRefIdeal.nD,
          r.2.mem ((c.tc : Thread Cert.DHmRefIdeal.nD Cert.DHmRefIdeal.τ).loc Cert.DHmRefIdeal.main_v38) = v0 c
          ∧ r.2.mem ((c.tc : Thread Cert.DHmRefIdeal.nD Cert.DHmRefIdeal.τ).loc Cert.DHmRefIdeal.main_v39) = v1 c
          ∧ r.2.mem ((c.tc : Thread Cert.DHmRefIdeal.nD Cert.DHmRefIdeal.τ).loc Cert.DHmRefIdeal.main_v42) = v2 c
          ∧ r.2.mem ((c.tc : Thread Cert.DHmRefIdeal.nD Cert.DHmRefIdeal.τ).loc Cert.DHmRefIdeal.main_arg0) = m' ((c.tc : Thread Cert.DHmRefIdeal.nD Cert.DHmRefIdeal.τ).loc Cert.DHmRefIdeal.main_arg0)
          ∧ r.2.mem ((c.tc : Thread Cert.DHmRefIdeal.nD Cert.DHmRefIdeal.τ).loc Cert.DHmRefIdeal.main_arg1) = m' ((c.tc : Thread Cert.DHmRefIdeal.nD Cert.DHmRefIdeal.τ).loc Cert.DHmRefIdeal.main_arg1)
          ∧ r.2.mem ((c.tc : Thread Cert.DHmRefIdeal.nD Cert.DHmRefIdeal.τ).loc Cert.DHmRefIdeal.main_arg2) = m' ((c.tc : Thread Cert.DHmRefIdeal.nD Cert.DHmRefIdeal.τ).loc Cert.DHmRefIdeal.main_arg2)
          ∧ r.2.mem ((c.tc : Thread Cert.DHmRefIdeal.nD Cert.DHmRefIdeal.τ).loc Cert.DHmRefIdeal.main_arg3) = m' ((c.tc : Thread Cert.DHmRefIdeal.nD Cert.DHmRefIdeal.τ).loc Cert.DHmRefIdeal.main_arg3)
          ∧ r.2.mem ((c.tc : Thread Cert.DHmRefIdeal.nD Cert.DHmRefIdeal.τ).loc Cert.DHmRefIdeal.main_arg4) = m' ((c.tc : Thread Cert.DHmRefIdeal.nD Cert.DHmRefIdeal.τ).loc Cert.DHmRefIdeal.main_arg4))

def preserves_DH_DHIdeal : Prop :=
  True

def algebraic_DHIdeal_DHRefIdeal_pre_finite_dh [hDHIdeal : Cert.DHIdeal.Facts] [hDHRefIdeal : Cert.DHRefIdeal.Facts] [hPre_finite_dh : Cert.Pre_finite_dh.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal_finite_dh m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)
      ∧ m' ((c.tc : Thread Cert.DHRefIdeal.nD Cert.DHRefIdeal.τ).loc Cert.DHRefIdeal.main_arg2) = m ((c.tc : Thread Cert.DHIdeal.nD Cert.DHIdeal.τ).loc Cert.DHIdeal.main_arg2)
      ∧ m' ((c.tc : Thread Cert.DHRefIdeal.nD Cert.DHRefIdeal.τ).loc Cert.DHRefIdeal.main_arg3) = m ((c.tc : Thread Cert.DHIdeal.nD Cert.DHIdeal.τ).loc Cert.DHIdeal.main_arg3)
      ∧ m' ((c.tc : Thread Cert.DHRefIdeal.nD Cert.DHRefIdeal.τ).loc Cert.DHRefIdeal.main_arg4) = m ((c.tc : Thread Cert.DHIdeal.nD Cert.DHIdeal.τ).loc Cert.DHIdeal.main_arg4)) →
    ∃ (v0 : (c : Dev Cert.DHIdeal.nD) → Buf (Elt Ideal) ((c.tc : Thread Cert.DHIdeal.nD Cert.DHIdeal.τ).loc Cert.DHIdeal.main_v3_0)) (v1 : (c : Dev Cert.DHIdeal.nD) → Buf (Elt Ideal) ((c.tc : Thread Cert.DHIdeal.nD Cert.DHIdeal.τ).loc Cert.DHIdeal.main_v3_1)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v3_0) = v0 c
          ∧ r.2.mem ((c.tc : Thread Cert.DHIdeal.nD Cert.DHIdeal.τ).loc Cert.DHIdeal.main_v3_1) = v1 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
          ∧ r.2.mem ((c.tc : Thread Cert.DHIdeal.nD Cert.DHIdeal.τ).loc Cert.DHIdeal.main_arg2) = m ((c.tc : Thread Cert.DHIdeal.nD Cert.DHIdeal.τ).loc Cert.DHIdeal.main_arg2)
          ∧ r.2.mem ((c.tc : Thread Cert.DHIdeal.nD Cert.DHIdeal.τ).loc Cert.DHIdeal.main_arg3) = m ((c.tc : Thread Cert.DHIdeal.nD Cert.DHIdeal.τ).loc Cert.DHIdeal.main_arg3)
          ∧ r.2.mem ((c.tc : Thread Cert.DHIdeal.nD Cert.DHIdeal.τ).loc Cert.DHIdeal.main_arg4) = m ((c.tc : Thread Cert.DHIdeal.nD Cert.DHIdeal.τ).loc Cert.DHIdeal.main_arg4))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v38) = v0 c
          ∧ r.2.mem ((c.tc : Thread Cert.DHRefIdeal.nD Cert.DHRefIdeal.τ).loc Cert.DHRefIdeal.main_v41) = v1 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1)
          ∧ r.2.mem ((c.tc : Thread Cert.DHRefIdeal.nD Cert.DHRefIdeal.τ).loc Cert.DHRefIdeal.main_arg2) = m' ((c.tc : Thread Cert.DHRefIdeal.nD Cert.DHRefIdeal.τ).loc Cert.DHRefIdeal.main_arg2)
          ∧ r.2.mem ((c.tc : Thread Cert.DHRefIdeal.nD Cert.DHRefIdeal.τ).loc Cert.DHRefIdeal.main_arg3) = m' ((c.tc : Thread Cert.DHRefIdeal.nD Cert.DHRefIdeal.τ).loc Cert.DHRefIdeal.main_arg3)
          ∧ r.2.mem ((c.tc : Thread Cert.DHRefIdeal.nD Cert.DHRefIdeal.τ).loc Cert.DHRefIdeal.main_arg4) = m' ((c.tc : Thread Cert.DHRefIdeal.nD Cert.DHRefIdeal.τ).loc Cert.DHRefIdeal.main_arg4))

def preserves_Head_HeadIdeal : Prop :=
  True

def algebraic_HeadIdeal_HeadRefIdeal_pre_finite_head_call [hHeadIdeal : Cert.HeadIdeal.Facts] [hHeadRefIdeal : Cert.HeadRefIdeal.Facts] [hPre_finite_head_call : Cert.Pre_finite_head_call.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_finite_head_call m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)) →
    ∃ (v0 : (c : Dev Cert.HeadIdeal.nD) → Buf (Elt Ideal) ((c.tc : Thread Cert.HeadIdeal.nD Cert.HeadIdeal.τ).loc Cert.HeadIdeal.main_v3_0)) (v1 : (c : Dev Cert.HeadIdeal.nD) → Buf (Elt Ideal) ((c.tc : Thread Cert.HeadIdeal.nD Cert.HeadIdeal.τ).loc Cert.HeadIdeal.main_v3_1)) (v2 : (c : Dev Cert.HeadIdeal.nD) → Buf (Elt Ideal) ((c.tc : Thread Cert.HeadIdeal.nD Cert.HeadIdeal.τ).loc Cert.HeadIdeal.main_v3_2)) (v3 : (c : Dev Cert.HeadIdeal.nD) → Buf (Elt Ideal) ((c.tc : Thread Cert.HeadIdeal.nD Cert.HeadIdeal.τ).loc Cert.HeadIdeal.main_v3_3)) (v4 : (c : Dev Cert.HeadIdeal.nD) → Buf (Elt Ideal) ((c.tc : Thread Cert.HeadIdeal.nD Cert.HeadIdeal.τ).loc Cert.HeadIdeal.main_v3_4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v3_0) = v0 c
          ∧ r.2.mem ((c.tc : Thread Cert.HeadIdeal.nD Cert.HeadIdeal.τ).loc Cert.HeadIdeal.main_v3_1) = v1 c
          ∧ r.2.mem ((c.tc : Thread Cert.HeadIdeal.nD Cert.HeadIdeal.τ).loc Cert.HeadIdeal.main_v3_2) = v2 c
          ∧ r.2.mem ((c.tc : Thread Cert.HeadIdeal.nD Cert.HeadIdeal.τ).loc Cert.HeadIdeal.main_v3_3) = v3 c
          ∧ r.2.mem ((c.tc : Thread Cert.HeadIdeal.nD Cert.HeadIdeal.τ).loc Cert.HeadIdeal.main_v3_4) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v62) = v0 c
          ∧ r.2.mem ((c.tc : Thread Cert.HeadRefIdeal.nD Cert.HeadRefIdeal.τ).loc Cert.HeadRefIdeal.main_v90) = v1 c
          ∧ r.2.mem ((c.tc : Thread Cert.HeadRefIdeal.nD Cert.HeadRefIdeal.τ).loc Cert.HeadRefIdeal.main_v91) = v2 c
          ∧ r.2.mem ((c.tc : Thread Cert.HeadRefIdeal.nD Cert.HeadRefIdeal.τ).loc Cert.HeadRefIdeal.main_v94) = v3 c
          ∧ r.2.mem ((c.tc : Thread Cert.HeadRefIdeal.nD Cert.HeadRefIdeal.τ).loc Cert.HeadRefIdeal.main_v97) = v4 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5))

def preserves_Mpb_MpbIdeal : Prop :=
  True

def algebraic_MpbIdeal_MpbRefIdeal_pre_finite_mpb [hMpbIdeal : Cert.MpbIdeal.Facts] [hMpbRefIdeal : Cert.MpbRefIdeal.Facts] [hPre_finite_mpb : Cert.Pre_finite_mpb.Facts] : Prop :=
  ∀ (m : (ℓ : Loc Cert.MpbIdeal.nD Cert.MpbIdeal.τ Cert.MpbIdeal.sig) → Buf (Elt Ideal) ℓ) (g : Dev Cert.MpbIdeal.nD → PrngReg)
    (m' : (ℓ : Loc Cert.MpbRefIdeal.nD Cert.MpbRefIdeal.τ Cert.MpbRefIdeal.sig) → Buf (Elt Ideal) ℓ) (g' : Dev Cert.MpbRefIdeal.nD → PrngReg), Pre_MpbIdeal_finite_mpb m →
    (∀ c : Dev Cert.MpbIdeal.nD,
      m' ((c.tc : Thread Cert.MpbRefIdeal.nD Cert.MpbRefIdeal.τ).loc Cert.MpbRefIdeal.main_arg0) = m ((c.tc : Thread Cert.MpbIdeal.nD Cert.MpbIdeal.τ).loc Cert.MpbIdeal.main_arg0)
      ∧ m' ((c.tc : Thread Cert.MpbRefIdeal.nD Cert.MpbRefIdeal.τ).loc Cert.MpbRefIdeal.main_arg1) = m ((c.tc : Thread Cert.MpbIdeal.nD Cert.MpbIdeal.τ).loc Cert.MpbIdeal.main_arg1)
      ∧ m' ((c.tc : Thread Cert.MpbRefIdeal.nD Cert.MpbRefIdeal.τ).loc Cert.MpbRefIdeal.main_arg2) = m ((c.tc : Thread Cert.MpbIdeal.nD Cert.MpbIdeal.τ).loc Cert.MpbIdeal.main_arg2)
      ∧ m' ((c.tc : Thread Cert.MpbRefIdeal.nD Cert.MpbRefIdeal.τ).loc Cert.MpbRefIdeal.main_arg3) = m ((c.tc : Thread Cert.MpbIdeal.nD Cert.MpbIdeal.τ).loc Cert.MpbIdeal.main_arg3)
      ∧ m' ((c.tc : Thread Cert.MpbRefIdeal.nD Cert.MpbRefIdeal.τ).loc Cert.MpbRefIdeal.main_arg4) = m ((c.tc : Thread Cert.MpbIdeal.nD Cert.MpbIdeal.τ).loc Cert.MpbIdeal.main_arg4)
      ∧ m' ((c.tc : Thread Cert.MpbRefIdeal.nD Cert.MpbRefIdeal.τ).loc Cert.MpbRefIdeal.main_arg5) = m ((c.tc : Thread Cert.MpbIdeal.nD Cert.MpbIdeal.τ).loc Cert.MpbIdeal.main_arg5)
      ∧ m' ((c.tc : Thread Cert.MpbRefIdeal.nD Cert.MpbRefIdeal.τ).loc Cert.MpbRefIdeal.main_arg6) = m ((c.tc : Thread Cert.MpbIdeal.nD Cert.MpbIdeal.τ).loc Cert.MpbIdeal.main_arg6)) →
    ∃ (v0 : (c : Dev Cert.MpbIdeal.nD) → Buf (Elt Ideal) ((c.tc : Thread Cert.MpbIdeal.nD Cert.MpbIdeal.τ).loc Cert.MpbIdeal.main_v3_0)) (v1 : (c : Dev Cert.MpbIdeal.nD) → Buf (Elt Ideal) ((c.tc : Thread Cert.MpbIdeal.nD Cert.MpbIdeal.τ).loc Cert.MpbIdeal.main_v3_1)) (v2 : (c : Dev Cert.MpbIdeal.nD) → Buf (Elt Ideal) ((c.tc : Thread Cert.MpbIdeal.nD Cert.MpbIdeal.τ).loc Cert.MpbIdeal.main_v3_2)) (v3 : (c : Dev Cert.MpbIdeal.nD) → Buf (Elt Ideal) ((c.tc : Thread Cert.MpbIdeal.nD Cert.MpbIdeal.τ).loc Cert.MpbIdeal.main_v3_3)) (v4 : (c : Dev Cert.MpbIdeal.nD) → Buf (Elt Ideal) ((c.tc : Thread Cert.MpbIdeal.nD Cert.MpbIdeal.τ).loc Cert.MpbIdeal.main_v3_4)),
      θ_run (Cert.MpbIdeal.defs (F := Ideal)) (onTc (τ := Cert.MpbIdeal.τ) (Cert.MpbIdeal.main (F := Ideal))) ⟨m, fun _ => 0, g⟩ (fun r => ∀ c : Dev Cert.MpbIdeal.nD,
          r.2.mem ((c.tc : Thread Cert.MpbIdeal.nD Cert.MpbIdeal.τ).loc Cert.MpbIdeal.main_v3_0) = v0 c
          ∧ r.2.mem ((c.tc : Thread Cert.MpbIdeal.nD Cert.MpbIdeal.τ).loc Cert.MpbIdeal.main_v3_1) = v1 c
          ∧ r.2.mem ((c.tc : Thread Cert.MpbIdeal.nD Cert.MpbIdeal.τ).loc Cert.MpbIdeal.main_v3_2) = v2 c
          ∧ r.2.mem ((c.tc : Thread Cert.MpbIdeal.nD Cert.MpbIdeal.τ).loc Cert.MpbIdeal.main_v3_3) = v3 c
          ∧ r.2.mem ((c.tc : Thread Cert.MpbIdeal.nD Cert.MpbIdeal.τ).loc Cert.MpbIdeal.main_v3_4) = v4 c
          ∧ r.2.mem ((c.tc : Thread Cert.MpbIdeal.nD Cert.MpbIdeal.τ).loc Cert.MpbIdeal.main_arg0) = m ((c.tc : Thread Cert.MpbIdeal.nD Cert.MpbIdeal.τ).loc Cert.MpbIdeal.main_arg0)
          ∧ r.2.mem ((c.tc : Thread Cert.MpbIdeal.nD Cert.MpbIdeal.τ).loc Cert.MpbIdeal.main_arg1) = m ((c.tc : Thread Cert.MpbIdeal.nD Cert.MpbIdeal.τ).loc Cert.MpbIdeal.main_arg1)
          ∧ r.2.mem ((c.tc : Thread Cert.MpbIdeal.nD Cert.MpbIdeal.τ).loc Cert.MpbIdeal.main_arg2) = m ((c.tc : Thread Cert.MpbIdeal.nD Cert.MpbIdeal.τ).loc Cert.MpbIdeal.main_arg2)
          ∧ r.2.mem ((c.tc : Thread Cert.MpbIdeal.nD Cert.MpbIdeal.τ).loc Cert.MpbIdeal.main_arg3) = m ((c.tc : Thread Cert.MpbIdeal.nD Cert.MpbIdeal.τ).loc Cert.MpbIdeal.main_arg3)
          ∧ r.2.mem ((c.tc : Thread Cert.MpbIdeal.nD Cert.MpbIdeal.τ).loc Cert.MpbIdeal.main_arg4) = m ((c.tc : Thread Cert.MpbIdeal.nD Cert.MpbIdeal.τ).loc Cert.MpbIdeal.main_arg4)
          ∧ r.2.mem ((c.tc : Thread Cert.MpbIdeal.nD Cert.MpbIdeal.τ).loc Cert.MpbIdeal.main_arg5) = m ((c.tc : Thread Cert.MpbIdeal.nD Cert.MpbIdeal.τ).loc Cert.MpbIdeal.main_arg5)
          ∧ r.2.mem ((c.tc : Thread Cert.MpbIdeal.nD Cert.MpbIdeal.τ).loc Cert.MpbIdeal.main_arg6) = m ((c.tc : Thread Cert.MpbIdeal.nD Cert.MpbIdeal.τ).loc Cert.MpbIdeal.main_arg6))
      ∧ θ_run (Cert.MpbRefIdeal.defs (F := Ideal)) (onTc (τ := Cert.MpbRefIdeal.τ) (Cert.MpbRefIdeal.main (F := Ideal))) ⟨m', fun _ => 0, g'⟩ (fun r => ∀ c : Dev Cert.MpbRefIdeal.nD,
          r.2.mem ((c.tc : Thread Cert.MpbRefIdeal.nD Cert.MpbRefIdeal.τ).loc Cert.MpbRefIdeal.main_v79) = v0 c
          ∧ r.2.mem ((c.tc : Thread Cert.MpbRefIdeal.nD Cert.MpbRefIdeal.τ).loc Cert.MpbRefIdeal.main_v81) = v1 c
          ∧ r.2.mem ((c.tc : Thread Cert.MpbRefIdeal.nD Cert.MpbRefIdeal.τ).loc Cert.MpbRefIdeal.main_v66) = v2 c
          ∧ r.2.mem ((c.tc : Thread Cert.MpbRefIdeal.nD Cert.MpbRefIdeal.τ).loc Cert.MpbRefIdeal.main_v82) = v3 c
          ∧ r.2.mem ((c.tc : Thread Cert.MpbRefIdeal.nD Cert.MpbRefIdeal.τ).loc Cert.MpbRefIdeal.main_v85) = v4 c
          ∧ r.2.mem ((c.tc : Thread Cert.MpbRefIdeal.nD Cert.MpbRefIdeal.τ).loc Cert.MpbRefIdeal.main_arg0) = m' ((c.tc : Thread Cert.MpbRefIdeal.nD Cert.MpbRefIdeal.τ).loc Cert.MpbRefIdeal.main_arg0)
          ∧ r.2.mem ((c.tc : Thread Cert.MpbRefIdeal.nD Cert.MpbRefIdeal.τ).loc Cert.MpbRefIdeal.main_arg1) = m' ((c.tc : Thread Cert.MpbRefIdeal.nD Cert.MpbRefIdeal.τ).loc Cert.MpbRefIdeal.main_arg1)
          ∧ r.2.mem ((c.tc : Thread Cert.MpbRefIdeal.nD Cert.MpbRefIdeal.τ).loc Cert.MpbRefIdeal.main_arg2) = m' ((c.tc : Thread Cert.MpbRefIdeal.nD Cert.MpbRefIdeal.τ).loc Cert.MpbRefIdeal.main_arg2)
          ∧ r.2.mem ((c.tc : Thread Cert.MpbRefIdeal.nD Cert.MpbRefIdeal.τ).loc Cert.MpbRefIdeal.main_arg3) = m' ((c.tc : Thread Cert.MpbRefIdeal.nD Cert.MpbRefIdeal.τ).loc Cert.MpbRefIdeal.main_arg3)
          ∧ r.2.mem ((c.tc : Thread Cert.MpbRefIdeal.nD Cert.MpbRefIdeal.τ).loc Cert.MpbRefIdeal.main_arg4) = m' ((c.tc : Thread Cert.MpbRefIdeal.nD Cert.MpbRefIdeal.τ).loc Cert.MpbRefIdeal.main_arg4)
          ∧ r.2.mem ((c.tc : Thread Cert.MpbRefIdeal.nD Cert.MpbRefIdeal.τ).loc Cert.MpbRefIdeal.main_arg5) = m' ((c.tc : Thread Cert.MpbRefIdeal.nD Cert.MpbRefIdeal.τ).loc Cert.MpbRefIdeal.main_arg5)
          ∧ r.2.mem ((c.tc : Thread Cert.MpbRefIdeal.nD Cert.MpbRefIdeal.τ).loc Cert.MpbRefIdeal.main_arg6) = m' ((c.tc : Thread Cert.MpbRefIdeal.nD Cert.MpbRefIdeal.τ).loc Cert.MpbRefIdeal.main_arg6))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v64_0)) (v1 : (c : Dev Cert.AttnIdeal.nD) → Buf (Elt Ideal) ((c.tc : Thread Cert.AttnIdeal.nD Cert.AttnIdeal.τ).loc Cert.AttnIdeal.main_v64_1)) (v2 : (c : Dev Cert.AttnIdeal.nD) → Buf (Elt Ideal) ((c.tc : Thread Cert.AttnIdeal.nD Cert.AttnIdeal.τ).loc Cert.AttnIdeal.main_v64_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v64_0) = v0 c
          ∧ r.2.mem ((c.tc : Thread Cert.AttnIdeal.nD Cert.AttnIdeal.τ).loc Cert.AttnIdeal.main_v64_1) = v1 c
          ∧ r.2.mem ((c.tc : Thread Cert.AttnIdeal.nD Cert.AttnIdeal.τ).loc Cert.AttnIdeal.main_v64_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v68) = v0 c
          ∧ r.2.mem ((c.tc : Thread Cert.AttnRefIdeal.nD Cert.AttnRefIdeal.τ).loc Cert.AttnRefIdeal.main_v77) = v1 c
          ∧ r.2.mem ((c.tc : Thread Cert.AttnRefIdeal.nD Cert.AttnRefIdeal.τ).loc Cert.AttnRefIdeal.main_v83) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_DProj_DProjIdeal : Prop :=
  True

def algebraic_DProjIdeal_DProjRefIdeal_pre_finite_dproj [hDProjIdeal : Cert.DProjIdeal.Facts] [hDProjRefIdeal : Cert.DProjRefIdeal.Facts] [hPre_finite_dproj : Cert.Pre_finite_dproj.Facts] : Prop :=
  ∀ (m : (ℓ : Loc Cert.DProjIdeal.nD Cert.DProjIdeal.τ Cert.DProjIdeal.sig) → Buf (Elt Ideal) ℓ) (g : Dev Cert.DProjIdeal.nD → PrngReg)
    (m' : (ℓ : Loc Cert.DProjRefIdeal.nD Cert.DProjRefIdeal.τ Cert.DProjRefIdeal.sig) → Buf (Elt Ideal) ℓ) (g' : Dev Cert.DProjRefIdeal.nD → PrngReg), Pre_DProjIdeal_finite_dproj m →
    (∀ c : Dev Cert.DProjIdeal.nD,
      m' ((c.tc : Thread Cert.DProjRefIdeal.nD Cert.DProjRefIdeal.τ).loc Cert.DProjRefIdeal.main_arg0) = m ((c.tc : Thread Cert.DProjIdeal.nD Cert.DProjIdeal.τ).loc Cert.DProjIdeal.main_arg0)
      ∧ m' ((c.tc : Thread Cert.DProjRefIdeal.nD Cert.DProjRefIdeal.τ).loc Cert.DProjRefIdeal.main_arg1) = m ((c.tc : Thread Cert.DProjIdeal.nD Cert.DProjIdeal.τ).loc Cert.DProjIdeal.main_arg1)
      ∧ m' ((c.tc : Thread Cert.DProjRefIdeal.nD Cert.DProjRefIdeal.τ).loc Cert.DProjRefIdeal.main_arg2) = m ((c.tc : Thread Cert.DProjIdeal.nD Cert.DProjIdeal.τ).loc Cert.DProjIdeal.main_arg2)
      ∧ m' ((c.tc : Thread Cert.DProjRefIdeal.nD Cert.DProjRefIdeal.τ).loc Cert.DProjRefIdeal.main_arg3) = m ((c.tc : Thread Cert.DProjIdeal.nD Cert.DProjIdeal.τ).loc Cert.DProjIdeal.main_arg3)
      ∧ m' ((c.tc : Thread Cert.DProjRefIdeal.nD Cert.DProjRefIdeal.τ).loc Cert.DProjRefIdeal.main_arg4) = m ((c.tc : Thread Cert.DProjIdeal.nD Cert.DProjIdeal.τ).loc Cert.DProjIdeal.main_arg4)
      ∧ m' ((c.tc : Thread Cert.DProjRefIdeal.nD Cert.DProjRefIdeal.τ).loc Cert.DProjRefIdeal.main_arg5) = m ((c.tc : Thread Cert.DProjIdeal.nD Cert.DProjIdeal.τ).loc Cert.DProjIdeal.main_arg5)
      ∧ m' ((c.tc : Thread Cert.DProjRefIdeal.nD Cert.DProjRefIdeal.τ).loc Cert.DProjRefIdeal.main_arg6) = m ((c.tc : Thread Cert.DProjIdeal.nD Cert.DProjIdeal.τ).loc Cert.DProjIdeal.main_arg6)
      ∧ m' ((c.tc : Thread Cert.DProjRefIdeal.nD Cert.DProjRefIdeal.τ).loc Cert.DProjRefIdeal.main_arg7) = m ((c.tc : Thread Cert.DProjIdeal.nD Cert.DProjIdeal.τ).loc Cert.DProjIdeal.main_arg7)
      ∧ m' ((c.tc : Thread Cert.DProjRefIdeal.nD Cert.DProjRefIdeal.τ).loc Cert.DProjRefIdeal.main_arg8) = m ((c.tc : Thread Cert.DProjIdeal.nD Cert.DProjIdeal.τ).loc Cert.DProjIdeal.main_arg8)
      ∧ m' ((c.tc : Thread Cert.DProjRefIdeal.nD Cert.DProjRefIdeal.τ).loc Cert.DProjRefIdeal.main_arg9) = m ((c.tc : Thread Cert.DProjIdeal.nD Cert.DProjIdeal.τ).loc Cert.DProjIdeal.main_arg9)
      ∧ m' ((c.tc : Thread Cert.DProjRefIdeal.nD Cert.DProjRefIdeal.τ).loc Cert.DProjRefIdeal.main_arg10) = m ((c.tc : Thread Cert.DProjIdeal.nD Cert.DProjIdeal.τ).loc Cert.DProjIdeal.main_arg10)
      ∧ m' ((c.tc : Thread Cert.DProjRefIdeal.nD Cert.DProjRefIdeal.τ).loc Cert.DProjRefIdeal.main_arg11) = m ((c.tc : Thread Cert.DProjIdeal.nD Cert.DProjIdeal.τ).loc Cert.DProjIdeal.main_arg11)
      ∧ m' ((c.tc : Thread Cert.DProjRefIdeal.nD Cert.DProjRefIdeal.τ).loc Cert.DProjRefIdeal.main_arg12) = m ((c.tc : Thread Cert.DProjIdeal.nD Cert.DProjIdeal.τ).loc Cert.DProjIdeal.main_arg12)
      ∧ m' ((c.tc : Thread Cert.DProjRefIdeal.nD Cert.DProjRefIdeal.τ).loc Cert.DProjRefIdeal.main_arg13) = m ((c.tc : Thread Cert.DProjIdeal.nD Cert.DProjIdeal.τ).loc Cert.DProjIdeal.main_arg13)
      ∧ m' ((c.tc : Thread Cert.DProjRefIdeal.nD Cert.DProjRefIdeal.τ).loc Cert.DProjRefIdeal.main_arg14) = m ((c.tc : Thread Cert.DProjIdeal.nD Cert.DProjIdeal.τ).loc Cert.DProjIdeal.main_arg14)) →
    ∃ (v0 : (c : Dev Cert.DProjIdeal.nD) → Buf (Elt Ideal) ((c.tc : Thread Cert.DProjIdeal.nD Cert.DProjIdeal.τ).loc Cert.DProjIdeal.main_v106_0)) (v1 : (c : Dev Cert.DProjIdeal.nD) → Buf (Elt Ideal) ((c.tc : Thread Cert.DProjIdeal.nD Cert.DProjIdeal.τ).loc Cert.DProjIdeal.main_v106_1)) (v2 : (c : Dev Cert.DProjIdeal.nD) → Buf (Elt Ideal) ((c.tc : Thread Cert.DProjIdeal.nD Cert.DProjIdeal.τ).loc Cert.DProjIdeal.main_v106_2)),
      θ_run (Cert.DProjIdeal.defs (F := Ideal)) (onTc (τ := Cert.DProjIdeal.τ) (Cert.DProjIdeal.main (F := Ideal))) ⟨m, fun _ => 0, g⟩ (fun r => ∀ c : Dev Cert.DProjIdeal.nD,
          r.2.mem ((c.tc : Thread Cert.DProjIdeal.nD Cert.DProjIdeal.τ).loc Cert.DProjIdeal.main_v106_0) = v0 c
          ∧ r.2.mem ((c.tc : Thread Cert.DProjIdeal.nD Cert.DProjIdeal.τ).loc Cert.DProjIdeal.main_v106_1) = v1 c
          ∧ r.2.mem ((c.tc : Thread Cert.DProjIdeal.nD Cert.DProjIdeal.τ).loc Cert.DProjIdeal.main_v106_2) = v2 c
          ∧ r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
          ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1)
          ∧ r.2.mem ((c.tc : Thread Cert.DProjIdeal.nD Cert.DProjIdeal.τ).loc Cert.DProjIdeal.main_arg2) = m ((c.tc : Thread Cert.DProjIdeal.nD Cert.DProjIdeal.τ).loc Cert.DProjIdeal.main_arg2)
          ∧ r.2.mem ((c.tc : Thread Cert.DProjIdeal.nD Cert.DProjIdeal.τ).loc Cert.DProjIdeal.main_arg3) = m ((c.tc : Thread Cert.DProjIdeal.nD Cert.DProjIdeal.τ).loc Cert.DProjIdeal.main_arg3)
          ∧ r.2.mem ((c.tc : Thread Cert.DProjIdeal.nD Cert.DProjIdeal.τ).loc Cert.DProjIdeal.main_arg4) = m ((c.tc : Thread Cert.DProjIdeal.nD Cert.DProjIdeal.τ).loc Cert.DProjIdeal.main_arg4)
          ∧ r.2.mem ((c.tc : Thread Cert.DProjIdeal.nD Cert.DProjIdeal.τ).loc Cert.DProjIdeal.main_arg5) = m ((c.tc : Thread Cert.DProjIdeal.nD Cert.DProjIdeal.τ).loc Cert.DProjIdeal.main_arg5)
          ∧ r.2.mem ((c.tc : Thread Cert.DProjIdeal.nD Cert.DProjIdeal.τ).loc Cert.DProjIdeal.main_arg6) = m ((c.tc : Thread Cert.DProjIdeal.nD Cert.DProjIdeal.τ).loc Cert.DProjIdeal.main_arg6)
          ∧ r.2.mem ((c.tc : Thread Cert.DProjIdeal.nD Cert.DProjIdeal.τ).loc Cert.DProjIdeal.main_arg7) = m ((c.tc : Thread Cert.DProjIdeal.nD Cert.DProjIdeal.τ).loc Cert.DProjIdeal.main_arg7)
          ∧ r.2.mem ((c.tc : Thread Cert.DProjIdeal.nD Cert.DProjIdeal.τ).loc Cert.DProjIdeal.main_arg8) = m ((c.tc : Thread Cert.DProjIdeal.nD Cert.DProjIdeal.τ).loc Cert.DProjIdeal.main_arg8)
          ∧ r.2.mem ((c.tc : Thread Cert.DProjIdeal.nD Cert.DProjIdeal.τ).loc Cert.DProjIdeal.main_arg9) = m ((c.tc : Thread Cert.DProjIdeal.nD Cert.DProjIdeal.τ).loc Cert.DProjIdeal.main_arg9)
          ∧ r.2.mem ((c.tc : Thread Cert.DProjIdeal.nD Cert.DProjIdeal.τ).loc Cert.DProjIdeal.main_arg10) = m ((c.tc : Thread Cert.DProjIdeal.nD Cert.DProjIdeal.τ).loc Cert.DProjIdeal.main_arg10)
          ∧ r.2.mem ((c.tc : Thread Cert.DProjIdeal.nD Cert.DProjIdeal.τ).loc Cert.DProjIdeal.main_arg11) = m ((c.tc : Thread Cert.DProjIdeal.nD Cert.DProjIdeal.τ).loc Cert.DProjIdeal.main_arg11)
          ∧ r.2.mem ((c.tc : Thread Cert.DProjIdeal.nD Cert.DProjIdeal.τ).loc Cert.DProjIdeal.main_arg12) = m ((c.tc : Thread Cert.DProjIdeal.nD Cert.DProjIdeal.τ).loc Cert.DProjIdeal.main_arg12)
          ∧ r.2.mem ((c.tc : Thread Cert.DProjIdeal.nD Cert.DProjIdeal.τ).loc Cert.DProjIdeal.main_arg13) = m ((c.tc : Thread Cert.DProjIdeal.nD Cert.DProjIdeal.τ).loc Cert.DProjIdeal.main_arg13)
          ∧ r.2.mem ((c.tc : Thread Cert.DProjIdeal.nD Cert.DProjIdeal.τ).loc Cert.DProjIdeal.main_arg14) = m ((c.tc : Thread Cert.DProjIdeal.nD Cert.DProjIdeal.τ).loc Cert.DProjIdeal.main_arg14))
      ∧ θ_run (Cert.DProjRefIdeal.defs (F := Ideal)) (onTc (τ := Cert.DProjRefIdeal.τ) (Cert.DProjRefIdeal.main (F := Ideal))) ⟨m', fun _ => 0, g'⟩ (fun r => ∀ c : Dev Cert.DProjRefIdeal.nD,
          r.2.mem ((c.tc : Thread Cert.DProjRefIdeal.nD Cert.DProjRefIdeal.τ).loc Cert.DProjRefIdeal.main_v297) = v0 c
          ∧ r.2.mem ((c.tc : Thread Cert.DProjRefIdeal.nD Cert.DProjRefIdeal.τ).loc Cert.DProjRefIdeal.main_v301) = v1 c
          ∧ r.2.mem ((c.tc : Thread Cert.DProjRefIdeal.nD Cert.DProjRefIdeal.τ).loc Cert.DProjRefIdeal.main_v305) = v2 c
          ∧ r.2.mem ((c.tc : Thread Cert.DProjRefIdeal.nD Cert.DProjRefIdeal.τ).loc Cert.DProjRefIdeal.main_arg0) = m' ((c.tc : Thread Cert.DProjRefIdeal.nD Cert.DProjRefIdeal.τ).loc Cert.DProjRefIdeal.main_arg0)
          ∧ r.2.mem ((c.tc : Thread Cert.DProjRefIdeal.nD Cert.DProjRefIdeal.τ).loc Cert.DProjRefIdeal.main_arg1) = m' ((c.tc : Thread Cert.DProjRefIdeal.nD Cert.DProjRefIdeal.τ).loc Cert.DProjRefIdeal.main_arg1)
          ∧ r.2.mem ((c.tc : Thread Cert.DProjRefIdeal.nD Cert.DProjRefIdeal.τ).loc Cert.DProjRefIdeal.main_arg2) = m' ((c.tc : Thread Cert.DProjRefIdeal.nD Cert.DProjRefIdeal.τ).loc Cert.DProjRefIdeal.main_arg2)
          ∧ r.2.mem ((c.tc : Thread Cert.DProjRefIdeal.nD Cert.DProjRefIdeal.τ).loc Cert.DProjRefIdeal.main_arg3) = m' ((c.tc : Thread Cert.DProjRefIdeal.nD Cert.DProjRefIdeal.τ).loc Cert.DProjRefIdeal.main_arg3)
          ∧ r.2.mem ((c.tc : Thread Cert.DProjRefIdeal.nD Cert.DProjRefIdeal.τ).loc Cert.DProjRefIdeal.main_arg4) = m' ((c.tc : Thread Cert.DProjRefIdeal.nD Cert.DProjRefIdeal.τ).loc Cert.DProjRefIdeal.main_arg4)
          ∧ r.2.mem ((c.tc : Thread Cert.DProjRefIdeal.nD Cert.DProjRefIdeal.τ).loc Cert.DProjRefIdeal.main_arg5) = m' ((c.tc : Thread Cert.DProjRefIdeal.nD Cert.DProjRefIdeal.τ).loc Cert.DProjRefIdeal.main_arg5)
          ∧ r.2.mem ((c.tc : Thread Cert.DProjRefIdeal.nD Cert.DProjRefIdeal.τ).loc Cert.DProjRefIdeal.main_arg6) = m' ((c.tc : Thread Cert.DProjRefIdeal.nD Cert.DProjRefIdeal.τ).loc Cert.DProjRefIdeal.main_arg6)
          ∧ r.2.mem ((c.tc : Thread Cert.DProjRefIdeal.nD Cert.DProjRefIdeal.τ).loc Cert.DProjRefIdeal.main_arg7) = m' ((c.tc : Thread Cert.DProjRefIdeal.nD Cert.DProjRefIdeal.τ).loc Cert.DProjRefIdeal.main_arg7)
          ∧ r.2.mem ((c.tc : Thread Cert.DProjRefIdeal.nD Cert.DProjRefIdeal.τ).loc Cert.DProjRefIdeal.main_arg8) = m' ((c.tc : Thread Cert.DProjRefIdeal.nD Cert.DProjRefIdeal.τ).loc Cert.DProjRefIdeal.main_arg8)
          ∧ r.2.mem ((c.tc : Thread Cert.DProjRefIdeal.nD Cert.DProjRefIdeal.τ).loc Cert.DProjRefIdeal.main_arg9) = m' ((c.tc : Thread Cert.DProjRefIdeal.nD Cert.DProjRefIdeal.τ).loc Cert.DProjRefIdeal.main_arg9)
          ∧ r.2.mem ((c.tc : Thread Cert.DProjRefIdeal.nD Cert.DProjRefIdeal.τ).loc Cert.DProjRefIdeal.main_arg10) = m' ((c.tc : Thread Cert.DProjRefIdeal.nD Cert.DProjRefIdeal.τ).loc Cert.DProjRefIdeal.main_arg10)
          ∧ r.2.mem ((c.tc : Thread Cert.DProjRefIdeal.nD Cert.DProjRefIdeal.τ).loc Cert.DProjRefIdeal.main_arg11) = m' ((c.tc : Thread Cert.DProjRefIdeal.nD Cert.DProjRefIdeal.τ).loc Cert.DProjRefIdeal.main_arg11)
          ∧ r.2.mem ((c.tc : Thread Cert.DProjRefIdeal.nD Cert.DProjRefIdeal.τ).loc Cert.DProjRefIdeal.main_arg12) = m' ((c.tc : Thread Cert.DProjRefIdeal.nD Cert.DProjRefIdeal.τ).loc Cert.DProjRefIdeal.main_arg12)
          ∧ r.2.mem ((c.tc : Thread Cert.DProjRefIdeal.nD Cert.DProjRefIdeal.τ).loc Cert.DProjRefIdeal.main_arg13) = m' ((c.tc : Thread Cert.DProjRefIdeal.nD Cert.DProjRefIdeal.τ).loc Cert.DProjRefIdeal.main_arg13)
          ∧ r.2.mem ((c.tc : Thread Cert.DProjRefIdeal.nD Cert.DProjRefIdeal.τ).loc Cert.DProjRefIdeal.main_arg14) = m' ((c.tc : Thread Cert.DProjRefIdeal.nD Cert.DProjRefIdeal.τ).loc Cert.DProjRefIdeal.main_arg14))

def preserves_Mp_MpIdeal : Prop :=
  True

def algebraic_MpIdeal_MpRefIdeal [hMpIdeal : Cert.MpIdeal.Facts] [hMpRefIdeal : Cert.MpRefIdeal.Facts] : Prop :=
  ∀ (m : (ℓ : Loc Cert.MpIdeal.nD Cert.MpIdeal.τ Cert.MpIdeal.sig) → Buf (Elt Ideal) ℓ) (g : Dev Cert.MpIdeal.nD → PrngReg)
    (m' : (ℓ : Loc Cert.MpRefIdeal.nD Cert.MpRefIdeal.τ Cert.MpRefIdeal.sig) → Buf (Elt Ideal) ℓ) (g' : Dev Cert.MpRefIdeal.nD → PrngReg), Pre_MpIdeal m →
    (∀ c : Dev Cert.MpIdeal.nD,
      m' ((c.tc : Thread Cert.MpRefIdeal.nD Cert.MpRefIdeal.τ).loc Cert.MpRefIdeal.main_arg0) = m ((c.tc : Thread Cert.MpIdeal.nD Cert.MpIdeal.τ).loc Cert.MpIdeal.main_arg0)
      ∧ m' ((c.tc : Thread Cert.MpRefIdeal.nD Cert.MpRefIdeal.τ).loc Cert.MpRefIdeal.main_arg1) = m ((c.tc : Thread Cert.MpIdeal.nD Cert.MpIdeal.τ).loc Cert.MpIdeal.main_arg1)
      ∧ m' ((c.tc : Thread Cert.MpRefIdeal.nD Cert.MpRefIdeal.τ).loc Cert.MpRefIdeal.main_arg2) = m ((c.tc : Thread Cert.MpIdeal.nD Cert.MpIdeal.τ).loc Cert.MpIdeal.main_arg2)
      ∧ m' ((c.tc : Thread Cert.MpRefIdeal.nD Cert.MpRefIdeal.τ).loc Cert.MpRefIdeal.main_arg3) = m ((c.tc : Thread Cert.MpIdeal.nD Cert.MpIdeal.τ).loc Cert.MpIdeal.main_arg3)
      ∧ m' ((c.tc : Thread Cert.MpRefIdeal.nD Cert.MpRefIdeal.τ).loc Cert.MpRefIdeal.main_arg4) = m ((c.tc : Thread Cert.MpIdeal.nD Cert.MpIdeal.τ).loc Cert.MpIdeal.main_arg4)) →
    ∃ (v0 : (c : Dev Cert.MpIdeal.nD) → Buf (Elt Ideal) ((c.tc : Thread Cert.MpIdeal.nD Cert.MpIdeal.τ).loc Cert.MpIdeal.main_v5_0)) (v1 : (c : Dev Cert.MpIdeal.nD) → Buf (Elt Ideal) ((c.tc : Thread Cert.MpIdeal.nD Cert.MpIdeal.τ).loc Cert.MpIdeal.main_v5_1)),
      θ_run (Cert.MpIdeal.defs (F := Ideal)) (onTc (τ := Cert.MpIdeal.τ) (Cert.MpIdeal.main (F := Ideal))) ⟨m, fun _ => 0, g⟩ (fun r => ∀ c : Dev Cert.MpIdeal.nD,
          r.2.mem ((c.tc : Thread Cert.MpIdeal.nD Cert.MpIdeal.τ).loc Cert.MpIdeal.main_v5_0) = v0 c
          ∧ r.2.mem ((c.tc : Thread Cert.MpIdeal.nD Cert.MpIdeal.τ).loc Cert.MpIdeal.main_v5_1) = v1 c
          ∧ r.2.mem ((c.tc : Thread Cert.MpIdeal.nD Cert.MpIdeal.τ).loc Cert.MpIdeal.main_arg0) = m ((c.tc : Thread Cert.MpIdeal.nD Cert.MpIdeal.τ).loc Cert.MpIdeal.main_arg0)
          ∧ r.2.mem ((c.tc : Thread Cert.MpIdeal.nD Cert.MpIdeal.τ).loc Cert.MpIdeal.main_arg1) = m ((c.tc : Thread Cert.MpIdeal.nD Cert.MpIdeal.τ).loc Cert.MpIdeal.main_arg1)
          ∧ r.2.mem ((c.tc : Thread Cert.MpIdeal.nD Cert.MpIdeal.τ).loc Cert.MpIdeal.main_arg2) = m ((c.tc : Thread Cert.MpIdeal.nD Cert.MpIdeal.τ).loc Cert.MpIdeal.main_arg2)
          ∧ r.2.mem ((c.tc : Thread Cert.MpIdeal.nD Cert.MpIdeal.τ).loc Cert.MpIdeal.main_arg3) = m ((c.tc : Thread Cert.MpIdeal.nD Cert.MpIdeal.τ).loc Cert.MpIdeal.main_arg3)
          ∧ r.2.mem ((c.tc : Thread Cert.MpIdeal.nD Cert.MpIdeal.τ).loc Cert.MpIdeal.main_arg4) = m ((c.tc : Thread Cert.MpIdeal.nD Cert.MpIdeal.τ).loc Cert.MpIdeal.main_arg4))
      ∧ θ_run (Cert.MpRefIdeal.defs (F := Ideal)) (onTc (τ := Cert.MpRefIdeal.τ) (Cert.MpRefIdeal.main (F := Ideal))) ⟨m', fun _ => 0, g'⟩ (fun r => ∀ c : Dev Cert.MpRefIdeal.nD,
          r.2.mem ((c.tc : Thread Cert.MpRefIdeal.nD Cert.MpRefIdeal.τ).loc Cert.MpRefIdeal.main_v27) = v0 c
          ∧ r.2.mem ((c.tc : Thread Cert.MpRefIdeal.nD Cert.MpRefIdeal.τ).loc Cert.MpRefIdeal.main_v28) = v1 c
          ∧ r.2.mem ((c.tc : Thread Cert.MpRefIdeal.nD Cert.MpRefIdeal.τ).loc Cert.MpRefIdeal.main_arg0) = m' ((c.tc : Thread Cert.MpRefIdeal.nD Cert.MpRefIdeal.τ).loc Cert.MpRefIdeal.main_arg0)
          ∧ r.2.mem ((c.tc : Thread Cert.MpRefIdeal.nD Cert.MpRefIdeal.τ).loc Cert.MpRefIdeal.main_arg1) = m' ((c.tc : Thread Cert.MpRefIdeal.nD Cert.MpRefIdeal.τ).loc Cert.MpRefIdeal.main_arg1)
          ∧ r.2.mem ((c.tc : Thread Cert.MpRefIdeal.nD Cert.MpRefIdeal.τ).loc Cert.MpRefIdeal.main_arg2) = m' ((c.tc : Thread Cert.MpRefIdeal.nD Cert.MpRefIdeal.τ).loc Cert.MpRefIdeal.main_arg2)
          ∧ r.2.mem ((c.tc : Thread Cert.MpRefIdeal.nD Cert.MpRefIdeal.τ).loc Cert.MpRefIdeal.main_arg3) = m' ((c.tc : Thread Cert.MpRefIdeal.nD Cert.MpRefIdeal.τ).loc Cert.MpRefIdeal.main_arg3)
          ∧ r.2.mem ((c.tc : Thread Cert.MpRefIdeal.nD Cert.MpRefIdeal.τ).loc Cert.MpRefIdeal.main_arg4) = m' ((c.tc : Thread Cert.MpRefIdeal.nD Cert.MpRefIdeal.τ).loc Cert.MpRefIdeal.main_arg4))

def preserves_RetO_RetOIdeal : Prop :=
  True

def algebraic_RetOIdeal_RetORefIdeal [hRetOIdeal : Cert.RetOIdeal.Facts] [hRetORefIdeal : Cert.RetORefIdeal.Facts] : Prop :=
  ∀ (m : (ℓ : Loc Cert.RetOIdeal.nD Cert.RetOIdeal.τ Cert.RetOIdeal.sig) → Buf (Elt Ideal) ℓ) (g : Dev Cert.RetOIdeal.nD → PrngReg)
    (m' : (ℓ : Loc Cert.RetORefIdeal.nD Cert.RetORefIdeal.τ Cert.RetORefIdeal.sig) → Buf (Elt Ideal) ℓ) (g' : Dev Cert.RetORefIdeal.nD → PrngReg), Pre_RetOIdeal m →
    (∀ c : Dev Cert.RetOIdeal.nD,
      m' ((c.tc : Thread Cert.RetORefIdeal.nD Cert.RetORefIdeal.τ).loc Cert.RetORefIdeal.main_arg0) = m ((c.tc : Thread Cert.RetOIdeal.nD Cert.RetOIdeal.τ).loc Cert.RetOIdeal.main_arg0)
      ∧ m' ((c.tc : Thread Cert.RetORefIdeal.nD Cert.RetORefIdeal.τ).loc Cert.RetORefIdeal.main_arg1) = m ((c.tc : Thread Cert.RetOIdeal.nD Cert.RetOIdeal.τ).loc Cert.RetOIdeal.main_arg1)
      ∧ m' ((c.tc : Thread Cert.RetORefIdeal.nD Cert.RetORefIdeal.τ).loc Cert.RetORefIdeal.main_arg2) = m ((c.tc : Thread Cert.RetOIdeal.nD Cert.RetOIdeal.τ).loc Cert.RetOIdeal.main_arg2)
      ∧ m' ((c.tc : Thread Cert.RetORefIdeal.nD Cert.RetORefIdeal.τ).loc Cert.RetORefIdeal.main_arg3) = m ((c.tc : Thread Cert.RetOIdeal.nD Cert.RetOIdeal.τ).loc Cert.RetOIdeal.main_arg3)) →
    ∃ (v0 : (c : Dev Cert.RetOIdeal.nD) → Buf (Elt Ideal) ((c.tc : Thread Cert.RetOIdeal.nD Cert.RetOIdeal.τ).loc Cert.RetOIdeal.main_v4_0)) (v1 : (c : Dev Cert.RetOIdeal.nD) → Buf (Elt Ideal) ((c.tc : Thread Cert.RetOIdeal.nD Cert.RetOIdeal.τ).loc Cert.RetOIdeal.main_v4_1)),
      θ_run (Cert.RetOIdeal.defs (F := Ideal)) (onTc (τ := Cert.RetOIdeal.τ) (Cert.RetOIdeal.main (F := Ideal))) ⟨m, fun _ => 0, g⟩ (fun r => ∀ c : Dev Cert.RetOIdeal.nD,
          r.2.mem ((c.tc : Thread Cert.RetOIdeal.nD Cert.RetOIdeal.τ).loc Cert.RetOIdeal.main_v4_0) = v0 c
          ∧ r.2.mem ((c.tc : Thread Cert.RetOIdeal.nD Cert.RetOIdeal.τ).loc Cert.RetOIdeal.main_v4_1) = v1 c
          ∧ r.2.mem ((c.tc : Thread Cert.RetOIdeal.nD Cert.RetOIdeal.τ).loc Cert.RetOIdeal.main_arg0) = m ((c.tc : Thread Cert.RetOIdeal.nD Cert.RetOIdeal.τ).loc Cert.RetOIdeal.main_arg0)
          ∧ r.2.mem ((c.tc : Thread Cert.RetOIdeal.nD Cert.RetOIdeal.τ).loc Cert.RetOIdeal.main_arg1) = m ((c.tc : Thread Cert.RetOIdeal.nD Cert.RetOIdeal.τ).loc Cert.RetOIdeal.main_arg1)
          ∧ r.2.mem ((c.tc : Thread Cert.RetOIdeal.nD Cert.RetOIdeal.τ).loc Cert.RetOIdeal.main_arg2) = m ((c.tc : Thread Cert.RetOIdeal.nD Cert.RetOIdeal.τ).loc Cert.RetOIdeal.main_arg2)
          ∧ r.2.mem ((c.tc : Thread Cert.RetOIdeal.nD Cert.RetOIdeal.τ).loc Cert.RetOIdeal.main_arg3) = m ((c.tc : Thread Cert.RetOIdeal.nD Cert.RetOIdeal.τ).loc Cert.RetOIdeal.main_arg3))
      ∧ θ_run (Cert.RetORefIdeal.defs (F := Ideal)) (onTc (τ := Cert.RetORefIdeal.τ) (Cert.RetORefIdeal.main (F := Ideal))) ⟨m', fun _ => 0, g'⟩ (fun r => ∀ c : Dev Cert.RetORefIdeal.nD,
          r.2.mem ((c.tc : Thread Cert.RetORefIdeal.nD Cert.RetORefIdeal.τ).loc Cert.RetORefIdeal.main_v18) = v0 c
          ∧ r.2.mem ((c.tc : Thread Cert.RetORefIdeal.nD Cert.RetORefIdeal.τ).loc Cert.RetORefIdeal.main_v19) = v1 c
          ∧ r.2.mem ((c.tc : Thread Cert.RetORefIdeal.nD Cert.RetORefIdeal.τ).loc Cert.RetORefIdeal.main_arg0) = m' ((c.tc : Thread Cert.RetORefIdeal.nD Cert.RetORefIdeal.τ).loc Cert.RetORefIdeal.main_arg0)
          ∧ r.2.mem ((c.tc : Thread Cert.RetORefIdeal.nD Cert.RetORefIdeal.τ).loc Cert.RetORefIdeal.main_arg1) = m' ((c.tc : Thread Cert.RetORefIdeal.nD Cert.RetORefIdeal.τ).loc Cert.RetORefIdeal.main_arg1)
          ∧ r.2.mem ((c.tc : Thread Cert.RetORefIdeal.nD Cert.RetORefIdeal.τ).loc Cert.RetORefIdeal.main_arg2) = m' ((c.tc : Thread Cert.RetORefIdeal.nD Cert.RetORefIdeal.τ).loc Cert.RetORefIdeal.main_arg2)
          ∧ r.2.mem ((c.tc : Thread Cert.RetORefIdeal.nD Cert.RetORefIdeal.τ).loc Cert.RetORefIdeal.main_arg3) = m' ((c.tc : Thread Cert.RetORefIdeal.nD Cert.RetORefIdeal.τ).loc Cert.RetORefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_OutP_OutPIdeal : Prop :=
  True

def algebraic_OutPIdeal_OutPRefIdeal [hOutPIdeal : Cert.OutPIdeal.Facts] [hOutPRefIdeal : Cert.OutPRefIdeal.Facts] : Prop :=
  ∀ (m : (ℓ : Loc Cert.OutPIdeal.nD Cert.OutPIdeal.τ Cert.OutPIdeal.sig) → Buf (Elt Ideal) ℓ) (g : Dev Cert.OutPIdeal.nD → PrngReg)
    (m' : (ℓ : Loc Cert.OutPRefIdeal.nD Cert.OutPRefIdeal.τ Cert.OutPRefIdeal.sig) → Buf (Elt Ideal) ℓ) (g' : Dev Cert.OutPRefIdeal.nD → PrngReg), Pre_OutPIdeal m →
    (∀ c : Dev Cert.OutPIdeal.nD,
      m' ((c.tc : Thread Cert.OutPRefIdeal.nD Cert.OutPRefIdeal.τ).loc Cert.OutPRefIdeal.main_arg0) = m ((c.tc : Thread Cert.OutPIdeal.nD Cert.OutPIdeal.τ).loc Cert.OutPIdeal.main_arg0)
      ∧ m' ((c.tc : Thread Cert.OutPRefIdeal.nD Cert.OutPRefIdeal.τ).loc Cert.OutPRefIdeal.main_arg1) = m ((c.tc : Thread Cert.OutPIdeal.nD Cert.OutPIdeal.τ).loc Cert.OutPIdeal.main_arg1)
      ∧ m' ((c.tc : Thread Cert.OutPRefIdeal.nD Cert.OutPRefIdeal.τ).loc Cert.OutPRefIdeal.main_arg2) = m ((c.tc : Thread Cert.OutPIdeal.nD Cert.OutPIdeal.τ).loc Cert.OutPIdeal.main_arg2)
      ∧ m' ((c.tc : Thread Cert.OutPRefIdeal.nD Cert.OutPRefIdeal.τ).loc Cert.OutPRefIdeal.main_arg3) = m ((c.tc : Thread Cert.OutPIdeal.nD Cert.OutPIdeal.τ).loc Cert.OutPIdeal.main_arg3)) →
    ∃ (v0 : (c : Dev Cert.OutPIdeal.nD) → Buf (Elt Ideal) ((c.tc : Thread Cert.OutPIdeal.nD Cert.OutPIdeal.τ).loc Cert.OutPIdeal.main_v3_0)) (v1 : (c : Dev Cert.OutPIdeal.nD) → Buf (Elt Ideal) ((c.tc : Thread Cert.OutPIdeal.nD Cert.OutPIdeal.τ).loc Cert.OutPIdeal.main_v3_1)),
      θ_run (Cert.OutPIdeal.defs (F := Ideal)) (onTc (τ := Cert.OutPIdeal.τ) (Cert.OutPIdeal.main (F := Ideal))) ⟨m, fun _ => 0, g⟩ (fun r => ∀ c : Dev Cert.OutPIdeal.nD,
          r.2.mem ((c.tc : Thread Cert.OutPIdeal.nD Cert.OutPIdeal.τ).loc Cert.OutPIdeal.main_v3_0) = v0 c
          ∧ r.2.mem ((c.tc : Thread Cert.OutPIdeal.nD Cert.OutPIdeal.τ).loc Cert.OutPIdeal.main_v3_1) = v1 c
          ∧ r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
          ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1)
          ∧ r.2.mem ((c.tc : Thread Cert.OutPIdeal.nD Cert.OutPIdeal.τ).loc Cert.OutPIdeal.main_arg2) = m ((c.tc : Thread Cert.OutPIdeal.nD Cert.OutPIdeal.τ).loc Cert.OutPIdeal.main_arg2)
          ∧ r.2.mem ((c.tc : Thread Cert.OutPIdeal.nD Cert.OutPIdeal.τ).loc Cert.OutPIdeal.main_arg3) = m ((c.tc : Thread Cert.OutPIdeal.nD Cert.OutPIdeal.τ).loc Cert.OutPIdeal.main_arg3))
      ∧ θ_run (Cert.OutPRefIdeal.defs (F := Ideal)) (onTc (τ := Cert.OutPRefIdeal.τ) (Cert.OutPRefIdeal.main (F := Ideal))) ⟨m', fun _ => 0, g'⟩ (fun r => ∀ c : Dev Cert.OutPRefIdeal.nD,
          r.2.mem ((c.tc : Thread Cert.OutPRefIdeal.nD Cert.OutPRefIdeal.τ).loc Cert.OutPRefIdeal.main_v1) = v0 c
          ∧ r.2.mem ((c.tc : Thread Cert.OutPRefIdeal.nD Cert.OutPRefIdeal.τ).loc Cert.OutPRefIdeal.main_v15) = v1 c
          ∧ r.2.mem ((c.tc : Thread Cert.OutPRefIdeal.nD Cert.OutPRefIdeal.τ).loc Cert.OutPRefIdeal.main_arg0) = m' ((c.tc : Thread Cert.OutPRefIdeal.nD Cert.OutPRefIdeal.τ).loc Cert.OutPRefIdeal.main_arg0)
          ∧ r.2.mem ((c.tc : Thread Cert.OutPRefIdeal.nD Cert.OutPRefIdeal.τ).loc Cert.OutPRefIdeal.main_arg1) = m' ((c.tc : Thread Cert.OutPRefIdeal.nD Cert.OutPRefIdeal.τ).loc Cert.OutPRefIdeal.main_arg1)
          ∧ r.2.mem ((c.tc : Thread Cert.OutPRefIdeal.nD Cert.OutPRefIdeal.τ).loc Cert.OutPRefIdeal.main_arg2) = m' ((c.tc : Thread Cert.OutPRefIdeal.nD Cert.OutPRefIdeal.τ).loc Cert.OutPRefIdeal.main_arg2)
          ∧ r.2.mem ((c.tc : Thread Cert.OutPRefIdeal.nD Cert.OutPRefIdeal.τ).loc Cert.OutPRefIdeal.main_arg3) = m' ((c.tc : Thread Cert.OutPRefIdeal.nD Cert.OutPRefIdeal.τ).loc Cert.OutPRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_v15) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Qkv_QkvIdeal : Prop :=
  True

def algebraic_QkvIdeal_QkvRefIdeal_pre_finite_qkv [hQkvIdeal : Cert.QkvIdeal.Facts] [hQkvRefIdeal : Cert.QkvRefIdeal.Facts] [hPre_finite_qkv : Cert.Pre_finite_qkv.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_finite_qkv m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v95_0)) (v1 : (c : Dev Cert.QkvIdeal.nD) → Buf (Elt Ideal) ((c.tc : Thread Cert.QkvIdeal.nD Cert.QkvIdeal.τ).loc Cert.QkvIdeal.main_v95_1)) (v2 : (c : Dev Cert.QkvIdeal.nD) → Buf (Elt Ideal) ((c.tc : Thread Cert.QkvIdeal.nD Cert.QkvIdeal.τ).loc Cert.QkvIdeal.main_v95_2)) (v3 : (c : Dev Cert.QkvIdeal.nD) → Buf (Elt Ideal) ((c.tc : Thread Cert.QkvIdeal.nD Cert.QkvIdeal.τ).loc Cert.QkvIdeal.main_v95_3)) (v4 : (c : Dev Cert.QkvIdeal.nD) → Buf (Elt Ideal) ((c.tc : Thread Cert.QkvIdeal.nD Cert.QkvIdeal.τ).loc Cert.QkvIdeal.main_v95_4)) (v5 : (c : Dev Cert.QkvIdeal.nD) → Buf (Elt Ideal) ((c.tc : Thread Cert.QkvIdeal.nD Cert.QkvIdeal.τ).loc Cert.QkvIdeal.main_v95_5)) (v6 : (c : Dev Cert.QkvIdeal.nD) → Buf (Elt Ideal) ((c.tc : Thread Cert.QkvIdeal.nD Cert.QkvIdeal.τ).loc Cert.QkvIdeal.main_v95_6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v95_0) = v0 c
          ∧ r.2.mem ((c.tc : Thread Cert.QkvIdeal.nD Cert.QkvIdeal.τ).loc Cert.QkvIdeal.main_v95_1) = v1 c
          ∧ r.2.mem ((c.tc : Thread Cert.QkvIdeal.nD Cert.QkvIdeal.τ).loc Cert.QkvIdeal.main_v95_2) = v2 c
          ∧ r.2.mem ((c.tc : Thread Cert.QkvIdeal.nD Cert.QkvIdeal.τ).loc Cert.QkvIdeal.main_v95_3) = v3 c
          ∧ r.2.mem ((c.tc : Thread Cert.QkvIdeal.nD Cert.QkvIdeal.τ).loc Cert.QkvIdeal.main_v95_4) = v4 c
          ∧ r.2.mem ((c.tc : Thread Cert.QkvIdeal.nD Cert.QkvIdeal.τ).loc Cert.QkvIdeal.main_v95_5) = v5 c
          ∧ r.2.mem ((c.tc : Thread Cert.QkvIdeal.nD Cert.QkvIdeal.τ).loc Cert.QkvIdeal.main_v95_6) = v6 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v163) = v0 c
          ∧ r.2.mem ((c.tc : Thread Cert.QkvRefIdeal.nD Cert.QkvRefIdeal.τ).loc Cert.QkvRefIdeal.main_v164) = v1 c
          ∧ r.2.mem ((c.tc : Thread Cert.QkvRefIdeal.nD Cert.QkvRefIdeal.τ).loc Cert.QkvRefIdeal.main_v167) = v2 c
          ∧ r.2.mem ((c.tc : Thread Cert.QkvRefIdeal.nD Cert.QkvRefIdeal.τ).loc Cert.QkvRefIdeal.main_v168) = v3 c
          ∧ r.2.mem ((c.tc : Thread Cert.QkvRefIdeal.nD Cert.QkvRefIdeal.τ).loc Cert.QkvRefIdeal.main_v171) = v4 c
          ∧ r.2.mem ((c.tc : Thread Cert.QkvRefIdeal.nD Cert.QkvRefIdeal.τ).loc Cert.QkvRefIdeal.main_v172) = v5 c
          ∧ r.2.mem ((c.tc : Thread Cert.QkvRefIdeal.nD Cert.QkvRefIdeal.τ).loc Cert.QkvRefIdeal.main_v173) = v6 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def Claim : Prop :=
  ∃ (hDU : Cert.DU.Facts) (hDUIdeal : Cert.DUIdeal.Facts) (hDURefIdeal : Cert.DURefIdeal.Facts) (hDM : Cert.DM.Facts) (hDMIdeal : Cert.DMIdeal.Facts) (hDMRefIdeal : Cert.DMRefIdeal.Facts) (hDHp : Cert.DHp.Facts) (hDHpIdeal : Cert.DHpIdeal.Facts) (hDHpRefIdeal : Cert.DHpRefIdeal.Facts) (hDHm : Cert.DHm.Facts) (hDHmIdeal : Cert.DHmIdeal.Facts) (hDHmRefIdeal : Cert.DHmRefIdeal.Facts) (hDH : Cert.DH.Facts) (hDHIdeal : Cert.DHIdeal.Facts) (hDHRefIdeal : Cert.DHRefIdeal.Facts) (hHead : Cert.Head.Facts) (hHeadIdeal : Cert.HeadIdeal.Facts) (hHeadRefIdeal : Cert.HeadRefIdeal.Facts) (hMpb : Cert.Mpb.Facts) (hMpbIdeal : Cert.MpbIdeal.Facts) (hMpbRefIdeal : Cert.MpbRefIdeal.Facts) (hAttn : Cert.Attn.Facts) (hAttnIdeal : Cert.AttnIdeal.Facts) (hAttnRefIdeal : Cert.AttnRefIdeal.Facts) (hDProj : Cert.DProj.Facts) (hDProjIdeal : Cert.DProjIdeal.Facts) (hDProjRefIdeal : Cert.DProjRefIdeal.Facts) (hMp : Cert.Mp.Facts) (hMpIdeal : Cert.MpIdeal.Facts) (hMpRefIdeal : Cert.MpRefIdeal.Facts) (hRetO : Cert.RetO.Facts) (hRetOIdeal : Cert.RetOIdeal.Facts) (hRetORefIdeal : Cert.RetORefIdeal.Facts) (hUp : Cert.Up.Facts) (hUpIdeal : Cert.UpIdeal.Facts) (hUpRefIdeal : Cert.UpRefIdeal.Facts) (hOutP : Cert.OutP.Facts) (hOutPIdeal : Cert.OutPIdeal.Facts) (hOutPRefIdeal : Cert.OutPRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts) (hPre_finite_dhp : Cert.Pre_finite_dhp.Facts) (hPre_finite_dhm : Cert.Pre_finite_dhm.Facts) (hPre_finite_dh : Cert.Pre_finite_dh.Facts) (hPre_finite_head_call : Cert.Pre_finite_head_call.Facts) (hPre_finite_mpb : Cert.Pre_finite_mpb.Facts) (hPre_finite_attn : Cert.Pre_finite_attn.Facts) (hPre_finite_dproj : Cert.Pre_finite_dproj.Facts) (hPre_finite_qkv : Cert.Pre_finite_qkv.Facts),
    quiescent_DU (hDU := hDU)
    ∧ quiescent_DUIdeal (hDUIdeal := hDUIdeal)
    ∧ quiescent_DURefIdeal (hDURefIdeal := hDURefIdeal)
    ∧ quiescent_DM (hDM := hDM)
    ∧ quiescent_DMIdeal (hDMIdeal := hDMIdeal)
    ∧ quiescent_DMRefIdeal (hDMRefIdeal := hDMRefIdeal)
    ∧ quiescent_DHp (hDHp := hDHp)
    ∧ quiescent_DHpIdeal (hDHpIdeal := hDHpIdeal)
    ∧ quiescent_DHpIdeal_pre_finite_dhp (hDHpIdeal := hDHpIdeal) (hPre_finite_dhp := hPre_finite_dhp)
    ∧ quiescent_DHpRefIdeal (hDHpRefIdeal := hDHpRefIdeal)
    ∧ quiescent_DHpRefIdeal_pre_finite_dhp (hDHpRefIdeal := hDHpRefIdeal) (hPre_finite_dhp := hPre_finite_dhp)
    ∧ quiescent_DHm (hDHm := hDHm)
    ∧ quiescent_DHmIdeal (hDHmIdeal := hDHmIdeal)
    ∧ quiescent_DHmIdeal_pre_finite_dhm (hDHmIdeal := hDHmIdeal) (hPre_finite_dhm := hPre_finite_dhm)
    ∧ quiescent_DHmRefIdeal (hDHmRefIdeal := hDHmRefIdeal)
    ∧ quiescent_DHmRefIdeal_pre_finite_dhm (hDHmRefIdeal := hDHmRefIdeal) (hPre_finite_dhm := hPre_finite_dhm)
    ∧ quiescent_DH (hDH := hDH)
    ∧ quiescent_DHIdeal (hDHIdeal := hDHIdeal)
    ∧ quiescent_DHIdeal_pre_finite_dh (hDHIdeal := hDHIdeal) (hPre_finite_dh := hPre_finite_dh)
    ∧ quiescent_DHRefIdeal (hDHRefIdeal := hDHRefIdeal)
    ∧ quiescent_DHRefIdeal_pre_finite_dh (hDHRefIdeal := hDHRefIdeal) (hPre_finite_dh := hPre_finite_dh)
    ∧ quiescent_Head (hHead := hHead)
    ∧ quiescent_HeadIdeal (hHeadIdeal := hHeadIdeal)
    ∧ quiescent_HeadIdeal_pre_finite_head_call (hHeadIdeal := hHeadIdeal) (hPre_finite_head_call := hPre_finite_head_call)
    ∧ quiescent_HeadRefIdeal (hHeadRefIdeal := hHeadRefIdeal)
    ∧ quiescent_HeadRefIdeal_pre_finite_head_call (hHeadRefIdeal := hHeadRefIdeal) (hPre_finite_head_call := hPre_finite_head_call)
    ∧ quiescent_Mpb (hMpb := hMpb)
    ∧ quiescent_MpbIdeal (hMpbIdeal := hMpbIdeal)
    ∧ quiescent_MpbIdeal_pre_finite_mpb (hMpbIdeal := hMpbIdeal) (hPre_finite_mpb := hPre_finite_mpb)
    ∧ quiescent_MpbRefIdeal (hMpbRefIdeal := hMpbRefIdeal)
    ∧ quiescent_MpbRefIdeal_pre_finite_mpb (hMpbRefIdeal := hMpbRefIdeal) (hPre_finite_mpb := hPre_finite_mpb)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_DProj (hDProj := hDProj)
    ∧ quiescent_DProjIdeal (hDProjIdeal := hDProjIdeal)
    ∧ quiescent_DProjIdeal_pre_finite_dproj (hDProjIdeal := hDProjIdeal) (hPre_finite_dproj := hPre_finite_dproj)
    ∧ quiescent_DProjRefIdeal (hDProjRefIdeal := hDProjRefIdeal)
    ∧ quiescent_DProjRefIdeal_pre_finite_dproj (hDProjRefIdeal := hDProjRefIdeal) (hPre_finite_dproj := hPre_finite_dproj)
    ∧ quiescent_Mp (hMp := hMp)
    ∧ quiescent_MpIdeal (hMpIdeal := hMpIdeal)
    ∧ quiescent_MpRefIdeal (hMpRefIdeal := hMpRefIdeal)
    ∧ quiescent_RetO (hRetO := hRetO)
    ∧ quiescent_RetOIdeal (hRetOIdeal := hRetOIdeal)
    ∧ quiescent_RetORefIdeal (hRetORefIdeal := hRetORefIdeal)
    ∧ quiescent_Up (hUp := hUp)
    ∧ quiescent_UpIdeal (hUpIdeal := hUpIdeal)
    ∧ quiescent_UpRefIdeal (hUpRefIdeal := hUpRefIdeal)
    ∧ quiescent_OutP (hOutP := hOutP)
    ∧ quiescent_OutPIdeal (hOutPIdeal := hOutPIdeal)
    ∧ quiescent_OutPRefIdeal (hOutPRefIdeal := hOutPRefIdeal)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvIdeal_pre_finite_qkv (hQkvIdeal := hQkvIdeal) (hPre_finite_qkv := hPre_finite_qkv)
    ∧ quiescent_QkvRefIdeal (hQkvRefIdeal := hQkvRefIdeal)
    ∧ quiescent_QkvRefIdeal_pre_finite_qkv (hQkvRefIdeal := hQkvRefIdeal) (hPre_finite_qkv := hPre_finite_qkv)
    ∧ preserves_DU_DUIdeal
    ∧ algebraic_DUIdeal_DURefIdeal (hDUIdeal := hDUIdeal) (hDURefIdeal := hDURefIdeal)
    ∧ preserves_DM_DMIdeal
    ∧ algebraic_DMIdeal_DMRefIdeal (hDMIdeal := hDMIdeal) (hDMRefIdeal := hDMRefIdeal)
    ∧ preserves_DHp_DHpIdeal
    ∧ algebraic_DHpIdeal_DHpRefIdeal_pre_finite_dhp (hDHpIdeal := hDHpIdeal) (hDHpRefIdeal := hDHpRefIdeal) (hPre_finite_dhp := hPre_finite_dhp)
    ∧ preserves_DHm_DHmIdeal
    ∧ algebraic_DHmIdeal_DHmRefIdeal_pre_finite_dhm (hDHmIdeal := hDHmIdeal) (hDHmRefIdeal := hDHmRefIdeal) (hPre_finite_dhm := hPre_finite_dhm)
    ∧ preserves_DH_DHIdeal
    ∧ algebraic_DHIdeal_DHRefIdeal_pre_finite_dh (hDHIdeal := hDHIdeal) (hDHRefIdeal := hDHRefIdeal) (hPre_finite_dh := hPre_finite_dh)
    ∧ preserves_Head_HeadIdeal
    ∧ algebraic_HeadIdeal_HeadRefIdeal_pre_finite_head_call (hHeadIdeal := hHeadIdeal) (hHeadRefIdeal := hHeadRefIdeal) (hPre_finite_head_call := hPre_finite_head_call)
    ∧ preserves_Mpb_MpbIdeal
    ∧ algebraic_MpbIdeal_MpbRefIdeal_pre_finite_mpb (hMpbIdeal := hMpbIdeal) (hMpbRefIdeal := hMpbRefIdeal) (hPre_finite_mpb := hPre_finite_mpb)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_DProj_DProjIdeal
    ∧ algebraic_DProjIdeal_DProjRefIdeal_pre_finite_dproj (hDProjIdeal := hDProjIdeal) (hDProjRefIdeal := hDProjRefIdeal) (hPre_finite_dproj := hPre_finite_dproj)
    ∧ preserves_Mp_MpIdeal
    ∧ algebraic_MpIdeal_MpRefIdeal (hMpIdeal := hMpIdeal) (hMpRefIdeal := hMpRefIdeal)
    ∧ preserves_RetO_RetOIdeal
    ∧ algebraic_RetOIdeal_RetORefIdeal (hRetOIdeal := hRetOIdeal) (hRetORefIdeal := hRetORefIdeal)
    ∧ preserves_Up_UpIdeal
    ∧ algebraic_UpIdeal_UpRefIdeal (hUpIdeal := hUpIdeal) (hUpRefIdeal := hUpRefIdeal)
    ∧ preserves_OutP_OutPIdeal
    ∧ algebraic_OutPIdeal_OutPRefIdeal (hOutPIdeal := hOutPIdeal) (hOutPRefIdeal := hOutPRefIdeal)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal_pre_finite_qkv (hQkvIdeal := hQkvIdeal) (hQkvRefIdeal := hQkvRefIdeal) (hPre_finite_qkv := hPre_finite_qkv)
-- ==== Pre_finite_attn.lean ====
abbrev S16384x512 : Shape := ⟨2, ![16384, 512]⟩
abbrev S16384x128 : Shape := ⟨2, ![16384, 128]⟩
abbrev S_ : Shape := ⟨0, ![]⟩

class Facts : Prop where
  bcast_S_S16384x512 : S_.BroadcastsInDim S16384x512 (![] : Fin 0 → Fin S16384x512.rank)
  bcast_S_S16384x128 : S_.BroadcastsInDim S16384x128 (![] : Fin 0 → Fin S16384x128.rank)

variable [Facts]

def fn {F : FTy → Type} [FloatOps F] (main_arg0 : FVec F S16384x512 .f32) (main_arg1 : FVec F S16384x128 .f32) (main_arg2 : FVec F S16384x128 .f32) (main_arg3 : FVec F S16384x512 .f32) : IVec S16384x512 1 × IVec S16384x128 1 × IVec S16384x128 1 × IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x128 .f32 := Host.absf main_arg1
  let main_cst_0 : FVec F S_ .f32 := constant S_ .f32 0x7F800000#32
  let main_v4 : FVec F S16384x128 .f32 := broadcastInDim S16384x128 ![] bcast_S_S16384x128 main_cst_0
  let main_v5 : IVec S16384x128 1 := cmpf .olt main_v3 main_v4
  let main_v6 : FVec F S16384x128 .f32 := Host.absf main_arg2
  let main_cst_1 : FVec F S_ .f32 := constant S_ .f32 0x7F800000#32
  let main_v7 : FVec F S16384x128 .f32 := broadcastInDim S16384x128 ![] bcast_S_S16384x128 main_cst_1
  let main_v8 : IVec S16384x128 1 := cmpf .olt main_v6 main_v7
  let main_v9 : FVec F S16384x512 .f32 := Host.absf main_arg3
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  (main_v2, main_v5, main_v8, main_v11)
-- ==== Pre_finite_dh.lean ====
abbrev S16384x1024 : Shape := ⟨2, ![16384, 1024]⟩
abbrev S1024 : Shape := ⟨1, ![1024]⟩
abbrev S1024x4864 : Shape := ⟨2, ![1024, 4864]⟩
abbrev S16384x4864 : Shape := ⟨2, ![16384, 4864]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x4864 : S_.BroadcastsInDim S1024x4864 (![] : Fin 0 → Fin S1024x4864.rank)
  bcast_S_S16384x4864 : S_.BroadcastsInDim S16384x4864 (![] : Fin 0 → Fin S16384x4864.rank)

variable [Facts]

def fn {F : FTy → Type} [FloatOps F] (main_arg0 : FVec F S16384x1024 .f32) (main_arg1 : FVec F S1024 .f32) (main_arg2 : FVec F S1024x4864 .f32) (main_arg3 : FVec F S16384x4864 .f32) (main_arg4 : FVec F S16384x1024 .f32) : IVec S16384x1024 1 × IVec S1024 1 × IVec S1024x4864 1 × IVec S16384x4864 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4864 .f32 := Host.absf main_arg2
  let main_cst_1 : FVec F S_ .f32 := constant S_ .f32 0x7F800000#32
  let main_v7 : FVec F S1024x4864 .f32 := broadcastInDim S1024x4864 ![] bcast_S_S1024x4864 main_cst_1
  let main_v8 : IVec S1024x4864 1 := cmpf .olt main_v6 main_v7
  let main_v9 : FVec F S16384x4864 .f32 := Host.absf main_arg3
  let main_cst_2 : FVec F S_ .f32 := constant S_ .f32 0x7F800000#32
  let main_v10 : FVec F S16384x4864 .f32 := broadcastInDim S16384x4864 ![] bcast_S_S16384x4864 main_cst_2
  let main_v11 : IVec S16384x4864 1 := cmpf .olt main_v9 main_v10
  (main_v2, main_v5, main_v8, main_v11)
-- ==== Pre_finite_dhm.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S16384x4096 : S_.BroadcastsInDim S16384x4096 (![] : Fin 0 → Fin S16384x4096.rank)

variable [Facts]

def fn {F : FTy → Type} [FloatOps F] (main_arg0 : FVec F S16384x1024 .f32) (main_arg1 : FVec F S1024 .f32) (main_arg2 : FVec F S1024x4096 .f32) (main_arg3 : FVec F S16384x4096 .f32) (main_arg4 : FVec F S16384x1024 .f32) : IVec S16384x1024 1 × IVec S1024 1 × IVec S1024x4096 1 × IVec S16384x4096 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S16384x4096 .f32 := Host.absf main_arg3
  let main_cst_2 : FVec F S_ .f32 := constant S_ .f32 0x7F800000#32
  let main_v10 : FVec F S16384x4096 .f32 := broadcastInDim S16384x4096 ![] bcast_S_S16384x4096 main_cst_2
  let main_v11 : IVec S16384x4096 1 := cmpf .olt main_v9 main_v10
  (main_v2, main_v5, main_v8, main_v11)
-- ==== Pre_finite_dhp.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S16384x1024 .f32) (main_arg1 : FVec F S1024 .f32) (main_arg2 : FVec F S1024x1024 .f32) (main_arg3 : FVec F S16384x1024 .f32) (main_arg4 : FVec F S16384x1024 .f32) : IVec S16384x1024 1 × IVec S1024 1 × IVec S1024x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  (main_v2, main_v5, main_v8, main_v11)
-- ==== Pre_finite_dproj.lean ====
abbrev S16384x4864 : Shape := ⟨2, ![16384, 4864]⟩
abbrev S64 : Shape := ⟨1, ![64]⟩
abbrev S32x512x512 : Shape := ⟨3, ![32, 512, 512]⟩
abbrev S8x16384x128 : Shape := ⟨3, ![8, 16384, 128]⟩
abbrev S16384x512 : Shape := ⟨2, ![16384, 512]⟩
abbrev S16384x1024 : Shape := ⟨2, ![16384, 1024]⟩
abbrev S_ : Shape := ⟨0, ![]⟩

class Facts : Prop where
  bcast_S_S16384x4864 : S_.BroadcastsInDim S16384x4864 (![] : Fin 0 → Fin S16384x4864.rank)
  bcast_S_S64 : S_.BroadcastsInDim S64 (![] : Fin 0 → Fin S64.rank)
  bcast_S_S32x512x512 : S_.BroadcastsInDim S32x512x512 (![] : Fin 0 → Fin S32x512x512.rank)
  bcast_S_S8x16384x128 : S_.BroadcastsInDim S8x16384x128 (![] : Fin 0 → Fin S8x16384x128.rank)

variable [Facts]

def fn {F : FTy → Type} [FloatOps F] (main_arg0 : FVec F S16384x4864 .f32) (main_arg1 : FVec F S64 .f32) (main_arg2 : FVec F S64 .f32) (main_arg3 : FVec F S32x512x512 .f32) (main_arg4 : FVec F S8x16384x128 .f32) (main_arg5 : FVec F S8x16384x128 .f32) (main_arg6 : FVec F S16384x512 .f32) (main_arg7 : FVec F S16384x512 .f32) (main_arg8 : FVec F S16384x512 .f32) (main_arg9 : FVec F S16384x512 .f32) (main_arg10 : FVec F S16384x512 .f32) (main_arg11 : FVec F S16384x512 .f32) (main_arg12 : FVec F S16384x512 .f32) (main_arg13 : FVec F S16384x1024 .f32) (main_arg14 : FVec F S16384x1024 .f32) : IVec S16384x4864 1 × IVec S64 1 × IVec S64 1 × IVec S32x512x512 1 × IVec S8x16384x128 1 :=
  let main_v0 : FVec F S16384x4864 .f32 := Host.absf main_arg0
  let main_cst : FVec F S_ .f32 := constant S_ .f32 0x7F800000#32
  let main_v1 : FVec F S16384x4864 .f32 := broadcastInDim S16384x4864 ![] bcast_S_S16384x4864 main_cst
  let main_v2 : IVec S16384x4864 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S32x512x512 .f32 := Host.absf main_arg3
  let main_cst_2 : FVec F S_ .f32 := constant S_ .f32 0x7F800000#32
  let main_v10 : FVec F S32x512x512 .f32 := broadcastInDim S32x512x512 ![] bcast_S_S32x512x512 main_cst_2
  let main_v11 : IVec S32x512x512 1 := cmpf .olt main_v9 main_v10
  let main_v12 : FVec F S8x16384x128 .f32 := Host.absf main_arg4
  let main_cst_3 : FVec F S_ .f32 := constant S_ .f32 0x7F800000#32
  let main_v13 : FVec F S8x16384x128 .f32 := broadcastInDim S8x16384x128 ![] bcast_S_S8x16384x128 main_cst_3
  let main_v14 : IVec S8x16384x128 1 := cmpf .olt main_v12 main_v13
  (main_v2, main_v5, main_v8, main_v11, main_v14)
-- ==== Pre_finite_head_call.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S16384x1024 .f32) (main_arg1 : FVec F S1024x1024 .f32) (main_arg2 : FVec F S16384x1024 .f32) (main_arg3 : FVec F S16384x1024 .f32) (main_arg4 : FVec F S16384x1024 .f32) (main_arg5 : FVec F S1024 .f32) : IVec S16384x1024 1 × IVec S1024x1024 1 × IVec S16384x1024 1 × IVec S16384x1024 1 × IVec S16384x1024 1 × IVec S1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite_mpb.lean ====
abbrev S16384x512 : Shape := ⟨2, ![16384, 512]⟩
abbrev S16384x4864 : Shape := ⟨2, ![16384, 4864]⟩
abbrev S512 : Shape := ⟨1, ![512]⟩
abbrev S_ : Shape := ⟨0, ![]⟩

class Facts : Prop where
  bcast_S_S16384x512 : S_.BroadcastsInDim S16384x512 (![] : Fin 0 → Fin S16384x512.rank)
  bcast_S_S16384x4864 : S_.BroadcastsInDim S16384x4864 (![] : Fin 0 → Fin S16384x4864.rank)
  bcast_S_S512 : S_.BroadcastsInDim S512 (![] : Fin 0 → Fin S512.rank)

variable [Facts]

def fn {F : FTy → Type} [FloatOps F] (main_arg0 : FVec F S16384x512 .f32) (main_arg1 : FVec F S16384x512 .f32) (main_arg2 : FVec F S16384x512 .f32) (main_arg3 : FVec F S16384x4864 .f32) (main_arg4 : FVec F S512 .f32) (main_arg5 : FVec F S16384x512 .f32) (main_arg6 : FVec F S16384x512 .f32) : IVec S16384x512 1 × IVec S16384x512 1 × IVec S16384x4864 1 × IVec S512 1 × IVec S16384x512 1 :=
  let main_v0 : FVec F S16384x512 .f32 := Host.absf main_arg1
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg2
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S16384x4864 .f32 := Host.absf main_arg3
  let main_cst_1 : FVec F S_ .f32 := constant S_ .f32 0x7F800000#32
  let main_v7 : FVec F S16384x4864 .f32 := broadcastInDim S16384x4864 ![] bcast_S_S16384x4864 main_cst_1
  let main_v8 : IVec S16384x4864 1 := cmpf .olt main_v6 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S16384x512 .f32 := Host.absf main_arg6
  let main_cst_3 : FVec F S_ .f32 := constant S_ .f32 0x7F800000#32
  let main_v13 : FVec F S16384x512 .f32 := broadcastInDim S16384x512 ![] bcast_S_S16384x512 main_cst_3
  let main_v14 : IVec S16384x512 1 := cmpf .olt main_v12 main_v13
  (main_v2, main_v5, main_v8, main_v11, main_v14)
-- ==== Pre_finite_qkv.lean ====
abbrev S16384x4864 : Shape := ⟨2, ![16384, 4864]⟩
abbrev S64 : Shape := ⟨1, ![64]⟩
abbrev S_ : Shape := ⟨0, ![]⟩

class Facts : Prop where
  bcast_S_S16384x4864 : S_.BroadcastsInDim S16384x4864 (![] : Fin 0 → Fin S16384x4864.rank)

variable [Facts]

def fn {F : FTy → Type} [FloatOps F] (main_arg0 : FVec F S16384x4864 .f32) (main_arg1 : FVec F S64 .f32) (main_arg2 : FVec F S64 .f32) : IVec S16384x4864 1 :=
  let main_v0 : FVec F S16384x4864 .f32 := Host.absf main_arg0
  let main_cst : FVec F S_ .f32 := constant S_ .f32 0x7F800000#32
  let main_v1 : FVec F S16384x4864 .f32 := broadcastInDim S16384x4864 ![] bcast_S_S16384x4864 main_cst
  let main_v2 : IVec S16384x4864 1 := cmpf .olt main_v0 main_v1
  main_v2
-- ==== DU.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 13
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .bf16⟩
  | .hbm, ⟨10, _⟩ => ⟨S16384x1024, .bf16⟩
  | .hbm, ⟨11, _⟩ => ⟨S4096x1024, .bf16⟩
  | .hbm, ⟨12, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DURefIdeal.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .i1⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x1024, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== DM.lean ====
abbrev S16384x1024 : Shape := ⟨2, ![16384, 1024]⟩
abbrev S16384x4864 : Shape := ⟨2, ![16384, 4864]⟩
abbrev S1024x1024 : Shape := ⟨2, ![1024, 1024]⟩
abbrev S1024x256 : Shape := ⟨2, ![1024, 256]⟩

abbrev nBuf : Space → Nat
  | .hbm => 14
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x4864, .f32⟩
  | .hbm, ⟨3, _⟩ => ⟨S1024x1024, .f32⟩
  | .hbm, ⟨4, _⟩ => ⟨S16384x1024, .f32⟩
  | .hbm, ⟨5, _⟩ => ⟨S16384x1024, .bf16⟩
  | .hbm, ⟨6, _⟩ => ⟨S16384x1024, .bf16⟩
  | .hbm, ⟨7, _⟩ => ⟨S16384x4864, .bf16⟩
  | .hbm, ⟨8, _⟩ => ⟨S16384x1024, .bf16⟩
  | .hbm, ⟨9, _⟩ => ⟨S1024x1024, .bf16⟩
  | .hbm, ⟨10, _⟩ => ⟨S16384x1024, .bf16⟩
  | .hbm, ⟨11, _⟩ => ⟨S16384x1024, .bf16⟩
  | .hbm, ⟨12, _⟩ => ⟨S16384x1024, .bf16⟩
  | .hbm, ⟨13, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let c0_i32 : BitVec 32 := 0#32
  ![arg0.toNat, c13_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let c0_i32 : BitVec 32 := 0#32
  ![arg0.toNat, c14_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let c0_i32 : BitVec 32 := 0#32
  ![arg0.toNat, c15_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  ![arg0.toNat, c16_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let c0_i32 : BitVec 32 := 0#32
  ![arg0.toNat, c17_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let c0_i32 : BitVec 32 := 0#32
  ![arg0.toNat, c18_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]
-- ==== DMRefIdeal.lean ====
abbrev S16384x1024 : Shape := ⟨2, ![16384, 1024]⟩
abbrev S16384x4864 : Shape := ⟨2, ![16384, 4864]⟩
abbrev S1024x1024 : Shape := ⟨2, ![1024, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x4864, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .bf16⟩
  | .hbm, ⟨43, _⟩ => ⟨S16384x1024, .bf16⟩
  | .hbm, ⟨44, _⟩ => ⟨S16384x1024, .bf16⟩
  | .hbm, ⟨45, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== DHp.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S8x1024 : Shape := ⟨2, ![8, 1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S1024x1024, .bf16⟩
  | .hbm, ⟨7, _⟩ => ⟨S1x1024, .f32⟩
  | .hbm, ⟨8, _⟩ => ⟨S16384x1024, .f32⟩
  | .hbm, ⟨9, _⟩ => ⟨S16384x1024, .bf16⟩
  | .hbm, ⟨10, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== DHpRefIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .bf16⟩
  | .hbm, ⟨54, _⟩ => ⟨S1x1024, .f32⟩
  | .hbm, ⟨55, _⟩ => ⟨S_, .f32⟩
  | .hbm, ⟨56, _⟩ => ⟨S7x1024, .f32⟩
  | .hbm, ⟨57, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== DHm.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S16384x4096, .bf16⟩
  | .hbm, ⟨6, _⟩ => ⟨S1024x4096, .bf16⟩
  | .hbm, ⟨7, _⟩ => ⟨S1x1024, .f32⟩
  | .hbm, ⟨8, _⟩ => ⟨S16384x1024, .f32⟩
  | .hbm, ⟨9, _⟩ => ⟨S16384x1024, .bf16⟩
  | .hbm, ⟨10, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== DHmRefIdeal.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .bf16⟩
  | .hbm, ⟨54, _⟩ => ⟨S1x1024, .f32⟩
  | .hbm, ⟨55, _⟩ => ⟨S_, .f32⟩
  | .hbm, ⟨56, _⟩ => ⟨S7x1024, .f32⟩
  | .hbm, ⟨57, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== DH.lean ====
abbrev S16384x1024 : Shape := ⟨2, ![16384, 1024]⟩
abbrev S1024 : Shape := ⟨1, ![1024]⟩
abbrev S1024x4864 : Shape := ⟨2, ![1024, 4864]⟩
abbrev S16384x4864 : Shape := ⟨2, ![16384, 4864]⟩
abbrev S1x1024 : Shape := ⟨2, ![1, 1024]⟩
abbrev S8x1024 : Shape := ⟨2, ![8, 1024]⟩
abbrev S512x4864 : Shape := ⟨2, ![512, 4864]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4864, .f32⟩
  | .hbm, ⟨3, _⟩ => ⟨S16384x4864, .f32⟩
  | .hbm, ⟨4, _⟩ => ⟨S16384x1024, .f32⟩
  | .hbm, ⟨5, _⟩ => ⟨S16384x4864, .bf16⟩
  | .hbm, ⟨6, _⟩ => ⟨S1024x4864, .bf16⟩
  | .hbm, ⟨7, _⟩ => ⟨S1x1024, .f32⟩
  | .hbm, ⟨8, _⟩ => ⟨S16384x1024, .f32⟩
  | .hbm, ⟨9, _⟩ => ⟨S8x1024, .f32⟩
  | .local _ .vmem, ⟨0, _⟩ => ⟨S512x4864, .bf16⟩
  | .local _ .vmem, ⟨1, _⟩ => ⟨S512x4864, .bf16⟩
  | .local _ .vmem, ⟨2, _⟩ => ⟨S1024x4864, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4864 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4864 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== DHRefIdeal.lean ====
abbrev S16384x1024 : Shape := ⟨2, ![16384, 1024]⟩
abbrev S1024 : Shape := ⟨1, ![1024]⟩
abbrev S1024x4864 : Shape := ⟨2, ![1024, 4864]⟩
abbrev S16384x4864 : Shape := ⟨2, ![16384, 4864]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4864, .f32⟩
  | .hbm, ⟨3, _⟩ => ⟨S16384x4864, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4864, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S_, .f32⟩
  | .hbm, ⟨55, _⟩ => ⟨S7x1024, .f32⟩
  | .hbm, ⟨56, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Head.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S8x1024 : Shape := ⟨2, ![8, 1024]⟩
abbrev S1024x1 : Shape := ⟨2, ![1024, 1]⟩

abbrev nBuf : Space → Nat
  | .hbm => 14
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1024, .f32⟩
  | .hbm, ⟨6, _⟩ => ⟨S16384x1024, .bf16⟩
  | .hbm, ⟨7, _⟩ => ⟨S1024x1024, .bf16⟩
  | .hbm, ⟨8, _⟩ => ⟨S1x1024, .f32⟩
  | .hbm, ⟨9, _⟩ => ⟨S16384x1024, .f32⟩
  | .hbm, ⟨10, _⟩ => ⟨S16384x1024, .bf16⟩
  | .hbm, ⟨11, _⟩ => ⟨S16384x1024, .bf16⟩
  | .hbm, ⟨12, _⟩ => ⟨S8x1024, .f32⟩
  | .hbm, ⟨13, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S8x1024, .f32⟩
  | .local _ .vmem, ⟨17, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== HeadRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 132
  | .vmem => 0
  | .smem => 0
  | _ => 0

abbrev hbmTy0_0 (i : Nat) : BufTy := match i % 128 with
  | 0 => ⟨S16384x1024, .f32⟩
  | 1 => ⟨S1024x1024, .f32⟩
  | 2 => ⟨S16384x1024, .f32⟩
  | 3 => ⟨S16384x1024, .f32⟩
  | 4 => ⟨S16384x1024, .f32⟩
  | 5 => ⟨S1024, .f32⟩
  | 6 => ⟨S16384x1024, .f32⟩
  | 7 => ⟨S16384x1024, .f32⟩
  | 8 => ⟨S16384x1024, .f32⟩
  | 9 => ⟨S_, .f32⟩
  | 10 => ⟨S16384x1024, .f32⟩
  | 11 => ⟨S16384x1024, .f32⟩
  | 12 => ⟨S_, .f32⟩
  | 13 => ⟨S16384x1024, .f32⟩
  | 14 => ⟨S16384x1024, .f32⟩
  | 15 => ⟨S_, .f32⟩
  | 16 => ⟨S16384x1024, .f32⟩
  | 17 => ⟨S16384x1024, .f32⟩
  | 18 => ⟨S16384x1024, .f32⟩
  | 19 => ⟨S16384x1024, .f32⟩
  | 20 => ⟨S16384x1024, .f32⟩
  | 21 => ⟨S16384x1024, .f32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S_, .f32⟩
  | 29 => ⟨S16384x1, .f32⟩
  | 30 => ⟨S16384x1, .f32⟩
  | 31 => ⟨S16384x1, .f32⟩
  | 32 => ⟨S16384x1, .f32⟩
  | 33 => ⟨S_, .f32⟩
  | 34 => ⟨S16384x1, .f32⟩
  | 35 => ⟨S16384x1, .f32⟩
  | 36 => ⟨S16384x1024, .f32⟩
  | 37 => ⟨S16384x1024, .f32⟩
  | 38 => ⟨S1x1024, .f32⟩
  | 39 => ⟨S16384x1024, .f32⟩
  | 40 => ⟨S16384x1024, .f32⟩
  | 41 => ⟨S16384x1024, .f32⟩
  | 42 => ⟨S16384x1024, .f32⟩
  | 43 => ⟨S_, .f32⟩
  | 44 => ⟨S16384x1024, .f32⟩
  | 45 => ⟨S16384x1024, .f32⟩
  | 46 => ⟨S_, .f32⟩
  | 47 => ⟨S16384, .f32⟩
  | 48 => ⟨S_, .f32⟩
  | 49 => ⟨S16384, .f32⟩
  | 50 => ⟨S16384, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S16384, .f32⟩
  | 59 => ⟨S_, .f32⟩
  | 60 => ⟨S16384, .f32⟩
  | 61 => ⟨S16384, .f32⟩
  | 62 => ⟨S16384x1024, .f32⟩
  | 63 => ⟨S16384x1024, .f32⟩
  | 64 => ⟨S16384x1024, .f32⟩
  | 65 => ⟨S_, .f32⟩
  | 66 => ⟨S1024, .f32⟩
  | 67 => ⟨S1x1024, .f32⟩
  | 68 => ⟨S16384x1024, .f32⟩
  | 69 => ⟨S16384x1024, .f32⟩
  | 70 => ⟨S_, .f32⟩
  | 71 => ⟨S1024, .f32⟩
  | 72 => ⟨S16384x1024, .f32⟩
  | 73 => ⟨S_, .f32⟩
  | 74 => ⟨S16384, .f32⟩
  | 75 => ⟨S16384x1, .f32⟩
  | 76 => ⟨S16384x1024, .f32⟩
  | 77 => ⟨S16384x1024, .f32⟩
  | 78 => ⟨S16384x1, .f32⟩
  | 79 => ⟨S_, .f32⟩
  | 80 => ⟨S16384x1, .f32⟩
  | 81 => ⟨S16384x1, .f32⟩
  | 82 => ⟨S_, .f32⟩
  | 83 => ⟨S16384, .f32⟩
  | 84 => ⟨S16384x1024, .f32⟩
  | 85 => ⟨S16384x1024, .f32⟩
  | 86 => ⟨S16384x1024, .f32⟩
  | 87 => ⟨S16384x1024, .f32⟩
  | 88 => ⟨S16384x1024, .f32⟩
  | 89 => ⟨S16384x1024, .f32⟩
  | 90 => ⟨S16384x1024, .f32⟩
  | 91 => ⟨S16384x1024, .f32⟩
  | 92 => ⟨S16384x1024, .f32⟩
  | 93 => ⟨S16384x1024, .f32⟩
  | 94 => ⟨S_, .f32⟩
  | 95 => ⟨S16384x1024, .f32⟩
  | 96 => ⟨S16384x1024, .f32⟩
  | 97 => ⟨S_, .f32⟩
  | 98 => ⟨S16384x1024, .f32⟩
  | 99 => ⟨S16384x1024, .f32⟩
  | 100 => ⟨S16384x1024, .f32⟩
  | 101 => ⟨S16384x1024, .f32⟩
  | 102 => ⟨S16384x1024, .f32⟩
  | 103 => ⟨S_, .f32⟩
  | 104 => ⟨S16384, .f32⟩
  | 105 => ⟨S16384x1, .f32⟩
  | 106 => ⟨S_, .f32⟩
  | 107 => ⟨S16384x1, .f32⟩
  | 108 => ⟨S16384x1, .f32⟩
  | 109 => ⟨S_, .f32⟩
  | 110 => ⟨S16384x1, .f32⟩
  | 111 => ⟨S16384x1, .f32⟩
  | 112 => ⟨S16384x1, .f32⟩
  | 113 => ⟨S16384x1024, .f32⟩
  | 114 => ⟨S16384x1024, .f32⟩
  | 115 => ⟨S1x1024, .f32⟩
  | 116 => ⟨S16384x1024, .f32⟩
  | 117 => ⟨S16384x1024, .f32⟩
  | 118 => ⟨S16384x1024, .f32⟩
  | 119 => ⟨S16384x1024, .f32⟩
  | 120 => ⟨S_, .f32⟩
  | 121 => ⟨S1024, .f32⟩
  | 122 => ⟨S16384x1024, .bf16⟩
  | 123 => ⟨S16384x1024, .bf16⟩
  | 124 => ⟨S1x1024, .f32⟩
  | 125 => ⟨S_, .f32⟩
  | 126 => ⟨S7x1024, .f32⟩
  | 127 => ⟨S8x1024, .f32⟩
  | _ => ⟨S16384x1024, .f32⟩

abbrev hbmTy0_1 (i : Nat) : BufTy := match i % 128 with
  | 0 => ⟨S1x1024, .f32⟩
  | 1 => ⟨S_, .f32⟩
  | 2 => ⟨S7x1024, .f32⟩
  | 3 => ⟨S8x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_cst_11 : Ref sig .tc := ⟨.hbm, 55, rfl⟩
abbrev main_cst_12 : Ref sig .tc := ⟨.hbm, 56, rfl⟩
abbrev main_v37 : Ref sig .tc := ⟨.hbm, 57, rfl⟩
abbrev main_v38 : Ref sig .tc := ⟨.hbm, 58, rfl⟩
abbrev main_cst_13 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_17 : Ref sig .tc := ⟨.hbm, 79, rfl⟩
abbrev main_v55 : Ref sig .tc := ⟨.hbm, 80, rfl⟩
abbrev main_v56 : Ref sig .tc := ⟨.hbm, 81, rfl⟩
abbrev main_cst_18 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_19 : Ref sig .tc := ⟨.hbm, 94, rfl⟩
abbrev main_v68 : Ref sig .tc := ⟨.hbm, 95, rfl⟩
abbrev main_v69 : Ref sig .tc := ⟨.hbm, 96, rfl⟩
abbrev main_cst_20 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_21 : Ref sig .tc := ⟨.hbm, 103, rfl⟩
abbrev main_v75 : Ref sig .tc := ⟨.hbm, 104, rfl⟩
abbrev main_v76 : Ref sig .tc := ⟨.hbm, 105, rfl⟩
abbrev main_cst_22 : Ref sig .tc := ⟨.hbm, 106, rfl⟩
abbrev main_v77 : Ref sig .tc := ⟨.hbm, 107, rfl⟩
abbrev main_v78 : Ref sig .tc := ⟨.hbm, 108, rfl⟩
abbrev main_cst_23 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_24 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_25 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_26 : Ref sig .tc := ⟨.hbm, 129, rfl⟩
abbrev main_v96 : Ref sig .tc := ⟨.hbm, 130, rfl⟩
abbrev main_v97 : Ref sig .tc := ⟨.hbm, 131, rfl⟩

abbrev nD : Nat := 1
abbrev τ : Topo := Topo.v7x

variable {F : FTy → Type} [FloatOps F]
-- ==== Mpb.lean ====
abbrev S16384x512 : Shape := ⟨2, ![16384, 512]⟩
abbrev S16384x4864 : Shape := ⟨2, ![16384, 4864]⟩
abbrev S512 : Shape := ⟨1, ![512]⟩
abbrev S1x512 : Shape := ⟨2, ![1, 512]⟩
abbrev S32x1024x512 : Shape := ⟨3, ![32, 1024, 512]⟩
abbrev S8x32x1x512 : Shape := ⟨4, ![8, 32, 1, 512]⟩
abbrev S8x512 : Shape := ⟨2, ![8, 512]⟩
abbrev S512x512 : Shape := ⟨2, ![512, 512]⟩
abbrev S512x256 : Shape := ⟨2, ![512, 256]⟩
abbrev S1x1024x512 : Shape := ⟨3, ![1, 1024, 512]⟩
abbrev S8x1x1x512 : Shape := ⟨4, ![8, 1, 1, 512]⟩
abbrev S64x512 : Shape := ⟨2, ![64, 512]⟩
abbrev S1x64x512 : Shape := ⟨3, ![1, 64, 512]⟩
abbrev S1x1x1x512 : Shape := ⟨4, ![1, 1, 1, 512]⟩
abbrev S512x128 : Shape := ⟨2, ![512, 128]⟩
abbrev S512x1 : Shape := ⟨2, ![512, 1]⟩

abbrev nBuf : Space → Nat
  | .hbm => 15
  | .vmem => 24
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x4864, .f32⟩
  | .hbm, ⟨4, _⟩ => ⟨S512, .f32⟩
  | .hbm, ⟨5, _⟩ => ⟨S16384x512, .f32⟩
  | .hbm, ⟨6, _⟩ => ⟨S16384x512, .f32⟩
  | .hbm, ⟨7, _⟩ => ⟨S16384x512, .bf16⟩
  | .hbm, ⟨8, _⟩ => ⟨S16384x4864, .bf16⟩
  | .hbm, ⟨9, _⟩ => ⟨S1x512, .f32⟩
  | .hbm, ⟨10, _⟩ => ⟨S32x1024x512, .bf16⟩
  | .hbm, ⟨11, _⟩ => ⟨S8x32x1x512, .f32⟩
  | .hbm, ⟨12, _⟩ => ⟨S16384x512, .f32⟩
  | .hbm, ⟨13, _⟩ => ⟨S16384x512, .bf16⟩
  | .hbm, ⟨14, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S1x512, .f32⟩
  | .local _ .vmem, ⟨15, _⟩ => ⟨S1x1024x512, .bf16⟩
  | .local _ .vmem, ⟨16, _⟩ => ⟨S1x1024x512, .bf16⟩
  | .local _ .vmem, ⟨17, _⟩ => ⟨S8x1x1x512, .f32⟩
  | .local _ .vmem, ⟨18, _⟩ => ⟨S8x1x1x512, .f32⟩
  | .local _ .vmem, ⟨19, _⟩ => ⟨S512x512, .f32⟩
  | .local _ .vmem, ⟨20, _⟩ => ⟨S512x512, .f32⟩
  | .local _ .vmem, ⟨21, _⟩ => ⟨S512x512, .bf16⟩
  | .local _ .vmem, ⟨22, _⟩ => ⟨S512x512, .bf16⟩
  | .local _ .vmem, ⟨23, _⟩ => ⟨S8x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MpbRefIdeal.lean ====
abbrev S16384x512 : Shape := ⟨2, ![16384, 512]⟩
abbrev S16384x4864 : Shape := ⟨2, ![16384, 4864]⟩
abbrev S512 : Shape := ⟨1, ![512]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x512 : Shape := ⟨2, ![1, 512]⟩
abbrev S32x512x8x64 : Shape := ⟨4, ![32, 512, 8, 64]⟩
abbrev S32x512x8 : Shape := ⟨3, ![32, 512, 8]⟩
abbrev S32x512x2x4x64 : Shape := ⟨5, ![32, 512, 2, 4, 64]⟩
abbrev S32x2x4x64x512 : Shape := ⟨5, ![32, 2, 4, 64, 512]⟩
abbrev S32x1x4x64x512 : Shape := ⟨5, ![32, 1, 4, 64, 512]⟩
abbrev S32x1x4x128x512 : Shape := ⟨5, ![32, 1, 4, 128, 512]⟩
abbrev S32x2x4x128x512 : Shape := ⟨5, ![32, 2, 4, 128, 512]⟩
abbrev S32x1024x512 : Shape := ⟨3, ![32, 1024, 512]⟩
abbrev S8x32x512 : Shape := ⟨3, ![8, 32, 512]⟩
abbrev S8x32x1x512 : Shape := ⟨4, ![8, 32, 1, 512]⟩
abbrev S7x512 : Shape := ⟨2, ![7, 512]⟩
abbrev S8x512 : Shape := ⟨2, ![8, 512]⟩

abbrev nBuf : Space → Nat
  | .hbm => 127
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x4864, .f32⟩
  | .hbm, ⟨4, _⟩ => ⟨S512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x4x128, .f32⟩
  | .hbm, ⟨10, _⟩ => ⟨S_, .f32⟩
  | .hbm, ⟨11, _⟩ => ⟨S16384x4, .f32⟩
  | .hbm, ⟨12, _⟩ => ⟨S16384x4x1, .f32⟩
  | .hbm, ⟨13, _⟩ => ⟨S_, .f32⟩
  | .hbm, ⟨14, _⟩ => ⟨S16384x4x1, .f32⟩
  | .hbm, ⟨15, _⟩ => ⟨S16384x4x1, .f32⟩
  | .hbm, ⟨16, _⟩ => ⟨S16384x4x128, .f32⟩
  | .hbm, ⟨17, _⟩ => ⟨S16384x4x128, .f32⟩
  | .hbm, ⟨18, _⟩ => ⟨S16384x4x128, .f32⟩
  | .hbm, ⟨19, _⟩ => ⟨S_, .f32⟩
  | .hbm, ⟨20, _⟩ => ⟨S16384x4x128, .f32⟩
  | .hbm, ⟨21, _⟩ => ⟨S16384x4x128, .f32⟩
  | .hbm, ⟨22, _⟩ => ⟨S_, .f32⟩
  | .hbm, ⟨23, _⟩ => ⟨S16384x4, .f32⟩
  | .hbm, ⟨24, _⟩ => ⟨S16384x4x1, .f32⟩
  | .hbm, ⟨25, _⟩ => ⟨S_, .f32⟩
  | .hbm, ⟨26, _⟩ => ⟨S16384x4x1, .f32⟩
  | .hbm, ⟨27, _⟩ => ⟨S16384x4x1, .f32⟩
  | .hbm, ⟨28, _⟩ => ⟨S16384x4x128, .f32⟩
  | .hbm, ⟨29, _⟩ => ⟨S16384x4x128, .f32⟩
  | .hbm, ⟨30, _⟩ => ⟨S_, .f32⟩
  | .hbm, ⟨31, _⟩ => ⟨S16384x4x1, .f32⟩
  | .hbm, ⟨32, _⟩ => ⟨S16384x4x1, .f32⟩
  | .hbm, ⟨33, _⟩ => ⟨S16384x4x1, .f32⟩
  | .hbm, ⟨34, _⟩ => ⟨S16384x4x1, .f32⟩
  | .hbm, ⟨35, _⟩ => ⟨S_, .f32⟩
  | .hbm, ⟨36, _⟩ => ⟨S16384x4x1, .f32⟩
  | .hbm, ⟨37, _⟩ => ⟨S16384x4x1, .f32⟩
  | .hbm, ⟨38, _⟩ => ⟨S16384x4x128, .f32⟩
  | .hbm, ⟨39, _⟩ => ⟨S16384x4x128, .f32⟩
  | .hbm, ⟨40, _⟩ => ⟨S16384x512, .f32⟩
  | .hbm, ⟨41, _⟩ => ⟨S1x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S_, .f32⟩
  | .hbm, ⟨50, _⟩ => ⟨S16384x512, .f32⟩
  | .hbm, ⟨51, _⟩ => ⟨S16384x512, .f32⟩
  | .hbm, ⟨52, _⟩ => ⟨S_, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S_, .f32⟩
  | .hbm, ⟨66, _⟩ => ⟨S512, .f32⟩
  | .hbm, ⟨67, _⟩ => ⟨S1x512, .f32⟩
  | .hbm, ⟨68, _⟩ => ⟨S16384x512, .f32⟩
  | .hbm, ⟨69, _⟩ => ⟨S16384x512, .f32⟩
  | .hbm, ⟨70, _⟩ => ⟨S_, .f32⟩
  | .hbm, ⟨71, _⟩ => ⟨S512, .f32⟩
  | .hbm, ⟨72, _⟩ => ⟨S16384x4x128, .f32⟩
  | .hbm, ⟨73, _⟩ => ⟨S16384x4x128, .f32⟩
  | .hbm, ⟨74, _⟩ => ⟨S_, .f32⟩
  | .hbm, ⟨75, _⟩ => ⟨S16384x4, .f32⟩
  | .hbm, ⟨76, _⟩ => ⟨S16384x4x1, .f32⟩
  | .hbm, ⟨77, _⟩ => ⟨S16384x4x128, .f32⟩
  | .hbm, ⟨78, _⟩ => ⟨S16384x4x128, .f32⟩
  | .hbm, ⟨79, _⟩ => ⟨S16384x4x1, .f32⟩
  | .hbm, ⟨80, _⟩ => ⟨S16384x4x128, .f32⟩
  | .hbm, ⟨81, _⟩ => ⟨S_, .f32⟩
  | .hbm, ⟨82, _⟩ => ⟨S16384x4, .f32⟩
  | .hbm, ⟨83, _⟩ => ⟨S16384x4x1, .f32⟩
  | .hbm, ⟨84, _⟩ => ⟨S_, .f32⟩
  | .hbm, ⟨85, _⟩ => ⟨S16384x4x1, .f32⟩
  | .hbm, ⟨86, _⟩ => ⟨S16384x4x1, .f32⟩
  | .hbm, ⟨87, _⟩ => ⟨S_, .f32⟩
  | .hbm, ⟨88, _⟩ => ⟨S16384x4, .f32⟩
  | .hbm, ⟨89, _⟩ => ⟨S16384x4x128, .f32⟩
  | .hbm, ⟨90, _⟩ => ⟨S16384x4x128, .f32⟩
  | .hbm, ⟨91, _⟩ => ⟨S16384x4x128, .f32⟩
  | .hbm, ⟨92, _⟩ => ⟨S_, .f32⟩
  | .hbm, ⟨93, _⟩ => ⟨S16384x4, .f32⟩
  | .hbm, ⟨94, _⟩ => ⟨S16384x4x1, .f32⟩
  | .hbm, ⟨95, _⟩ => ⟨S16384x4x128, .f32⟩
  | .hbm, ⟨96, _⟩ => ⟨S16384x4x1, .f32⟩
  | .hbm, ⟨97, _⟩ => ⟨S_, .f32⟩
  | .hbm, ⟨98, _⟩ => ⟨S16384x4x1, .f32⟩
  | .hbm, ⟨99, _⟩ => ⟨S16384x4x1, .f32⟩
  | .hbm, ⟨100, _⟩ => ⟨S_, .f32⟩
  | .hbm, ⟨101, _⟩ => ⟨S16384x4, .f32⟩
  | .hbm, ⟨102, _⟩ => ⟨S16384x4x128, .f32⟩
  | .hbm, ⟨103, _⟩ => ⟨S16384x4x128, .f32⟩
  | .hbm, ⟨104, _⟩ => ⟨S16384x512, .f32⟩
  | .hbm, ⟨105, _⟩ => ⟨S16384x512, .f32⟩
  | .hbm, ⟨106, _⟩ => ⟨S32x512x8x64, .f32⟩
  | .hbm, ⟨107, _⟩ => ⟨S_, .f32⟩
  | .hbm, ⟨108, _⟩ => ⟨S32x512x8, .f32⟩
  | .hbm, ⟨109, _⟩ => ⟨S32x512x2x4x64, .f32⟩
  | .hbm, ⟨110, _⟩ => ⟨S32x2x4x64x512, .f32⟩
  | .hbm, ⟨111, _⟩ => ⟨S_, .f32⟩
  | .hbm, ⟨112, _⟩ => ⟨S32x1x4x64x512, .f32⟩
  | .hbm, ⟨113, _⟩ => ⟨S32x1x4x64x512, .f32⟩
  | .hbm, ⟨114, _⟩ => ⟨S32x1x4x128x512, .f32⟩
  | .hbm, ⟨115, _⟩ => ⟨S32x1x4x64x512, .f32⟩
  | .hbm, ⟨116, _⟩ => ⟨S32x1x4x128x512, .f32⟩
  | .hbm, ⟨117, _⟩ => ⟨S32x2x4x128x512, .f32⟩
  | .hbm, ⟨118, _⟩ => ⟨S32x1024x512, .f32⟩
  | .hbm, ⟨119, _⟩ => ⟨S32x1024x512, .bf16⟩
  | .hbm, ⟨120, _⟩ => ⟨S8x32x512, .f32⟩
  | .hbm, ⟨121, _⟩ => ⟨S8x32x1x512, .f32⟩
  | .hbm, ⟨122, _⟩ => ⟨S16384x512, .bf16⟩
  | .hbm, ⟨123, _⟩ => ⟨S1x512, .f32⟩
  | .hbm, ⟨124, _⟩ => ⟨S_, .f32⟩
  | .hbm, ⟨125, _⟩ => ⟨S7x512, .f32⟩
  | .hbm, ⟨126, _⟩ => ⟨S8x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v30_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v30_1 : Ref sig .tc := ⟨.hbm, 55, rfl⟩
abbrev main_v30_0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_7 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_8 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_9 : Ref sig .tc := ⟨.hbm, 81, rfl⟩
abbrev main_v49 : Ref sig .tc := ⟨.hbm, 82, rfl⟩
abbrev main_v50 : Ref sig .tc := ⟨.hbm, 83, rfl⟩
abbrev main_cst_10 : Ref sig .tc := ⟨.hbm, 84, rfl⟩
abbrev main_v51 : Ref sig .tc := ⟨.hbm, 85, rfl⟩
abbrev main_v52 : Ref sig .tc := ⟨.hbm, 86, rfl⟩
abbrev main_cst_11 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_13 : Ref sig .tc := ⟨.hbm, 97, rfl⟩
abbrev main_v61 : Ref sig .tc := ⟨.hbm, 98, rfl⟩
abbrev main_v62 : Ref sig .tc := ⟨.hbm, 99, rfl⟩
abbrev main_cst_14 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_15 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_16 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_v85 : Ref sig .tc := ⟨.hbm, 126, rfl⟩

abbrev nD : Nat := 1
abbrev τ : Topo := Topo.v7x

variable {F : FTy → Type} [FloatOps F]
-- ==== Attn.lean ====
abbrev S16384x512 : Shape := ⟨2, ![16384, 512]⟩
abbrev S16384x128 : Shape := ⟨2, ![16384, 128]⟩
abbrev S16384x2x64 : Shape := ⟨3, ![16384, 2, 64]⟩
abbrev S2x16384x64 : Shape := ⟨3, ![2, 16384, 64]⟩
abbrev S2x4x16384x64 : Shape := ⟨4, ![2, 4, 16384, 64]⟩
abbrev S8x16384x64 : Shape := ⟨3, ![8, 16384, 64]⟩
abbrev S16384x8x64 : Shape := ⟨3, ![16384, 8, 64]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x32x1x512 : Shape := ⟨4, ![8, 32, 1, 512]⟩
abbrev S32x512x2x4x64 : Shape := ⟨5, ![32, 512, 2, 4, 64]⟩
abbrev S32x2x4x64x512 : Shape := ⟨5, ![32, 2, 4, 64, 512]⟩
abbrev S32x1x4x64x512 : Shape := ⟨5, ![32, 1, 4, 64, 512]⟩
abbrev S32x1x4x128x512 : Shape := ⟨5, ![32, 1, 4, 128, 512]⟩
abbrev S32x2x4x128x512 : Shape := ⟨5, ![32, 2, 4, 128, 512]⟩
abbrev S32x1024x512 : Shape := ⟨3, ![32, 1024, 512]⟩
abbrev S32x512x128 : Shape := ⟨3, ![32, 512, 128]⟩
abbrev S32x128x512 : Shape := ⟨3, ![32, 128, 512]⟩
abbrev S32x512x512 : Shape := ⟨3, ![32, 512, 512]⟩
abbrev S8x16384x128 : Shape := ⟨3, ![8, 16384, 128]⟩
abbrev S1x32x1x512 : Shape := ⟨4, ![1, 32, 1, 512]⟩
abbrev S2048x128 : Shape := ⟨2, ![2048, 128]⟩
abbrev S4x64x512 : Shape := ⟨3, ![4, 64, 512]⟩
abbrev S32x64x512 : Shape := ⟨3, ![32, 64, 512]⟩
abbrev S1x2048x128 : Shape := ⟨3, ![1, 2048, 128]⟩
abbrev S2048x512 : Shape := ⟨2, ![2048, 512]⟩
abbrev S1x64x512 : Shape := ⟨3, ![1, 64, 512]⟩
abbrev S64x512 : Shape := ⟨2, ![64, 512]⟩
abbrev S64x2048 : Shape := ⟨2, ![64, 2048]⟩
abbrev S1x128x512 : Shape := ⟨3, ![1, 128, 512]⟩
abbrev S128x512 : Shape := ⟨2, ![128, 512]⟩
abbrev S1x1x1x512 : Shape := ⟨4, ![1, 1, 1, 512]⟩
abbrev S1x512 : Shape := ⟨2, ![1, 512]⟩

abbrev nBuf : Space → Nat
  | .hbm => 80
  | .vmem => 30
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S16384x512, .f32⟩
  | .hbm, ⟨4, _⟩ => ⟨S16384x2x64, .f32⟩
  | .hbm, ⟨5, _⟩ => ⟨S2x16384x64, .f32⟩
  | .hbm, ⟨6, _⟩ => ⟨S2x4x16384x64, .f32⟩
  | .hbm, ⟨7, _⟩ => ⟨S8x16384x64, .f32⟩
  | .hbm, ⟨8, _⟩ => ⟨S16384x2x64, .f32⟩
  | .hbm, ⟨9, _⟩ => ⟨S2x16384x64, .f32⟩
  | .hbm, ⟨10, _⟩ => ⟨S2x4x16384x64, .f32⟩
  | .hbm, ⟨11, _⟩ => ⟨S8x16384x64, .f32⟩
  | .hbm, ⟨12, _⟩ => ⟨S16384x8x64, .f32⟩
  | .hbm, ⟨13, _⟩ => ⟨S8x16384x64, .f32⟩
  | .hbm, ⟨14, _⟩ => ⟨S8x16384x16384, .f32⟩
  | .hbm, ⟨15, _⟩ => ⟨S_, .f32⟩
  | .hbm, ⟨16, _⟩ => ⟨S8x16384x16384, .f32⟩
  | .hbm, ⟨17, _⟩ => ⟨S8x16384x16384, .f32⟩
  | .hbm, ⟨18, _⟩ => ⟨S_, .f32⟩
  | .hbm, ⟨19, _⟩ => ⟨S8x16384, .f32⟩
  | .hbm, ⟨20, _⟩ => ⟨S8x16384x1, .f32⟩
  | .hbm, ⟨21, _⟩ => ⟨S8x16384x16384, .f32⟩
  | .hbm, ⟨22, _⟩ => ⟨S8x16384x16384, .f32⟩
  | .hbm, ⟨23, _⟩ => ⟨S8x16384x16384, .f32⟩
  | .hbm, ⟨24, _⟩ => ⟨S_, .f32⟩
  | .hbm, ⟨25, _⟩ => ⟨S8x16384, .f32⟩
  | .hbm, ⟨26, _⟩ => ⟨S8x16384x1, .f32⟩
  | .hbm, ⟨27, _⟩ => ⟨S8x16384x16384, .f32⟩
  | .hbm, ⟨28, _⟩ => ⟨S8x16384x16384, .f32⟩
  | .hbm, ⟨29, _⟩ => ⟨S8x16384x64, .f32⟩
  | .hbm, ⟨30, _⟩ => ⟨S8x16384x1, .f32⟩
  | .hbm, ⟨31, _⟩ => ⟨S8x16384x1, .f32⟩
  | .hbm, ⟨32, _⟩ => ⟨S8x16384, .f32⟩
  | .hbm, ⟨33, _⟩ => ⟨S_, .f32⟩
  | .hbm, ⟨34, _⟩ => ⟨S_, .f32⟩
  | .hbm, ⟨35, _⟩ => ⟨S8x16384, .f32⟩
  | .hbm, ⟨36, _⟩ => ⟨S8x16384, .f32⟩
  | .hbm, ⟨37, _⟩ => ⟨S8x32x1x512, .f32⟩
  | .hbm, ⟨38, _⟩ => ⟨S16384x8x64, .f32⟩
  | .hbm, ⟨39, _⟩ => ⟨S8x16384x64, .f32⟩
  | .hbm, ⟨40, _⟩ => ⟨S8x16384x64, .f32⟩
  | .hbm, ⟨41, _⟩ => ⟨S_, .f32⟩
  | .hbm, ⟨42, _⟩ => ⟨S8x16384, .f32⟩
  | .hbm, ⟨43, _⟩ => ⟨S8x32x1x512, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16384x512, .f32⟩
  | .hbm, ⟨49, _⟩ => ⟨S16384x512, .f32⟩
  | .hbm, ⟨50, _⟩ => ⟨S32x512x2x4x64, .f32⟩
  | .hbm, ⟨51, _⟩ => ⟨S32x2x4x64x512, .f32⟩
  | .hbm, ⟨52, _⟩ => ⟨S_, .f32⟩
  | .hbm, ⟨53, _⟩ => ⟨S32x1x4x64x512, .f32⟩
  | .hbm, ⟨54, _⟩ => ⟨S32x1x4x64x512, .f32⟩
  | .hbm, ⟨55, _⟩ => ⟨S32x1x4x128x512, .f32⟩
  | .hbm, ⟨56, _⟩ => ⟨S32x1x4x64x512, .f32⟩
  | .hbm, ⟨57, _⟩ => ⟨S32x1x4x128x512, .f32⟩
  | .hbm, ⟨58, _⟩ => ⟨S32x2x4x128x512, .f32⟩
  | .hbm, ⟨59, _⟩ => ⟨S32x1024x512, .f32⟩
  | .hbm, ⟨60, _⟩ => ⟨S32x1024x512, .bf16⟩
  | .hbm, ⟨61, _⟩ => ⟨S32x512x2x4x64, .f32⟩
  | .hbm, ⟨62, _⟩ => ⟨S32x2x4x64x512, .f32⟩
  | .hbm, ⟨63, _⟩ => ⟨S_, .f32⟩
  | .hbm, ⟨64, _⟩ => ⟨S32x1x4x64x512, .f32⟩
  | .hbm, ⟨65, _⟩ => ⟨S32x1x4x64x512, .f32⟩
  | .hbm, ⟨66, _⟩ => ⟨S32x1x4x128x512, .f32⟩
  | .hbm, ⟨67, _⟩ => ⟨S32x1x4x64x512, .f32⟩
  | .hbm, ⟨68, _⟩ => ⟨S32x1x4x128x512, .f32⟩
  | .hbm, ⟨69, _⟩ => ⟨S32x2x4x128x512, .f32⟩
  | .hbm, ⟨70, _⟩ => ⟨S32x1024x512, .f32⟩
  | .hbm, ⟨71, _⟩ => ⟨S32x1024x512, .bf16⟩
  | .hbm, ⟨72, _⟩ => ⟨S32x512x128, .f32⟩
  | .hbm, ⟨73, _⟩ => ⟨S32x128x512, .f32⟩
  | .hbm, ⟨74, _⟩ => ⟨S32x128x512, .bf16⟩
  | .hbm, ⟨75, _⟩ => ⟨S16384x128, .bf16⟩
  | .hbm, ⟨76, _⟩ => ⟨S16384x128, .bf16⟩
  | .hbm, ⟨77, _⟩ => ⟨S32x512x512, .f32⟩
  | .hbm, ⟨78, _⟩ => ⟨S8x16384x128, .bf16⟩
  | .hbm, ⟨79, _⟩ => ⟨S8x16384x128, .bf16⟩
  | .local _ .vmem, ⟨0, _⟩ => ⟨S32x128x512, .bf16⟩
  | .local _ .vmem, ⟨1, _⟩ => ⟨S32x128x512, .bf16⟩
  | .local _ .vmem, ⟨2, _⟩ => ⟨S32x128x512, .bf16⟩
  | .local _ .vmem, ⟨3, _⟩ => ⟨S32x128x512, .bf16⟩
  | .local _ .vmem, ⟨4, _⟩ => ⟨S1x32x1x512, .f32⟩
  | .local _ .vmem, ⟨5, _⟩ => ⟨S1x32x1x512, .f32⟩
  | .local _ .vmem, ⟨6, _⟩ => ⟨S1x32x1x512, .f32⟩
  | .local _ .vmem, ⟨7, _⟩ => ⟨S1x32x1x512, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S4x64x512, .bf16⟩
  | .local _ .vmem, ⟨13, _⟩ => ⟨S4x64x512, .bf16⟩
  | .local _ .vmem, ⟨14, _⟩ => ⟨S32x64x512, .f32⟩
  | .local _ .vmem, ⟨15, _⟩ => ⟨S32x64x512, .f32⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S2048x128, .f32⟩
  | .local _ .vmem, ⟨21, _⟩ => ⟨S2048x128, .f32⟩
  | .local _ .vmem, ⟨22, _⟩ => ⟨S2048x512, .f32⟩
  | .local _ .vmem, ⟨23, _⟩ => ⟨S2048x512, .f32⟩
  | .local _ .vmem, ⟨24, _⟩ => ⟨S2048x512, .f32⟩
  | .local _ .vmem, ⟨25, _⟩ => ⟨S2048x512, .f32⟩
  | .local _ .vmem, ⟨26, _⟩ => ⟨S2048x512, .bf16⟩
  | .local _ .vmem, ⟨27, _⟩ => ⟨S2048x512, .bf16⟩
  | .local _ .vmem, ⟨28, _⟩ => ⟨S2048x512, .bf16⟩
  | .local _ .vmem, ⟨29, _⟩ => ⟨S2048x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64_0 : Ref sig .tc := ⟨.hbm, 77, rfl⟩
abbrev main_v64_1 : Ref sig .tc := ⟨.hbm, 78, rfl⟩
abbrev main_v64_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_58 : BitVec 32 := 0#32
  let c15_i32 : BitVec 32 := 15#32
  let v68 : BitVec 32 := Scalar.addi c0_i32_58 c15_i32
  let c1_i32 : BitVec 32 := 1#32
  ⟨c0_i32_58, v68, c1_i32⟩
def k0_off1 (k0_t1 : Fin k0_t1_loop.trips) : Fin 3 → Nat :=
  let c2_i32 : BitVec 32 := 2#32
  let c0_i32_58 : BitVec 32 := 0#32
  let c1_i32 : BitVec 32 := 1#32
  let arg22 : BitVec 32 := Scf.iv c0_i32_58 c1_i32 k0_t1
  let v149 : BitVec 32 := Scalar.muli c2_i32 arg22
  let v153 : Index := Scalar.indexCast v149
  let c0_144 : Index := 0#32
  let c0_145 : Index := 0#32
  ![v153.toNat, 0, 0]
def k0_off2 (k0_t1 : Fin k0_t1_loop.trips) : Fin 3 → Nat :=
  let c2_i32 : BitVec 32 := 2#32
  let c0_i32_58 : BitVec 32 := 0#32
  let c1_i32 : BitVec 32 := 1#32
  let arg22 : BitVec 32 := Scf.iv c0_i32_58 c1_i32 k0_t1
  let v149 : BitVec 32 := Scalar.muli c2_i32 arg22
  let v170 : Index := Scalar.indexCast v149
  let c0_156 : Index := 0#32
  let c0_157 : Index := 0#32
  ![v170.toNat, 0, 0]
def k0_off3 (k0_t1 : Fin k0_t1_loop.trips) (c1_i32_161 : BitVec 32) : Fin 4 → Nat :=
  let c0_164 : Index := 0#32
  let c2_i32 : BitVec 32 := 2#32
  let c0_i32_58 : BitVec 32 := 0#32
  let c1_i32 : BitVec 32 := 1#32
  let arg22 : BitVec 32 := Scf.iv c0_i32_58 c1_i32 k0_t1
  let v149 : BitVec 32 := Scalar.muli c2_i32 arg22
  let v179 : BitVec 32 := Scalar.addi v149 c1_i32_161
  let v181 : Index := Scalar.indexCast v179
  let c0_165 : Index := 0#32
  let c0_166 : Index := 0#32
  ![0, v181.toNat, 0, 0]
def k0_off4 (k0_t1 : Fin k0_t1_loop.trips) (c2_i32_176 : BitVec 32) : Fin 3 → Nat :=
  let c2_i32 : BitVec 32 := 2#32
  let c0_i32_58 : BitVec 32 := 0#32
  let c1_i32 : BitVec 32 := 1#32
  let arg22 : BitVec 32 := Scf.iv c0_i32_58 c1_i32 k0_t1
  let v149 : BitVec 32 := Scalar.muli c2_i32 arg22
  let v202 : BitVec 32 := Scalar.addi v149 c2_i32_176
  let v203 : Index := Scalar.indexCast v202
  let c0_177 : Index := 0#32
  let c0_178 : Index := 0#32
  ![v203.toNat, 0, 0]
def k0_off5 (k0_t1 : Fin k0_t1_loop.trips) : Fin 3 → Nat :=
  let c2_i32 : BitVec 32 := 2#32
  let c0_i32_58 : BitVec 32 := 0#32
  let c1_i32 : BitVec 32 := 1#32
  let arg22 : BitVec 32 := Scf.iv c0_i32_58 c1_i32 k0_t1
  let v149 : BitVec 32 := Scalar.muli c2_i32 arg22
  let c1_i32_187 : BitVec 32 := 1#32
  let v217 : BitVec 32 := Scalar.addi v149 c1_i32_187
  let v238 : Index := Scalar.indexCast v217
  let c0_206 : Index := 0#32
  let c0_207 : Index := 0#32
  ![v238.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg1.toNat, v16.toNat, c0_i32_4.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnRefIdeal.lean ====
abbrev S16384x512 : Shape := ⟨2, ![16384, 512]⟩
abbrev S16384x128 : Shape := ⟨2, ![16384, 128]⟩
abbrev S16384x2x64 : Shape := ⟨3, ![16384, 2, 64]⟩
abbrev S2x16384x64 : Shape := ⟨3, ![2, 16384, 64]⟩
abbrev S2x4x16384x64 : Shape := ⟨4, ![2, 4, 16384, 64]⟩
abbrev S8x16384x64 : Shape := ⟨3, ![8, 16384, 64]⟩
abbrev S16384x8x64 : Shape := ⟨3, ![16384, 8, 64]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x64x16384 : Shape := ⟨3, ![8, 64, 16384]⟩
abbrev S4x16384x64 : Shape := ⟨3, ![4, 16384, 64]⟩
abbrev S8x32x512x64 : Shape := ⟨4, ![8, 32, 512, 64]⟩
abbrev S32x8x64x512 : Shape := ⟨4, ![32, 8, 64, 512]⟩
abbrev S32x512x512 : Shape := ⟨3, ![32, 512, 512]⟩
abbrev S4x16384x128 : Shape := ⟨3, ![4, 16384, 128]⟩
abbrev S8x16384x128 : Shape := ⟨3, ![8, 16384, 128]⟩

abbrev nBuf : Space → Nat
  | .hbm => 105
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S16384x512, .f32⟩
  | .hbm, ⟨4, _⟩ => ⟨S16384x2x64, .f32⟩
  | .hbm, ⟨5, _⟩ => ⟨S2x16384x64, .f32⟩
  | .hbm, ⟨6, _⟩ => ⟨S2x4x16384x64, .f32⟩
  | .hbm, ⟨7, _⟩ => ⟨S8x16384x64, .f32⟩
  | .hbm, ⟨8, _⟩ => ⟨S16384x2x64, .f32⟩
  | .hbm, ⟨9, _⟩ => ⟨S2x16384x64, .f32⟩
  | .hbm, ⟨10, _⟩ => ⟨S2x4x16384x64, .f32⟩
  | .hbm, ⟨11, _⟩ => ⟨S8x16384x64, .f32⟩
  | .hbm, ⟨12, _⟩ => ⟨S16384x8x64, .f32⟩
  | .hbm, ⟨13, _⟩ => ⟨S8x16384x64, .f32⟩
  | .hbm, ⟨14, _⟩ => ⟨S8x16384x16384, .f32⟩
  | .hbm, ⟨15, _⟩ => ⟨S_, .f32⟩
  | .hbm, ⟨16, _⟩ => ⟨S8x16384x16384, .f32⟩
  | .hbm, ⟨17, _⟩ => ⟨S8x16384x16384, .f32⟩
  | .hbm, ⟨18, _⟩ => ⟨S_, .f32⟩
  | .hbm, ⟨19, _⟩ => ⟨S8x16384, .f32⟩
  | .hbm, ⟨20, _⟩ => ⟨S8x16384x1, .f32⟩
  | .hbm, ⟨21, _⟩ => ⟨S8x16384x16384, .f32⟩
  | .hbm, ⟨22, _⟩ => ⟨S8x16384x16384, .i1⟩
  | .hbm, ⟨23, _⟩ => ⟨S8x16384x16384, .f32⟩
  | .hbm, ⟨24, _⟩ => ⟨S_, .f32⟩
  | .hbm, ⟨25, _⟩ => ⟨S8x16384, .f32⟩
  | .hbm, ⟨26, _⟩ => ⟨S_, .f32⟩
  | .hbm, ⟨27, _⟩ => ⟨S8x16384, .f32⟩
  | .hbm, ⟨28, _⟩ => ⟨S8x16384, .f32⟩
  | .hbm, ⟨29, _⟩ => ⟨S_, .f32⟩
  | .hbm, ⟨30, _⟩ => ⟨S8x16384, .f32⟩
  | .hbm, ⟨31, _⟩ => ⟨S8x16384, .i1⟩
  | .hbm, ⟨32, _⟩ => ⟨S_, .f32⟩
  | .hbm, ⟨33, _⟩ => ⟨S8x16384, .f32⟩
  | .hbm, ⟨34, _⟩ => ⟨S8x16384, .i1⟩
  | .hbm, ⟨35, _⟩ => ⟨S_, .f32⟩
  | .hbm, ⟨36, _⟩ => ⟨S8x16384, .f32⟩
  | .hbm, ⟨37, _⟩ => ⟨S_, .f32⟩
  | .hbm, ⟨38, _⟩ => ⟨S8x16384, .f32⟩
  | .hbm, ⟨39, _⟩ => ⟨S_, .f32⟩
  | .hbm, ⟨40, _⟩ => ⟨S8x16384, .f32⟩
  | .hbm, ⟨41, _⟩ => ⟨S8x16384, .f32⟩
  | .hbm, ⟨42, _⟩ => ⟨S8x16384, .f32⟩
  | .hbm, ⟨43, _⟩ => ⟨S8x16384x1, .f32⟩
  | .hbm, ⟨44, _⟩ => ⟨S8x16384x16384, .f32⟩
  | .hbm, ⟨45, _⟩ => ⟨S8x16384x16384, .f32⟩
  | .hbm, ⟨46, _⟩ => ⟨S8x16384x16384, .f32⟩
  | .hbm, ⟨47, _⟩ => ⟨S_, .f32⟩
  | .hbm, ⟨48, _⟩ => ⟨S8x16384, .f32⟩
  | .hbm, ⟨49, _⟩ => ⟨S8x16384x1, .f32⟩
  | .hbm, ⟨50, _⟩ => ⟨S8x16384x16384, .f32⟩
  | .hbm, ⟨51, _⟩ => ⟨S8x16384x16384, .f32⟩
  | .hbm, ⟨52, _⟩ => ⟨S8x16384x1, .f32⟩
  | .hbm, ⟨53, _⟩ => ⟨S_, .f32⟩
  | .hbm, ⟨54, _⟩ => ⟨S8x16384x1, .f32⟩
  | .hbm, ⟨55, _⟩ => ⟨S8x16384x1, .f32⟩
  | .hbm, ⟨56, _⟩ => ⟨S8x16384x64, .f32⟩
  | .hbm, ⟨57, _⟩ => ⟨S16384x8x64, .f32⟩
  | .hbm, ⟨58, _⟩ => ⟨S8x16384x64, .f32⟩
  | .hbm, ⟨59, _⟩ => ⟨S8x64x16384, .f32⟩
  | .hbm, ⟨60, _⟩ => ⟨S8x16384x64, .f32⟩
  | .hbm, ⟨61, _⟩ => ⟨S8x16384x16384, .f32⟩
  | .hbm, ⟨62, _⟩ => ⟨S8x16384x16384, .f32⟩
  | .hbm, ⟨63, _⟩ => ⟨S8x16384x16384, .f32⟩
  | .hbm, ⟨64, _⟩ => ⟨S8x16384x16384, .f32⟩
  | .hbm, ⟨65, _⟩ => ⟨S_, .f32⟩
  | .hbm, ⟨66, _⟩ => ⟨S8x16384, .f32⟩
  | .hbm, ⟨67, _⟩ => ⟨S8x16384x1, .f32⟩
  | .hbm, ⟨68, _⟩ => ⟨S8x16384x1, .f32⟩
  | .hbm, ⟨69, _⟩ => ⟨S8x16384x16384, .f32⟩
  | .hbm, ⟨70, _⟩ => ⟨S8x16384x16384, .f32⟩
  | .hbm, ⟨71, _⟩ => ⟨S_, .f32⟩
  | .hbm, ⟨72, _⟩ => ⟨S8x16384, .f32⟩
  | .hbm, ⟨73, _⟩ => ⟨S8x16384x16384, .f32⟩
  | .hbm, ⟨74, _⟩ => ⟨S8x16384x16384, .f32⟩
  | .hbm, ⟨75, _⟩ => ⟨S8x16384x16384, .f32⟩
  | .hbm, ⟨76, _⟩ => ⟨S_, .f32⟩
  | .hbm, ⟨77, _⟩ => ⟨S8x16384x16384, .f32⟩
  | .hbm, ⟨78, _⟩ => ⟨S8x16384x16384, .f32⟩
  | .hbm, ⟨79, _⟩ => ⟨S8x16384x64, .f32⟩
  | .hbm, ⟨80, _⟩ => ⟨S8x16384x64, .f32⟩
  | .hbm, ⟨81, _⟩ => ⟨S_, .f32⟩
  | .hbm, ⟨82, _⟩ => ⟨S4x16384x64, .f32⟩
  | .hbm, ⟨83, _⟩ => ⟨S_, .f32⟩
  | .hbm, ⟨84, _⟩ => ⟨S8x16384x64, .f32⟩
  | .hbm, ⟨85, _⟩ => ⟨S8x16384x64, .f32⟩
  | .hbm, ⟨86, _⟩ => ⟨S8x32x512x64, .f32⟩
  | .hbm, ⟨87, _⟩ => ⟨S32x8x64x512, .f32⟩
  | .hbm, ⟨88, _⟩ => ⟨S32x512x512, .f32⟩
  | .hbm, ⟨89, _⟩ => ⟨S_, .f32⟩
  | .hbm, ⟨90, _⟩ => ⟨S_, .f32⟩
  | .hbm, ⟨91, _⟩ => ⟨S8x16384x64, .f32⟩
  | .hbm, ⟨92, _⟩ => ⟨S8x16384x64, .f32⟩
  | .hbm, ⟨93, _⟩ => ⟨S4x16384x64, .f32⟩
  | .hbm, ⟨94, _⟩ => ⟨S4x16384x128, .f32⟩
  | .hbm, ⟨95, _⟩ => ⟨S4x16384x64, .f32⟩
  | .hbm, ⟨96, _⟩ => ⟨S4x16384x128, .f32⟩
  | .hbm, ⟨97, _⟩ => ⟨S8x16384x128, .f32⟩
  | .hbm, ⟨98, _⟩ => ⟨S8x16384x128, .bf16⟩
  | .hbm, ⟨99, _⟩ => ⟨S4x16384x64, .f32⟩
  | .hbm, ⟨100, _⟩ => ⟨S4x16384x128, .f32⟩
  | .hbm, ⟨101, _⟩ => ⟨S4x16384x64, .f32⟩
  | .hbm, ⟨102, _⟩ => ⟨S4x16384x128, .f32⟩
  | .hbm, ⟨103, _⟩ => ⟨S8x16384x128, .f32⟩
  | .hbm, ⟨104, _⟩ => ⟨S8x16384x128, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_cst_14 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== DProj.lean ====
abbrev S16384x4864 : Shape := ⟨2, ![16384, 4864]⟩
abbrev S64 : Shape := ⟨1, ![64]⟩
abbrev S32x512x512 : Shape := ⟨3, ![32, 512, 512]⟩
abbrev S8x16384x128 : Shape := ⟨3, ![8, 16384, 128]⟩
abbrev S16384x512 : Shape := ⟨2, ![16384, 512]⟩
abbrev S16384x1024 : Shape := ⟨2, ![16384, 1024]⟩
abbrev S16 : Shape := ⟨1, ![16]⟩
abbrev S_ : Shape := ⟨0, ![]⟩
abbrev S256 : Shape := ⟨1, ![256]⟩
abbrev S256x1 : Shape := ⟨2, ![256, 1]⟩
abbrev S1x16 : Shape := ⟨2, ![1, 16]⟩
abbrev S256x16 : Shape := ⟨2, ![256, 16]⟩
abbrev S64x1 : Shape := ⟨2, ![64, 1]⟩
abbrev S64x16 : Shape := ⟨2, ![64, 16]⟩
abbrev S256x1x16 : Shape := ⟨3, ![256, 1, 16]⟩
abbrev S256x64x16 : Shape := ⟨3, ![256, 64, 16]⟩
abbrev S1x64x16 : Shape := ⟨3, ![1, 64, 16]⟩
abbrev S256x64x32 : Shape := ⟨3, ![256, 64, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S32 : Shape := ⟨1, ![32]⟩
abbrev S1x32 : Shape := ⟨2, ![1, 32]⟩
abbrev S256x32 : Shape := ⟨2, ![256, 32]⟩
abbrev S64x32 : Shape := ⟨2, ![64, 32]⟩
abbrev S256x1x32 : Shape := ⟨3, ![256, 1, 32]⟩
abbrev S1x64x32 : Shape := ⟨3, ![1, 64, 32]⟩
abbrev S256x64x64 : Shape := ⟨3, ![256, 64, 64]⟩
abbrev S1x16384x1x128 : Shape := ⟨4, ![1, 16384, 1, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S8x512 : Shape := ⟨2, ![8, 512]⟩
abbrev S8x128 : Shape := ⟨2, ![8, 128]⟩
abbrev S512x512 : Shape := ⟨2, ![512, 512]⟩
abbrev S512x128 : Shape := ⟨2, ![512, 128]⟩
abbrev S1x512x512 : Shape := ⟨3, ![1, 512, 512]⟩
abbrev S8x512x128 : Shape := ⟨3, ![8, 512, 128]⟩
abbrev S512x1024 : Shape := ⟨2, ![512, 1024]⟩
abbrev S512x4864 : Shape := ⟨2, ![512, 4864]⟩
abbrev S512x1 : Shape := ⟨2, ![512, 1]⟩

abbrev nBuf : Space → Nat
  | .hbm => 128
  | .vmem => 42
  | .smem => 0
  | _ => 0

abbrev bufTy : (tb : Table) → Fin (tcTables nBuf tb) → BufTy
  | .hbm, ⟨0, _⟩ => ⟨S16384x4864, .f32⟩
  | .hbm, ⟨1, _⟩ => ⟨S64, .f32⟩
  | .hbm, ⟨2, _⟩ => ⟨S64, .f32⟩
  | .hbm, ⟨3, _⟩ => ⟨S32x512x512, .f32⟩
  | .hbm, ⟨4, _⟩ => ⟨S8x16384x128, .f32⟩
  | .hbm, ⟨5, _⟩ => ⟨S8x16384x128, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x1024, .f32⟩
  | .hbm, ⟨14, _⟩ => ⟨S16384x1024, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S256, .f32⟩
  | .hbm, ⟨24, _⟩ => ⟨S256x1, .f32⟩
  | .hbm, ⟨25, _⟩ => ⟨S1x16, .f32⟩
  | .hbm, ⟨26, _⟩ => ⟨S256x16, .f32⟩
  | .hbm, ⟨27, _⟩ => ⟨S256x16, .f32⟩
  | .hbm, ⟨28, _⟩ => ⟨S256x16, .f32⟩
  | .hbm, ⟨29, _⟩ => ⟨S64, .f32⟩
  | .hbm, ⟨30, _⟩ => ⟨S64x1, .f32⟩
  | .hbm, ⟨31, _⟩ => ⟨S1x16, .f32⟩
  | .hbm, ⟨32, _⟩ => ⟨S64x16, .f32⟩
  | .hbm, ⟨33, _⟩ => ⟨S64x16, .f32⟩
  | .hbm, ⟨34, _⟩ => ⟨S64x16, .f32⟩
  | .hbm, ⟨35, _⟩ => ⟨S256x16, .f32⟩
  | .hbm, ⟨36, _⟩ => ⟨S64x16, .f32⟩
  | .hbm, ⟨37, _⟩ => ⟨S256x1x16, .f32⟩
  | .hbm, ⟨38, _⟩ => ⟨S256x64x16, .f32⟩
  | .hbm, ⟨39, _⟩ => ⟨S1x64x16, .f32⟩
  | .hbm, ⟨40, _⟩ => ⟨S256x64x16, .f32⟩
  | .hbm, ⟨41, _⟩ => ⟨S256x64x32, .f32⟩
  | .hbm, ⟨42, _⟩ => ⟨S16384x32, .f32⟩
  | .hbm, ⟨43, _⟩ => ⟨S256x16, .f32⟩
  | .hbm, ⟨44, _⟩ => ⟨S64x16, .f32⟩
  | .hbm, ⟨45, _⟩ => ⟨S256x1x16, .f32⟩
  | .hbm, ⟨46, _⟩ => ⟨S256x64x16, .f32⟩
  | .hbm, ⟨47, _⟩ => ⟨S1x64x16, .f32⟩
  | .hbm, ⟨48, _⟩ => ⟨S256x64x16, .f32⟩
  | .hbm, ⟨49, _⟩ => ⟨S256x64x32, .f32⟩
  | .hbm, ⟨50, _⟩ => ⟨S16384x32, .f32⟩
  | .hbm, ⟨51, _⟩ => ⟨S16384x64, .f32⟩
  | .hbm, ⟨52, _⟩ => ⟨S1x16384x1x64, .f32⟩
  | .hbm, ⟨53, _⟩ => ⟨S1x16384x2x64, .f32⟩
  | .hbm, ⟨54, _⟩ => ⟨S16384x128, .f32⟩
  | .hbm, ⟨55, _⟩ => ⟨S16384x32, .f32⟩
  | .hbm, ⟨56, _⟩ => ⟨S16384x64, .f32⟩
  | .hbm, ⟨57, _⟩ => ⟨S1x16384x1x64, .f32⟩
  | .hbm, ⟨58, _⟩ => ⟨S1x16384x2x64, .f32⟩
  | .hbm, ⟨59, _⟩ => ⟨S16384x128, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S256, .f32⟩
  | .hbm, ⟨69, _⟩ => ⟨S256x1, .f32⟩
  | .hbm, ⟨70, _⟩ => ⟨S1x32, .f32⟩
  | .hbm, ⟨71, _⟩ => ⟨S256x32, .f32⟩
  | .hbm, ⟨72, _⟩ => ⟨S256x32, .f32⟩
  | .hbm, ⟨73, _⟩ => ⟨S256x32, .f32⟩
  | .hbm, ⟨74, _⟩ => ⟨S64, .f32⟩
  | .hbm, ⟨75, _⟩ => ⟨S64x1, .f32⟩
  | .hbm, ⟨76, _⟩ => ⟨S1x32, .f32⟩
  | .hbm, ⟨77, _⟩ => ⟨S64x32, .f32⟩
  | .hbm, ⟨78, _⟩ => ⟨S64x32, .f32⟩
  | .hbm, ⟨79, _⟩ => ⟨S64x32, .f32⟩
  | .hbm, ⟨80, _⟩ => ⟨S256x32, .f32⟩
  | .hbm, ⟨81, _⟩ => ⟨S64x32, .f32⟩
  | .hbm, ⟨82, _⟩ => ⟨S256x1x32, .f32⟩
  | .hbm, ⟨83, _⟩ => ⟨S256x64x32, .f32⟩
  | .hbm, ⟨84, _⟩ => ⟨S1x64x32, .f32⟩
  | .hbm, ⟨85, _⟩ => ⟨S256x64x32, .f32⟩
  | .hbm, ⟨86, _⟩ => ⟨S256x64x64, .f32⟩
  | .hbm, ⟨87, _⟩ => ⟨S16384x64, .f32⟩
  | .hbm, ⟨88, _⟩ => ⟨S256x32, .f32⟩
  | .hbm, ⟨89, _⟩ => ⟨S64x32, .f32⟩
  | .hbm, ⟨90, _⟩ => ⟨S256x1x32, .f32⟩
  | .hbm, ⟨91, _⟩ => ⟨S256x64x32, .f32⟩
  | .hbm, ⟨92, _⟩ => ⟨S1x64x32, .f32⟩
  | .hbm, ⟨93, _⟩ => ⟨S256x64x32, .f32⟩
  | .hbm, ⟨94, _⟩ => ⟨S256x64x64, .f32⟩
  | .hbm, ⟨95, _⟩ => ⟨S16384x64, .f32⟩
  | .hbm, ⟨96, _⟩ => ⟨S16384x128, .f32⟩
  | .hbm, ⟨97, _⟩ => ⟨S1x16384x1x128, .f32⟩
  | .hbm, ⟨98, _⟩ => ⟨S1x16384x1x128, .f32⟩
  | .hbm, ⟨99, _⟩ => ⟨S16384x128, .f32⟩
  | .hbm, ⟨100, _⟩ => ⟨S16384x64, .f32⟩
  | .hbm, ⟨101, _⟩ => ⟨S16384x128, .f32⟩
  | .hbm, ⟨102, _⟩ => ⟨S1x16384x1x128, .f32⟩
  | .hbm, ⟨103, _⟩ => ⟨S1x16384x1x128, .f32⟩
  | .hbm, ⟨104, _⟩ => ⟨S16384x128, .f32⟩
  | .hbm, ⟨105, _⟩ => ⟨S1x64, .f32⟩
  | .hbm, ⟨106, _⟩ => ⟨S8x64, .f32⟩
  | .hbm, ⟨107, _⟩ => ⟨S512, .f32⟩
  | .hbm, ⟨108, _⟩ => ⟨S1x512, .f32⟩
  | .hbm, ⟨109, _⟩ => ⟨S1x64, .f32⟩
  | .hbm, ⟨110, _⟩ => ⟨S2x64, .f32⟩
  | .hbm, ⟨111, _⟩ => ⟨S128, .f32⟩
  | .hbm, ⟨112, _⟩ => ⟨S1x128, .f32⟩
  | .hbm, ⟨113, _⟩ => ⟨S16384x512, .bf16⟩
  | .hbm, ⟨114, _⟩ => ⟨S16384x512, .bf16⟩
  | .hbm, ⟨115, _⟩ => ⟨S16384x512, .bf16⟩
  | .hbm, ⟨116, _⟩ => ⟨S16384x512, .bf16⟩
  | .hbm, ⟨117, _⟩ => ⟨S16384x512, .bf16⟩
  | .hbm, ⟨118, _⟩ => ⟨S16384x512, .bf16⟩
  | .hbm, ⟨119, _⟩ => ⟨S16384x4864, .bf16⟩
  | .hbm, ⟨120, _⟩ => ⟨S8x16384x128, .bf16⟩
  | .hbm, ⟨121, _⟩ => ⟨S8x16384x128, .bf16⟩
  | .hbm, ⟨122, _⟩ => ⟨S16384x512, .bf16⟩
  | .hbm, ⟨123, _⟩ => ⟨S16384x1024, .bf16⟩
  | .hbm, ⟨124, _⟩ => ⟨S16384x1024, .bf16⟩
  | .hbm, ⟨125, _⟩ => ⟨S16384x4864, .bf16⟩
  | .hbm, ⟨126, _⟩ => ⟨S8x512, .f32⟩
  | .hbm, ⟨127, _⟩ => ⟨S8x128, .f32⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S1x512x512, .f32⟩
  | .local _ .vmem, ⟨5, _⟩ => ⟨S1x512x512, .f32⟩
  | .local _ .vmem, ⟨6, _⟩ => ⟨S8x512x128, .bf16⟩
  | .local _ .vmem, ⟨7, _⟩ => ⟨S8x512x128, .bf16⟩
  | .local _ .vmem, ⟨8, _⟩ => ⟨S8x512x128, .bf16⟩
  | .local _ .vmem, ⟨9, _⟩ => ⟨S8x512x128, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S1x512, .f32⟩
  | .local _ .vmem, ⟨37, _⟩ => ⟨S1x128, .f32⟩
  | .local _ .vmem, ⟨38, _⟩ => ⟨S512x4864, .bf16⟩
  | .local _ .vmem, ⟨39, _⟩ => ⟨S512x4864, .bf16⟩
  | .local _ .vmem, ⟨40, _⟩ => ⟨S8x512, .f32⟩
  | .local _ .vmem, ⟨41, _⟩ => ⟨S8x128, .f32⟩
  | _, _ => ⟨S16384x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_1 : Ref sig .tc := ⟨.hbm, 62, rfl⟩
abbrev main_v45 : Ref sig .tc := ⟨.hbm, 63, rfl⟩
abbrev main_v46 : Ref sig .tc := ⟨.hbm, 64, rfl⟩
abbrev main_cst_2 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106_0 : Ref sig .tc := ⟨.hbm, 125, rfl⟩
abbrev main_v106_1 : Ref sig .tc := ⟨.hbm, 126, rfl⟩
abbrev main_v106_2 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg19_0 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg22_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem19_0 : DmaSem sig := 37
abbrev cc0_sem20_0 : DmaSem sig := 38
abbrev cc0_sem20_1 : DmaSem sig := 39
abbrev cc0_sem21_0 : DmaSem sig := 40
abbrev cc0_sem22_0 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x4864 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== DProjRefIdeal.lean ====
abbrev S16384x4864 : Shape := ⟨2, ![16384, 4864]⟩
abbrev S64 : Shape := ⟨1, ![64]⟩
abbrev S32x512x512 : Shape := ⟨3, ![32, 512, 512]⟩
abbrev S8x16384x128 : Shape := ⟨3, ![8, 16384, 128]⟩
abbrev S16384x512 : Shape := ⟨2, ![16384, 512]⟩
abbrev S16384x1024 : Shape := ⟨2, ![16384, 1024]⟩
abbrev S16 : Shape := ⟨1, ![16]⟩
abbrev S_ : Shape := ⟨0, ![]⟩
abbrev S256 : Shape := ⟨1, ![256]⟩
abbrev S256x64 : Shape := ⟨2, ![256, 64]⟩
abbrev S16384 : Shape := ⟨1, ![16384]⟩
abbrev S1x64 : Shape := ⟨2, ![1, 64]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S32 : Shape := ⟨1, ![32]⟩
abbrev S1x32 : Shape := ⟨2, ![1, 32]⟩
abbrev S16384x64 : Shape := ⟨2, ![16384, 64]⟩
abbrev S8x64 : Shape := ⟨2, ![8, 64]⟩
abbrev S2x64 : Shape := ⟨2, ![2, 64]⟩
abbrev S32x8x64x512 : Shape := ⟨4, ![32, 8, 64, 512]⟩
abbrev S32x512x8x64 : Shape := ⟨4, ![32, 512, 8, 64]⟩
abbrev S16384x8x64 : Shape := ⟨3, ![16384, 8, 64]⟩
abbrev S16384x128 : Shape := ⟨2, ![16384, 128]⟩
abbrev S16384x2x64 : Shape := ⟨3, ![16384, 2, 64]⟩
abbrev S16384x4x128 : Shape := ⟨3, ![16384, 4, 128]⟩
abbrev S16384x8 : Shape := ⟨2, ![16384, 8]⟩
abbrev S16384x8x1 : Shape := ⟨3, ![16384, 8, 1]⟩
abbrev S1x8x64 : Shape := ⟨3, ![1, 8, 64]⟩
abbrev S16384x8x32 : Shape := ⟨3, ![16384, 8, 32]⟩
abbrev S16384x1x32 : Shape := ⟨3, ![16384, 1, 32]⟩
abbrev S16384x2 : Shape := ⟨2, ![16384, 2]⟩
abbrev S16384x2x1 : Shape := ⟨3, ![16384, 2, 1]⟩
abbrev S1x2x64 : Shape := ⟨3, ![1, 2, 64]⟩
abbrev S16384x2x32 : Shape := ⟨3, ![16384, 2, 32]⟩
abbrev S16384x4x64 : Shape := ⟨3, ![16384, 4, 64]⟩
abbrev S16384x1x64 : Shape := ⟨3, ![16384, 1, 64]⟩
abbrev S512 : Shape := ⟨1, ![512]⟩
abbrev S1x512 : Shape := ⟨2, ![1, 512]⟩
abbrev S7x512 : Shape := ⟨2, ![7, 512]⟩
abbrev S8x512 : Shape := ⟨2, ![8, 512]⟩
abbrev S128 : Shape := ⟨1, ![128]⟩
abbrev S1x128 : Shape := ⟨2, ![1, 128]⟩
abbrev S7x128 : Shape := ⟨2, ![7, 128]⟩
abbrev S8x128 : Shape := ⟨2, ![8, 128]⟩

abbrev nBuf : Space → Nat
  | .hbm => 361
  | .vmem => 0
  | .smem => 0
  | _ => 0

abbrev hbmTy0_0 (i : Nat) : BufTy := match i % 128 with
  | 0 => ⟨S16384x4864, .f32⟩
  | 1 => ⟨S64, .f32⟩
  | 2 => ⟨S64, .f32⟩
  | 3 => ⟨S32x512x512, .f32⟩
  | 4 => ⟨S8x16384x128, .f32⟩
  | 5 => ⟨S8x16384x128, .f32⟩
  | 6 => ⟨S16384x512, .f32⟩
  | 7 => ⟨S16384x512, .f32⟩
  | 8 => ⟨S16384x512, .f32⟩
  | 9 => ⟨S16384x512, .f32⟩
  | 10 => ⟨S16384x512, .f32⟩
  | 11 => ⟨S16384x512, .f32⟩
  | 12 => ⟨S16384x512, .f32⟩
  | 13 => ⟨S16384x1024, .f32⟩
  | 14 => ⟨S16384x1024, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S256, .f32⟩
  | 24 => ⟨S256x64, .f32⟩
  | 25 => ⟨S16384, .f32⟩
  | 26 => ⟨S64, .f32⟩
  | 27 => ⟨S1x64, .f32⟩
  | 28 => ⟨S256x64, .f32⟩
  | 29 => ⟨S16384, .f32⟩
  | 30 => ⟨S16384x1, .f32⟩
  | 31 => ⟨S1x16, .f32⟩
  | 32 => ⟨S16384x16, .f32⟩
  | 33 => ⟨S16384x16, .f32⟩
  | 34 => ⟨S16384x16, .f32⟩
  | 35 => ⟨S16384x1, .f32⟩
  | 36 => ⟨S1x16, .f32⟩
  | 37 => ⟨S16384x16, .f32⟩
  | 38 => ⟨S16384x16, .f32⟩
  | 39 => ⟨S16384x16, .f32⟩
  | 40 => ⟨S16384x32, .f32⟩
  | 41 => ⟨S16384x32, .f32⟩
  | 42 => ⟨S16384x32, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S256, .f32⟩
  | 52 => ⟨S256x64, .f32⟩
  | 53 => ⟨S16384, .f32⟩
  | 54 => ⟨S64, .f32⟩
  | 55 => ⟨S1x64, .f32⟩
  | 56 => ⟨S256x64, .f32⟩
  | 57 => ⟨S16384, .f32⟩
  | 58 => ⟨S16384x1, .f32⟩
  | 59 => ⟨S1x32, .f32⟩
  | 60 => ⟨S16384x32, .f32⟩
  | 61 => ⟨S16384x32, .f32⟩
  | 62 => ⟨S16384x32, .f32⟩
  | 63 => ⟨S16384x1, .f32⟩
  | 64 => ⟨S1x32, .f32⟩
  | 65 => ⟨S16384x32, .f32⟩
  | 66 => ⟨S16384x32, .f32⟩
  | 67 => ⟨S16384x32, .f32⟩
  | 68 => ⟨S16384x64, .f32⟩
  | 69 => ⟨S16384x64, .f32⟩
  | 70 => ⟨S16384x64, .f32⟩
  | 71 => ⟨S8x64, .f32⟩
  | 72 => ⟨S2x64, .f32⟩
  | 73 => ⟨S32x8x64x512, .f32⟩
  | 74 => ⟨S32x512x8x64, .f32⟩
  | 75 => ⟨S16384x8x64, .f32⟩
  | 76 => ⟨S_, .f32⟩
  | 77 => ⟨S16384x128, .f32⟩
  | 78 => ⟨S_, .f32⟩
  | 79 => ⟨S16384x128, .f32⟩
  | 80 => ⟨S16384x128, .f32⟩
  | 81 => ⟨S16384x2x64, .f32⟩
  | 82 => ⟨S_, .f32⟩
  | 83 => ⟨S16384x128, .f32⟩
  | 84 => ⟨S16384x512, .f32⟩
  | 85 => ⟨S16384x4x128, .f32⟩
  | 86 => ⟨S16384x512, .f32⟩
  | 87 => ⟨S16384x4x128, .f32⟩
  | 88 => ⟨S16384x512, .f32⟩
  | 89 => ⟨S16384x512, .f32⟩
  | 90 => ⟨S16384x8x64, .f32⟩
  | 91 => ⟨S16384x8x64, .f32⟩
  | 92 => ⟨S_, .f32⟩
  | 93 => ⟨S16384x8, .f32⟩
  | 94 => ⟨S16384x8x1, .f32⟩
  | 95 => ⟨S_, .f32⟩
  | 96 => ⟨S16384x8x1, .f32⟩
  | 97 => ⟨S16384x8x1, .f32⟩
  | 98 => ⟨S_, .f32⟩
  | 99 => ⟨S16384x8x1, .f32⟩
  | 100 => ⟨S16384x8x1, .f32⟩
  | 101 => ⟨S16384x8x1, .f32⟩
  | 102 => ⟨S16384x8x1, .f32⟩
  | 103 => ⟨S_, .f32⟩
  | 104 => ⟨S16384x8x1, .f32⟩
  | 105 => ⟨S16384x8x1, .f32⟩
  | 106 => ⟨S16384x8x64, .f32⟩
  | 107 => ⟨S16384x8x64, .f32⟩
  | 108 => ⟨S1x8x64, .f32⟩
  | 109 => ⟨S16384x8x64, .f32⟩
  | 110 => ⟨S16384x8x64, .f32⟩
  | 111 => ⟨S16384x8x32, .f32⟩
  | 112 => ⟨S16384x8x32, .f32⟩
  | 113 => ⟨S16384x1x32, .f32⟩
  | 114 => ⟨S16384x1x32, .f32⟩
  | 115 => ⟨S16384x8x32, .f32⟩
  | 116 => ⟨S16384x8x32, .f32⟩
  | 117 => ⟨S16384x8x32, .f32⟩
  | 118 => ⟨S16384x8x32, .f32⟩
  | 119 => ⟨S16384x8x32, .f32⟩
  | 120 => ⟨S16384x8x32, .f32⟩
  | 121 => ⟨S16384x8x32, .f32⟩
  | 122 => ⟨S16384x8x32, .f32⟩
  | 123 => ⟨S16384x8x32, .f32⟩
  | 124 => ⟨S16384x8x32, .f32⟩
  | 125 => ⟨S16384x8x64, .f32⟩
  | 126 => ⟨S_, .f32⟩
  | 127 => ⟨S16384x8x64, .f32⟩
  | _ => ⟨S16384x4864, .f32⟩

abbrev hbmTy0_1 (i : Nat) : BufTy := match i % 128 with
  | 0 => ⟨S16384x8x64, .f32⟩
  | 1 => ⟨S16384x128, .f32⟩
  | 2 => ⟨S16384x2x64, .f32⟩
  | 3 => ⟨S16384x2x64, .f32⟩
  | 4 => ⟨S_, .f32⟩
  | 5 => ⟨S16384x2, .f32⟩
  | 6 => ⟨S16384x2x1, .f32⟩
  | 7 => ⟨S_, .f32⟩
  | 8 => ⟨S16384x2x1, .f32⟩
  | 9 => ⟨S16384x2x1, .f32⟩
  | 10 => ⟨S_, .f32⟩
  | 11 => ⟨S16384x2x1, .f32⟩
  | 12 => ⟨S16384x2x1, .f32⟩
  | 13 => ⟨S16384x2x1, .f32⟩
  | 14 => ⟨S16384x2x1, .f32⟩
  | 15 => ⟨S_, .f32⟩
  | 16 => ⟨S16384x2x1, .f32⟩
  | 17 => ⟨S16384x2x1, .f32⟩
  | 18 => ⟨S16384x2x64, .f32⟩
  | 19 => ⟨S16384x2x64, .f32⟩
  | 20 => ⟨S1x2x64, .f32⟩
  | 21 => ⟨S16384x2x64, .f32⟩
  | 22 => ⟨S16384x2x64, .f32⟩
  | 23 => ⟨S16384x2x32, .f32⟩
  | 24 => ⟨S16384x2x32, .f32⟩
  | 25 => ⟨S16384x1x32, .f32⟩
  | 26 => ⟨S16384x1x32, .f32⟩
  | 27 => ⟨S16384x2x32, .f32⟩
  | 28 => ⟨S16384x2x32, .f32⟩
  | 29 => ⟨S16384x2x32, .f32⟩
  | 30 => ⟨S16384x2x32, .f32⟩
  | 31 => ⟨S16384x2x32, .f32⟩
  | 32 => ⟨S16384x2x32, .f32⟩
  | 33 => ⟨S16384x2x32, .f32⟩
  | 34 => ⟨S16384x2x32, .f32⟩
  | 35 => ⟨S16384x2x32, .f32⟩
  | 36 => ⟨S16384x2x32, .f32⟩
  | 37 => ⟨S16384x2x64, .f32⟩
  | 38 => ⟨S16384x512, .f32⟩
  | 39 => ⟨S16384x4x128, .f32⟩
  | 40 => ⟨S16384x4x64, .f32⟩
  | 41 => ⟨S16384x4x64, .f32⟩
  | 42 => ⟨S16384x1x64, .f32⟩
  | 43 => ⟨S16384x1x64, .f32⟩
  | 44 => ⟨S16384x4x64, .f32⟩
  | 45 => ⟨S16384x4x64, .f32⟩
  | 46 => ⟨S16384x4x64, .f32⟩
  | 47 => ⟨S16384x4x64, .f32⟩
  | 48 => ⟨S16384x4x64, .f32⟩
  | 49 => ⟨S16384x4x64, .f32⟩
  | 50 => ⟨S16384x4x64, .f32⟩
  | 51 => ⟨S16384x4x64, .f32⟩
  | 52 => ⟨S16384x4x64, .f32⟩
  | 53 => ⟨S16384x4x64, .f32⟩
  | 54 => ⟨S16384x4x128, .f32⟩
  | 55 => ⟨S_, .f32⟩
  | 56 => ⟨S16384x4x128, .f32⟩
  | 57 => ⟨S16384x4x128, .f32⟩
  | 58 => ⟨S16384x512, .f32⟩
  | 59 => ⟨S16384x4x128, .f32⟩
  | 60 => ⟨S16384x4x64, .f32⟩
  | 61 => ⟨S16384x4x64, .f32⟩
  | 62 => ⟨S16384x1x64, .f32⟩
  | 63 => ⟨S16384x1x64, .f32⟩
  | 64 => ⟨S16384x4x64, .f32⟩
  | 65 => ⟨S16384x4x64, .f32⟩
  | 66 => ⟨S16384x4x64, .f32⟩
  | 67 => ⟨S16384x4x64, .f32⟩
  | 68 => ⟨S16384x4x64, .f32⟩
  | 69 => ⟨S16384x4x64, .f32⟩
  | 70 => ⟨S16384x4x64, .f32⟩
  | 71 => ⟨S16384x4x64, .f32⟩
  | 72 => ⟨S16384x4x64, .f32⟩
  | 73 => ⟨S16384x4x64, .f32⟩
  | 74 => ⟨S16384x4x128, .f32⟩
  | 75 => ⟨S16384x128, .f32⟩
  | 76 => ⟨S16384x512, .f32⟩
  | 77 => ⟨S16384x512, .f32⟩
  | 78 => ⟨S16384x1024, .f32⟩
  | 79 => ⟨S16384x1024, .f32⟩
  | 80 => ⟨S_, .f32⟩
  | 81 => ⟨S16384x4864, .f32⟩
  | 82 => ⟨S_, .f32⟩
  | 83 => ⟨S16384x4864, .f32⟩
  | 84 => ⟨S16384x4864, .f32⟩
  | 85 => ⟨S_, .f32⟩
  | 86 => ⟨S16384x4864, .f32⟩
  | 87 => ⟨S16384x4864, .f32⟩
  | 88 => ⟨S_, .f32⟩
  | 89 => ⟨S16384x4864, .f32⟩
  | 90 => ⟨S16384x4864, .f32⟩
  | 91 => ⟨S_, .f32⟩
  | 92 => ⟨S16384x4864, .f32⟩
  | 93 => ⟨S16384x4864, .f32⟩
  | 94 => ⟨S16384x4x64, .f32⟩
  | 95 => ⟨S16384x4x64, .f32⟩
  | 96 => ⟨S16384x4x64, .f32⟩
  | 97 => ⟨S16384x4x64, .f32⟩
  | 98 => ⟨S16384x4x64, .f32⟩
  | 99 => ⟨S16384x4x64, .f32⟩
  | 100 => ⟨S16384x4x64, .f32⟩
  | 101 => ⟨S16384x4x64, .f32⟩
  | 102 => ⟨S16384x4x64, .f32⟩
  | 103 => ⟨S16384x4x64, .f32⟩
  | 104 => ⟨S16384x4x64, .f32⟩
  | 105 => ⟨S16384x4x64, .f32⟩
  | 106 => ⟨S16384x4x64, .f32⟩
  | 107 => ⟨S16384x4x128, .f32⟩
  | 108 => ⟨S16384x512, .f32⟩
  | 109 => ⟨S_, .f32⟩
  | 110 => ⟨S16384x4864, .f32⟩
  | 111 => ⟨S16384x4864, .f32⟩
  | 112 => ⟨S_, .f32⟩
  | 113 => ⟨S16384x4x128, .f32⟩
  | 114 => ⟨S16384x4x128, .f32⟩
  | 115 => ⟨S16384x4x64, .f32⟩
  | 116 => ⟨S16384x4x64, .f32⟩
  | 117 => ⟨S16384x4x64, .f32⟩
  | 118 => ⟨S16384x4x64, .f32⟩
  | 119 => ⟨S16384x4x64, .f32⟩
  | 120 => ⟨S16384x4x64, .f32⟩
  | 121 => ⟨S16384x4x64, .f32⟩
  | 122 => ⟨S16384x4x64, .f32⟩
  | 123 => ⟨S16384x4x64, .f32⟩
  | 124 => ⟨S16384x4x64, .f32⟩
  | 125 => ⟨S16384x4x64, .f32⟩
  | 126 => ⟨S16384x4x64, .f32⟩
  | 127 => ⟨S16384x4x64, .f32⟩
  | _ => ⟨S16384x4864, .f32⟩

abbrev hbmTy0_2 (i : Nat) : BufTy := match i % 128 with
  | 0 => ⟨S16384x4x128, .f32⟩
  | 1 => ⟨S16384x512, .f32⟩
  | 2 => ⟨S_, .f32⟩
  | 3 => ⟨S16384x4864, .f32⟩
  | 4 => ⟨S16384x4864, .f32⟩
  | 5 => ⟨S16384x2x32, .f32⟩
  | 6 => ⟨S16384x2x32, .f32⟩
  | 7 => ⟨S16384x2x32, .f32⟩
  | 8 => ⟨S16384x2x32, .f32⟩
  | 9 => ⟨S16384x2x32, .f32⟩
  | 10 => ⟨S16384x2x32, .f32⟩
  | 11 => ⟨S16384x2x32, .f32⟩
  | 12 => ⟨S16384x2x32, .f32⟩
  | 13 => ⟨S16384x2x32, .f32⟩
  | 14 => ⟨S16384x2x32, .f32⟩
  | 15 => ⟨S16384x2x32, .f32⟩
  | 16 => ⟨S16384x2x32, .f32⟩
  | 17 => ⟨S16384x2x32, .f32⟩
  | 18 => ⟨S16384x2x64, .f32⟩
  | 19 => ⟨S16384x2x64, .f32⟩
  | 20 => ⟨S_, .f32⟩
  | 21 => ⟨S2x64, .f32⟩
  | 22 => ⟨S1x2x64, .f32⟩
  | 23 => ⟨S16384x2x64, .f32⟩
  | 24 => ⟨S16384x2x64, .f32⟩
  | 25 => ⟨S_, .f32⟩
  | 26 => ⟨S2x64, .f32⟩
  | 27 => ⟨S16384x2x64, .f32⟩
  | 28 => ⟨S_, .f32⟩
  | 29 => ⟨S16384x2, .f32⟩
  | 30 => ⟨S16384x2x1, .f32⟩
  | 31 => ⟨S16384x2x64, .f32⟩
  | 32 => ⟨S16384x2x64, .f32⟩
  | 33 => ⟨S16384x2x1, .f32⟩
  | 34 => ⟨S_, .f32⟩
  | 35 => ⟨S16384x2x1, .f32⟩
  | 36 => ⟨S16384x2x1, .f32⟩
  | 37 => ⟨S_, .f32⟩
  | 38 => ⟨S16384x2, .f32⟩
  | 39 => ⟨S16384x2x64, .f32⟩
  | 40 => ⟨S16384x2x64, .f32⟩
  | 41 => ⟨S16384x2x64, .f32⟩
  | 42 => ⟨S16384x2x64, .f32⟩
  | 43 => ⟨S16384x2x64, .f32⟩
  | 44 => ⟨S16384x128, .f32⟩
  | 45 => ⟨S_, .f32⟩
  | 46 => ⟨S16384x4864, .f32⟩
  | 47 => ⟨S16384x4864, .f32⟩
  | 48 => ⟨S_, .f32⟩
  | 49 => ⟨S16384x8x64, .f32⟩
  | 50 => ⟨S16384x8x64, .f32⟩
  | 51 => ⟨S16384x8x32, .f32⟩
  | 52 => ⟨S16384x8x32, .f32⟩
  | 53 => ⟨S16384x8x32, .f32⟩
  | 54 => ⟨S16384x8x32, .f32⟩
  | 55 => ⟨S16384x8x32, .f32⟩
  | 56 => ⟨S16384x8x32, .f32⟩
  | 57 => ⟨S16384x8x32, .f32⟩
  | 58 => ⟨S16384x8x32, .f32⟩
  | 59 => ⟨S16384x8x32, .f32⟩
  | 60 => ⟨S16384x8x32, .f32⟩
  | 61 => ⟨S16384x8x32, .f32⟩
  | 62 => ⟨S16384x8x32, .f32⟩
  | 63 => ⟨S16384x8x32, .f32⟩
  | 64 => ⟨S16384x8x64, .f32⟩
  | 65 => ⟨S16384x8x64, .f32⟩
  | 66 => ⟨S_, .f32⟩
  | 67 => ⟨S8x64, .f32⟩
  | 68 => ⟨S1x8x64, .f32⟩
  | 69 => ⟨S16384x8x64, .f32⟩
  | 70 => ⟨S16384x8x64, .f32⟩
  | 71 => ⟨S_, .f32⟩
  | 72 => ⟨S8x64, .f32⟩
  | 73 => ⟨S16384x8x64, .f32⟩
  | 74 => ⟨S_, .f32⟩
  | 75 => ⟨S16384x8, .f32⟩
  | 76 => ⟨S16384x8x1, .f32⟩
  | 77 => ⟨S16384x8x64, .f32⟩
  | 78 => ⟨S16384x8x64, .f32⟩
  | 79 => ⟨S16384x8x1, .f32⟩
  | 80 => ⟨S_, .f32⟩
  | 81 => ⟨S16384x8x1, .f32⟩
  | 82 => ⟨S16384x8x1, .f32⟩
  | 83 => ⟨S_, .f32⟩
  | 84 => ⟨S16384x8, .f32⟩
  | 85 => ⟨S16384x8x64, .f32⟩
  | 86 => ⟨S16384x8x64, .f32⟩
  | 87 => ⟨S16384x8x64, .f32⟩
  | 88 => ⟨S16384x8x64, .f32⟩
  | 89 => ⟨S16384x8x64, .f32⟩
  | 90 => ⟨S16384x512, .f32⟩
  | 91 => ⟨S_, .f32⟩
  | 92 => ⟨S16384x4864, .f32⟩
  | 93 => ⟨S16384x4864, .f32⟩
  | 94 => ⟨S16384x4864, .bf16⟩
  | 95 => ⟨S512, .f32⟩
  | 96 => ⟨S1x512, .f32⟩
  | 97 => ⟨S_, .f32⟩
  | 98 => ⟨S7x512, .f32⟩
  | 99 => ⟨S8x512, .f32⟩
  | 100 => ⟨S128, .f32⟩
  | 101 => ⟨S1x128, .f32⟩
  | 102 => ⟨S_, .f32⟩
  | 103 => ⟨S7x128, .f32⟩
  | 104 => ⟨S8x128, .f32⟩
  | _ => ⟨S16384x4864, .f32⟩

abbrev hbmTy (i : Nat) : BufTy := match i / 128 with
  | 0 => hbmTy0_0 i
  | 1 => hbmTy0_1 i
  | 2 => hbmTy0_2 i
  | _ => ⟨S16384x4864, .f32⟩

abbrev bufTy : (tb : Table) → Fin (tcTables nBuf tb) → BufTy
  | .hbm, ⟨i, _⟩ => hbmTy i
  | _, _ => ⟨S16384x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_1 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_3 : Ref sig .tc := ⟨.hbm, 76, rfl⟩
abbrev main_v57 : Ref sig .tc := ⟨.hbm, 77, rfl⟩
abbrev main_cst_4 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_5 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_6 : Ref sig .tc := ⟨.hbm, 92, rfl⟩
abbrev main_v70 : Ref sig .tc := ⟨.hbm, 93, rfl⟩
abbrev main_v71 : Ref sig .tc := ⟨.hbm, 94, rfl⟩
abbrev main_cst_7 : Ref sig .tc := ⟨.hbm, 95, rfl⟩
abbrev main_v72 : Ref sig .tc := ⟨.hbm, 96, rfl⟩
abbrev main_v73 : Ref sig .tc := ⟨.hbm, 97, rfl⟩
abbrev main_cst_8 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_9 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_10 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_11 : Ref sig .tc := ⟨.hbm, 132, rfl⟩
abbrev main_v105 : Ref sig .tc := ⟨.hbm, 133, rfl⟩
abbrev main_v106 : Ref sig .tc := ⟨.hbm, 134, rfl⟩
abbrev main_cst_12 : Ref sig .tc := ⟨.hbm, 135, rfl⟩
abbrev main_v107 : Ref sig .tc := ⟨.hbm, 136, rfl⟩
abbrev main_v108 : Ref sig .tc := ⟨.hbm, 137, rfl⟩
abbrev main_cst_13 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_14 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_15 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_cst_16 : Ref sig .tc := ⟨.hbm, 208, rfl⟩
abbrev main_v176 : Ref sig .tc := ⟨.hbm, 209, rfl⟩
abbrev main_cst_17 : Ref sig .tc := ⟨.hbm, 210, rfl⟩
abbrev main_v177 : Ref sig .tc := ⟨.hbm, 211, rfl⟩
abbrev main_v178 : Ref sig .tc := ⟨.hbm, 212, rfl⟩
abbrev main_cst_18 : Ref sig .tc := ⟨.hbm, 213, rfl⟩
abbrev main_v179 : Ref sig .tc := ⟨.hbm, 214, rfl⟩
abbrev main_v180 : Ref sig .tc := ⟨.hbm, 215, rfl⟩
abbrev main_cst_19 : Ref sig .tc := ⟨.hbm, 216, rfl⟩
abbrev main_v181 : Ref sig .tc := ⟨.hbm, 217, rfl⟩
abbrev main_v182 : Ref sig .tc := ⟨.hbm, 218, rfl⟩
abbrev main_cst_20 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_cst_21 : Ref sig .tc := ⟨.hbm, 237, rfl⟩
abbrev main_v200 : Ref sig .tc := ⟨.hbm, 238, rfl⟩
abbrev main_v201 : Ref sig .tc := ⟨.hbm, 239, rfl⟩
abbrev main_cst_22 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_cst_23 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_cst_24 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_cst_25 : Ref sig .tc := ⟨.hbm, 281, rfl⟩
abbrev main_v240 : Ref sig .tc := ⟨.hbm, 282, rfl⟩
abbrev main_v241 : Ref sig .tc := ⟨.hbm, 283, rfl⟩
abbrev main_cst_26 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_cst_27 : Ref sig .tc := ⟨.hbm, 290, rfl⟩
abbrev main_v247 : Ref sig .tc := ⟨.hbm, 291, rfl⟩
abbrev main_v248 : Ref sig .tc := ⟨.hbm, 292, rfl⟩
abbrev main_cst_28 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_cst_29 : Ref sig .tc := ⟨.hbm, 301, rfl⟩
abbrev main_v256 : Ref sig .tc := ⟨.hbm, 302, rfl⟩
abbrev main_v257 : Ref sig .tc := ⟨.hbm, 303, rfl⟩
abbrev main_cst_30 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_v267 : Ref sig .tc := ⟨.hbm, 314, rfl⟩
abbrev main_v268 : Ref sig .tc := ⟨.hbm, 315, rfl⟩
abbrev main_v269 : Ref sig .tc := ⟨.hbm, 316, rfl⟩
abbrev main_v270 : Ref sig .tc := ⟨.hbm, 317, rfl⟩
abbrev main_v271 : Ref sig .tc := ⟨.hbm, 318, rfl⟩
abbrev main_v272 : Ref sig .tc := ⟨.hbm, 319, rfl⟩
abbrev main_v273 : Ref sig .tc := ⟨.hbm, 320, rfl⟩
abbrev main_v274 : Ref sig .tc := ⟨.hbm, 321, rfl⟩
abbrev main_cst_31 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_cst_32 : Ref sig .tc := ⟨.hbm, 327, rfl⟩
abbrev main_v279 : Ref sig .tc := ⟨.hbm, 328, rfl⟩
abbrev main_v280 : Ref sig .tc := ⟨.hbm, 329, rfl⟩
abbrev main_cst_33 : Ref sig .tc := ⟨.hbm, 330, rfl⟩
abbrev main_v281 : Ref sig .tc := ⟨.hbm, 331, rfl⟩
abbrev main_v282 : Ref sig .tc := ⟨.hbm, 332, rfl⟩
abbrev main_v283 : Ref sig .tc := ⟨.hbm, 333, rfl⟩
abbrev main_v284 : Ref sig .tc := ⟨.hbm, 334, rfl⟩
abbrev main_v285 : Ref sig .tc := ⟨.hbm, 335, rfl⟩
abbrev main_cst_34 : Ref sig .tc := ⟨.hbm, 336, rfl⟩
abbrev main_v286 : Ref sig .tc := ⟨.hbm, 337, rfl⟩
abbrev main_v287 : Ref sig .tc := ⟨.hbm, 338, rfl⟩
abbrev main_cst_35 : Ref sig .tc := ⟨.hbm, 339, rfl⟩
abbrev main_v288 : Ref sig .tc := ⟨.hbm, 340, rfl⟩
abbrev main_v289 : Ref sig .tc := ⟨.hbm, 341, rfl⟩
abbrev main_v290 : Ref sig .tc := ⟨.hbm, 342, rfl⟩
abbrev main_v291 : Ref sig .tc := ⟨.hbm, 343, rfl⟩
abbrev main_v292 : Ref sig .tc := ⟨.hbm, 344, rfl⟩
abbrev main_v293 : Ref sig .tc := ⟨.hbm, 345, rfl⟩
abbrev main_v294 : Ref sig .tc := ⟨.hbm, 346, rfl⟩
abbrev main_cst_36 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_v299 : Ref sig .tc := ⟨.hbm, 352, rfl⟩
abbrev main_cst_37 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_v303 : Ref sig .tc := ⟨.hbm, 357, rfl⟩
abbrev main_cst_38 : Ref sig .tc := ⟨.hbm, 358, rfl⟩
abbrev main_v304 : Ref sig .tc := ⟨.hbm, 359, rfl⟩
abbrev main_v305 : Ref sig .tc := ⟨.hbm, 360, rfl⟩

abbrev nD : Nat := 1
abbrev τ : Topo := Topo.v7x

variable {F : FTy → Type} [FloatOps F]
-- ==== Mp.lean ====
abbrev S16384x512 : Shape := ⟨2, ![16384, 512]⟩
abbrev S16384x4864 : Shape := ⟨2, ![16384, 4864]⟩
abbrev S512 : Shape := ⟨1, ![512]⟩
abbrev S32x512x512 : Shape := ⟨3, ![32, 512, 512]⟩
abbrev S1x512 : Shape := ⟨2, ![1, 512]⟩
abbrev S512x512 : Shape := ⟨2, ![512, 512]⟩
abbrev S512x256 : Shape := ⟨2, ![512, 256]⟩
abbrev S1x512x512 : Shape := ⟨3, ![1, 512, 512]⟩
abbrev S512x128 : Shape := ⟨2, ![512, 128]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x4864, .f32⟩
  | .hbm, ⟨3, _⟩ => ⟨S16384x512, .f32⟩
  | .hbm, ⟨4, _⟩ => ⟨S512, .f32⟩
  | .hbm, ⟨5, _⟩ => ⟨S32x512x512, .f32⟩
  | .hbm, ⟨6, _⟩ => ⟨S32x512x512, .f32⟩
  | .hbm, ⟨7, _⟩ => ⟨S32x512x512, .bf16⟩
  | .hbm, ⟨8, _⟩ => ⟨S16384x4864, .bf16⟩
  | .hbm, ⟨9, _⟩ => ⟨S1x512, .f32⟩
  | .hbm, ⟨10, _⟩ => ⟨S16384x512, .bf16⟩
  | .hbm, ⟨11, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1x512x512, .bf16⟩
  | .local _ .vmem, ⟨9, _⟩ => ⟨S1x512x512, .bf16⟩
  | .local _ .vmem, ⟨10, _⟩ => ⟨S1x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MpRefIdeal.lean ====
abbrev S16384x512 : Shape := ⟨2, ![16384, 512]⟩
abbrev S16384x4864 : Shape := ⟨2, ![16384, 4864]⟩
abbrev S512 : Shape := ⟨1, ![512]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x512 : Shape := ⟨2, ![1, 512]⟩

abbrev nBuf : Space → Nat
  | .hbm => 47
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x4864, .f32⟩
  | .hbm, ⟨3, _⟩ => ⟨S16384x512, .f32⟩
  | .hbm, ⟨4, _⟩ => ⟨S512, .f32⟩
  | .hbm, ⟨5, _⟩ => ⟨S16384x512, .f32⟩
  | .hbm, ⟨6, _⟩ => ⟨S16384x4x128, .f32⟩
  | .hbm, ⟨7, _⟩ => ⟨S_, .f32⟩
  | .hbm, ⟨8, _⟩ => ⟨S16384x4, .f32⟩
  | .hbm, ⟨9, _⟩ => ⟨S16384x4x1, .f32⟩
  | .hbm, ⟨10, _⟩ => ⟨S_, .f32⟩
  | .hbm, ⟨11, _⟩ => ⟨S16384x4x1, .f32⟩
  | .hbm, ⟨12, _⟩ => ⟨S16384x4x1, .f32⟩
  | .hbm, ⟨13, _⟩ => ⟨S16384x4x128, .f32⟩
  | .hbm, ⟨14, _⟩ => ⟨S16384x4x128, .f32⟩
  | .hbm, ⟨15, _⟩ => ⟨S16384x4x128, .f32⟩
  | .hbm, ⟨16, _⟩ => ⟨S_, .f32⟩
  | .hbm, ⟨17, _⟩ => ⟨S16384x4, .f32⟩
  | .hbm, ⟨18, _⟩ => ⟨S16384x4x1, .f32⟩
  | .hbm, ⟨19, _⟩ => ⟨S_, .f32⟩
  | .hbm, ⟨20, _⟩ => ⟨S16384x4x1, .f32⟩
  | .hbm, ⟨21, _⟩ => ⟨S16384x4x1, .f32⟩
  | .hbm, ⟨22, _⟩ => ⟨S16384x4x128, .f32⟩
  | .hbm, ⟨23, _⟩ => ⟨S16384x4x128, .f32⟩
  | .hbm, ⟨24, _⟩ => ⟨S_, .f32⟩
  | .hbm, ⟨25, _⟩ => ⟨S16384x4x1, .f32⟩
  | .hbm, ⟨26, _⟩ => ⟨S16384x4x1, .f32⟩
  | .hbm, ⟨27, _⟩ => ⟨S16384x4x1, .f32⟩
  | .hbm, ⟨28, _⟩ => ⟨S16384x4x128, .f32⟩
  | .hbm, ⟨29, _⟩ => ⟨S16384x4x128, .f32⟩
  | .hbm, ⟨30, _⟩ => ⟨S16384x512, .f32⟩
  | .hbm, ⟨31, _⟩ => ⟨S1x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .bf16⟩
  | .hbm, ⟨46, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== RetO.lean ====
abbrev S16384x512 : Shape := ⟨2, ![16384, 512]⟩
abbrev S512x1024 : Shape := ⟨2, ![512, 1024]⟩
abbrev S16384x1024 : Shape := ⟨2, ![16384, 1024]⟩
abbrev S16384x4864 : Shape := ⟨2, ![16384, 4864]⟩
abbrev S1024x512 : Shape := ⟨2, ![1024, 512]⟩
abbrev S1024x1024 : Shape := ⟨2, ![1024, 1024]⟩
abbrev S1024x256 : Shape := ⟨2, ![1024, 256]⟩

abbrev nBuf : Space → Nat
  | .hbm => 10
  | .vmem => 25
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x4864, .f32⟩
  | .hbm, ⟨4, _⟩ => ⟨S16384x1024, .bf16⟩
  | .hbm, ⟨5, _⟩ => ⟨S16384x4864, .bf16⟩
  | .hbm, ⟨6, _⟩ => ⟨S16384x512, .bf16⟩
  | .hbm, ⟨7, _⟩ => ⟨S512x1024, .bf16⟩
  | .hbm, ⟨8, _⟩ => ⟨S16384x1024, .bf16⟩
  | .hbm, ⟨9, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let c0_i32 : BitVec 32 := 0#32
  ![arg0.toNat, c13_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let c0_i32 : BitVec 32 := 0#32
  ![arg0.toNat, c14_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let c0_i32 : BitVec 32 := 0#32
  ![arg0.toNat, c15_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  ![arg0.toNat, c16_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let c0_i32 : BitVec 32 := 0#32
  ![arg0.toNat, c17_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let c0_i32 : BitVec 32 := 0#32
  ![arg0.toNat, c18_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== RetORefIdeal.lean ====
abbrev S16384x512 : Shape := ⟨2, ![16384, 512]⟩
abbrev S512x1024 : Shape := ⟨2, ![512, 1024]⟩
abbrev S16384x1024 : Shape := ⟨2, ![16384, 1024]⟩
abbrev S16384x4864 : Shape := ⟨2, ![16384, 4864]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x4864, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .bf16⟩
  | .hbm, ⟨27, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Up.lean ====
abbrev S16384x1024 : Shape := ⟨2, ![16384, 1024]⟩
abbrev S1024x4096 : Shape := ⟨2, ![1024, 4096]⟩
abbrev S16384x4096 : Shape := ⟨2, ![16384, 4096]⟩
abbrev S1024x1024 : Shape := ⟨2, ![1024, 1024]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x1024, .bf16⟩
  | .hbm, ⟨3, _⟩ => ⟨S1024x4096, .bf16⟩
  | .hbm, ⟨4, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S16384x1024 : Shape := ⟨2, ![16384, 1024]⟩
abbrev S1024x4096 : Shape := ⟨2, ![1024, 4096]⟩
abbrev S16384x4096 : Shape := ⟨2, ![16384, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x4096, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== OutP.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S16384x1024, .bf16⟩
  | .hbm, ⟨5, _⟩ => ⟨S1024x1024, .bf16⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutPRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Down.lean ====
abbrev S16384x4096 : Shape := ⟨2, ![16384, 4096]⟩
abbrev S4096x1024 : Shape := ⟨2, ![4096, 1024]⟩
abbrev S16384x1024 : Shape := ⟨2, ![16384, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S1024, .f32⟩
  | .hbm, ⟨4, _⟩ => ⟨S16384x4096, .bf16⟩
  | .hbm, ⟨5, _⟩ => ⟨S4096x1024, .bf16⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S16384x4096 : Shape := ⟨2, ![16384, 4096]⟩
abbrev S4096x1024 : Shape := ⟨2, ![4096, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Qkv.lean ====
abbrev S16384x4864 : Shape := ⟨2, ![16384, 4864]⟩
abbrev S64 : Shape := ⟨1, ![64]⟩
abbrev S16 : Shape := ⟨1, ![16]⟩
abbrev S_ : Shape := ⟨0, ![]⟩
abbrev S256 : Shape := ⟨1, ![256]⟩
abbrev S256x1 : Shape := ⟨2, ![256, 1]⟩
abbrev S1x16 : Shape := ⟨2, ![1, 16]⟩
abbrev S256x16 : Shape := ⟨2, ![256, 16]⟩
abbrev S64x1 : Shape := ⟨2, ![64, 1]⟩
abbrev S64x16 : Shape := ⟨2, ![64, 16]⟩
abbrev S256x1x16 : Shape := ⟨3, ![256, 1, 16]⟩
abbrev S256x64x16 : Shape := ⟨3, ![256, 64, 16]⟩
abbrev S1x64x16 : Shape := ⟨3, ![1, 64, 16]⟩
abbrev S256x64x32 : Shape := ⟨3, ![256, 64, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S32 : Shape := ⟨1, ![32]⟩
abbrev S1x32 : Shape := ⟨2, ![1, 32]⟩
abbrev S256x32 : Shape := ⟨2, ![256, 32]⟩
abbrev S64x32 : Shape := ⟨2, ![64, 32]⟩
abbrev S256x1x32 : Shape := ⟨3, ![256, 1, 32]⟩
abbrev S1x64x32 : Shape := ⟨3, ![1, 64, 32]⟩
abbrev S256x64x64 : Shape := ⟨3, ![256, 64, 64]⟩
abbrev S1x16384x1x128 : Shape := ⟨4, ![1, 16384, 1, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S32x1024x512 : Shape := ⟨3, ![32, 1024, 512]⟩
abbrev S32x128x512 : Shape := ⟨3, ![32, 128, 512]⟩
abbrev S16384x512 : Shape := ⟨2, ![16384, 512]⟩
abbrev S512x512 : Shape := ⟨2, ![512, 512]⟩
abbrev S512x128 : Shape := ⟨2, ![512, 128]⟩
abbrev S512x256 : Shape := ⟨2, ![512, 256]⟩
abbrev S1x1024x512 : Shape := ⟨3, ![1, 1024, 512]⟩
abbrev S1x128x512 : Shape := ⟨3, ![1, 128, 512]⟩
abbrev S512x1 : Shape := ⟨2, ![512, 1]⟩
abbrev S64x512 : Shape := ⟨2, ![64, 512]⟩
abbrev S1x64x512 : Shape := ⟨3, ![1, 64, 512]⟩
abbrev S128x512 : Shape := ⟨2, ![128, 512]⟩

abbrev nBuf : Space → Nat
  | .hbm => 109
  | .vmem => 38
  | .smem => 0
  | _ => 0

abbrev bufTy : (tb : Table) → Fin (tcTables nBuf tb) → BufTy
  | .hbm, ⟨0, _⟩ => ⟨S16384x4864, .f32⟩
  | .hbm, ⟨1, _⟩ => ⟨S64, .f32⟩
  | .hbm, ⟨2, _⟩ => ⟨S64, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S256, .f32⟩
  | .hbm, ⟨12, _⟩ => ⟨S256x1, .f32⟩
  | .hbm, ⟨13, _⟩ => ⟨S1x16, .f32⟩
  | .hbm, ⟨14, _⟩ => ⟨S256x16, .f32⟩
  | .hbm, ⟨15, _⟩ => ⟨S256x16, .f32⟩
  | .hbm, ⟨16, _⟩ => ⟨S256x16, .f32⟩
  | .hbm, ⟨17, _⟩ => ⟨S64, .f32⟩
  | .hbm, ⟨18, _⟩ => ⟨S64x1, .f32⟩
  | .hbm, ⟨19, _⟩ => ⟨S1x16, .f32⟩
  | .hbm, ⟨20, _⟩ => ⟨S64x16, .f32⟩
  | .hbm, ⟨21, _⟩ => ⟨S64x16, .f32⟩
  | .hbm, ⟨22, _⟩ => ⟨S64x16, .f32⟩
  | .hbm, ⟨23, _⟩ => ⟨S256x16, .f32⟩
  | .hbm, ⟨24, _⟩ => ⟨S64x16, .f32⟩
  | .hbm, ⟨25, _⟩ => ⟨S256x1x16, .f32⟩
  | .hbm, ⟨26, _⟩ => ⟨S256x64x16, .f32⟩
  | .hbm, ⟨27, _⟩ => ⟨S1x64x16, .f32⟩
  | .hbm, ⟨28, _⟩ => ⟨S256x64x16, .f32⟩
  | .hbm, ⟨29, _⟩ => ⟨S256x64x32, .f32⟩
  | .hbm, ⟨30, _⟩ => ⟨S16384x32, .f32⟩
  | .hbm, ⟨31, _⟩ => ⟨S256x16, .f32⟩
  | .hbm, ⟨32, _⟩ => ⟨S64x16, .f32⟩
  | .hbm, ⟨33, _⟩ => ⟨S256x1x16, .f32⟩
  | .hbm, ⟨34, _⟩ => ⟨S256x64x16, .f32⟩
  | .hbm, ⟨35, _⟩ => ⟨S1x64x16, .f32⟩
  | .hbm, ⟨36, _⟩ => ⟨S256x64x16, .f32⟩
  | .hbm, ⟨37, _⟩ => ⟨S256x64x32, .f32⟩
  | .hbm, ⟨38, _⟩ => ⟨S16384x32, .f32⟩
  | .hbm, ⟨39, _⟩ => ⟨S16384x64, .f32⟩
  | .hbm, ⟨40, _⟩ => ⟨S1x16384x1x64, .f32⟩
  | .hbm, ⟨41, _⟩ => ⟨S1x16384x2x64, .f32⟩
  | .hbm, ⟨42, _⟩ => ⟨S16384x128, .f32⟩
  | .hbm, ⟨43, _⟩ => ⟨S16384x32, .f32⟩
  | .hbm, ⟨44, _⟩ => ⟨S16384x64, .f32⟩
  | .hbm, ⟨45, _⟩ => ⟨S1x16384x1x64, .f32⟩
  | .hbm, ⟨46, _⟩ => ⟨S1x16384x2x64, .f32⟩
  | .hbm, ⟨47, _⟩ => ⟨S16384x128, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S256, .f32⟩
  | .hbm, ⟨57, _⟩ => ⟨S256x1, .f32⟩
  | .hbm, ⟨58, _⟩ => ⟨S1x32, .f32⟩
  | .hbm, ⟨59, _⟩ => ⟨S256x32, .f32⟩
  | .hbm, ⟨60, _⟩ => ⟨S256x32, .f32⟩
  | .hbm, ⟨61, _⟩ => ⟨S256x32, .f32⟩
  | .hbm, ⟨62, _⟩ => ⟨S64, .f32⟩
  | .hbm, ⟨63, _⟩ => ⟨S64x1, .f32⟩
  | .hbm, ⟨64, _⟩ => ⟨S1x32, .f32⟩
  | .hbm, ⟨65, _⟩ => ⟨S64x32, .f32⟩
  | .hbm, ⟨66, _⟩ => ⟨S64x32, .f32⟩
  | .hbm, ⟨67, _⟩ => ⟨S64x32, .f32⟩
  | .hbm, ⟨68, _⟩ => ⟨S256x32, .f32⟩
  | .hbm, ⟨69, _⟩ => ⟨S64x32, .f32⟩
  | .hbm, ⟨70, _⟩ => ⟨S256x1x32, .f32⟩
  | .hbm, ⟨71, _⟩ => ⟨S256x64x32, .f32⟩
  | .hbm, ⟨72, _⟩ => ⟨S1x64x32, .f32⟩
  | .hbm, ⟨73, _⟩ => ⟨S256x64x32, .f32⟩
  | .hbm, ⟨74, _⟩ => ⟨S256x64x64, .f32⟩
  | .hbm, ⟨75, _⟩ => ⟨S16384x64, .f32⟩
  | .hbm, ⟨76, _⟩ => ⟨S256x32, .f32⟩
  | .hbm, ⟨77, _⟩ => ⟨S64x32, .f32⟩
  | .hbm, ⟨78, _⟩ => ⟨S256x1x32, .f32⟩
  | .hbm, ⟨79, _⟩ => ⟨S256x64x32, .f32⟩
  | .hbm, ⟨80, _⟩ => ⟨S1x64x32, .f32⟩
  | .hbm, ⟨81, _⟩ => ⟨S256x64x32, .f32⟩
  | .hbm, ⟨82, _⟩ => ⟨S256x64x64, .f32⟩
  | .hbm, ⟨83, _⟩ => ⟨S16384x64, .f32⟩
  | .hbm, ⟨84, _⟩ => ⟨S16384x128, .f32⟩
  | .hbm, ⟨85, _⟩ => ⟨S1x16384x1x128, .f32⟩
  | .hbm, ⟨86, _⟩ => ⟨S1x16384x1x128, .f32⟩
  | .hbm, ⟨87, _⟩ => ⟨S16384x128, .f32⟩
  | .hbm, ⟨88, _⟩ => ⟨S16384x64, .f32⟩
  | .hbm, ⟨89, _⟩ => ⟨S16384x128, .f32⟩
  | .hbm, ⟨90, _⟩ => ⟨S1x16384x1x128, .f32⟩
  | .hbm, ⟨91, _⟩ => ⟨S1x16384x1x128, .f32⟩
  | .hbm, ⟨92, _⟩ => ⟨S16384x128, .f32⟩
  | .hbm, ⟨93, _⟩ => ⟨S1x64, .f32⟩
  | .hbm, ⟨94, _⟩ => ⟨S8x64, .f32⟩
  | .hbm, ⟨95, _⟩ => ⟨S512, .f32⟩
  | .hbm, ⟨96, _⟩ => ⟨S1x512, .f32⟩
  | .hbm, ⟨97, _⟩ => ⟨S1x64, .f32⟩
  | .hbm, ⟨98, _⟩ => ⟨S2x64, .f32⟩
  | .hbm, ⟨99, _⟩ => ⟨S128, .f32⟩
  | .hbm, ⟨100, _⟩ => ⟨S1x128, .f32⟩
  | .hbm, ⟨101, _⟩ => ⟨S16384x4864, .bf16⟩
  | .hbm, ⟨102, _⟩ => ⟨S32x1024x512, .bf16⟩
  | .hbm, ⟨103, _⟩ => ⟨S16384x128, .bf16⟩
  | .hbm, ⟨104, _⟩ => ⟨S32x128x512, .bf16⟩
  | .hbm, ⟨105, _⟩ => ⟨S16384x128, .bf16⟩
  | .hbm, ⟨106, _⟩ => ⟨S32x128x512, .bf16⟩
  | .hbm, ⟨107, _⟩ => ⟨S16384x512, .f32⟩
  | .hbm, ⟨108, _⟩ => ⟨S16384x512, .f32⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1x512, .f32⟩
  | .local _ .vmem, ⟨23, _⟩ => ⟨S1x128, .f32⟩
  | .local _ .vmem, ⟨24, _⟩ => ⟨S1x1024x512, .bf16⟩
  | .local _ .vmem, ⟨25, _⟩ => ⟨S1x1024x512, .bf16⟩
  | .local _ .vmem, ⟨26, _⟩ => ⟨S512x128, .bf16⟩
  | .local _ .vmem, ⟨27, _⟩ => ⟨S512x128, .bf16⟩
  | .local _ .vmem, ⟨28, _⟩ => ⟨S1x128x512, .bf16⟩
  | .local _ .vmem, ⟨29, _⟩ => ⟨S1x128x512, .bf16⟩
  | .local _ .vmem, ⟨30, _⟩ => ⟨S512x128, .bf16⟩
  | .local _ .vmem, ⟨31, _⟩ => ⟨S512x128, .bf16⟩
  | .local _ .vmem, ⟨32, _⟩ => ⟨S1x128x512, .bf16⟩
  | .local _ .vmem, ⟨33, _⟩ => ⟨S1x128x512, .bf16⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | _, _ => ⟨S16384x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_1 : Ref sig .tc := ⟨.hbm, 50, rfl⟩
abbrev main_v45 : Ref sig .tc := ⟨.hbm, 51, rfl⟩
abbrev main_v46 : Ref sig .tc := ⟨.hbm, 52, rfl⟩
abbrev main_cst_2 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95_0 : Ref sig .tc := ⟨.hbm, 102, rfl⟩
abbrev main_v95_1 : Ref sig .tc := ⟨.hbm, 103, rfl⟩
abbrev main_v95_2 : Ref sig .tc := ⟨.hbm, 104, rfl⟩
abbrev main_v95_3 : Ref sig .tc := ⟨.hbm, 105, rfl⟩
abbrev main_v95_4 : Ref sig .tc := ⟨.hbm, 106, rfl⟩
abbrev main_v95_5 : Ref sig .tc := ⟨.hbm, 107, rfl⟩
abbrev main_v95_6 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== QkvRefIdeal.lean ====
abbrev S16384x4864 : Shape := ⟨2, ![16384, 4864]⟩
abbrev S64 : Shape := ⟨1, ![64]⟩
abbrev S16 : Shape := ⟨1, ![16]⟩
abbrev S_ : Shape := ⟨0, ![]⟩
abbrev S256 : Shape := ⟨1, ![256]⟩
abbrev S256x64 : Shape := ⟨2, ![256, 64]⟩
abbrev S16384 : Shape := ⟨1, ![16384]⟩
abbrev S1x64 : Shape := ⟨2, ![1, 64]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S32 : Shape := ⟨1, ![32]⟩
abbrev S1x32 : Shape := ⟨2, ![1, 32]⟩
abbrev S16384x64 : Shape := ⟨2, ![16384, 64]⟩
abbrev S16384x512 : Shape := ⟨2, ![16384, 512]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S16384x8x32 : Shape := ⟨3, ![16384, 8, 32]⟩
abbrev S16384x1x32 : Shape := ⟨3, ![16384, 1, 32]⟩
abbrev S16384x128 : Shape := ⟨2, ![16384, 128]⟩
abbrev S16384x2x64 : Shape := ⟨3, ![16384, 2, 64]⟩
abbrev S16384x2 : Shape := ⟨2, ![16384, 2]⟩
abbrev S16384x2x1 : Shape := ⟨3, ![16384, 2, 1]⟩
abbrev S16384x2x32 : Shape := ⟨3, ![16384, 2, 32]⟩
abbrev S16384x4x128 : Shape := ⟨3, ![16384, 4, 128]⟩
abbrev S16384x4x64 : Shape := ⟨3, ![16384, 4, 64]⟩
abbrev S16384x1x64 : Shape := ⟨3, ![16384, 1, 64]⟩
abbrev S32x512x2x4x64 : Shape := ⟨5, ![32, 512, 2, 4, 64]⟩
abbrev S32x2x4x64x512 : Shape := ⟨5, ![32, 2, 4, 64, 512]⟩
abbrev S32x1x4x64x512 : Shape := ⟨5, ![32, 1, 4, 64, 512]⟩
abbrev S32x1x4x128x512 : Shape := ⟨5, ![32, 1, 4, 128, 512]⟩
abbrev S32x2x4x128x512 : Shape := ⟨5, ![32, 2, 4, 128, 512]⟩
abbrev S32x1024x512 : Shape := ⟨3, ![32, 1024, 512]⟩
abbrev S32x512x128 : Shape := ⟨3, ![32, 512, 128]⟩
abbrev S32x128x512 : Shape := ⟨3, ![32, 128, 512]⟩

abbrev nBuf : Space → Nat
  | .hbm => 191
  | .vmem => 0
  | .smem => 0
  | _ => 0

abbrev hbmTy0_0 (i : Nat) : BufTy := match i % 128 with
  | 0 => ⟨S16384x4864, .f32⟩
  | 1 => ⟨S64, .f32⟩
  | 2 => ⟨S64, .f32⟩
  | 3 => ⟨S16, .f32⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S256, .f32⟩
  | 12 => ⟨S256x64, .f32⟩
  | 13 => ⟨S16384, .f32⟩
  | 14 => ⟨S64, .f32⟩
  | 15 => ⟨S1x64, .f32⟩
  | 16 => ⟨S256x64, .f32⟩
  | 17 => ⟨S16384, .f32⟩
  | 18 => ⟨S16384x1, .f32⟩
  | 19 => ⟨S1x16, .f32⟩
  | 20 => ⟨S16384x16, .f32⟩
  | 21 => ⟨S16384x16, .f32⟩
  | 22 => ⟨S16384x16, .f32⟩
  | 23 => ⟨S16384x1, .f32⟩
  | 24 => ⟨S1x16, .f32⟩
  | 25 => ⟨S16384x16, .f32⟩
  | 26 => ⟨S16384x16, .f32⟩
  | 27 => ⟨S16384x16, .f32⟩
  | 28 => ⟨S16384x32, .f32⟩
  | 29 => ⟨S16384x32, .f32⟩
  | 30 => ⟨S16384x32, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S256, .f32⟩
  | 40 => ⟨S256x64, .f32⟩
  | 41 => ⟨S16384, .f32⟩
  | 42 => ⟨S64, .f32⟩
  | 43 => ⟨S1x64, .f32⟩
  | 44 => ⟨S256x64, .f32⟩
  | 45 => ⟨S16384, .f32⟩
  | 46 => ⟨S16384x1, .f32⟩
  | 47 => ⟨S1x32, .f32⟩
  | 48 => ⟨S16384x32, .f32⟩
  | 49 => ⟨S16384x32, .f32⟩
  | 50 => ⟨S16384x32, .f32⟩
  | 51 => ⟨S16384x1, .f32⟩
  | 52 => ⟨S1x32, .f32⟩
  | 53 => ⟨S16384x32, .f32⟩
  | 54 => ⟨S16384x32, .f32⟩
  | 55 => ⟨S16384x32, .f32⟩
  | 56 => ⟨S16384x64, .f32⟩
  | 57 => ⟨S16384x64, .f32⟩
  | 58 => ⟨S16384x64, .f32⟩
  | 59 => ⟨S16384x512, .f32⟩
  | 60 => ⟨S16384x8x64, .f32⟩
  | 61 => ⟨S16384x8x64, .f32⟩
  | 62 => ⟨S_, .f32⟩
  | 63 => ⟨S16384x8, .f32⟩
  | 64 => ⟨S16384x8x1, .f32⟩
  | 65 => ⟨S_, .f32⟩
  | 66 => ⟨S16384x8x1, .f32⟩
  | 67 => ⟨S16384x8x1, .f32⟩
  | 68 => ⟨S_, .f32⟩
  | 69 => ⟨S16384x8x1, .f32⟩
  | 70 => ⟨S16384x8x1, .f32⟩
  | 71 => ⟨S16384x8x1, .f32⟩
  | 72 => ⟨S16384x8x64, .f32⟩
  | 73 => ⟨S16384x8x64, .f32⟩
  | 74 => ⟨S1x1x64, .f32⟩
  | 75 => ⟨S16384x8x64, .f32⟩
  | 76 => ⟨S16384x8x64, .f32⟩
  | 77 => ⟨S16384x8x32, .f32⟩
  | 78 => ⟨S16384x8x32, .f32⟩
  | 79 => ⟨S16384x1x32, .f32⟩
  | 80 => ⟨S16384x1x32, .f32⟩
  | 81 => ⟨S16384x8x32, .f32⟩
  | 82 => ⟨S16384x8x32, .f32⟩
  | 83 => ⟨S16384x8x32, .f32⟩
  | 84 => ⟨S16384x8x32, .f32⟩
  | 85 => ⟨S16384x8x32, .f32⟩
  | 86 => ⟨S16384x8x32, .f32⟩
  | 87 => ⟨S16384x8x32, .f32⟩
  | 88 => ⟨S16384x8x32, .f32⟩
  | 89 => ⟨S16384x8x32, .f32⟩
  | 90 => ⟨S16384x8x32, .f32⟩
  | 91 => ⟨S16384x8x64, .f32⟩
  | 92 => ⟨S_, .f32⟩
  | 93 => ⟨S16384x8x64, .f32⟩
  | 94 => ⟨S16384x8x64, .f32⟩
  | 95 => ⟨S_, .f32⟩
  | 96 => ⟨S16384x8x64, .f32⟩
  | 97 => ⟨S16384x8x64, .f32⟩
  | 98 => ⟨S16384x128, .f32⟩
  | 99 => ⟨S16384x2x64, .f32⟩
  | 100 => ⟨S16384x2x64, .f32⟩
  | 101 => ⟨S_, .f32⟩
  | 102 => ⟨S16384x2, .f32⟩
  | 103 => ⟨S16384x2x1, .f32⟩
  | 104 => ⟨S_, .f32⟩
  | 105 => ⟨S16384x2x1, .f32⟩
  | 106 => ⟨S16384x2x1, .f32⟩
  | 107 => ⟨S_, .f32⟩
  | 108 => ⟨S16384x2x1, .f32⟩
  | 109 => ⟨S16384x2x1, .f32⟩
  | 110 => ⟨S16384x2x1, .f32⟩
  | 111 => ⟨S16384x2x64, .f32⟩
  | 112 => ⟨S16384x2x64, .f32⟩
  | 113 => ⟨S1x1x64, .f32⟩
  | 114 => ⟨S16384x2x64, .f32⟩
  | 115 => ⟨S16384x2x64, .f32⟩
  | 116 => ⟨S16384x2x32, .f32⟩
  | 117 => ⟨S16384x2x32, .f32⟩
  | 118 => ⟨S16384x1x32, .f32⟩
  | 119 => ⟨S16384x1x32, .f32⟩
  | 120 => ⟨S16384x2x32, .f32⟩
  | 121 => ⟨S16384x2x32, .f32⟩
  | 122 => ⟨S16384x2x32, .f32⟩
  | 123 => ⟨S16384x2x32, .f32⟩
  | 124 => ⟨S16384x2x32, .f32⟩
  | 125 => ⟨S16384x2x32, .f32⟩
  | 126 => ⟨S16384x2x32, .f32⟩
  | 127 => ⟨S16384x2x32, .f32⟩
  | _ => ⟨S16384x4864, .f32⟩

abbrev hbmTy0_1 (i : Nat) : BufTy := match i % 128 with
  | 0 => ⟨S16384x2x32, .f32⟩
  | 1 => ⟨S16384x2x32, .f32⟩
  | 2 => ⟨S16384x2x64, .f32⟩
  | 3 => ⟨S16384x128, .f32⟩
  | 4 => ⟨S16384x128, .f32⟩
  | 5 => ⟨S16384x512, .f32⟩
  | 6 => ⟨S16384x4x128, .f32⟩
  | 7 => ⟨S16384x4x64, .f32⟩
  | 8 => ⟨S16384x4x64, .f32⟩
  | 9 => ⟨S16384x1x64, .f32⟩
  | 10 => ⟨S16384x1x64, .f32⟩
  | 11 => ⟨S16384x4x64, .f32⟩
  | 12 => ⟨S16384x4x64, .f32⟩
  | 13 => ⟨S16384x4x64, .f32⟩
  | 14 => ⟨S16384x4x64, .f32⟩
  | 15 => ⟨S16384x4x64, .f32⟩
  | 16 => ⟨S16384x4x64, .f32⟩
  | 17 => ⟨S16384x4x64, .f32⟩
  | 18 => ⟨S16384x4x64, .f32⟩
  | 19 => ⟨S16384x4x64, .f32⟩
  | 20 => ⟨S16384x4x64, .f32⟩
  | 21 => ⟨S16384x4x128, .f32⟩
  | 22 => ⟨S_, .f32⟩
  | 23 => ⟨S16384x4x128, .f32⟩
  | 24 => ⟨S16384x4x128, .f32⟩
  | 25 => ⟨S16384x512, .f32⟩
  | 26 => ⟨S16384x4x128, .f32⟩
  | 27 => ⟨S16384x4x64, .f32⟩
  | 28 => ⟨S16384x4x64, .f32⟩
  | 29 => ⟨S16384x1x64, .f32⟩
  | 30 => ⟨S16384x1x64, .f32⟩
  | 31 => ⟨S16384x4x64, .f32⟩
  | 32 => ⟨S16384x4x64, .f32⟩
  | 33 => ⟨S16384x4x64, .f32⟩
  | 34 => ⟨S16384x4x64, .f32⟩
  | 35 => ⟨S16384x4x64, .f32⟩
  | 36 => ⟨S16384x4x64, .f32⟩
  | 37 => ⟨S16384x4x64, .f32⟩
  | 38 => ⟨S16384x4x64, .f32⟩
  | 39 => ⟨S16384x4x64, .f32⟩
  | 40 => ⟨S16384x4x64, .f32⟩
  | 41 => ⟨S16384x4x128, .f32⟩
  | 42 => ⟨S32x512x2x4x64, .f32⟩
  | 43 => ⟨S32x2x4x64x512, .f32⟩
  | 44 => ⟨S_, .f32⟩
  | 45 => ⟨S32x1x4x64x512, .f32⟩
  | 46 => ⟨S32x1x4x64x512, .f32⟩
  | 47 => ⟨S32x1x4x128x512, .f32⟩
  | 48 => ⟨S32x1x4x64x512, .f32⟩
  | 49 => ⟨S32x1x4x128x512, .f32⟩
  | 50 => ⟨S32x2x4x128x512, .f32⟩
  | 51 => ⟨S32x1024x512, .f32⟩
  | 52 => ⟨S32x1024x512, .bf16⟩
  | 53 => ⟨S16384x128, .bf16⟩
  | 54 => ⟨S32x512x128, .f32⟩
  | 55 => ⟨S32x128x512, .f32⟩
  | 56 => ⟨S32x128x512, .bf16⟩
  | 57 => ⟨S16384x128, .bf16⟩
  | 58 => ⟨S32x512x128, .f32⟩
  | 59 => ⟨S32x128x512, .f32⟩
  | 60 => ⟨S32x128x512, .bf16⟩
  | 61 => ⟨S16384x512, .f32⟩
  | 62 => ⟨S16384x512, .f32⟩
  | _ => ⟨S16384x4864, .f32⟩

abbrev hbmTy (i : Nat) : BufTy := match i / 128 with
  | 0 => hbmTy0_0 i
  | 1 => hbmTy0_1 i
  | _ => ⟨S16384x4864, .f32⟩

abbrev bufTy : (tb : Table) → Fin (tcTables nBuf tb) → BufTy
  | .hbm, ⟨i, _⟩ => hbmTy i
  | _, _ => ⟨S16384x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_3 : Ref sig .tc := ⟨.hbm, 62, rfl⟩
abbrev main_v55 : Ref sig .tc := ⟨.hbm, 63, rfl⟩
abbrev main_v56 : Ref sig .tc := ⟨.hbm, 64, rfl⟩
abbrev main_cst_4 : Ref sig .tc := ⟨.hbm, 65, rfl⟩
abbrev main_v57 : Ref sig .tc := ⟨.hbm, 66, rfl⟩
abbrev main_v58 : Ref sig .tc := ⟨.hbm, 67, rfl⟩
abbrev main_cst_5 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_6 : Ref sig .tc := ⟨.hbm, 92, rfl⟩
abbrev main_v82 : Ref sig .tc := ⟨.hbm, 93, rfl⟩
abbrev main_v83 : Ref sig .tc := ⟨.hbm, 94, rfl⟩
abbrev main_cst_7 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_cst_8 : Ref sig .tc := ⟨.hbm, 101, rfl⟩
abbrev main_v89 : Ref sig .tc := ⟨.hbm, 102, rfl⟩
abbrev main_v90 : Ref sig .tc := ⟨.hbm, 103, rfl⟩
abbrev main_cst_9 : Ref sig .tc := ⟨.hbm, 104, rfl⟩
abbrev main_v91 : Ref sig .tc := ⟨.hbm, 105, rfl⟩
abbrev main_v92 : Ref sig .tc := ⟨.hbm, 106, rfl⟩
abbrev main_cst_10 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_cst_11 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_cst_12 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩

abbrev nD : Nat := 1
abbrev τ : Topo := Topo.v7x

variable {F : FTy → Type} [FloatOps F]
-- ==== Proof.DuValue.lean ====
module

public import proofs.«01_k».proof.Proof.Gen.DUIdeal.Frame
public import proofs.«01_k».proof.Proof.Gen.DURefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DUIdeal.Grad

open Cert.DUIdeal Cert.DUIdeal.Gen

variable (m : (ℓ : Loc nD τ sig) → Buf (Elt Ideal) ℓ)

theorem idx : ∀ t : Fin cfg0.N, win0_0.index t = ![t.val % 16, 0] ∧ win0_1.index t = ![t.val / 16, 0]
    ∧ win0_2.index t = ![t.val % 16, t.val / 16] ∧ win0_3.index t = ![t.val % 16, t.val / 16] ∧ t.val / 16 < 2 :=
  (by decide +kernel : ∀ t : Fin grid0.N, _)

/-- The reference's gradient with respect to the values that enter the squared ReLU. -/
def REF (hm : FVec Ideal S16384x1024 .f32) (wu : FVec Ideal S1024x4096 .f32) (wd : FVec Ideal S4096x1024 .f32)
    (g : FVec Ideal S16384x1024 .f32) : FVec Ideal S16384x4096 .bf16 :=
  Cert.DURefIdeal.Read.val_main_v13 (F := Ideal) hm wu wd g

/-- The values that enter the squared ReLU. -/
def pre (hm : FVec Ideal S16384x1024 .f32) (wu : FVec Ideal S1024x4096 .f32) : FVec Ideal S16384x4096 .f32 :=
  Cert.DURefIdeal.Read.val_main_v0 (F := Ideal) hm wu

/-- The positive part of the values. -/
def pos (hm : FVec Ideal S16384x1024 .f32) (wu : FVec Ideal S1024x4096 .f32) : FVec Ideal S16384x4096 .f32 :=
  maximumf (pre hm wu) (broadcastInDim S16384x4096 ![] bcast_S_S16384x4096 (constant S_ .f32 0x00000000#32))

theorem V_act (c : Dev nD) : V m c main_v3
    = truncf (F := Ideal) .bf16 (mulf (pos (m ((c : Thread nD τ).loc main_arg0)) (m ((c : Thread nD τ).loc main_arg1)))
      (pos (m ((c : Thread nD τ).loc main_arg0)) (m ((c : Thread nD τ).loc main_arg1)))) bitsLt_bf16_f32 := by
  simp only [V, hostOps0, hostOps0_1, hostOps0_2, List.flatten_cons, List.flatten_nil, List.cons_append, List.nil_append, List.append_nil]
  after_results
  rfl

/-- The saved activation is the square of the positive part. -/
theorem act_apply (c : Dev nD) (i : S16384x4096.Idx) : V m c main_v3 i
    = max (pre (m ((c : Thread nD τ).loc main_arg0)) (m ((c : Thread nD τ).loc main_arg1)) i) 0
      * max (pre (m ((c : Thread nD τ).loc main_arg0)) (m ((c : Thread nD τ).loc main_arg1)) i) 0 := by
  rw [V_act]
  pointwise [pos, pre]

/-- The slope read off the square root of the activation is the slope of the squared ReLU. -/
theorem slope (a u k : EReal) : a * (k * Ideal.sqrt (max u 0 * max u 0)) = if 0 < u then a * (k * max u 0) else 0 := by
  split_ifs with h
  · congr 2
    rw [max_eq_left h.le]
    induction u with
    | bot => exact absurd h (by simp)
    | top => rw [EReal.top_mul_top, Ideal.sqrt_top]
    | coe x =>
      have hx : (0 : ℝ) < x := by exact_mod_cast h
      rw [← EReal.coe_mul, Ideal.sqrt_coe, if_neg (not_lt.mpr (mul_self_nonneg x)), Real.sqrt_mul_self hx.le]
  · rw [max_eq_right (not_lt.mp h)]
    have h0 : Ideal.sqrt (0 * 0) = 0 := by rw [zero_mul, ← EReal.coe_zero, Ideal.sqrt_coe]; simp
    rw [h0, mul_zero, mul_zero]

theorem ref_apply (hm : FVec Ideal S16384x1024 .f32) (wu : FVec Ideal S1024x4096 .f32) (wd : FVec Ideal S4096x1024 .f32)
    (g : FVec Ideal S16384x1024 .f32) (i : S16384x4096.Idx) : REF hm wu wd g i
    = if 0 < pre hm wu i then (∑ k : Fin 1024, g (ix2 (i 0) k) * wd (ix2 (i 1) k))
        * (Ideal.ofBits FTy.f32 1073741824#32 * max (pre hm wu i) 0) else 0 := by
  pointwise [pre, REF, Cert.DURefIdeal.Read.val_main_call0_cst, Cert.DURefIdeal.Read.val_main_call0_v0, Cert.DURefIdeal.Read.val_main_v1, Cert.DURefIdeal.Read.val_main_cst, Cert.DURefIdeal.Read.val_main_v2, Cert.DURefIdeal.Read.val_main_v3, Cert.DURefIdeal.Read.val_main_cst_0, Cert.DURefIdeal.Read.val_main_v4, Cert.DURefIdeal.Read.val_main_v5, Cert.DURefIdeal.Read.val_main_cst_1, Cert.DURefIdeal.Read.val_main_v6, Cert.DURefIdeal.Read.val_main_v7, Cert.DURefIdeal.Read.val_main_v8, Cert.DURefIdeal.Read.val_main_v9, Cert.DURefIdeal.Read.val_main_v10, Cert.DURefIdeal.Read.val_main_cst_2, Cert.DURefIdeal.Read.val_main_v11, Cert.DURefIdeal.Read.val_main_v12, Cert.DURefIdeal.Read.val_main_v13]

theorem point (c : Dev nD) (t : Fin cfg0.N) (y) : k0_pay1 (F := Ideal) (iblk m c 0 t) (iblk m c 1 t) (iblk m c 2 t) y
    = REF (m ((c : Thread nD τ).loc main_arg0)) (m ((c : Thread nD τ).loc main_arg1)) (m ((c : Thread nD τ).loc main_arg2))
      (m ((c : Thread nD τ).loc main_arg3)) (((cfg0.win 3).blk t).view.emb y) := by
  have ha : iblk m c 2 t y = _ := act_apply m c (((cfg0.win 2).blk t).view.emb y)
  have he : ((cfg0.win 2).blk t).view.emb y = ((cfg0.win 3).blk t).view.emb y := by blk_ext [idx t]
  rw [he] at ha
  rw [ref_apply, ← slope, ← ha]
  pointwise [k0_pay1]
  blk_point [iblk, V, idx t]

theorem final (c : Dev nD) : (dats m 0 c).arrAt 3 (cfgs 0).N
    = REF (m ((c : Thread nD τ).loc main_arg0)) (m ((c : Thread nD τ).loc main_arg1)) (m ((c : Thread nD τ).loc main_arg2))
      (m ((c : Thread nD τ).loc main_arg3)) := by
  refine (dats m 0 c).arrAt_eq_of_covers 3 _ (by decide +kernel) fun t _ y => ?_
  blk_simp
  rw [after0_3]
  frame_out
  exact point m c t y

end Cert.DUIdeal.Grad

end
-- ==== Proof.Du.lean ====
module

public import proofs.«01_k».proof.Defs
public import proofs.«01_k».proof.Proof.DuValue
public import proofs.«01_k».proof.Proof.Gen.DUIdeal.Value
public import proofs.«01_k».proof.Proof.Gen.DURefIdeal.Run
public import Idealize.ShloMosaic.Lib.Quiescent

@[expose] public section

set_option maxRecDepth 16384

noncomputable section

open Idealize.ShloMosaic Idealize.ShloMosaic.TcCoe Idealize.SL.Sem

namespace Cert.Proof.Du

theorem frame_ref : Cert.quiescent_DURefIdeal := fun m ρ _ =>
  (θ_run Cert.DURefIdeal.defs _ _).mono
    (fun r h => ⟨fun c => ⟨(h c).2.1, (h c).2.2.1, (h c).2.2.2.1, (h c).2.2.2.2⟩, Idealize.ShloMosaic.sem_eq_zero_of_no_sems (by decide) r.2⟩)
    (Cert.DURefIdeal.Value.run (F := Ideal) m ρ)

theorem value : Cert.algebraic_DUIdeal_DURefIdeal := fun m g m' g' _ ha =>
  ⟨fun c => Cert.DUIdeal.Grad.REF (m (c.tc.loc Cert.DUIdeal.main_arg0)) (m (c.tc.loc Cert.DUIdeal.main_arg1))
      (m (c.tc.loc Cert.DUIdeal.main_arg2)) (m (c.tc.loc Cert.DUIdeal.main_arg3)),
    (θ_run _ _ _).mono (fun r h c => ⟨(h c).1.trans (Cert.DUIdeal.Grad.final m c), (h c).2⟩) (Cert.DUIdeal.Value.run_blocks (F := Ideal) m g),
    (θ_run _ _ _).mono (fun r h c => ⟨(h c).1.trans (by rw [(ha c).1, (ha c).2.1, (ha c).2.2.1, (ha c).2.2.2]; rfl), (h c).2⟩)
      (Cert.DURefIdeal.Value.run (F := Ideal) m' g')⟩

end Cert.Proof.Du

end
-- ==== Proof.DmValue.lean ====
module

public import proofs.«01_k».proof.Proof.Gen.DMIdeal.Frame
public import proofs.«01_k».proof.Proof.Gen.DMRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DMIdeal.Grad

open Cert.DMIdeal Cert.DMIdeal.Gen Cert.DMRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 11] ∧ win0_5.index t = ![t.val, 12] ∧ win0_6.index t = ![t.val, 13]
    ∧ win0_7.index t = ![t.val, 14] ∧ win0_8.index t = ![t.val, 15] ∧ win0_9.index t = ![t.val, 16] ∧ win0_10.index t = ![t.val, 17]
    ∧ win0_11.index t = ![t.val, 18] ∧ win0_12.index t = ![t.val, 0] ∧ win0_13.index t = ![t.val, 0] ∧ win0_14.index t = ![t.val, 0]
    ∧ win0_15.index t = ![t.val, 0] :=
  (by decide +kernel : ∀ t : Fin grid0.N, _)

theorem gate_a (c : Dev nD) (t : Fin cfg0.N) (j) :
    k0_pay2 (F := Ideal) (iblk m c 4 t) (iblk m c 5 t) (iblk m c 6 t) (iblk m c 7 t) j
    = val_main_v7 (F := Ideal) (m ((c : Thread nD τ).loc main_arg2)) (((cfg0.win 12).blk t).view.emb j) := by
  pointwise [k0_pay2, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_cst_2, val_main_v14, val_main_v15, val_main_cst_3, val_main_v16, val_main_v17, val_main_cst_4, val_main_v18, val_main_v19, val_main_v20, val_main_v21, val_main_v22, val_main_v23, val_main_v24, val_main_v25, val_main_v26, val_main_v27, val_main_v28, val_main_v29, val_main_v30, val_main_v31, val_main_v32, val_main_v33, val_main_v34]
  simp only [zero_sub]
  split_ifs <;> blk_point [iblk, V, idx t]

theorem gate_r (c : Dev nD) (t : Fin cfg0.N) (j) :
    k0_pay6 (F := Ideal) (k0_pay3 (iblk m c 8 t)) (k0_pay4 (iblk m c 9 t)) (k0_pay5 (iblk m c 10 t)) (iblk m c 11 t) j
    = val_main_v17 (F := Ideal) (m ((c : Thread nD τ).loc main_arg2)) (((cfg0.win 13).blk t).view.emb j) := by
  pointwise [k0_pay6, k0_pay5, k0_pay4, k0_pay3, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_cst_2, val_main_v14, val_main_v15, val_main_cst_3, val_main_v16, val_main_v17, val_main_cst_4, val_main_v18, val_main_v19, val_main_v20, val_main_v21, val_main_v22, val_main_v23, val_main_v24, val_main_v25, val_main_v26, val_main_v27, val_main_v28, val_main_v29, val_main_v30, val_main_v31, val_main_v32, val_main_v33, val_main_v34]
  simp only [zero_sub]
  split_ifs <;> blk_point [iblk, V, idx t]

theorem point12 (c : Dev nD) (t : Fin cfg0.N) (y) : k0_pay7 (k0_pay1 (iblk m c 0 t) (iblk m c 1 t)) (k0_pay2 (iblk m c 4 t) (iblk m c 5 t) (iblk m c 6 t) (iblk m c 7 t)) y
    = val_main_v31 (F := Ideal) (m ((c : Thread nD τ).loc main_arg2)) (m ((c : Thread nD τ).loc main_arg3)) (m ((c : Thread nD τ).loc main_arg4)) (((cfg0.win 12).blk t).view.emb y) := by
  have hg := gate_a m c t y
  pointwise [k0_pay1, k0_pay7, val_main_v0, val_main_v1, val_main_v2, val_main_v3, val_main_cst, val_main_v4, val_main_v5, val_main_cst_0, val_main_v6, val_main_cst_1, val_main_v8, val_main_v9, val_main_v10, val_main_v11, val_main_v12, val_main_v13, val_main_cst_2, val_main_v14, val_main_v15, val_main_cst_3, val_main_v16, val_main_v17, val_main_cst_4, val_main_v18, val_main_v19, val_main_v20, val_main_v21, val_main_v22, val_main_v23, val_main_v24, val_main_v25, val_main_v26, val_main_v27, val_main_v28, val_main_v29, val_main_v30, val_main_v31, val_main_v32, val_main_v33, val_main_v34]
  rw [hg]
  blk_point [iblk, V, idx t]

theorem final12 (c : Dev nD) : (dats m 0 c).arrAt 12 (cfgs 0).N
    = val_main_v31 (F := Ideal) (m ((c : Thread nD τ).loc main_arg2)) (m ((c : Thread nD τ).loc main_arg3)) (m ((c : Thread nD τ).loc main_arg4)) := by
  refine (dats m 0 c).arrAt_eq_of_covers 12 _ (by decide +kernel) fun t _ y => ?_
  blk_simp
  rw [after0_12]
  unfold_out out0_12
  frame_out
  exact point12 m c t y

theorem point13 (c : Dev nD) (t : Fin cfg0.N) (y) : k0_pay8 (k0_pay1 (iblk m c 0 t) (iblk m c 1 t)) (k0_pay3 (iblk m c 8 t)) (k0_pay4 (iblk m c 9 t)) (k0_pay5 (iblk m c 10 t)) (iblk m c 11 t) y
    = val_main_v32 (F := Ideal) (m ((c : Thread nD τ).loc main_arg2)) (m ((c : Thread nD τ).loc main_arg3)) (m ((c : Thread nD τ).loc main_arg4)) (((cfg0.win 13).blk t).view.emb y) := by
  have hg := gate_r m c t y
  pointwise [k0_pay1, k0_pay8, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_cst_2, val_main_v14, val_main_v15, val_main_cst_3, val_main_v16, val_main_cst_4, val_main_v18, val_main_v19, val_main_v20, val_main_v21, val_main_v22, val_main_v23, val_main_v24, val_main_v25, val_main_v26, val_main_v27, val_main_v28, val_main_v29, val_main_v30, val_main_v31, val_main_v32, val_main_v33, val_main_v34]
  rw [hg]
  blk_point [iblk, V, idx t]

theorem final13 (c : Dev nD) : (dats m 0 c).arrAt 13 (cfgs 0).N
    = val_main_v32 (F := Ideal) (m ((c : Thread nD τ).loc main_arg2)) (m ((c : Thread nD τ).loc main_arg3)) (m ((c : Thread nD τ).loc main_arg4)) := by
  refine (dats m 0 c).arrAt_eq_of_covers 13 _ (by decide +kernel) fun t _ y => ?_
  blk_simp
  rw [after0_13]
  unfold_out out0_13
  frame_out
  exact point13 m c t y

theorem point14 (c : Dev nD) (t : Fin cfg0.N) (y) : k0_pay9 (k0_pay1 (iblk m c 0 t) (iblk m c 1 t)) (k0_pay2 (iblk m c 4 t) (iblk m c 5 t) (iblk m c 6 t) (iblk m c 7 t)) (iblk m c 2 t) y
    = val_main_v33 (F := Ideal) (m ((c : Thread nD τ).loc main_arg0)) (m ((c : Thread nD τ).loc main_arg2)) (m ((c : Thread nD τ).loc main_arg3)) (m ((c : Thread nD τ).loc main_arg4)) (((cfg0.win 14).blk t).view.emb y) := by
  have hg := gate_a m c t y
  pointwise [k0_pay1, k0_pay9, val_main_v0, val_main_v1, val_main_v2, val_main_v3, val_main_cst, val_main_v4, val_main_v5, val_main_cst_0, val_main_v6, val_main_cst_1, val_main_v8, val_main_v9, val_main_v10, val_main_v11, val_main_v12, val_main_v13, val_main_cst_2, val_main_v14, val_main_v15, val_main_cst_3, val_main_v16, val_main_v17, val_main_cst_4, val_main_v18, val_main_v19, val_main_v20, val_main_v21, val_main_v22, val_main_v23, val_main_v24, val_main_v25, val_main_v26, val_main_v27, val_main_v28, val_main_v29, val_main_v30, val_main_v31, val_main_v32, val_main_v33, val_main_v34]
  rw [hg, mul_assoc]
  blk_point [iblk, V, idx t]

theorem final14 (c : Dev nD) : (dats m 0 c).arrAt 14 (cfgs 0).N
    = val_main_v33 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 14 _ (by decide +kernel) fun t _ y => ?_
  blk_simp
  rw [after0_14]
  unfold_out out0_14
  frame_out
  exact point14 m c t y

theorem point15 (c : Dev nD) (t : Fin cfg0.N) (y) : k0_pay10 (k0_pay1 (iblk m c 0 t) (iblk m c 1 t)) (k0_pay3 (iblk m c 8 t)) (k0_pay4 (iblk m c 9 t)) (k0_pay5 (iblk m c 10 t)) (iblk m c 11 t) (iblk m c 3 t) y
    = val_main_v34 (F := Ideal) (m ((c : Thread nD τ).loc main_arg1)) (m ((c : Thread nD τ).loc main_arg2)) (m ((c : Thread nD τ).loc main_arg3)) (m ((c : Thread nD τ).loc main_arg4)) (((cfg0.win 15).blk t).view.emb y) := by
  have hg := gate_r m c t y
  pointwise [k0_pay1, k0_pay10, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_cst_2, val_main_v14, val_main_v15, val_main_cst_3, val_main_v16, val_main_cst_4, val_main_v18, val_main_v19, val_main_v20, val_main_v21, val_main_v22, val_main_v23, val_main_v24, val_main_v25, val_main_v26, val_main_v27, val_main_v28, val_main_v29, val_main_v30, val_main_v31, val_main_v32, val_main_v33, val_main_v34]
  rw [hg, mul_assoc]
  blk_point [iblk, V, idx t]

theorem final15 (c : Dev nD) : (dats m 0 c).arrAt 15 (cfgs 0).N
    = val_main_v34 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 15 _ (by decide +kernel) fun t _ y => ?_
  blk_simp
  rw [after0_15]
  unfold_out out0_15
  frame_out
  exact point15 m c t y
end Cert.DMIdeal.Grad

end
-- ==== Proof.Dm.lean ====
module

public import proofs.«01_k».proof.Defs
public import proofs.«01_k».proof.Proof.DmValue
public import proofs.«01_k».proof.Proof.Gen.DMIdeal.Value
public import proofs.«01_k».proof.Proof.Gen.DMRefIdeal.Run
public import Idealize.ShloMosaic.Lib.Quiescent

@[expose] public section

set_option maxRecDepth 16384

noncomputable section

open Idealize.ShloMosaic Idealize.ShloMosaic.TcCoe Idealize.SL.Sem

namespace Cert.Proof.Dm

theorem frame_ref : Cert.quiescent_DMRefIdeal := fun m ρ _ =>
  (θ_run Cert.DMRefIdeal.defs _ _).mono
    (fun r h => ⟨fun c => (h c).2.2.2.2, Idealize.ShloMosaic.sem_eq_zero_of_no_sems (by decide) r.2⟩)
    (Cert.DMRefIdeal.Value.run (F := Ideal) m ρ)

theorem value : Cert.algebraic_DMIdeal_DMRefIdeal := fun m g m' g' _ ha =>
  ⟨_, _, _, _,
    (θ_run _ _ _).mono (fun r h c => ⟨(h c).1.trans (Cert.DMIdeal.Grad.final12 m c), (h c).2.1.trans (Cert.DMIdeal.Grad.final13 m c),
      (h c).2.2.1.trans (Cert.DMIdeal.Grad.final14 m c), (h c).2.2.2.1.trans (Cert.DMIdeal.Grad.final15 m c), (h c).2.2.2.2⟩)
      (Cert.DMIdeal.Value.run_blocks (F := Ideal) m g),
    (θ_run _ _ _).mono (fun r h c => ⟨(h c).1.trans (by rw [(ha c).2.2.1, (ha c).2.2.2.1, (ha c).2.2.2.2]; rfl),
      (h c).2.1.trans (by rw [(ha c).2.2.1, (ha c).2.2.2.1, (ha c).2.2.2.2]; rfl),
      (h c).2.2.1.trans (by rw [(ha c).1, (ha c).2.2.1, (ha c).2.2.2.1, (ha c).2.2.2.2]; rfl),
      (h c).2.2.2.1.trans (by rw [(ha c).2.1, (ha c).2.2.1, (ha c).2.2.2.1, (ha c).2.2.2.2]; rfl), (h c).2.2.2.2⟩)
      (Cert.DMRefIdeal.Value.run (F := Ideal) m' g')⟩

end Cert.Proof.Dm

end
-- ==== Proof.NormMath.lean ====
module

public import Idealize.ShloMosaic.Lib.Pipeline.ValueKit

@[expose] public section

noncomputable section

open Idealize.ShloMosaic

namespace Cert.Norm

/-- An extended real that is a real number. -/
def Real (v : EReal) : Prop := ∃ r : ℝ, v = (r : EReal)

theorem Real.of_abs_lt (v : EReal) (h : max v (-v) < ⊤) : Real v := by
  induction v using EReal.rec with
  | bot => simp at h
  | coe r => exact ⟨r, rfl⟩
  | top => simp at h

/-- Row `p` of a cotangent times row `q` of a weight. -/
def prod {a b n : ℕ} (g : (⟨2, ![a, n]⟩ : Shape).Idx → EReal) (w : (⟨2, ![b, n]⟩ : Shape).Idx → EReal) (p : Fin a) (q : Fin b) : EReal :=
  ∑ k : Fin n, g (ix2 p k) * w (ix2 q k)

/-- What the precondition says of an array: every entry is a real number. -/
theorem Real.of_pre {s : Shape} (dims : Fin 0 → Fin s.rank) (h : (⟨0, ![]⟩ : Shape).BroadcastsInDim s dims) (x : FVec Ideal s .f32)
    (hp : cmpf .olt (Host.absf x) (broadcastInDim s dims h (constant ⟨0, ![]⟩ .f32 0x7F800000#32)) = fun _ => 1#1) (i : s.Idx) : Real (x i) := by
  have h1 := congrFun hp i
  change BitVec.ofBool (decide (max (x i) (-(x i)) < Ideal.ofBits .f32 0x7F800000#32)) = 1#1 at h1
  have htop : Ideal.ofBits .f32 0x7F800000#32 = ⊤ := by simp [Ideal.ofBits, Ideal.ieee]
  rw [htop] at h1
  refine Real.of_abs_lt _ ?_
  by_contra hn
  rw [decide_eq_false hn] at h1
  exact absurd h1 (by decide)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Real.add {u v : EReal} : Real u → Real v → Real (u + v) := fun ⟨a, ha⟩ ⟨b, hb⟩ => ⟨a + b, by rw [ha, hb, EReal.coe_add]⟩
theorem Real.sub {u v : EReal} : Real u → Real v → Real (u - v) := fun ⟨a, ha⟩ ⟨b, hb⟩ => ⟨a - b, by rw [ha, hb, EReal.coe_sub]⟩
theorem Real.mul {u v : EReal} : Real u → Real v → Real (u * v) := fun ⟨a, ha⟩ ⟨b, hb⟩ => ⟨a * b, by rw [ha, hb, EReal.coe_mul]⟩
theorem Real.sum {ι : Type} (s : Finset ι) {f : ι → EReal} (h : ∀ i, Real (f i)) : Real (∑ i ∈ s, f i) := by
  choose g hg using h
  exact ⟨∑ i ∈ s, g i, by rw [coe_sum]; exact Finset.sum_congr rfl fun i _ => hg i⟩

theorem div_real (a b : ℝ) (h : b ≠ 0) : Ideal.div (a : EReal) (b : EReal) = ((a / b : ℝ) : EReal) := by
  rw [Ideal.div_coe h, ← EReal.coe_mul, mul_one_div]

theorem Real.div {u : EReal} {b : ℝ} (h : b ≠ 0) : Real u → Real (Ideal.div u (b : EReal)) := fun ⟨a, ha⟩ => ⟨a / b, by rw [ha, div_real a b h]⟩

theorem rsqrt_pos (s : ℝ) (h : 0 < s) : Ideal.rsqrt (s : EReal) = (((√s)⁻¹ : ℝ) : EReal) := by
  rw [Ideal.rsqrt_coe, if_neg (not_lt.mpr h.le), if_neg h.ne']

theorem ofBits_1024 : Ideal.ofBits .f32 1149239296#32 = ((1024 : ℝ) : EReal) := by
  simp [Ideal.ofBits, Ideal.ieee, -EReal.coe_mul]; norm_num

theorem ofBits_neg_half : Ideal.ofBits .f32 3204448256#32 = ((-(1 / 2) : ℝ) : EReal) := by
  simp [Ideal.ofBits, Ideal.ieee, -EReal.coe_mul]; norm_num

/-- The constant of the norms, a positive real number. -/
def eps : ℝ := 8796093 / 2 ^ 43

theorem eps_pos : 0 < eps := by unfold eps; positivity

theorem ofBits_eps : Ideal.ofBits .f32 897988541#32 = ((eps : ℝ) : EReal) := by
  simp [Ideal.ofBits, Ideal.ieee, eps, -EReal.coe_mul]; norm_num

/-- The mean of the squares of a real row, plus the constant, is a positive real. -/
theorem mean_sq {n : ℕ} (X : Fin n → ℝ) (N E : ℝ) (hN : 0 < N) (hE : 0 < E) :
    Ideal.div (∑ k, (X k : EReal) * (X k : EReal)) (N : EReal) + (E : EReal) = (((∑ k, X k * X k) / N + E : ℝ) : EReal)
    ∧ 0 < (∑ k, X k * X k) / N + E := by
  constructor
  · simp only [← EReal.coe_mul]
    rw [← coe_sum, div_real _ _ hN.ne', ← EReal.coe_add]
  · have : 0 ≤ ∑ k, X k * X k := Finset.sum_nonneg fun k _ => mul_self_nonneg _
    positivity

/-- The gradient of a row's root-mean-square norm in its input: the closed form, and what the derivative of the
    mean, of the reciprocal root and of the two products sums to. `x` is the row, `a` the cotangent times the gain. -/
theorem row_gradient {n : ℕ} (x a : Fin n → EReal) (hx : ∀ k, Real (x k)) (ha : ∀ k, Real (a k)) (N E : ℝ) (hN : 0 < N) (hE : 0 < E) (q : Fin n) :
    Ideal.rsqrt (Ideal.div (∑ k, x k * x k) (N : EReal) + (E : EReal))
      * (a q - x q * Ideal.rsqrt (Ideal.div (∑ k, x k * x k) (N : EReal) + (E : EReal))
        * Ideal.div (∑ k, a k * (x k * Ideal.rsqrt (Ideal.div (∑ k, x k * x k) (N : EReal) + (E : EReal)))) (N : EReal))
    = a q * Ideal.rsqrt (Ideal.div (∑ k, x k * x k) (N : EReal) + (E : EReal))
      + x q * Ideal.div ((∑ k, x k * a k) * (((-(1 / 2) : ℝ) : EReal)
          * Ideal.div (Ideal.rsqrt (Ideal.div (∑ k, x k * x k) (N : EReal) + (E : EReal))) (Ideal.div (∑ k, x k * x k) (N : EReal) + (E : EReal)))) (N : EReal)
      + Ideal.div ((∑ k, x k * a k) * (((-(1 / 2) : ℝ) : EReal)
          * Ideal.div (Ideal.rsqrt (Ideal.div (∑ k, x k * x k) (N : EReal) + (E : EReal))) (Ideal.div (∑ k, x k * x k) (N : EReal) + (E : EReal)))) (N : EReal) * x q := by
  choose X hX using hx
  choose A hA using ha
  obtain rfl : x = fun k => (X k : EReal) := funext hX
  obtain rfl : a = fun k => (A k : EReal) := funext hA
  obtain ⟨hs, hpos⟩ := mean_sq X N E hN hE
  simp only [hs]
  generalize (∑ k, X k * X k) / N + E = s at hpos
  rw [rsqrt_pos s hpos]
  have hr : (√s)⁻¹ * (√s)⁻¹ = s⁻¹ := by rw [← mul_inv, Real.mul_self_sqrt hpos.le]
  have hk : ∑ k, A k * (X k * (√s)⁻¹) = (∑ k, X k * A k) * (√s)⁻¹ := by
    rw [Finset.sum_mul]; exact Finset.sum_congr rfl fun k _ => by ring
  simp only [← EReal.coe_mul, ← coe_sum, div_real _ _ hN.ne', div_real _ _ hpos.ne', ← EReal.coe_sub, ← EReal.coe_add, hk]
  refine congrArg _ ?_
  generalize (∑ k, X k * A k) = T
  rw [div_eq_mul_inv _ s, ← hr]
  ring

/-- The closed form of the gradient of a row's root-mean-square norm, with the program's constants. -/
def closed {n : ℕ} (x a : Fin n → EReal) (q : Fin n) : EReal :=
  Ideal.rsqrt (Ideal.div (∑ k, x k * x k) (Ideal.ofBits .f32 0x44800000#32) + Ideal.ofBits .f32 0x358637BD#32)
    * (a q - x q * Ideal.rsqrt (Ideal.div (∑ k, x k * x k) (Ideal.ofBits .f32 0x44800000#32) + Ideal.ofBits .f32 0x358637BD#32)
      * Ideal.div (∑ k, a k * (x k * Ideal.rsqrt (Ideal.div (∑ k, x k * x k) (Ideal.ofBits .f32 0x44800000#32) + Ideal.ofBits .f32 0x358637BD#32)))
        (Ideal.ofBits .f32 0x44800000#32))

/-- A row divided by its root mean square, with the program's constants. -/
def normed {n : ℕ} (x : Fin n → EReal) (q : Fin n) : EReal :=
  x q * Ideal.rsqrt (Ideal.div (∑ k, x k * x k) (Ideal.ofBits .f32 0x44800000#32) + Ideal.ofBits .f32 0x358637BD#32)

/-- The cotangent of the row's mean square, as the chain rule gives it, divided by the row's length. -/
def slope {n : ℕ} (x a : Fin n → EReal) : EReal :=
  Ideal.div ((∑ k, x k * a k) * (Ideal.ofBits .f32 0xBF000000#32
    * Ideal.div (Ideal.rsqrt (Ideal.div (∑ k, x k * x k) (Ideal.ofBits .f32 0x44800000#32) + Ideal.ofBits .f32 0x358637BD#32))
      (Ideal.div (∑ k, x k * x k) (Ideal.ofBits .f32 0x44800000#32) + Ideal.ofBits .f32 0x358637BD#32))) (Ideal.ofBits .f32 0x44800000#32)

/-- The gradient as the chain rule sums it: through the product with the reciprocal root, and twice through the square. -/
def chain {n : ℕ} (x a : Fin n → EReal) (q : Fin n) : EReal :=
  a q * Ideal.rsqrt (Ideal.div (∑ k, x k * x k) (Ideal.ofBits .f32 0x44800000#32) + Ideal.ofBits .f32 0x358637BD#32)
    + x q * slope x a + slope x a * x q

theorem chain_eq {n : ℕ} (x a : Fin n → EReal) (hx : ∀ k, Real (x k)) (ha : ∀ k, Real (a k)) (q : Fin n) : chain x a q = closed x a q := by
  unfold chain closed slope
  rw [ofBits_1024, ofBits_eps, ofBits_neg_half]
  exact (row_gradient x a hx ha 1024 eps (by norm_num) eps_pos q).symm

theorem Real.prod {a b n : ℕ} {g : (⟨2, ![a, n]⟩ : Shape).Idx → EReal} {w : (⟨2, ![b, n]⟩ : Shape).Idx → EReal}
    (hg : ∀ i, Real (g i)) (hw : ∀ i, Real (w i)) (p : Fin a) (q : Fin b) : Real (prod g w p q) :=
  Real.sum _ fun _ => (hg _).mul (hw _)

end Cert.Norm

end
-- ==== Proof.RowStore.lean ====
module

public import Idealize.ShloMosaic.Lib.Pipeline.ValueKit
public import Idealize.ShloMosaic.Lib.WritesUnit

@[expose] public section

noncomputable section

open Idealize.ShloMosaic

namespace Cert.RowStore

variable {sig : RefSig} {κ : Kind} {sp : Space} {e : EltTy} {Val : EltTy → Type} {R C : ℕ}

/-- A store of the first row of an array: that row reads the stored row, every other row is as before. -/
theorem write (v : View sig κ sp (⟨2, ![R, C]⟩ : Shape) e) (f : v.ty.Contents Val) (inb)
    (w : (Rect.unit (s := ⟨2, ![R, C]⟩) ![0, 0] ![1, C] inb).shape.Idx → Val e) (L) (r : Fin R) (q : Fin C) :
    v.read Val (v.writes Val f ((⟨Rect.unit ![0, 0] ![1, C] inb, w⟩ : View.Piece Val _ e) :: L)) (ix2 r q)
    = if r.val = 0 then w (ix2 (0 : Fin 1) q) else v.read Val (v.writes Val f L) (ix2 r q) := by
  split_ifs with h
  · exact View.read_writes_cons_rows_of_mem v f inb w L (ix2 r q) (ix2 (0 : Fin 1) q) rfl (by simpa using h) rfl
  · exact View.read_writes_cons_rows_of_not_mem v f inb w L (ix2 r q) rfl (W := 1) rfl (Or.inr (by show 0 + 1 ≤ r.val; omega))

/-- The same of a store over one that filled the array. -/
theorem canon [∀ e, Nonempty (Val e)] (inb) (inb')
    (w : (Rect.unit (s := ⟨2, ![R, C]⟩) ![0, 0] ![1, C] inb).shape.Idx → Val e) (z : (⟨2, ![R, C]⟩ : Shape).Idx → Val e) (r : Fin R) (q : Fin C) :
    View.canon [(⟨Rect.unit ![0, 0] ![1, C] inb, w⟩ : View.Piece Val (⟨2, ![R, C]⟩ : Shape) e), ⟨Rect.unit ![0, 0] ![R, C] inb', z⟩] (ix2 r q)
    = if r.val = 0 then w (ix2 (0 : Fin 1) q) else z (ix2 r q) := by
  have hz : View.canon [(⟨Rect.unit ![0, 0] ![R, C] inb', z⟩ : View.Piece Val (⟨2, ![R, C]⟩ : Shape) e)] = z :=
    View.canon_unit_zero (funext fun a => match a with | ⟨0, _⟩ => rfl | ⟨1, _⟩ => rfl) _ _
  split_ifs with h
  · have he : (Rect.unit (s := ⟨2, ![R, C]⟩) ![0, 0] ![1, C] inb).emb (ix2 (0 : Fin 1) q) = ix2 r q :=
      funext fun a => Fin.ext (match a with
        | ⟨0, _⟩ => by show 0 + 1 * 0 = r.val; omega
        | ⟨1, _⟩ => by show 0 + 1 * q.val = q.val; omega)
    rw [← he]
    exact View.canon_cons_emb _ _ _ _
  · rw [View.canon_cons_of_not_mem, hz]
    rw [Rect.mem_set_unit]
    intro hall
    have h0 : r.val < 0 + 1 := (hall (0 : Fin 2)).2
    omega

/-- The first row, loaded from an array that a store filled. -/
theorem load [∀ e, Nonempty (Val e)] (v : View sig κ sp (⟨2, ![R, C]⟩ : Shape) e) (inb) (inb') (z : (⟨2, ![R, C]⟩ : Shape).Idx → Val e) (p : Fin R) (hp : p.val = 0) (q : Fin C) :
    v.readCov [(⟨Rect.unit ![0, 0] ![R, C] inb', z⟩ : View.Piece Val (⟨2, ![R, C]⟩ : Shape) e)] (Rect.unit (s := ⟨2, ![R, C]⟩) ![0, 0] ![1, C] inb).toLoadRect (ix2 (0 : Fin 1) q)
    = z (ix2 p q) := by
  rw [View.readCov_eq_canon']
  show View.canon _ _ = _
  have hz : View.canon [(⟨Rect.unit ![0, 0] ![R, C] inb', z⟩ : View.Piece Val (⟨2, ![R, C]⟩ : Shape) e)] = z :=
    View.canon_unit_zero (funext fun a => match a with | ⟨0, _⟩ => rfl | ⟨1, _⟩ => rfl) _ _
  rw [hz]
  exact congrArg z (funext fun a => Fin.ext (match a with
        | ⟨0, _⟩ => by show 0 + 1 * 0 = p.val; omega
        | ⟨1, _⟩ => by show 0 + 1 * q.val = q.val; omega))

/-- The first row, loaded from an array. -/
theorem ld (inb) (z : (⟨2, ![R, C]⟩ : Shape).Idx → Val e) (p : Fin R) (hp : p.val = 0) (q : Fin C) :
    View.ld z (Rect.unit (s := ⟨2, ![R, C]⟩) ![0, 0] ![1, C] inb) (ix2 (0 : Fin 1) q) = z (ix2 p q) :=
  congrArg z (funext fun a => Fin.ext (match a with
        | ⟨0, _⟩ => by show 0 + 1 * 0 = p.val; omega
        | ⟨1, _⟩ => by show 0 + 1 * q.val = q.val; omega))

/-- A first row that every point adds to, the other rows staying zero: after the last point the row is the sum over the points. -/
theorem total {N : ℕ} (f : (n : ℕ) → n < N → (⟨2, ![R, C]⟩ : Shape).Idx → EReal) (J : ℕ) (col : Fin N → Fin C → EReal) (z : Fin R) (hz : z.val = 0)
    (h0 : ∀ t : Fin N, t.val % J = 0 → ∀ r q, f t.val t.isLt (ix2 r q) = if r.val = 0 then 0 + col t q else 0)
    (hs : ∀ t : Fin N, ¬t.val % J = 0 → ∀ r q, f t.val t.isLt (ix2 r q)
      = if r.val = 0 then f (t.val - 1) (Nat.lt_of_le_of_lt (Nat.sub_le _ _) t.isLt) (ix2 z q) + col t q else f (t.val - 1) (Nat.lt_of_le_of_lt (Nat.sub_le _ _) t.isLt) (ix2 r q))
    (hN : N ≤ J) (t : Fin N) (ht : t.val + 1 = N) (j : (⟨2, ![R, C]⟩ : Shape).Idx) :
    f t.val t.isLt j = if (j 0).val = 0 then ∑ p : Fin N, col p (j 1) else 0 := by
  obtain ⟨r, q, rfl⟩ : ∃ r q, j = ix2 r q := ⟨j 0, j 1, funext fun a => match a with | ⟨0, _⟩ => rfl | ⟨1, _⟩ => rfl⟩
  rw [Pipeline.eq_sum_fin_of_reset_step_apply_last f J (fun _ => 0) (fun t j => if (j 0).val = 0 then col t (j 1) else 0) ?_ ?_ hN t ht, zero_add]
  · show ∑ p : Fin N, ite (r.val = 0) (col p q) 0 = ite (r.val = 0) _ _
    split_ifs
    · rfl
    · exact Finset.sum_const_zero
  · intro t h i
    obtain ⟨r, q, rfl⟩ : ∃ r q, i = ix2 r q := ⟨i 0, i 1, funext fun a => match a with | ⟨0, _⟩ => rfl | ⟨1, _⟩ => rfl⟩
    rw [h0 t h]
    show ite (r.val = 0) _ _ = _ + ite (r.val = 0) _ _
    split_ifs <;> simp
  · intro t h i
    obtain ⟨r, q, rfl⟩ : ∃ r q, i = ix2 r q := ⟨i 0, i 1, funext fun a => match a with | ⟨0, _⟩ => rfl | ⟨1, _⟩ => rfl⟩
    rw [hs t h]
    show ite (r.val = 0) _ _ = _ + ite (r.val = 0) _ _
    split_ifs with hr
    · rw [show r = z from Fin.ext (hr.trans hz.symm)]
      rfl
    · rw [add_zero]

end Cert.RowStore

end
-- ==== Proof.DhpValue.lean ====
module

public import proofs.«01_k».proof.Proof.Gen.DHpIdeal.Frame
public import proofs.«01_k».proof.Proof.Gen.DHpRefIdeal.Read
public import Idealize.ShloMosaic.Lib.Pipeline.ValueKit
public import Idealize.ShloMosaic.Lib.Pointwise
public import proofs.«01_k».proof.Proof.NormMath
public import proofs.«01_k».proof.Proof.RowStore

@[expose] public section

set_option maxRecDepth 16384

noncomputable section

open Idealize.ShloMosaic Idealize.ShloMosaic.TcCoe Idealize.SL.Sem
open Idealize.ShloMosaic.Pipeline (Dat)

namespace Cert.DHpIdeal.Grad

open Cert.DHpIdeal Cert.DHpIdeal.Gen Cert.DHpRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] :=
  (by decide +kernel : ∀ t : Fin grid0.N, _)

/-- The arguments that the norm's derivative reads are real numbers. -/
def Tame (c : Dev nD) : Prop :=
  (∀ i, Cert.Norm.Real (m ((c : Thread nD τ).loc main_arg0) i)) ∧ (∀ i, Cert.Norm.Real (m ((c : Thread nD τ).loc main_arg1) i))
  ∧ (∀ i, Cert.Norm.Real (m ((c : Thread nD τ).loc main_arg2) i)) ∧ ∀ i, Cert.Norm.Real (m ((c : Thread nD τ).loc main_arg3) i)

/-- The kernel's gradient of the row at an index: the closed form over the row and the scaled cotangent. -/
theorem kernel_row (g : FVec Ideal S1024x1024 .bf16) (w : FVec Ideal S1024x1024 .bf16) (x : FVec Ideal S1024x1024 .f32) (gain : FVec Ideal S1x1024 .f32) (y) :
    k0_pay8 (F := Ideal) g w x gain y
    = Cert.Norm.closed (fun k => x (ix2 (y 0) k)) (fun q => Cert.Norm.prod g w (y 0) q * gain (ix2 0 q)) (y 1) := by
  obtain ⟨p, q, rfl⟩ : ∃ p q, y = ix2 p q := ⟨y 0, y 1, funext fun a => match a with | ⟨0, _⟩ => rfl | ⟨1, _⟩ => rfl⟩
  pointwise [k0_pay8, k0_pay7, k0_pay6, k0_pay5]
  rfl

/-- The reference's result at an index: the residual's cotangent plus the three terms of the derivative. -/
theorem ref_row (x : FVec Ideal S16384x1024 .f32) (gain : FVec Ideal S1024 .f32) (w : FVec Ideal S1024x1024 .f32) (dy : FVec Ideal S16384x1024 .f32) (res : FVec Ideal S16384x1024 .f32) (i) :
    val_main_v38 (F := Ideal) x gain w dy res i
    = res i + Cert.Norm.chain (fun k => x (ix2 (i 0) k)) (fun q => Cert.Norm.prod dy w (i 0) q * gain (ix1 q)) (i 1) := by
  obtain ⟨p, q, rfl⟩ : ∃ p q, i = ix2 p q := ⟨i 0, i 1, funext fun a => match a with | ⟨0, _⟩ => rfl | ⟨1, _⟩ => rfl⟩
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_cst_6, val_main_v30, val_main_v31, val_main_cst_7, val_main_v32, val_main_v33, val_main_v34, val_main_v35, val_main_v36, val_main_v37, val_main_v38, val_main_v39, val_main_v40, val_main_cst_8, val_main_v41, val_main_v42]
  simp only [Fin.sum_univ_one]
  rfl

/-- At real arguments the reference's result is the closed form. -/
theorem ref_closed (x : FVec Ideal S16384x1024 .f32) (gain : FVec Ideal S1024 .f32) (w : FVec Ideal S1024x1024 .f32) (dy : FVec Ideal S16384x1024 .f32) (res : FVec Ideal S16384x1024 .f32)
    (hx : ∀ i, Cert.Norm.Real (x i)) (hg : ∀ i, Cert.Norm.Real (gain i)) (hw : ∀ i, Cert.Norm.Real (w i)) (hd : ∀ i, Cert.Norm.Real (dy i)) (i) :
    val_main_v38 (F := Ideal) x gain w dy res i
    = res i + Cert.Norm.closed (fun k => x (ix2 (i 0) k)) (fun q => Cert.Norm.prod dy w (i 0) q * gain (ix1 q)) (i 1) :=
  (ref_row x gain w dy res i).trans (congrArg (res i + ·) (Cert.Norm.chain_eq _ _ (fun _ => hx _) (fun _ => (Cert.Norm.Real.prod hd hw _ _).mul (hg _)) _))

theorem read_x (c : Dev nD) (t : Fin cfg0.N) (y : S1024x1024.Idx) (k) :
    iblk m c 2 t (ix2 (y 0) k) = m ((c : Thread nD τ).loc main_arg0) (ix2 (((cfg0.win 5).blk t).view.emb y 0) k) := by
  blk_point [iblk, V, idx t]

theorem read_prod (c : Dev nD) (t : Fin cfg0.N) (y : S1024x1024.Idx) (q) :
    Cert.Norm.prod (iblk m c 0 t) (iblk m c 1 t) (y 0) q
    = Cert.Norm.prod (m ((c : Thread nD τ).loc main_arg3)) (m ((c : Thread nD τ).loc main_arg2)) (((cfg0.win 5).blk t).view.emb y 0) q := by
  unfold Cert.Norm.prod
  blk_point [iblk, V, idx t]

theorem read_gain (c : Dev nD) (t : Fin cfg0.N) (q) :
    iblk m c 4 t (ix2 0 q) = m ((c : Thread nD τ).loc main_arg1) (ix1 q) := by
  blk_simp [iblk, V, idx t]
  entry_read
  pointwise []
  refine congrArg (m ((c : Thread nD τ).loc main_arg1)) (congrArg ix1 (Fin.ext ?_))
  blk_simp [idx t]

theorem point (c : Dev nD) (hfin : Tame m c) (t : Fin cfg0.N) (y) : k0_pay1 (F := Ideal) (k0_pay8 (iblk m c 0 t) (iblk m c 1 t) (iblk m c 2 t) (iblk m c 4 t)) (iblk m c 3 t) y
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  refine Eq.trans ?_ (ref_closed _ _ _ _ _ hfin.1 hfin.2.1 hfin.2.2.1 hfin.2.2.2 _).symm
  refine congrArg₂ (· + ·) (by blk_point [iblk, V, idx t]) ?_
  refine (kernel_row _ _ _ _ y).trans ?_
  simp only [read_x, read_prod, read_gain]
  exact congrArg (Cert.Norm.closed _ _) (Fin.ext (by blk_simp [idx t]))

theorem final5 (c : Dev nD) (hfin : Tame m c) : (dats m 0 c).arrAt 5 (cfgs 0).N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  refine Eq.trans ?_ (point m c hfin t y)
  by_cases h : t.val % 16 = 0
  · rw [outsAt0_A m c t h]
    frame_out
  · rw [outsAt0_B m c t h]
    frame_out

theorem final6 (c : Dev nD) (hfin : Tame m c) : (dats m 0 c).arrAt 6 (cfgs 0).N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  refine Eq.trans (b := k0_pay1 (F := Ideal) (k0_pay8 (iblk m c 0 t) (iblk m c 1 t) (iblk m c 2 t) (iblk m c 4 t)) (iblk m c 3 t) y) ?_ ((point m c hfin t y).trans ?_)
  · by_cases h : t.val % 16 = 0
    · rw [outsAt0_A m c t h]
      frame_out
      rfl
    · rw [outsAt0_B m c t h]
      frame_out
      rfl
  · exact congrArg (val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (by blk_ext [idx t])

/-- The kernel's running gain gradient after a tile: what it held plus the column sum over the tile's rows. -/
theorem kernel_col (g : FVec Ideal S1024x1024 .bf16) (w : FVec Ideal S1024x1024 .bf16) (x : FVec Ideal S1024x1024 .f32) (v : FVec Ideal S1x1024 .f32) (q : Fin 1024) :
    k0_pay3 (F := Ideal) (k0_pay9 g w x) v (ix2 0 q)
    = v (ix2 0 q) + ∑ p : Fin 1024, Cert.Norm.prod g w p q * Cert.Norm.normed (fun k => x (ix2 p k)) q := by
  pointwise [k0_pay3, k0_pay9, k0_pay7, k0_pay6, k0_pay5]
  rfl

theorem ref_col (x : FVec Ideal S16384x1024 .f32) (w : FVec Ideal S1024x1024 .f32) (dy : FVec Ideal S16384x1024 .f32) (i) :
    val_main_v42 (F := Ideal) x w dy i
    = if (i 0).val = 0 then ∑ r : Fin 16384, Cert.Norm.prod dy w r (i 1) * Cert.Norm.normed (fun k => x (ix2 r k)) (i 1) else 0 := by
  obtain ⟨p, q, rfl⟩ : ∃ p q, i = ix2 p q := ⟨i 0, i 1, funext fun a => match a with | ⟨0, _⟩ => rfl | ⟨1, _⟩ => rfl⟩
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_cst_6, val_main_v30, val_main_v31, val_main_cst_7, val_main_v32, val_main_v33, val_main_v34, val_main_v35, val_main_v36, val_main_v37, val_main_v38, val_main_v39, val_main_v40, val_main_cst_8, val_main_v41, val_main_v42]
  simp only [Fin.sum_univ_one]
  refine if_ctx_congr (by simp) (fun _ => ?_) (fun _ => rfl)
  exact Fin.sum_fin_congr fun k => mul_comm _ _

/-- What a tile adds to the gain gradient. -/
def term (c : Dev nD) (t : Fin cfg0.N) (j : S8x1024.Idx) : EReal :=
  if (j 0).val = 0 then ∑ p : Fin 1024, Cert.Norm.prod (iblk m c 0 t) (iblk m c 1 t) p (j 1) * Cert.Norm.normed (fun k => iblk m c 2 t (ix2 p k)) (j 1) else 0

theorem step_A (c : Dev nD) (t : Fin cfg0.N) (h : t.val % 16 = 0) (j) : (outsAt0 m c t.val t.isLt).2.2 j = 0 + term m c t j := by
  rw [outsAt0_A m c t h]
  frame_out
  obtain ⟨p, q, rfl⟩ : ∃ p q, j = ix2 p q := ⟨j 0, j 1, funext fun a => match a with | ⟨0, _⟩ => rfl | ⟨1, _⟩ => rfl⟩
  refine (Cert.RowStore.canon _ _ _ _ p q).trans ?_
  have hz : ∀ i, k0_pay4 (F := Ideal) i = 0 := fun i => by pointwise [k0_pay4]
  unfold term
  rw [kernel_col, Cert.RowStore.load _ _ _ _ 0 rfl q, hz, hz]
  show ite (p.val = 0) _ _ = _ + ite (p.val = 0) _ _
  split_ifs <;> simp

theorem step_B (c : Dev nD) (t : Fin cfg0.N) (h : ¬t.val % 16 = 0) (j) :
    (outsAt0 m c t.val t.isLt).2.2 j = (outsAt0 m c (t.val - 1) (Nat.lt_of_le_of_lt (Nat.sub_le _ _) t.isLt)).2.2 j + term m c t j := by
  rw [outsAt0_B m c t h]
  frame_out
  obtain ⟨p, q, rfl⟩ : ∃ p q, j = ix2 p q := ⟨j 0, j 1, funext fun a => match a with | ⟨0, _⟩ => rfl | ⟨1, _⟩ => rfl⟩
  refine (Cert.RowStore.write _ _ _ _ _ p q).trans ?_
  rw [View.writes_nil]
  unfold term
  rw [kernel_col, Cert.RowStore.ld _ _ 0 rfl q]
  show ite (p.val = 0) _ _ = _ + ite (p.val = 0) _ _
  split_ifs with h0
  · rw [show p = 0 from Fin.ext h0]
    rfl
  · rw [add_zero, (hs0_7 t).read_unread]

theorem terms (c : Dev nD) (j : S8x1024.Idx) : (∑ t : Fin cfg0.N, term m c t j : EReal)
    = if (j 0).val = 0 then ∑ r : Fin 16384, Cert.Norm.prod (m ((c : Thread nD τ).loc main_arg3)) (m ((c : Thread nD τ).loc main_arg2)) r (j 1)
        * Cert.Norm.normed (fun k => m ((c : Thread nD τ).loc main_arg0) (ix2 r k)) (j 1) else 0 := by
  unfold term
  split_ifs with h0
  · refine Fin.sum_mul_add_congr fun s k hl => ?_
    refine congrArg₂ (· * ·) ?_ (congrArg (fun f => Cert.Norm.normed f (j 1)) (funext fun n => ?_))
    · unfold Cert.Norm.prod
      blk_point [iblk, V, idx s]
    · blk_point [iblk, V, idx s]
  · exact Finset.sum_const_zero

theorem final7 (c : Dev nD) : (dats m 0 c).arrAt 7 (cfgs 0).N = val_main_v42 (F := Ideal) (m ((c : Thread nD τ).loc main_arg0)) (m ((c : Thread nD τ).loc main_arg2)) (m ((c : Thread nD τ).loc main_arg3)) := by
  refine (dats m 0 c).arrAt_eq_of_covers 7 _ (by decide +kernel) fun t hf y => ?_
  blk_simp
  have hy : ((cfg0.win 7).blk t).view.emb y = y := by blk_ext [idx t]
  rw [hy]
  refine Eq.trans ?_ ((terms m c y).trans (ref_col _ _ _ y).symm)
  rw [after0_7, Pipeline.eq_sum_fin_of_reset_step_apply_last (fun n h => (outsAt0 m c n h).2.2) 16 (fun _ => 0) (term m c)
    (fun t h j => step_A m c t h j) (fun t h j => step_B m c t h j) (by decide) t (by have := (flush0_7 t).mp hf; have hN : cfg0.N = 16 := rfl; omega) y, zero_add]
end Cert.DHpIdeal.Grad

end
-- ==== Proof.Dhp.lean ====
module

public import proofs.«01_k».proof.Defs
public import proofs.«01_k».proof.Proof.DhpValue
public import proofs.«01_k».proof.Proof.Gen.DHpIdeal.Value
public import proofs.«01_k».proof.Proof.Gen.DHpRefIdeal.Run
public import proofs.«01_k».proof.Proof.Gen.Pre_finite_dhp
public import Idealize.ShloMosaic.Lib.Quiescent

@[expose] public section

set_option maxRecDepth 16384

noncomputable section

open Idealize.ShloMosaic Idealize.ShloMosaic.TcCoe Idealize.SL.Sem

namespace Cert.Proof.Dhp

theorem frame_ref : Cert.quiescent_DHpRefIdeal := fun m ρ _ =>
  (θ_run Cert.DHpRefIdeal.defs _ _).mono
    (fun r h => ⟨fun c => (h c).2.2.2, Idealize.ShloMosaic.sem_eq_zero_of_no_sems (by decide) r.2⟩)
    (Cert.DHpRefIdeal.Value.run (F := Ideal) m ρ)

theorem frame_ref_pre : Cert.quiescent_DHpRefIdeal_pre_finite_dhp := fun m ρ _ => frame_ref m ρ trivial

/-- The precondition makes every entry of its four arrays a real number. -/
theorem tame (m) (h : Pre_DHpIdeal_finite_dhp m) (c) : Cert.DHpIdeal.Grad.Tame m c :=
  ⟨fun _ => Cert.Norm.Real.of_pre _ _ _ (h c).1 _, fun _ => Cert.Norm.Real.of_pre _ _ _ (h c).2.1 _,
    fun _ => Cert.Norm.Real.of_pre _ _ _ (h c).2.2.1 _, fun _ => Cert.Norm.Real.of_pre _ _ _ (h c).2.2.2 _⟩

theorem value : Cert.algebraic_DHpIdeal_DHpRefIdeal_pre_finite_dhp := fun m g m' g' hpre ha =>
  ⟨_, _, _,
    (θ_run _ _ _).mono (fun r h c => ⟨(h c).1.trans (Cert.DHpIdeal.Grad.final5 m c (tame m hpre c)),
      (h c).2.1.trans (Cert.DHpIdeal.Grad.final6 m c (tame m hpre c)),
      (h c).2.2.1.trans (Cert.DHpIdeal.Grad.final7 m c), (h c).2.2.2⟩)
      (Cert.DHpIdeal.Value.run_blocks (F := Ideal) m g),
    (θ_run _ _ _).mono (fun r h c => ⟨(h c).1.trans (by rw [← (ha c).1, ← (ha c).2.1, ← (ha c).2.2.1, ← (ha c).2.2.2.1, ← (ha c).2.2.2.2]; rfl),
      (h c).2.1.trans (by rw [← (ha c).1, ← (ha c).2.1, ← (ha c).2.2.1, ← (ha c).2.2.2.1, ← (ha c).2.2.2.2]; rfl),
      (h c).2.2.1.trans (by rw [← (ha c).1, ← (ha c).2.2.1, ← (ha c).2.2.2.1]; rfl), (h c).2.2.2⟩)
      (Cert.DHpRefIdeal.Value.run (F := Ideal) m' g')⟩

end Cert.Proof.Dhp

end
-- ==== Proof.DhmValue.lean ====
module

public import proofs.«01_k».proof.Proof.Gen.DHmIdeal.Frame
public import proofs.«01_k».proof.Proof.Gen.DHmRefIdeal.Read
public import Idealize.ShloMosaic.Lib.Pipeline.ValueKit
public import Idealize.ShloMosaic.Lib.Pointwise
public import proofs.«01_k».proof.Proof.NormMath
public import proofs.«01_k».proof.Proof.RowStore

@[expose] public section

set_option maxRecDepth 16384

noncomputable section

open Idealize.ShloMosaic Idealize.ShloMosaic.TcCoe Idealize.SL.Sem
open Idealize.ShloMosaic.Pipeline (Dat)

namespace Cert.DHmIdeal.Grad

open Cert.DHmIdeal Cert.DHmIdeal.Gen Cert.DHmRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] :=
  (by decide +kernel : ∀ t : Fin grid0.N, _)

/-- The arguments that the norm's derivative reads are real numbers. -/
def Tame (c : Dev nD) : Prop :=
  (∀ i, Cert.Norm.Real (m ((c : Thread nD τ).loc main_arg0) i)) ∧ (∀ i, Cert.Norm.Real (m ((c : Thread nD τ).loc main_arg1) i))
  ∧ (∀ i, Cert.Norm.Real (m ((c : Thread nD τ).loc main_arg2) i)) ∧ ∀ i, Cert.Norm.Real (m ((c : Thread nD τ).loc main_arg3) i)

/-- The kernel's gradient of the row at an index: the closed form over the row and the scaled cotangent. -/
theorem kernel_row (g : FVec Ideal S512x4096 .bf16) (w : FVec Ideal S1024x4096 .bf16) (x : FVec Ideal S512x1024 .f32) (gain : FVec Ideal S1x1024 .f32) (y) :
    k0_pay8 (F := Ideal) g w x gain y
    = Cert.Norm.closed (fun k => x (ix2 (y 0) k)) (fun q => Cert.Norm.prod g w (y 0) q * gain (ix2 0 q)) (y 1) := by
  obtain ⟨p, q, rfl⟩ : ∃ p q, y = ix2 p q := ⟨y 0, y 1, funext fun a => match a with | ⟨0, _⟩ => rfl | ⟨1, _⟩ => rfl⟩
  pointwise [k0_pay8, k0_pay7, k0_pay6, k0_pay5]
  rfl

/-- The reference's result at an index: the residual's cotangent plus the three terms of the derivative. -/
theorem ref_row (x : FVec Ideal S16384x1024 .f32) (gain : FVec Ideal S1024 .f32) (w : FVec Ideal S1024x4096 .f32) (dy : FVec Ideal S16384x4096 .f32) (res : FVec Ideal S16384x1024 .f32) (i) :
    val_main_v38 (F := Ideal) x gain w dy res i
    = res i + Cert.Norm.chain (fun k => x (ix2 (i 0) k)) (fun q => Cert.Norm.prod dy w (i 0) q * gain (ix1 q)) (i 1) := by
  obtain ⟨p, q, rfl⟩ : ∃ p q, i = ix2 p q := ⟨i 0, i 1, funext fun a => match a with | ⟨0, _⟩ => rfl | ⟨1, _⟩ => rfl⟩
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_cst_6, val_main_v30, val_main_v31, val_main_cst_7, val_main_v32, val_main_v33, val_main_v34, val_main_v35, val_main_v36, val_main_v37, val_main_v38, val_main_v39, val_main_v40, val_main_cst_8, val_main_v41, val_main_v42]
  simp only [Fin.sum_univ_one]
  rfl

/-- At real arguments the reference's result is the closed form. -/
theorem ref_closed (x : FVec Ideal S16384x1024 .f32) (gain : FVec Ideal S1024 .f32) (w : FVec Ideal S1024x4096 .f32) (dy : FVec Ideal S16384x4096 .f32) (res : FVec Ideal S16384x1024 .f32)
    (hx : ∀ i, Cert.Norm.Real (x i)) (hg : ∀ i, Cert.Norm.Real (gain i)) (hw : ∀ i, Cert.Norm.Real (w i)) (hd : ∀ i, Cert.Norm.Real (dy i)) (i) :
    val_main_v38 (F := Ideal) x gain w dy res i
    = res i + Cert.Norm.closed (fun k => x (ix2 (i 0) k)) (fun q => Cert.Norm.prod dy w (i 0) q * gain (ix1 q)) (i 1) :=
  (ref_row x gain w dy res i).trans (congrArg (res i + ·) (Cert.Norm.chain_eq _ _ (fun _ => hx _) (fun _ => (Cert.Norm.Real.prod hd hw _ _).mul (hg _)) _))

theorem read_x (c : Dev nD) (t : Fin cfg0.N) (y : S512x1024.Idx) (k) :
    iblk m c 2 t (ix2 (y 0) k) = m ((c : Thread nD τ).loc main_arg0) (ix2 (((cfg0.win 5).blk t).view.emb y 0) k) := by
  blk_point [iblk, V, idx t]

theorem read_prod (c : Dev nD) (t : Fin cfg0.N) (y : S512x1024.Idx) (q) :
    Cert.Norm.prod (iblk m c 0 t) (iblk m c 1 t) (y 0) q
    = Cert.Norm.prod (m ((c : Thread nD τ).loc main_arg3)) (m ((c : Thread nD τ).loc main_arg2)) (((cfg0.win 5).blk t).view.emb y 0) q := by
  unfold Cert.Norm.prod
  blk_point [iblk, V, idx t]

theorem read_gain (c : Dev nD) (t : Fin cfg0.N) (q) :
    iblk m c 4 t (ix2 0 q) = m ((c : Thread nD τ).loc main_arg1) (ix1 q) := by
  blk_simp [iblk, V, idx t]
  entry_read
  pointwise []
  refine congrArg (m ((c : Thread nD τ).loc main_arg1)) (congrArg ix1 (Fin.ext ?_))
  blk_simp [idx t]

theorem point (c : Dev nD) (hfin : Tame m c) (t : Fin cfg0.N) (y) : k0_pay1 (F := Ideal) (k0_pay8 (iblk m c 0 t) (iblk m c 1 t) (iblk m c 2 t) (iblk m c 4 t)) (iblk m c 3 t) y
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  refine Eq.trans ?_ (ref_closed _ _ _ _ _ hfin.1 hfin.2.1 hfin.2.2.1 hfin.2.2.2 _).symm
  refine congrArg₂ (· + ·) (by blk_point [iblk, V, idx t]) ?_
  refine (kernel_row _ _ _ _ y).trans ?_
  simp only [read_x, read_prod, read_gain]
  exact congrArg (Cert.Norm.closed _ _) (Fin.ext (by blk_simp [idx t]))

theorem final5 (c : Dev nD) (hfin : Tame m c) : (dats m 0 c).arrAt 5 (cfgs 0).N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  refine Eq.trans ?_ (point m c hfin t y)
  by_cases h : t.val % 32 = 0
  · rw [outsAt0_A m c t h]
    frame_out
  · rw [outsAt0_B m c t h]
    frame_out

theorem final6 (c : Dev nD) (hfin : Tame m c) : (dats m 0 c).arrAt 6 (cfgs 0).N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  refine Eq.trans (b := k0_pay1 (F := Ideal) (k0_pay8 (iblk m c 0 t) (iblk m c 1 t) (iblk m c 2 t) (iblk m c 4 t)) (iblk m c 3 t) y) ?_ ((point m c hfin t y).trans ?_)
  · by_cases h : t.val % 32 = 0
    · rw [outsAt0_A m c t h]
      frame_out
      rfl
    · rw [outsAt0_B m c t h]
      frame_out
      rfl
  · exact congrArg (val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (by blk_ext [idx t])

/-- The kernel's running gain gradient after a tile: what it held plus the column sum over the tile's rows. -/
theorem kernel_col (g : FVec Ideal S512x4096 .bf16) (w : FVec Ideal S1024x4096 .bf16) (x : FVec Ideal S512x1024 .f32) (v : FVec Ideal S1x1024 .f32) (q : Fin 1024) :
    k0_pay3 (F := Ideal) (k0_pay9 g w x) v (ix2 0 q)
    = v (ix2 0 q) + ∑ p : Fin 512, Cert.Norm.prod g w p q * Cert.Norm.normed (fun k => x (ix2 p k)) q := by
  pointwise [k0_pay3, k0_pay9, k0_pay7, k0_pay6, k0_pay5]
  rfl

theorem ref_col (x : FVec Ideal S16384x1024 .f32) (w : FVec Ideal S1024x4096 .f32) (dy : FVec Ideal S16384x4096 .f32) (i) :
    val_main_v42 (F := Ideal) x w dy i
    = if (i 0).val = 0 then ∑ r : Fin 16384, Cert.Norm.prod dy w r (i 1) * Cert.Norm.normed (fun k => x (ix2 r k)) (i 1) else 0 := by
  obtain ⟨p, q, rfl⟩ : ∃ p q, i = ix2 p q := ⟨i 0, i 1, funext fun a => match a with | ⟨0, _⟩ => rfl | ⟨1, _⟩ => rfl⟩
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_cst_6, val_main_v30, val_main_v31, val_main_cst_7, val_main_v32, val_main_v33, val_main_v34, val_main_v35, val_main_v36, val_main_v37, val_main_v38, val_main_v39, val_main_v40, val_main_cst_8, val_main_v41, val_main_v42]
  simp only [Fin.sum_univ_one]
  refine if_ctx_congr (by simp) (fun _ => ?_) (fun _ => rfl)
  exact Fin.sum_fin_congr fun k => mul_comm _ _

/-- What a tile adds to the gain gradient. -/
def term (c : Dev nD) (t : Fin cfg0.N) (j : S8x1024.Idx) : EReal :=
  if (j 0).val = 0 then ∑ p : Fin 512, Cert.Norm.prod (iblk m c 0 t) (iblk m c 1 t) p (j 1) * Cert.Norm.normed (fun k => iblk m c 2 t (ix2 p k)) (j 1) else 0

theorem step_A (c : Dev nD) (t : Fin cfg0.N) (h : t.val % 32 = 0) (j) : (outsAt0 m c t.val t.isLt).2.2 j = 0 + term m c t j := by
  rw [outsAt0_A m c t h]
  frame_out
  obtain ⟨p, q, rfl⟩ : ∃ p q, j = ix2 p q := ⟨j 0, j 1, funext fun a => match a with | ⟨0, _⟩ => rfl | ⟨1, _⟩ => rfl⟩
  refine (Cert.RowStore.canon _ _ _ _ p q).trans ?_
  have hz : ∀ i, k0_pay4 (F := Ideal) i = 0 := fun i => by pointwise [k0_pay4]
  unfold term
  rw [kernel_col, Cert.RowStore.load _ _ _ _ 0 rfl q, hz, hz]
  show ite (p.val = 0) _ _ = _ + ite (p.val = 0) _ _
  split_ifs <;> simp

theorem step_B (c : Dev nD) (t : Fin cfg0.N) (h : ¬t.val % 32 = 0) (j) :
    (outsAt0 m c t.val t.isLt).2.2 j = (outsAt0 m c (t.val - 1) (Nat.lt_of_le_of_lt (Nat.sub_le _ _) t.isLt)).2.2 j + term m c t j := by
  rw [outsAt0_B m c t h]
  frame_out
  obtain ⟨p, q, rfl⟩ : ∃ p q, j = ix2 p q := ⟨j 0, j 1, funext fun a => match a with | ⟨0, _⟩ => rfl | ⟨1, _⟩ => rfl⟩
  refine (Cert.RowStore.write _ _ _ _ _ p q).trans ?_
  rw [View.writes_nil]
  unfold term
  rw [kernel_col, Cert.RowStore.ld _ _ 0 rfl q]
  show ite (p.val = 0) _ _ = _ + ite (p.val = 0) _ _
  split_ifs with h0
  · rw [show p = 0 from Fin.ext h0]
    rfl
  · rw [add_zero, (hs0_7 t).read_unread]

theorem terms (c : Dev nD) (j : S8x1024.Idx) : (∑ t : Fin cfg0.N, term m c t j : EReal)
    = if (j 0).val = 0 then ∑ r : Fin 16384, Cert.Norm.prod (m ((c : Thread nD τ).loc main_arg3)) (m ((c : Thread nD τ).loc main_arg2)) r (j 1)
        * Cert.Norm.normed (fun k => m ((c : Thread nD τ).loc main_arg0) (ix2 r k)) (j 1) else 0 := by
  unfold term
  split_ifs with h0
  · refine Fin.sum_mul_add_congr fun s k hl => ?_
    refine congrArg₂ (· * ·) ?_ (congrArg (fun f => Cert.Norm.normed f (j 1)) (funext fun n => ?_))
    · unfold Cert.Norm.prod
      blk_point [iblk, V, idx s]
    · blk_point [iblk, V, idx s]
  · exact Finset.sum_const_zero

theorem final7 (c : Dev nD) : (dats m 0 c).arrAt 7 (cfgs 0).N = val_main_v42 (F := Ideal) (m ((c : Thread nD τ).loc main_arg0)) (m ((c : Thread nD τ).loc main_arg2)) (m ((c : Thread nD τ).loc main_arg3)) := by
  refine (dats m 0 c).arrAt_eq_of_covers 7 _ (by decide +kernel) fun t hf y => ?_
  blk_simp
  have hy : ((cfg0.win 7).blk t).view.emb y = y := by blk_ext [idx t]
  rw [hy]
  refine Eq.trans ?_ ((terms m c y).trans (ref_col _ _ _ y).symm)
  rw [after0_7, Pipeline.eq_sum_fin_of_reset_step_apply_last (fun n h => (outsAt0 m c n h).2.2) 32 (fun _ => 0) (term m c)
    (fun t h j => step_A m c t h j) (fun t h j => step_B m c t h j) (by decide) t (by have := (flush0_7 t).mp hf; have hN : cfg0.N = 32 := rfl; omega) y, zero_add]
end Cert.DHmIdeal.Grad

end
-- ==== Proof.Dhm.lean ====
module

public import proofs.«01_k».proof.Defs
public import proofs.«01_k».proof.Proof.DhmValue
public import proofs.«01_k».proof.Proof.Gen.DHmIdeal.Value
public import proofs.«01_k».proof.Proof.Gen.DHmRefIdeal.Run
public import proofs.«01_k».proof.Proof.Gen.Pre_finite_dhm
public import Idealize.ShloMosaic.Lib.Quiescent

@[expose] public section

set_option maxRecDepth 16384

noncomputable section

open Idealize.ShloMosaic Idealize.ShloMosaic.TcCoe Idealize.SL.Sem

namespace Cert.Proof.Dhm

theorem frame_ref : Cert.quiescent_DHmRefIdeal := fun m ρ _ =>
  (θ_run Cert.DHmRefIdeal.defs _ _).mono
    (fun r h => ⟨fun c => (h c).2.2.2, Idealize.ShloMosaic.sem_eq_zero_of_no_sems (by decide) r.2⟩)
    (Cert.DHmRefIdeal.Value.run (F := Ideal) m ρ)

theorem frame_ref_pre : Cert.quiescent_DHmRefIdeal_pre_finite_dhm := fun m ρ _ => frame_ref m ρ trivial

/-- The precondition makes every entry of its four arrays a real number. -/
theorem tame (m) (h : Pre_DHmIdeal_finite_dhm m) (c) : Cert.DHmIdeal.Grad.Tame m c :=
  ⟨fun _ => Cert.Norm.Real.of_pre _ _ _ (h c).1 _, fun _ => Cert.Norm.Real.of_pre _ _ _ (h c).2.1 _,
    fun _ => Cert.Norm.Real.of_pre _ _ _ (h c).2.2.1 _, fun _ => Cert.Norm.Real.of_pre _ _ _ (h c).2.2.2 _⟩

theorem value : Cert.algebraic_DHmIdeal_DHmRefIdeal_pre_finite_dhm := fun m g m' g' hpre ha =>
  ⟨_, _, _,
    (θ_run _ _ _).mono (fun r h c => ⟨(h c).1.trans (Cert.DHmIdeal.Grad.final5 m c (tame m hpre c)),
      (h c).2.1.trans (Cert.DHmIdeal.Grad.final6 m c (tame m hpre c)),
      (h c).2.2.1.trans (Cert.DHmIdeal.Grad.final7 m c), (h c).2.2.2⟩)
      (Cert.DHmIdeal.Value.run_blocks (F := Ideal) m g),
    (θ_run _ _ _).mono (fun r h c => ⟨(h c).1.trans (by rw [← (ha c).1, ← (ha c).2.1, ← (ha c).2.2.1, ← (ha c).2.2.2.1, ← (ha c).2.2.2.2]; rfl),
      (h c).2.1.trans (by rw [← (ha c).1, ← (ha c).2.1, ← (ha c).2.2.1, ← (ha c).2.2.2.1, ← (ha c).2.2.2.2]; rfl),
      (h c).2.2.1.trans (by rw [← (ha c).1, ← (ha c).2.2.1, ← (ha c).2.2.2.1]; rfl), (h c).2.2.2⟩)
      (Cert.DHmRefIdeal.Value.run (F := Ideal) m' g')⟩

end Cert.Proof.Dhm

end
-- ==== Proof.DhValue.lean ====
module

public import proofs.«01_k».proof.Proof.Gen.DHIdeal.Frame
public import proofs.«01_k».proof.Proof.Gen.DHRefIdeal.Read
public import Idealize.ShloMosaic.Lib.Pipeline.ValueKit
public import Idealize.ShloMosaic.Lib.Pointwise
public import proofs.«01_k».proof.Proof.NormMath
public import proofs.«01_k».proof.Proof.RowStore

@[expose] public section

set_option maxRecDepth 16384

noncomputable section

open Idealize.ShloMosaic Idealize.ShloMosaic.TcCoe Idealize.SL.Sem
open Idealize.ShloMosaic.Pipeline (Dat)

namespace Cert.DHIdeal.Grad

open Cert.DHIdeal Cert.DHIdeal.Gen Cert.DHRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0]
    ∧ win0_6.index t = ![0, 0] :=
  (by decide +kernel : ∀ t : Fin grid0.N, _)

/-- The arguments that the norm's derivative reads are real numbers. -/
def Tame (c : Dev nD) : Prop :=
  (∀ i, Cert.Norm.Real (m ((c : Thread nD τ).loc main_arg0) i)) ∧ (∀ i, Cert.Norm.Real (m ((c : Thread nD τ).loc main_arg1) i))
  ∧ (∀ i, Cert.Norm.Real (m ((c : Thread nD τ).loc main_arg2) i)) ∧ ∀ i, Cert.Norm.Real (m ((c : Thread nD τ).loc main_arg3) i)

/-- The kernel's gradient of the row at an index: the closed form over the row and the scaled cotangent. -/
theorem kernel_row (g : FVec Ideal S512x4864 .bf16) (w : FVec Ideal S1024x4864 .bf16) (x : FVec Ideal S512x1024 .f32) (gain : FVec Ideal S1x1024 .f32) (y) :
    k0_pay7 (F := Ideal) g w x gain y
    = Cert.Norm.closed (fun k => x (ix2 (y 0) k)) (fun q => Cert.Norm.prod g w (y 0) q * gain (ix2 0 q)) (y 1) := by
  obtain ⟨p, q, rfl⟩ : ∃ p q, y = ix2 p q := ⟨y 0, y 1, funext fun a => match a with | ⟨0, _⟩ => rfl | ⟨1, _⟩ => rfl⟩
  pointwise [k0_pay7, k0_pay6, k0_pay5, k0_pay4]
  rfl

/-- The reference's result at an index: the residual's cotangent plus the three terms of the derivative. -/
theorem ref_row (x : FVec Ideal S16384x1024 .f32) (gain : FVec Ideal S1024 .f32) (w : FVec Ideal S1024x4864 .f32) (dy : FVec Ideal S16384x4864 .f32) (res : FVec Ideal S16384x1024 .f32) (i) :
    val_main_v38 (F := Ideal) x gain w dy res i
    = res i + Cert.Norm.chain (fun k => x (ix2 (i 0) k)) (fun q => Cert.Norm.prod dy w (i 0) q * gain (ix1 q)) (i 1) := by
  obtain ⟨p, q, rfl⟩ : ∃ p q, i = ix2 p q := ⟨i 0, i 1, funext fun a => match a with | ⟨0, _⟩ => rfl | ⟨1, _⟩ => rfl⟩
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_cst_6, val_main_v30, val_main_v31, val_main_cst_7, val_main_v32, val_main_v33, val_main_v34, val_main_v35, val_main_v36, val_main_v37, val_main_v38, val_main_v39, val_main_cst_8, val_main_v40, val_main_v41]
  simp only [Fin.sum_univ_one]
  rfl

/-- At real arguments the reference's result is the closed form. -/
theorem ref_closed (x : FVec Ideal S16384x1024 .f32) (gain : FVec Ideal S1024 .f32) (w : FVec Ideal S1024x4864 .f32) (dy : FVec Ideal S16384x4864 .f32) (res : FVec Ideal S16384x1024 .f32)
    (hx : ∀ i, Cert.Norm.Real (x i)) (hg : ∀ i, Cert.Norm.Real (gain i)) (hw : ∀ i, Cert.Norm.Real (w i)) (hd : ∀ i, Cert.Norm.Real (dy i)) (i) :
    val_main_v38 (F := Ideal) x gain w dy res i
    = res i + Cert.Norm.closed (fun k => x (ix2 (i 0) k)) (fun q => Cert.Norm.prod dy w (i 0) q * gain (ix1 q)) (i 1) :=
  (ref_row x gain w dy res i).trans (congrArg (res i + ·) (Cert.Norm.chain_eq _ _ (fun _ => hx _) (fun _ => (Cert.Norm.Real.prod hd hw _ _).mul (hg _)) _))

theorem read_x (c : Dev nD) (t : Fin cfg0.N) (y : S512x1024.Idx) (k) :
    iblk m c 2 t (ix2 (y 0) k) = m ((c : Thread nD τ).loc main_arg0) (ix2 (((cfg0.win 5).blk t).view.emb y 0) k) := by
  blk_point [iblk, V, idx t]

theorem read_prod (c : Dev nD) (t : Fin cfg0.N) (y : S512x1024.Idx) (q) :
    Cert.Norm.prod (iblk m c 0 t) (iblk m c 1 t) (y 0) q
    = Cert.Norm.prod (m ((c : Thread nD τ).loc main_arg3)) (m ((c : Thread nD τ).loc main_arg2)) (((cfg0.win 5).blk t).view.emb y 0) q := by
  unfold Cert.Norm.prod
  blk_point [iblk, V, idx t]

theorem read_gain (c : Dev nD) (t : Fin cfg0.N) (q) :
    iblk m c 4 t (ix2 0 q) = m ((c : Thread nD τ).loc main_arg1) (ix1 q) := by
  blk_simp [iblk, V, idx t]
  entry_read
  pointwise []
  refine congrArg (m ((c : Thread nD τ).loc main_arg1)) (congrArg ix1 (Fin.ext ?_))
  blk_simp [idx t]

theorem point (c : Dev nD) (hfin : Tame m c) (t : Fin cfg0.N) (y) : k0_pay1 (F := Ideal) (k0_pay7 (iblk m c 0 t) (iblk m c 1 t) (iblk m c 2 t) (iblk m c 4 t)) (iblk m c 3 t) y
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  refine Eq.trans ?_ (ref_closed _ _ _ _ _ hfin.1 hfin.2.1 hfin.2.2.1 hfin.2.2.2 _).symm
  refine congrArg₂ (· + ·) (by blk_point [iblk, V, idx t]) ?_
  refine (kernel_row _ _ _ _ y).trans ?_
  simp only [read_x, read_prod, read_gain]
  exact congrArg (Cert.Norm.closed _ _) (Fin.ext (by blk_simp [idx t]))

theorem final5 (c : Dev nD) (hfin : Tame m c) : (dats m 0 c).arrAt 5 (cfgs 0).N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  refine Eq.trans ?_ (point m c hfin t y)
  by_cases h : t.val % 32 = 0
  · rw [outsAt0_A m c t h]
    frame_out
  · rw [outsAt0_B m c t h]
    frame_out

/-- The kernel's running gain gradient after a tile: what it held plus the column sum over the tile's rows. -/
theorem kernel_col (g : FVec Ideal S512x4864 .bf16) (w : FVec Ideal S1024x4864 .bf16) (x : FVec Ideal S512x1024 .f32) (v : FVec Ideal S1x1024 .f32) (q : Fin 1024) :
    k0_pay2 (F := Ideal) (k0_pay8 g w x) v (ix2 0 q)
    = v (ix2 0 q) + ∑ p : Fin 512, Cert.Norm.prod g w p q * Cert.Norm.normed (fun k => x (ix2 p k)) q := by
  pointwise [k0_pay2, k0_pay8, k0_pay6, k0_pay5, k0_pay4]
  rfl

theorem ref_col (x : FVec Ideal S16384x1024 .f32) (w : FVec Ideal S1024x4864 .f32) (dy : FVec Ideal S16384x4864 .f32) (i) :
    val_main_v41 (F := Ideal) x w dy i
    = if (i 0).val = 0 then ∑ r : Fin 16384, Cert.Norm.prod dy w r (i 1) * Cert.Norm.normed (fun k => x (ix2 r k)) (i 1) else 0 := by
  obtain ⟨p, q, rfl⟩ : ∃ p q, i = ix2 p q := ⟨i 0, i 1, funext fun a => match a with | ⟨0, _⟩ => rfl | ⟨1, _⟩ => rfl⟩
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_cst_6, val_main_v30, val_main_v31, val_main_cst_7, val_main_v32, val_main_v33, val_main_v34, val_main_v35, val_main_v36, val_main_v37, val_main_v38, val_main_v39, val_main_cst_8, val_main_v40, val_main_v41]
  simp only [Fin.sum_univ_one]
  refine if_ctx_congr (by simp) (fun _ => ?_) (fun _ => rfl)
  exact Fin.sum_fin_congr fun k => mul_comm _ _

/-- What a tile adds to the gain gradient. -/
def term (c : Dev nD) (t : Fin cfg0.N) (j : S8x1024.Idx) : EReal :=
  if (j 0).val = 0 then ∑ p : Fin 512, Cert.Norm.prod (iblk m c 0 t) (iblk m c 1 t) p (j 1) * Cert.Norm.normed (fun k => iblk m c 2 t (ix2 p k)) (j 1) else 0

theorem step_A (c : Dev nD) (t : Fin cfg0.N) (h : t.val % 32 = 0) (j) : (outsAt0 m c t.val t.isLt).2 j = 0 + term m c t j := by
  rw [outsAt0_A m c t h]
  frame_out
  obtain ⟨p, q, rfl⟩ : ∃ p q, j = ix2 p q := ⟨j 0, j 1, funext fun a => match a with | ⟨0, _⟩ => rfl | ⟨1, _⟩ => rfl⟩
  refine (Cert.RowStore.canon _ _ _ _ p q).trans ?_
  have hz : ∀ i, k0_pay3 (F := Ideal) i = 0 := fun i => by pointwise [k0_pay3]
  unfold term
  rw [kernel_col, Cert.RowStore.load _ _ _ _ 0 rfl q, hz, hz]
  show ite (p.val = 0) _ _ = _ + ite (p.val = 0) _ _
  split_ifs <;> simp

theorem step_B (c : Dev nD) (t : Fin cfg0.N) (h : ¬t.val % 32 = 0) (j) :
    (outsAt0 m c t.val t.isLt).2 j = (outsAt0 m c (t.val - 1) (Nat.lt_of_le_of_lt (Nat.sub_le _ _) t.isLt)).2 j + term m c t j := by
  rw [outsAt0_B m c t h]
  frame_out
  obtain ⟨p, q, rfl⟩ : ∃ p q, j = ix2 p q := ⟨j 0, j 1, funext fun a => match a with | ⟨0, _⟩ => rfl | ⟨1, _⟩ => rfl⟩
  refine (Cert.RowStore.write _ _ _ _ _ p q).trans ?_
  rw [View.writes_nil]
  unfold term
  rw [kernel_col, Cert.RowStore.ld _ _ 0 rfl q]
  show ite (p.val = 0) _ _ = _ + ite (p.val = 0) _ _
  split_ifs with h0
  · rw [show p = 0 from Fin.ext h0]
    rfl
  · rw [add_zero, (hs0_6 t).read_unread]

theorem terms (c : Dev nD) (j : S8x1024.Idx) : (∑ t : Fin cfg0.N, term m c t j : EReal)
    = if (j 0).val = 0 then ∑ r : Fin 16384, Cert.Norm.prod (m ((c : Thread nD τ).loc main_arg3)) (m ((c : Thread nD τ).loc main_arg2)) r (j 1)
        * Cert.Norm.normed (fun k => m ((c : Thread nD τ).loc main_arg0) (ix2 r k)) (j 1) else 0 := by
  unfold term
  split_ifs with h0
  · refine Fin.sum_mul_add_congr fun s k hl => ?_
    refine congrArg₂ (· * ·) ?_ (congrArg (fun f => Cert.Norm.normed f (j 1)) (funext fun n => ?_))
    · unfold Cert.Norm.prod
      blk_point [iblk, V, idx s]
    · blk_point [iblk, V, idx s]
  · exact Finset.sum_const_zero

theorem final6 (c : Dev nD) : (dats m 0 c).arrAt 6 (cfgs 0).N = val_main_v41 (F := Ideal) (m ((c : Thread nD τ).loc main_arg0)) (m ((c : Thread nD τ).loc main_arg2)) (m ((c : Thread nD τ).loc main_arg3)) := by
  refine (dats m 0 c).arrAt_eq_of_covers 6 _ (by decide +kernel) fun t hf y => ?_
  blk_simp
  have hy : ((cfg0.win 6).blk t).view.emb y = y := by blk_ext [idx t]
  rw [hy]
  refine Eq.trans ?_ ((terms m c y).trans (ref_col _ _ _ y).symm)
  rw [after0_6, Pipeline.eq_sum_fin_of_reset_step_apply_last (fun n h => (outsAt0 m c n h).2) 32 (fun _ => 0) (term m c)
    (fun t h j => step_A m c t h j) (fun t h j => step_B m c t h j) (by decide) t (by have := (flush0_6 t).mp hf; have hN : cfg0.N = 32 := rfl; omega) y, zero_add]
end Cert.DHIdeal.Grad

end
-- ==== Proof.Dh.lean ====
module

public import proofs.«01_k».proof.Defs
public import proofs.«01_k».proof.Proof.DhValue
public import proofs.«01_k».proof.Proof.Gen.DHIdeal.Value
public import proofs.«01_k».proof.Proof.Gen.DHRefIdeal.Run
public import proofs.«01_k».proof.Proof.Gen.Pre_finite_dh
public import Idealize.ShloMosaic.Lib.Quiescent

@[expose] public section

set_option maxRecDepth 16384

noncomputable section

open Idealize.ShloMosaic Idealize.ShloMosaic.TcCoe Idealize.SL.Sem

namespace Cert.Proof.Dh

theorem frame_ref : Cert.quiescent_DHRefIdeal := fun m ρ _ =>
  (θ_run Cert.DHRefIdeal.defs _ _).mono
    (fun r h => ⟨fun c => (h c).2.2, Idealize.ShloMosaic.sem_eq_zero_of_no_sems (by decide) r.2⟩)
    (Cert.DHRefIdeal.Value.run (F := Ideal) m ρ)

theorem frame_ref_pre : Cert.quiescent_DHRefIdeal_pre_finite_dh := fun m ρ _ => frame_ref m ρ trivial

/-- The precondition makes every entry of its four arrays a real number. -/
theorem tame (m) (h : Pre_DHIdeal_finite_dh m) (c) : Cert.DHIdeal.Grad.Tame m c :=
  ⟨fun _ => Cert.Norm.Real.of_pre _ _ _ (h c).1 _, fun _ => Cert.Norm.Real.of_pre _ _ _ (h c).2.1 _,
    fun _ => Cert.Norm.Real.of_pre _ _ _ (h c).2.2.1 _, fun _ => Cert.Norm.Real.of_pre _ _ _ (h c).2.2.2 _⟩

theorem value : Cert.algebraic_DHIdeal_DHRefIdeal_pre_finite_dh := fun m g m' g' hpre ha =>
  ⟨_, _,
    (θ_run _ _ _).mono (fun r h c => ⟨(h c).1.trans (Cert.DHIdeal.Grad.final5 m c (tame m hpre c)),
      (h c).2.1.trans (Cert.DHIdeal.Grad.final6 m c), (h c).2.2⟩)
      (Cert.DHIdeal.Value.run_blocks (F := Ideal) m g),
    (θ_run _ _ _).mono (fun r h c => ⟨(h c).1.trans (by rw [← (ha c).1, ← (ha c).2.1, ← (ha c).2.2.1, ← (ha c).2.2.2.1, ← (ha c).2.2.2.2]; rfl),
      (h c).2.1.trans (by rw [← (ha c).1, ← (ha c).2.2.1, ← (ha c).2.2.2.1]; rfl), (h c).2.2⟩)
      (Cert.DHRefIdeal.Value.run (F := Ideal) m' g')⟩

end Cert.Proof.Dh

end
-- ==== Proof.HeadMath.lean ====
module

public import proofs.«01_k».proof.Proof.NormMath

@[expose] public section

noncomputable section

open Idealize.ShloMosaic

namespace Cert.HeadMath

open Cert.Norm

/-- The logistic function. -/
def gate (z : EReal) : EReal := Ideal.div 1 (1 + Ideal.exp (-z))

theorem gate_real {z : EReal} : Real z → Real (gate z) := by
  rintro ⟨r, rfl⟩
  unfold gate
  rw [← EReal.coe_neg, Ideal.exp_coe, ← EReal.coe_one, ← EReal.coe_add, div_real _ _ (by positivity)]
  exact ⟨_, rfl⟩

/-- Row `p` of an activation times column `q` of a weight. -/
def dot {a b n : ℕ} (x : (⟨2, ![a, n]⟩ : Shape).Idx → EReal) (w : (⟨2, ![n, b]⟩ : Shape).Idx → EReal) (p : Fin a) (q : Fin b) : EReal :=
  ∑ k : Fin n, x (ix2 p k) * w (ix2 k q)

/-- A row of the residual stream after the gated addition. -/
def resid {n : ℕ} (z pe x : Fin n → EReal) (q : Fin n) : EReal := x q + gate (z q) * pe q

/-- A row of the final norm minus the target. -/
def err {n : ℕ} (x g t : Fin n → EReal) (q : Fin n) : EReal := normed x q * g q - t q

/-- The loss's gradient in the norm's output. -/
def slope {n : ℕ} (x g t : Fin n → EReal) (q : Fin n) : EReal := err x g t q * Ideal.ofBits .f32 0x3A800000#32

theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_inv_1024 : Ideal.ofBits .f32 0x3A800000#32 = ((1 / 1024 : ℝ) : EReal) := by
  simp [Ideal.ofBits, Ideal.ieee, -EReal.coe_mul]; norm_num

/-- Half the mean of the squares: its gradient is the error over the row's length. -/
theorem scale_eq (e : EReal) : Ideal.div (Ideal.ofBits .f32 0x3F000000#32) (Ideal.ofBits .f32 0x44800000#32) * (Ideal.ofBits .f32 0x40000000#32 * e)
    = e * Ideal.ofBits .f32 0x3A800000#32 := by
  rw [ofBits_half, ofBits_two, ofBits_inv_1024, ofBits_1024, div_real _ _ (by norm_num), ← mul_assoc, ← EReal.coe_mul, mul_comm e]
  norm_num

theorem normed_real {n : ℕ} {x : Fin n → EReal} (hx : ∀ k, Real (x k)) (q : Fin n) : Real (normed x q) := by
  choose X hX using hx
  obtain rfl : x = fun k => (X k : EReal) := funext hX
  unfold normed
  rw [ofBits_1024, ofBits_eps]
  obtain ⟨hs, hpos⟩ := mean_sq X 1024 eps (by norm_num) eps_pos
  rw [hs, rsqrt_pos _ hpos, ← EReal.coe_mul]
  exact ⟨_, rfl⟩

theorem slope_real {n : ℕ} {x g t : Fin n → EReal} (hx : ∀ k, Real (x k)) (hg : ∀ k, Real (g k)) (ht : ∀ k, Real (t k)) (q : Fin n) : Real (slope x g t q) := by
  unfold slope err
  rw [ofBits_inv_1024]
  exact (((normed_real hx q).mul (hg q)).sub (ht q)).mul ⟨_, rfl⟩

theorem resid_real {n : ℕ} {z pe x : Fin n → EReal} (hz : ∀ k, Real (z k)) (hp : ∀ k, Real (pe k)) (hx : ∀ k, Real (x k)) (q : Fin n) : Real (resid z pe x q) :=
  (hx q).add ((gate_real (hz q)).mul (hp q))

end Cert.HeadMath

end
-- ==== Proof.HeadValue.lean ====
module

public import proofs.«01_k».proof.Proof.Gen.HeadIdeal.Frame
public import proofs.«01_k».proof.Proof.Gen.HeadRefIdeal.Read
public import Idealize.ShloMosaic.Lib.Pipeline.ValueKit
public import Idealize.ShloMosaic.Lib.Pointwise
public import proofs.«01_k».proof.Proof.HeadMath
public import proofs.«01_k».proof.Proof.RowStore

@[expose] public section

set_option maxRecDepth 16384

noncomputable section

open Idealize.ShloMosaic Idealize.ShloMosaic.TcCoe Idealize.SL.Sem
open Idealize.ShloMosaic.Pipeline (Dat)
open Cert.HeadRefIdeal.Read

namespace Cert.HeadIdeal.Grad

open Cert.HeadIdeal Cert.HeadIdeal.Gen

variable (m : (ℓ : Loc nD τ sig) → Buf (Elt Ideal) ℓ)

open Cert.HeadMath Cert.Norm

section Kernel

variable (a b : FVec Ideal S1024x1024 .bf16) (pe x2 tg : FVec Ideal S1024x1024 .f32) (gn : FVec Ideal S1x1024 .f32)

/-- Row `p` of the residual stream after the gated addition, of a tile. -/
def row (p : Fin 1024) : Fin 1024 → EReal :=
  resid (fun k => dot a b p k) (fun k => pe (ix2 p k)) fun k => x2 (ix2 p k)

theorem gate_apply (p q) : k0_pay4 (F := Ideal) a b (ix2 p q) = gate (dot a b p q) := by
  pointwise [k0_pay4]
  rw [zero_sub]
  rfl

theorem row_apply (p q) : k0_pay6 (F := Ideal) a b pe x2 (ix2 p q) = row a b pe x2 p q := by
  pointwise [k0_pay6]
  rw [gate_apply]
  rfl

theorem root_apply (p) : k0_pay7 (F := Ideal) a b pe x2 (ix2 p 0)
    = Ideal.rsqrt (Ideal.div (∑ k, row a b pe x2 p k * row a b pe x2 p k) (Ideal.ofBits .f32 0x44800000#32) + Ideal.ofBits .f32 0x358637BD#32) := by
  pointwise [k0_pay7]
  simp only [row_apply]

theorem normed_apply (p q) : k0_pay8 (F := Ideal) a b pe x2 (ix2 p q) = normed (row a b pe x2 p) q := by
  pointwise [k0_pay8]
  rw [row_apply, root_apply]
  rfl

theorem err_apply (p q) : k0_pay10 (F := Ideal) (k0_pay9 a b pe gn x2) tg (ix2 p q) = err (row a b pe x2 p) (fun k => gn (ix2 0 k)) (fun k => tg (ix2 p k)) q := by
  pointwise [k0_pay10, k0_pay9, k0_pay5]
  rw [normed_apply]
  rfl

theorem slope_apply (p q) : k0_pay11 (F := Ideal) (k0_pay9 a b pe gn x2) tg (ix2 p q) = slope (row a b pe x2 p) (fun k => gn (ix2 0 k)) (fun k => tg (ix2 p k)) q := by
  pointwise [k0_pay11]
  rw [err_apply]
  rfl

theorem grad_apply (p q) : k0_pay12 (F := Ideal) (k0_pay5 gn) (k0_pay7 a b pe x2) (k0_pay8 a b pe x2) (k0_pay9 a b pe gn x2) tg (ix2 p q)
    = closed (row a b pe x2 p) (fun k => slope (row a b pe x2 p) (fun k => gn (ix2 0 k)) (fun k => tg (ix2 p k)) k * gn (ix2 0 k)) q := by
  pointwise [k0_pay12, k0_pay5]
  simp only [slope_apply, normed_apply, root_apply]
  rfl

theorem gate_grad (p q) : k0_pay14 (F := Ideal) (k0_pay4 a b) pe (k0_pay5 gn) (k0_pay7 a b pe x2) (k0_pay8 a b pe x2) (k0_pay9 a b pe gn x2) tg (ix2 p q)
    = k0_pay12 (F := Ideal) (k0_pay5 gn) (k0_pay7 a b pe x2) (k0_pay8 a b pe x2) (k0_pay9 a b pe gn x2) tg (ix2 p q) * pe (ix2 p q) * gate (dot a b p q) * (1 - gate (dot a b p q)) := by
  pointwise [k0_pay14]
  rw [gate_apply]

theorem pe_grad (p q) : k0_pay15 (F := Ideal) (k0_pay4 a b) (k0_pay5 gn) (k0_pay7 a b pe x2) (k0_pay8 a b pe x2) (k0_pay9 a b pe gn x2) tg (ix2 p q) = k0_pay12 (F := Ideal) (k0_pay5 gn) (k0_pay7 a b pe x2) (k0_pay8 a b pe x2) (k0_pay9 a b pe gn x2) tg (ix2 p q) * gate (dot a b p q) := by
  pointwise [k0_pay15]
  rw [gate_apply]

theorem squares (v : FVec Ideal S1x1024 .f32) (q : Fin 1024) : k0_pay16 (F := Ideal) (k0_pay9 a b pe gn x2) tg v (ix2 0 q)
    = v (ix2 0 q) + ∑ p : Fin 1024, err (row a b pe x2 p) (fun k => gn (ix2 0 k)) (fun k => tg (ix2 p k)) q * err (row a b pe x2 p) (fun k => gn (ix2 0 k)) (fun k => tg (ix2 p k)) q := by
  pointwise [k0_pay16]
  simp only [err_apply]

theorem gain_grad (v : FVec Ideal S1x1024 .f32) (q : Fin 1024) : k0_pay1 (F := Ideal) (k0_pay13 (k0_pay8 a b pe x2) (k0_pay9 a b pe gn x2) tg) (k0_pay17 v) (ix2 0 q)
    = v (ix2 0 q) + ∑ p : Fin 1024, slope (row a b pe x2 p) (fun k => gn (ix2 0 k)) (fun k => tg (ix2 p k)) q * normed (row a b pe x2 p) q := by
  pointwise [k0_pay1, k0_pay13, k0_pay17]
  simp only [slope_apply, normed_apply]

end Kernel

section Reference

variable (hp : FVec Ideal S16384x1024 .f32) (w : FVec Ideal S1024x1024 .f32) (pe x2 tg : FVec Ideal S16384x1024 .f32) (gn : FVec Ideal S1024 .f32)

/-- Row `p` of the residual stream after the gated addition. -/
def wholeRow (p : Fin 16384) : Fin 1024 → EReal :=
  resid (fun k => dot hp w p k) (fun k => pe (ix2 p k)) fun k => x2 (ix2 p k)

theorem ref_gate (p q) : val_main_v6 (F := Ideal) hp w (ix2 p q) = gate (dot hp w p q) := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_cst_2, val_main_v13, val_main_v14, val_main_cst_3, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_cst_7, val_main_v32, val_main_cst_8, val_main_v33, val_main_v34, val_main_cst_9, val_main_v35, val_main_cst_10, val_main_v36, val_main_cst_11, val_main_cst_12, val_main_v37, val_main_v38, val_main_cst_13, val_main_v39, val_main_v40, val_main_v41, val_main_v42, val_main_v43, val_main_cst_14, val_main_v44, val_main_v45, val_main_v46, val_main_v47, val_main_cst_15, val_main_v48, val_main_v49, val_main_cst_16, val_main_v50, val_main_v51, val_main_v52, val_main_v53, val_main_v54, val_main_cst_17, val_main_v55, val_main_v56, val_main_cst_18, val_main_v57, val_main_v58, val_main_v59, val_main_v60, val_main_v61, val_main_v62, val_main_v63, val_main_v64, val_main_v65, val_main_v66, val_main_v67, val_main_cst_19, val_main_v68, val_main_v69, val_main_cst_20, val_main_v70, val_main_v71, val_main_v72, val_main_v73, val_main_v74, val_main_cst_21, val_main_v75, val_main_v76, val_main_cst_22, val_main_v77, val_main_v78, val_main_cst_23, val_main_v79, val_main_v80, val_main_v81, val_main_v82, val_main_v83, val_main_v84, val_main_v85, val_main_v86, val_main_v87, val_main_v88, val_main_cst_24, val_main_v89, val_main_v90, val_main_v91, val_main_v92, val_main_cst_25, val_main_v93, val_main_v94, val_main_v95, val_main_cst_26, val_main_v96, val_main_v97]
  rfl

theorem ref_row (p q) : val_main_v11 (F := Ideal) hp w pe x2 (ix2 p q) = wholeRow hp w pe x2 p q := by
  pointwise [val_main_v0, val_main_v1, val_main_v2, val_main_cst, val_main_v3, val_main_v4, val_main_cst_0, val_main_v5, val_main_cst_1, val_main_v7, val_main_v8, val_main_v9, val_main_v10, val_main_v11, val_main_v12, val_main_cst_2, val_main_v13, val_main_v14, val_main_cst_3, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_cst_7, val_main_v32, val_main_cst_8, val_main_v33, val_main_v34, val_main_cst_9, val_main_v35, val_main_cst_10, val_main_v36, val_main_cst_11, val_main_cst_12, val_main_v37, val_main_v38, val_main_cst_13, val_main_v39, val_main_v40, val_main_v41, val_main_v42, val_main_v43, val_main_cst_14, val_main_v44, val_main_v45, val_main_v46, val_main_v47, val_main_cst_15, val_main_v48, val_main_v49, val_main_cst_16, val_main_v50, val_main_v51, val_main_v52, val_main_v53, val_main_v54, val_main_cst_17, val_main_v55, val_main_v56, val_main_cst_18, val_main_v57, val_main_v58, val_main_v59, val_main_v60, val_main_v61, val_main_v62, val_main_v63, val_main_v64, val_main_v65, val_main_v66, val_main_v67, val_main_cst_19, val_main_v68, val_main_v69, val_main_cst_20, val_main_v70, val_main_v71, val_main_v72, val_main_v73, val_main_v74, val_main_cst_21, val_main_v75, val_main_v76, val_main_cst_22, val_main_v77, val_main_v78, val_main_cst_23, val_main_v79, val_main_v80, val_main_v81, val_main_v82, val_main_v83, val_main_v84, val_main_v85, val_main_v86, val_main_v87, val_main_v88, val_main_cst_24, val_main_v89, val_main_v90, val_main_v91, val_main_v92, val_main_cst_25, val_main_v93, val_main_v94, val_main_v95, val_main_cst_26, val_main_v96, val_main_v97]
  rw [ref_gate]
  rfl

theorem ref_normed (p q) : val_main_v24 (F := Ideal) hp w pe x2 (ix2 p q) = normed (wholeRow hp w pe x2 p) q := by
  pointwise [val_main_v0, val_main_v1, val_main_v2, val_main_cst, val_main_v3, val_main_v4, val_main_cst_0, val_main_v5, val_main_v6, val_main_cst_1, val_main_v7, val_main_v8, val_main_v9, val_main_v10, val_main_v12, val_main_cst_2, val_main_v13, val_main_v14, val_main_cst_3, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_cst_7, val_main_v32, val_main_cst_8, val_main_v33, val_main_v34, val_main_cst_9, val_main_v35, val_main_cst_10, val_main_v36, val_main_cst_11, val_main_cst_12, val_main_v37, val_main_v38, val_main_cst_13, val_main_v39, val_main_v40, val_main_v41, val_main_v42, val_main_v43, val_main_cst_14, val_main_v44, val_main_v45, val_main_v46, val_main_v47, val_main_cst_15, val_main_v48, val_main_v49, val_main_cst_16, val_main_v50, val_main_v51, val_main_v52, val_main_v53, val_main_v54, val_main_cst_17, val_main_v55, val_main_v56, val_main_cst_18, val_main_v57, val_main_v58, val_main_v59, val_main_v60, val_main_v61, val_main_v62, val_main_v63, val_main_v64, val_main_v65, val_main_v66, val_main_v67, val_main_cst_19, val_main_v68, val_main_v69, val_main_cst_20, val_main_v70, val_main_v71, val_main_v72, val_main_v73, val_main_v74, val_main_cst_21, val_main_v75, val_main_v76, val_main_cst_22, val_main_v77, val_main_v78, val_main_cst_23, val_main_v79, val_main_v80, val_main_v81, val_main_v82, val_main_v83, val_main_v84, val_main_v85, val_main_v86, val_main_v87, val_main_v88, val_main_cst_24, val_main_v89, val_main_v90, val_main_v91, val_main_v92, val_main_cst_25, val_main_v93, val_main_v94, val_main_v95, val_main_cst_26, val_main_v96, val_main_v97]
  simp only [ref_row]
  rfl

theorem ref_slope (p q) : val_main_v42 (F := Ideal) hp w pe x2 tg gn (ix2 p q) = slope (wholeRow hp w pe x2 p) (fun k => gn (ix1 k)) (fun k => tg (ix2 p k)) q := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_cst_2, val_main_v13, val_main_v14, val_main_cst_3, val_main_v15, val_main_v16, val_main_cst_4, val_main_v17, val_main_v18, val_main_v19, val_main_v20, val_main_cst_5, val_main_v21, val_main_v22, val_main_v23, val_main_v25, val_main_v26, val_main_v27, val_main_v28, val_main_v29, val_main_cst_6, val_main_v30, val_main_v31, val_main_cst_7, val_main_v32, val_main_cst_8, val_main_v33, val_main_v34, val_main_cst_9, val_main_v35, val_main_cst_10, val_main_v36, val_main_cst_11, val_main_cst_12, val_main_v37, val_main_v38, val_main_cst_13, val_main_v39, val_main_v40, val_main_v41, val_main_v42, val_main_v43, val_main_cst_14, val_main_v44, val_main_v45, val_main_v46, val_main_v47, val_main_cst_15, val_main_v48, val_main_v49, val_main_cst_16, val_main_v50, val_main_v51, val_main_v52, val_main_v53, val_main_v54, val_main_cst_17, val_main_v55, val_main_v56, val_main_cst_18, val_main_v57, val_main_v58, val_main_v59, val_main_v60, val_main_v61, val_main_v62, val_main_v63, val_main_v64, val_main_v65, val_main_v66, val_main_v67, val_main_cst_19, val_main_v68, val_main_v69, val_main_cst_20, val_main_v70, val_main_v71, val_main_v72, val_main_v73, val_main_v74, val_main_cst_21, val_main_v75, val_main_v76, val_main_cst_22, val_main_v77, val_main_v78, val_main_cst_23, val_main_v79, val_main_v80, val_main_v81, val_main_v82, val_main_v83, val_main_v84, val_main_v85, val_main_v86, val_main_v87, val_main_v88, val_main_cst_24, val_main_v89, val_main_v90, val_main_v91, val_main_v92, val_main_cst_25, val_main_v93, val_main_v94, val_main_v95, val_main_cst_26, val_main_v96, val_main_v97]
  rw [ref_normed]
  exact scale_eq _

theorem ref_grad (p q) : val_main_v62 (F := Ideal) hp w pe x2 tg gn (ix2 p q)
    = chain (wholeRow hp w pe x2 p) (fun k => slope (wholeRow hp w pe x2 p) (fun k => gn (ix1 k)) (fun k => tg (ix2 p k)) k * gn (ix1 k)) q := by
  pointwise [val_main_v0, val_main_v1, val_main_v2, val_main_cst, val_main_v3, val_main_v4, val_main_cst_0, val_main_v5, val_main_v6, val_main_cst_1, val_main_v7, val_main_v8, val_main_v9, val_main_v10, val_main_v12, val_main_cst_2, val_main_v13, val_main_v14, val_main_cst_3, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_cst_7, val_main_v32, val_main_cst_8, val_main_v33, val_main_v34, val_main_cst_9, val_main_v35, val_main_cst_10, val_main_v36, val_main_cst_11, val_main_cst_12, val_main_v37, val_main_v38, val_main_cst_13, val_main_v39, val_main_v40, val_main_v41, val_main_v43, val_main_cst_14, val_main_v44, val_main_v45, val_main_v46, val_main_v47, val_main_cst_15, val_main_v48, val_main_v49, val_main_cst_16, val_main_v50, val_main_v51, val_main_v52, val_main_v53, val_main_v54, val_main_cst_17, val_main_v55, val_main_v56, val_main_cst_18, val_main_v57, val_main_v58, val_main_v59, val_main_v60, val_main_v61, val_main_v62, val_main_v63, val_main_v64, val_main_v65, val_main_v66, val_main_v67, val_main_cst_19, val_main_v68, val_main_v69, val_main_cst_20, val_main_v70, val_main_v71, val_main_v72, val_main_v73, val_main_v74, val_main_cst_21, val_main_v75, val_main_v76, val_main_cst_22, val_main_v77, val_main_v78, val_main_cst_23, val_main_v79, val_main_v80, val_main_v81, val_main_v82, val_main_v83, val_main_v84, val_main_v85, val_main_v86, val_main_v87, val_main_v88, val_main_cst_24, val_main_v89, val_main_v90, val_main_v91, val_main_v92, val_main_cst_25, val_main_v93, val_main_v94, val_main_v95, val_main_cst_26, val_main_v96, val_main_v97]
  simp only [Fin.sum_univ_one, ref_row, ref_slope]
  rfl

theorem ref_gate_grad (p q) : val_main_v90 (F := Ideal) hp w pe x2 tg gn (ix2 p q)
    = val_main_v62 (F := Ideal) hp w pe x2 tg gn (ix2 p q) * pe (ix2 p q) * (gate (dot hp w p q) * (1 - gate (dot hp w p q))) := by
  pointwise [val_main_v0, val_main_v1, val_main_v2, val_main_cst, val_main_v3, val_main_v4, val_main_cst_0, val_main_v5, val_main_cst_1, val_main_v7, val_main_v8, val_main_v9, val_main_v10, val_main_v11, val_main_v12, val_main_cst_2, val_main_v13, val_main_v14, val_main_cst_3, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_cst_7, val_main_v32, val_main_cst_8, val_main_v33, val_main_v34, val_main_cst_9, val_main_v35, val_main_cst_10, val_main_v36, val_main_cst_11, val_main_cst_12, val_main_v37, val_main_v38, val_main_cst_13, val_main_v39, val_main_v40, val_main_v41, val_main_v42, val_main_v43, val_main_cst_14, val_main_v44, val_main_v45, val_main_v46, val_main_v47, val_main_cst_15, val_main_v48, val_main_v49, val_main_cst_16, val_main_v50, val_main_v51, val_main_v52, val_main_v53, val_main_v54, val_main_cst_17, val_main_v55, val_main_v56, val_main_cst_18, val_main_v57, val_main_v58, val_main_v59, val_main_v60, val_main_v61, val_main_v63, val_main_v64, val_main_v65, val_main_v66, val_main_v67, val_main_cst_19, val_main_v68, val_main_v69, val_main_cst_20, val_main_v70, val_main_v71, val_main_v72, val_main_v73, val_main_v74, val_main_cst_21, val_main_v75, val_main_v76, val_main_cst_22, val_main_v77, val_main_v78, val_main_cst_23, val_main_v79, val_main_v80, val_main_v81, val_main_v82, val_main_v83, val_main_v84, val_main_v85, val_main_v86, val_main_v87, val_main_v88, val_main_cst_24, val_main_v89, val_main_v90, val_main_v91, val_main_v92, val_main_cst_25, val_main_v93, val_main_v94, val_main_v95, val_main_cst_26, val_main_v96, val_main_v97]
  rw [ref_gate]

theorem ref_pe_grad (p q) : val_main_v91 (F := Ideal) hp w pe x2 tg gn (ix2 p q)
    = gate (dot hp w p q) * val_main_v62 (F := Ideal) hp w pe x2 tg gn (ix2 p q) := by
  pointwise [val_main_v0, val_main_v1, val_main_v2, val_main_cst, val_main_v3, val_main_v4, val_main_cst_0, val_main_v5, val_main_cst_1, val_main_v7, val_main_v8, val_main_v9, val_main_v10, val_main_v11, val_main_v12, val_main_cst_2, val_main_v13, val_main_v14, val_main_cst_3, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_cst_7, val_main_v32, val_main_cst_8, val_main_v33, val_main_v34, val_main_cst_9, val_main_v35, val_main_cst_10, val_main_v36, val_main_cst_11, val_main_cst_12, val_main_v37, val_main_v38, val_main_cst_13, val_main_v39, val_main_v40, val_main_v41, val_main_v42, val_main_v43, val_main_cst_14, val_main_v44, val_main_v45, val_main_v46, val_main_v47, val_main_cst_15, val_main_v48, val_main_v49, val_main_cst_16, val_main_v50, val_main_v51, val_main_v52, val_main_v53, val_main_v54, val_main_cst_17, val_main_v55, val_main_v56, val_main_cst_18, val_main_v57, val_main_v58, val_main_v59, val_main_v60, val_main_v61, val_main_v63, val_main_v64, val_main_v65, val_main_v66, val_main_v67, val_main_cst_19, val_main_v68, val_main_v69, val_main_cst_20, val_main_v70, val_main_v71, val_main_v72, val_main_v73, val_main_v74, val_main_cst_21, val_main_v75, val_main_v76, val_main_cst_22, val_main_v77, val_main_v78, val_main_cst_23, val_main_v79, val_main_v80, val_main_v81, val_main_v82, val_main_v83, val_main_v84, val_main_v85, val_main_v86, val_main_v87, val_main_v88, val_main_cst_24, val_main_v89, val_main_v90, val_main_v91, val_main_v92, val_main_cst_25, val_main_v93, val_main_v94, val_main_v95, val_main_cst_26, val_main_v96, val_main_v97]
  rw [ref_gate]

theorem ref_row_again (p q) : val_main_v73 (F := Ideal) hp w pe x2 (ix2 p q) = wholeRow hp w pe x2 p q := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_cst_2, val_main_v13, val_main_v14, val_main_cst_3, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_cst_7, val_main_v32, val_main_cst_8, val_main_v33, val_main_v34, val_main_cst_9, val_main_v35, val_main_cst_10, val_main_v36, val_main_cst_11, val_main_cst_12, val_main_v37, val_main_v38, val_main_cst_13, val_main_v39, val_main_v40, val_main_v41, val_main_v42, val_main_v43, val_main_cst_14, val_main_v44, val_main_v45, val_main_v46, val_main_v47, val_main_cst_15, val_main_v48, val_main_v49, val_main_cst_16, val_main_v50, val_main_v51, val_main_v52, val_main_v53, val_main_v54, val_main_cst_17, val_main_v55, val_main_v56, val_main_cst_18, val_main_v57, val_main_v58, val_main_v59, val_main_v60, val_main_v61, val_main_v62, val_main_v63, val_main_v64, val_main_v65, val_main_v66, val_main_v67, val_main_cst_19, val_main_v68, val_main_v69, val_main_cst_20, val_main_v70, val_main_v71, val_main_v72, val_main_v73, val_main_v74, val_main_cst_21, val_main_v75, val_main_v76, val_main_cst_22, val_main_v77, val_main_v78, val_main_cst_23, val_main_v79, val_main_v80, val_main_v81, val_main_v82, val_main_v83, val_main_v84, val_main_v85, val_main_v86, val_main_v87, val_main_v88, val_main_cst_24, val_main_v89, val_main_v90, val_main_v91, val_main_v92, val_main_cst_25, val_main_v93, val_main_v94, val_main_v95, val_main_cst_26, val_main_v96, val_main_v97]
  rfl

theorem ref_err (p q) : val_main_v87 (F := Ideal) hp w pe x2 tg gn (ix2 p q) = err (wholeRow hp w pe x2 p) (fun k => gn (ix1 k)) (fun k => tg (ix2 p k)) q := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_cst_2, val_main_v13, val_main_v14, val_main_cst_3, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_cst_7, val_main_v32, val_main_cst_8, val_main_v33, val_main_v34, val_main_cst_9, val_main_v35, val_main_cst_10, val_main_v36, val_main_cst_11, val_main_cst_12, val_main_v37, val_main_v38, val_main_cst_13, val_main_v39, val_main_v40, val_main_v41, val_main_v42, val_main_v43, val_main_cst_14, val_main_v44, val_main_v45, val_main_v46, val_main_v47, val_main_cst_15, val_main_v48, val_main_v49, val_main_cst_16, val_main_v50, val_main_v51, val_main_v52, val_main_v53, val_main_v54, val_main_cst_17, val_main_v55, val_main_v56, val_main_cst_18, val_main_v57, val_main_v58, val_main_v59, val_main_v60, val_main_v61, val_main_v62, val_main_v63, val_main_v64, val_main_v65, val_main_v66, val_main_v67, val_main_cst_19, val_main_v68, val_main_v69, val_main_cst_20, val_main_v70, val_main_v71, val_main_v72, val_main_v74, val_main_cst_21, val_main_v75, val_main_v76, val_main_cst_22, val_main_v77, val_main_v78, val_main_cst_23, val_main_v79, val_main_v80, val_main_v81, val_main_v82, val_main_v83, val_main_v84, val_main_v85, val_main_v86, val_main_v87, val_main_v88, val_main_cst_24, val_main_v89, val_main_v90, val_main_v91, val_main_v92, val_main_cst_25, val_main_v93, val_main_v94, val_main_v95, val_main_cst_26, val_main_v96, val_main_v97]
  simp only [ref_row_again]
  rfl

theorem ref_squares (y) : val_main_v94 (F := Ideal) hp w pe x2 tg gn y = if (y 0).val = 0 then
    ∑ r : Fin 16384, err (wholeRow hp w pe x2 r) (fun k => gn (ix1 k)) (fun k => tg (ix2 r k)) (y 1) * err (wholeRow hp w pe x2 r) (fun k => gn (ix1 k)) (fun k => tg (ix2 r k)) (y 1) else 0 := by
  obtain ⟨p, q, rfl⟩ : ∃ p q, y = ix2 p q := ⟨y 0, y 1, funext fun a => match a with | ⟨0, _⟩ => rfl | ⟨1, _⟩ => rfl⟩
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_cst_2, val_main_v13, val_main_v14, val_main_cst_3, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_cst_7, val_main_v32, val_main_cst_8, val_main_v33, val_main_v34, val_main_cst_9, val_main_v35, val_main_cst_10, val_main_v36, val_main_cst_11, val_main_cst_12, val_main_v37, val_main_v38, val_main_cst_13, val_main_v39, val_main_v40, val_main_v41, val_main_v42, val_main_v43, val_main_cst_14, val_main_v44, val_main_v45, val_main_v46, val_main_v47, val_main_cst_15, val_main_v48, val_main_v49, val_main_cst_16, val_main_v50, val_main_v51, val_main_v52, val_main_v53, val_main_v54, val_main_cst_17, val_main_v55, val_main_v56, val_main_cst_18, val_main_v57, val_main_v58, val_main_v59, val_main_v60, val_main_v61, val_main_v62, val_main_v63, val_main_v64, val_main_v65, val_main_v66, val_main_v67, val_main_cst_19, val_main_v68, val_main_v69, val_main_cst_20, val_main_v70, val_main_v71, val_main_v72, val_main_v73, val_main_v74, val_main_cst_21, val_main_v75, val_main_v76, val_main_cst_22, val_main_v77, val_main_v78, val_main_cst_23, val_main_v79, val_main_v80, val_main_v81, val_main_v82, val_main_v83, val_main_v84, val_main_v85, val_main_v86, val_main_v88, val_main_cst_24, val_main_v89, val_main_v90, val_main_v91, val_main_v92, val_main_cst_25, val_main_v93, val_main_v94, val_main_v95, val_main_cst_26, val_main_v96, val_main_v97]
  refine if_ctx_congr (by simp) (fun _ => ?_) (fun _ => rfl)
  simp only [ref_err]

theorem ref_gain_grad (y) : val_main_v97 (F := Ideal) hp w pe x2 tg gn y = if (y 0).val = 0 then
    ∑ r : Fin 16384, slope (wholeRow hp w pe x2 r) (fun k => gn (ix1 k)) (fun k => tg (ix2 r k)) (y 1) * normed (wholeRow hp w pe x2 r) (y 1) else 0 := by
  obtain ⟨p, q, rfl⟩ : ∃ p q, y = ix2 p q := ⟨y 0, y 1, funext fun a => match a with | ⟨0, _⟩ => rfl | ⟨1, _⟩ => rfl⟩
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_cst_2, val_main_v13, val_main_v14, val_main_cst_3, val_main_v15, val_main_v16, val_main_cst_4, val_main_v17, val_main_v18, val_main_v19, val_main_v20, val_main_cst_5, val_main_v21, val_main_v22, val_main_v23, val_main_v25, val_main_v26, val_main_v27, val_main_v28, val_main_v29, val_main_cst_6, val_main_v30, val_main_v31, val_main_cst_7, val_main_v32, val_main_cst_8, val_main_v33, val_main_v34, val_main_cst_9, val_main_v35, val_main_cst_10, val_main_v36, val_main_cst_11, val_main_cst_12, val_main_v37, val_main_v38, val_main_cst_13, val_main_v39, val_main_v40, val_main_v41, val_main_v43, val_main_cst_14, val_main_v44, val_main_v45, val_main_v46, val_main_v47, val_main_cst_15, val_main_v48, val_main_v49, val_main_cst_16, val_main_v50, val_main_v51, val_main_v52, val_main_v53, val_main_v54, val_main_cst_17, val_main_v55, val_main_v56, val_main_cst_18, val_main_v57, val_main_v58, val_main_v59, val_main_v60, val_main_v61, val_main_v62, val_main_v63, val_main_v64, val_main_v65, val_main_v66, val_main_v67, val_main_cst_19, val_main_v68, val_main_v69, val_main_cst_20, val_main_v70, val_main_v71, val_main_v72, val_main_v73, val_main_v74, val_main_cst_21, val_main_v75, val_main_v76, val_main_cst_22, val_main_v77, val_main_v78, val_main_cst_23, val_main_v79, val_main_v80, val_main_v81, val_main_v82, val_main_v83, val_main_v84, val_main_v85, val_main_v86, val_main_v87, val_main_v88, val_main_cst_24, val_main_v89, val_main_v90, val_main_v91, val_main_v92, val_main_cst_25, val_main_v93, val_main_v94, val_main_v95, val_main_cst_26, val_main_v96, val_main_v97]
  refine if_ctx_congr (by simp) (fun _ => ?_) (fun _ => rfl)
  simp only [Fin.sum_univ_one, ref_slope, ref_normed]
  exact Fin.sum_fin_congr fun k => mul_comm _ _

end Reference

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] ∧ win0_10.index t = ![0, 0] :=
  (by decide +kernel : ∀ t : Fin grid0.N, _)

/-- The arguments that the norm's derivative reads are real numbers. -/
def Tame (c : Dev nD) : Prop :=
  (∀ i, Cert.Norm.Real (m ((c : Thread nD τ).loc main_arg0) i)) ∧ (∀ i, Cert.Norm.Real (m ((c : Thread nD τ).loc main_arg1) i)) ∧ (∀ i, Cert.Norm.Real (m ((c : Thread nD τ).loc main_arg2) i)) ∧ (∀ i, Cert.Norm.Real (m ((c : Thread nD τ).loc main_arg3) i)) ∧ (∀ i, Cert.Norm.Real (m ((c : Thread nD τ).loc main_arg4) i)) ∧ (∀ i, Cert.Norm.Real (m ((c : Thread nD τ).loc main_arg5) i))

theorem read_dot (c : Dev nD) (t : Fin cfg0.N) (p : Fin 1024) (r : Fin 16384) (hr : r.val = t.val * 1024 + p.val) (q) :
    dot (iblk m c 0 t) (iblk m c 1 t) p q = dot (m ((c : Thread nD τ).loc main_arg0)) (m ((c : Thread nD τ).loc main_arg1)) r q := by
  obtain ⟨v, hv⟩ := r
  obtain rfl : v = t.val * 1024 + p.val := hr
  unfold dot
  blk_point [iblk, V, idx t]

theorem read_row (c : Dev nD) (t : Fin cfg0.N) (p : Fin 1024) (r : Fin 16384) (hr : r.val = t.val * 1024 + p.val) :
    row (iblk m c 0 t) (iblk m c 1 t) (iblk m c 2 t) (iblk m c 3 t) p = wholeRow (m ((c : Thread nD τ).loc main_arg0)) (m ((c : Thread nD τ).loc main_arg1)) (m ((c : Thread nD τ).loc main_arg2)) (m ((c : Thread nD τ).loc main_arg3)) r := by
  unfold row wholeRow
  simp only [read_dot m c t p r hr]
  obtain ⟨v, hv⟩ := r
  obtain rfl : v = t.val * 1024 + p.val := hr
  refine congrArg₂ (resid _) (funext fun k => ?_) (funext fun k => ?_) <;> blk_point [iblk, V, idx t]

theorem read_pe (c : Dev nD) (t : Fin cfg0.N) (p : Fin 1024) (r : Fin 16384) (hr : r.val = t.val * 1024 + p.val) (k) :
    iblk m c 2 t (ix2 p k) = (m ((c : Thread nD τ).loc main_arg2)) (ix2 r k) := by
  obtain ⟨v, hv⟩ := r
  obtain rfl : v = t.val * 1024 + p.val := hr
  blk_point [iblk, V, idx t]

theorem read_target (c : Dev nD) (t : Fin cfg0.N) (p : Fin 1024) (r : Fin 16384) (hr : r.val = t.val * 1024 + p.val) (k) :
    iblk m c 4 t (ix2 p k) = (m ((c : Thread nD τ).loc main_arg4)) (ix2 r k) := by
  obtain ⟨v, hv⟩ := r
  obtain rfl : v = t.val * 1024 + p.val := hr
  blk_point [iblk, V, idx t]

theorem read_gain (c : Dev nD) (t : Fin cfg0.N) (q) : iblk m c 5 t (ix2 0 q) = (m ((c : Thread nD τ).loc main_arg5)) (ix1 q) := by
  blk_simp [iblk, V, idx t]
  entry_read
  pointwise []
  refine congrArg (m ((c : Thread nD τ).loc main_arg5)) (congrArg ix1 (Fin.ext ?_))
  blk_simp [idx t]

theorem whole_real (c : Dev nD) (h : Tame m c) (r k) : Real (wholeRow (m ((c : Thread nD τ).loc main_arg0)) (m ((c : Thread nD τ).loc main_arg1)) (m ((c : Thread nD τ).loc main_arg2)) (m ((c : Thread nD τ).loc main_arg3)) r k) :=
  resid_real (fun _ => Real.sum _ fun _ => (h.1 _).mul (h.2.1 _)) (fun _ => h.2.2.1 _) (fun _ => h.2.2.2.1 _) k

theorem point (c : Dev nD) (h : Tame m c) (t : Fin cfg0.N) (p : Fin 1024) (q : Fin 1024) (r : Fin 16384) (hr : r.val = t.val * 1024 + p.val) : k0_pay12 (F := Ideal) (k0_pay5 (iblk m c 5 t)) (k0_pay7 (iblk m c 0 t) (iblk m c 1 t) (iblk m c 2 t) (iblk m c 3 t)) (k0_pay8 (iblk m c 0 t) (iblk m c 1 t) (iblk m c 2 t) (iblk m c 3 t)) (k0_pay9 (iblk m c 0 t) (iblk m c 1 t) (iblk m c 2 t) (iblk m c 5 t) (iblk m c 3 t)) (iblk m c 4 t) (ix2 p q)
    = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r q) := by
  rw [ref_grad, grad_apply]
  simp only [read_row m c t p r hr, read_target m c t p r hr, read_gain]
  exact (chain_eq _ _ (fun k => whole_real m c h r k)
    (fun k => (slope_real (fun k => whole_real m c h r k) (fun k => h.2.2.2.2.2 _) (fun k => h.2.2.2.2.1 _) k).mul (h.2.2.2.2.2 _)) q).symm

theorem point_gate (c : Dev nD) (h : Tame m c) (t : Fin cfg0.N) (p : Fin 1024) (q : Fin 1024) (r : Fin 16384) (hr : r.val = t.val * 1024 + p.val) : k0_pay14 (F := Ideal) (k0_pay4 (iblk m c 0 t) (iblk m c 1 t)) (iblk m c 2 t) (k0_pay5 (iblk m c 5 t)) (k0_pay7 (iblk m c 0 t) (iblk m c 1 t) (iblk m c 2 t) (iblk m c 3 t)) (k0_pay8 (iblk m c 0 t) (iblk m c 1 t) (iblk m c 2 t) (iblk m c 3 t)) (k0_pay9 (iblk m c 0 t) (iblk m c 1 t) (iblk m c 2 t) (iblk m c 5 t) (iblk m c 3 t)) (iblk m c 4 t) (ix2 p q)
    = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r q) := by
  rw [ref_gate_grad, gate_grad, point m c h t p q r hr, read_pe m c t p r hr, read_dot m c t p r hr, mul_assoc]

theorem point_pe (c : Dev nD) (h : Tame m c) (t : Fin cfg0.N) (p : Fin 1024) (q : Fin 1024) (r : Fin 16384) (hr : r.val = t.val * 1024 + p.val) : k0_pay15 (F := Ideal) (k0_pay4 (iblk m c 0 t) (iblk m c 1 t)) (k0_pay5 (iblk m c 5 t)) (k0_pay7 (iblk m c 0 t) (iblk m c 1 t) (iblk m c 2 t) (iblk m c 3 t)) (k0_pay8 (iblk m c 0 t) (iblk m c 1 t) (iblk m c 2 t) (iblk m c 3 t)) (k0_pay9 (iblk m c 0 t) (iblk m c 1 t) (iblk m c 2 t) (iblk m c 5 t) (iblk m c 3 t)) (iblk m c 4 t) (ix2 p q)
    = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r q) := by
  rw [ref_pe_grad, pe_grad, point m c h t p q r hr, read_dot m c t p r hr, mul_comm]

theorem final6 (c : Dev nD) (h : Tame m c) : (dats m 0 c).arrAt 6 (cfgs 0).N = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  obtain ⟨p, q, rfl⟩ : ∃ p q, y = ix2 p q := ⟨y 0, y 1, funext fun a => match a with | ⟨0, _⟩ => rfl | ⟨1, _⟩ => rfl⟩
  have hy : ((cfg0.win 6).blk t).view.emb (ix2 p q) = ix2 ⟨t.val * 1024 + p.val, by have : t.val < 16 := t.isLt; omega⟩ q := by blk_ext [idx t]
  rw [hy]
  refine Eq.trans ?_ (point m c h t p q _ rfl)
  by_cases h : t.val % 16 = 0
  · rw [outsAt0_A m c t h]
    frame_out
  · rw [outsAt0_B m c t h]
    frame_out

theorem final7 (c : Dev nD) (h : Tame m c) : (dats m 0 c).arrAt 7 (cfgs 0).N = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  obtain ⟨p, q, rfl⟩ : ∃ p q, y = ix2 p q := ⟨y 0, y 1, funext fun a => match a with | ⟨0, _⟩ => rfl | ⟨1, _⟩ => rfl⟩
  have hy : ((cfg0.win 7).blk t).view.emb (ix2 p q) = ix2 ⟨t.val * 1024 + p.val, by have : t.val < 16 := t.isLt; omega⟩ q := by blk_ext [idx t]
  rw [hy]
  refine Eq.trans ?_ (point_gate m c h t p q _ rfl)
  by_cases h : t.val % 16 = 0
  · rw [outsAt0_A m c t h]
    frame_out
  · rw [outsAt0_B m c t h]
    frame_out

theorem final8 (c : Dev nD) (h : Tame m c) : (dats m 0 c).arrAt 8 (cfgs 0).N = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  obtain ⟨p, q, rfl⟩ : ∃ p q, y = ix2 p q := ⟨y 0, y 1, funext fun a => match a with | ⟨0, _⟩ => rfl | ⟨1, _⟩ => rfl⟩
  have hy : ((cfg0.win 8).blk t).view.emb (ix2 p q) = ix2 ⟨t.val * 1024 + p.val, by have : t.val < 16 := t.isLt; omega⟩ q := by blk_ext [idx t]
  rw [hy]
  refine Eq.trans ?_ (point_pe m c h t p q _ rfl)
  by_cases h : t.val % 16 = 0
  · rw [outsAt0_A m c t h]
    frame_out
  · rw [outsAt0_B m c t h]
    frame_out

/-- What a tile adds to the result's first row. -/
def squaresTerm (c : Dev nD) (t : Fin cfg0.N) (q : Fin 1024) : EReal :=
  ∑ p : Fin 1024, err (row (iblk m c 0 t) (iblk m c 1 t) (iblk m c 2 t) (iblk m c 3 t) p) (fun k => iblk m c 5 t (ix2 0 k)) (fun k => iblk m c 4 t (ix2 p k)) q * err (row (iblk m c 0 t) (iblk m c 1 t) (iblk m c 2 t) (iblk m c 3 t) p) (fun k => iblk m c 5 t (ix2 0 k)) (fun k => iblk m c 4 t (ix2 p k)) q

theorem squares_A (c : Dev nD) (t : Fin cfg0.N) (h : t.val % 16 = 0) (r q) : (outsAt0 m c t.val t.isLt).2.2.2.1 (ix2 r q) = if r.val = 0 then 0 + squaresTerm m c t q else 0 := by
  rw [outsAt0_A m c t h]
  frame_out
  refine (Cert.RowStore.canon _ _ _ _ r q).trans ?_
  have hz : ∀ i, k0_pay2 (F := Ideal) i = 0 := fun i => by pointwise [k0_pay2]
  rw [squares, Cert.RowStore.load _ _ _ _ 0 rfl q, hz, hz]
  rfl

theorem squares_B (c : Dev nD) (t : Fin cfg0.N) (h : ¬t.val % 16 = 0) (r q) : (outsAt0 m c t.val t.isLt).2.2.2.1 (ix2 r q)
    = if r.val = 0 then (outsAt0 m c (t.val - 1) (Nat.lt_of_le_of_lt (Nat.sub_le _ _) t.isLt)).2.2.2.1 (ix2 0 q) + squaresTerm m c t q
      else (outsAt0 m c (t.val - 1) (Nat.lt_of_le_of_lt (Nat.sub_le _ _) t.isLt)).2.2.2.1 (ix2 r q) := by
  rw [outsAt0_B m c t h]
  frame_out
  refine (Cert.RowStore.write _ _ _ _ _ r q).trans ?_
  rw [View.writes_nil, (hs0_9 t).read_unread, squares, Cert.RowStore.ld _ _ 0 rfl q]
  rfl

theorem final9 (c : Dev nD) : (dats m 0 c).arrAt 9 (cfgs 0).N = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  have hy : ((cfg0.win 9).blk t).view.emb y = y := by blk_ext [idx t]
  rw [hy, after0_9]
  refine (Cert.RowStore.total (fun n h => (outsAt0 m c n h).2.2.2.1) 16 (squaresTerm m c) 0 rfl (squares_A m c) (squares_B m c) (by decide) t
    (by have := (flush0_9 t).mp hf; have hN : cfg0.N = 16 := rfl; omega) y).trans (Eq.trans ?_ (ref_squares _ _ _ _ _ _ y).symm)
  refine if_congr Iff.rfl ?_ rfl
  unfold squaresTerm
  refine Fin.sum_mul_add_congr fun s p hl => ?_
  rw [read_row m c s p ⟨_, hl⟩ rfl]
  simp only [read_target m c s p ⟨_, hl⟩ rfl, read_gain]

/-- What a tile adds to the result's first row. -/
def gainsTerm (c : Dev nD) (t : Fin cfg0.N) (q : Fin 1024) : EReal :=
  ∑ p : Fin 1024, slope (row (iblk m c 0 t) (iblk m c 1 t) (iblk m c 2 t) (iblk m c 3 t) p) (fun k => iblk m c 5 t (ix2 0 k)) (fun k => iblk m c 4 t (ix2 p k)) q * normed (row (iblk m c 0 t) (iblk m c 1 t) (iblk m c 2 t) (iblk m c 3 t) p) q

theorem gains_A (c : Dev nD) (t : Fin cfg0.N) (h : t.val % 16 = 0) (r q) : (outsAt0 m c t.val t.isLt).2.2.2.2 (ix2 r q) = if r.val = 0 then 0 + gainsTerm m c t q else 0 := by
  rw [outsAt0_A m c t h]
  frame_out
  refine (Cert.RowStore.canon _ _ _ _ r q).trans ?_
  have hz : ∀ i, k0_pay3 (F := Ideal) i = 0 := fun i => by pointwise [k0_pay3]
  rw [gain_grad, Cert.RowStore.load _ _ _ _ 0 rfl q, hz, hz]
  rfl

theorem gains_B (c : Dev nD) (t : Fin cfg0.N) (h : ¬t.val % 16 = 0) (r q) : (outsAt0 m c t.val t.isLt).2.2.2.2 (ix2 r q)
    = if r.val = 0 then (outsAt0 m c (t.val - 1) (Nat.lt_of_le_of_lt (Nat.sub_le _ _) t.isLt)).2.2.2.2 (ix2 0 q) + gainsTerm m c t q
      else (outsAt0 m c (t.val - 1) (Nat.lt_of_le_of_lt (Nat.sub_le _ _) t.isLt)).2.2.2.2 (ix2 r q) := by
  rw [outsAt0_B m c t h]
  frame_out
  refine (Cert.RowStore.write _ _ _ _ _ r q).trans ?_
  rw [View.writes_nil, (hs0_10 t).read_unread, gain_grad, Cert.RowStore.ld _ _ 0 rfl q]
  rfl

theorem final10 (c : Dev nD) : (dats m 0 c).arrAt 10 (cfgs 0).N = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  have hy : ((cfg0.win 10).blk t).view.emb y = y := by blk_ext [idx t]
  rw [hy, after0_10]
  refine (Cert.RowStore.total (fun n h => (outsAt0 m c n h).2.2.2.2) 16 (gainsTerm m c) 0 rfl (gains_A m c) (gains_B m c) (by decide) t
    (by have := (flush0_10 t).mp hf; have hN : cfg0.N = 16 := rfl; omega) y).trans (Eq.trans ?_ (ref_gain_grad _ _ _ _ _ _ y).symm)
  refine if_congr Iff.rfl ?_ rfl
  unfold gainsTerm
  refine Fin.sum_mul_add_congr fun s p hl => ?_
  rw [read_row m c s p ⟨_, hl⟩ rfl]
  simp only [read_target m c s p ⟨_, hl⟩ rfl, read_gain]
end Cert.HeadIdeal.Grad

end
-- ==== Proof.HeadCall.lean ====
module

public import proofs.«01_k».proof.Defs
public import proofs.«01_k».proof.Proof.HeadValue
public import proofs.«01_k».proof.Proof.Gen.HeadIdeal.Value
public import proofs.«01_k».proof.Proof.Gen.HeadRefIdeal.Run
public import proofs.«01_k».proof.Proof.Gen.Pre_finite_head_call
public import Idealize.ShloMosaic.Lib.Quiescent

@[expose] public section

set_option maxRecDepth 16384

noncomputable section

open Idealize.ShloMosaic Idealize.ShloMosaic.TcCoe Idealize.SL.Sem

namespace Cert.Proof.HeadCall

theorem frame_ref : Cert.quiescent_HeadRefIdeal := fun m ρ _ =>
  (θ_run Cert.HeadRefIdeal.defs _ _).mono
    (fun r h => ⟨fun c => (h c).2.2.2.2.2, Idealize.ShloMosaic.sem_eq_zero_of_no_sems (by decide) r.2⟩)
    (Cert.HeadRefIdeal.Value.run (F := Ideal) m ρ)

theorem frame_ref_pre : Cert.quiescent_HeadRefIdeal_pre_finite_head_call := fun m ρ _ => frame_ref m ρ trivial

/-- The precondition makes every entry of the arguments a real number. -/
theorem tame (m) (h : Pre_HeadIdeal_finite_head_call m) (c) : Cert.HeadIdeal.Grad.Tame m c :=
  ⟨fun _ => Cert.Norm.Real.of_pre _ _ _ (h c).1 _, fun _ => Cert.Norm.Real.of_pre _ _ _ (h c).2.1 _, fun _ => Cert.Norm.Real.of_pre _ _ _ (h c).2.2.1 _, fun _ => Cert.Norm.Real.of_pre _ _ _ (h c).2.2.2.1 _, fun _ => Cert.Norm.Real.of_pre _ _ _ (h c).2.2.2.2.1 _, fun _ => Cert.Norm.Real.of_pre _ _ _ (h c).2.2.2.2.2 _⟩

/-- The five results as the reference's run writes them. -/
theorem value : Cert.algebraic_HeadIdeal_HeadRefIdeal_pre_finite_head_call := fun m g m' g' hpre ha =>
  ⟨_, _, _, _, _,
    (θ_run _ _ _).mono (fun r h c => ⟨(h c).1.trans (Cert.HeadIdeal.Grad.final6 m c (tame m hpre c)),
      (h c).2.1.trans (Cert.HeadIdeal.Grad.final7 m c (tame m hpre c)),
      (h c).2.2.1.trans (Cert.HeadIdeal.Grad.final8 m c (tame m hpre c)),
      (h c).2.2.2.1.trans (Cert.HeadIdeal.Grad.final9 m c),
      (h c).2.2.2.2.1.trans (Cert.HeadIdeal.Grad.final10 m c), (h c).2.2.2.2.2⟩)
      (Cert.HeadIdeal.Value.run_blocks (F := Ideal) m g),
    (θ_run _ _ _).mono (fun r h c => ⟨(h c).1.trans (by rw [← (ha c).1, ← (ha c).2.1, ← (ha c).2.2.1, ← (ha c).2.2.2.1, ← (ha c).2.2.2.2.1, ← (ha c).2.2.2.2.2]; rfl),
      (h c).2.1.trans (by rw [← (ha c).1, ← (ha c).2.1, ← (ha c).2.2.1, ← (ha c).2.2.2.1, ← (ha c).2.2.2.2.1, ← (ha c).2.2.2.2.2]; rfl),
      (h c).2.2.1.trans (by rw [← (ha c).1, ← (ha c).2.1, ← (ha c).2.2.1, ← (ha c).2.2.2.1, ← (ha c).2.2.2.2.1, ← (ha c).2.2.2.2.2]; rfl),
      (h c).2.2.2.1.trans (by rw [← (ha c).1, ← (ha c).2.1, ← (ha c).2.2.1, ← (ha c).2.2.2.1, ← (ha c).2.2.2.2.1, ← (ha c).2.2.2.2.2]; rfl),
      (h c).2.2.2.2.1.trans (by rw [← (ha c).1, ← (ha c).2.1, ← (ha c).2.2.1, ← (ha c).2.2.2.1, ← (ha c).2.2.2.2.1, ← (ha c).2.2.2.2.2]; rfl), (h c).2.2.2.2.2⟩)
      (Cert.HeadRefIdeal.Value.run (F := Ideal) m' g')⟩

end Cert.Proof.HeadCall

end
-- ==== Proof.GroupMath.lean ====
module

public import proofs.«01_k».proof.Proof.HeadMath

@[expose] public section

noncomputable section

open Idealize.ShloMosaic

namespace Cert.GroupMath

open Cert.Norm Cert.HeadMath

/-- One over a group's length, the length, and the constant of the group norm, as the programs write them. -/
def inv : EReal := Ideal.ofBits .f32 0x3C000000#32
def num : EReal := Ideal.ofBits .f32 0x43000000#32
def eps : EReal := Ideal.ofBits .f32 0x3727C5AC#32

theorem inv_eq : inv = ((1 / 128 : ℝ) : EReal) := by
  unfold inv; simp [Ideal.ofBits, Ideal.ieee, -EReal.coe_mul]; norm_num
theorem num_eq : num = ((128 : ℝ) : EReal) := by
  unfold num; simp [Ideal.ofBits, Ideal.ieee, -EReal.coe_mul]; norm_num
theorem eps_eq : ∃ e : ℝ, 0 < e ∧ eps = (e : EReal) :=
  ⟨10995116 / 2 ^ 40, by positivity, by unfold eps; simp [Ideal.ofBits, Ideal.ieee, -EReal.coe_mul]; norm_num⟩

/-- A quotient by the length is a product with its reciprocal, for every extended real. -/
theorem div_num (z : EReal) : Ideal.div z (Ideal.ofBits .f32 0x43000000#32) = z * inv := by
  have h := num_eq
  unfold num at h
  rw [h, inv_eq, Ideal.div_coe (by norm_num)]

variable (x a : Fin 128 → EReal)

/-- A group's entry minus the group's mean. -/
def dev (k : Fin 128) : EReal := x k - (∑ l, x l) * inv
/-- A group's variance plus the constant. -/
def spread : EReal := (∑ l, dev x l * dev x l) * inv + eps
/-- A group's reciprocal root. -/
def root : EReal := Ideal.rsqrt (spread x)
/-- A group's entry after the norm. -/
def scaled (k : Fin 128) : EReal := dev x k * root x

/-- The gradient in the norm's input in its closed form, `a` the cotangent of the scaled entries. -/
def closed (k : Fin 128) : EReal :=
  root x * (a k - (∑ l, a l) * inv - scaled x k * ((∑ l, a l * scaled x l) * inv))

/-- The cotangent of the group's variance, over the length. -/
def weight : EReal := (∑ l, dev x l * a l) * (Ideal.ofBits .f32 0xBF000000#32 * Ideal.div (root x) (spread x)) * inv

/-- The gradient as the chain rule sums it: through the scaling, through the variance, and through the mean of both. -/
def chain (k : Fin 128) : EReal :=
  a k * root x + weight x a * (Ideal.ofBits .f32 0x40000000#32 * dev x k)
    + ((∑ l, -(a l * root x)) + ∑ l, -(weight x a * (Ideal.ofBits .f32 0x40000000#32 * dev x l))) * inv

variable {x a}

theorem dev_real (hx : ∀ k, Real (x k)) (k) : Real (dev x k) :=
  (hx k).sub ((Real.sum _ hx).mul ⟨_, inv_eq⟩)

/-- Of a real group: the deviations are real and sum to zero, the spread is a positive real. -/
theorem parts (hx : ∀ k, Real (x k)) : ∃ (D : Fin 128 → ℝ) (s : ℝ), dev x = (fun k => (D k : EReal)) ∧ ∑ k, D k = 0 ∧ 0 < s ∧ spread x = (s : EReal) := by
  obtain ⟨e, he, hee⟩ := eps_eq
  choose X hX using hx
  obtain rfl : x = fun k => (X k : EReal) := funext hX
  have hd : dev (fun k => (X k : EReal)) = fun k => ((X k - (∑ l, X l) * (1 / 128) : ℝ) : EReal) := by
    funext k
    unfold dev
    rw [inv_eq, ← coe_sum, ← EReal.coe_mul, ← EReal.coe_sub]
  refine ⟨_, (∑ k, (X k - (∑ l, X l) * (1 / 128)) * (X k - (∑ l, X l) * (1 / 128))) * (1 / 128) + e, hd, ?_, ?_, ?_⟩
  · rw [Finset.sum_sub_distrib, Finset.sum_const, Finset.card_univ, Fintype.card_fin, nsmul_eq_mul]
    push_cast
    ring
  · have : 0 ≤ ∑ k, (X k - (∑ l, X l) * (1 / 128)) * (X k - (∑ l, X l) * (1 / 128)) := Finset.sum_nonneg fun k _ => mul_self_nonneg _
    positivity
  · unfold spread
    rw [hd]
    simp only [← EReal.coe_mul]
    rw [← coe_sum, inv_eq, hee, ← EReal.coe_mul, ← EReal.coe_add]

theorem scaled_real (hx : ∀ k, Real (x k)) (k) : Real (scaled x k) := by
  obtain ⟨D, s, hD, -, hs, hspread⟩ := parts hx
  unfold scaled root
  rw [hD, hspread, rsqrt_pos s hs]
  exact ⟨D k * (√s)⁻¹, EReal.coe_mul _ _ ▸ rfl⟩

theorem chain_eq (hx : ∀ k, Real (x k)) (ha : ∀ k, Real (a k)) (k) : chain x a k = closed x a k := by
  obtain ⟨D, s, hD, h0, hs, hspread⟩ := parts hx
  choose A hA using ha
  obtain rfl : a = fun k => (A k : EReal) := funext hA
  unfold chain closed weight scaled root
  simp only [hD, hspread, rsqrt_pos s hs, ofBits_neg_half, ofBits_two, inv_eq, div_real _ _ hs.ne']
  have hr : (√s)⁻¹ * (√s)⁻¹ = s⁻¹ := by rw [← mul_inv, Real.mul_self_sqrt hs.le]
  have hk : ∑ l, A l * (D l * (√s)⁻¹) = (∑ l, D l * A l) * (√s)⁻¹ := by
    rw [Finset.sum_mul]; exact Finset.sum_congr rfl fun l _ => by ring
  have h1 : ∑ l, -(A l * (√s)⁻¹) = -(∑ l, A l) * (√s)⁻¹ := by
    rw [neg_mul, Finset.sum_mul, Finset.sum_neg_distrib]
  have h2 (w : ℝ) : ∑ l, -(w * (2 * D l)) = 0 := by
    have : ∀ l, -(w * (2 * D l)) = (-2 * w) * D l := fun l => by ring
    simp only [this]
    rw [← Finset.mul_sum, h0, mul_zero]
  simp only [← EReal.coe_mul, ← coe_sum, ← EReal.coe_sub, ← EReal.coe_add, ← EReal.coe_neg, hk, h1, h2]
  refine congrArg _ ?_
  generalize ∑ l, D l * A l = T
  generalize ∑ l, A l = U
  rw [div_eq_mul_inv _ s, ← hr]
  ring

/-- Lane `k` of group `g` among the four groups of a row. -/
def lane (g : Fin 4) (k : Fin 128) : Fin 512 := ⟨g.val * 128 + k.val, by omega⟩

theorem exists_lane (q : Fin 512) : ∃ g k, q = lane g k :=
  ⟨⟨q.val / 128, by omega⟩, ⟨q.val % 128, by omega⟩, Fin.ext (by show q.val = q.val / 128 * 128 + q.val % 128; omega)⟩

theorem lane_div (g k h) : (⟨(lane g k).val / 128, h⟩ : Fin 4) = g := Fin.ext (by show (g.val * 128 + k.val) / 128 = _; omega)
theorem lane_mod (g k h) : (⟨(lane g k).val % 128, h⟩ : Fin 128) = k := Fin.ext (by show (g.val * 128 + k.val) % 128 = _; omega)

/-- The sum over the group that a lane belongs to, chosen by the lane's number. -/
theorem sum_of_lane (f : Fin 512 → EReal) (g : Fin 4) (k : Fin 128) :
    (if (lane g k).val < 128 then ∑ x : Fin 128, f ⟨x.val, by omega⟩
      else if (lane g k).val - 128 < 128 then ∑ x : Fin 128, f ⟨128 + x.val, by omega⟩
      else if (lane g k).val - 128 - 128 < 128 then ∑ x : Fin 128, f ⟨256 + x.val, by omega⟩
      else ∑ x : Fin 128, f ⟨384 + x.val, by omega⟩) = ∑ x : Fin 128, f (lane g x) := by
  have e : (lane g k).val = g.val * 128 + k.val := rfl
  split_ifs <;> exact Finset.sum_congr rfl fun x _ => congrArg f (Fin.ext (by simp only [lane]; omega))

/-- The gate's gradient as the kernel writes it, and as the product rule gives it. -/
theorem gate_eq {d n g r : EReal} (hd : Real d) (hn : Real n) (hg : Real g) (hr : Real r) :
    n * g * d * gate r + r * (n * g * d) * (gate r * (1 - gate r)) = d * n * g * (gate r * (1 + r * (1 - gate r))) := by
  obtain ⟨s, hs⟩ := gate_real hr
  rw [hs]
  obtain ⟨d, rfl⟩ := hd
  obtain ⟨n, rfl⟩ := hn
  obtain ⟨g, rfl⟩ := hg
  obtain ⟨r, rfl⟩ := hr
  rw [← EReal.coe_one]
  simp only [← EReal.coe_mul, ← EReal.coe_sub, ← EReal.coe_add]
  refine congrArg _ ?_
  ring

/-- The column of a head's 128 rows that a head's lane stands in, the other 64 rows zero. -/
def column (f : Fin 512 → EReal) (q : Fin 1024) : EReal :=
  if q.val / 512 < 1 then if h : q.val % 128 < 64 then f ⟨q.val / 512 * 256 + q.val / 128 % 4 * 64 + q.val % 128, by omega⟩ else 0
  else if h : q.val % 128 < 64 then 0 else f ⟨(1 + (q.val / 512 - 1)) * 256 + q.val / 128 % 4 * 64 + (q.val % 128 - 64), by omega⟩

theorem column_head (f) (q : Fin 1024) (h : ℕ) (k : Fin 64) (hh : h < 8) (e : q.val = h * 128 + h / 4 * 64 + k.val) : column f q = f ⟨h * 64 + k.val, by omega⟩ := by
  unfold column
  interval_cases h <;> split_ifs <;> first | omega | exact congrArg f (Fin.ext (by dsimp only; omega))

theorem column_zero (f) (q : Fin 1024) (h : ℕ) (k : Fin 64) (hh : h < 8) (e : q.val = h * 128 + (1 - h / 4) * 64 + k.val) : column f q = 0 := by
  unfold column
  interval_cases h <;> split_ifs <;> first | omega | rfl

end Cert.GroupMath

end
-- ==== Proof.MpbParts.lean ====
module

public import proofs.«01_k».proof.Proof.Gen.MpbIdeal.Frame
public import proofs.«01_k».proof.Proof.Gen.MpbRefIdeal.Read
public import Idealize.ShloMosaic.Lib.Pipeline.ValueKit
public import Idealize.ShloMosaic.Lib.Pointwise
public import proofs.«01_k».proof.Proof.GroupMath
public import proofs.«01_k».proof.Proof.RowStore

@[expose] public section

set_option maxRecDepth 16384

noncomputable section

open Idealize.ShloMosaic Idealize.ShloMosaic.TcCoe Idealize.SL.Sem
open Idealize.ShloMosaic.Pipeline (Dat)

namespace Cert.MpbIdeal.Grad

open Cert.MpbIdeal Cert.MpbIdeal.Gen Cert.MpbRefIdeal.Read

variable (m : (ℓ : Loc nD τ sig) → Buf (Elt Ideal) ℓ)

open Cert.HeadMath Cert.Norm Cert.GroupMath

/-- A group of a row of the sum of the two directions' outputs. -/
def group {R : ℕ} (a b : (⟨2, ![R, 512]⟩ : Shape).Idx → EReal) (p : Fin R) (g : Fin 4) : Fin 128 → EReal :=
  fun k => a (ix2 p (lane g k)) + b (ix2 p (lane g k))

/-- The norm's cotangent: the output's times gain and gate. -/
def cotangent (dz gain rg : EReal) : EReal := dz * gain * (rg * gate rg)

section Kernel

variable (dz ya yb : FVec Ideal S512x512 .f32) (ga gb : FVec Ideal S512x256 .bf16) (gn : FVec Ideal S1x512 .f32)

/-- The gate's argument of a tile, its two windows side by side. -/
def arg (p q : Fin 512) : EReal := if h : q.val < 256 then ga (ix2 p ⟨q.val, h⟩) else gb (ix2 p ⟨q.val - 256, by omega⟩)

theorem arg_apply (p q) : k0_pay32 (F := Ideal) ga gb (ix2 p q) = arg ga gb p q := by
  pointwise [k0_pay32]
  rfl

theorem dev_apply (p g k) : k0_pay34 (F := Ideal) ya yb (ix2 p (lane g k)) = dev (group ya yb p g) k := by
  pointwise [k0_pay34]
  exact congrArg (fun z => _ - z * _) (sum_of_lane (fun l => ya (ix2 p l) + yb (ix2 p l)) g k)

theorem root_apply (p g k) : k0_pay38 (F := Ideal) (k0_pay35 ya yb) (k0_pay36 ya yb) (k0_pay37 ya yb) (ix2 p (lane g k)) = root (group ya yb p g) := by
  pointwise [k0_pay38, k0_pay36, k0_pay37]
  refine congrArg Ideal.rsqrt ((congrArg (fun z => z * _ + _) (sum_of_lane (fun l => k0_pay35 (F := Ideal) ya yb (ix2 p l)) g k)).trans ?_)
  refine congrArg (fun z => z * _ + _) (Finset.sum_congr rfl fun l _ => ?_)
  pointwise [k0_pay35]
  rw [dev_apply]

theorem scaled_apply (p g k) : k0_pay39 (F := Ideal) (k0_pay34 ya yb) (k0_pay35 ya yb) (k0_pay36 ya yb) (k0_pay37 ya yb) (ix2 p (lane g k)) = scaled (group ya yb p g) k := by
  pointwise [k0_pay39]
  rw [root_apply, dev_apply]
  rfl

theorem gate_apply (p q) : k0_pay40 (F := Ideal) (k0_pay32 ga gb) (ix2 p q) = gate (arg ga gb p q) := by
  pointwise [k0_pay40]
  rw [zero_sub, arg_apply]
  rfl

theorem cotangent_apply (p q) : k0_pay43 (F := Ideal) (k0_pay32 ga gb) (k0_pay33 gn) dz (ix2 p q) = cotangent (dz (ix2 p q)) (gn (ix2 0 q)) (arg ga gb p q) := by
  pointwise [k0_pay43, k0_pay41, k0_pay33]
  rw [arg_apply, gate_apply]
  rfl

theorem norm_grad (p g k) : k0_pay46 (F := Ideal) (k0_pay38 (k0_pay35 ya yb) (k0_pay36 ya yb) (k0_pay37 ya yb)) (k0_pay39 (k0_pay34 ya yb) (k0_pay35 ya yb) (k0_pay36 ya yb) (k0_pay37 ya yb)) (k0_pay43 (k0_pay32 ga gb) (k0_pay33 gn) dz) (k0_pay44 (k0_pay32 ga gb) (k0_pay33 gn) dz) (k0_pay45 (k0_pay32 ga gb) (k0_pay33 gn) dz) (ix2 p (lane g k))
    = GroupMath.closed (group ya yb p g) (fun l => cotangent (dz (ix2 p (lane g l))) (gn (ix2 0 (lane g l))) (arg ga gb p (lane g l))) k := by
  pointwise [k0_pay46, k0_pay44, k0_pay45]
  rw [root_apply, scaled_apply, cotangent_apply]
  refine congrArg₂ (fun u v => _ * (_ - u * _ - _ * (v * _))) ((sum_of_lane (fun l => k0_pay43 (F := Ideal) (k0_pay32 ga gb) (k0_pay33 gn) dz (ix2 p l)) g k).trans ?_)
    ((sum_of_lane (fun l => k0_pay43 (F := Ideal) (k0_pay32 ga gb) (k0_pay33 gn) dz (ix2 p l) * k0_pay39 (F := Ideal) (k0_pay34 ya yb) (k0_pay35 ya yb) (k0_pay36 ya yb) (k0_pay37 ya yb) (ix2 p l)) g k).trans ?_)
  · exact Finset.sum_congr rfl fun l _ => cotangent_apply ..
  · exact Finset.sum_congr rfl fun l _ => by rw [cotangent_apply, scaled_apply]

theorem gate_grad (p g k) : k0_pay1 (F := Ideal) (k0_pay32 ga gb) (k0_pay40 (k0_pay32 ga gb)) (k0_pay47 (k0_pay39 (k0_pay34 ya yb) (k0_pay35 ya yb) (k0_pay36 ya yb) (k0_pay37 ya yb)) dz) (k0_pay48 (k0_pay33 gn)) (ix2 p (lane g k))
    = dz (ix2 p (lane g k)) * scaled (group ya yb p g) k * gn (ix2 0 (lane g k))
      * (gate (arg ga gb p (lane g k)) * (1 + arg ga gb p (lane g k) * (1 - gate (arg ga gb p (lane g k))))) := by
  pointwise [k0_pay1, k0_pay47, k0_pay48, k0_pay33]
  rw [scaled_apply, gate_apply, arg_apply]

/-- The gain's gradient summed over rows, `dz` the output's cotangent, `x` the groups of a row, `rg` the gate's argument. -/
def gainRows {R : ℕ} (dz : (⟨2, ![R, 512]⟩ : Shape).Idx → EReal) (x : Fin R → Fin 4 → Fin 128 → EReal) (rg : Fin R → Fin 512 → EReal) (q : Fin 512) : EReal :=
  ∑ p : Fin R, dz (ix2 p q) * scaled (x p ⟨q.val / 128, by omega⟩) ⟨q.val % 128, by omega⟩ * (rg p q * gate (rg p q))

theorem gain_rows (v : FVec Ideal S1x512 .f32) (q) : k0_pay42 (F := Ideal) (k0_pay32 ga gb) (k0_pay34 ya yb) (k0_pay35 ya yb) (k0_pay36 ya yb) (k0_pay37 ya yb) dz v (ix2 0 q) = v (ix2 0 q) + gainRows dz (group ya yb) (arg ga gb) q := by
  obtain ⟨g, k, rfl⟩ := exists_lane q
  unfold gainRows
  rw [lane_div, lane_mod]
  pointwise [k0_pay42, k0_pay41]
  simp only [scaled_apply, gate_apply, arg_apply]

end Kernel

section Reference

variable (ya yb dz : (⟨S16384x512, .f32⟩ : BufTy).Contents (Elt Ideal)) (pr : (⟨S16384x4864, .f32⟩ : BufTy).Contents (Elt Ideal)) (gn : (⟨S512, .f32⟩ : BufTy).Contents (Elt Ideal))

theorem ref_arg (p q) : val_main_v1 (F := Ideal) pr (ix2 p q) = pr (ix2 p ⟨2304 + q.val, by omega⟩) := by
  pointwise [val_main_v1]

theorem ref_gate (p q) : val_main_v30_2 (F := Ideal) pr (ix2 p q) = gate (pr (ix2 p ⟨2304 + q.val, by omega⟩)) := by
  pointwise [val_main_v30_2, val_main_call0_v0, val_main_call0_v1, val_main_call0_cst, val_main_call0_v2, val_main_call0_v3, val_main_call0_cst_0, val_main_call0_v4]
  rw [ref_arg]
  rfl

theorem ref_dev (p g k) : val_main_v8 (F := Ideal) ya yb (ix3 p g k) = dev (group ya yb p g) k := by
  pointwise [val_main_v8, val_main_v7, val_main_v6, val_main_v5, val_main_v4, val_main_v3, val_main_v2, val_main_v0, val_main_cst, val_main_cst_0]
  rw [div_num]
  rfl

theorem ref_dev_again (p g k) : val_main_v17 (F := Ideal) ya yb (ix3 p g k) = dev (group ya yb p g) k := by
  pointwise [val_main_v17, val_main_v16, val_main_v6, val_main_v5, val_main_v4, val_main_v3, val_main_v2, val_main_v0, val_main_cst, val_main_cst_0]
  rw [div_num]
  rfl

theorem ref_spread (p g) : val_main_v19 (F := Ideal) ya yb (ix3 p g 0) = spread (group ya yb p g) := by
  pointwise [val_main_v19, val_main_v18, val_main_v15, val_main_v14, val_main_v13, val_main_v12, val_main_v9, val_main_cst_2, val_main_cst_3, val_main_cst_4]
  simp only [ref_dev]
  rw [div_num]
  rfl

theorem ref_root (p g) : val_main_v20 (F := Ideal) ya yb (ix3 p g 0) = root (group ya yb p g) := by
  pointwise [val_main_v20]
  rw [ref_spread]
  rfl

theorem ref_scaled (p g k) : val_main_v26 (F := Ideal) ya yb (ix2 p (lane g k)) = scaled (group ya yb p g) k := by
  pointwise [val_main_v26, val_main_v25, val_main_v24]
  rw [lane_div, lane_mod, ref_dev_again, ref_root]
  rfl

theorem ref_silu (p q) : val_main_v33 (F := Ideal) pr dz (ix2 p q)
    = dz (ix2 p q) * (pr (ix2 p ⟨2304 + q.val, by omega⟩) * gate (pr (ix2 p ⟨2304 + q.val, by omega⟩))) := by
  pointwise [val_main_v33, val_main_v30_0]
  rw [ref_arg, ref_gate]

theorem ref_cotangent (p g k) : val_main_v41 (F := Ideal) pr gn dz (ix3 p g k)
    = cotangent (dz (ix2 p (lane g k))) (gn (ix1 (lane g k))) (pr (ix2 p ⟨2304 + (lane g k).val, by omega⟩)) := by
  pointwise [val_main_v41, val_main_v39, val_main_v38, val_main_v27]
  rw [ref_silu]
  exact mul_right_comm ..

theorem ref_chain (p g k) : val_main_v65 (F := Ideal) ya yb pr gn dz (ix3 p g k)
    = GroupMath.chain (group ya yb p g) (fun l => cotangent (dz (ix2 p (lane g l))) (gn (ix1 (lane g l))) (pr (ix2 p ⟨2304 + (lane g l).val, by omega⟩))) k := by
  pointwise [val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v23, val_main_v22, val_main_v21, val_main_v11, val_main_v10, val_main_cst_1, val_main_cst_5, val_main_cst_8, val_main_cst_9, val_main_cst_10, val_main_cst_11, val_main_cst_12, val_main_cst_13, val_main_cst_14]
  simp only [ref_dev, ref_dev_again, ref_root, ref_spread, ref_cotangent, div_num, Fin.sum_univ_one]
  rfl

theorem ref_norm_grad (p g k) : val_main_v66 (F := Ideal) ya yb pr gn dz (ix2 p (lane g k))
    = GroupMath.chain (group ya yb p g) (fun l => cotangent (dz (ix2 p (lane g l))) (gn (ix1 (lane g l))) (pr (ix2 p ⟨2304 + (lane g l).val, by omega⟩))) k := by
  pointwise [val_main_v66]
  rw [lane_div, lane_mod, ref_chain]

theorem ref_gate_grad (p g k) : val_main_v82 (F := Ideal) ya yb pr gn dz (ix2 p (lane g k))
    = scaled (group ya yb p g) k * gn (ix1 (lane g k)) * dz (ix2 p (lane g k)) * gate (pr (ix2 p ⟨2304 + (lane g k).val, by omega⟩))
      + pr (ix2 p ⟨2304 + (lane g k).val, by omega⟩) * (scaled (group ya yb p g) k * gn (ix1 (lane g k)) * dz (ix2 p (lane g k)))
        * (gate (pr (ix2 p ⟨2304 + (lane g k).val, by omega⟩)) * (1 - gate (pr (ix2 p ⟨2304 + (lane g k).val, by omega⟩)))) := by
  pointwise [val_main_v82, val_main_v34, val_main_call1_v2, val_main_call1_v1, val_main_call1_v0, val_main_v32, val_main_v29, val_main_v28, val_main_v27, val_main_v30_1, val_main_call0_v7, val_main_call0_v6, val_main_call0_cst_1]
  rw [ref_scaled, ref_gate, ref_arg]

theorem ref_gain_lane (r : Fin 8) (g k) : val_main_v85 (F := Ideal) ya yb pr dz (ix2 r (lane g k))
    = if r.val = 0 then (∑ p : Fin 16384, scaled (group ya yb p g) k
        * (dz (ix2 p (lane g k)) * (pr (ix2 p ⟨2304 + (lane g k).val, by omega⟩) * gate (pr (ix2 p ⟨2304 + (lane g k).val, by omega⟩)))) : EReal) else 0 := by
  pointwise [val_main_v85, val_main_v84, val_main_v83, val_main_v40, val_main_v37, val_main_v36, val_main_v35, val_main_cst_6, val_main_cst_7, val_main_cst_17]
  simp only [ref_scaled, ref_silu]
  refine if_ctx_congr (by omega) (fun _ => Fin.sum_univ_one _) (fun _ => rfl)

theorem ref_gain_rows (y) : val_main_v85 (F := Ideal) ya yb pr dz y
    = if (y 0).val = 0 then gainRows dz (group ya yb) (fun p q => pr (ix2 p ⟨2304 + q.val, by omega⟩)) (y 1) else 0 := by
  obtain ⟨p, q, rfl⟩ : ∃ p q, y = ix2 p q := ⟨y 0, y 1, funext fun a => match a with | ⟨0, _⟩ => rfl | ⟨1, _⟩ => rfl⟩
  obtain ⟨g, k, rfl⟩ := exists_lane q
  refine (ref_gain_lane ya yb dz pr p g k).trans (if_congr Iff.rfl ?_ rfl)
  show _ = gainRows _ _ _ (lane g k)
  unfold gainRows
  rw [lane_div, lane_mod]
  refine Finset.sum_congr rfl fun r _ => ?_
  rw [← mul_assoc, mul_comm (scaled _ _)]

theorem ref_columns (a : (⟨S16384x512, .f32⟩ : BufTy).Contents (Elt Ideal)) (p q k) : val_main_v79 (F := Ideal) a (ix3 p q k)
    = column (fun l => a (ix2 ⟨p.val * 512 + k.val, by omega⟩ l)) q := by
  pointwise [val_main_v79, val_main_v78, val_main_v77, val_main_v76, val_main_v75, val_main_v74, val_main_v73, val_main_v72, val_main_v71, val_main_v70, val_main_v69, val_main_v68, val_main_cst_16]
  rfl

theorem ref_heads (a b : (⟨S16384x512, .f32⟩ : BufTy).Contents (Elt Ideal)) (t : Fin 32) (l : Fin 512) (h : Fin 8) : val_main_v69 (F := Ideal) a b (ix3 t l h)
    = (∑ k : Fin 64, b (ix2 ⟨t.val * 512 + l.val, by omega⟩ ⟨h.val * 64 + k.val, by omega⟩) * a (ix2 ⟨t.val * 512 + l.val, by omega⟩ ⟨h.val * 64 + k.val, by omega⟩) : EReal) := by
  pointwise [val_main_v67, val_main_v68, val_main_cst_15, val_main_v69]

theorem ref_delta (a b : (⟨S16384x512, .f32⟩ : BufTy).Contents (Elt Ideal)) (h : Fin 8) (t : Fin 32) (l : Fin 512) : val_main_v81 (F := Ideal) a b (ix4 h t 0 l)
    = (∑ k : Fin 64, b (ix2 ⟨t.val * 512 + l.val, by omega⟩ ⟨h.val * 64 + k.val, by omega⟩) * a (ix2 ⟨t.val * 512 + l.val, by omega⟩ ⟨h.val * 64 + k.val, by omega⟩) : EReal) := by
  pointwise [val_main_v81, val_main_v80, val_main_v67]
  exact ref_heads a b t l h

end Reference
end Cert.MpbIdeal.Grad

end
-- ==== Proof.MpbTiles.lean ====
module

public import proofs.«01_k».proof.Proof.Gen.MpbIdeal.Frame
public import proofs.«01_k».proof.Proof.Gen.MpbRefIdeal.Read
public import Idealize.ShloMosaic.Lib.Pipeline.ValueKit
public import Idealize.ShloMosaic.Lib.Pointwise
public import proofs.«01_k».proof.Proof.MpbParts

@[expose] public section

set_option maxRecDepth 16384

noncomputable section

open Idealize.ShloMosaic Idealize.ShloMosaic.TcCoe Idealize.SL.Sem
open Idealize.ShloMosaic.Pipeline (Dat)

namespace Cert.MpbIdeal.Grad

open Cert.MpbIdeal Cert.MpbIdeal.Gen

variable (m : (ℓ : Loc nD τ sig) → Buf (Elt Ideal) ℓ)

open Cert.GroupMath

section Kernel

variable (da : FVec Ideal S512x512 .f32) (at' : FVec Ideal S512x512 .bf16)

theorem canon_columns (q l) : View.canon (Val := Elt Ideal) (e := .bf16)
      [⟨Rect.unit ![0, 896, 0] ![1, 64, 512] inb_S1x1024x512_S1x64x512_0_896_0, k0_pay30 (F := Ideal) (k0_pay5 (F := Ideal))⟩,
        ⟨Rect.unit ![0, 960, 0] ![1, 64, 512] inb_S1x1024x512_S1x64x512_0_960_0, k0_pay29 (F := Ideal) (k0_pay4 (F := Ideal) da)⟩,
        ⟨Rect.unit ![0, 768, 0] ![1, 64, 512] inb_S1x1024x512_S1x64x512_0_768_0, k0_pay27 (F := Ideal) (k0_pay5 (F := Ideal))⟩,
        ⟨Rect.unit ![0, 832, 0] ![1, 64, 512] inb_S1x1024x512_S1x64x512_0_832_0, k0_pay26 (F := Ideal) (k0_pay4 (F := Ideal) da)⟩,
        ⟨Rect.unit ![0, 640, 0] ![1, 64, 512] inb_S1x1024x512_S1x64x512_0_640_0, k0_pay23 (F := Ideal) (k0_pay5 (F := Ideal))⟩,
        ⟨Rect.unit ![0, 704, 0] ![1, 64, 512] inb_S1x1024x512_S1x64x512_0_704_0, k0_pay22 (F := Ideal) (k0_pay4 (F := Ideal) da)⟩,
        ⟨Rect.unit ![0, 512, 0] ![1, 64, 512] inb_S1x1024x512_S1x64x512_0_512_0, k0_pay20 (F := Ideal) (k0_pay5 (F := Ideal))⟩,
        ⟨Rect.unit ![0, 576, 0] ![1, 64, 512] inb_S1x1024x512_S1x64x512_0_576_0, k0_pay19 (F := Ideal) (k0_pay4 (F := Ideal) da)⟩,
        ⟨Rect.unit ![0, 448, 0] ![1, 64, 512] inb_S1x1024x512_S1x64x512_0_448_0, k0_pay16 (F := Ideal) (k0_pay5 (F := Ideal))⟩,
        ⟨Rect.unit ![0, 384, 0] ![1, 64, 512] inb_S1x1024x512_S1x64x512_0_384_0, k0_pay15 (F := Ideal) (k0_pay4 (F := Ideal) da)⟩,
        ⟨Rect.unit ![0, 320, 0] ![1, 64, 512] inb_S1x1024x512_S1x64x512_0_320_0, k0_pay13 (F := Ideal) (k0_pay5 (F := Ideal))⟩,
        ⟨Rect.unit ![0, 256, 0] ![1, 64, 512] inb_S1x1024x512_S1x64x512_0_256_0, k0_pay12 (F := Ideal) (k0_pay4 (F := Ideal) da)⟩,
        ⟨Rect.unit ![0, 192, 0] ![1, 64, 512] inb_S1x1024x512_S1x64x512_0_192_0, k0_pay10 (F := Ideal) (k0_pay5 (F := Ideal))⟩,
        ⟨Rect.unit ![0, 128, 0] ![1, 64, 512] inb_S1x1024x512_S1x64x512_0_128_0, k0_pay9 (F := Ideal) da⟩,
        ⟨Rect.unit ![0, 64, 0] ![1, 64, 512] inb_S1x1024x512_S1x64x512_0_64_0, k0_pay7 (F := Ideal)⟩,
        ⟨Rect.unit ![0, 0, 0] ![1, 64, 512] inb_S1x1024x512_S1x64x512_0_0_0, k0_pay6 (F := Ideal) da⟩] (ix3 0 q l)
    = column (fun n => da (ix2 l n)) q := by
  canon_tiles x h
  all_goals
    obtain ⟨a, k, l', rfl⟩ : ∃ a k l', x = ix3 a k l' := ⟨x 0, x 1, x 2, funext fun j => match j with | ⟨0, _⟩ => rfl | ⟨1, _⟩ => rfl | ⟨2, _⟩ => rfl⟩
    obtain rfl : l' = l := Fin.ext h2.symm
    obtain rfl : a = 0 := Fin.ext (by omega)
    have hk : k.val < 64 := k.isLt
    first
      | replace h1 : q.val = k.val := h1
      | replace h1 : q.val = 64 + k.val := h1
      | replace h1 : q.val = 128 + k.val := h1
      | replace h1 : q.val = 192 + k.val := h1
      | replace h1 : q.val = 256 + k.val := h1
      | replace h1 : q.val = 320 + k.val := h1
      | replace h1 : q.val = 384 + k.val := h1
      | replace h1 : q.val = 448 + k.val := h1
      | replace h1 : q.val = 512 + k.val := h1
      | replace h1 : q.val = 576 + k.val := h1
      | replace h1 : q.val = 640 + k.val := h1
      | replace h1 : q.val = 704 + k.val := h1
      | replace h1 : q.val = 768 + k.val := h1
      | replace h1 : q.val = 832 + k.val := h1
      | replace h1 : q.val = 896 + k.val := h1
      | replace h1 : q.val = 960 + k.val := h1
    first
      | (refine Eq.trans ?_ (column_zero _ q (q.val / 128) k (by omega) (by omega)).symm
         pointwise [k0_pay4, k0_pay5, k0_pay6, k0_pay7, k0_pay9, k0_pay10, k0_pay12, k0_pay13, k0_pay15, k0_pay16, k0_pay19, k0_pay20, k0_pay22, k0_pay23, k0_pay26, k0_pay27, k0_pay29, k0_pay30]
         done)
      | (refine Eq.trans ?_ (column_head _ q (q.val / 128) k (by omega) (by omega)).symm
         pointwise [k0_pay4, k0_pay5, k0_pay6, k0_pay7, k0_pay9, k0_pay10, k0_pay12, k0_pay13, k0_pay15, k0_pay16, k0_pay19, k0_pay20, k0_pay22, k0_pay23, k0_pay26, k0_pay27, k0_pay29, k0_pay30]
         first | done | exact congrArg (fun n => da (ix2 l' n)) (Fin.ext (by dsimp only; omega)))

theorem canon_delta (h l) : View.canon (Val := Elt Ideal) (e := .f32)
      [⟨Rect.unit ![7, 0, 0, 0] ![1, 1, 1, 512] inb_S8x1x1x512_S1x1x1x512_7_0_0_0, k0_pay31 (F := Ideal) (k0_pay3 (F := Ideal) da at')⟩,
        ⟨Rect.unit ![6, 0, 0, 0] ![1, 1, 1, 512] inb_S8x1x1x512_S1x1x1x512_6_0_0_0, k0_pay28 (F := Ideal) (k0_pay3 (F := Ideal) da at')⟩,
        ⟨Rect.unit ![5, 0, 0, 0] ![1, 1, 1, 512] inb_S8x1x1x512_S1x1x1x512_5_0_0_0, k0_pay25 (F := Ideal) (k0_pay24 (F := Ideal) (k0_pay3 (F := Ideal) da at'))⟩,
        ⟨Rect.unit ![4, 0, 0, 0] ![1, 1, 1, 512] inb_S8x1x1x512_S1x1x1x512_4_0_0_0, k0_pay21 (F := Ideal) (k0_pay3 (F := Ideal) da at')⟩,
        ⟨Rect.unit ![3, 0, 0, 0] ![1, 1, 1, 512] inb_S8x1x1x512_S1x1x1x512_3_0_0_0, k0_pay18 (F := Ideal) (k0_pay17 (F := Ideal) (k0_pay3 (F := Ideal) da at'))⟩,
        ⟨Rect.unit ![2, 0, 0, 0] ![1, 1, 1, 512] inb_S8x1x1x512_S1x1x1x512_2_0_0_0, k0_pay14 (F := Ideal) (k0_pay3 (F := Ideal) da at')⟩,
        ⟨Rect.unit ![1, 0, 0, 0] ![1, 1, 1, 512] inb_S8x1x1x512_S1x1x1x512_1_0_0_0, k0_pay11 (F := Ideal) (k0_pay3 (F := Ideal) da at')⟩,
        ⟨Rect.unit ![0, 0, 0, 0] ![1, 1, 1, 512] inb_S8x1x1x512_S1x1x1x512_0_0_0_0, k0_pay8 (F := Ideal) da at'⟩] (ix4 h 0 0 l)
    = (∑ k : Fin 64, da (ix2 l ⟨h.val * 64 + k.val, by omega⟩) * at' (ix2 l ⟨h.val * 64 + k.val, by omega⟩) : EReal) := by
  canon_tiles x h
  all_goals
    obtain ⟨a, b, d, l', rfl⟩ : ∃ a b d l', x = ix4 a b d l' := ⟨x 0, x 1, x 2, x 3, funext fun j => match j with | ⟨0, _⟩ => rfl | ⟨1, _⟩ => rfl | ⟨2, _⟩ => rfl | ⟨3, _⟩ => rfl⟩
    obtain rfl : l' = l := Fin.ext h3.symm
    obtain rfl : a = 0 := Fin.ext (by omega)
    obtain rfl : b = 0 := Fin.ext (by omega)
    obtain rfl : d = 0 := Fin.ext (by omega)
    pointwise [k0_pay3, k0_pay8, k0_pay11, k0_pay14, k0_pay18, k0_pay17, k0_pay21, k0_pay25, k0_pay24, k0_pay28, k0_pay31]
  · obtain rfl : h = 7 := Fin.ext h0
    rfl
  · obtain rfl : h = 6 := Fin.ext h0
    rfl
  · obtain rfl : h = 5 := Fin.ext h0
    rfl
  · obtain rfl : h = 4 := Fin.ext h0
    rfl
  · obtain rfl : h = 3 := Fin.ext h0
    rfl
  · obtain rfl : h = 2 := Fin.ext h0
    rfl
  · obtain rfl : h = 1 := Fin.ext h0
    rfl
  · obtain rfl : h = 0 := Fin.ext h0
    rfl

end Kernel
end Cert.MpbIdeal.Grad

end
-- ==== Proof.MpbValue.lean ====
module

public import proofs.«01_k».proof.Proof.Gen.MpbIdeal.Frame
public import proofs.«01_k».proof.Proof.Gen.MpbRefIdeal.Read
public import Idealize.ShloMosaic.Lib.Pipeline.ValueKit
public import Idealize.ShloMosaic.Lib.Pointwise
public import proofs.«01_k».proof.Proof.MpbTiles

@[expose] public section

set_option maxRecDepth 16384

noncomputable section

open Idealize.ShloMosaic Idealize.ShloMosaic.TcCoe Idealize.SL.Sem
open Idealize.ShloMosaic.Pipeline (Dat)

namespace Cert.MpbIdeal.Grad

open Cert.MpbIdeal Cert.MpbIdeal.Gen

variable (m : (ℓ : Loc nD τ sig) → Buf (Elt Ideal) ℓ)

open Cert.HeadMath Cert.Norm Cert.GroupMath

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 9] ∧ win0_6.index t = ![t.val, 10]
    ∧ win0_7.index t = ![0, 0] ∧ win0_8.index t = ![t.val, 0, 0] ∧ win0_9.index t = ![0, t.val, 0, 0] ∧ win0_10.index t = ![t.val, 0]
    ∧ win0_11.index t = ![t.val, 0] ∧ win0_12.index t = ![0, 0] :=
  (by decide +kernel : ∀ t : Fin grid0.N, _)

/-- The arguments that the norm's derivative reads are real numbers. -/
def Tame (c : Dev nD) : Prop :=
  (∀ i, Cert.Norm.Real (m ((c : Thread nD τ).loc main_arg1) i)) ∧ (∀ i, Cert.Norm.Real (m ((c : Thread nD τ).loc main_arg2) i)) ∧ (∀ i, Cert.Norm.Real (m ((c : Thread nD τ).loc main_arg3) i)) ∧ (∀ i, Cert.Norm.Real (m ((c : Thread nD τ).loc main_arg4) i)) ∧ (∀ i, Cert.Norm.Real (m ((c : Thread nD τ).loc main_arg6) i))

theorem read_group (c : Dev nD) (t : Fin cfg0.N) (p : Fin 512) (r : Fin 16384) (hr : r.val = t.val * 512 + p.val) :
    group (iblk m c 3 t) (iblk m c 4 t) p = group (m ((c : Thread nD τ).loc main_arg1)) (m ((c : Thread nD τ).loc main_arg2)) r := by
  obtain ⟨v, hv⟩ := r
  obtain rfl : v = t.val * 512 + p.val := hr
  unfold group
  funext g k
  refine congrArg₂ (fun u v : EReal => u + v) ?_ ?_ <;> blk_point [iblk, V, idx t]

theorem read_out (c : Dev nD) (t : Fin cfg0.N) (p : Fin 512) (r : Fin 16384) (hr : r.val = t.val * 512 + p.val) (q) : iblk m c 2 t (ix2 p q) = (m ((c : Thread nD τ).loc main_arg6)) (ix2 r q) := by
  obtain ⟨v, hv⟩ := r
  obtain rfl : v = t.val * 512 + p.val := hr
  blk_point [iblk, V, idx t]

theorem read_attn (c : Dev nD) (t : Fin cfg0.N) (p : Fin 512) (r : Fin 16384) (hr : r.val = t.val * 512 + p.val) (q) : iblk m c 0 t (ix2 p q) = (m ((c : Thread nD τ).loc main_arg5)) (ix2 r q) := by
  obtain ⟨v, hv⟩ := r
  obtain rfl : v = t.val * 512 + p.val := hr
  blk_point [iblk, V, idx t]

theorem read_rows (c : Dev nD) (t : Fin cfg0.N) (p : Fin 512) (r : Fin 16384) (hr : r.val = t.val * 512 + p.val) (q) : iblk m c 1 t (ix2 p q) = (m ((c : Thread nD τ).loc main_arg0)) (ix2 r q) := by
  obtain ⟨v, hv⟩ := r
  obtain rfl : v = t.val * 512 + p.val := hr
  blk_simp [iblk, V, idx t]
  entry_read
  pointwise []
  exact congrArg (m ((c : Thread nD τ).loc main_arg0)) (by blk_ext [idx t])

theorem read_first (c : Dev nD) (t : Fin cfg0.N) (p : Fin 512) (r : Fin 16384) (hr : r.val = t.val * 512 + p.val) (q : Fin 256) : iblk m c 5 t (ix2 p q) = (m ((c : Thread nD τ).loc main_arg3)) (ix2 r ⟨2304 + q.val, by omega⟩) := by
  obtain ⟨v, hv⟩ := r
  obtain rfl : v = t.val * 512 + p.val := hr
  blk_simp [iblk, V, idx t]
  entry_read
  pointwise []
  exact congrArg (m ((c : Thread nD τ).loc main_arg3)) (by blk_ext [idx t])

theorem read_second (c : Dev nD) (t : Fin cfg0.N) (p : Fin 512) (r : Fin 16384) (hr : r.val = t.val * 512 + p.val) (q : Fin 256) : iblk m c 6 t (ix2 p q) = (m ((c : Thread nD τ).loc main_arg3)) (ix2 r ⟨2560 + q.val, by omega⟩) := by
  obtain ⟨v, hv⟩ := r
  obtain rfl : v = t.val * 512 + p.val := hr
  blk_simp [iblk, V, idx t]
  entry_read
  pointwise []
  exact congrArg (m ((c : Thread nD τ).loc main_arg3)) (by blk_ext [idx t])

theorem read_arg (c : Dev nD) (t : Fin cfg0.N) (p : Fin 512) (r : Fin 16384) (hr : r.val = t.val * 512 + p.val) (q) : arg (iblk m c 5 t) (iblk m c 6 t) p q = (m ((c : Thread nD τ).loc main_arg3)) (ix2 r ⟨2304 + q.val, by omega⟩) := by
  unfold arg
  split_ifs with h
  · exact read_first m c t p r hr _
  · refine (read_second m c t p r hr _).trans (congrArg (m ((c : Thread nD τ).loc main_arg3)) (congrArg (ix2 r) (Fin.ext ?_)))
    dsimp only
    omega

theorem read_gain (c : Dev nD) (t : Fin cfg0.N) (q) : iblk m c 7 t (ix2 0 q) = (m ((c : Thread nD τ).loc main_arg4)) (ix1 q) := by
  blk_simp [iblk, V, idx t]
  entry_read
  pointwise []
  refine congrArg (m ((c : Thread nD τ).loc main_arg4)) (congrArg ix1 (Fin.ext ?_))
  blk_simp [idx t]

theorem group_real (c : Dev nD) (h : Tame m c) (r g k) : Real (group (m ((c : Thread nD τ).loc main_arg1)) (m ((c : Thread nD τ).loc main_arg2)) r g k) :=
  (h.1 _).add (h.2.1 _)

theorem cotangent_real {dz gn rg : EReal} (h1 : Real dz) (h2 : Real gn) (h3 : Real rg) : Real (cotangent dz gn rg) :=
  (h1.mul h2).mul (h3.mul (gate_real h3))

theorem point10 (c : Dev nD) (h : Tame m c) (t : Fin cfg0.N) (p : Fin 512) (r : Fin 16384) (hr : r.val = t.val * 512 + p.val) (g k) :
    k0_pay46 (F := Ideal) (k0_pay38 (k0_pay35 (iblk m c 3 t) (iblk m c 4 t)) (k0_pay36 (iblk m c 3 t) (iblk m c 4 t)) (k0_pay37 (iblk m c 3 t) (iblk m c 4 t))) (k0_pay39 (k0_pay34 (iblk m c 3 t) (iblk m c 4 t)) (k0_pay35 (iblk m c 3 t) (iblk m c 4 t)) (k0_pay36 (iblk m c 3 t) (iblk m c 4 t)) (k0_pay37 (iblk m c 3 t) (iblk m c 4 t))) (k0_pay43 (k0_pay32 (iblk m c 5 t) (iblk m c 6 t)) (k0_pay33 (iblk m c 7 t)) (iblk m c 2 t)) (k0_pay44 (k0_pay32 (iblk m c 5 t) (iblk m c 6 t)) (k0_pay33 (iblk m c 7 t)) (iblk m c 2 t)) (k0_pay45 (k0_pay32 (iblk m c 5 t) (iblk m c 6 t)) (k0_pay33 (iblk m c 7 t)) (iblk m c 2 t)) (ix2 p (lane g k)) = Cert.MpbRefIdeal.Read.val_main_v66 (F := Ideal) (m ((c : Thread nD τ).loc main_arg1)) (m ((c : Thread nD τ).loc main_arg2)) (m ((c : Thread nD τ).loc main_arg3)) (m ((c : Thread nD τ).loc main_arg4)) (m ((c : Thread nD τ).loc main_arg6)) (ix2 r (lane g k)) := by
  rw [norm_grad, ref_norm_grad, GroupMath.chain_eq (group_real m c h r g)
    (fun l => cotangent_real (h.2.2.2.2 _) (h.2.2.2.1 _) (h.2.2.1 _))]
  simp only [read_group m c t p r hr, read_out m c t p r hr, read_arg m c t p r hr, read_gain]

theorem point11 (c : Dev nD) (h : Tame m c) (t : Fin cfg0.N) (p : Fin 512) (r : Fin 16384) (hr : r.val = t.val * 512 + p.val) (g k) :
    k0_pay1 (F := Ideal) (k0_pay32 (iblk m c 5 t) (iblk m c 6 t)) (k0_pay40 (k0_pay32 (iblk m c 5 t) (iblk m c 6 t))) (k0_pay47 (k0_pay39 (k0_pay34 (iblk m c 3 t) (iblk m c 4 t)) (k0_pay35 (iblk m c 3 t) (iblk m c 4 t)) (k0_pay36 (iblk m c 3 t) (iblk m c 4 t)) (k0_pay37 (iblk m c 3 t) (iblk m c 4 t))) (iblk m c 2 t)) (k0_pay48 (k0_pay33 (iblk m c 7 t))) (ix2 p (lane g k)) = Cert.MpbRefIdeal.Read.val_main_v82 (F := Ideal) (m ((c : Thread nD τ).loc main_arg1)) (m ((c : Thread nD τ).loc main_arg2)) (m ((c : Thread nD τ).loc main_arg3)) (m ((c : Thread nD τ).loc main_arg4)) (m ((c : Thread nD τ).loc main_arg6)) (ix2 r (lane g k)) := by
  rw [gate_grad, ref_gate_grad, read_group m c t p r hr, read_out m c t p r hr, read_arg m c t p r hr, read_gain]
  exact (gate_eq (h.2.2.2.2 _) (scaled_real (group_real m c h r g) k) (h.2.2.2.1 _) (h.2.2.1 _)).symm

theorem final10 (c : Dev nD) (h : Tame m c) : (dats m 0 c).arrAt 10 (cfgs 0).N = Cert.MpbRefIdeal.Read.val_main_v66 (F := Ideal) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t hf y => ?_
  blk_simp
  obtain ⟨p, q, rfl⟩ : ∃ p q, y = ix2 p q := ⟨y 0, y 1, funext fun a => match a with | ⟨0, _⟩ => rfl | ⟨1, _⟩ => rfl⟩
  obtain ⟨g, k, rfl⟩ := exists_lane q
  have hy : ((cfg0.win 10).blk t).view.emb (ix2 p (lane g k)) = ix2 ⟨t.val * 512 + p.val, by have : t.val < 32 := t.isLt; omega⟩ (lane g k) := by blk_ext [idx t]
  rw [hy, after0_10]
  refine Eq.trans ?_ (point10 m c h t p _ rfl g k)
  by_cases h0 : t.val % 32 = 0
  · rw [outsAt0_A m c t h0]
    frame_out
  · rw [outsAt0_B m c t h0]
    frame_out

theorem final11 (c : Dev nD) (h : Tame m c) : (dats m 0 c).arrAt 11 (cfgs 0).N = Cert.MpbRefIdeal.Read.val_main_v82 (F := Ideal) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 11 _ (by decide +kernel) fun t hf y => ?_
  blk_simp
  obtain ⟨p, q, rfl⟩ : ∃ p q, y = ix2 p q := ⟨y 0, y 1, funext fun a => match a with | ⟨0, _⟩ => rfl | ⟨1, _⟩ => rfl⟩
  obtain ⟨g, k, rfl⟩ := exists_lane q
  have hy : ((cfg0.win 11).blk t).view.emb (ix2 p (lane g k)) = ix2 ⟨t.val * 512 + p.val, by have : t.val < 32 := t.isLt; omega⟩ (lane g k) := by blk_ext [idx t]
  rw [hy, after0_11]
  refine Eq.trans ?_ (point11 m c h t p _ rfl g k)
  by_cases h0 : t.val % 32 = 0
  · rw [outsAt0_A m c t h0]
    frame_out
  · rw [outsAt0_B m c t h0]
    frame_out

theorem final8 (c : Dev nD) : (dats m 0 c).arrAt 8 (cfgs 0).N = Cert.MpbRefIdeal.Read.val_main_v79 (F := Ideal) (m ((c : Thread nD τ).loc main_arg5)) := by
  refine (dats m 0 c).arrAt_eq_of_covers 8 _ (by decide +kernel) fun t hf y => ?_
  blk_simp
  obtain ⟨a, q, l, rfl⟩ : ∃ (a : Fin 1) (q : Fin 1024) (l : Fin 512), y = ix3 a q l := ⟨y 0, y 1, y 2, funext fun j => match j with | ⟨0, _⟩ => rfl | ⟨1, _⟩ => rfl | ⟨2, _⟩ => rfl⟩
  obtain rfl : a = 0 := Fin.ext (by omega)
  have ht : t.val < 32 := t.isLt
  have hy : ((cfg0.win 8).blk t).view.emb (ix3 0 q l) = ix3 ⟨t.val, ht⟩ q l := by blk_ext [idx t]
  rw [hy, after0_8]
  refine Eq.trans ?_ ((canon_columns (iblk m c 0 t) q l).trans (Eq.trans ?_ (ref_columns _ _ _ _).symm))
  · by_cases h0 : t.val % 32 = 0
    · rw [outsAt0_A m c t h0]
      frame_out
    · rw [outsAt0_B m c t h0]
      frame_out
  · exact congrArg (fun f => column f q) (funext fun n => read_attn m c t l ⟨t.val * 512 + l.val, by omega⟩ rfl n)

theorem final9 (c : Dev nD) : (dats m 0 c).arrAt 9 (cfgs 0).N = Cert.MpbRefIdeal.Read.val_main_v81 (F := Ideal) (m ((c : Thread nD τ).loc main_arg0)) (m ((c : Thread nD τ).loc main_arg5)) := by
  refine (dats m 0 c).arrAt_eq_of_covers 9 _ (by decide +kernel) fun t hf y => ?_
  blk_simp
  obtain ⟨h, a, b, l, rfl⟩ : ∃ (h : Fin 8) (a b : Fin 1) (l : Fin 512), y = ix4 h a b l := ⟨y 0, y 1, y 2, y 3, funext fun j => match j with | ⟨0, _⟩ => rfl | ⟨1, _⟩ => rfl | ⟨2, _⟩ => rfl | ⟨3, _⟩ => rfl⟩
  obtain rfl : a = 0 := Fin.ext (by omega)
  obtain rfl : b = 0 := Fin.ext (by omega)
  have ht : t.val < 32 := t.isLt
  have hy : ((cfg0.win 9).blk t).view.emb (ix4 h 0 0 l) = ix4 h ⟨t.val, ht⟩ 0 l := by blk_ext [idx t]
  rw [hy, after0_9]
  refine Eq.trans ?_ ((canon_delta (iblk m c 0 t) (iblk m c 1 t) h l).trans (Eq.trans ?_ (ref_delta _ _ _ _ _).symm))
  · by_cases h0 : t.val % 32 = 0
    · rw [outsAt0_A m c t h0]
      frame_out
    · rw [outsAt0_B m c t h0]
      frame_out
  · simp only [read_attn m c t l ⟨t.val * 512 + l.val, by omega⟩ rfl, read_rows m c t l ⟨t.val * 512 + l.val, by omega⟩ rfl]

/-- What a tile adds to the first row of the gain's gradient. -/
def Term (c : Dev nD) (t : Fin cfg0.N) (q : Fin 512) : EReal :=
  gainRows (iblk m c 2 t) (group (iblk m c 3 t) (iblk m c 4 t)) (arg (iblk m c 5 t) (iblk m c 6 t)) q

theorem gain_A (c : Dev nD) (t : Fin cfg0.N) (h : t.val % 32 = 0) (r q) : (outsAt0 m c t.val t.isLt).2.2.2.2 (ix2 r q) = if r.val = 0 then 0 + Term m c t q else 0 := by
  rw [outsAt0_A m c t h]
  frame_out
  refine (Cert.RowStore.canon _ _ _ _ r q).trans ?_
  have hz : ∀ i, k0_pay2 (F := Ideal) i = 0 := fun i => by pointwise [k0_pay2]
  rw [gain_rows, Cert.RowStore.load _ _ _ _ 0 rfl q, hz, hz]
  rfl

theorem gain_B (c : Dev nD) (t : Fin cfg0.N) (h : ¬t.val % 32 = 0) (r q) : (outsAt0 m c t.val t.isLt).2.2.2.2 (ix2 r q)
    = if r.val = 0 then (outsAt0 m c (t.val - 1) (Nat.lt_of_le_of_lt (Nat.sub_le _ _) t.isLt)).2.2.2.2 (ix2 0 q) + Term m c t q
      else (outsAt0 m c (t.val - 1) (Nat.lt_of_le_of_lt (Nat.sub_le _ _) t.isLt)).2.2.2.2 (ix2 r q) := by
  rw [outsAt0_B m c t h]
  frame_out
  refine (Cert.RowStore.write _ _ _ _ _ r q).trans ?_
  rw [View.writes_nil, (hs0_12 t).read_unread, gain_rows, Cert.RowStore.ld _ _ 0 rfl q]
  rfl

theorem sum_terms (c : Dev nD) (q) : ∑ s, Term m c s q = gainRows (m ((c : Thread nD τ).loc main_arg6)) (group (m ((c : Thread nD τ).loc main_arg1)) (m ((c : Thread nD τ).loc main_arg2))) (fun p q => (m ((c : Thread nD τ).loc main_arg3)) (ix2 p ⟨2304 + q.val, by omega⟩)) q := by
  unfold Term gainRows
  refine Fin.sum_mul_add_congr fun s p hl => ?_
  rw [read_group m c s p ⟨_, hl⟩ rfl, read_arg m c s p ⟨_, hl⟩ rfl, read_out m c s p ⟨_, hl⟩ rfl]

theorem final12 (c : Dev nD) : (dats m 0 c).arrAt 12 (cfgs 0).N = Cert.MpbRefIdeal.Read.val_main_v85 (F := Ideal) (m ((c : Thread nD τ).loc main_arg1)) (m ((c : Thread nD τ).loc main_arg2)) (m ((c : Thread nD τ).loc main_arg3)) (m ((c : Thread nD τ).loc main_arg6)) := by
  refine (dats m 0 c).arrAt_eq_of_covers 12 _ (by decide +kernel) fun t hf y => ?_
  blk_simp
  have hy : ((cfg0.win 12).blk t).view.emb y = y := by blk_ext [idx t]
  rw [hy, after0_12]
  refine (Cert.RowStore.total (fun n h => (outsAt0 m c n h).2.2.2.2) 32 (Term m c) 0 rfl (gain_A m c) (gain_B m c) (by decide) t
    (by have := (flush0_12 t).mp hf; have hN : cfg0.N = 32 := rfl; omega) y).trans (Eq.trans ?_ (ref_gain_rows _ _ _ _ y).symm)
  exact if_congr Iff.rfl (sum_terms m c (y 1)) rfl

end Cert.MpbIdeal.Grad

end
-- ==== Proof.Mpb.lean ====
module

public import proofs.«01_k».proof.Defs
public import proofs.«01_k».proof.Proof.MpbValue
public import proofs.«01_k».proof.Proof.Gen.MpbIdeal.Value
public import proofs.«01_k».proof.Proof.Gen.MpbRefIdeal.Run
public import proofs.«01_k».proof.Proof.Gen.Pre_finite_mpb
public import Idealize.ShloMosaic.Lib.Quiescent

@[expose] public section

set_option maxRecDepth 16384

noncomputable section

open Idealize.ShloMosaic Idealize.ShloMosaic.TcCoe Idealize.SL.Sem

namespace Cert.Proof.Mpb

theorem frame_ref : Cert.quiescent_MpbRefIdeal := fun m ρ _ =>
  (θ_run Cert.MpbRefIdeal.defs _ _).mono
    (fun r h => ⟨fun c => (h c).2.2.2.2.2, Idealize.ShloMosaic.sem_eq_zero_of_no_sems (by decide) r.2⟩)
    (Cert.MpbRefIdeal.Value.run (F := Ideal) m ρ)

theorem frame_ref_pre : Cert.quiescent_MpbRefIdeal_pre_finite_mpb := fun m ρ _ => frame_ref m ρ trivial

/-- The precondition makes every entry of the arguments that it names a real number. -/
theorem tame (m) (h : Pre_MpbIdeal_finite_mpb m) (c) : Cert.MpbIdeal.Grad.Tame m c :=
  ⟨fun _ => Cert.Norm.Real.of_pre _ _ _ (h c).1 _, fun _ => Cert.Norm.Real.of_pre _ _ _ (h c).2.1 _, fun _ => Cert.Norm.Real.of_pre _ _ _ (h c).2.2.1 _, fun _ => Cert.Norm.Real.of_pre _ _ _ (h c).2.2.2.1 _, fun _ => Cert.Norm.Real.of_pre _ _ _ (h c).2.2.2.2 _⟩

/-- The results as the reference's run writes them. -/
theorem value : Cert.algebraic_MpbIdeal_MpbRefIdeal_pre_finite_mpb := fun m g m' g' hpre ha =>
  ⟨_, _, _, _, _,
    (θ_run _ _ _).mono (fun r h c => ⟨(h c).1.trans (Cert.MpbIdeal.Grad.final8 m c),
      (h c).2.1.trans (Cert.MpbIdeal.Grad.final9 m c),
      (h c).2.2.1.trans (Cert.MpbIdeal.Grad.final10 m c (tame m hpre c)),
      (h c).2.2.2.1.trans (Cert.MpbIdeal.Grad.final11 m c (tame m hpre c)),
      (h c).2.2.2.2.1.trans (Cert.MpbIdeal.Grad.final12 m c), (h c).2.2.2.2.2⟩)
      (Cert.MpbIdeal.Value.run_blocks (F := Ideal) m g),
    (θ_run _ _ _).mono (fun r h c => ⟨(h c).1.trans (by rw [← (ha c).2.2.2.2.2.1]; rfl),
      (h c).2.1.trans (by rw [← (ha c).1, ← (ha c).2.2.2.2.2.1]; rfl),
      (h c).2.2.1.trans (by rw [← (ha c).2.1, ← (ha c).2.2.1, ← (ha c).2.2.2.1, ← (ha c).2.2.2.2.1, ← (ha c).2.2.2.2.2.2]; rfl),
      (h c).2.2.2.1.trans (by rw [← (ha c).2.1, ← (ha c).2.2.1, ← (ha c).2.2.2.1, ← (ha c).2.2.2.2.1, ← (ha c).2.2.2.2.2.2]; rfl),
      (h c).2.2.2.2.1.trans (by rw [← (ha c).2.1, ← (ha c).2.2.1, ← (ha c).2.2.2.1, ← (ha c).2.2.2.2.2.2]; rfl), (h c).2.2.2.2.2⟩)
      (Cert.MpbRefIdeal.Value.run (F := Ideal) m' g')⟩

end Cert.Proof.Mpb

end
-- ==== Proof.AttnMath.lean ====
module

public import proofs.«01_k».proof.Proof.NormMath
public import Idealize.ShloMosaic.Lib.Pointwise

@[expose] public section

/-! # Attention's gradient over the real numbers -/

noncomputable section

open Idealize.ShloMosaic

namespace Cert.AttnMath

/-- Column `d` of head `h` among the queries' columns. -/
abbrev qcol (h : Fin 8) (d : Fin 64) : Fin 512 := ⟨h.val * 64 + d.val, by omega⟩

/-- Column `d` of the key head that head `h` reads: four heads share one. -/
abbrev kcol (h : Fin 8) (d : Fin 64) : Fin 128 := ⟨h.val / 4 * 64 + d.val, by omega⟩

section
variable {n : ℕ} (Q D : Fin n → Fin 512 → ℝ) (K V : Fin n → Fin 128 → ℝ) (h : Fin 8)

/-- The score of query `r` against key `s`. -/
def score (r s : Fin n) : ℝ := (∑ d, Q r (qcol h d) * K s (kcol h d)) * (1 / 8)

/-- The sum of a row's exponentials. -/
def total (r : Fin n) : ℝ := ∑ s, Real.exp (score Q K h r s)

/-- The weight of key `s` for query `r`. -/
def weight (r s : Fin n) : ℝ := Real.exp (score Q K h r s) / total Q K h r

/-- The cotangent of a weight. -/
def cot (r s : Fin n) : ℝ := ∑ d, D r (qcol h d) * V s (kcol h d)

/-- The sum of a row's weights times their cotangents. -/
def mean (r : Fin n) : ℝ := ∑ s, weight Q K h r s * cot D V h r s

/-- The gradient in a score. -/
def grad (r s : Fin n) : ℝ := weight Q K h r s * (cot D V h r s - mean Q D K V h r)

theorem total_pos (r : Fin n) : 0 < total Q K h r :=
  Finset.sum_pos (fun s _ => Real.exp_pos _) ⟨r, Finset.mem_univ r⟩

/-- Exponentials of scores less any one number, over their sum, are the weights. -/
theorem shifted (μ : ℝ) (r : Fin n) : ∑ s, Real.exp (score Q K h r s - μ) = Real.exp (-μ) * total Q K h r := by
  unfold total
  rw [Finset.mul_sum]
  exact Finset.sum_congr rfl fun s _ => by rw [← Real.exp_add]; ring_nf

theorem weight_shifted (μ : ℝ) (r s : Fin n) :
    Real.exp (score Q K h r s - μ) / (Real.exp (-μ) * total Q K h r) = weight Q K h r s := by
  have h1 := (Real.exp_pos (-μ)).ne'
  have h2 := (total_pos Q K h r).ne'
  rw [weight, sub_eq_neg_add, Real.exp_add]
  field_simp

/-- What softmax's derivative writes in a shifted row is the gradient in the score. -/
theorem grad_shifted (μ : ℝ) (r s : Fin n) (l : ℝ) (hl : l = Real.exp (-μ) * total Q K h r) :
    (cot D V h r s / l + -∑ u, cot D V h r u * (1 / (l * l)) * Real.exp (score Q K h r u - μ)) * Real.exp (score Q K h r s - μ)
      = grad Q D K V h r s := by
  have h0 : l ≠ 0 := hl ▸ mul_ne_zero (Real.exp_pos _).ne' (total_pos Q K h r).ne'
  have hw : ∀ u, Real.exp (score Q K h r u - μ) = weight Q K h r u * l := fun u => by
    rw [← weight_shifted Q K h μ r u, ← hl]; field_simp
  have hs : ∑ u, cot D V h r u * (1 / (l * l)) * Real.exp (score Q K h r u - μ) = mean Q D K V h r / l := by
    rw [mean, Finset.sum_div]
    refine Finset.sum_congr rfl fun u _ => ?_
    rw [hw]; field_simp
  rw [hs, hw, grad]
  field_simp
  ring

/-- A power of two of the score in base two, less the logarithm of the row's sum in base two, is the weight. -/
theorem weight_pow (r s : Fin n) :
    (2 : ℝ) ^ (score Q K h r s / Real.log 2 - Real.log (total Q K h r) / Real.log 2) = weight Q K h r s := by
  have h2 : Real.log 2 ≠ 0 := (Real.log_pos one_lt_two).ne'
  rw [Real.rpow_def_of_pos two_pos, ← sub_div, mul_div_cancel₀ _ h2, Real.exp_sub, Real.exp_log (total_pos Q K h r), weight]

/-- The logarithm of a shifted row's sum, with the shift added back. -/
theorem log_shifted (μ : ℝ) (r : Fin n) : μ + Real.log (Real.exp (-μ) * total Q K h r) = Real.log (total Q K h r) := by
  rw [Real.log_mul (Real.exp_pos _).ne' (total_pos Q K h r).ne', Real.log_exp]
  ring

end

/-- The greatest of real numbers, one at least, is a real number. -/
theorem fold_max_real {n : ℕ} (hn : 0 < n) (f : Fin n → ℝ) :
    ∃ μ : ℝ, (Finset.univ : Finset (Fin n)).fold max (⊥ : EReal) (fun k => (f k : EReal)) = (μ : EReal) := by
  have key : ∀ s : Finset (Fin n), s.fold max (⊥ : EReal) (fun k => (f k : EReal)) = ⊥ ∧ s = ∅
      ∨ ∃ μ : ℝ, s.fold max (⊥ : EReal) (fun k => (f k : EReal)) = (μ : EReal) := by
    intro s
    induction s using Finset.induction_on with
    | empty => exact Or.inl ⟨Finset.fold_empty, rfl⟩
    | insert a s ha ih =>
      right
      rw [Finset.fold_insert ha]
      rcases ih with ⟨h, -⟩ | ⟨μ, h⟩
      · exact ⟨f a, by rw [h, max_eq_left bot_le]⟩
      · exact ⟨max (f a) μ, by rw [h]; exact (EReal.coe_strictMono.monotone.map_max).symm⟩
  rcases key Finset.univ with ⟨-, h⟩ | h
  · exact absurd (h ▸ Finset.mem_univ (⟨0, hn⟩ : Fin n)) (Finset.notMem_empty _)
  · exact h

/-- A lane of a head's half of 128 lanes. -/
abbrev Inside (h : Fin 8) (a : Fin 128) : Prop := a.val / 64 = h.val / 4

/-- Over 128 lanes that hold a row of 64 in one half and zeros in the other, a product sums over the row. -/
theorem sum_half (h : Fin 8) (f : Fin 128 → ℝ) (g : Fin 64 → ℝ) :
    ∑ a : Fin 128, f a * (if Inside h a then g ⟨a.val % 64, by omega⟩ else 0) = ∑ d : Fin 64, f (kcol h d) * g d := by
  simp only [mul_ite, mul_zero]
  rw [← Finset.sum_filter]
  refine (Finset.sum_nbij' (fun d => kcol h d) (fun a => (⟨a.val % 64, by omega⟩ : Fin 64)) ?_ ?_ ?_ ?_ ?_).symm
  · intro d _
    simp only [Finset.mem_filter, Finset.mem_univ, true_and]
    show (h.val / 4 * 64 + d.val) / 64 = h.val / 4
    omega
  · intro a _; exact Finset.mem_univ _
  · intro d _
    refine Fin.ext ?_
    show (h.val / 4 * 64 + d.val) % 64 = d.val
    omega
  · intro a ha
    have h1 : a.val / 64 = h.val / 4 := (Finset.mem_filter.mp ha).2
    refine Fin.ext ?_
    show h.val / 4 * 64 + a.val % 64 = a.val
    omega
  · intro d _
    have : (⟨(kcol h d).val % 64, by omega⟩ : Fin 64) = d := Fin.ext (by show (h.val / 4 * 64 + d.val) % 64 = d.val; omega)
    rw [this]

end Cert.AttnMath

end
-- ==== Proof.AttnBody.lean ====
/- One point of the attention gradient's grid: what the body leaves in its buffers, by a loop invariant
   that names every buffer's contents. -/
module

public import proofs.«01_k».proof.Defs
public import proofs.«01_k».proof.Proof.Gen.AttnIdeal.Launch
public import proofs.«01_k».proof.Proof.Gen.AttnIdeal.Skeleton
public import proofs.«01_k».proof.Proof.Gen.AttnIdeal.Loops
public import proofs.«01_k».proof.Proof.Gen.AttnIdeal.Frame
public import Idealize.ShloMosaic.Lib.Tactic
public import Idealize.ShloMosaic.Lib.Pointwise
public import Idealize.ShloMosaic.Lib.VecWindow
public import Idealize.ShloMosaic.Lib.WholeRead

@[expose] public section

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the buffers hold, tile by tile -/

section Contents
variable (x0 x1 : Vec F S32x128x512 .bf16) (x2 x3 : Vec F S1x32x1x512 .f32)
  (v4 v6 : FVec F S2048x128 .bf16) (v15 : FVec F S64x2048 .bf16) (base : Vec F S32x64x512 .f32)

/-- The number of a tile of queries. -/
def tile (i : ℕ) : Fin 32 := ⟨i % 32, Nat.mod_lt _ (by decide)⟩
/-- Tile `i` of the queries, or of the output's cotangents. -/
def colsAt (x : Vec F S32x128x512 .bf16) (i : ℕ) : Vec F S1x128x512 .bf16 := fun y => x (ix3 (tile i) (y 1) (y 2))
/-- Tile `i` of the row sums. -/
def statAt (x : Vec F S1x32x1x512 .f32) (i : ℕ) : Vec F S1x1x1x512 .f32 := fun y => x (ix4 0 (tile i) (y 2) (y 3))
/-- Tile `i` of the queries' gradient. -/
def outAt (x : Vec F S32x64x512 .f32) (i : ℕ) : Vec F S1x64x512 .f32 := fun y => x (ix3 (tile i) (y 1) (y 2))

/-- Quarter `r` of the point's keys, a row of the table of keys by column. -/
def keyAt (x : Vec F S4x64x512 .bf16) (r : Fin 4) : Vec F S1x64x512 .bf16 := fun y => x (ix3 r (y 1) (y 2))
/-- The point's keys, a column each. -/
def keyRows (x : Vec F S4x64x512 .bf16) : FVec F S64x2048 .bf16 := k0_pay23 (keyAt x 0) (keyAt x 1) (keyAt x 2) (keyAt x 3)

/-- The scores of tile `i`, -/
def scoreAt (i : ℕ) : FVec F S2048x512 .f32 := k0_pay9 v4 (colsAt x0 i)
/-- the products of the values with its cotangents, -/
def prodAt (i : ℕ) : FVec F S2048x512 .f32 := k0_pay35 v6 (colsAt x1 i)
/-- its probabilities, -/
def probAt (i : ℕ) : FVec F S2048x512 .bf16 := k0_pay17 (scoreAt x0 v4 i) (statAt x2 i)
/-- and its scores' cotangents. -/
def gradAt (i : ℕ) : FVec F S2048x512 .bf16 := k0_pay18 (scoreAt x0 v4 i) (statAt x2 i) (prodAt x1 v6 i) (statAt x3 i)
/-- The values' gradient after `i` tiles, -/
def dvAt : ℕ → FVec F S2048x128 .f32
  | 0 => k0_pay25
  | i + 1 => k0_pay3 (dvAt i) (probAt x0 x2 v4 i) (colsAt x1 i)
/-- the keys' -/
def dkAt : ℕ → FVec F S2048x128 .f32
  | 0 => k0_pay24
  | i + 1 => k0_pay4 (gradAt x0 x1 x2 x3 v4 v6 i) (dkAt i) (colsAt x0 i)
/-- and the queries': the tiles before `i` have this point's part added. -/
def dqAt (i : ℕ) : FVec F S32x64x512 .f32 := fun y =>
  if (y 0 : ℕ) < i then k0_pay5 v15 (gradAt x0 x1 x2 x3 v4 v6 (y 0)) (outAt base (y 0)) (ix3 0 (y 1) (y 2)) else base y

end Contents

/-! ## Loads and stores of a tile -/

section Whole
variable {a b : ℕ} {e : EltTy} (arg : Memref sig .tc .vmem ⟨2, ![a, b]⟩ e)

/-- A load of a whole buffer after a store of the whole of it reads what was stored. -/
theorem whole_cov (inb inb' : ∀ i, (![0, 0] : Fin 2 → ℕ) i + (![a, b] : Fin 2 → ℕ) i ≤ (![a, b] : Fin 2 → ℕ) i)
    (w : (⟨2, ![a, b]⟩ : Shape).Idx → Elt F e) (L : List (View.Piece (Elt F) ⟨2, ![a, b]⟩ e)) :
    arg.view.readCov (Val := Elt F) (⟨Rect.unit (s := ⟨2, ![a, b]⟩) ![0, 0] ![a, b] inb', w⟩ :: L) (Rect.unit (s := ⟨2, ![a, b]⟩) ![0, 0] ![a, b] inb).toLoadRect = w :=
  View.readCov_full _ _ _ _ _

/-- A load of a whole buffer reads its contents. -/
theorem whole_read (f : arg.view.ty.Contents (Elt F)) (inb : ∀ i, (![0, 0] : Fin 2 → ℕ) i + (![a, b] : Fin 2 → ℕ) i ≤ (![a, b] : Fin 2 → ℕ) i) :
    arg.view.readAt (Elt F) (Rect.unit (s := ⟨2, ![a, b]⟩) ![0, 0] ![a, b] inb).toLoadRect f = arg.view.read (Elt F) f :=
  View.readAt_full _ _ _

end Whole

section Tiles
variable (x : Vec F S32x128x512 .bf16) (z : Vec F S1x32x1x512 .f32)

/-- A load of tile `i` of the queries. -/
theorem cols_read {arg : Memref sig .tc .vmem S32x128x512 .bf16} (harg : arg.IsWhole) {off : Fin 3 → ℕ} {i : ℕ} (h : off = ![i, 0, 0])
    (hi : i < 32) (inb : ∀ a, off a + S1x128x512.size a ≤ S32x128x512.size a) :
    arg.view.readAt (Elt F) (Rect.unit (s := S32x128x512) off S1x128x512.size inb).toLoadRect (harg.unread x) = colsAt x i := by
  subst h
  funext y
  rw [harg.readAt_unread]
  refine congrArg x (funext fun a => Fin.ext ?_)
  match a with
  | ⟨0, _⟩ => show i + 1 * (y 0).val = i % 32; have h0 : (y 0).val < 1 := (y 0).isLt; omega
  | ⟨1, _⟩ => show 0 + 1 * (y 1).val = (y 1).val; omega
  | ⟨2, _⟩ => show 0 + 1 * (y 2).val = (y 2).val; omega

/-- A load of a quarter of the keys. -/
theorem key_read (x : Vec F S4x64x512 .bf16) {arg : Memref sig .tc .vmem S4x64x512 .bf16} (harg : arg.IsWhole) {off : Fin 3 → ℕ} {i : ℕ}
    (h : off = ![i, 0, 0]) (hi : i < 4) (inb : ∀ a, off a + S1x64x512.size a ≤ S4x64x512.size a) :
    arg.view.readAt (Elt F) (Rect.unit (s := S4x64x512) off S1x64x512.size inb).toLoadRect (harg.unread x) = keyAt x ⟨i, hi⟩ := by
  subst h
  funext y
  rw [harg.readAt_unread]
  refine congrArg x (funext fun a => Fin.ext ?_)
  match a with
  | ⟨0, _⟩ => show i + 1 * (y 0).val = i; have h0 : (y 0).val < 1 := (y 0).isLt; omega
  | ⟨1, _⟩ => show 0 + 1 * (y 1).val = (y 1).val; omega
  | ⟨2, _⟩ => show 0 + 1 * (y 2).val = (y 2).val; omega

/-- A load of tile `i` of the row sums. -/
theorem stat_read {arg : Memref sig .tc .vmem S1x32x1x512 .f32} (harg : arg.IsWhole) {off : Fin 4 → ℕ} {i : ℕ} (h : off = ![0, i, 0, 0])
    (hi : i < 32) (inb : ∀ a, off a + S1x1x1x512.size a ≤ S1x32x1x512.size a) :
    arg.view.readAt (Elt F) (Rect.unit (s := S1x32x1x512) off S1x1x1x512.size inb).toLoadRect (harg.unread z) = statAt z i := by
  subst h
  funext y
  rw [harg.readAt_unread]
  refine congrArg z (funext fun a => Fin.ext ?_)
  match a with
  | ⟨0, _⟩ => show 0 + 1 * (y 0).val = 0; have h0 : (y 0).val < 1 := (y 0).isLt; omega
  | ⟨1, _⟩ => show i + 1 * (y 1).val = i % 32; have h0 : (y 1).val < 1 := (y 1).isLt; omega
  | ⟨2, _⟩ => show 0 + 1 * (y 2).val = (y 2).val; omega
  | ⟨3, _⟩ => show 0 + 1 * (y 3).val = (y 3).val; omega

/-- A load of tile `i` of the queries' gradient, whatever the contents. -/
theorem out_read (arg : Memref sig .tc .vmem S32x64x512 .f32) (f : arg.view.ty.Contents (Elt F)) {off : Fin 3 → ℕ} {i : ℕ} (h : off = ![i, 0, 0])
    (hi : i < 32) (inb : ∀ a, off a + S1x64x512.size a ≤ S32x64x512.size a) :
    arg.view.readAt (Elt F) (Rect.unit (s := S32x64x512) off S1x64x512.size inb).toLoadRect f = outAt (arg.view.read (Elt F) f) i := by
  subst h
  funext y
  refine congrArg (arg.view.read (Elt F) f) (funext fun a => Fin.ext ?_)
  match a with
  | ⟨0, _⟩ => show i + 1 * (y 0).val = i % 32; have h0 : (y 0).val < 1 := (y 0).isLt; omega
  | ⟨1, _⟩ => show 0 + 1 * (y 1).val = (y 1).val; omega
  | ⟨2, _⟩ => show 0 + 1 * (y 2).val = (y 2).val; omega

/-- A store of tile `i` of the queries' gradient changes that tile alone. -/
theorem out_write (arg : Memref sig .tc .vmem S32x64x512 .f32) (f : arg.view.ty.Contents (Elt F)) {off : Fin 3 → ℕ} {i : ℕ} (h : off = ![i, 0, 0])
    (inb : ∀ a, off a + S1x64x512.size a ≤ S32x64x512.size a) (w : FVec F S1x64x512 .f32) (L : List (View.Piece (Elt F) S32x64x512 .f32)) :
    arg.view.read (Elt F) (arg.view.writes (Elt F) f (⟨Rect.unit (s := S32x64x512) off S1x64x512.size inb, w⟩ :: L))
      = fun y => if (y 0 : ℕ) = i then w (ix3 0 (y 1) (y 2)) else arg.view.read (Elt F) (arg.view.writes (Elt F) f L) y := by
  funext y
  by_cases hy : (y 0 : ℕ) = i
  · rw [if_pos hy]
    refine View.read_writes_cons_unit_of_mem arg.view f inb w L y _ h fun a => ?_
    match a with
    | ⟨0, _⟩ => show (y 0).val = i + 0; omega
    | ⟨1, _⟩ => show (y 1).val = 0 + (y 1).val; omega
    | ⟨2, _⟩ => show (y 2).val = 0 + (y 2).val; omega
  · rw [if_neg hy]
    refine View.read_writes_cons_unit_of_not_mem arg.view f inb w L y h (0 : Fin 3) ?_
    show (y 0).val < i ∨ i + 1 ≤ (y 0).val
    omega

end Tiles

section Words
/-! The same value under another name. -/
theorem pay7_eq : @k0_pay7 F _ = k0_pay17 := rfl
theorem pay8_eq : @k0_pay8 F _ = k0_pay18 := rfl
theorem pay11_eq (v : FVec F S2048x128 .bf16) (x : Vec F S1x128x512 .bf16) : k0_pay11 (k0_pay10 v x) = k0_pay35 v x := rfl
theorem pay12_eq : @k0_pay12 F _ = k0_pay3 := rfl
theorem pay13_eq : @k0_pay13 F _ = k0_pay4 := rfl
theorem pay15_eq (v : FVec F S64x2048 .bf16) (g : Vec F S2048x512 .bf16) (x : Vec F S1x64x512 .f32) : k0_pay15 (k0_pay14 v g x) = k0_pay5 v g x := rfl
theorem pay19_eq : @k0_pay19 F _ = k0_pay9 := rfl
theorem pay27_eq (x : Vec F S2048x128 .bf16) (y : Vec F S1x128x512 .bf16) : k0_pay27 (k0_pay26 x y) = k0_pay9 (k0_pay21 x) y := rfl
theorem pay28_eq : @k0_pay28 F _ = k0_pay35 := rfl
theorem pay29_eq : @k0_pay29 F _ = k0_pay9 := rfl
theorem pay30_eq : @k0_pay30 F _ = k0_pay35 := rfl
theorem pay33_eq (s : FVec F S2048x512 .f32) (l : Vec F S1x1x1x512 .f32) : k0_pay33 (k0_pay32 s l) = k0_pay17 s l := rfl
theorem pay34_eq (s p : FVec F S2048x512 .f32) (l d : Vec F S1x1x1x512 .f32) : k0_pay34 (k0_pay31 s l) p d = k0_pay18 s l p d := rfl
theorem pay36_eq : @k0_pay36 F _ = k0_pay3 := rfl
theorem pay38_eq (g : FVec F S2048x512 .bf16) (k : FVec F S2048x128 .f32) (x : Vec F S1x128x512 .bf16) : k0_pay38 g k (k0_pay37 x) = k0_pay4 g k x := rfl
theorem pay39_eq : @k0_pay39 F _ = k0_pay5 := rfl
theorem pay41_eq : @k0_pay41 F _ = k0_pay17 := rfl
theorem pay43_eq (s p : FVec F S2048x512 .f32) (l d : Vec F S1x1x1x512 .f32) : k0_pay43 (k0_pay42 s l p d) = k0_pay18 s l p d := rfl
theorem pay44_eq : @k0_pay44 F _ = k0_pay3 := rfl
theorem pay45_eq : @k0_pay45 F _ = k0_pay4 := rfl
theorem pay46_eq : @k0_pay46 F _ = k0_pay5 := rfl

end Words

section Steps
variable (x0 x1 : Vec F S32x128x512 .bf16) (x2 x3 : Vec F S1x32x1x512 .f32)
  (v4 v6 : FVec F S2048x128 .bf16) (v15 : FVec F S64x2048 .bf16) (base : Vec F S32x64x512 .f32)

/-- Before tile `i` is reached the queries' gradient holds there what it held. -/
theorem out_dqAt {n i : ℕ} (h : n ≤ i) (hi : i < 32) : outAt (dqAt x0 x1 x2 x3 v4 v6 v15 base n) i = outAt base i := by
  funext y
  have e : (tile i : ℕ) = i := Nat.mod_eq_of_lt hi
  show (if ((tile i : Fin 32) : ℕ) < n then _ else base _) = base _
  rw [if_neg (by omega)]

/-- Before the first tile it holds all it held. -/
theorem dqAt_zero : dqAt x0 x1 x2 x3 v4 v6 v15 base 0 = base := funext fun _ => if_neg (Nat.not_lt_zero _)

/-- One more tile of the queries' gradient. -/
theorem dqAt_succ (i : ℕ) : dqAt x0 x1 x2 x3 v4 v6 v15 base (i + 1) = fun y => if (y 0 : ℕ) = i then
      k0_pay5 v15 (gradAt x0 x1 x2 x3 v4 v6 i) (outAt base i) (ix3 0 (y 1) (y 2)) else dqAt x0 x1 x2 x3 v4 v6 v15 base i y := by
  funext y
  unfold dqAt
  by_cases h : (y 0 : ℕ) = i
  · rw [if_pos (by omega), if_pos h, h]
  · rw [if_neg h]
    by_cases h' : (y 0 : ℕ) < i
    · rw [if_pos (by omega), if_pos h']
    · rw [if_neg (by omega), if_neg h']

end Steps

/-- The point is the first of its head. -/
abbrev atStart (i : grid0.Coords) : Prop := (Scalar.cmpi .ne (Scalar.extui (Scalar.cmpi .eq (BitVec.ofNat 32 (i 1).val) 0#32)) 0#32) = 1#1

section Trip
variable (c : Dev nD) (i : grid0.Coords)
  (arg2 : Memref sig .tc .vmem S32x128x512 .bf16) (harg2 : arg2.IsWhole)
  (arg3 : Memref sig .tc .vmem S32x128x512 .bf16) (harg3 : arg3.IsWhole)
  (arg4 : Memref sig .tc .vmem S1x32x1x512 .f32) (harg4 : arg4.IsWhole)
  (arg5 : Memref sig .tc .vmem S1x32x1x512 .f32) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S4x64x512 .bf16) (harg8 : arg8.IsWhole)
  (arg9 : Memref sig .tc .vmem S32x64x512 .f32) (harg9 : arg9.IsWhole)
  (arg10 : Memref sig .tc .vmem S1x2048x128 .bf16) (harg10 : arg10.IsWhole)
  (arg11 : Memref sig .tc .vmem S1x2048x128 .bf16) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S2048x512 .f32) (harg14 : arg14.IsWhole)
  (arg15 : Memref sig .tc .vmem S2048x512 .f32) (harg15 : arg15.IsWhole)
  (arg16 : Memref sig .tc .vmem S2048x512 .f32) (harg16 : arg16.IsWhole)
  (arg17 : Memref sig .tc .vmem S2048x512 .f32) (harg17 : arg17.IsWhole)
  (arg18 : Memref sig .tc .vmem S2048x512 .bf16) (harg18 : arg18.IsWhole)
  (arg19 : Memref sig .tc .vmem S2048x512 .bf16) (harg19 : arg19.IsWhole)
  (arg20 : Memref sig .tc .vmem S2048x512 .bf16) (harg20 : arg20.IsWhole)
  (arg21 : Memref sig .tc .vmem S2048x512 .bf16) (harg21 : arg21.IsWhole)
  (x0 x1 : Vec F S32x128x512 .bf16) (x2 x3 : Vec F S1x32x1x512 .f32)
  (v4 v6 : FVec F S2048x128 .bf16) (v15 : FVec F S64x2048 .bf16) (base : Vec F S32x64x512 .f32)
  (v53 : FVec F S2048x512 .f32) (v54 : FVec F S2048x512 .bf16)

/-- The invariant before trip `k`. -/
def inv (k : ℕ) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare (dqAt x0 x1 x2 x3 v4 v6 v15 base (2 * k)) ∗ owns (c : Thread nD τ) arg12 fullShare (dkAt x0 x1 x2 x3 v4 v6 (2 * k)) ∗ owns (c : Thread nD τ) arg13 fullShare (dvAt x0 x1 x2 v4 (2 * k)) ∗ owns (c : Thread nD τ) arg14 fullShare (scoreAt x0 v4 (2 * k)) ∗ owns (c : Thread nD τ) arg15 fullShare (scoreAt x0 v4 (2 * k + 1)) ∗ owns (c : Thread nD τ) arg16 fullShare (prodAt x1 v6 (2 * k)) ∗ owns (c : Thread nD τ) arg17 fullShare (prodAt x1 v6 (2 * k + 1)) ∗ owns (c : Thread nD τ) arg18 fullShare (probAt x0 x2 v4 (2 * k)) ∗ (∃ d, owns (c : Thread nD τ) arg19 fullShare d) ∗ owns (c : Thread nD τ) arg20 fullShare (gradAt x0 x1 x2 x3 v4 v6 (2 * k)) ∗ (∃ d, owns (c : Thread nD τ) arg21 fullShare d))

set_option maxHeartbeats 2000000 in
theorem trip (k : Fin k0_t1_loop.trips) (E : Set ℕ) :
    inv c arg2 arg3 arg4 arg5 arg9 arg12 arg13 arg14 arg15 arg16 arg17 arg18 arg19 arg20 arg21 x0 x1 x2 x3 v4 v6 v15 base k.val ⊢ wp frame (wpE (defs₀ (F := F)) Variants.none (c : Thread nD τ) none) E
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v15 v53 v54 k ())
      (fun _ => inv c arg2 arg3 arg4 arg5 arg9 arg12 arg13 arg14 arg15 arg16 arg17 arg18 arg19 arg20 arg21 x0 x1 x2 x3 v4 v6 v15 base (k.val + 1)) := by
  unfold inv owns
  iintro ⟨⟨%f2, %hf2, H2⟩, ⟨%f3, %hf3, H3⟩, ⟨%f4, %hf4, H4⟩, ⟨%f5, %hf5, H5⟩, ⟨%f9, %hf9, H9⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%d21, %f21, -, H21⟩⟩
  obtain rfl := harg2.eq_unread hf2; obtain rfl := harg3.eq_unread hf3; obtain rfl := harg4.eq_unread hf4; obtain rfl := harg5.eq_unread hf5; obtain rfl := harg9.eq_unread hf9; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg20.eq_unread hf20
  have hk : k.val < 15 := k.isLt
  have o1 : k0_off4 k 1#32 = ![2 * k.val + 1, 0, 0] := k0_off4_eq k 0
  have o2 : k0_off4 k 2#32 = ![2 * k.val + 2, 0, 0] := k0_off4_eq k 1
  have o3 : k0_off4 k 3#32 = ![2 * k.val + 3, 0, 0] := k0_off4_eq k 2
  have s1 : k0_off3 k 1#32 = ![0, 2 * k.val + 1, 0, 0] := k0_off3_eq k 0
  have s2 : k0_off3 k 2#32 = ![0, 2 * k.val + 2, 0, 0] := k0_off3_eq k 1
  have h2 : 2 * k.val < 32 := by omega
  have h5 : 2 * k.val + 1 < 32 := by omega
  have q0 := cols_read x0 harg2 (k0_off1_eq k) (by omega)
  have q1 := cols_read x0 harg2 o1 (by omega)
  have q2 := cols_read x0 harg2 o2 (by omega)
  have q3 := cols_read x0 harg2 o3 (by omega)
  have d0 := cols_read x1 harg3 (k0_off1_eq k) (by omega)
  have d1 := cols_read x1 harg3 o1 (by omega)
  have d2 := cols_read x1 harg3 o2 (by omega)
  have d3 := cols_read x1 harg3 o3 (by omega)
  have l1 := stat_read x2 harg4 s1 (by omega)
  have l2 := stat_read x2 harg4 s2 (by omega)
  have e1 := stat_read x3 harg5 s1 (by omega)
  have e2 := stat_read x3 harg5 s2 (by omega)
  have n2 : 2 * (k.val + 1) = 2 * k.val + 2 := by omega
  rw [n2]
  sl_unfold [k0_t1_body]
  simp only [k0_part1_eq_skeleton, k0_part2_eq_skeleton, k0_part3_eq_skeleton, k0_part4_eq_skeleton]
  sl_exec
  sl_step
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H9]
  · iexists _; isplitr; swap; · iexact H9
    ipureintro
    refine (out_write _ _ (k0_off5_eq k) _ _ _).trans (Eq.trans ?_ (dqAt_succ x0 x1 x2 x3 v4 v6 v15 base (2 * k.val + 1)).symm)
    delta trip.sl.r_1
    delta trip.sl.v218 trip.sl.v239
    delta trip.sl.H21_1
    simp only [out_write _ _ (k0_off2_eq k), dqAt_succ x0 x1 x2 x3 v4 v6 v15 base (2 * k.val), View.writes_nil, pay15_eq,
      whole_cov, whole_read, harg9.read_unread, harg12.read_unread, harg13.read_unread, harg15.read_unread, harg17.read_unread, harg18.read_unread, harg20.read_unread, q0, q1, q2, q3, d0, d1, d2, d3, l1, l2, e1, e2, pay7_eq, pay8_eq, pay11_eq, pay12_eq, pay13_eq, pay19_eq, out_read _ _ (k0_off5_eq k) h5, out_read _ _ (k0_off2_eq k) h2, out_dqAt x0 x1 x2 x3 v4 v6 v15 base (Nat.le_succ _) h5, out_dqAt x0 x1 x2 x3 v4 v6 v15 base (le_refl _) h2]
    rfl
  isplitl [H12]
  · iexists _; isplitr; swap; · iexact H12
    ipureintro
    refine (View.read_writes_full _ _ _ _ _).trans ?_
    delta trip.sl.v218 trip.sl.v229
    delta trip.sl.H21_1 trip.sl.H12_1
    simp only [whole_cov, whole_read, harg9.read_unread, harg12.read_unread, harg13.read_unread, harg15.read_unread, harg17.read_unread, harg18.read_unread, harg20.read_unread, q0, q1, q2, q3, d0, d1, d2, d3, l1, l2, e1, e2, pay7_eq, pay8_eq, pay11_eq, pay12_eq, pay13_eq, pay19_eq]
    rfl
  isplitl [H13]
  · iexists _; isplitr; swap; · iexact H13
    ipureintro
    refine (View.read_writes_full _ _ _ _ _).trans ?_
    delta trip.sl.v219 trip.sl.v220
    delta trip.sl.H13_1 trip.sl.H19_1
    simp only [whole_cov, whole_read, harg9.read_unread, harg12.read_unread, harg13.read_unread, harg15.read_unread, harg17.read_unread, harg18.read_unread, harg20.read_unread, q0, q1, q2, q3, d0, d1, d2, d3, l1, l2, e1, e2, pay7_eq, pay8_eq, pay11_eq, pay12_eq, pay13_eq, pay19_eq]
    rfl
  isplitl [H14]
  · iexists _; isplitr; swap; · iexact H14
    ipureintro
    refine (View.read_writes_full _ _ _ _ _).trans ?_
    rfl
  isplitl [H15]
  · iexists _; isplitr; swap; · iexact H15
    ipureintro
    refine (View.read_writes_full _ _ _ _ _).trans ?_
    rfl
  isplitl [H16]
  · iexists _; isplitr; swap; · iexact H16
    ipureintro
    refine (View.read_writes_full _ _ _ _ _).trans ?_
    delta trip.sl.r
    simp only [whole_cov, whole_read, harg9.read_unread, harg12.read_unread, harg13.read_unread, harg15.read_unread, harg17.read_unread, harg18.read_unread, harg20.read_unread, q0, q1, q2, q3, d0, d1, d2, d3, l1, l2, e1, e2, pay7_eq, pay8_eq, pay11_eq, pay12_eq, pay13_eq, pay19_eq]
    rfl
  isplitl [H17]
  · iexists _; isplitr; swap; · iexact H17
    ipureintro
    refine (View.read_writes_full _ _ _ _ _).trans ?_
    rfl
  isplitl [H18]
  · iexists _; isplitr; swap; · iexact H18
    ipureintro
    refine (View.read_writes_full _ _ _ _ _).trans ?_
    delta trip.sl.v248
    delta trip.sl.H14_1
    simp only [whole_cov, whole_read, harg9.read_unread, harg12.read_unread, harg13.read_unread, harg15.read_unread, harg17.read_unread, harg18.read_unread, harg20.read_unread, q0, q1, q2, q3, d0, d1, d2, d3, l1, l2, e1, e2, pay7_eq, pay8_eq, pay11_eq, pay12_eq, pay13_eq, pay19_eq]
    rfl
  isplitl [H19]
  · iexists _, _; isplitr; swap; · iexact H19
    ipureintro; rfl
  isplitl [H20]
  · iexists _; isplitr; swap; · iexact H20
    ipureintro
    refine (View.read_writes_full _ _ _ _ _).trans ?_
    delta trip.sl.v248 trip.sl.v259
    delta trip.sl.H14_1 trip.sl.H16_1
    delta trip.sl.r
    simp only [whole_cov, whole_read, harg9.read_unread, harg12.read_unread, harg13.read_unread, harg15.read_unread, harg17.read_unread, harg18.read_unread, harg20.read_unread, q0, q1, q2, q3, d0, d1, d2, d3, l1, l2, e1, e2, pay7_eq, pay8_eq, pay11_eq, pay12_eq, pay13_eq, pay19_eq]
    rfl
  iexists _, _; isplitr; swap; · iexact H21
  ipureintro; rfl

variable (x4 x5 : Vec F S2048x128 .bf16) (x6 : Vec F S4x64x512 .bf16) (x7 : Vec F S32x64x512 .f32)

set_option maxHeartbeats 2000000 in
/-- A point's body, the first of its head: the queries' gradient starts at nothing. -/
theorem bodyA (hc0 : atStart i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (dqAt x0 x1 x2 x3 (k0_pay21 x4) (k0_pay22 x5) (keyRows x6) k0_pay20 32) ∗ owns (c : Thread nD τ) arg10 fullShare (k0_pay1 (dkAt x0 x1 x2 x3 (k0_pay21 x4) (k0_pay22 x5) 32)) ∗ owns (c : Thread nD τ) arg11 fullShare (k0_pay2 (dvAt x0 x1 x2 (k0_pay21 x4) 32)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_attn_bwd_eq_skeleton]; unfold cc0_attn_bwd_skel
  simp only [k0_part5_eq_skeleton, k0_part6_eq_skeleton, k0_part7_eq_skeleton, k0_part8_eq_skeleton, k0_part9_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  have hq (n : ℕ) (h : n < 32) := cols_read x0 harg2 (off := ![n, 0, 0]) rfl h
  have hd (n : ℕ) (h : n < 32) := cols_read x1 harg3 (off := ![n, 0, 0]) rfl h
  have hl (n : ℕ) (h : n < 32) := stat_read x2 harg4 (off := ![0, n, 0, 0]) rfl h
  have he (n : ℕ) (h : n < 32) := stat_read x3 harg5 (off := ![0, n, 0, 0]) rfl h
  have q0 := hq 0 (by decide)
  have q1 := hq 1 (by decide)
  have q30 := hq 30 (by decide)
  have q31 := hq 31 (by decide)
  have d0 := hd 0 (by decide)
  have d1 := hd 1 (by decide)
  have d30 := hd 30 (by decide)
  have d31 := hd 31 (by decide)
  have l0 := hl 0 (by decide)
  have l31 := hl 31 (by decide)
  have e0 := he 0 (by decide)
  have e31 := he 31 (by decide)
  clear hq hd hl he
  have hk : ∀ inb, arg6.view.readAt (Elt F) (Rect.unit (s := S2048x128) ![0, 0] S2048x128.size inb).toLoadRect (harg6.unread x4) = x4 :=
    fun inb => (View.readAt_full _ _ _).trans (harg6.read_unread _)
  have hv : ∀ inb, arg7.view.readAt (Elt F) (Rect.unit (s := S2048x128) ![0, 0] S2048x128.size inb).toLoadRect (harg7.unread x5) = x5 :=
    fun inb => (View.readAt_full _ _ _).trans (harg7.read_unread _)
  have hr (n : ℕ) (h : n < 4) := key_read x6 harg8 (off := ![n, 0, 0]) rfl h
  have r0 := hr 0 (by decide)
  have r1 := hr 1 (by decide)
  have r2 := hr 2 (by decide)
  have r3 := hr 3 (by decide)
  clear hr
  sl_exec (disch := first | sl_exact hc0)
  sl_for (fun n _ => inv c arg2 arg3 arg4 arg5 arg9 arg12 arg13 arg14 arg15 arg16 arg17 arg18 arg19 arg20 arg21 x0 x1 x2 x3 (k0_pay21 x4) (k0_pay22 x5) (keyRows x6) k0_pay20 n) $$ [H2 H3 H4 H5 H9 H12 H13 H14 H15 H16 H17 H18 H19 H20 H21]
  · exact fun k acc => trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 (k0_pay21 x4) (k0_pay22 x5) (bodyA.sl.r x6) k0_pay20 _ _ k E
  · unfold inv owns
    isplitl [H2]
    · iexists _; isplitr; swap; · iexact H2
      ipureintro
      exact harg2.read_unread _
    isplitl [H3]
    · iexists _; isplitr; swap; · iexact H3
      ipureintro
      exact harg3.read_unread _
    isplitl [H4]
    · iexists _; isplitr; swap; · iexact H4
      ipureintro
      exact harg4.read_unread _
    isplitl [H5]
    · iexists _; isplitr; swap; · iexact H5
      ipureintro
      exact harg5.read_unread _
    isplitl [H9]
    · iexists _; isplitr; swap; · iexact H9
      ipureintro
      refine (View.read_writes_full _ _ _ _ _).trans ?_
      exact (dqAt_zero x0 x1 x2 x3 (k0_pay21 x4) (k0_pay22 x5) (keyRows x6) _).symm
    isplitl [H12]
    · iexists _; isplitr; swap; · iexact H12
      ipureintro
      refine (View.read_writes_full _ _ _ _ _).trans ?_
      rfl
    isplitl [H13]
    · iexists _; isplitr; swap; · iexact H13
      ipureintro
      refine (View.read_writes_full _ _ _ _ _).trans ?_
      rfl
    isplitl [H14]
    · iexists _; isplitr; swap; · iexact H14
      ipureintro
      refine (View.read_writes_full _ _ _ _ _).trans ?_
      delta bodyA.sl.r_1
      simp only [whole_cov, whole_read, harg9.read_unread, harg12.read_unread, harg13.read_unread, harg15.read_unread, harg17.read_unread, harg18.read_unread, harg20.read_unread, pay27_eq, pay28_eq, pay29_eq, pay30_eq, pay33_eq, pay34_eq, pay36_eq, pay38_eq, pay39_eq, pay41_eq, pay43_eq, pay44_eq, pay45_eq, pay46_eq]
      rfl
    isplitl [H15]
    · iexists _; isplitr; swap; · iexact H15
      ipureintro
      refine (View.read_writes_full _ _ _ _ _).trans ?_
      rfl
    isplitl [H16]
    · iexists _; isplitr; swap; · iexact H16
      ipureintro
      refine (View.read_writes_full _ _ _ _ _).trans ?_
      rfl
    isplitl [H17]
    · iexists _; isplitr; swap; · iexact H17
      ipureintro
      refine (View.read_writes_full _ _ _ _ _).trans ?_
      rfl
    isplitl [H18]
    · iexists _; isplitr; swap; · iexact H18
      ipureintro
      refine (View.read_writes_full _ _ _ _ _).trans ?_
      delta bodyA.sl.r_3
      delta bodyA.sl.v48
      delta bodyA.sl.H14_1
      delta bodyA.sl.r_1
      simp only [whole_cov, whole_read, harg9.read_unread, harg12.read_unread, harg13.read_unread, harg15.read_unread, harg17.read_unread, harg18.read_unread, harg20.read_unread, pay27_eq, pay28_eq, pay29_eq, pay30_eq, pay33_eq, pay34_eq, pay36_eq, pay38_eq, pay39_eq, pay41_eq, pay43_eq, pay44_eq, pay45_eq, pay46_eq]
      rfl
    isplitl [H19]
    · iexists _, _; isplitr; swap; · iexact H19
      ipureintro; rfl
    isplitl [H20]
    · iexists _; isplitr; swap; · iexact H20
      ipureintro
      refine (View.read_writes_full _ _ _ _ _).trans ?_
      delta bodyA.sl.r_2 bodyA.sl.v58
      delta bodyA.sl.v48 bodyA.sl.H16_1
      delta bodyA.sl.H14_1
      delta bodyA.sl.r_1
      simp only [whole_cov, whole_read, harg9.read_unread, harg12.read_unread, harg13.read_unread, harg15.read_unread, harg17.read_unread, harg18.read_unread, harg20.read_unread, pay27_eq, pay28_eq, pay29_eq, pay30_eq, pay33_eq, pay34_eq, pay36_eq, pay38_eq, pay39_eq, pay41_eq, pay43_eq, pay44_eq, pay45_eq, pay46_eq]
      rfl
    iexists _, _; isplitr; swap; · iexact H21
    ipureintro; rfl
  have ht : Scf.trips k0_t1_loop.lb k0_t1_loop.ub k0_t1_loop.st = 15 := by decide +kernel
  rw [ht]
  unfold inv owns
  simp only [Nat.reduceMul, Nat.reduceAdd]
  iintro %acc ⟨⟨%f2, %hf2, H2⟩, ⟨%f3, %hf3, H3⟩, ⟨%f4, %hf4, H4⟩, ⟨%f5, %hf5, H5⟩, ⟨%f9, %hf9, H9⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%d21, %f21, -, H21⟩⟩
  obtain rfl := harg2.eq_unread hf2; obtain rfl := harg3.eq_unread hf3; obtain rfl := harg4.eq_unread hf4; obtain rfl := harg5.eq_unread hf5; obtain rfl := harg9.eq_unread hf9; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg20.eq_unread hf20
  sl_exec
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    refine (out_write arg9 _ (i := 31) rfl _ _ _).trans (Eq.trans ?_ (dqAt_succ x0 x1 x2 x3 (k0_pay21 x4) (k0_pay22 x5) (keyRows x6) k0_pay20 31).symm)
    delta bodyA.sl.v114 bodyA.sl.v132 bodyA.sl.r_4
    delta bodyA.sl.H21_1
    delta bodyA.sl.r_7
    simp only [out_write arg9 _ (off := ![30, 0, 0]) (i := 30) rfl, dqAt_succ x0 x1 x2 x3 (k0_pay21 x4) (k0_pay22 x5) (keyRows x6) k0_pay20 30, View.writes_nil,
      whole_cov, whole_read, harg9.read_unread, harg12.read_unread, harg13.read_unread, harg15.read_unread, harg17.read_unread, harg18.read_unread, harg20.read_unread, pay27_eq, pay28_eq, pay29_eq, pay30_eq, pay33_eq, pay34_eq, pay36_eq, pay38_eq, pay39_eq, pay41_eq, pay43_eq, pay44_eq, pay45_eq, pay46_eq, out_read arg9 _ (off := ![31, 0, 0]) (i := 31) rfl (by decide), out_read arg9 _ (off := ![30, 0, 0]) (i := 30) rfl (by decide), out_dqAt x0 x1 x2 x3 (k0_pay21 x4) (k0_pay22 x5) (keyRows x6) k0_pay20 (n := 30) (i := 31) (by decide) (by decide), out_dqAt x0 x1 x2 x3 (k0_pay21 x4) (k0_pay22 x5) (keyRows x6) k0_pay20 (le_refl 30) (by decide)]
    rfl
  isplitl [H10]
  · iexists _; isplitr; swap; · iexact H10
    ipureintro
    refine (View.read_writes_full _ _ _ _ _).trans ?_
    refine congrArg k0_pay1 ?_
    delta bodyA.sl.v
    delta bodyA.sl.H12_2
    simp only [whole_cov]
    delta bodyA.sl.v114 bodyA.sl.v124
    delta bodyA.sl.H21_1 bodyA.sl.H12_1_1
    delta bodyA.sl.r_4 bodyA.sl.r_5 bodyA.sl.r_6 bodyA.sl.r_7
    simp only [whole_cov, whole_read, harg9.read_unread, harg12.read_unread, harg13.read_unread, harg15.read_unread, harg17.read_unread, harg18.read_unread, harg20.read_unread, pay27_eq, pay28_eq, pay29_eq, pay30_eq, pay33_eq, pay34_eq, pay36_eq, pay38_eq, pay39_eq, pay41_eq, pay43_eq, pay44_eq, pay45_eq, pay46_eq]
    rfl
  isplitl [H11]
  · iexists _; isplitr; swap; · iexact H11
    ipureintro
    refine (View.read_writes_full _ _ _ _ _).trans ?_
    refine congrArg k0_pay2 ?_
    delta bodyA.sl.v144
    delta bodyA.sl.H13_2
    simp only [whole_cov]
    delta bodyA.sl.v115 bodyA.sl.v116
    delta bodyA.sl.H13_1_1 bodyA.sl.H19_1
    simp only [whole_cov, whole_read, harg9.read_unread, harg12.read_unread, harg13.read_unread, harg15.read_unread, harg17.read_unread, harg18.read_unread, harg20.read_unread, pay27_eq, pay28_eq, pay29_eq, pay30_eq, pay33_eq, pay34_eq, pay36_eq, pay38_eq, pay39_eq, pay41_eq, pay43_eq, pay44_eq, pay45_eq, pay46_eq]
    rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  iexists _, _; isplitr; swap; · iexact H21
  ipureintro; rfl

set_option maxHeartbeats 2000000 in
/-- A point's body, a later one of its head: the queries' gradient goes on from what the block holds. -/
theorem bodyB (hc0 : ¬ atStart i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (dqAt x0 x1 x2 x3 (k0_pay21 x4) (k0_pay22 x5) (keyRows x6) x7 32) ∗ owns (c : Thread nD τ) arg10 fullShare (k0_pay1 (dkAt x0 x1 x2 x3 (k0_pay21 x4) (k0_pay22 x5) 32)) ∗ owns (c : Thread nD τ) arg11 fullShare (k0_pay2 (dvAt x0 x1 x2 (k0_pay21 x4) 32)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_attn_bwd_eq_skeleton]; unfold cc0_attn_bwd_skel
  simp only [k0_part5_eq_skeleton, k0_part6_eq_skeleton, k0_part7_eq_skeleton, k0_part8_eq_skeleton, k0_part9_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  have hq (n : ℕ) (h : n < 32) := cols_read x0 harg2 (off := ![n, 0, 0]) rfl h
  have hd (n : ℕ) (h : n < 32) := cols_read x1 harg3 (off := ![n, 0, 0]) rfl h
  have hl (n : ℕ) (h : n < 32) := stat_read x2 harg4 (off := ![0, n, 0, 0]) rfl h
  have he (n : ℕ) (h : n < 32) := stat_read x3 harg5 (off := ![0, n, 0, 0]) rfl h
  have q0 := hq 0 (by decide)
  have q1 := hq 1 (by decide)
  have q30 := hq 30 (by decide)
  have q31 := hq 31 (by decide)
  have d0 := hd 0 (by decide)
  have d1 := hd 1 (by decide)
  have d30 := hd 30 (by decide)
  have d31 := hd 31 (by decide)
  have l0 := hl 0 (by decide)
  have l31 := hl 31 (by decide)
  have e0 := he 0 (by decide)
  have e31 := he 31 (by decide)
  clear hq hd hl he
  have hk : ∀ inb, arg6.view.readAt (Elt F) (Rect.unit (s := S2048x128) ![0, 0] S2048x128.size inb).toLoadRect (harg6.unread x4) = x4 :=
    fun inb => (View.readAt_full _ _ _).trans (harg6.read_unread _)
  have hv : ∀ inb, arg7.view.readAt (Elt F) (Rect.unit (s := S2048x128) ![0, 0] S2048x128.size inb).toLoadRect (harg7.unread x5) = x5 :=
    fun inb => (View.readAt_full _ _ _).trans (harg7.read_unread _)
  have hr (n : ℕ) (h : n < 4) := key_read x6 harg8 (off := ![n, 0, 0]) rfl h
  have r0 := hr 0 (by decide)
  have r1 := hr 1 (by decide)
  have r2 := hr 2 (by decide)
  have r3 := hr 3 (by decide)
  clear hr
  sl_exec (disch := first | sl_exact hc0)
  sl_for (fun n _ => inv c arg2 arg3 arg4 arg5 arg9 arg12 arg13 arg14 arg15 arg16 arg17 arg18 arg19 arg20 arg21 x0 x1 x2 x3 (k0_pay21 x4) (k0_pay22 x5) (keyRows x6) x7 n) $$ [H2 H3 H4 H5 H9 H12 H13 H14 H15 H16 H17 H18 H19 H20 H21]
  · exact fun k acc => trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 (k0_pay21 x4) (k0_pay22 x5) (bodyB.sl.r x6) x7 _ _ k E
  · unfold inv owns
    isplitl [H2]
    · iexists _; isplitr; swap; · iexact H2
      ipureintro
      exact harg2.read_unread _
    isplitl [H3]
    · iexists _; isplitr; swap; · iexact H3
      ipureintro
      exact harg3.read_unread _
    isplitl [H4]
    · iexists _; isplitr; swap; · iexact H4
      ipureintro
      exact harg4.read_unread _
    isplitl [H5]
    · iexists _; isplitr; swap; · iexact H5
      ipureintro
      exact harg5.read_unread _
    isplitl [H9]
    · iexists _; isplitr; swap; · iexact H9
      ipureintro
      refine (harg9.read_unread _).trans ?_
      exact (dqAt_zero x0 x1 x2 x3 (k0_pay21 x4) (k0_pay22 x5) (keyRows x6) _).symm
    isplitl [H12]
    · iexists _; isplitr; swap; · iexact H12
      ipureintro
      refine (View.read_writes_full _ _ _ _ _).trans ?_
      rfl
    isplitl [H13]
    · iexists _; isplitr; swap; · iexact H13
      ipureintro
      refine (View.read_writes_full _ _ _ _ _).trans ?_
      rfl
    isplitl [H14]
    · iexists _; isplitr; swap; · iexact H14
      ipureintro
      refine (View.read_writes_full _ _ _ _ _).trans ?_
      delta bodyB.sl.r_1
      simp only [whole_cov, whole_read, harg9.read_unread, harg12.read_unread, harg13.read_unread, harg15.read_unread, harg17.read_unread, harg18.read_unread, harg20.read_unread, pay27_eq, pay28_eq, pay29_eq, pay30_eq, pay33_eq, pay34_eq, pay36_eq, pay38_eq, pay39_eq, pay41_eq, pay43_eq, pay44_eq, pay45_eq, pay46_eq]
      rfl
    isplitl [H15]
    · iexists _; isplitr; swap; · iexact H15
      ipureintro
      refine (View.read_writes_full _ _ _ _ _).trans ?_
      rfl
    isplitl [H16]
    · iexists _; isplitr; swap; · iexact H16
      ipureintro
      refine (View.read_writes_full _ _ _ _ _).trans ?_
      rfl
    isplitl [H17]
    · iexists _; isplitr; swap; · iexact H17
      ipureintro
      refine (View.read_writes_full _ _ _ _ _).trans ?_
      rfl
    isplitl [H18]
    · iexists _; isplitr; swap; · iexact H18
      ipureintro
      refine (View.read_writes_full _ _ _ _ _).trans ?_
      delta bodyB.sl.r_3
      delta bodyB.sl.v48
      delta bodyB.sl.H14_1
      delta bodyB.sl.r_1
      simp only [whole_cov, whole_read, harg9.read_unread, harg12.read_unread, harg13.read_unread, harg15.read_unread, harg17.read_unread, harg18.read_unread, harg20.read_unread, pay27_eq, pay28_eq, pay29_eq, pay30_eq, pay33_eq, pay34_eq, pay36_eq, pay38_eq, pay39_eq, pay41_eq, pay43_eq, pay44_eq, pay45_eq, pay46_eq]
      rfl
    isplitl [H19]
    · iexists _, _; isplitr; swap; · iexact H19
      ipureintro; rfl
    isplitl [H20]
    · iexists _; isplitr; swap; · iexact H20
      ipureintro
      refine (View.read_writes_full _ _ _ _ _).trans ?_
      delta bodyB.sl.r_2 bodyB.sl.v58
      delta bodyB.sl.v48 bodyB.sl.H16_1
      delta bodyB.sl.H14_1
      delta bodyB.sl.r_1
      simp only [whole_cov, whole_read, harg9.read_unread, harg12.read_unread, harg13.read_unread, harg15.read_unread, harg17.read_unread, harg18.read_unread, harg20.read_unread, pay27_eq, pay28_eq, pay29_eq, pay30_eq, pay33_eq, pay34_eq, pay36_eq, pay38_eq, pay39_eq, pay41_eq, pay43_eq, pay44_eq, pay45_eq, pay46_eq]
      rfl
    iexists _, _; isplitr; swap; · iexact H21
    ipureintro; rfl
  have ht : Scf.trips k0_t1_loop.lb k0_t1_loop.ub k0_t1_loop.st = 15 := by decide +kernel
  rw [ht]
  unfold inv owns
  simp only [Nat.reduceMul, Nat.reduceAdd]
  iintro %acc ⟨⟨%f2, %hf2, H2⟩, ⟨%f3, %hf3, H3⟩, ⟨%f4, %hf4, H4⟩, ⟨%f5, %hf5, H5⟩, ⟨%f9, %hf9, H9⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%d21, %f21, -, H21⟩⟩
  obtain rfl := harg2.eq_unread hf2; obtain rfl := harg3.eq_unread hf3; obtain rfl := harg4.eq_unread hf4; obtain rfl := harg5.eq_unread hf5; obtain rfl := harg9.eq_unread hf9; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg20.eq_unread hf20
  sl_exec
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    refine (out_write arg9 _ (i := 31) rfl _ _ _).trans (Eq.trans ?_ (dqAt_succ x0 x1 x2 x3 (k0_pay21 x4) (k0_pay22 x5) (keyRows x6) x7 31).symm)
    delta bodyB.sl.v114 bodyB.sl.v132 bodyB.sl.r_4
    delta bodyB.sl.H21_1
    delta bodyB.sl.r_7
    simp only [out_write arg9 _ (off := ![30, 0, 0]) (i := 30) rfl, dqAt_succ x0 x1 x2 x3 (k0_pay21 x4) (k0_pay22 x5) (keyRows x6) x7 30, View.writes_nil,
      whole_cov, whole_read, harg9.read_unread, harg12.read_unread, harg13.read_unread, harg15.read_unread, harg17.read_unread, harg18.read_unread, harg20.read_unread, pay27_eq, pay28_eq, pay29_eq, pay30_eq, pay33_eq, pay34_eq, pay36_eq, pay38_eq, pay39_eq, pay41_eq, pay43_eq, pay44_eq, pay45_eq, pay46_eq, out_read arg9 _ (off := ![31, 0, 0]) (i := 31) rfl (by decide), out_read arg9 _ (off := ![30, 0, 0]) (i := 30) rfl (by decide), out_dqAt x0 x1 x2 x3 (k0_pay21 x4) (k0_pay22 x5) (keyRows x6) x7 (n := 30) (i := 31) (by decide) (by decide), out_dqAt x0 x1 x2 x3 (k0_pay21 x4) (k0_pay22 x5) (keyRows x6) x7 (le_refl 30) (by decide)]
    rfl
  isplitl [H10]
  · iexists _; isplitr; swap; · iexact H10
    ipureintro
    refine (View.read_writes_full _ _ _ _ _).trans ?_
    refine congrArg k0_pay1 ?_
    delta bodyB.sl.v
    delta bodyB.sl.H12_2
    simp only [whole_cov]
    delta bodyB.sl.v114 bodyB.sl.v124
    delta bodyB.sl.H21_1 bodyB.sl.H12_1_1
    delta bodyB.sl.r_4 bodyB.sl.r_5 bodyB.sl.r_6 bodyB.sl.r_7
    simp only [whole_cov, whole_read, harg9.read_unread, harg12.read_unread, harg13.read_unread, harg15.read_unread, harg17.read_unread, harg18.read_unread, harg20.read_unread, pay27_eq, pay28_eq, pay29_eq, pay30_eq, pay33_eq, pay34_eq, pay36_eq, pay38_eq, pay39_eq, pay41_eq, pay43_eq, pay44_eq, pay45_eq, pay46_eq]
    rfl
  isplitl [H11]
  · iexists _; isplitr; swap; · iexact H11
    ipureintro
    refine (View.read_writes_full _ _ _ _ _).trans ?_
    refine congrArg k0_pay2 ?_
    delta bodyB.sl.v144
    delta bodyB.sl.H13_2
    simp only [whole_cov]
    delta bodyB.sl.v115 bodyB.sl.v116
    delta bodyB.sl.H13_1_1 bodyB.sl.H19_1
    simp only [whole_cov, whole_read, harg9.read_unread, harg12.read_unread, harg13.read_unread, harg15.read_unread, harg17.read_unread, harg18.read_unread, harg20.read_unread, pay27_eq, pay28_eq, pay29_eq, pay30_eq, pay33_eq, pay34_eq, pay36_eq, pay38_eq, pay39_eq, pay41_eq, pay43_eq, pay44_eq, pay45_eq, pay46_eq]
    rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  iexists _, _; isplitr; swap; · iexact H21
  ipureintro; rfl

end Trip

end Cert.AttnIdeal.Body

end
-- ==== Proof.AttnTile.lean ====
module

public import proofs.«01_k».proof.Defs
public import proofs.«01_k».proof.Proof.NormMath
public import proofs.«01_k».proof.Proof.AttnBody
public import Idealize.ShloMosaic.Lib.Pointwise

@[expose] public section

/-! # What a point of attention's gradient leaves, over the real numbers -/

noncomputable section

namespace Cert.AttnIdeal.Tile

open Idealize.ShloMosaic Cert.AttnIdeal Cert.AttnIdeal.Gen Cert.AttnIdeal.Body

/-! ## The body's operations at an index -/

theorem pay9_apply (v : FVec Ideal S2048x128 .bf16) (x : Vec Ideal S1x128x512 .bf16) (s : Fin 2048) (p : Fin 512) :
    k0_pay9 v x (ix2 s p) = ∑ a : Fin 128, v (ix2 s a) * x (ix3 0 a p) := by
  unfold k0_pay9
  pointwise []

theorem pay35_apply (v : FVec Ideal S2048x128 .bf16) (x : Vec Ideal S1x128x512 .bf16) (s : Fin 2048) (p : Fin 512) :
    k0_pay35 v x (ix2 s p) = ∑ a : Fin 128, v (ix2 s a) * x (ix3 0 a p) := by
  unfold k0_pay35
  pointwise []

theorem pay16_apply (v : Vec Ideal S2048x512 .f32) (l : Vec Ideal S1x1x1x512 .f32) (s : Fin 2048) (p : Fin 512) :
    k0_pay16 v l (ix2 s p) = Ideal.exp2 (v (ix2 s p) - l (ix4 0 0 0 p)) := by
  unfold k0_pay16
  pointwise []
  rfl

theorem pay17_apply (v : Vec Ideal S2048x512 .f32) (l : Vec Ideal S1x1x1x512 .f32) (s : Fin 2048) (p : Fin 512) :
    k0_pay17 v l (ix2 s p) = Ideal.exp2 (v (ix2 s p) - l (ix4 0 0 0 p)) := by
  rw [← pay16_apply]
  unfold k0_pay17
  pointwise []

theorem pay18_apply (v : Vec Ideal S2048x512 .f32) (l : Vec Ideal S1x1x1x512 .f32) (w : Vec Ideal S2048x512 .f32) (d : Vec Ideal S1x1x1x512 .f32) (s : Fin 2048) (p : Fin 512) :
    k0_pay18 v l w d (ix2 s p) = Ideal.exp2 (v (ix2 s p) - l (ix4 0 0 0 p)) * (w (ix2 s p) - d (ix4 0 0 0 p)) := by
  rw [← pay16_apply]
  unfold k0_pay18
  pointwise []

theorem pay3_apply (acc : Vec Ideal S2048x128 .f32) (g : Vec Ideal S2048x512 .bf16) (x : Vec Ideal S1x128x512 .bf16) (s : Fin 2048) (a : Fin 128) :
    k0_pay3 acc g x (ix2 s a) = acc (ix2 s a) + ∑ p : Fin 512, g (ix2 s p) * x (ix3 0 a p) := by
  unfold k0_pay3
  pointwise []

theorem pay4_apply (acc : Vec Ideal S2048x128 .f32) (g : Vec Ideal S2048x512 .bf16) (x : Vec Ideal S1x128x512 .bf16) (s : Fin 2048) (a : Fin 128) :
    k0_pay4 g acc x (ix2 s a) = acc (ix2 s a) + ∑ p : Fin 512, g (ix2 s p) * x (ix3 0 a p) := by
  unfold k0_pay4
  pointwise []

theorem pay5_apply (k : FVec Ideal S64x2048 .bf16) (g : Vec Ideal S2048x512 .bf16) (b : Vec Ideal S1x64x512 .f32) (d : Fin 64) (p : Fin 512) :
    k0_pay5 k g b (ix3 0 d p) = b (ix3 0 d p) + ∑ s : Fin 2048, k (ix2 d s) * g (ix2 s p) := by
  unfold k0_pay5
  pointwise []

theorem pay1_apply (v : Vec Ideal S2048x128 .f32) (s : Fin 2048) (a : Fin 128) : k0_pay1 v (ix3 0 s a) = v (ix2 s a) := by
  unfold k0_pay1
  pointwise []

theorem pay2_apply (v : Vec Ideal S2048x128 .f32) (s : Fin 2048) (a : Fin 128) : k0_pay2 v (ix3 0 s a) = v (ix2 s a) := by
  unfold k0_pay2
  pointwise []

theorem pay21_apply (v : Vec Ideal S2048x128 .bf16) (s : Fin 2048) (a : Fin 128) : k0_pay21 v (ix2 s a) = v (ix2 s a) := by
  unfold k0_pay21
  pointwise []

theorem pay22_apply (v : Vec Ideal S2048x128 .bf16) (s : Fin 2048) (a : Fin 128) : k0_pay22 v (ix2 s a) = v (ix2 s a) := by
  unfold k0_pay22
  pointwise []

theorem pay20_apply (i : Fin 32) (d : Fin 64) (p : Fin 512) : k0_pay20 (F := Ideal) (ix3 i d p) = 0 := by
  unfold k0_pay20
  pointwise []

theorem pay24_apply (s : Fin 2048) (a : Fin 128) : k0_pay24 (F := Ideal) (ix2 s a) = 0 := by
  unfold k0_pay24
  pointwise []

theorem pay25_apply (s : Fin 2048) (a : Fin 128) : k0_pay25 (F := Ideal) (ix2 s a) = 0 := by
  unfold k0_pay25
  pointwise []

/-- The point's keys by column: key `s` is column `s % 512` of quarter `s / 512`. -/
theorem keyRows_apply (x : Vec Ideal S4x64x512 .bf16) (d : Fin 64) (s : Fin 2048) :
    keyRows x (ix2 d s) = x (ix3 ⟨s.val / 512, by omega⟩ d ⟨s.val % 512, by omega⟩) := by
  unfold keyRows k0_pay23
  pointwise []
  have key : ∀ (r : Fin 4) (k : Fin 512), r.val = s.val / 512 → k.val = s.val % 512 →
      keyAt x r (ix3 0 d k) = x (ix3 ⟨s.val / 512, by omega⟩ d ⟨s.val % 512, by omega⟩) :=
    fun r k e1 e2 => congrArg₂ (fun u v => x (ix3 u d v)) (Fin.ext e1) (Fin.ext e2)
  have hs := s.isLt
  by_cases q1 : s.val < 512
  · exact (dif_pos q1).trans (key 0 _ (by show 0 = _; omega) (by dsimp only; omega))
  refine (dif_neg q1).trans ?_
  by_cases q2 : s.val - 512 < 512
  · exact (dif_pos q2).trans (key 1 _ (by show 1 = _; omega) (by dsimp only; omega))
  refine (dif_neg q2).trans ?_
  by_cases q3 : s.val - 512 - 512 < 512
  · exact (dif_pos q3).trans (key 2 _ (by show 2 = _; omega) (by dsimp only; omega))
  · exact (dif_neg q3).trans (key 3 _ (by show 3 = _; omega) (by dsimp only; omega))

/-! ## Tiles over the real numbers -/

section
variable {x0 x1 : Vec Ideal S32x128x512 .bf16} {x2 x3 : Vec Ideal S1x32x1x512 .f32} {v4 v6 : FVec Ideal S2048x128 .bf16} {v15 : FVec Ideal S64x2048 .bf16}
  (A B : Fin 32 → Fin 128 → Fin 512 → ℝ) (L E : Fin 32 → Fin 512 → ℝ) (K V : Fin 2048 → Fin 128 → ℝ)

/-- A score, in base two. -/
def sc (i : Fin 32) (s : Fin 2048) (p : Fin 512) : ℝ := ∑ a, K s a * A i a p
/-- A weight. -/
def wt (i : Fin 32) (s : Fin 2048) (p : Fin 512) : ℝ := (2 : ℝ) ^ (sc A K i s p - L i p)
/-- A score's gradient. -/
def gr (i : Fin 32) (s : Fin 2048) (p : Fin 512) : ℝ := wt A L K i s p * (sc B V i s p - E i p)

variable {A B L E K V}

theorem cols_apply {x : Vec Ideal S32x128x512 .bf16} {A : Fin 32 → Fin 128 → Fin 512 → ℝ} (h : ∀ i a p, x (ix3 i a p) = (A i a p : EReal)) (i : ℕ) (a : Fin 128) (p : Fin 512) :
    colsAt x i (ix3 0 a p) = (A (tile i) a p : EReal) := (congrArg x rfl).trans (h (tile i) a p)

theorem stat_apply {x : Vec Ideal S1x32x1x512 .f32} {L : Fin 32 → Fin 512 → ℝ} (h : ∀ i p, x (ix4 0 i 0 p) = (L i p : EReal)) (i : ℕ) (p : Fin 512) :
    statAt x i (ix4 0 0 0 p) = (L (tile i) p : EReal) := (congrArg x rfl).trans (h (tile i) p)

theorem coe_dot {n : ℕ} (f g : Fin n → EReal) (F G : Fin n → ℝ) (hf : ∀ k, f k = (F k : EReal)) (hg : ∀ k, g k = (G k : EReal)) :
    ∑ k, f k * g k = ((∑ k, F k * G k : ℝ) : EReal) := by
  rw [Cert.Norm.coe_sum]
  exact Finset.sum_congr rfl fun k _ => by rw [hf, hg, EReal.coe_mul]

variable (h0 : ∀ i a p, x0 (ix3 i a p) = (A i a p : EReal)) (h1 : ∀ i a p, x1 (ix3 i a p) = (B i a p : EReal))
  (h2 : ∀ i p, x2 (ix4 0 i 0 p) = (L i p : EReal)) (h3 : ∀ i p, x3 (ix4 0 i 0 p) = (E i p : EReal))
  (h4 : ∀ s a, v4 (ix2 s a) = (K s a : EReal)) (h6 : ∀ s a, v6 (ix2 s a) = (V s a : EReal))

include h0 h4 in
theorem score_real (i : ℕ) (s : Fin 2048) (p : Fin 512) : scoreAt x0 v4 i (ix2 s p) = (sc A K (tile i) s p : EReal) :=
  (pay9_apply _ _ s p).trans (coe_dot _ _ _ _ (fun a => h4 s a) (fun a => cols_apply h0 i a p))

include h1 h6 in
theorem prod_real (i : ℕ) (s : Fin 2048) (p : Fin 512) : prodAt x1 v6 i (ix2 s p) = (sc B V (tile i) s p : EReal) :=
  (pay35_apply _ _ s p).trans (coe_dot _ _ _ _ (fun a => h6 s a) (fun a => cols_apply h1 i a p))

include h0 h2 h4 in
theorem prob_real (i : ℕ) (s : Fin 2048) (p : Fin 512) : probAt x0 x2 v4 i (ix2 s p) = (wt A L K (tile i) s p : EReal) := by
  refine (pay17_apply _ _ s p).trans ?_
  rw [score_real h0 h4, stat_apply h2, ← EReal.coe_sub, Ideal.exp2_coe]
  rfl

include h0 h1 h2 h3 h4 h6 in
theorem grad_real (i : ℕ) (s : Fin 2048) (p : Fin 512) : gradAt x0 x1 x2 x3 v4 v6 i (ix2 s p) = (gr A B L E K V (tile i) s p : EReal) := by
  refine (pay18_apply _ _ _ _ s p).trans ?_
  rw [score_real h0 h4, prod_real h1 h6, stat_apply h2, stat_apply h3, ← EReal.coe_sub, ← EReal.coe_sub, Ideal.exp2_coe, ← EReal.coe_mul]
  rfl

include h0 h1 h2 h4 in
theorem dv_real (n : ℕ) (s : Fin 2048) (a : Fin 128) :
    dvAt x0 x1 x2 v4 n (ix2 s a) = ((∑ i ∈ Finset.range n, ∑ p, wt A L K (tile i) s p * B (tile i) a p : ℝ) : EReal) := by
  induction n with
  | zero => exact (pay25_apply s a).trans (by rw [Finset.range_zero, Finset.sum_empty, EReal.coe_zero])
  | succ n ih =>
    refine (pay3_apply _ _ _ s a).trans ?_
    rw [ih, coe_dot _ _ _ _ (fun p => prob_real h0 h2 h4 n s p) (fun p => cols_apply h1 n a p), ← EReal.coe_add, Finset.sum_range_succ]

include h0 h1 h2 h3 h4 h6 in
theorem dk_real (n : ℕ) (s : Fin 2048) (a : Fin 128) :
    dkAt x0 x1 x2 x3 v4 v6 n (ix2 s a) = ((∑ i ∈ Finset.range n, ∑ p, gr A B L E K V (tile i) s p * A (tile i) a p : ℝ) : EReal) := by
  induction n with
  | zero => exact (pay24_apply s a).trans (by rw [Finset.range_zero, Finset.sum_empty, EReal.coe_zero])
  | succ n ih =>
    refine (pay4_apply _ _ _ s a).trans ?_
    rw [ih, coe_dot _ _ _ _ (fun p => grad_real h0 h1 h2 h3 h4 h6 n s p) (fun p => cols_apply h0 n a p), ← EReal.coe_add, Finset.sum_range_succ]

include h0 h1 h2 h3 h4 h6 in
theorem dq_real {C : Fin 64 → Fin 2048 → ℝ} (h15 : ∀ d s, v15 (ix2 d s) = (C d s : EReal)) (base : Vec Ideal S32x64x512 .f32) (i : Fin 32) (d : Fin 64) (p : Fin 512) :
    dqAt x0 x1 x2 x3 v4 v6 v15 base 32 (ix3 i d p) = base (ix3 i d p) + ((∑ s, C d s * gr A B L E K V i s p : ℝ) : EReal) := by
  have ht : tile i.val = i := Fin.ext (Nat.mod_eq_of_lt i.isLt)
  unfold dqAt
  refine (if_pos i.isLt).trans ((pay5_apply _ _ _ d p).trans ?_)
  refine congrArg₂ (fun u v : EReal => u + v) ?_ ?_
  · exact congrArg (fun u => base (ix3 u d p)) ht
  · refine (coe_dot _ _ _ _ (fun s => h15 d s) (fun s => grad_real h0 h1 h2 h3 h4 h6 i.val s p)).trans ?_
    rw [ht]

end

/-- A sum over tiles and over a tile's columns is a sum over all rows. -/
theorem sum_tiles (f : Fin 16384 → ℝ) (F : Fin 32 → Fin 512 → ℝ) (h : ∀ i p (r : Fin 16384), r.val = i.val * 512 + p.val → F i p = f r) :
    ∑ i ∈ Finset.range 32, ∑ p, F (tile i) p = ∑ r, f r := by
  rw [Finset.sum_range]
  have ht : ∀ i : Fin 32, tile i.val = i := fun i => Fin.ext (Nat.mod_eq_of_lt i.isLt)
  simp only [ht]
  exact Fin.sum_mul_add_congr (fun i p hl => h i p _ rfl)

end Cert.AttnIdeal.Tile

end
-- ==== Proof.AttnPoint.lean ====
module

public import proofs.«01_k».proof.Defs
public import proofs.«01_k».proof.Proof.AttnMath
public import proofs.«01_k».proof.Proof.AttnTile
public import Idealize.ShloMosaic.Lib.Pipeline.ValueKit

@[expose] public section

/-! # A point's tables against attention's -/

set_option maxRecDepth 16384

noncomputable section

open Idealize.ShloMosaic Idealize.ShloMosaic.TcCoe Idealize.SL.Sem
open Idealize.ShloMosaic.Pipeline (Dat)

namespace Cert.AttnIdeal.Point

open Cert.AttnIdeal Cert.AttnIdeal.Gen Cert.AttnIdeal.Body Cert.AttnIdeal.Tile Cert.AttnMath

section Tables
variable (Q D : Fin 16384 → Fin 512 → ℝ) (K V : Fin 16384 → Fin 128 → ℝ) (h : Fin 8) (j : Fin 8)

/-- The row of the sequence at place `p` of tile `i`, -/
def row (i : Fin 32) (p : Fin 512) : Fin 16384 := ⟨i.val * 512 + p.val, by omega⟩
/-- and the key at place `s` of block `j`. -/
def key (j : Fin 8) (s : Fin 2048) : Fin 16384 := ⟨j.val * 2048 + s.val, by omega⟩

/-- The queries' columns as the kernel holds them, -/
def qs (i : Fin 32) (a : Fin 128) (p : Fin 512) : ℝ := if Inside h a then Q (row i p) (qcol h ⟨a.val % 64, by omega⟩) * (1 / 8 / Real.log 2) else 0
/-- the cotangents', -/
def ws (i : Fin 32) (a : Fin 128) (p : Fin 512) : ℝ := if Inside h a then D (row i p) (qcol h ⟨a.val % 64, by omega⟩) else 0
/-- the logarithms of the rows' sums, -/
def ls (i : Fin 32) (p : Fin 512) : ℝ := Real.log (total Q K h (row i p)) / Real.log 2
/-- and the rows' means. -/
def es (i : Fin 32) (p : Fin 512) : ℝ := mean Q D K V h (row i p)

theorem score_eq (i s p) : sc (qs Q h) (fun s a => K (key j s) a) i s p = score Q K h (row i p) (key j s) / Real.log 2 := by
  unfold sc qs
  rw [sum_half h (fun a => K (key j s) a) (fun d => Q (row i p) (qcol h d) * (1 / 8 / Real.log 2)), score, Finset.sum_mul, Finset.sum_div]
  exact Finset.sum_congr rfl fun d _ => by ring

theorem weight_eq (i s p) : wt (qs Q h) (ls Q K h) (fun s a => K (key j s) a) i s p = weight Q K h (row i p) (key j s) := by
  unfold wt ls
  rw [score_eq, weight_pow]

theorem cot_eq (i s p) : sc (ws D h) (fun s a => V (key j s) a) i s p = cot D V h (row i p) (key j s) := by
  unfold sc ws
  rw [sum_half h (fun a => V (key j s) a) (fun d => D (row i p) (qcol h d)), cot]
  exact Finset.sum_congr rfl fun d _ => mul_comm _ _

theorem grad_eq (i s p) : gr (qs Q h) (ws D h) (ls Q K h) (es Q D K V h) (fun s a => K (key j s) a) (fun s a => V (key j s) a) i s p
    = grad Q D K V h (row i p) (key j s) := by
  unfold gr es
  rw [weight_eq, cot_eq, grad]

/-- All the tiles' part in a value's gradient, -/
theorem values_sum (s : Fin 2048) (a : Fin 128) :
    ∑ i ∈ Finset.range 32, ∑ p, wt (qs Q h) (ls Q K h) (fun s a => K (key j s) a) (tile i) s p * ws D h (tile i) a p
      = if Inside h a then ∑ r, weight Q K h r (key j s) * D r (qcol h ⟨a.val % 64, by omega⟩) else 0 := by
  simp only [weight_eq]
  by_cases ha : Inside h a
  · rw [if_pos ha]
    refine sum_tiles (fun r => weight Q K h r (key j s) * D r (qcol h ⟨a.val % 64, by omega⟩)) (fun i p => weight Q K h (row i p) (key j s) * ws D h i a p) fun i p r hr => ?_
    obtain rfl : r = row i p := Fin.ext hr
    unfold ws
    rw [if_pos ha]
  · rw [if_neg ha]
    exact Finset.sum_eq_zero fun i _ => Finset.sum_eq_zero fun p _ => by unfold ws; rw [if_neg ha, mul_zero]

/-- in a key's, -/
theorem keys_sum (s : Fin 2048) (a : Fin 128) :
    ∑ i ∈ Finset.range 32, ∑ p, gr (qs Q h) (ws D h) (ls Q K h) (es Q D K V h) (fun s a => K (key j s) a) (fun s a => V (key j s) a) (tile i) s p * qs Q h (tile i) a p
      = if Inside h a then ∑ r, grad Q D K V h r (key j s) * (Q r (qcol h ⟨a.val % 64, by omega⟩) * (1 / 8 / Real.log 2)) else 0 := by
  simp only [grad_eq]
  by_cases ha : Inside h a
  · rw [if_pos ha]
    refine sum_tiles (fun r => grad Q D K V h r (key j s) * (Q r (qcol h ⟨a.val % 64, by omega⟩) * (1 / 8 / Real.log 2)))
      (fun i p => grad Q D K V h (row i p) (key j s) * qs Q h i a p) fun i p r hr => ?_
    obtain rfl : r = row i p := Fin.ext hr
    unfold qs
    rw [if_pos ha]
  · rw [if_neg ha]
    exact Finset.sum_eq_zero fun i _ => Finset.sum_eq_zero fun p _ => by unfold qs; rw [if_neg ha, mul_zero]

/-- and all the blocks' part in a query's. -/
theorem queries_sum (i : Fin 32) (d : Fin 64) (p : Fin 512) :
    ∑ j : Fin 8, ∑ s, K (key j s) (kcol h d) * gr (qs Q h) (ws D h) (ls Q K h) (es Q D K V h) (fun s a => K (key j s) a) (fun s a => V (key j s) a) i s p
      = ∑ s, grad Q D K V h (row i p) s * K s (kcol h d) := by
  simp only [grad_eq]
  refine Fin.sum_mul_add_congr fun j s hl => ?_
  rw [mul_comm]
  rfl

end Tables

end Cert.AttnIdeal.Point

end
-- ==== Proof.AttnFrame.lean ====
module

public import proofs.«01_k».proof.Defs
public import proofs.«01_k».proof.Proof.AttnBody
public import proofs.«01_k».proof.Proof.Gen.AttnIdeal.Points
public import proofs.«01_k».proof.Proof.Gen.AttnIdeal.Frame
public import Idealize.ShloMosaic.Lib.Pipeline.FrameBody
public import Idealize.ShloMosaic.Lib.WordCmp
public import Idealize.ShloMosaic.Lib.Claim

@[expose] public section

/-! # The gradient of attention, at every point of its grid: from a point's body to the whole launch -/

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The queries' gradient in its block after point `n`: over the points of a head it adds up, from nothing. -/
def dqs (c : Dev nD) : (n : ℕ) → n < cfg0.N → FVec F S32x64x512 .f32
  | 0, hn => dqAt (iblk m c 0 ⟨0, hn⟩) (iblk m c 1 ⟨0, hn⟩) (iblk m c 2 ⟨0, hn⟩) (iblk m c 3 ⟨0, hn⟩) (k0_pay21 (iblk m c 4 ⟨0, hn⟩)) (k0_pay22 (iblk m c 5 ⟨0, hn⟩)) (keyRows (iblk m c 6 ⟨0, hn⟩)) k0_pay20 32
  | n + 1, hn => dqAt (iblk m c 0 ⟨n + 1, hn⟩) (iblk m c 1 ⟨n + 1, hn⟩) (iblk m c 2 ⟨n + 1, hn⟩) (iblk m c 3 ⟨n + 1, hn⟩) (k0_pay21 (iblk m c 4 ⟨n + 1, hn⟩)) (k0_pay22 (iblk m c 5 ⟨n + 1, hn⟩)) (keyRows (iblk m c 6 ⟨n + 1, hn⟩))
      (if (n + 1) % 8 = 0 then k0_pay20 else dqs c n (Nat.lt_of_succ_lt hn)) 32
/-- The keys' gradient of point `t`, -/
def dks (c : Dev nD) (t : Fin cfg0.N) : FVec F S1x2048x128 .bf16 := k0_pay1 (dkAt (iblk m c 0 t) (iblk m c 1 t) (iblk m c 2 t) (iblk m c 3 t) (k0_pay21 (iblk m c 4 t)) (k0_pay22 (iblk m c 5 t)) 32)
/-- and the values'. -/
def dvs (c : Dev nD) (t : Fin cfg0.N) : FVec F S1x2048x128 .bf16 := k0_pay2 (dvAt (iblk m c 0 t) (iblk m c 1 t) (iblk m c 2 t) (k0_pay21 (iblk m c 4 t)) 32)

/-- At the first point of a head the queries' gradient starts at nothing, -/
theorem dqs_first (c : Dev nD) (t : Fin cfg0.N) (h : t.val % 8 = 0) :
    dqs m c t.val t.isLt = dqAt (iblk m c 0 t) (iblk m c 1 t) (iblk m c 2 t) (iblk m c 3 t) (k0_pay21 (iblk m c 4 t)) (k0_pay22 (iblk m c 5 t)) (keyRows (iblk m c 6 t)) k0_pay20 32 := by
  obtain ⟨n, hn⟩ := t
  cases n with
  | zero => rfl
  | succ n => unfold dqs; rw [if_pos h]

/-- at a later one it goes on. -/
theorem dqs_next (c : Dev nD) (t : Fin cfg0.N) (h : ¬ t.val % 8 = 0) :
    dqs m c t.val t.isLt = dqAt (iblk m c 0 t) (iblk m c 1 t) (iblk m c 2 t) (iblk m c 3 t) (k0_pay21 (iblk m c 4 t)) (k0_pay22 (iblk m c 5 t)) (keyRows (iblk m c 6 t)) (dqs m c (t.val - 1) (Nat.lt_of_le_of_lt (Nat.sub_le _ _) t.isLt)) 32 := by
  obtain ⟨n, hn⟩ := t
  cases n with
  | zero => exact absurd (Nat.zero_mod 8) h
  | succ n => conv_lhs => unfold dqs
              rw [if_neg h]; rfl

/-- The pipeline's data: every array as the region finds it; after a point each input's buffer at its block and each
    output's at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqs m c t.val t.isLt
    | ⟨8, _⟩ => dks m c t
    | ⟨9, _⟩ => dvs m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = dqs m c t.val t.isLt := by dsimp only [dats]
theorem after8 (c : Dev nD) (t : Fin cfg0.N) : (dats m 0 c).after 8 t = dks m c t := by dsimp only [dats]
theorem after9 (c : Dev nD) (t : Fin cfg0.N) : (dats m 0 c).after 9 t = dvs m c t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d

/-- Between two points of a head the block of the queries' gradient stays where it is. -/
theorem before7_next (c : Dev nD) (t : Fin cfg0.N) (h : ¬ t.val % 8 = 0) (d) :
    (dats m 0 c).before 7 t d = dqs m c (t.val - 1) (Nat.lt_of_le_of_lt (Nat.sub_le _ _) t.isLt) := by
  have hN : t.val < 64 := lt_of_lt_of_eq t.isLt (show cfg0.N = 64 from N_0)
  rw [Dat.before_out_kept _ 7 rfl t (by omega) (Bool.eq_false_iff.mpr fun h' => by have := (flush0_7 _).mp h'; dsimp only at this; omega)
    (fun _ => rfl) (fun _ _ => rfl)]
  dsimp only [dats]

/-! ## A point's body, on the buffers that the pipeline hands it -/

theorem start_iff : ∀ t : Fin cfg0.N, atStart (grid0.coords t) ↔ t.val % 8 = 0 :=
  (fun t => by
    have ht : t.val < 64 := Nat.lt_of_lt_of_eq t.isLt N_0
    have e1 : (grid0.coords t 1).val = t.val / 1 % 8 := Pipeline.Grid.coords_val t 1 (by decide) rfl
    simp only [atStart, e1]
    word_cmp : ∀ t : Fin grid0.N, atStart (grid0.coords t) ↔ t.val % 8 = 0)

abbrev ms0 (t : Fin cfg0.N) := win0_0.stage (cfg0.slots t 0)
theorem hs0 (t : Fin cfg0.N) : (ms0 t).IsWhole := hstage0_0 ((cfg0.slots t 0).cast nbuf0_0)
abbrev ms1 (t : Fin cfg0.N) := win0_1.stage (cfg0.slots t 1)
theorem hs1 (t : Fin cfg0.N) : (ms1 t).IsWhole := hstage0_1 ((cfg0.slots t 1).cast nbuf0_1)
abbrev ms2 (t : Fin cfg0.N) := win0_2.stage (cfg0.slots t 2)
theorem hs2 (t : Fin cfg0.N) : (ms2 t).IsWhole := hstage0_2 ((cfg0.slots t 2).cast nbuf0_2)
abbrev ms3 (t : Fin cfg0.N) := win0_3.stage (cfg0.slots t 3)
theorem hs3 (t : Fin cfg0.N) : (ms3 t).IsWhole := hstage0_3 ((cfg0.slots t 3).cast nbuf0_3)
abbrev ms4 (t : Fin cfg0.N) := win0_4.stage (cfg0.slots t 4)
theorem hs4 (t : Fin cfg0.N) : (ms4 t).IsWhole := hstage0_4 ((cfg0.slots t 4).cast nbuf0_4)
abbrev ms5 (t : Fin cfg0.N) := win0_5.stage (cfg0.slots t 5)
theorem hs5 (t : Fin cfg0.N) : (ms5 t).IsWhole := hstage0_5 ((cfg0.slots t 5).cast nbuf0_5)
abbrev ms6 (t : Fin cfg0.N) := win0_6.stage (cfg0.slots t 6)
theorem hs6 (t : Fin cfg0.N) : (ms6 t).IsWhole := hstage0_6 ((cfg0.slots t 6).cast nbuf0_6)
abbrev ms7 (t : Fin cfg0.N) := win0_7.stage (cfg0.slots t 7)
theorem hs7 (t : Fin cfg0.N) : (ms7 t).IsWhole := hstage0_7 ((cfg0.slots t 7).cast nbuf0_7)
abbrev ms8 (t : Fin cfg0.N) := win0_8.stage (cfg0.slots t 8)
theorem hs8 (t : Fin cfg0.N) : (ms8 t).IsWhole := hstage0_8 ((cfg0.slots t 8).cast nbuf0_8)
abbrev ms9 (t : Fin cfg0.N) := win0_9.stage (cfg0.slots t 9)
theorem hs9 (t : Fin cfg0.N) : (ms9 t).IsWhole := hstage0_9 ((cfg0.slots t 9).cast nbuf0_9)
abbrev sc0 := Memref.whole cc0_scratch0
abbrev sc1 := Memref.whole cc0_scratch1
abbrev sc2 := Memref.whole cc0_scratch2
abbrev sc3 := Memref.whole cc0_scratch3
abbrev sc4 := Memref.whole cc0_scratch4
abbrev sc5 := Memref.whole cc0_scratch5
abbrev sc6 := Memref.whole cc0_scratch6
abbrev sc7 := Memref.whole cc0_scratch7
abbrev sc8 := Memref.whole cc0_scratch8
abbrev sc9 := Memref.whole cc0_scratch9

/-- What the launch hands from point to point: the scratch buffers and the generator's register. -/
theorem handed (c : Dev nD) : (Pipeline.ΦA spec0 c : sProp 𝕄)
    = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) := by
  unfold Pipeline.ΦA; rw [scopedRest0_eq]; simp only [owns_whole]; try rfl

/-- What a point's body starts from, -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)))
/-- and what it leaves. -/
def bodyPost (c : Dev nD) (t : Fin cfg0.N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, handed, after0, after1, after2, after3, after4, after5, after6, after7, after8, after9]
  unfold dks dvs
  by_cases h0 : t.val % 8 = 0
  · rw [dqs_first m c t h0]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyA c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((start_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, H4, H5, H6, H7, H8, H9, HS0, HS1, HS2, HS3, HS4, HS5, HS6, HS7, HS8, HS9⟩
    isplitl [HS0 HS1 HS2 HS3 HS4 HS5 HS6 HS7 HS8 HS9 Hg]
    · isplitl [HS0 HS1 HS2 HS3 HS4 HS5 HS6 HS7 HS8 HS9]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [dqs_next m c t h0]
    simp only [before7_next m c t h0]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyB c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ (fun h => h0 ((start_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, H4, H5, H6, H7, H8, H9, HS0, HS1, HS2, HS3, HS4, HS5, HS6, HS7, HS8, HS9⟩
    isplitl [HS0 HS1 HS2 HS3 HS4 HS5 HS6 HS7 HS8 HS9 Hg]
    · isplitl [HS0 HS1 HS2 HS3 HS4 HS5 HS6 HS7 HS8 HS9]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

set_option backward.isDefEq.respectTransparency.types false in
/-- Every run ends, with the pipeline's arrays as its data say, every other buffer as the region found it and every
    counter at nothing. -/
theorem runs : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments end as they began, and every counter at nothing. -/
theorem frames : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) ((θ_run defs _ _).mono (fun _ h => h.1) (runs m ρ)))
    ((θ_run defs _ _).mono (fun _ h => h.2) (runs m ρ))

end Cert.AttnIdeal.Body

end
-- ==== Proof.AttnRef.lean ====
module

public import proofs.«01_k».proof.Defs
public import proofs.«01_k».proof.Proof.AttnMath
public import proofs.«01_k».proof.Proof.Gen.AttnRefIdeal.Read

@[expose] public section

/-! # What the reference of attention's gradient computes, at real arguments -/

noncomputable section

namespace Cert.AttnRefIdeal.Layers

open Idealize.ShloMosaic Cert.AttnRefIdeal Cert.AttnRefIdeal.Gen Cert.AttnRefIdeal.Read Cert.AttnMath

variable {x0 x3 : (⟨S16384x512, .f32⟩ : BufTy).Contents (Elt Ideal)} {x1 x2 : (⟨S16384x128, .f32⟩ : BufTy).Contents (Elt Ideal)}
  {Q D : Fin 16384 → Fin 512 → ℝ} {K V : Fin 16384 → Fin 128 → ℝ}

theorem ofBits_eighth : Ideal.ofBits .f32 0x3E000000#32 = ((1 / 8 : ℝ) : EReal) := by
  simp [Ideal.ofBits, Ideal.ieee, -EReal.coe_mul]; norm_num
theorem ofBits_zero : Ideal.ofBits .f32 0x00000000#32 = 0 := by simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_bot : Ideal.ofBits .f32 0xFF800000#32 = ⊥ := by simp [Ideal.ofBits, Ideal.ieee]

theorem log_two : Ideal.log ((2 : ℝ) : EReal) = (Real.log 2 : EReal) := by
  rw [Ideal.log_coe, if_neg (by norm_num)]

theorem queries (hq : ∀ r a, x0 (ix2 r a) = (Q r a : EReal)) (h r d) : val_main_v9 (F := Ideal) x0 (ix3 h r d) = (Q r (qcol h d) : EReal) := by
  have hh : h.val < 8 := h.isLt
  have hd : d.val < 64 := d.isLt
  have hr : r.val < 16384 := r.isLt
  have e1 : ((h.val * 16384 + r.val) * 64 + d.val) / 64 = h.val * 16384 + r.val := by omega
  have e2 : ((h.val * 16384 + r.val) * 64 + d.val) % 64 = d.val := by omega
  have e3 : ((h.val * 16384 + r.val) * 64 + d.val) / 4194304 = h.val / 4 := by omega
  rw [← hq, val_main_v9_apply, val_main_v8_apply]
  refine congrArg x0 (funext fun a => Fin.ext ?_)
  match a with
  | ⟨0, _⟩ => dsimp [idx_main_v9, idx_main_v8, qcol]; (try simp only [e1, e2, e3]); omega
  | ⟨1, _⟩ => dsimp [idx_main_v9, idx_main_v8, qcol]; (try simp only [e1, e2, e3]); omega

theorem cotangents (hd' : ∀ r a, x3 (ix2 r a) = (D r a : EReal)) (h r d) : val_main_v43 (F := Ideal) x3 (ix3 h r d) = (D r (qcol h d) : EReal) := by
  have hh : h.val < 8 := h.isLt
  have hd : d.val < 64 := d.isLt
  have hr : r.val < 16384 := r.isLt
  have e1 : ((h.val * 16384 + r.val) * 64 + d.val) / 64 = h.val * 16384 + r.val := by omega
  have e2 : ((h.val * 16384 + r.val) * 64 + d.val) % 64 = d.val := by omega
  have e3 : ((h.val * 16384 + r.val) * 64 + d.val) / 4194304 = h.val / 4 := by omega
  rw [← hd', val_main_v43_apply, val_main_v42_apply]
  refine congrArg x3 (funext fun a => Fin.ext ?_)
  match a with
  | ⟨0, _⟩ => dsimp [idx_main_v43, idx_main_v42, qcol]; (try simp only [e1, e2, e3]); omega
  | ⟨1, _⟩ => dsimp [idx_main_v43, idx_main_v42, qcol]; (try simp only [e1, e2, e3]); omega

theorem keys (hk : ∀ r a, x1 (ix2 r a) = (K r a : EReal)) (h r d) : val_main_v3 (F := Ideal) x1 (ix3 h r d) = (K r (kcol h d) : EReal) := by
  have hh : h.val < 8 := h.isLt
  have hd : d.val < 64 := d.isLt
  have hr : r.val < 16384 := r.isLt
  have e1 : ((h.val * 16384 + r.val) * 64 + d.val) / 64 = h.val * 16384 + r.val := by omega
  have e2 : ((h.val * 16384 + r.val) * 64 + d.val) % 64 = d.val := by omega
  have e3 : ((h.val * 16384 + r.val) * 64 + d.val) / 4194304 = h.val / 4 := by omega
  rw [← hk, val_main_v3_apply, val_main_v2_apply, val_main_v1_apply, val_main_v0_apply]
  refine congrArg x1 (funext fun a => Fin.ext ?_)
  match a with
  | ⟨0, _⟩ => dsimp [idx_main_v3, idx_main_v2, idx_main_v1, idx_main_v0, kcol]; (try simp only [e1, e2, e3]); omega
  | ⟨1, _⟩ => dsimp [idx_main_v3, idx_main_v2, idx_main_v1, idx_main_v0, kcol]; (try simp only [e1, e2, e3]); omega

theorem values (hv : ∀ r a, x2 (ix2 r a) = (V r a : EReal)) (h r d) : val_main_v7 (F := Ideal) x2 (ix3 h r d) = (V r (kcol h d) : EReal) := by
  have hh : h.val < 8 := h.isLt
  have hd : d.val < 64 := d.isLt
  have hr : r.val < 16384 := r.isLt
  have e1 : ((h.val * 16384 + r.val) * 64 + d.val) / 64 = h.val * 16384 + r.val := by omega
  have e2 : ((h.val * 16384 + r.val) * 64 + d.val) % 64 = d.val := by omega
  have e3 : ((h.val * 16384 + r.val) * 64 + d.val) / 4194304 = h.val / 4 := by omega
  rw [← hv, val_main_v7_apply, val_main_v6_apply, val_main_v5_apply, val_main_v4_apply]
  refine congrArg x2 (funext fun a => Fin.ext ?_)
  match a with
  | ⟨0, _⟩ => dsimp [idx_main_v7, idx_main_v6, idx_main_v5, idx_main_v4, kcol]; (try simp only [e1, e2, e3]); omega
  | ⟨1, _⟩ => dsimp [idx_main_v7, idx_main_v6, idx_main_v5, idx_main_v4, kcol]; (try simp only [e1, e2, e3]); omega

theorem scores (hq : ∀ r a, x0 (ix2 r a) = (Q r a : EReal)) (hk : ∀ r a, x1 (ix2 r a) = (K r a : EReal)) (h r s) :
    val_main_v12 (F := Ideal) x0 x1 (ix3 h r s) = (score Q K h r s : EReal) := by
  rw [val_main_v12_apply, val_main_v10_apply, val_main_v11_apply, val_main_cst_apply]
  show (∑ k, _) * Ideal.ofBits .f32 0x3E000000#32 = _
  rw [ofBits_eighth, score, EReal.coe_mul, Cert.Norm.coe_sum]
  refine congrArg (· * _) (Finset.sum_congr rfl fun k _ => ?_)
  rw [show lidx_main_v10 (ix3 h r s) k = ix3 h r k from funext fun a => Fin.ext (by match a with | ⟨0, _⟩ => (first | rfl | (dsimp; omega)) | ⟨1, _⟩ => (first | rfl | (dsimp; omega)) | ⟨2, _⟩ => (first | rfl | (dsimp; omega))), show ridx_main_v10 (ix3 h r s) k = ix3 h s k from funext fun a => Fin.ext (by match a with | ⟨0, _⟩ => (first | rfl | (dsimp; omega)) | ⟨1, _⟩ => (first | rfl | (dsimp; omega)) | ⟨2, _⟩ => (first | rfl | (dsimp; omega))), queries hq, keys hk, EReal.coe_mul]

theorem greatest (hq : ∀ r a, x0 (ix2 r a) = (Q r a : EReal)) (hk : ∀ r a, x1 (ix2 r a) = (K r a : EReal)) (h r) :
    ∃ μ : ℝ, val_main_v13 (F := Ideal) x0 x1 (ix2 h r) = (μ : EReal) := by
  obtain ⟨μ, hμ⟩ := fold_max_real (n := 16384) (by norm_num) (fun s => score Q K h r s)
  refine ⟨μ, ?_⟩
  rw [← hμ]
  unfold val_main_v13
  simp only [pointwise]
  refine congrArg₂ (fun b f => Finset.univ.fold max b f) ?_ (funext fun s => ?_)
  · exact (val_main_cst_0_apply _).trans ofBits_bot
  · exact scores hq hk h r s

theorem shifts (hq : ∀ r a, x0 (ix2 r a) = (Q r a : EReal)) (hk : ∀ r a, x1 (ix2 r a) = (K r a : EReal)) {h : Fin 8} {r : Fin 16384} {μ : ℝ} (hm : val_main_v13 (F := Ideal) x0 x1 (ix2 h r) = (μ : EReal)) (s) :
    val_main_v33 (F := Ideal) x0 x1 (ix3 h r s) = (Real.exp (score Q K h r s - μ) : EReal) := by
  rw [val_main_v33_apply, val_main_v32_apply, val_main_v31_apply, val_main_v30_apply, val_main_v20_apply, val_main_v19_apply, val_main_cst_2_apply,
    show idx_main_v30 (idx_main_v31 (ix3 h r s)) = ix2 h r from funext fun a => Fin.ext (by match a with | ⟨0, _⟩ => (first | rfl | (dsimp; omega)) | ⟨1, _⟩ => (first | rfl | (dsimp; omega))), hm, scores hq hk]
  show Ideal.exp ((score Q K h r s : EReal) - max (Ideal.ofBits .f32 0xFF800000#32) (μ : EReal)) = _
  rw [ofBits_bot, max_eq_right bot_le, ← EReal.coe_sub, Ideal.exp_coe]

theorem sums (hq : ∀ r a, x0 (ix2 r a) = (Q r a : EReal)) (hk : ∀ r a, x1 (ix2 r a) = (K r a : EReal)) {h : Fin 8} {r : Fin 16384} {μ : ℝ} (hm : val_main_v13 (F := Ideal) x0 x1 (ix2 h r) = (μ : EReal)) :
    val_main_v34 (F := Ideal) x0 x1 (ix2 h r) = ((Real.exp (-μ) * total Q K h r : ℝ) : EReal) := by
  rw [val_main_v34_apply, val_main_cst_8_apply, ← shifted, Cert.Norm.coe_sum]
  show Ideal.ofBits .f32 0x00000000#32 + _ = _
  rw [ofBits_zero, zero_add]
  refine Finset.sum_congr rfl fun s _ => ?_
  rw [show idx_main_v34 (ix2 h r) s = ix3 h r s from funext fun a => Fin.ext (by match a with | ⟨0, _⟩ => (first | rfl | (dsimp; omega)) | ⟨1, _⟩ => (first | rfl | (dsimp; omega)) | ⟨2, _⟩ => (first | rfl | (dsimp; omega))), shifts hq hk hm]

theorem shifted_ne (μ : ℝ) (h : Fin 8) (r : Fin 16384) : Real.exp (-μ) * total Q K h r ≠ 0 :=
  mul_ne_zero (Real.exp_pos _).ne' (total_pos Q K h r).ne'

theorem weights (hq : ∀ r a, x0 (ix2 r a) = (Q r a : EReal)) (hk : ∀ r a, x1 (ix2 r a) = (K r a : EReal)) (h r s) : val_main_v37 (F := Ideal) x0 x1 (ix3 h r s) = (weight Q K h r s : EReal) := by
  obtain ⟨μ, hm⟩ := greatest hq hk h r
  rw [val_main_v37_apply, val_main_v36_apply, val_main_v35_apply, show idx_main_v35 (idx_main_v36 (ix3 h r s)) = ix2 h r from funext fun a => Fin.ext (by match a with | ⟨0, _⟩ => (first | rfl | (dsimp; omega)) | ⟨1, _⟩ => (first | rfl | (dsimp; omega))), sums hq hk hm, shifts hq hk hm]
  show Ideal.div _ _ = _
  rw [Cert.Norm.div_real _ _ (shifted_ne μ h r), weight_shifted]

theorem cots (hv : ∀ r a, x2 (ix2 r a) = (V r a : EReal)) (hd : ∀ r a, x3 (ix2 r a) = (D r a : EReal)) (h r s) : val_main_v46 (F := Ideal) x2 x3 (ix3 h r s) = (cot D V h r s : EReal) := by
  rw [val_main_v46_apply, cot, Cert.Norm.coe_sum]
  refine Finset.sum_congr rfl fun k _ => ?_
  rw [show lidx_main_v46 (ix3 h r s) k = ix3 h r k from funext fun a => Fin.ext (by match a with | ⟨0, _⟩ => (first | rfl | (dsimp; omega)) | ⟨1, _⟩ => (first | rfl | (dsimp; omega)) | ⟨2, _⟩ => (first | rfl | (dsimp; omega))), show ridx_main_v46 (ix3 h r s) k = ix3 h s k from funext fun a => Fin.ext (by match a with | ⟨0, _⟩ => (first | rfl | (dsimp; omega)) | ⟨1, _⟩ => (first | rfl | (dsimp; omega)) | ⟨2, _⟩ => (first | rfl | (dsimp; omega))), cotangents hd, values hv, EReal.coe_mul]

theorem grads (hq : ∀ r a, x0 (ix2 r a) = (Q r a : EReal)) (hk : ∀ r a, x1 (ix2 r a) = (K r a : EReal)) (hv : ∀ r a, x2 (ix2 r a) = (V r a : EReal)) (hd : ∀ r a, x3 (ix2 r a) = (D r a : EReal)) (h r s) :
    val_main_v60 (F := Ideal) x0 x1 x2 x3 (ix3 h r s) = ((grad Q D K V h r s * (1 / 8) : ℝ) : EReal) := by
  obtain ⟨μ, hm⟩ := greatest hq hk h r
  have hl := shifted_ne (Q := Q) (K := K) μ h r
  have h50 : val_main_v50 (F := Ideal) x0 x1 x2 x3 (ix2 h r)
      = ((∑ u, cot D V h r u * (1 / (Real.exp (-μ) * total Q K h r * (Real.exp (-μ) * total Q K h r))) * Real.exp (score Q K h r u - μ) : ℝ) : EReal) := by
    rw [val_main_v50_apply, val_main_cst_10_apply, Cert.Norm.coe_sum]
    show Ideal.ofBits .f32 0x00000000#32 + _ = _
    rw [ofBits_zero, zero_add]
    refine Finset.sum_congr rfl fun s _ => ?_
    rw [show idx_main_v50 (ix2 h r) s = ix3 h r s from funext fun a => Fin.ext (by match a with | ⟨0, _⟩ => (first | rfl | (dsimp; omega)) | ⟨1, _⟩ => (first | rfl | (dsimp; omega)) | ⟨2, _⟩ => (first | rfl | (dsimp; omega))), val_main_v49_apply, val_main_v48_apply, val_main_v47_apply, val_main_v40_apply, val_main_v39_apply,
      val_main_cst_9_apply, val_main_v38_apply, val_main_v35_apply, show idx_main_v35 (idx_main_v47 (ix3 h r s)) = ix2 h r from funext fun a => Fin.ext (by match a with | ⟨0, _⟩ => (first | rfl | (dsimp; omega)) | ⟨1, _⟩ => (first | rfl | (dsimp; omega))), sums hq hk hm, shifts hq hk hm, cots hv hd]
    show _ * Ideal.div (Ideal.ofBits .f32 0x3F800000#32) (_ * _) * _ = _
    rw [ofBits_one, ← EReal.coe_mul, Cert.Norm.div_real _ _ (mul_ne_zero hl hl), ← EReal.coe_mul, ← EReal.coe_mul]
  rw [val_main_v60_apply, val_main_v59_apply, val_main_cst_12_apply, val_main_v58_apply, val_main_v57_apply, val_main_v56_apply, val_main_v55_apply, val_main_v54_apply,
    val_main_v53_apply, val_main_v35_apply, val_main_cst_11_apply, Fin.sum_univ_one, val_main_v52_apply, val_main_v51_apply,
    show idx_main_v35 (idx_main_v53 (ix3 h r s)) = ix2 h r from funext fun a => Fin.ext (by match a with | ⟨0, _⟩ => (first | rfl | (dsimp; omega)) | ⟨1, _⟩ => (first | rfl | (dsimp; omega))),
    show idx_main_v51 (idx_main_v55 (idx_main_v56 (ix3 h r s)) 0) = ix2 h r from funext fun a => Fin.ext (by match a with | ⟨0, _⟩ => (first | rfl | (dsimp; omega)) | ⟨1, _⟩ => (first | rfl | (dsimp; omega))), h50, sums hq hk hm, shifts hq hk hm, cots hv hd]
  show (Ideal.div _ _ + (Ideal.ofBits .f32 0x00000000#32 + -_)) * _ * Ideal.ofBits .f32 0x3E000000#32 = _
  rw [ofBits_zero, zero_add, ofBits_eighth, Cert.Norm.div_real _ _ hl, ← EReal.coe_neg, ← EReal.coe_add, ← EReal.coe_mul, ← EReal.coe_mul, grad_shifted _ _ _ _ _ μ r s _ rfl]

theorem value_grads (hq : ∀ r a, x0 (ix2 r a) = (Q r a : EReal)) (hk : ∀ r a, x1 (ix2 r a) = (K r a : EReal)) (hd : ∀ r a, x3 (ix2 r a) = (D r a : EReal)) (h s d) :
    val_main_v45 (F := Ideal) x0 x1 x3 (ix3 h s d) = ((∑ r, weight Q K h r s * D r (qcol h d) : ℝ) : EReal) := by
  rw [val_main_v45_apply, val_main_v44_apply, Cert.Norm.coe_sum]
  refine Finset.sum_congr rfl fun r _ => ?_
  rw [show lidx_main_v44 (idx_main_v45 (ix3 h s d)) r = ix3 h r d from funext fun a => Fin.ext (by match a with | ⟨0, _⟩ => (first | rfl | (dsimp; omega)) | ⟨1, _⟩ => (first | rfl | (dsimp; omega)) | ⟨2, _⟩ => (first | rfl | (dsimp; omega))), show ridx_main_v44 (idx_main_v45 (ix3 h s d)) r = ix3 h r s from funext fun a => Fin.ext (by match a with | ⟨0, _⟩ => (first | rfl | (dsimp; omega)) | ⟨1, _⟩ => (first | rfl | (dsimp; omega)) | ⟨2, _⟩ => (first | rfl | (dsimp; omega))), cotangents hd, weights hq hk, EReal.coe_mul, mul_comm]

theorem key_grads (hq : ∀ r a, x0 (ix2 r a) = (Q r a : EReal)) (hk : ∀ r a, x1 (ix2 r a) = (K r a : EReal)) (hv : ∀ r a, x2 (ix2 r a) = (V r a : EReal)) (hd : ∀ r a, x3 (ix2 r a) = (D r a : EReal)) (h s d) :
    val_main_v71 (F := Ideal) x0 x1 x2 x3 (ix3 h s d) = ((∑ r, grad Q D K V h r s * (Q r (qcol h d) * (1 / 8 / Real.log 2)) : ℝ) : EReal) := by
  have h2 : Real.log 2 ≠ 0 := (Real.log_pos one_lt_two).ne'
  rw [val_main_v71_apply, val_main_v70_apply, val_main_v69_apply, val_main_cst_15_apply, val_main_v61_apply]
  show Ideal.div (∑ k, _) (Ideal.log (Ideal.ofBits .f32 0x40000000#32)) = _
  have hs : ∑ k : Fin 16384, (val_main_v60 (F := Ideal) x0 x1 x2 x3) (lidx_main_v61 (ix3 h s d) k) * (val_main_v9 (F := Ideal) x0) (ridx_main_v61 (ix3 h s d) k)
      = ((∑ r, grad Q D K V h r s * (1 / 8) * Q r (qcol h d) : ℝ) : EReal) := by
    rw [Cert.Norm.coe_sum]
    refine Finset.sum_congr rfl fun r _ => ?_
    rw [show lidx_main_v61 (ix3 h s d) r = ix3 h r s from funext fun a => Fin.ext (by match a with | ⟨0, _⟩ => (first | rfl | (dsimp; omega)) | ⟨1, _⟩ => (first | rfl | (dsimp; omega)) | ⟨2, _⟩ => (first | rfl | (dsimp; omega))), show ridx_main_v61 (ix3 h s d) r = ix3 h r d from funext fun a => Fin.ext (by match a with | ⟨0, _⟩ => (first | rfl | (dsimp; omega)) | ⟨1, _⟩ => (first | rfl | (dsimp; omega)) | ⟨2, _⟩ => (first | rfl | (dsimp; omega))), queries hq, grads hq hk hv hd, ← EReal.coe_mul]
  rw [hs, ofBits_two, log_two, Cert.Norm.div_real _ _ h2, Finset.sum_div]
  refine congrArg _ (Finset.sum_congr rfl fun r _ => ?_)
  field_simp

theorem query_grads (hq : ∀ r a, x0 (ix2 r a) = (Q r a : EReal)) (hk : ∀ r a, x1 (ix2 r a) = (K r a : EReal)) (hv : ∀ r a, x2 (ix2 r a) = (V r a : EReal)) (hd : ∀ r a, x3 (ix2 r a) = (D r a : EReal)) (h r d) :
    val_main_v65 (F := Ideal) x0 x1 x2 x3 (ix3 h r d) = ((∑ s, grad Q D K V h r s * K s (kcol h d) : ℝ) : EReal) := by
  rw [val_main_v65_apply, val_main_v64_apply, val_main_cst_14_apply, val_main_v62_apply]
  show (∑ k, _) * Ideal.ofBits .f32 0x41000000#32 = _
  have hs : ∑ k : Fin 16384, (val_main_v60 (F := Ideal) x0 x1 x2 x3) (lidx_main_v62 (ix3 h r d) k) * (val_main_v3 (F := Ideal) x1) (ridx_main_v62 (ix3 h r d) k)
      = ((∑ s, grad Q D K V h r s * (1 / 8) * K s (kcol h d) : ℝ) : EReal) := by
    rw [Cert.Norm.coe_sum]
    refine Finset.sum_congr rfl fun s _ => ?_
    rw [show lidx_main_v62 (ix3 h r d) s = ix3 h r s from funext fun a => Fin.ext (by match a with | ⟨0, _⟩ => (first | rfl | (dsimp; omega)) | ⟨1, _⟩ => (first | rfl | (dsimp; omega)) | ⟨2, _⟩ => (first | rfl | (dsimp; omega))), show ridx_main_v62 (ix3 h r d) s = ix3 h s d from funext fun a => Fin.ext (by match a with | ⟨0, _⟩ => (first | rfl | (dsimp; omega)) | ⟨1, _⟩ => (first | rfl | (dsimp; omega)) | ⟨2, _⟩ => (first | rfl | (dsimp; omega))), keys hk, grads hq hk hv hd, ← EReal.coe_mul]
  rw [hs, ofBits_eight, ← EReal.coe_mul, Finset.sum_mul]
  refine congrArg _ (Finset.sum_congr rfl fun r _ => ?_)
  ring

/-- The queries' gradient, a head's columns in its rows. -/
theorem result_query (hq : ∀ r a, x0 (ix2 r a) = (Q r a : EReal)) (hk : ∀ r a, x1 (ix2 r a) = (K r a : EReal)) (hv : ∀ r a, x2 (ix2 r a) = (V r a : EReal)) (hd : ∀ r a, x3 (ix2 r a) = (D r a : EReal)) (i : Fin 32) (h : Fin 8) (d : Fin 64) (p : Fin 512) (r : Fin 16384) (hr : r.val = i.val * 512 + p.val) :
    val_main_v68 (F := Ideal) x0 x1 x2 x3 (ix3 i ⟨h.val * 64 + d.val, by omega⟩ p) = ((∑ s, grad Q D K V h r s * K s (kcol h d) : ℝ) : EReal) := by
  rw [← query_grads hq hk hv hd, val_main_v68_apply, val_main_v67_apply, val_main_v66_apply]
  refine congrArg (val_main_v65 (F := Ideal) x0 x1 x2 x3) (funext fun a => Fin.ext ?_)
  have h0 := i.isLt; have h1 := h.isLt; have h2 := d.isLt; have h3 := p.isLt
  have e1 : ((i.val * 512 + (h.val * 64 + d.val)) * 512 + p.val) / 32768 % 8 = h.val := by omega
  have e2 : ((i.val * 512 + (h.val * 64 + d.val)) * 512 + p.val) / 262144 = i.val := by omega
  have e3 : ((i.val * 512 + (h.val * 64 + d.val)) * 512 + p.val) % 512 = p.val := by omega
  have e5 : (((h.val * 32 + i.val) * 512 + p.val) * 64 + d.val) / 64 = (h.val * 32 + i.val) * 512 + p.val := by omega
  have e4 : ((i.val * 512 + (h.val * 64 + d.val)) * 512 + p.val) / 512 % 64 = d.val := by omega
  match a with
  | ⟨0, _⟩ => dsimp [idx_main_v66, idx_main_v67, idx_main_v68]; simp only [e1, e2, e3, e4, e5]; omega
  | ⟨1, _⟩ => dsimp [idx_main_v66, idx_main_v67, idx_main_v68]; simp only [e1, e2, e3, e4, e5]; omega
  | ⟨2, _⟩ => dsimp [idx_main_v66, idx_main_v67, idx_main_v68]; simp only [e1, e2, e3, e4, e5]; omega

/-- Four heads' columns in one half of the lanes, four heads' in the other, zeros elsewhere. -/
theorem placed (g : (⟨S8x16384x64, .f32⟩ : BufTy).Contents (Elt Ideal)) (lo hi : (⟨S4x16384x64, .f32⟩ : BufTy).Contents (Elt Ideal))
    (hlo : ∀ (h : Fin 4) s d, lo (ix3 h s d) = g (ix3 ⟨h.val, by omega⟩ s d)) (hhi : ∀ (h : Fin 4) s d, hi (ix3 h s d) = g (ix3 ⟨h.val + 4, by omega⟩ s d))
    (z : (⟨S4x16384x64, .f32⟩ : BufTy).Contents (Elt Ideal)) (hz : ∀ i, z i = 0) (h : Fin 8) (s : Fin 16384) (a : Fin 128) :
    concatenate S8x16384x128 0 [⟨S4x16384x128, concatenate S4x16384x128 2 [⟨S4x16384x64, lo⟩, ⟨S4x16384x64, z⟩] concatenates_S4x16384x64_S4x16384x64_S4x16384x128_d2⟩,
        ⟨S4x16384x128, concatenate S4x16384x128 2 [⟨S4x16384x64, z⟩, ⟨S4x16384x64, hi⟩] concatenates_S4x16384x64_S4x16384x64_S4x16384x128_d2⟩]
      concatenates_S4x16384x128_S4x16384x128_S8x16384x128_d0 (ix3 h s a)
      = if Inside h a then g (ix3 h s ⟨a.val % 64, by omega⟩) else 0 := by
  pointwise []
  have hin : Inside h a ↔ (h.val < 4 ↔ a.val < 64) := by
    show a.val / 64 = h.val / 4 ↔ _
    omega
  have at_eq : ∀ (h' : Fin 8) (d : Fin 64), h'.val = h.val → d.val = a.val % 64 → g (ix3 h' s d) = g (ix3 h s ⟨a.val % 64, by omega⟩) :=
    fun h' d e1 e2 => congrArg₂ (fun u v => g (ix3 u s v)) (Fin.ext e1) (Fin.ext e2)
  by_cases h1 : h.val < 4 <;> by_cases h2 : a.val < 64
  · rw [dif_pos h1, dif_pos h2, if_pos (hin.mpr ⟨fun _ => h2, fun _ => h1⟩)]
    exact (hlo _ _ _).trans (at_eq _ _ rfl (by dsimp only; omega))
  · rw [dif_pos h1, dif_neg h2, if_neg (fun h3 => h2 ((hin.mp h3).mp h1))]
    exact hz _
  · rw [dif_neg h1, dif_pos h2, if_neg (fun h3 => h1 ((hin.mp h3).mpr h2))]
    exact hz _
  · rw [dif_neg h1, dif_neg h2, if_pos (hin.mpr ⟨fun h => absurd h h1, fun h => absurd h h2⟩)]
    exact (hhi _ _ _).trans (at_eq _ _ (by dsimp only; omega) (by dsimp only; omega))

/-- Two reads of four heads each, out of eight. -/
theorem result_key (hq : ∀ r a, x0 (ix2 r a) = (Q r a : EReal)) (hk : ∀ r a, x1 (ix2 r a) = (K r a : EReal)) (hv : ∀ r a, x2 (ix2 r a) = (V r a : EReal)) (hd : ∀ r a, x3 (ix2 r a) = (D r a : EReal)) (h : Fin 8) (s : Fin 16384) (a : Fin 128) :
    val_main_v77 (F := Ideal) x0 x1 x2 x3 (ix3 h s a)
      = ((if Inside h a then ∑ r, grad Q D K V h r s * (Q r (qcol h ⟨a.val % 64, by omega⟩) * (1 / 8 / Real.log 2)) else 0 : ℝ) : EReal) := by
  rw [val_main_v77_apply]
  refine (placed (val_main_v71 (F := Ideal) x0 x1 x2 x3) (val_main_v72 (F := Ideal) x0 x1 x2 x3) (val_main_v74 (F := Ideal) x0 x1 x2 x3) (fun h s d => ?_) (fun h s d => ?_)
    (val_main_v63 (F := Ideal)) (fun i => ?_) h s a).trans ?_
  · rw [val_main_v72_apply]
    exact congrArg _ (show idx_main_v72 (ix3 h s d) = ix3 ⟨h.val, by omega⟩ s d from funext fun a => Fin.ext (by match a with | ⟨0, _⟩ => (first | rfl | (dsimp; omega)) | ⟨1, _⟩ => (first | rfl | (dsimp; omega)) | ⟨2, _⟩ => (first | rfl | (dsimp; omega))))
  · rw [val_main_v74_apply]
    exact congrArg _ (show idx_main_v74 (ix3 h s d) = ix3 ⟨h.val + 4, by omega⟩ s d from funext fun a => Fin.ext (by match a with | ⟨0, _⟩ => (first | rfl | (dsimp; omega)) | ⟨1, _⟩ => (first | rfl | (dsimp; omega)) | ⟨2, _⟩ => (first | rfl | (dsimp; omega))))
  · rw [val_main_v63_apply, val_main_cst_13_apply]
    exact ofBits_zero
  · split_ifs
    · exact key_grads hq hk hv hd h s _
    · exact EReal.coe_zero.symm

theorem result_value (hq : ∀ r a, x0 (ix2 r a) = (Q r a : EReal)) (hk : ∀ r a, x1 (ix2 r a) = (K r a : EReal)) (hd : ∀ r a, x3 (ix2 r a) = (D r a : EReal)) (h : Fin 8) (s : Fin 16384) (a : Fin 128) :
    val_main_v83 (F := Ideal) x0 x1 x3 (ix3 h s a)
      = ((if Inside h a then ∑ r, weight Q K h r s * D r (qcol h ⟨a.val % 64, by omega⟩) else 0 : ℝ) : EReal) := by
  rw [val_main_v83_apply]
  refine (placed (val_main_v45 (F := Ideal) x0 x1 x3) (val_main_v78 (F := Ideal) x0 x1 x3) (val_main_v80 (F := Ideal) x0 x1 x3) (fun h s d => ?_) (fun h s d => ?_)
    (val_main_v63 (F := Ideal)) (fun i => ?_) h s a).trans ?_
  · rw [val_main_v78_apply]
    exact congrArg _ (show idx_main_v78 (ix3 h s d) = ix3 ⟨h.val, by omega⟩ s d from funext fun a => Fin.ext (by match a with | ⟨0, _⟩ => (first | rfl | (dsimp; omega)) | ⟨1, _⟩ => (first | rfl | (dsimp; omega)) | ⟨2, _⟩ => (first | rfl | (dsimp; omega))))
  · rw [val_main_v80_apply]
    exact congrArg _ (show idx_main_v80 (ix3 h s d) = ix3 ⟨h.val + 4, by omega⟩ s d from funext fun a => Fin.ext (by match a with | ⟨0, _⟩ => (first | rfl | (dsimp; omega)) | ⟨1, _⟩ => (first | rfl | (dsimp; omega)) | ⟨2, _⟩ => (first | rfl | (dsimp; omega))))
  · rw [val_main_v63_apply, val_main_cst_13_apply]
    exact ofBits_zero
  · split_ifs
    · exact value_grads hq hk hd h s _
    · exact EReal.coe_zero.symm

end Cert.AttnRefIdeal.Layers

end
-- ==== Proof.AttnHost.lean ====
module

public import proofs.«01_k».proof.Defs
public import proofs.«01_k».proof.Proof.AttnMath
public import proofs.«01_k».proof.Proof.AttnRef
public import proofs.«01_k».proof.Proof.Gen.AttnIdeal.Frame
public import Idealize.ShloMosaic.Lib.Pipeline.ValueKit
public import Idealize.ShloMosaic.Lib.Pointwise

@[expose] public section

/-! # The blocks that the points of attention's gradient read -/

set_option maxRecDepth 16384

noncomputable section

open Idealize.ShloMosaic Idealize.ShloMosaic.TcCoe Idealize.SL.Sem
open Idealize.ShloMosaic.Pipeline (Dat)

namespace Cert.AttnIdeal.Host

open Cert.AttnIdeal Cert.AttnIdeal.Gen Cert.AttnMath

variable (m : (ℓ : Loc nD τ sig) → Buf (Elt Ideal) ℓ)

theorem idx : ∀ t : Fin cfg0.N, win0_0.index t = ![0, t.val / 8, 0] ∧ win0_1.index t = ![0, t.val / 8, 0] ∧ win0_2.index t = ![t.val / 8, 0, 0, 0]
    ∧ win0_3.index t = ![t.val / 8, 0, 0, 0] ∧ win0_4.index t = ![t.val % 8, 0] ∧ win0_5.index t = ![t.val % 8, 0]
    ∧ win0_6.index t = ![t.val % 8, t.val / 32, 0] ∧ win0_7.index t = ![0, t.val / 8, 0] ∧ win0_8.index t = ![t.val / 8, t.val % 8, 0]
    ∧ win0_9.index t = ![t.val / 8, t.val % 8, 0] :=
  (by decide +kernel : ∀ t : Fin grid0.N, _)

theorem read_keys (c : Dev nD) (t : Fin cfg0.N) (s : Fin 2048) (a : Fin 128) (r : Fin 16384) (hr : r.val = t.val % 8 * 2048 + s.val) :
    iblk m c 4 t (ix2 s a) = (m ((c : Thread nD τ).loc main_arg1)) (ix2 r a) := by
  obtain ⟨v, hv⟩ := r
  obtain rfl : v = t.val % 8 * 2048 + s.val := hr
  blk_simp [iblk, V, idx t]
  entry_read
  pointwise []
  exact congrArg (m ((c : Thread nD τ).loc main_arg1)) (by blk_ext [idx t])

theorem read_vals (c : Dev nD) (t : Fin cfg0.N) (s : Fin 2048) (a : Fin 128) (r : Fin 16384) (hr : r.val = t.val % 8 * 2048 + s.val) :
    iblk m c 5 t (ix2 s a) = (m ((c : Thread nD τ).loc main_arg2)) (ix2 r a) := by
  obtain ⟨v, hv⟩ := r
  obtain rfl : v = t.val % 8 * 2048 + s.val := hr
  blk_simp [iblk, V, idx t]
  entry_read
  pointwise []
  exact congrArg (m ((c : Thread nD τ).loc main_arg2)) (by blk_ext [idx t])

theorem read_cols (c : Dev nD) (t : Fin cfg0.N) (i : Fin 4) (d : Fin 64) (p : Fin 512) (h : Fin 8) (ht : h.val = t.val / 8) (r : Fin 16384) (hr : r.val = (t.val % 8 * 4 + i.val) * 512 + p.val) :
    iblk m c 6 t (ix3 i d p) = (m ((c : Thread nD τ).loc main_arg1)) (ix2 r (kcol h d)) := by
  obtain ⟨v, hv⟩ := r
  obtain rfl : v = (t.val % 8 * 4 + i.val) * 512 + p.val := hr
  obtain ⟨u, hu⟩ := h
  obtain rfl : u = t.val / 8 := ht
  blk_simp [iblk, V, idx t]
  entry_read
  rw [show ((View.whole main_v61).slice (win0_6.rect t)).emb (ix3 i d p) = ix3 ⟨t.val % 8 * 4 + i.val, by omega⟩ ⟨t.val / 32 * 64 + d.val, by omega⟩ p from by blk_ext [idx t]]
  pointwise []
  refine congrArg (m ((c : Thread nD τ).loc main_arg1)) (congrArg (ix2 _) (Fin.ext ?_))
  show t.val / 32 * 64 + d.val = t.val / 8 / 4 * 64 + d.val
  omega

end Cert.AttnIdeal.Host

end
-- ==== Proof.AttnQueries.lean ====
module

public import proofs.«01_k».proof.Defs
public import proofs.«01_k».proof.Proof.AttnMath
public import proofs.«01_k».proof.Proof.AttnRef
public import proofs.«01_k».proof.Proof.AttnHost
public import proofs.«01_k».proof.Proof.Gen.AttnIdeal.Frame
public import Idealize.ShloMosaic.Lib.Pipeline.ValueKit
public import Idealize.ShloMosaic.Lib.Pointwise

@[expose] public section

/-! # The columns that the points of attention's gradient read -/

set_option maxRecDepth 16384

noncomputable section

open Idealize.ShloMosaic Idealize.ShloMosaic.TcCoe Idealize.SL.Sem
open Idealize.ShloMosaic.Pipeline (Dat)

namespace Cert.AttnIdeal.Host

open Cert.AttnIdeal Cert.AttnIdeal.Gen Cert.AttnMath

variable (m : (ℓ : Loc nD τ sig) → Buf (Elt Ideal) ℓ)

/-- A column times the scale. -/
theorem factor (x : ℝ) : (x : EReal) * Ideal.div (Ideal.ofBits .f32 0x3E000000#32) (Ideal.log (Ideal.ofBits .f32 0x40000000#32)) = ((x * (1 / 8 / Real.log 2) : ℝ) : EReal) := by
  have h2 : Real.log 2 ≠ 0 := (Real.log_pos (by norm_num)).ne'
  rw [Cert.AttnRefIdeal.Layers.ofBits_eighth, Cert.AttnRefIdeal.Layers.ofBits_two, Cert.AttnRefIdeal.Layers.log_two, Cert.Norm.div_real _ _ h2, ← EReal.coe_mul]

/-- A choice between a real and zero is a real. -/
theorem pick (P : Prop) [Decidable P] (x : ℝ) : (if P then (x : EReal) else 0) = ((if P then x else 0 : ℝ) : EReal) := by
  by_cases h : P
  · rw [if_pos h, if_pos h]
  · rw [if_neg h, if_neg h, EReal.coe_zero]

/-- The four cases of a lane: of a head of the first four the first half, of the others the second. -/
theorem halves {α : Type} (h : Fin 8) (a : Fin 128) (n : ℕ) (e1 : n / 512 = h.val / 4) (e2 : n % 128 = a.val) (f : n / 512 < 1 → n % 128 < 64 → α)
    (g : ¬n / 512 < 1 → ¬n % 128 < 64 → α) (z v : α) (hf : ∀ p q, f p q = v) (hg : ∀ p q, g p q = v) :
    (if p : n / 512 < 1 then if q : n % 128 < 64 then f p q else z else if q : n % 128 < 64 then z else g p q) = if Inside h a then v else z := by
  have hh := h.isLt
  have key : Inside h a = (a.val / 64 = h.val / 4) := rfl
  by_cases q1 : n / 512 < 1 <;> by_cases q2 : n % 128 < 64
  · rw [dif_pos q1, dif_pos q2, if_pos (by rw [key]; omega), hf]
  · rw [dif_pos q1, dif_neg q2, if_neg (by rw [key]; omega)]
  · rw [dif_neg q1, dif_pos q2, if_neg (by rw [key]; omega)]
  · rw [dif_neg q1, dif_neg q2, if_pos (by rw [key]; omega), hg]

set_option maxHeartbeats 400000 in
/-- A tile's columns of the queries: a head's half of the lanes holds its columns with the scale, the other half zeros. -/
theorem read_queries (c : Dev nD) {Q : Fin 16384 → Fin 512 → ℝ} (hq : ∀ r a, (m ((c : Thread nD τ).loc main_arg0)) (ix2 r a) = (Q r a : EReal)) (t : Fin cfg0.N) (i : Fin 32) (a : Fin 128) (p : Fin 512) (h : Fin 8) (ht : h.val = t.val / 8) (r : Fin 16384) (hr : r.val = i.val * 512 + p.val) :
    iblk m c 0 t (ix3 i a p) = ((if Inside h a then Q r (qcol h ⟨a.val % 64, by omega⟩) * (1 / 8 / Real.log 2) else 0 : ℝ) : EReal) := by
  have hh := h.isLt
  have e1 : (t.val / 8 * 128 + a.val) / 512 = h.val / 4 := by omega
  have e2 : (t.val / 8 * 128 + a.val) % 128 = a.val := by omega
  have e3 : (t.val / 8 * 128 + a.val) / 128 = h.val := by omega
  blk_simp [iblk, V, idx t]
  entry_read
  rw [show ((View.whole main_v48).slice (win0_0.rect t)).emb (ix3 i a p) = ix3 i ⟨t.val / 8 * 128 + a.val, by omega⟩ p from by blk_ext [idx t]]
  pointwise []
  refine (halves h a _ e1 e2 _ _ _ ((Q r (qcol h ⟨a.val % 64, by omega⟩) * (1 / 8 / Real.log 2) : ℝ) : EReal) ?_ ?_).trans (pick _ _)
  · intro p1 p2
    refine (congrArg (fun z : EReal => z * _) (hq _ _)).trans ((factor _).trans <| congrArg₂ (fun u w => ((Q u w * (1 / 8 / Real.log 2) : ℝ) : EReal)) (Fin.ext ?_) (Fin.ext ?_))
    · exact hr.symm
    · show _ = h.val * 64 + a.val % 64
      dsimp only
      rw [e1, e2, e3]
      rw [e1] at p1
      rw [e2] at p2
      omega
  · intro p1 p2
    refine (congrArg (fun z : EReal => z * _) (hq _ _)).trans ((factor _).trans <| congrArg₂ (fun u w => ((Q u w * (1 / 8 / Real.log 2) : ℝ) : EReal)) (Fin.ext ?_) (Fin.ext ?_))
    · exact hr.symm
    · show _ = h.val * 64 + a.val % 64
      dsimp only
      rw [e1, e2, e3]
      rw [e1] at p1
      rw [e2] at p2
      omega

set_option maxHeartbeats 400000 in
/-- Likewise the cotangent's columns, with no scale. -/
theorem read_cots (c : Dev nD) {Q : Fin 16384 → Fin 512 → ℝ} (hq : ∀ r a, (m ((c : Thread nD τ).loc main_arg3)) (ix2 r a) = (Q r a : EReal)) (t : Fin cfg0.N) (i : Fin 32) (a : Fin 128) (p : Fin 512) (h : Fin 8) (ht : h.val = t.val / 8) (r : Fin 16384) (hr : r.val = i.val * 512 + p.val) :
    iblk m c 1 t (ix3 i a p) = ((if Inside h a then Q r (qcol h ⟨a.val % 64, by omega⟩) else 0 : ℝ) : EReal) := by
  have hh := h.isLt
  have e1 : (t.val / 8 * 128 + a.val) / 512 = h.val / 4 := by omega
  have e2 : (t.val / 8 * 128 + a.val) % 128 = a.val := by omega
  have e3 : (t.val / 8 * 128 + a.val) / 128 = h.val := by omega
  blk_simp [iblk, V, idx t]
  entry_read
  rw [show ((View.whole main_v58).slice (win0_1.rect t)).emb (ix3 i a p) = ix3 i ⟨t.val / 8 * 128 + a.val, by omega⟩ p from by blk_ext [idx t]]
  pointwise []
  refine (halves h a _ e1 e2 _ _ _ ((Q r (qcol h ⟨a.val % 64, by omega⟩) : ℝ) : EReal) ?_ ?_).trans (pick _ _)
  · intro p1 p2
    refine ( (hq _ _)).trans (congrArg₂ (fun u w => ((Q u w : ℝ) : EReal)) (Fin.ext ?_) (Fin.ext ?_))
    · exact hr.symm
    · show _ = h.val * 64 + a.val % 64
      dsimp only
      rw [e1, e2, e3]
      rw [e1] at p1
      rw [e2] at p2
      omega
  · intro p1 p2
    refine ( (hq _ _)).trans (congrArg₂ (fun u w => ((Q u w : ℝ) : EReal)) (Fin.ext ?_) (Fin.ext ?_))
    · exact hr.symm
    · show _ = h.val * 64 + a.val % 64
      dsimp only
      rw [e1, e2, e3]
      rw [e1] at p1
      rw [e2] at p2
      omega

end Cert.AttnIdeal.Host

end
-- ==== Proof.AttnSoft.lean ====
module

public import proofs.«01_k».proof.Defs
public import proofs.«01_k».proof.Proof.AttnMath
public import proofs.«01_k».proof.Proof.AttnRef
public import proofs.«01_k».proof.Proof.Gen.AttnIdeal.Frame
public import Idealize.ShloMosaic.Lib.Pipeline.ValueKit
public import Idealize.ShloMosaic.Lib.Pointwise

@[expose] public section

/-! # The blocks that the points of attention's gradient read -/

set_option maxRecDepth 16384

noncomputable section

open Idealize.ShloMosaic Idealize.ShloMosaic.TcCoe Idealize.SL.Sem
open Idealize.ShloMosaic.Pipeline (Dat)

namespace Cert.AttnIdeal.Host

open Cert.AttnIdeal Cert.AttnIdeal.Gen Cert.AttnMath

variable (m : (ℓ : Loc nD τ sig) → Buf (Elt Ideal) ℓ)

/-- The queries (or cotangents) by heads, -/
def heads (q : FVec Ideal S16384x512 .f32) : FVec Ideal S8x16384x64 .f32 :=
  transpose S8x16384x64 [1, 0, 2] (fun i => shapeCast main_v8.ty.shape q shapeCasts_S16384x512_S16384x8x64 i) transposes_S16384x8x64_S8x16384x64_1_0_2

/-- the keys (or values) by heads, each group's repeated, -/
def groups (k : FVec Ideal S16384x128 .f32) : FVec Ideal S8x16384x64 .f32 := fun i =>
  shapeCast main_v3.ty.shape (broadcastInDim S2x4x16384x64 ![0, 2, 3] bcast_S2x16384x64_S2x4x16384x64_0_2_3
    (transpose S2x16384x64 [1, 0, 2] (fun i => shapeCast main_v0.ty.shape k shapeCasts_S16384x128_S16384x2x64 i) transposes_S16384x2x64_S2x16384x64_1_0_2))
    shapeCasts_S2x4x16384x64_S8x16384x64 i

/-- the scores, -/
def table (q : FVec Ideal S16384x512 .f32) (k : FVec Ideal S16384x128 .f32) : FVec Ideal S8x16384x16384 .f32 :=
  mulf (Host.dotGeneral dot_S8x16384x64_S8x16384x64_S8x16384x16384_2_2_1_1_0_0 none (heads q) (groups k))
    (broadcastInDim S8x16384x16384 ![] bcast_S_S8x16384x16384 (constant S_ .f32 0x3E000000#32))

/-- a row's greatest, -/
def most (q : FVec Ideal S16384x512 .f32) (k : FVec Ideal S16384x128 .f32) : FVec Ideal S8x16384x1 .f32 :=
  broadcastInDim S8x16384x1 ![0, 1] bcast_S8x16384_S8x16384x1_0_1
    (Host.reduce FloatOps.maximumf (table q k) (constant S_ .f32 0xFF800000#32) reducesTo_S8x16384x16384_S8x16384_d2 h_S_)

/-- the exponentials with it taken off, -/
def exps (q : FVec Ideal S16384x512 .f32) (k : FVec Ideal S16384x128 .f32) : FVec Ideal S8x16384x16384 .f32 :=
  Host.exp (subf (table q k) (broadcastInDim S8x16384x16384 ![0, 1, 2] bcast_S8x16384x1_S8x16384x16384_0_1_2 (most q k)))

/-- their sum, -/
def sums (q : FVec Ideal S16384x512 .f32) (k : FVec Ideal S16384x128 .f32) : FVec Ideal S8x16384x1 .f32 :=
  broadcastInDim S8x16384x1 ![0, 1] bcast_S8x16384_S8x16384x1_0_1
    (Host.reduceAdd (exps q k) (constant S_ .f32 0x00000000#32) reducesTo_S8x16384x16384_S8x16384_d2 h_S_)

/-- its logarithm in base two with the greatest score added back, -/
def logs (q : FVec Ideal S16384x512 .f32) (k : FVec Ideal S16384x128 .f32) : FVec Ideal S8x16384 .f32 :=
  Host.divf (fun i => shapeCast S8x16384 (addf (most q k) (Host.log (sums q k))) shapeCasts_S8x16384x1_S8x16384 i)
    (broadcastInDim S8x16384 ![] bcast_S_S8x16384 (Host.log (constant S_ .f32 0x40000000#32)))

/-- the output, -/
def outs (q : FVec Ideal S16384x512 .f32) (k v : FVec Ideal S16384x128 .f32) : FVec Ideal S8x16384x64 .f32 :=
  Host.dotGeneral (φ₂ := .f32) dot_S8x16384x16384_S8x16384x64_S8x16384x64_2_1_1_2_0_0 none
    (Host.divf (exps q k) (broadcastInDim S8x16384x16384 ![0, 1, 2] bcast_S8x16384x1_S8x16384x16384_0_1_2 (sums q k))) (groups v)

/-- and the sum of a row of the output times its cotangent. -/
def dots (q w : FVec Ideal S16384x512 .f32) (k v : FVec Ideal S16384x128 .f32) : FVec Ideal S8x16384 .f32 :=
  Host.reduceAdd (mulf (heads w) (outs q k v)) (constant S_ .f32 0x00000000#32) reducesTo_S8x16384x64_S8x16384_d2 h_S_

/-- A column's entry without its unit axis. -/
theorem flat (x : FVec Ideal S8x16384x1 .f32) (h : Fin 8) (r : Fin 16384) : shapeCast S8x16384 x shapeCasts_S8x16384x1_S8x16384 (ix2 h r) = x (ix3 h r 0) := by
  simp only [pointwise]

/-- A sum with a logarithm, entry by entry. -/
theorem added (x y : FVec Ideal S8x16384x1 .f32) (i) : addf x (Host.log y) i = x i + Ideal.log (y i) := rfl

variable {q w : FVec Ideal S16384x512 .f32} {k v : FVec Ideal S16384x128 .f32} {Q D : Fin 16384 → Fin 512 → ℝ} {K V : Fin 16384 → Fin 128 → ℝ}
  (hq : ∀ r a, q (ix2 r a) = (Q r a : EReal)) (hk : ∀ r a, k (ix2 r a) = (K r a : EReal))
  (hv : ∀ r a, v (ix2 r a) = (V r a : EReal)) (hw : ∀ r a, w (ix2 r a) = (D r a : EReal))

include hq in
theorem heads_real (h : Fin 8) (r : Fin 16384) (d : Fin 64) : heads q (ix3 h r d) = (Q r (qcol h d) : EReal) := by
  unfold heads
  pointwise []
  exact hq _ _

include hk in
theorem groups_real (h : Fin 8) (r : Fin 16384) (d : Fin 64) : groups k (ix3 h r d) = (K r (kcol h d) : EReal) := by
  unfold groups
  pointwise []
  exact hk _ _

include hq hk in
theorem table_real (h : Fin 8) (r s : Fin 16384) : table q k (ix3 h r s) = (score Q K h r s : EReal) := by
  unfold table
  pointwise []
  rw [Cert.AttnRefIdeal.Layers.ofBits_eighth, score, EReal.coe_mul, Cert.Norm.coe_sum]
  refine congrArg (· * _) (Finset.sum_congr rfl fun d _ => ?_)
  rw [heads_real hq, groups_real hk, EReal.coe_mul]

include hq hk in
theorem most_real (h : Fin 8) (r : Fin 16384) : ∃ μ : ℝ, most q k (ix3 h r 0) = (μ : EReal) := by
  obtain ⟨μ, hμ⟩ := fold_max_real (n := 16384) (by norm_num) (fun s => score Q K h r s)
  refine ⟨μ, ?_⟩
  rw [← hμ]
  unfold most
  simp only [pointwise]
  refine congrArg₂ (fun b f => Finset.univ.fold max b f) ?_ (funext fun s => ?_)
  · exact Cert.AttnRefIdeal.Layers.ofBits_bot
  · exact table_real hq hk h r s

include hq hk in
theorem exps_real {h : Fin 8} {r : Fin 16384} {μ : ℝ} (hm : most q k (ix3 h r 0) = (μ : EReal)) (s : Fin 16384) :
    exps q k (ix3 h r s) = (Real.exp (score Q K h r s - μ) : EReal) := by
  unfold exps
  pointwise []
  rw [hm, table_real hq hk, ← EReal.coe_sub, Ideal.exp_coe]

include hq hk in
theorem sums_real {h : Fin 8} {r : Fin 16384} {μ : ℝ} (hm : most q k (ix3 h r 0) = (μ : EReal)) :
    sums q k (ix3 h r 0) = ((Real.exp (-μ) * total Q K h r : ℝ) : EReal) := by
  unfold sums
  pointwise []
  rw [← shifted, Cert.Norm.coe_sum]
  exact Finset.sum_congr rfl fun s _ => exps_real hq hk hm s

include hq hk in
theorem logs_real (h : Fin 8) (r : Fin 16384) : logs q k (ix2 h r) = ((Real.log (total Q K h r) / Real.log 2 : ℝ) : EReal) := by
  obtain ⟨μ, hm⟩ := most_real hq hk h r
  have h2 : Real.log 2 ≠ 0 := (Real.log_pos (by norm_num)).ne'
  have hp : 0 < Real.exp (-μ) * total Q K h r := mul_pos (Real.exp_pos _) (total_pos Q K h r)
  have e : shapeCast S8x16384 (addf (most q k) (Host.log (sums q k))) shapeCasts_S8x16384x1_S8x16384 (ix2 h r) = most q k (ix3 h r 0) + Ideal.log (sums q k (ix3 h r 0)) := by
    rw [flat, added]
  have d : Ideal.log (Ideal.ofBits .f32 0x40000000#32) = (Real.log 2 : EReal) := by
    rw [Cert.AttnRefIdeal.Layers.ofBits_two, Cert.AttnRefIdeal.Layers.log_two]
  have n : most q k (ix3 h r 0) + Ideal.log (sums q k (ix3 h r 0)) = (Real.log (total Q K h r) : EReal) := by
    rw [hm, sums_real hq hk hm, Ideal.log_coe, if_neg (not_le.mpr hp), ← EReal.coe_add, log_shifted]
  refine Eq.trans ?_ ((congrArg₂ Ideal.div (e.trans n) d).trans (Cert.Norm.div_real _ _ h2))
  unfold logs
  generalize addf (most q k) (Host.log (sums q k)) = x
  simp only [pointwise]

include hq hk hv in
theorem outs_real (h : Fin 8) (r : Fin 16384) (d : Fin 64) : outs q k v (ix3 h r d) = ((∑ s, weight Q K h r s * V s (kcol h d) : ℝ) : EReal) := by
  obtain ⟨μ, hm⟩ := most_real hq hk h r
  have hp : Real.exp (-μ) * total Q K h r ≠ 0 := (mul_pos (Real.exp_pos _) (total_pos Q K h r)).ne'
  unfold outs
  pointwise []
  rw [Cert.Norm.coe_sum]
  refine Finset.sum_congr rfl fun s _ => ?_
  rw [exps_real hq hk hm, sums_real hq hk hm, Cert.Norm.div_real _ _ hp, weight_shifted, groups_real hv, EReal.coe_mul]

include hq hk hv hw in
theorem dots_real (h : Fin 8) (r : Fin 16384) : dots q w k v (ix2 h r) = (mean Q D K V h r : EReal) := by
  have key : mean Q D K V h r = ∑ d, D r (qcol h d) * ∑ s, weight Q K h r s * V s (kcol h d) := by
    unfold mean cot
    simp only [Finset.mul_sum]
    rw [Finset.sum_comm]
    exact Finset.sum_congr rfl fun d _ => Finset.sum_congr rfl fun s _ => by ring
  unfold dots
  pointwise []
  rw [key, Cert.Norm.coe_sum]
  refine Finset.sum_congr rfl fun d _ => ?_
  rw [heads_real hw, outs_real hq hk hv, EReal.coe_mul]

end Cert.AttnIdeal.Host

end
-- ==== Proof.AttnLse.lean ====
module

public import proofs.«01_k».proof.Defs
public import proofs.«01_k».proof.Proof.AttnMath
public import proofs.«01_k».proof.Proof.AttnRef
public import proofs.«01_k».proof.Proof.AttnSoft
public import proofs.«01_k».proof.Proof.AttnHost
public import proofs.«01_k».proof.Proof.Gen.AttnIdeal.Frame
public import Idealize.ShloMosaic.Lib.Pipeline.ValueKit
public import Idealize.ShloMosaic.Lib.Pointwise

@[expose] public section

/-! # The row sums that the points of attention's gradient read -/

set_option maxRecDepth 16384

noncomputable section

open Idealize.ShloMosaic Idealize.ShloMosaic.TcCoe Idealize.SL.Sem
open Idealize.ShloMosaic.Pipeline (Dat)

namespace Cert.AttnIdeal.Host

open Cert.AttnIdeal Cert.AttnIdeal.Gen Cert.AttnMath

variable (m : (ℓ : Loc nD τ sig) → Buf (Elt Ideal) ℓ)

/-- A row's entry of the array by tiles. -/
theorem cast_row (x : FVec Ideal S8x16384 .f32) (h : Fin 8) (i : Fin 32) (p : Fin 512) :
    shapeCast S8x32x1x512 x shapeCasts_S8x16384_S8x32x1x512 (ix4 h i 0 p) = x (ix2 h ⟨i.val * 512 + p.val, by omega⟩) := by
  pointwise []

theorem read_lse (c : Dev nD) (t : Fin cfg0.N) (i : Fin 32) (p : Fin 512) (h : Fin 8) (ht : h.val = t.val / 8) (r : Fin 16384) (hr : r.val = i.val * 512 + p.val) :
    iblk m c 2 t (ix4 0 i 0 p) = logs (m ((c : Thread nD τ).loc main_arg0)) (m ((c : Thread nD τ).loc main_arg1)) (ix2 h r) := by
  obtain ⟨v, hv⟩ := r
  obtain rfl : v = i.val * 512 + p.val := hr
  obtain ⟨u, hu⟩ := h
  obtain rfl : u = t.val / 8 := ht
  blk_simp [iblk, V, idx t]
  entry_read
  rw [show ((View.whole main_v29).slice (win0_2.rect t)).emb (ix4 0 i 0 p) = ix4 ⟨t.val / 8, hu⟩ i 0 p from by blk_ext [idx t]]
  refine (cast_row _ _ _ _).trans ?_
  rfl

theorem read_delta (c : Dev nD) (t : Fin cfg0.N) (i : Fin 32) (p : Fin 512) (h : Fin 8) (ht : h.val = t.val / 8) (r : Fin 16384) (hr : r.val = i.val * 512 + p.val) :
    iblk m c 3 t (ix4 0 i 0 p) = dots (m ((c : Thread nD τ).loc main_arg0)) (m ((c : Thread nD τ).loc main_arg3)) (m ((c : Thread nD τ).loc main_arg1)) (m ((c : Thread nD τ).loc main_arg2)) (ix2 h r) := by
  obtain ⟨v, hv⟩ := r
  obtain rfl : v = i.val * 512 + p.val := hr
  obtain ⟨u, hu⟩ := h
  obtain rfl : u = t.val / 8 := ht
  blk_simp [iblk, V, idx t]
  entry_read
  rw [show ((View.whole main_v34).slice (win0_3.rect t)).emb (ix4 0 i 0 p) = ix4 ⟨t.val / 8, hu⟩ i 0 p from by blk_ext [idx t]]
  refine (cast_row _ _ _ _).trans ?_
  rfl

end Cert.AttnIdeal.Host

end
-- ==== Proof.AttnValue.lean ====
module

public import proofs.«01_k».proof.Defs
public import proofs.«01_k».proof.Proof.AttnPoint
public import proofs.«01_k».proof.Proof.AttnFrame
public import proofs.«01_k».proof.Proof.AttnQueries
public import proofs.«01_k».proof.Proof.AttnLse
public import proofs.«01_k».proof.Proof.Gen.AttnIdeal.Frame
public import Idealize.ShloMosaic.Lib.Pipeline.ValueKit
public import Idealize.ShloMosaic.Lib.Pointwise

@[expose] public section

/-! # What attention's gradient leaves in its results -/

set_option maxRecDepth 16384

noncomputable section

open Idealize.ShloMosaic Idealize.ShloMosaic.TcCoe Idealize.SL.Sem
open Idealize.ShloMosaic.Pipeline (Dat)

namespace Cert.AttnIdeal.Point

open Cert.AttnIdeal Cert.AttnIdeal.Gen Cert.AttnIdeal.Body Cert.AttnIdeal.Tile Cert.AttnMath

variable (m : (ℓ : Loc nD τ sig) → Buf (Elt Ideal) ℓ)

/-- The head of a point, -/
def hd (t : Fin cfg0.N) : Fin 8 := ⟨t.val / 8, by have := t.isLt.trans_eq N_0; omega⟩
/-- and its block of keys. -/
def kb (t : Fin cfg0.N) : Fin 8 := ⟨t.val % 8, by omega⟩

section Reals
variable {c : Dev nD} {Q D : Fin 16384 → Fin 512 → ℝ} {K V : Fin 16384 → Fin 128 → ℝ}
  (hq : ∀ r a, (m ((c : Thread nD τ).loc main_arg0)) (ix2 r a) = (Q r a : EReal)) (hk : ∀ r a, (m ((c : Thread nD τ).loc main_arg1)) (ix2 r a) = (K r a : EReal))
  (hv : ∀ r a, (m ((c : Thread nD τ).loc main_arg2)) (ix2 r a) = (V r a : EReal)) (hw : ∀ r a, (m ((c : Thread nD τ).loc main_arg3)) (ix2 r a) = (D r a : EReal))

include hq in
theorem q_real (t : Fin cfg0.N) (i a p) : iblk m c 0 t (ix3 i a p) = (qs Q (hd t) i a p : EReal) :=
  Host.read_queries m c hq t i a p (hd t) rfl (row i p) rfl

include hw in
theorem w_real (t : Fin cfg0.N) (i a p) : iblk m c 1 t (ix3 i a p) = (ws D (hd t) i a p : EReal) :=
  Host.read_cots m c hw t i a p (hd t) rfl (row i p) rfl

include hq hk in
theorem l_real (t : Fin cfg0.N) (i p) : iblk m c 2 t (ix4 0 i 0 p) = (ls Q K (hd t) i p : EReal) :=
  (Host.read_lse m c t i p (hd t) rfl (row i p) rfl).trans (Host.logs_real hq hk (hd t) (row i p))

include hq hk hv hw in
theorem e_real (t : Fin cfg0.N) (i p) : iblk m c 3 t (ix4 0 i 0 p) = (es Q D K V (hd t) i p : EReal) :=
  (Host.read_delta m c t i p (hd t) rfl (row i p) rfl).trans (Host.dots_real hq hk hv hw (hd t) (row i p))

include hk in
theorem k_real (t : Fin cfg0.N) (s a) : k0_pay21 (iblk m c 4 t) (ix2 s a) = (K (key (kb t) s) a : EReal) :=
  (pay21_apply _ s a).trans ((Host.read_keys m c t s a (key (kb t) s) rfl).trans (hk _ _))

include hv in
theorem v_real (t : Fin cfg0.N) (s a) : k0_pay22 (iblk m c 5 t) (ix2 s a) = (V (key (kb t) s) a : EReal) :=
  (pay22_apply _ s a).trans ((Host.read_vals m c t s a (key (kb t) s) rfl).trans (hv _ _))

include hk in
theorem c_real (t : Fin cfg0.N) (d s) : keyRows (iblk m c 6 t) (ix2 d s) = (K (key (kb t) s) (kcol (hd t) d) : EReal) := by
  refine (keyRows_apply _ d s).trans ((Host.read_cols m c t ⟨s.val / 512, by omega⟩ d ⟨s.val % 512, by omega⟩ (hd t) rfl (key (kb t) s) ?_).trans (hk _ _))
  show t.val % 8 * 2048 + s.val = (t.val % 8 * 4 + s.val / 512) * 512 + s.val % 512
  omega

include hq hk hw in
theorem dv_point (t : Fin cfg0.N) (s : Fin 2048) (a : Fin 128) :
    dvs m c t (ix3 0 s a) = ((if Inside (hd t) a then ∑ r, weight Q K (hd t) r (key (kb t) s) * D r (qcol (hd t) ⟨a.val % 64, by omega⟩) else 0 : ℝ) : EReal) := by
  rw [← values_sum]
  exact (pay2_apply _ s a).trans (dv_real (q_real m hq t) (w_real m hw t) (l_real m hq hk t) (k_real m hk t) 32 s a)

include hq hk hv hw in
theorem dk_point (t : Fin cfg0.N) (s : Fin 2048) (a : Fin 128) :
    dks m c t (ix3 0 s a) = ((if Inside (hd t) a then ∑ r, grad Q D K V (hd t) r (key (kb t) s) * (Q r (qcol (hd t) ⟨a.val % 64, by omega⟩) * (1 / 8 / Real.log 2)) else 0 : ℝ) : EReal) := by
  rw [← keys_sum]
  exact (pay1_apply _ s a).trans (dk_real (q_real m hq t) (w_real m hw t) (l_real m hq hk t) (e_real m hq hk hv hw t) (k_real m hk t) (v_real m hv t) 32 s a)

/-- What a point adds to a query's gradient. -/
def part (Q D : Fin 16384 → Fin 512 → ℝ) (K V : Fin 16384 → Fin 128 → ℝ) (t : Fin cfg0.N) (y : S32x64x512.Idx) : EReal :=
  ((∑ s, K (key (kb t) s) (kcol (hd t) (y 1)) * gr (qs Q (hd t)) (ws D (hd t)) (ls Q K (hd t)) (es Q D K V (hd t)) (fun s a => K (key (kb t) s) a) (fun s a => V (key (kb t) s) a) (y 0) s (y 2) : ℝ) : EReal)

include hq hk hv hw in
theorem dq_step (t : Fin cfg0.N) (base : Vec Ideal S32x64x512 .f32) (i : Fin 32) (d : Fin 64) (p : Fin 512) :
    dqAt (iblk m c 0 t) (iblk m c 1 t) (iblk m c 2 t) (iblk m c 3 t) (k0_pay21 (iblk m c 4 t)) (k0_pay22 (iblk m c 5 t)) (keyRows (iblk m c 6 t)) base 32 (ix3 i d p)
      = base (ix3 i d p) + part Q D K V t (ix3 i d p) :=
  dq_real (q_real m hq t) (w_real m hw t) (l_real m hq hk t) (e_real m hq hk hv hw t) (k_real m hk t) (v_real m hv t) (c_real m hk t) base i d p

theorem exists_ix (y : S32x64x512.Idx) : ∃ (i : Fin 32) (d : Fin 64) (p : Fin 512), y = ix3 i d p :=
  ⟨y 0, y 1, y 2, funext fun j => match j with | ⟨0, _⟩ => rfl | ⟨1, _⟩ => rfl | ⟨2, _⟩ => rfl⟩

include hq hk hv hw in
theorem dq_point (t : Fin cfg0.N) (ht : t.val % 8 = 7) (i : Fin 32) (d : Fin 64) (p : Fin 512) :
    dqs m c t.val t.isLt (ix3 i d p) = ((∑ s, grad Q D K V (hd t) (row i p) s * K s (kcol (hd t) d) : ℝ) : EReal) := by
  refine (Pipeline.eq_sum_fin_of_reset_step_apply_of_flush (dqs m c) 8 (fun _ => 0) (part Q D K V) (fun u h y => ?_) (fun u h y => ?_) t ht (ix3 i d p)).trans ?_
  · obtain ⟨i, d, p, rfl⟩ := exists_ix y
    rw [dqs_first m c u h, dq_step m hq hk hv hw u, pay20_apply]
  · obtain ⟨i, d, p, rfl⟩ := exists_ix y
    rw [dqs_next m c u h, dq_step m hq hk hv hw u]
  · rw [zero_add, ← queries_sum, Cert.Norm.coe_sum]
    refine Finset.sum_congr rfl fun s _ => ?_
    have e1 : ∀ hN, hd ⟨8 * (t.val / 8) + s.val, hN⟩ = hd t := fun _ => Fin.ext (by show (8 * (t.val / 8) + s.val) / 8 = t.val / 8; omega)
    have e2 : ∀ hN, kb ⟨8 * (t.val / 8) + s.val, hN⟩ = s := fun _ => Fin.ext (by show (8 * (t.val / 8) + s.val) % 8 = s.val; omega)
    unfold part
    rw [e1, e2]
    rfl

include hq hk hv hw in
theorem final7 : (dats m 0 c).arrAt 7 (cfgs 0).N = Cert.AttnRefIdeal.Read.val_main_v68 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  obtain ⟨i, d, p, rfl⟩ := exists_ix y
  have hy : ((cfg0.win 7).blk t).view.emb (ix3 i d p) = ix3 i ⟨(hd t).val * 64 + d.val, by omega⟩ p := by blk_ext [Host.idx t, hd]
  rw [hy, after7, Cert.AttnRefIdeal.Layers.result_query hq hk hv hw i (hd t) d p (row i p) rfl]
  exact dq_point m hq hk hv hw t (by have := (flush0_7 t).mp hf; omega) i d p

include hq hk hv hw in
theorem final8 : (dats m 0 c).arrAt 8 (cfgs 0).N = Cert.AttnRefIdeal.Read.val_main_v77 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  obtain ⟨z, s, a, rfl⟩ : ∃ (z : Fin 1) (s : Fin 2048) (a : Fin 128), y = ix3 z s a := ⟨y 0, y 1, y 2, funext fun j => match j with | ⟨0, _⟩ => rfl | ⟨1, _⟩ => rfl | ⟨2, _⟩ => rfl⟩
  obtain rfl : z = 0 := Fin.ext (by omega)
  have hy : ((cfg0.win 8).blk t).view.emb (ix3 0 s a) = ix3 (hd t) (key (kb t) s) a := by blk_ext [Host.idx t, hd, kb, key]
  rw [hy, after8, Cert.AttnRefIdeal.Layers.result_key hq hk hv hw]
  exact dk_point m hq hk hv hw t s a

include hq hk hw in
theorem final9 : (dats m 0 c).arrAt 9 (cfgs 0).N = Cert.AttnRefIdeal.Read.val_main_v83 (F := Ideal) (m ((c : Thread nD τ).loc main_arg0)) (m ((c : Thread nD τ).loc main_arg1)) (m ((c : Thread nD τ).loc main_arg3)) := by
  refine (dats m 0 c).arrAt_eq_of_covers 9 _ (by decide +kernel) fun t hf y => ?_
  blk_simp
  obtain ⟨z, s, a, rfl⟩ : ∃ (z : Fin 1) (s : Fin 2048) (a : Fin 128), y = ix3 z s a := ⟨y 0, y 1, y 2, funext fun j => match j with | ⟨0, _⟩ => rfl | ⟨1, _⟩ => rfl | ⟨2, _⟩ => rfl⟩
  obtain rfl : z = 0 := Fin.ext (by omega)
  have hy : ((cfg0.win 9).blk t).view.emb (ix3 0 s a) = ix3 (hd t) (key (kb t) s) a := by blk_ext [Host.idx t, hd, kb, key]
  rw [hy, after9, Cert.AttnRefIdeal.Layers.result_value hq hk hw]
  exact dv_point m hq hk hw t s a

end Reals

end Cert.AttnIdeal.Point

end
-- ==== Proof.AttnTop.lean ====
module

public import proofs.«01_k».proof.Defs
public import proofs.«01_k».proof.Proof.AttnFrame
public import proofs.«01_k».proof.Proof.Gen.Attn
public import Idealize.ShloMosaic.Lib.Tactic

@[expose] public section

noncomputable section
namespace Cert.AttnTop
open Idealize.ShloMosaic Idealize.ShloMosaic.TcCoe

/-- The program at words is the ideal one's text at words. -/
theorem same : @Cert.quiescent_Attn Cert.Attn.Gen.facts = (∀ (m : (ℓ : Loc Cert.AttnIdeal.nD Cert.AttnIdeal.τ Cert.AttnIdeal.sig) → Buf (Elt Bits) ℓ) (g : Dev Cert.AttnIdeal.nD → PrngReg), Cert.Pre_Attn m →
    θ_run (Cert.AttnIdeal.defs (F := Bits)) (onTc (τ := Cert.AttnIdeal.τ) (Cert.AttnIdeal.main (F := Bits))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)) := by
  sl_kernel_rfl

theorem frame : @Cert.quiescent_Attn Cert.Attn.Gen.facts := same ▸ fun m ρ _ => Cert.AttnIdeal.Body.frames m ρ
end Cert.AttnTop
end
-- ==== Proof.AttnClaims.lean ====
module

public import proofs.«01_k».proof.Defs
public import proofs.«01_k».proof.Proof.AttnValue
public import proofs.«01_k».proof.Proof.AttnTop
public import proofs.«01_k».proof.Proof.Gen.AttnRefIdeal.Run
public import proofs.«01_k».proof.Proof.Gen.Pre_finite_attn
public import Idealize.ShloMosaic.Lib.Quiescent

@[expose] public section

set_option maxRecDepth 16384

noncomputable section

open Idealize.ShloMosaic Idealize.ShloMosaic.TcCoe Idealize.SL.Sem

namespace Cert.Proof.Attn

theorem frame : @Cert.quiescent_Attn Cert.Attn.Gen.facts := Cert.AttnTop.frame

theorem frame_ideal : Cert.quiescent_AttnIdeal := fun m ρ _ => Cert.AttnIdeal.Body.frames m ρ

theorem frame_ideal_pre : Cert.quiescent_AttnIdeal_pre_finite_attn := fun m ρ _ => Cert.AttnIdeal.Body.frames m ρ

theorem frame_ref : Cert.quiescent_AttnRefIdeal := fun m ρ _ =>
  (θ_run Cert.AttnRefIdeal.defs _ _).mono
    (fun r h => ⟨fun c => (h c).2.2.2, Idealize.ShloMosaic.sem_eq_zero_of_no_sems (by decide) r.2⟩)
    (Cert.AttnRefIdeal.Value.run (F := Ideal) m ρ)

theorem frame_ref_pre : Cert.quiescent_AttnRefIdeal_pre_finite_attn := fun m ρ _ => frame_ref m ρ trivial

/-- An array whose entries are real numbers is one of real numbers. -/
theorem reals {n k : ℕ} {x : (⟨2, ![n, k]⟩ : Shape).Idx → EReal} (h : ∀ i, Cert.Norm.Real (x i)) : ∃ X : Fin n → Fin k → ℝ, ∀ r a, x (ix2 r a) = (X r a : EReal) :=
  ⟨fun r a => (h (ix2 r a)).choose, fun r a => (h (ix2 r a)).choose_spec⟩

/-- The kernel's run with each result as the reference writes it. -/
theorem run (m) (g) (hp : Cert.Pre_AttnIdeal_finite_attn m) : θ_run (Cert.AttnIdeal.defs (F := Ideal)) (onTc (τ := Cert.AttnIdeal.τ) (Cert.AttnIdeal.main (F := Ideal))) ⟨m, fun _ => 0, g⟩ (fun r => ∀ c : Dev Cert.AttnIdeal.nD,
    r.2.mem ((c.tc : Thread Cert.AttnIdeal.nD Cert.AttnIdeal.τ).loc Cert.AttnIdeal.main_v64_0) = Cert.AttnRefIdeal.Read.val_main_v68 (F := Ideal) (m ((c : Thread Cert.AttnIdeal.nD Cert.AttnIdeal.τ).loc Cert.AttnIdeal.main_arg0)) (m ((c : Thread Cert.AttnIdeal.nD Cert.AttnIdeal.τ).loc Cert.AttnIdeal.main_arg1)) (m ((c : Thread Cert.AttnIdeal.nD Cert.AttnIdeal.τ).loc Cert.AttnIdeal.main_arg2)) (m ((c : Thread Cert.AttnIdeal.nD Cert.AttnIdeal.τ).loc Cert.AttnIdeal.main_arg3))
    ∧ r.2.mem ((c.tc : Thread Cert.AttnIdeal.nD Cert.AttnIdeal.τ).loc Cert.AttnIdeal.main_v64_1) = Cert.AttnRefIdeal.Read.val_main_v77 (F := Ideal) (m ((c : Thread Cert.AttnIdeal.nD Cert.AttnIdeal.τ).loc Cert.AttnIdeal.main_arg0)) (m ((c : Thread Cert.AttnIdeal.nD Cert.AttnIdeal.τ).loc Cert.AttnIdeal.main_arg1)) (m ((c : Thread Cert.AttnIdeal.nD Cert.AttnIdeal.τ).loc Cert.AttnIdeal.main_arg2)) (m ((c : Thread Cert.AttnIdeal.nD Cert.AttnIdeal.τ).loc Cert.AttnIdeal.main_arg3))
    ∧ r.2.mem ((c.tc : Thread Cert.AttnIdeal.nD Cert.AttnIdeal.τ).loc Cert.AttnIdeal.main_v64_2) = Cert.AttnRefIdeal.Read.val_main_v83 (F := Ideal) (m ((c : Thread Cert.AttnIdeal.nD Cert.AttnIdeal.τ).loc Cert.AttnIdeal.main_arg0)) (m ((c : Thread Cert.AttnIdeal.nD Cert.AttnIdeal.τ).loc Cert.AttnIdeal.main_arg1)) (m ((c : Thread Cert.AttnIdeal.nD Cert.AttnIdeal.τ).loc Cert.AttnIdeal.main_arg3))) :=
  (θ_run _ _ _).mono (fun r h c => by
    obtain ⟨Q, hq⟩ := reals (fun i => Cert.Norm.Real.of_pre _ _ _ (hp c).1 i)
    obtain ⟨K, hk⟩ := reals (fun i => Cert.Norm.Real.of_pre _ _ _ (hp c).2.1 i)
    obtain ⟨V, hv⟩ := reals (fun i => Cert.Norm.Real.of_pre _ _ _ (hp c).2.2.1 i)
    obtain ⟨D, hw⟩ := reals (fun i => Cert.Norm.Real.of_pre _ _ _ (hp c).2.2.2 i)
    exact ⟨((h.1 c).1 7).trans (Cert.AttnIdeal.Point.final7 m hq hk hv hw), ((h.1 c).1 8).trans (Cert.AttnIdeal.Point.final8 m hq hk hv hw),
      ((h.1 c).1 9).trans (Cert.AttnIdeal.Point.final9 m hq hk hw)⟩)
    (Cert.AttnIdeal.Body.runs m g)

/-- The results as the reference's run writes them. -/
theorem value : Cert.algebraic_AttnIdeal_AttnRefIdeal_pre_finite_attn := fun m g m' g' hpre ha =>
  ⟨_, _, _,
    (θ_run _ _ _).mono (fun r h c => ⟨(h.1 c).1, (h.1 c).2.1, (h.1 c).2.2, h.2.1 c⟩)
      (θ_run_and (run m g hpre) (Cert.AttnIdeal.Body.frames m g)),
    (θ_run _ _ _).mono (fun r h c => ⟨(h c).1.trans (by rw [← (ha c).1, ← (ha c).2.1, ← (ha c).2.2.1, ← (ha c).2.2.2]; rfl),
      (h c).2.1.trans (by rw [← (ha c).1, ← (ha c).2.1, ← (ha c).2.2.1, ← (ha c).2.2.2]; rfl),
      (h c).2.2.1.trans (by rw [← (ha c).1, ← (ha c).2.1, ← (ha c).2.2.2]; rfl), (h c).2.2.2⟩)
      (Cert.AttnRefIdeal.Value.run (F := Ideal) m' g')⟩

end Cert.Proof.Attn

end
-- ==== Proof.TurnMath.lean ====
module

public import proofs.«01_k».proof.Proof.NormMath
public import Idealize.ShloMosaic.Lib.Pointwise

@[expose] public section

noncomputable section

open Idealize.ShloMosaic

namespace Cert.TurnMath

open Cert.Norm

/-- The gradient of a rotation of a row's two halves, `c` and `s` the cosines and sines. -/
def turned {n H : ℕ} (hn : n = 2 * H) (y : Fin n → EReal) (c s : Fin H → EReal) (k : Fin n) : EReal :=
  if h : k.val < H then y ⟨k.val + H, by omega⟩ * s ⟨k.val, h⟩ + y k * c ⟨k.val, h⟩
  else y k * c ⟨k.val - H, by omega⟩ + -y ⟨k.val - H, by omega⟩ * s ⟨k.val - H, by omega⟩

theorem turned_real {n H : ℕ} (hn : n = 2 * H) {y : Fin n → EReal} {c s : Fin H → EReal} (hy : ∀ k, Real (y k)) (hc : ∀ k, Real (c k)) (hs : ∀ k, Real (s k)) (k) :
    Real (turned hn y c s k) := by
  have hneg : ∀ {z : EReal}, Real z → Real (-z) := fun ⟨a, ha⟩ => ⟨-a, by rw [ha, EReal.coe_neg]⟩
  unfold turned
  split_ifs
  · exact ((hy _).mul (hs _)).add ((hy _).mul (hc _))
  · exact ((hy _).mul (hc _)).add ((hneg (hy _)).mul (hs _))

/-- The same on a row of several groups, one after another, by two rolls of the whole row, the sine's sign in its table. -/
theorem turned_eq {W n H : ℕ} (hn : n = 2 * H) (Y C S : Fin W → EReal) (g : ℕ) (hg : g * n + n ≤ W) (c s : Fin H → EReal)
    (hC : ∀ k : Fin n, C ⟨g * n + k.val, by omega⟩ = c ⟨k.val % H, Nat.mod_lt _ (by have := k.isLt; omega)⟩)
    (hS : ∀ k : Fin n, S ⟨g * n + k.val, by omega⟩ = if k.val < H then -s ⟨k.val % H, Nat.mod_lt _ (by have := k.isLt; omega)⟩ else s ⟨k.val % H, Nat.mod_lt _ (by have := k.isLt; omega)⟩)
    (k : Fin n) (q : Fin W) (hq : q.val = g * n + k.val) (P : Prop) [Decidable P] (hP : P ↔ k.val < H) (a b : Fin W)
    (ha : a.val = (q.val + W - (W - H)) % W) (hb : b.val = (q.val + W - H) % W) :
    Y q * C q + (if P then Y a * S a else Y b * S b) = turned hn (fun j => Y ⟨g * n + j.val, by omega⟩) c s k := by
  have hk := k.isLt
  have hlt : g * n + k.val < W := lt_of_lt_of_le (Nat.add_lt_add_left hk _) hg
  obtain rfl : q = ⟨g * n + k.val, hlt⟩ := Fin.ext hq
  rw [hC k]
  unfold turned
  by_cases h : k.val < H
  · rw [if_pos (hP.mpr h), dif_pos h]
    have hlt' : g * n + (k.val + H) < W := lt_of_lt_of_le (Nat.add_lt_add_left (by omega : k.val + H < n) _) hg
    have hae : a = ⟨g * n + (⟨k.val + H, by omega⟩ : Fin n).val, hlt'⟩ := by
      refine Fin.ext (ha.trans ?_)
      show (g * n + k.val + W - (W - H)) % W = g * n + (k.val + H)
      rw [show g * n + k.val + W - (W - H) = g * n + (k.val + H) by omega]
      exact Nat.mod_eq_of_lt (by omega)
    rw [hae, hS ⟨k.val + H, by omega⟩, if_neg (by show ¬k.val + H < H; omega)]
    rw [add_comm]
    refine congrArg₂ (fun u v : EReal => u + v) (congrArg (fun z => _ * s z) (Fin.ext ?_)) (congrArg (fun z => _ * c z) (Fin.ext ?_))
    · show (k.val + H) % H = k.val
      rw [Nat.add_mod_right]
      exact Nat.mod_eq_of_lt h
    · exact Nat.mod_eq_of_lt h
  · rw [if_neg (fun hp => h (hP.mp hp)), dif_neg h]
    have hm : k.val % H = k.val - H := by rw [Nat.mod_eq_sub_mod (by omega), Nat.mod_eq_of_lt (by omega)]
    have hlt' : g * n + (k.val - H) < W := lt_of_lt_of_le (Nat.add_lt_add_left (by omega : k.val - H < n) _) hg
    have hbe : b = ⟨g * n + (⟨k.val - H, by omega⟩ : Fin n).val, hlt'⟩ := by
      refine Fin.ext (hb.trans ?_)
      show (g * n + k.val + W - H) % W = g * n + (k.val - H)
      rw [show g * n + k.val + W - H = g * n + (k.val - H) + W by omega, Nat.add_mod_right]
      exact Nat.mod_eq_of_lt (by omega)
    rw [hbe, hS ⟨k.val - H, by omega⟩, if_pos (by show k.val - H < H; omega), mul_neg, neg_mul]
    refine congrArg₂ (fun u v : EReal => u + v) (congrArg (fun z => _ * c z) (Fin.ext hm)) (congrArg (fun z => -(_ * s z)) (Fin.ext ?_))
    exact Nat.mod_eq_of_lt (by show k.val - H < H; omega)

/-- The bit that a lane's number modulo `d`, made nonnegative, is below `h`. -/
def cut (w d h : BitVec 32) : BitVec 1 :=
  IntOp.cmpi CmpIPredicate.slt
    (Scalar.select
      (IntOp.andi
        (IntOp.xori
          (IntOp.cmpi CmpIPredicate.slt (IntOp.remsi ArithUnit.vector w (Scalar.select (Scalar.cmpi CmpIPredicate.eq d 0#32) 1#32 d)) 0#32)
          (Scalar.cmpi CmpIPredicate.slt (Scalar.select (Scalar.cmpi CmpIPredicate.eq d 0#32) 1#32 d) 0#32))
        (IntOp.cmpi CmpIPredicate.ne (IntOp.remsi ArithUnit.vector w (Scalar.select (Scalar.cmpi CmpIPredicate.eq d 0#32) 1#32 d)) 0#32))
      (IntOp.addi (IntOp.remsi ArithUnit.vector w (Scalar.select (Scalar.cmpi CmpIPredicate.eq d 0#32) 1#32 d)) (Scalar.select (Scalar.cmpi CmpIPredicate.eq d 0#32) 1#32 d))
      (IntOp.remsi ArithUnit.vector w (Scalar.select (Scalar.cmpi CmpIPredicate.eq d 0#32) 1#32 d)))
    h

theorem cut_64 : ∀ q : Fin 512, cut (BitVec.ofNat 32 q.val) 64#32 32#32 = BitVec.ofBool (decide (q.val % 64 < 32)) := by decide +kernel
theorem cut_64_short : ∀ q : Fin 128, cut (BitVec.ofNat 32 q.val) 64#32 32#32 = BitVec.ofBool (decide (q.val % 64 < 32)) := by decide +kernel
theorem cut_128 : ∀ q : Fin 512, cut (BitVec.ofNat 32 q.val) 128#32 64#32 = BitVec.ofBool (decide (q.val % 128 < 64)) := by decide +kernel
theorem half_bit : ∀ q : Fin 128, IntOp.cmpi CmpIPredicate.slt (BitVec.ofNat 32 q.val) 64#32 = BitVec.ofBool (decide (q.val < 64)) := by decide +kernel

theorem select_ofBool {α : Type} (P : Prop) [Decidable P] (x y : α) : Scalar.select (BitVec.ofBool (decide P)) x y = if P then x else y := by
  by_cases h : P <;> simp [h, Scalar.select]

/-- A lane of a table laid four times side by side. -/
theorem quad (f : Fin 128 → EReal) (q : ℕ) (hq : q < 512) :
    (if h : q < 128 then f ⟨q, h⟩ else if h : q - 128 < 128 then f ⟨q - 128, h⟩ else if h : q - 128 - 128 < 128 then f ⟨q - 128 - 128, h⟩
      else f ⟨q - 128 - 128 - 128, by omega⟩) = f ⟨q % 128, by omega⟩ := by
  split_ifs <;> exact congrArg f (Fin.ext (by dsimp only; omega))

/-- A sum over 128 lanes is the sum over the first 64 and the one over the last 64. -/
theorem sum_halves (f : Fin 128 → EReal) : ∑ x, f x = (∑ j : Fin 64, f ⟨j.val, by omega⟩) + ∑ j : Fin 64, f ⟨64 + j.val, by omega⟩ :=
  Fin.sum_univ_add (a := 64) (b := 64) f

/-- The sum over the half of 128 lanes that a lane stands in, as a difference in the high half. -/
def seg (f : Fin 128 → EReal) (l : Fin 128) : EReal :=
    Scalar.select (IntOp.cmpi CmpIPredicate.slt (BitVec.ofNat 32 l.val) 64#32)
      (∑ x : Fin 128, Scalar.select (IntOp.cmpi CmpIPredicate.slt (BitVec.ofNat 32 x.val) 64#32) (f x) 0)
      (∑ x, f x - ∑ x : Fin 128, Scalar.select (IntOp.cmpi CmpIPredicate.slt (BitVec.ofNat 32 x.val) 64#32) (f x) 0)

/-- The sum over the half of 128 lanes that a lane stands in: the low half's, or the whole without the low half. -/
theorem seg_eq (f : Fin 128 → EReal) (hf : ∀ i, Real (f i)) (l : Fin 128) : seg f l
    = ∑ j : Fin 64, f ⟨l.val / 64 * 64 + j.val, by omega⟩ := by
  have hlow : ∑ x : Fin 128, Scalar.select (IntOp.cmpi CmpIPredicate.slt (BitVec.ofNat 32 x.val) 64#32) (f x) 0 = ∑ j : Fin 64, f ⟨j.val, by omega⟩ := by
    simp only [half_bit, select_ofBool]
    rw [sum_halves]
    refine (congrArg₂ (fun u v : EReal => u + v) (Finset.sum_congr rfl fun j _ => if_pos (by show j.val < 64; omega))
      (Finset.sum_eq_zero fun j _ => if_neg (by show ¬64 + j.val < 64; omega))).trans (add_zero _)
  unfold seg
  rw [hlow, half_bit, select_ofBool, sum_halves f]
  choose F hF using hf
  obtain rfl : f = fun i => (F i : EReal) := funext hF
  split_ifs with h
  · exact Finset.sum_congr rfl fun j _ => congrArg (fun i => (F i : EReal)) (Fin.ext (by dsimp only; omega))
  · rw [← coe_sum, ← coe_sum, ← EReal.coe_add, ← EReal.coe_sub, add_sub_cancel_left, coe_sum]
    exact Finset.sum_congr rfl fun j _ => congrArg (fun i => (F i : EReal)) (Fin.ext (by dsimp only; omega))

/-- Lane `k` of head `h` among the heads of a row. -/
def head {W G : ℕ} (hW : W = G * 64) (h : Fin G) (k : Fin 64) : Fin W := ⟨h.val * 64 + k.val, by have := h.isLt; omega⟩

/-- The length of a head, one over it, and the norm's constant. -/
def num : EReal := Ideal.ofBits .f32 0x42800000#32
def rec : EReal := Ideal.ofBits .f32 0x3C800000#32

theorem num_eq : num = ((64 : ℝ) : EReal) := by
  unfold num; simp [Ideal.ofBits, Ideal.ieee, -EReal.coe_mul]; norm_num
theorem rec_eq : rec = ((1 / 64 : ℝ) : EReal) := by
  unfold rec; simp [Ideal.ofBits, Ideal.ieee, -EReal.coe_mul]; norm_num

/-- A quotient by the length is a product with its reciprocal, for every extended real. -/
theorem mul_rec_num (z : EReal) : z * rec = Ideal.div z num := by
  rw [num_eq, rec_eq, Ideal.div_coe (by norm_num)]

variable (x a : Fin 64 → EReal)

/-- A head's mean square plus the constant, and its reciprocal root. -/
def spread : EReal := Ideal.div (∑ k, x k * x k) num + Ideal.ofBits .f32 0x358637BD#32
def root : EReal := Ideal.rsqrt (spread x)

/-- The gradient of a head's norm in its closed form, `a` the cotangent times the gain. -/
def plain (k : Fin 64) : EReal := root x * (a k - x k * root x * Ideal.div (∑ j, a j * (x j * root x)) num)

/-- The cotangent of a head's mean square, as the chain rule gives it, divided by the head's length. -/
def weight : EReal := Ideal.div ((∑ k, x k * a k) * (Ideal.ofBits .f32 0xBF000000#32 * Ideal.div (root x) (spread x))) num

/-- The gradient as the chain rule sums it. -/
def summed (k : Fin 64) : EReal := a k * root x + x k * weight x a + weight x a * x k

theorem plain_eq {x a : Fin 64 → EReal} (hx : ∀ k, Real (x k)) (ha : ∀ k, Real (a k)) (k) : plain x a k = summed x a k := by
  unfold plain summed weight root spread
  rw [num_eq, ofBits_eps, ofBits_neg_half]
  exact row_gradient x a hx ha 64 eps (by norm_num) eps_pos k

theorem root_real {x : Fin 64 → EReal} (hx : ∀ k, Real (x k)) : Real (root x) := by
  choose X hX using hx
  obtain rfl : x = fun k => (X k : EReal) := funext hX
  obtain ⟨hs, hpos⟩ := mean_sq X 64 eps (by norm_num) eps_pos
  unfold root spread
  rw [num_eq, ofBits_eps, hs, rsqrt_pos _ hpos]
  exact ⟨_, rfl⟩

end Cert.TurnMath

end
-- ==== Proof.DprojNorms.lean ====
module

public import proofs.«01_k».proof.Proof.Gen.DProjIdeal.Frame.Runs
public import proofs.«01_k».proof.Proof.Gen.DProjRefIdeal.Read
public import Idealize.ShloMosaic.Lib.Pipeline.ValueKit
public import Idealize.ShloMosaic.Lib.Pointwise
public import proofs.«01_k».proof.Proof.TurnMath

@[expose] public section

set_option maxRecDepth 16384

noncomputable section

open Idealize.ShloMosaic Idealize.ShloMosaic.TcCoe Idealize.SL.Sem
open Idealize.ShloMosaic.Pipeline (Dat)

namespace Cert.DProjIdeal.Grad

open Cert.DProjIdeal Cert.DProjIdeal.Gen

variable (m : (ℓ : Loc nD τ sig) → Buf (Elt Ideal) ℓ)

open Cert.TurnMath Cert.Norm

theorem exists_head (q : Fin 512) : ∃ h k, q = head (by decide : (512 : ℕ) = 8 * 64) h k :=
  ⟨⟨q.val / 64, by omega⟩, ⟨q.val % 64, by omega⟩, Fin.ext (by show q.val = q.val / 64 * 64 + q.val % 64; omega)⟩

theorem exists_head_short (q : Fin 128) : ∃ h k, q = head (by decide : (128 : ℕ) = 2 * 64) h k :=
  ⟨⟨q.val / 64, by omega⟩, ⟨q.val % 64, by omega⟩, Fin.ext (by show q.val = q.val / 64 * 64 + q.val % 64; omega)⟩

/-- The sum over the head that a lane stands in. -/
def segSum (f : Fin 512 → EReal) (q : Fin 512) : EReal := ∑ j : Fin 64, f ⟨q.val / 64 * 64 + j.val, by omega⟩

theorem segSum_head (f) (h k) : segSum f (head (by decide : (512 : ℕ) = 8 * 64) h k) = ∑ j, f (head (by decide : (512 : ℕ) = 8 * 64) h j) :=
  Finset.sum_congr rfl fun j _ => congrArg f (Fin.ext (by show (h.val * 64 + k.val) / 64 * 64 + j.val = h.val * 64 + j.val; omega))

/-- Four pieces of 128 lanes side by side, each a part of one row. -/
theorem pick (a b c d : Fin 128 → EReal) (G : Fin 512 → EReal) (ha : ∀ l, a l = G ⟨l.val, by omega⟩) (hb : ∀ l, b l = G ⟨128 + l.val, by omega⟩)
    (hc : ∀ l, c l = G ⟨256 + l.val, by omega⟩) (hd : ∀ l, d l = G ⟨384 + l.val, by omega⟩) (q : Fin 512) :
    (if h : q.val < 128 then a ⟨q.val, h⟩ else if h : q.val - 128 < 128 then b ⟨q.val - 128, h⟩ else if h : q.val - 128 - 128 < 128 then c ⟨q.val - 128 - 128, h⟩
      else d ⟨q.val - 128 - 128 - 128, by omega⟩) = G q := by
  split_ifs
  · exact ha _
  · exact (hb _).trans (congrArg G (Fin.ext (by dsimp only; omega)))
  · exact (hc _).trans (congrArg G (Fin.ext (by dsimp only; omega)))
  · exact (hd _).trans (congrArg G (Fin.ext (by dsimp only; omega)))

/-- The sums over heads of 128 lanes that begin at a multiple of 64. -/
theorem seg_from (f : Fin 512 → EReal) (hf : ∀ i, Real (f i)) (o : ℕ) (ho : o + 128 ≤ 512) (hm : o % 64 = 0) (l : Fin 128) :
    ∑ j : Fin 64, (fun x : Fin 128 => f ⟨o + x.val, by omega⟩) ⟨l.val / 64 * 64 + j.val, by omega⟩ = segSum f ⟨o + l.val, by omega⟩ :=
  Finset.sum_congr rfl fun j _ => congrArg f (Fin.ext (by dsimp only; omega))

section Norms

variable (x dy : FVec Ideal S512x512 .f32) (gn : FVec Ideal S1x512 .f32) (p : Fin 512)

/-- A head of a row. -/
def part (x : FVec Ideal S512x512 .f32) (p : Fin 512) (h : Fin 8) : Fin 64 → EReal := fun k => x (ix2 p (head (by decide : (512 : ℕ) = 8 * 64) h k))

variable (hx : ∀ q, Real (x (ix2 p q)))

theorem sum_first (hf : ∀ q, Real (x (ix2 p q))) (l : Fin 128) : k0_pay24 (F := Ideal) (k0_pay21 x) (k0_pay22 x) (iota .tc S512x128 32 [1] iota_S512x128_d1_w32) k0_pay23 (ix2 p l)
    = segSum (fun i => k0_pay20 (F := Ideal) x (ix2 p i)) ⟨l.val, by omega⟩ := by
  pointwise [k0_pay24, k0_pay23, k0_pay22, k0_pay21]
  exact (seg_eq (fun l => k0_pay20 (F := Ideal) x (ix2 p ⟨l.val, by omega⟩)) (fun i => (hf _).mul (hf _)) l).trans (Finset.sum_congr rfl fun j _ => rfl)

theorem sum_second (hf : ∀ q, Real (x (ix2 p q))) (l : Fin 128) : k0_pay25 (F := Ideal) x (ix2 p l) = segSum (fun i => x (ix2 p i)) ⟨128 + l.val, by omega⟩ := by
  pointwise [k0_pay25]
  exact (seg_eq (fun l => x (ix2 p ⟨128 + l.val, by omega⟩)) (fun i => hf _) l).trans (seg_from _ hf 128 (by decide) rfl l)

theorem sum_third (hf : ∀ q, Real (x (ix2 p q))) (l : Fin 128) : k0_pay26 (F := Ideal) x (ix2 p l) = segSum (fun i => x (ix2 p i)) ⟨256 + l.val, by omega⟩ := by
  pointwise [k0_pay26]
  exact (seg_eq (fun l => x (ix2 p ⟨256 + l.val, by omega⟩)) (fun i => hf _) l).trans (seg_from _ hf 256 (by decide) rfl l)

theorem root_of (hf : ∀ q, Real (x (ix2 p q))) (a b c : FVec Ideal S512x128 .f32)
    (ha : ∀ l, a (ix2 p l) = segSum (fun i => x (ix2 p i)) ⟨l.val, by omega⟩) (hb : ∀ l, b (ix2 p l) = segSum (fun i => x (ix2 p i)) ⟨128 + l.val, by omega⟩)
    (hc : ∀ l, c (ix2 p l) = segSum (fun i => x (ix2 p i)) ⟨256 + l.val, by omega⟩) (q : Fin 512) :
    k0_pay30 (F := Ideal) a b c (k0_pay27 x) (k0_pay28 x) (iota .tc S512x128 32 [1] iota_S512x128_d1_w32) k0_pay29 (ix2 p q)
    = Ideal.rsqrt (segSum (fun i => x (ix2 p i)) q * rec + Ideal.ofBits .f32 0x358637BD#32) := by
  pointwise [k0_pay30, k0_pay29, k0_pay28, k0_pay27]
  exact congrArg (fun z => Ideal.rsqrt (z * rec + _)) (pick (fun l => a (ix2 p l)) (fun l => b (ix2 p l)) (fun l => c (ix2 p l))
    (seg (fun l => x (ix2 p ⟨384 + l.val, by omega⟩))) (segSum (fun i => x (ix2 p i))) ha hb hc
    (fun l => (seg_eq (fun l => x (ix2 p ⟨384 + l.val, by omega⟩)) (fun i => hf _) l).trans (seg_from _ hf 384 (by decide) rfl l)) q)

include hx in
theorem root_apply (h k) : k0_pay30 (F := Ideal) (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29 (ix2 p (head (by decide : (512 : ℕ) = 8 * 64) h k)) = root (part x p h) := by
  have hf : ∀ q, Real (k0_pay20 (F := Ideal) x (ix2 p q)) := fun q => (hx q).mul (hx q)
  refine (root_of (k0_pay20 (F := Ideal) x) p hf _ _ _ (sum_first x p hx) (sum_second _ p hf) (sum_third _ p hf) _).trans ?_
  rw [segSum_head, mul_rec_num]
  rfl

include hx in
theorem normed_apply (h k) : k0_pay31 (F := Ideal) x (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29 (ix2 p (head (by decide : (512 : ℕ) = 8 * 64) h k)) = part x p h k * root (part x p h) := by
  pointwise [k0_pay31]
  rw [root_apply x p hx]
  rfl

include hx in
theorem weighed_apply (h k) : k0_pay33 (F := Ideal) x dy gn (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29 (ix2 p (head (by decide : (512 : ℕ) = 8 * 64) h k))
    = dy (ix2 p (head (by decide : (512 : ℕ) = 8 * 64) h k)) * gn (ix2 0 (head (by decide : (512 : ℕ) = 8 * 64) h k)) * (part x p h k * root (part x p h)) := by
  pointwise [k0_pay33, k0_pay32]
  rw [normed_apply x p hx]

theorem grad_of (r n y w : FVec Ideal S512x512 .f32) (p : Fin 512) (hw : ∀ q, Real (w (ix2 p q))) (a : FVec Ideal S512x128 .f32) (lo hi : FVec Ideal S512x1 .f32)
    (ha : ∀ l, a (ix2 p l) = segSum (fun i => w (ix2 p i)) ⟨l.val, by omega⟩)
    (hl : lo (ix2 p 0) = ∑ x : Fin 128, Scalar.select (IntOp.cmpi CmpIPredicate.slt (BitVec.ofNat 32 x.val) 64#32) (w (ix2 p ⟨128 + x.val, by omega⟩)) 0)
    (hh : hi (ix2 p 0) = (∑ x : Fin 128, w (ix2 p ⟨128 + x.val, by omega⟩)
      - ∑ x : Fin 128, Scalar.select (IntOp.cmpi CmpIPredicate.slt (BitVec.ofNat 32 x.val) 64#32) (w (ix2 p ⟨128 + x.val, by omega⟩)) 0 : EReal)) (q : Fin 512) :
    k0_pay39 (F := Ideal) r n y w a k0_pay36 lo hi (ix2 p q)
    = r (ix2 p q) * (y (ix2 p q) - n (ix2 p q) * (segSum (fun i => w (ix2 p i)) q * rec)) := by
  pointwise [k0_pay39, k0_pay36]
  rw [hl, hh]
  exact congrArg (fun z => _ * (_ - _ * (z * rec))) (pick (fun l => a (ix2 p l)) (seg (fun l => w (ix2 p ⟨128 + l.val, by omega⟩)))
    (seg (fun l => w (ix2 p ⟨256 + l.val, by omega⟩))) (seg (fun l => w (ix2 p ⟨384 + l.val, by omega⟩))) (segSum (fun i => w (ix2 p i))) ha
    (fun l => (seg_eq _ (fun i => hw _) l).trans (seg_from _ hw 128 (by decide) rfl l))
    (fun l => (seg_eq _ (fun i => hw _) l).trans (seg_from _ hw 256 (by decide) rfl l))
    (fun l => (seg_eq _ (fun i => hw _) l).trans (seg_from _ hw 384 (by decide) rfl l)) q)

include hx in
theorem grad_apply (hy : ∀ q, Real (dy (ix2 p q))) (hg : ∀ q, Real (gn (ix2 0 q))) (h k) : k0_pay39 (F := Ideal) (k0_pay30 (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29) (k0_pay31 x (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29) (k0_pay32 dy gn) (k0_pay33 x dy gn (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29) (k0_pay34 x dy gn (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29) k0_pay36 (k0_pay37 x dy gn (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29) (k0_pay38 x dy gn (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29) (ix2 p (head (by decide : (512 : ℕ) = 8 * 64) h k))
    = plain (part x p h) (fun j => dy (ix2 p (head (by decide : (512 : ℕ) = 8 * 64) h j)) * gn (ix2 0 (head (by decide : (512 : ℕ) = 8 * 64) h j))) k := by
  have hw : ∀ i : Fin 512, Real ((fun i => k0_pay33 (F := Ideal) x dy gn (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29 (ix2 p i)) i) := fun i => by
    obtain ⟨h, k, rfl⟩ := exists_head i
    show Real (k0_pay33 (F := Ideal) x dy gn (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29 (ix2 p (head (by decide : (512 : ℕ) = 8 * 64) h k)))
    rw [weighed_apply x dy gn p hx]
    exact ((hy _).mul (hg _)).mul ((hx _).mul (root_real fun k => hx _))
  refine (grad_of _ _ _ _ p hw _ _ _ (fun l => ?_) ?_ ?_ _).trans ?_
  · pointwise [k0_pay34]
    exact (seg_eq (fun l => k0_pay33 (F := Ideal) x dy gn (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29 (ix2 p ⟨l.val, by omega⟩)) (fun i => hw _) l).trans (Finset.sum_congr rfl fun j _ => rfl)
  · pointwise [k0_pay37, k0_pay36, k0_pay35]
  · pointwise [k0_pay38, k0_pay37, k0_pay36, k0_pay35]
  · rw [root_apply x p hx, normed_apply x p hx, segSum_head, mul_rec_num]
    simp only [weighed_apply x dy gn p hx]
    pointwise [k0_pay32]
    rfl

theorem gain_apply (hx : ∀ p q, Real (x (ix2 p q))) (v : FVec Ideal S1x512 .f32) (h k) : k0_pay52 (F := Ideal) (k0_pay40 dy (k0_pay31 x (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29)) v (ix2 0 (head (by decide : (512 : ℕ) = 8 * 64) h k))
    = v (ix2 0 (head (by decide : (512 : ℕ) = 8 * 64) h k)) + ∑ p, dy (ix2 p (head (by decide : (512 : ℕ) = 8 * 64) h k)) * (part x p h k * root (part x p h)) := by
  pointwise [k0_pay52, k0_pay40]
  exact congrArg (fun z => _ + z) (Finset.sum_congr rfl fun p _ => congrArg (fun z => _ * z) (normed_apply x p (hx p) h k))

end Norms

section Short

variable (x dy : FVec Ideal S512x128 .f32) (gn : FVec Ideal S1x128 .f32) (p : Fin 512)

/-- A head of a row of two. -/
def partShort (x : FVec Ideal S512x128 .f32) (p : Fin 512) (h : Fin 2) : Fin 64 → EReal := fun k => x (ix2 p (head (by decide : (128 : ℕ) = 2 * 64) h k))

theorem short_head (f : Fin 128 → EReal) (h k) : ∑ j : Fin 64, f ⟨(head (by decide : (128 : ℕ) = 2 * 64) h k).val / 64 * 64 + j.val, by have := (head (by decide : (128 : ℕ) = 2 * 64) h k).isLt; omega⟩ = ∑ j, f (head (by decide : (128 : ℕ) = 2 * 64) h j) :=
  Finset.sum_congr rfl fun j _ => congrArg f (Fin.ext (by show (h.val * 64 + k.val) / 64 * 64 + j.val = h.val * 64 + j.val; omega))

variable (hx : ∀ q, Real (x (ix2 p q)))

include hx in
theorem root_short (h k) : k0_pay49 (F := Ideal) k0_pay45 (k0_pay47 x) (k0_pay48 x) (ix2 p (head (by decide : (128 : ℕ) = 2 * 64) h k)) = root (partShort x p h) := by
  pointwise [k0_pay49, k0_pay48, k0_pay47, k0_pay46, k0_pay45, k0_pay44]
  refine congrArg Ideal.rsqrt ((congrArg (fun z => z * rec + _) ((seg_eq (fun i => x (ix2 p i) * x (ix2 p i)) (fun i => (hx i).mul (hx i)) (head (by decide : (128 : ℕ) = 2 * 64) h k)).trans (short_head (fun i => x (ix2 p i) * x (ix2 p i)) h k))).trans ?_)
  rw [mul_rec_num]
  rfl

include hx in
theorem normed_short (h k) : k0_pay50 (F := Ideal) x k0_pay45 (k0_pay47 x) (k0_pay48 x) (ix2 p (head (by decide : (128 : ℕ) = 2 * 64) h k)) = partShort x p h k * root (partShort x p h) := by
  pointwise [k0_pay50]
  rw [root_short x p hx]
  rfl

include hx in
theorem grad_short (hy : ∀ q, Real (dy (ix2 p q))) (hg : ∀ q, Real (gn (ix2 0 q))) (h k) :
    k0_pay51 (F := Ideal) x dy gn k0_pay45 (k0_pay47 x) (k0_pay48 x) (ix2 p (head (by decide : (128 : ℕ) = 2 * 64) h k))
    = plain (partShort x p h) (fun j => dy (ix2 p (head (by decide : (128 : ℕ) = 2 * 64) h j)) * gn (ix2 0 (head (by decide : (128 : ℕ) = 2 * 64) h j))) k := by
  have hw : ∀ i : Fin 128, Real ((fun i => dy (ix2 p i) * gn (ix2 0 i) * k0_pay50 (F := Ideal) x k0_pay45 (k0_pay47 x) (k0_pay48 x) (ix2 p i)) i) := fun i => by
    obtain ⟨h, k, rfl⟩ := exists_head_short i
    refine ((hy _).mul (hg _)).mul ?_
    rw [normed_short x p hx]
    exact (hx _).mul (root_real fun k => hx _)
  pointwise [k0_pay51]
  rw [root_short x p hx, normed_short x p hx]
  refine congrArg (fun z => root (partShort x p h) * (_ - partShort x p h k * root (partShort x p h) * z)) ((congrArg (fun z => z * rec) ((seg_eq (fun i => dy (ix2 p i) * gn (ix2 0 i) * k0_pay50 (F := Ideal) x k0_pay45 (k0_pay47 x) (k0_pay48 x) (ix2 p i)) hw (head (by decide : (128 : ℕ) = 2 * 64) h k)).trans (short_head (fun i => dy (ix2 p i) * gn (ix2 0 i) * k0_pay50 (F := Ideal) x k0_pay45 (k0_pay47 x) (k0_pay48 x) (ix2 p i)) h k))).trans ?_)
  rw [mul_rec_num]
  refine congrArg (fun z => Ideal.div z num) (Finset.sum_congr rfl fun j _ => ?_)
  exact congrArg (fun z => _ * z) (normed_short x p hx h j)

theorem gain_short (hx : ∀ p q, Real (x (ix2 p q))) (v : FVec Ideal S1x128 .f32) (h k) : k0_pay53 (F := Ideal) x dy k0_pay45 (k0_pay47 x) (k0_pay48 x) v (ix2 0 (head (by decide : (128 : ℕ) = 2 * 64) h k))
    = v (ix2 0 (head (by decide : (128 : ℕ) = 2 * 64) h k)) + ∑ p, dy (ix2 p (head (by decide : (128 : ℕ) = 2 * 64) h k)) * (partShort x p h k * root (partShort x p h)) := by
  pointwise [k0_pay53]
  exact congrArg (fun z => _ + z) (Finset.sum_congr rfl fun p _ => congrArg (fun z => _ * z) (normed_short x p (hx p) h k))

end Short

end Cert.DProjIdeal.Grad

end
-- ==== Proof.DprojTurns.lean ====
module

public import proofs.«01_k».proof.Proof.Gen.DProjIdeal.Frame.Runs
public import proofs.«01_k».proof.Proof.Gen.DProjRefIdeal.Read
public import Idealize.ShloMosaic.Lib.Pipeline.ValueKit
public import Idealize.ShloMosaic.Lib.Pointwise
public import proofs.«01_k».proof.Proof.TurnMath

@[expose] public section

set_option maxRecDepth 16384

noncomputable section

open Idealize.ShloMosaic Idealize.ShloMosaic.TcCoe Idealize.SL.Sem
open Idealize.ShloMosaic.Pipeline (Dat)

namespace Cert.DProjIdeal.Grad

open Cert.DProjIdeal Cert.DProjIdeal.Gen

variable (m : (ℓ : Loc nD τ sig) → Buf (Elt Ideal) ℓ)

open Cert.TurnMath Cert.Norm

section Turns

variable (c s : FVec Ideal S512x128 .f32) (p : Fin 512)

/-- Lane `k` of group `g` of four. -/
def lane (g : Fin 4) (k : Fin 128) : Fin 512 := ⟨g.val * 128 + k.val, by omega⟩

theorem turn_q_rolls (dq : FVec Ideal S1x512x512 .f32) (q : Fin 512) : k0_pay18 (F := Ideal) c s dq (ix2 p q)
    = dq (ix3 0 q p) * Ideal.ofBits .f32 0x3E000000#32 * c (ix2 p ⟨q.val % 128, Nat.mod_lt _ (by decide)⟩) + if q.val % 64 < 32 then dq (ix3 0 (⟨(q.val + 512 - 480) % 512, Nat.mod_lt _ (by decide)⟩ : Fin 512) p) * Ideal.ofBits .f32 0x3E000000#32 * s (ix2 p ⟨(⟨(q.val + 512 - 480) % 512, Nat.mod_lt _ (by decide)⟩ : Fin 512).val % 128, Nat.mod_lt _ (by decide)⟩) else dq (ix3 0 (⟨(q.val + 512 - 32) % 512, Nat.mod_lt _ (by decide)⟩ : Fin 512) p) * Ideal.ofBits .f32 0x3E000000#32 * s (ix2 p ⟨(⟨(q.val + 512 - 32) % 512, Nat.mod_lt _ (by decide)⟩ : Fin 512).val % 128, Nat.mod_lt _ (by decide)⟩) := by
  pointwise [k0_pay18]
  rw [quad (fun l => c (ix2 p l)) _ q.isLt, quad (fun l => s (ix2 p l)) _ (Nat.mod_lt _ (by decide)), quad (fun l => s (ix2 p l)) _ (Nat.mod_lt _ (by decide))]
  exact congrArg (fun z => _ + z) ((congrArg (fun b => Scalar.select b _ _) (cut_64 q)).trans (select_ofBool ..))

/-- The queries' cotangent turned back. -/
theorem turn_q (dq : FVec Ideal S1x512x512 .f32) (C S : Fin 32 → EReal)
    (hC : ∀ l : Fin 128, c (ix2 p l) = C ⟨l.val % 32, by omega⟩)
    (hS : ∀ l : Fin 128, s (ix2 p l) = if l.val % 64 < 32 then -S ⟨l.val % 32, by omega⟩ else S ⟨l.val % 32, by omega⟩)
    (h : Fin 8) (k : Fin 64) :
    k0_pay18 (F := Ideal) c s dq (ix2 p (head (by decide : (512 : ℕ) = 8 * 64) h k))
    = turned (by decide : 64 = 2 * 32) (fun j => dq (ix3 0 (head (by decide : (512 : ℕ) = 8 * 64) h j) p) * Ideal.ofBits .f32 0x3E000000#32) C S k :=
  (turn_q_rolls c s p dq _).trans (turned_eq (W := 512) (by decide : 64 = 2 * 32) (fun q => dq (ix3 0 q p) * Ideal.ofBits .f32 0x3E000000#32) (fun q : Fin 512 => c (ix2 p ⟨q.val % 128, by omega⟩)) (fun q : Fin 512 => s (ix2 p ⟨q.val % 128, by omega⟩)) h.val (by omega) C S
    (fun k => (hC _).trans (congrArg C (Fin.ext (by dsimp only; omega))))
    (fun k => (hS _).trans (if_congr (by dsimp only; omega) (congrArg (fun z => -S z) (Fin.ext (by dsimp only; omega))) (congrArg S (Fin.ext (by dsimp only; omega)))))
    k (head (by decide : (512 : ℕ) = 8 * 64) h k) rfl ((head (by decide : (512 : ℕ) = 8 * 64) h k).val % 64 < 32) (by show (h.val * 64 + k.val) % 64 < 32 ↔ _; omega) ⟨((head (by decide : (512 : ℕ) = 8 * 64) h k).val + 512 - 480) % 512, Nat.mod_lt _ (by decide)⟩ ⟨((head (by decide : (512 : ℕ) = 8 * 64) h k).val + 512 - 32) % 512, Nat.mod_lt _ (by decide)⟩ rfl rfl)

theorem turn_k_rolls (dk : FVec Ideal S8x512x128 .bf16) (q : Fin 128) : k0_pay42 (F := Ideal) c s (k0_pay41 dk) (ix2 p q)
    = (∑ a : Fin 8, dk (ix3 a p q)) * Ideal.ofBits .f32 0x3F317218#32 * c (ix2 p q) + if q.val % 64 < 32 then (∑ a : Fin 8, dk (ix3 a p (⟨(q.val + 128 - 96) % 128, Nat.mod_lt _ (by decide)⟩ : Fin 128))) * Ideal.ofBits .f32 0x3F317218#32 * s (ix2 p (⟨(q.val + 128 - 96) % 128, Nat.mod_lt _ (by decide)⟩ : Fin 128)) else (∑ a : Fin 8, dk (ix3 a p (⟨(q.val + 128 - 32) % 128, Nat.mod_lt _ (by decide)⟩ : Fin 128))) * Ideal.ofBits .f32 0x3F317218#32 * s (ix2 p (⟨(q.val + 128 - 32) % 128, Nat.mod_lt _ (by decide)⟩ : Fin 128)) := by
  pointwise [k0_pay42, k0_pay41]
  exact congrArg (fun z => _ + z) ((congrArg (fun b => Scalar.select b _ _) (cut_64_short q)).trans (select_ofBool ..))

/-- The keys' cotangent, summed over the heads that share them, turned back. -/
theorem turn_k (dk : FVec Ideal S8x512x128 .bf16) (C S : Fin 32 → EReal)
    (hC : ∀ l : Fin 128, c (ix2 p l) = C ⟨l.val % 32, by omega⟩)
    (hS : ∀ l : Fin 128, s (ix2 p l) = if l.val % 64 < 32 then -S ⟨l.val % 32, by omega⟩ else S ⟨l.val % 32, by omega⟩)
    (h : Fin 2) (k : Fin 64) :
    k0_pay42 (F := Ideal) c s (k0_pay41 dk) (ix2 p (head (by decide : (128 : ℕ) = 2 * 64) h k))
    = turned (by decide : 64 = 2 * 32) (fun j => (∑ a : Fin 8, dk (ix3 a p (head (by decide : (128 : ℕ) = 2 * 64) h j))) * Ideal.ofBits .f32 0x3F317218#32) C S k :=
  (turn_k_rolls c s p dk _).trans (turned_eq (W := 128) (by decide : 64 = 2 * 32) (fun q => (∑ a : Fin 8, dk (ix3 a p q)) * Ideal.ofBits .f32 0x3F317218#32) (fun q : Fin 128 => c (ix2 p q)) (fun q : Fin 128 => s (ix2 p q)) h.val (by omega) C S
    (fun k => (hC _).trans (congrArg C (Fin.ext (by dsimp only; omega))))
    (fun k => (hS _).trans (if_congr (by dsimp only; omega) (congrArg (fun z => -S z) (Fin.ext (by dsimp only; omega))) (congrArg S (Fin.ext (by dsimp only; omega)))))
    k (head (by decide : (128 : ℕ) = 2 * 64) h k) rfl ((head (by decide : (128 : ℕ) = 2 * 64) h k).val % 64 < 32) (by show (h.val * 64 + k.val) % 64 < 32 ↔ _; omega) ⟨((head (by decide : (128 : ℕ) = 2 * 64) h k).val + 128 - 96) % 128, Nat.mod_lt _ (by decide)⟩ ⟨((head (by decide : (128 : ℕ) = 2 * 64) h k).val + 128 - 32) % 128, Nat.mod_lt _ (by decide)⟩ rfl rfl)

theorem turn_rq_rolls (a b : FVec Ideal S512x512 .bf16) (q : Fin 512) : k0_pay61 (F := Ideal) (k0_pay58 (k0_pay8 a) (k0_pay11 b) (k0_pay16 c)) (k0_pay59 (k0_pay8 a) (k0_pay11 b) (k0_pay17 s)) k0_pay60 (ix2 p q)
    = (a (ix2 p q) + b (ix2 p q)) * Ideal.ofBits .f32 0x3DB504F3#32 * c (ix2 p ⟨q.val % 128, Nat.mod_lt _ (by decide)⟩) + if q.val % 128 < 64 then (a (ix2 p (⟨(q.val + 512 - 448) % 512, Nat.mod_lt _ (by decide)⟩ : Fin 512)) + b (ix2 p (⟨(q.val + 512 - 448) % 512, Nat.mod_lt _ (by decide)⟩ : Fin 512))) * Ideal.ofBits .f32 0x3DB504F3#32 * s (ix2 p ⟨(⟨(q.val + 512 - 448) % 512, Nat.mod_lt _ (by decide)⟩ : Fin 512).val % 128, Nat.mod_lt _ (by decide)⟩) else (a (ix2 p (⟨(q.val + 512 - 64) % 512, Nat.mod_lt _ (by decide)⟩ : Fin 512)) + b (ix2 p (⟨(q.val + 512 - 64) % 512, Nat.mod_lt _ (by decide)⟩ : Fin 512))) * Ideal.ofBits .f32 0x3DB504F3#32 * s (ix2 p ⟨(⟨(q.val + 512 - 64) % 512, Nat.mod_lt _ (by decide)⟩ : Fin 512).val % 128, Nat.mod_lt _ (by decide)⟩) := by
  pointwise [k0_pay61, k0_pay58, k0_pay57, k0_pay59, k0_pay60, k0_pay8, k0_pay11, k0_pay16, k0_pay17]
  rw [quad (fun l => c (ix2 p l)) _ q.isLt, quad (fun l => s (ix2 p l)) _ (Nat.mod_lt _ (by decide)), quad (fun l => s (ix2 p l)) _ (Nat.mod_lt _ (by decide))]
  exact congrArg (fun z => _ + z) ((congrArg (fun b => Scalar.select b _ _) (cut_128 q)).trans (select_ofBool ..))

/-- The recurrence's queries turned back. -/
theorem turn_rq (a b : FVec Ideal S512x512 .bf16) (C S : Fin 64 → EReal)
    (hC : ∀ l : Fin 128, c (ix2 p l) = C ⟨l.val % 64, by omega⟩)
    (hS : ∀ l : Fin 128, s (ix2 p l) = if l.val % 128 < 64 then -S ⟨l.val % 64, by omega⟩ else S ⟨l.val % 64, by omega⟩)
    (g : Fin 4) (k : Fin 128) :
    k0_pay61 (F := Ideal) (k0_pay58 (k0_pay8 a) (k0_pay11 b) (k0_pay16 c)) (k0_pay59 (k0_pay8 a) (k0_pay11 b) (k0_pay17 s)) k0_pay60 (ix2 p (lane g k))
    = turned (by decide : 128 = 2 * 64) (fun j => (a (ix2 p (lane g j)) + b (ix2 p (lane g j))) * Ideal.ofBits .f32 0x3DB504F3#32) C S k :=
  (turn_rq_rolls c s p a b _).trans (turned_eq (W := 512) (by decide : 128 = 2 * 64) (fun q => (a (ix2 p q) + b (ix2 p q)) * Ideal.ofBits .f32 0x3DB504F3#32) (fun q : Fin 512 => c (ix2 p ⟨q.val % 128, by omega⟩)) (fun q : Fin 512 => s (ix2 p ⟨q.val % 128, by omega⟩)) g.val (by omega) C S
    (fun k => (hC _).trans (congrArg C (Fin.ext (by dsimp only; omega))))
    (fun k => (hS _).trans (if_congr (by dsimp only; omega) (congrArg (fun z => -S z) (Fin.ext (by dsimp only; omega))) (congrArg S (Fin.ext (by dsimp only; omega)))))
    k (lane g k) rfl ((lane g k).val % 128 < 64) (by show (g.val * 128 + k.val) % 128 < 64 ↔ _; omega) ⟨((lane g k).val + 512 - 448) % 512, Nat.mod_lt _ (by decide)⟩ ⟨((lane g k).val + 512 - 64) % 512, Nat.mod_lt _ (by decide)⟩ rfl rfl)

theorem turn_rk_rolls (a b : FVec Ideal S512x512 .bf16) (q : Fin 512) : k0_pay62 (F := Ideal) (k0_pay9 a) (k0_pay12 b) (k0_pay16 c) (k0_pay17 s) (ix2 p q)
    = (a (ix2 p q) + b (ix2 p q)) * c (ix2 p ⟨q.val % 128, Nat.mod_lt _ (by decide)⟩) + if q.val % 128 < 64 then (a (ix2 p (⟨(q.val + 512 - 448) % 512, Nat.mod_lt _ (by decide)⟩ : Fin 512)) + b (ix2 p (⟨(q.val + 512 - 448) % 512, Nat.mod_lt _ (by decide)⟩ : Fin 512))) * s (ix2 p ⟨(⟨(q.val + 512 - 448) % 512, Nat.mod_lt _ (by decide)⟩ : Fin 512).val % 128, Nat.mod_lt _ (by decide)⟩) else (a (ix2 p (⟨(q.val + 512 - 64) % 512, Nat.mod_lt _ (by decide)⟩ : Fin 512)) + b (ix2 p (⟨(q.val + 512 - 64) % 512, Nat.mod_lt _ (by decide)⟩ : Fin 512))) * s (ix2 p ⟨(⟨(q.val + 512 - 64) % 512, Nat.mod_lt _ (by decide)⟩ : Fin 512).val % 128, Nat.mod_lt _ (by decide)⟩) := by
  pointwise [k0_pay62, k0_pay9, k0_pay12, k0_pay16, k0_pay17]
  rw [quad (fun l => c (ix2 p l)) _ q.isLt, quad (fun l => s (ix2 p l)) _ (Nat.mod_lt _ (by decide)), quad (fun l => s (ix2 p l)) _ (Nat.mod_lt _ (by decide))]
  exact congrArg (fun z => _ + z) ((congrArg (fun b => Scalar.select b _ _) (cut_128 q)).trans (select_ofBool ..))

/-- The recurrence's keys turned back. -/
theorem turn_rk (a b : FVec Ideal S512x512 .bf16) (C S : Fin 64 → EReal)
    (hC : ∀ l : Fin 128, c (ix2 p l) = C ⟨l.val % 64, by omega⟩)
    (hS : ∀ l : Fin 128, s (ix2 p l) = if l.val % 128 < 64 then -S ⟨l.val % 64, by omega⟩ else S ⟨l.val % 64, by omega⟩)
    (g : Fin 4) (k : Fin 128) :
    k0_pay62 (F := Ideal) (k0_pay9 a) (k0_pay12 b) (k0_pay16 c) (k0_pay17 s) (ix2 p (lane g k))
    = turned (by decide : 128 = 2 * 64) (fun j => (a (ix2 p (lane g j)) + b (ix2 p (lane g j)))) C S k :=
  (turn_rk_rolls c s p a b _).trans (turned_eq (W := 512) (by decide : 128 = 2 * 64) (fun q => (a (ix2 p q) + b (ix2 p q))) (fun q : Fin 512 => c (ix2 p ⟨q.val % 128, by omega⟩)) (fun q : Fin 512 => s (ix2 p ⟨q.val % 128, by omega⟩)) g.val (by omega) C S
    (fun k => (hC _).trans (congrArg C (Fin.ext (by dsimp only; omega))))
    (fun k => (hS _).trans (if_congr (by dsimp only; omega) (congrArg (fun z => -S z) (Fin.ext (by dsimp only; omega))) (congrArg S (Fin.ext (by dsimp only; omega)))))
    k (lane g k) rfl ((lane g k).val % 128 < 64) (by show (g.val * 128 + k.val) % 128 < 64 ↔ _; omega) ⟨((lane g k).val + 512 - 448) % 512, Nat.mod_lt _ (by decide)⟩ ⟨((lane g k).val + 512 - 64) % 512, Nat.mod_lt _ (by decide)⟩ rfl rfl)

end Turns

end Cert.DProjIdeal.Grad

end
-- ==== Proof.DprojRefA.lean ====
module

public import proofs.«01_k».proof.Proof.Gen.DProjIdeal.Frame.Runs
public import proofs.«01_k».proof.Proof.Gen.DProjRefIdeal.Read
public import Idealize.ShloMosaic.Lib.Pipeline.ValueKit
public import Idealize.ShloMosaic.Lib.Pointwise
public import proofs.«01_k».proof.Proof.TurnMath
public import proofs.«01_k».proof.Proof.DprojNorms
public import proofs.«01_k».proof.Proof.DprojTurns

@[expose] public section

set_option maxRecDepth 16384

noncomputable section

open Idealize.ShloMosaic Idealize.ShloMosaic.TcCoe Idealize.SL.Sem
open Idealize.ShloMosaic.Pipeline (Dat)

namespace Cert.DProjIdeal.Grad

open Cert.DProjIdeal Cert.DProjIdeal.Gen

variable (m : (ℓ : Loc nD τ sig) → Buf (Elt Ideal) ℓ)

open Cert.TurnMath Cert.Norm
open Cert.DProjRefIdeal.Read

section Reference

variable (pr : (⟨S16384x4864, .f32⟩ : BufTy).Contents (Elt Ideal)) (gq gk : (⟨S64, .f32⟩ : BufTy).Contents (Elt Ideal)) (dq : (⟨S32x512x512, .f32⟩ : BufTy).Contents (Elt Ideal)) (dk : (⟨S8x16384x128, .f32⟩ : BufTy).Contents (Elt Ideal))

/-- The cosines and sines of a row's angles, 32 of them for the attention and 64 for the recurrence. -/
def cosA (r : Fin 16384) (j : Fin 32) : EReal := val_main_v24 (F := Ideal) (ix2 r j)
def sinA (r : Fin 16384) (j : Fin 32) : EReal := val_main_v25 (F := Ideal) (ix2 r j)
def cosR (r : Fin 16384) (j : Fin 64) : EReal := val_main_v50 (F := Ideal) (ix2 r j)
def sinR (r : Fin 16384) (j : Fin 64) : EReal := val_main_v51 (F := Ideal) (ix2 r j)

/-- The queries' and the keys' heads of a row of the projection. -/
def qpart (pr : (⟨S16384x4864, .f32⟩ : BufTy).Contents (Elt Ideal)) (r : Fin 16384) (h : Fin 8) (k : Fin 64) : EReal := pr (ix2 r ⟨h.val * 64 + k.val, by omega⟩)
def kpart (pr : (⟨S16384x4864, .f32⟩ : BufTy).Contents (Elt Ideal)) (r : Fin 16384) (h : Fin 2) (k : Fin 64) : EReal := pr (ix2 r ⟨512 + (h.val * 64 + k.val), by omega⟩)

theorem ref_q_row (r h k) : val_main_v68 (F := Ideal) pr (ix3 r h k) = qpart pr r h k := by
  pointwise [val_main_v68, val_main_v67]
  rfl

theorem ref_q_spread (r h) : val_main_v75 (F := Ideal) pr (ix3 r h 0) = spread (qpart pr r h) := by
  pointwise [val_main_v75, val_main_v74, val_main_v73, val_main_v72, val_main_v71, val_main_v70, val_main_v69, val_main_cst_6, val_main_cst_7, val_main_cst_8]
  simp only [ref_q_row, zero_add]
  rfl

theorem ref_q_root (r h) : val_main_v76 (F := Ideal) pr (ix3 r h 0) = root (qpart pr r h) := by
  pointwise [val_main_v76]
  rw [ref_q_spread]
  rfl

theorem ref_q_normed (r h k) : val_main_v81 (F := Ideal) pr (ix3 r h k) = qpart pr r h k * root (qpart pr r h) := by
  pointwise [val_main_v81, val_main_v80]
  rw [ref_q_row, ref_q_root]

theorem ref_q_cot (r h k) : val_main_v278 (F := Ideal) gq dq (ix3 r h k) = val_main_v273 (F := Ideal) dq (ix3 r h k) * gq (ix1 k) := by
  pointwise [val_main_v278, val_main_v277, val_main_v82, val_main_v52]

theorem ref_q_weight (r h k) : val_main_v289 (F := Ideal) pr gq dq (ix3 r h k)
    = weight (qpart pr r h) (fun k => val_main_v273 (F := Ideal) dq (ix3 r h k) * gq (ix1 k)) := by
  pointwise [val_main_v289, val_main_v288, val_main_v287, val_main_v286, val_main_v285, val_main_v282, val_main_v281, val_main_v280, val_main_v79, val_main_v78, val_main_v77, val_main_cst_9, val_main_cst_33, val_main_cst_34, val_main_cst_35]
  simp only [Fin.sum_univ_one, zero_add, ref_q_row, ref_q_cot, ref_q_root, ref_q_spread]
  rfl

theorem ref_q_chain (r h k) : val_main_v293 (F := Ideal) pr gq dq (ix3 r h k)
    = summed (qpart pr r h) (fun k => val_main_v273 (F := Ideal) dq (ix3 r h k) * gq (ix1 k)) k := by
  pointwise [val_main_v293, val_main_v292, val_main_v291, val_main_v290, val_main_v284, val_main_v283]
  rw [ref_q_row, ref_q_cot, ref_q_root, ref_q_weight]
  rfl

theorem ref_k_row (r h k) : val_main_v103 (F := Ideal) pr (ix3 r h k) = kpart pr r h k := by
  pointwise [val_main_v103, val_main_v102]
  rfl

theorem ref_k_spread (r h) : val_main_v110 (F := Ideal) pr (ix3 r h 0) = spread (kpart pr r h) := by
  pointwise [val_main_v110, val_main_v109, val_main_v108, val_main_v107, val_main_v106, val_main_v105, val_main_v104, val_main_cst_11, val_main_cst_12, val_main_cst_13]
  simp only [ref_k_row, zero_add]
  rfl

theorem ref_k_root (r h) : val_main_v111 (F := Ideal) pr (ix3 r h 0) = root (kpart pr r h) := by
  pointwise [val_main_v111]
  rw [ref_k_spread]
  rfl

theorem ref_k_normed (r h k) : val_main_v116 (F := Ideal) pr (ix3 r h k) = kpart pr r h k * root (kpart pr r h) := by
  pointwise [val_main_v116, val_main_v115]
  rw [ref_k_row, ref_k_root]

theorem ref_k_cot (r h k) : val_main_v239 (F := Ideal) gk dk (ix3 r h k) = val_main_v234 (F := Ideal) dk (ix3 r h k) * gk (ix1 k) := by
  pointwise [val_main_v239, val_main_v238, val_main_v117, val_main_v53]

theorem ref_k_weight (r h k) : val_main_v250 (F := Ideal) pr gk dk (ix3 r h k)
    = weight (kpart pr r h) (fun k => val_main_v234 (F := Ideal) dk (ix3 r h k) * gk (ix1 k)) := by
  pointwise [val_main_v250, val_main_v249, val_main_v248, val_main_v247, val_main_v246, val_main_v243, val_main_v242, val_main_v241, val_main_v114, val_main_v113, val_main_v112, val_main_cst_14, val_main_cst_26, val_main_cst_27, val_main_cst_28]
  simp only [Fin.sum_univ_one, zero_add, ref_k_row, ref_k_cot, ref_k_root, ref_k_spread]
  rfl

theorem ref_k_chain (r h k) : val_main_v254 (F := Ideal) pr gk dk (ix3 r h k)
    = summed (kpart pr r h) (fun k => val_main_v234 (F := Ideal) dk (ix3 r h k) * gk (ix1 k)) k := by
  pointwise [val_main_v254, val_main_v253, val_main_v252, val_main_v251, val_main_v245, val_main_v244]
  rw [ref_k_row, ref_k_cot, ref_k_root, ref_k_weight]
  rfl

end Reference

end Cert.DProjIdeal.Grad

end
-- ==== Proof.DprojRefB.lean ====
module

public import proofs.«01_k».proof.Proof.Gen.DProjIdeal.Frame.Runs
public import proofs.«01_k».proof.Proof.Gen.DProjRefIdeal.Read
public import Idealize.ShloMosaic.Lib.Pipeline.ValueKit
public import Idealize.ShloMosaic.Lib.Pointwise
public import proofs.«01_k».proof.Proof.TurnMath
public import proofs.«01_k».proof.Proof.DprojRefA

@[expose] public section

set_option maxRecDepth 16384

noncomputable section

open Idealize.ShloMosaic Idealize.ShloMosaic.TcCoe Idealize.SL.Sem
open Idealize.ShloMosaic.Pipeline (Dat)

namespace Cert.DProjIdeal.Grad

open Cert.DProjIdeal Cert.DProjIdeal.Gen

variable (m : (ℓ : Loc nD τ sig) → Buf (Elt Ideal) ℓ)

open Cert.TurnMath Cert.Norm
open Cert.DProjRefIdeal.Read

section Reference

variable (pr : (⟨S16384x4864, .f32⟩ : BufTy).Contents (Elt Ideal)) (gq gk : (⟨S64, .f32⟩ : BufTy).Contents (Elt Ideal)) (dq : (⟨S32x512x512, .f32⟩ : BufTy).Contents (Elt Ideal)) (dk dv : (⟨S8x16384x128, .f32⟩ : BufTy).Contents (Elt Ideal)) (a b : (⟨S16384x512, .f32⟩ : BufTy).Contents (Elt Ideal))

theorem ref_q_scaled (r h k) : val_main_v259 (F := Ideal) dq (ix3 r h k) = dq (ix3 ⟨r.val / 512, by omega⟩ (head (by decide : (512 : ℕ) = 8 * 64) h k) ⟨r.val % 512, by omega⟩) * Ideal.ofBits .f32 0x3E000000#32 := by
  pointwise [val_main_v259, val_main_v258, val_main_v56, val_main_v55, val_main_v54, val_main_cst_30]
  try rfl

theorem ref_q_turned (r h k) : val_main_v273 (F := Ideal) dq (ix3 r h k)
    = turned (by decide : 64 = 2 * 32) (fun j => dq (ix3 ⟨r.val / 512, by omega⟩ (head (by decide : (512 : ℕ) = 8 * 64) h j) ⟨r.val % 512, by omega⟩) * Ideal.ofBits .f32 0x3E000000#32) (cosA r) (sinA r) k := by
  pointwise [val_main_v273, val_main_v272, val_main_v271, val_main_v270, val_main_v269, val_main_v268, val_main_v267, val_main_v266, val_main_v265, val_main_v264, val_main_v263, val_main_v262, val_main_v261, val_main_v260, val_main_v87, val_main_v88]
  simp only [ref_q_scaled]
  unfold turned
  split_ifs
  all_goals first
    | exact absurd rfl ‹_›
    | exact congrArg₂ (fun u v : EReal => u + v) (congrArg (fun j => dq (ix3 ⟨r.val / 512, by omega⟩ (head (by decide : (512 : ℕ) = 8 * 64) h j) ⟨r.val % 512, by omega⟩) * Ideal.ofBits .f32 0x3E000000#32 * _) (Fin.ext (by dsimp only; omega))) rfl

theorem ref_k_scaled (r h k) : val_main_v60 (F := Ideal) dk (ix3 r h k) = (∑ a : Fin 8, dk (ix3 a r (head (by decide : (128 : ℕ) = 2 * 64) h k))) * Ideal.ofBits .f32 0x3F317218#32 := by
  pointwise [val_main_v60, val_main_v59, val_main_v58, val_main_v57, val_main_cst_3, val_main_cst_4]
  try rfl

theorem ref_k_turned (r h k) : val_main_v234 (F := Ideal) dk (ix3 r h k)
    = turned (by decide : 64 = 2 * 32) (fun j => (∑ a : Fin 8, dk (ix3 a r (head (by decide : (128 : ℕ) = 2 * 64) h j))) * Ideal.ofBits .f32 0x3F317218#32) (cosA r) (sinA r) k := by
  pointwise [val_main_v234, val_main_v233, val_main_v232, val_main_v231, val_main_v230, val_main_v229, val_main_v228, val_main_v227, val_main_v226, val_main_v225, val_main_v224, val_main_v223, val_main_v222, val_main_v221, val_main_v122, val_main_v123]
  simp only [ref_k_scaled]
  unfold turned
  split_ifs
  all_goals first
    | exact absurd rfl ‹_›
    | exact congrArg₂ (fun u v : EReal => u + v) (congrArg (fun j => (∑ a : Fin 8, dk (ix3 a r (head (by decide : (128 : ℕ) = 2 * 64) h j))) * Ideal.ofBits .f32 0x3F317218#32 * _) (Fin.ext (by dsimp only; omega))) rfl

theorem ref_rq_scaled (r h k) : val_main_v203 (F := Ideal) a b (ix3 r h k) = (a (ix2 r (lane h k)) + b (ix2 r (lane h k))) * Ideal.ofBits .f32 0x3DB504F3#32 := by
  pointwise [val_main_v203, val_main_v202, val_main_v63, val_main_v62, val_main_cst_22]
  try rfl

theorem ref_rq_turned (r h k) : val_main_v217 (F := Ideal) a b (ix3 r h k)
    = turned (by decide : 128 = 2 * 64) (fun j => (a (ix2 r (lane h j)) + b (ix2 r (lane h j))) * Ideal.ofBits .f32 0x3DB504F3#32) (cosR r) (sinR r) k := by
  pointwise [val_main_v217, val_main_v216, val_main_v215, val_main_v214, val_main_v213, val_main_v212, val_main_v211, val_main_v210, val_main_v209, val_main_v208, val_main_v207, val_main_v206, val_main_v205, val_main_v204, val_main_v139, val_main_v140]
  simp only [ref_rq_scaled]
  unfold turned
  split_ifs
  all_goals first
    | exact absurd rfl ‹_›
    | exact congrArg₂ (fun u v : EReal => u + v) (congrArg (fun j => (a (ix2 r (lane h j)) + b (ix2 r (lane h j))) * Ideal.ofBits .f32 0x3DB504F3#32 * _) (Fin.ext (by dsimp only; omega))) rfl

theorem ref_rk_scaled (r h k) : val_main_v65 (F := Ideal) a b (ix3 r h k) = (a (ix2 r (lane h k)) + b (ix2 r (lane h k))) := by
  pointwise [val_main_v65, val_main_v64]
  try rfl

theorem ref_rk_turned (r h k) : val_main_v198 (F := Ideal) a b (ix3 r h k)
    = turned (by decide : 128 = 2 * 64) (fun j => (a (ix2 r (lane h j)) + b (ix2 r (lane h j)))) (cosR r) (sinR r) k := by
  pointwise [val_main_v198, val_main_v197, val_main_v196, val_main_v195, val_main_v194, val_main_v193, val_main_v192, val_main_v191, val_main_v190, val_main_v189, val_main_v188, val_main_v187, val_main_v186, val_main_v185, val_main_v158, val_main_v159]
  simp only [ref_rk_scaled]
  unfold turned
  split_ifs
  all_goals first
    | exact absurd rfl ‹_›
    | exact congrArg₂ (fun u v : EReal => u + v) (congrArg (fun j => (a (ix2 r (lane h j)) + b (ix2 r (lane h j))) * _) (Fin.ext (by dsimp only; omega))) rfl

theorem ref_av (r q) : val_main_v61 (F := Ideal) dv (ix2 r q) = ∑ a : Fin 8, dv (ix3 a r q) := by
  pointwise [val_main_v61, val_main_cst_5]
  try rw [zero_add]

variable (dq_f dk_f dv_f dq_b dk_b dv_b drg : (⟨S16384x512, .f32⟩ : BufTy).Contents (Elt Ideal)) (dga dgr : (⟨S16384x1024, .f32⟩ : BufTy).Contents (Elt Ideal))

theorem cols (r : Fin 16384) :
    (∀ n : Fin 512, val_main_v297 (F := Ideal) pr gq gk dq dk dv dq_f dk_f dv_f dq_b dk_b dv_b drg dga dgr (ix2 r ⟨0 + n.val, by omega⟩) = val_main_v294 (F := Ideal) pr gq dq (ix2 r n))
    ∧ (∀ n : Fin 128, val_main_v297 (F := Ideal) pr gq gk dq dk dv dq_f dk_f dv_f dq_b dk_b dv_b drg dga dgr (ix2 r ⟨512 + n.val, by omega⟩) = val_main_v255 (F := Ideal) pr gk dk (ix2 r n))
    ∧ (∀ n : Fin 128, val_main_v297 (F := Ideal) pr gq gk dq dk dv dq_f dk_f dv_f dq_b dk_b dv_b drg dga dgr (ix2 r ⟨640 + n.val, by omega⟩) = val_main_v61 (F := Ideal) dv (ix2 r n))
    ∧ (∀ n : Fin 512, val_main_v297 (F := Ideal) pr gq gk dq dk dv dq_f dk_f dv_f dq_b dk_b dv_b drg dga dgr (ix2 r ⟨768 + n.val, by omega⟩) = val_main_v218 (F := Ideal) dq_f dq_b (ix2 r n))
    ∧ (∀ n : Fin 512, val_main_v297 (F := Ideal) pr gq gk dq dk dv dq_f dk_f dv_f dq_b dk_b dv_b drg dga dgr (ix2 r ⟨1280 + n.val, by omega⟩) = val_main_v199 (F := Ideal) dk_f dk_b (ix2 r n))
    ∧ (∀ n : Fin 512, val_main_v297 (F := Ideal) pr gq gk dq dk dv dq_f dk_f dv_f dq_b dk_b dv_b drg dga dgr (ix2 r ⟨1792 + n.val, by omega⟩) = (dv_f (ix2 r n) + dv_b (ix2 r n) : EReal))
    ∧ (∀ n : Fin 512, val_main_v297 (F := Ideal) pr gq gk dq dk dv dq_f dk_f dv_f dq_b dk_b dv_b drg dga dgr (ix2 r ⟨2304 + n.val, by omega⟩) = drg (ix2 r n))
    ∧ (∀ n : Fin 1024, val_main_v297 (F := Ideal) pr gq gk dq dk dv dq_f dk_f dv_f dq_b dk_b dv_b drg dga dgr (ix2 r ⟨2816 + n.val, by omega⟩) = dga (ix2 r n))
    ∧ (∀ n : Fin 1024, val_main_v297 (F := Ideal) pr gq gk dq dk dv dq_f dk_f dv_f dq_b dk_b dv_b drg dga dgr (ix2 r ⟨3840 + n.val, by omega⟩) = dgr (ix2 r n)) := by
  refine ⟨fun n => ?_, fun n => ?_, fun n => ?_, fun n => ?_, fun n => ?_, fun n => ?_, fun n => ?_, fun n => ?_, fun n => ?_⟩
  all_goals
    pointwise [val_main_v297, val_main_v296, val_main_v257, val_main_v220, val_main_v201, val_main_v184, val_main_v182, val_main_v180, val_main_v178, val_main_v176, val_main_v177, val_main_v179, val_main_v181, val_main_v183, val_main_v200, val_main_v219, val_main_v256, val_main_v295, val_main_v66, val_main_cst_16, val_main_cst_17, val_main_cst_18, val_main_cst_19, val_main_cst_20, val_main_cst_21, val_main_cst_23, val_main_cst_29, val_main_cst_36]
    repeat rw [dif_neg (by omega)]
    try rw [dif_neg fun h => h.1]
    try rw [zero_add]
    simp only [zero_add, add_zero]

theorem ref_gain_q (z : Fin 8) (h : Fin 8) (k : Fin 64) : val_main_v301 (F := Ideal) pr dq (ix2 z ⟨h.val * 64 + k.val, by omega⟩)
    = if z.val = 0 then (∑ r, val_main_v81 (F := Ideal) pr (ix3 r h k) * val_main_v273 (F := Ideal) dq (ix3 r h k) : EReal) else 0 := by
  pointwise [val_main_v301, val_main_v299, val_main_v300, val_main_v298, val_main_v279, val_main_v276, val_main_v275, val_main_v274, val_main_cst_31, val_main_cst_32, val_main_cst_38, val_main_cst_37]
  simp only [Finset.univ_unique, Finset.sum_singleton]
  by_cases hz : z.val = 0
  · rw [if_pos hz, dif_pos (by omega)]
  · rw [if_neg hz, dif_neg (by omega)]

theorem ref_gain_k (z : Fin 8) (h : Fin 2) (k : Fin 64) : val_main_v305 (F := Ideal) pr dk (ix2 z ⟨h.val * 64 + k.val, by omega⟩)
    = if z.val = 0 then (∑ r, val_main_v116 (F := Ideal) pr (ix3 r h k) * val_main_v234 (F := Ideal) dk (ix3 r h k) : EReal) else 0 := by
  pointwise [val_main_v305, val_main_v303, val_main_v304, val_main_v302, val_main_v240, val_main_v237, val_main_v236, val_main_v235, val_main_cst_24, val_main_cst_25, val_main_cst_38, val_main_cst_37]
  simp only [Finset.univ_unique, Finset.sum_singleton]
  by_cases hz : z.val = 0
  · rw [if_pos hz, dif_pos (by omega)]
  · rw [if_neg hz, dif_neg (by omega)]

end Reference

end Cert.DProjIdeal.Grad

end
-- ==== Proof.DprojReads.lean ====
module

public import proofs.«01_k».proof.Proof.Gen.DProjIdeal.Frame.Runs
public import proofs.«01_k».proof.Proof.Gen.DProjRefIdeal.Read
public import Idealize.ShloMosaic.Lib.Pipeline.ValueKit
public import Idealize.ShloMosaic.Lib.Pointwise
public import proofs.«01_k».proof.Proof.DprojRefB

@[expose] public section

set_option maxRecDepth 16384

noncomputable section

open Idealize.ShloMosaic Idealize.ShloMosaic.TcCoe Idealize.SL.Sem
open Idealize.ShloMosaic.Pipeline (Dat)

namespace Cert.DProjIdeal.Grad

open Cert.DProjIdeal Cert.DProjIdeal.Gen

variable (m : (ℓ : Loc nD τ sig) → Buf (Elt Ideal) ℓ)

open Cert.TurnMath Cert.Norm

theorem idx0 : ∀ t : Fin cfg0.N, win0_0.index t = ![t.val, 0] := (by decide +kernel : ∀ t : Fin grid0.N, _)

theorem idx1 : ∀ t : Fin cfg0.N, win0_1.index t = ![t.val, 4] := (by decide +kernel : ∀ t : Fin grid0.N, _)

theorem idx2 : ∀ t : Fin cfg0.N, win0_2.index t = ![t.val, 0, 0] := (by decide +kernel : ∀ t : Fin grid0.N, _)

theorem idx3 : ∀ t : Fin cfg0.N, win0_3.index t = ![0, t.val, 0] := (by decide +kernel : ∀ t : Fin grid0.N, _)

theorem idx4 : ∀ t : Fin cfg0.N, win0_4.index t = ![0, t.val, 0] := (by decide +kernel : ∀ t : Fin grid0.N, _)

theorem idx5 : ∀ t : Fin cfg0.N, win0_5.index t = ![t.val, 0] := (by decide +kernel : ∀ t : Fin grid0.N, _)

theorem idx6 : ∀ t : Fin cfg0.N, win0_6.index t = ![t.val, 0] := (by decide +kernel : ∀ t : Fin grid0.N, _)

theorem idx7 : ∀ t : Fin cfg0.N, win0_7.index t = ![t.val, 0] := (by decide +kernel : ∀ t : Fin grid0.N, _)

theorem idx8 : ∀ t : Fin cfg0.N, win0_8.index t = ![t.val, 0] := (by decide +kernel : ∀ t : Fin grid0.N, _)

theorem idx9 : ∀ t : Fin cfg0.N, win0_9.index t = ![t.val, 0] := (by decide +kernel : ∀ t : Fin grid0.N, _)

theorem idx10 : ∀ t : Fin cfg0.N, win0_10.index t = ![t.val, 0] := (by decide +kernel : ∀ t : Fin grid0.N, _)

theorem idx11 : ∀ t : Fin cfg0.N, win0_11.index t = ![t.val, 0] := (by decide +kernel : ∀ t : Fin grid0.N, _)

theorem idx12 : ∀ t : Fin cfg0.N, win0_12.index t = ![t.val, 0] := (by decide +kernel : ∀ t : Fin grid0.N, _)

theorem idx13 : ∀ t : Fin cfg0.N, win0_13.index t = ![t.val, 0] := (by decide +kernel : ∀ t : Fin grid0.N, _)

theorem idx14 : ∀ t : Fin cfg0.N, win0_14.index t = ![t.val, 0] := (by decide +kernel : ∀ t : Fin grid0.N, _)

theorem idx15 : ∀ t : Fin cfg0.N, win0_15.index t = ![t.val, 0] := (by decide +kernel : ∀ t : Fin grid0.N, _)

theorem idx16 : ∀ t : Fin cfg0.N, win0_16.index t = ![t.val, 0] := (by decide +kernel : ∀ t : Fin grid0.N, _)

theorem idx17 : ∀ t : Fin cfg0.N, win0_17.index t = ![t.val, 0] := (by decide +kernel : ∀ t : Fin grid0.N, _)

theorem idx18 : ∀ t : Fin cfg0.N, win0_18.index t = ![0, 0] := (by decide +kernel : ∀ t : Fin grid0.N, _)

theorem idx19 : ∀ t : Fin cfg0.N, win0_19.index t = ![0, 0] := (by decide +kernel : ∀ t : Fin grid0.N, _)

theorem idx20 : ∀ t : Fin cfg0.N, win0_20.index t = ![t.val, 0] := (by decide +kernel : ∀ t : Fin grid0.N, _)

theorem idx21 : ∀ t : Fin cfg0.N, win0_21.index t = ![0, 0] := (by decide +kernel : ∀ t : Fin grid0.N, _)

theorem idx22 : ∀ t : Fin cfg0.N, win0_22.index t = ![0, 0] := (by decide +kernel : ∀ t : Fin grid0.N, _)

theorem at0 (c : Dev nD) (t : Fin cfg0.N) (y) : iblk m c 0 t y = (m ((c : Thread nD τ).loc main_arg0)) (((cfg0.win 0).blk t).view.emb y) :=
  congrFun (V_main_arg0 m c) _

theorem read_q (c : Dev nD) (t : Fin cfg0.N) (p : Fin 512) (r : Fin 16384) (hr : r.val = t.val * 512 + p.val) (q : Fin 512) : X0_0 m c t (ix2 p q) = (m ((c : Thread nD τ).loc main_arg0)) (ix2 r ⟨q.val, by omega⟩)  := by
  obtain ⟨v, hv⟩ := r
  obtain rfl : v = t.val * 512 + p.val := hr
  exact (dif_pos (moved0_0 t (ix2 p q))).trans ((at0 m c t _).trans (congrArg (m ((c : Thread nD τ).loc main_arg0)) (by blk_ext [idx0 t])))

theorem emb1 (t : Fin cfg0.N) (p : Fin 512) (r : Fin 16384) (hr : r.val = t.val * 512 + p.val) (q : Fin 128) : ((cfg0.win 1).blk t).view.emb (ix2 p q) = ix2 r ⟨512 + q.val, by omega⟩ := by
  obtain ⟨v, hv⟩ := r
  obtain rfl : v = t.val * 512 + p.val := hr
  blk_ext [idx1 t]

theorem at1 (c : Dev nD) (t : Fin cfg0.N) (y) : iblk m c 1 t y = (m ((c : Thread nD τ).loc main_arg0)) (((cfg0.win 1).blk t).view.emb y) :=
  congrFun (V_main_arg0 m c) _

theorem read_k (c : Dev nD) (t : Fin cfg0.N) (p : Fin 512) (r : Fin 16384) (hr : r.val = t.val * 512 + p.val) (q : Fin 128) : iblk m c 1 t (ix2 p q) = (m ((c : Thread nD τ).loc main_arg0)) (ix2 r ⟨512 + q.val, by omega⟩) :=
  (at1 m c t _).trans (congrArg (m ((c : Thread nD τ).loc main_arg0)) (emb1 t p r hr q))

theorem emb2 (t : Fin cfg0.N) (p : Fin 512) (q : Fin 512) : ((cfg0.win 2).blk t).view.emb (ix3 0 q p) = ix3 (n0 := 32) ⟨t.val, t.isLt⟩ q p := by
  blk_ext [idx2 t]

theorem at2 (c : Dev nD) (t : Fin cfg0.N) (y) : iblk m c 2 t y = (m ((c : Thread nD τ).loc main_arg3)) (((cfg0.win 2).blk t).view.emb y) :=
  congrFun (V_main_arg3 m c) _

theorem read_dq (c : Dev nD) (t : Fin cfg0.N) (p : Fin 512) (q : Fin 512) : iblk m c 2 t (ix3 0 q p) = (m ((c : Thread nD τ).loc main_arg3)) (ix3 (n0 := 32) ⟨t.val, t.isLt⟩ q p) :=
  (at2 m c t _).trans (congrArg (m ((c : Thread nD τ).loc main_arg3)) (emb2 t p q))

theorem emb3 (t : Fin cfg0.N) (p : Fin 512) (r : Fin 16384) (hr : r.val = t.val * 512 + p.val) (a : Fin 8) (q : Fin 128) : ((cfg0.win 3).blk t).view.emb (ix3 a p q) = ix3 a r q := by
  obtain ⟨v, hv⟩ := r
  obtain rfl : v = t.val * 512 + p.val := hr
  blk_ext [idx3 t]

theorem at3 (c : Dev nD) (t : Fin cfg0.N) (y) : iblk m c 3 t y = (m ((c : Thread nD τ).loc main_arg4)) (((cfg0.win 3).blk t).view.emb y) :=
  congrFun (V_main_arg4 m c) _

theorem read_dk (c : Dev nD) (t : Fin cfg0.N) (p : Fin 512) (r : Fin 16384) (hr : r.val = t.val * 512 + p.val) (a : Fin 8) (q : Fin 128) : iblk m c 3 t (ix3 a p q) = (m ((c : Thread nD τ).loc main_arg4)) (ix3 a r q) :=
  (at3 m c t _).trans (congrArg (m ((c : Thread nD τ).loc main_arg4)) (emb3 t p r hr a q))

theorem emb4 (t : Fin cfg0.N) (p : Fin 512) (r : Fin 16384) (hr : r.val = t.val * 512 + p.val) (a : Fin 8) (q : Fin 128) : ((cfg0.win 4).blk t).view.emb (ix3 a p q) = ix3 a r q := by
  obtain ⟨v, hv⟩ := r
  obtain rfl : v = t.val * 512 + p.val := hr
  blk_ext [idx4 t]

theorem at4 (c : Dev nD) (t : Fin cfg0.N) (y) : iblk m c 4 t y = (m ((c : Thread nD τ).loc main_arg5)) (((cfg0.win 4).blk t).view.emb y) :=
  congrFun (V_main_arg5 m c) _

theorem read_dv (c : Dev nD) (t : Fin cfg0.N) (p : Fin 512) (r : Fin 16384) (hr : r.val = t.val * 512 + p.val) (a : Fin 8) (q : Fin 128) : iblk m c 4 t (ix3 a p q) = (m ((c : Thread nD τ).loc main_arg5)) (ix3 a r q) :=
  (at4 m c t _).trans (congrArg (m ((c : Thread nD τ).loc main_arg5)) (emb4 t p r hr a q))

theorem emb5 (t : Fin cfg0.N) (p : Fin 512) (r : Fin 16384) (hr : r.val = t.val * 512 + p.val) (q : Fin 512) : ((cfg0.win 5).blk t).view.emb (ix2 p q) = ix2 r q := by
  obtain ⟨v, hv⟩ := r
  obtain rfl : v = t.val * 512 + p.val := hr
  blk_ext [idx5 t]

theorem at5 (c : Dev nD) (t : Fin cfg0.N) (y) : iblk m c 5 t y = V m c main_v94 (((cfg0.win 5).blk t).view.emb y) := rfl

theorem read_qf (c : Dev nD) (t : Fin cfg0.N) (p : Fin 512) (r : Fin 16384) (hr : r.val = t.val * 512 + p.val) (q : Fin 512) : iblk m c 5 t (ix2 p q) = (m ((c : Thread nD τ).loc main_arg6)) (ix2 r q) := by
  rw [at5, emb5 t p r hr q]
  entry_read
  pointwise []

theorem emb6 (t : Fin cfg0.N) (p : Fin 512) (r : Fin 16384) (hr : r.val = t.val * 512 + p.val) (q : Fin 512) : ((cfg0.win 6).blk t).view.emb (ix2 p q) = ix2 r q := by
  obtain ⟨v, hv⟩ := r
  obtain rfl : v = t.val * 512 + p.val := hr
  blk_ext [idx6 t]

theorem at6 (c : Dev nD) (t : Fin cfg0.N) (y) : iblk m c 6 t y = V m c main_v95 (((cfg0.win 6).blk t).view.emb y) := rfl

theorem read_kf (c : Dev nD) (t : Fin cfg0.N) (p : Fin 512) (r : Fin 16384) (hr : r.val = t.val * 512 + p.val) (q : Fin 512) : iblk m c 6 t (ix2 p q) = (m ((c : Thread nD τ).loc main_arg7)) (ix2 r q) := by
  rw [at6, emb6 t p r hr q]
  entry_read
  pointwise []

theorem emb7 (t : Fin cfg0.N) (p : Fin 512) (r : Fin 16384) (hr : r.val = t.val * 512 + p.val) (q : Fin 512) : ((cfg0.win 7).blk t).view.emb (ix2 p q) = ix2 r q := by
  obtain ⟨v, hv⟩ := r
  obtain rfl : v = t.val * 512 + p.val := hr
  blk_ext [idx7 t]

theorem at7 (c : Dev nD) (t : Fin cfg0.N) (y) : iblk m c 7 t y = V m c main_v96 (((cfg0.win 7).blk t).view.emb y) := rfl

theorem read_vf (c : Dev nD) (t : Fin cfg0.N) (p : Fin 512) (r : Fin 16384) (hr : r.val = t.val * 512 + p.val) (q : Fin 512) : iblk m c 7 t (ix2 p q) = (m ((c : Thread nD τ).loc main_arg8)) (ix2 r q) := by
  rw [at7, emb7 t p r hr q]
  entry_read
  pointwise []

theorem emb8 (t : Fin cfg0.N) (p : Fin 512) (r : Fin 16384) (hr : r.val = t.val * 512 + p.val) (q : Fin 512) : ((cfg0.win 8).blk t).view.emb (ix2 p q) = ix2 r q := by
  obtain ⟨v, hv⟩ := r
  obtain rfl : v = t.val * 512 + p.val := hr
  blk_ext [idx8 t]

theorem at8 (c : Dev nD) (t : Fin cfg0.N) (y) : iblk m c 8 t y = V m c main_v97 (((cfg0.win 8).blk t).view.emb y) := rfl

theorem read_qb (c : Dev nD) (t : Fin cfg0.N) (p : Fin 512) (r : Fin 16384) (hr : r.val = t.val * 512 + p.val) (q : Fin 512) : iblk m c 8 t (ix2 p q) = (m ((c : Thread nD τ).loc main_arg9)) (ix2 r q) := by
  rw [at8, emb8 t p r hr q]
  entry_read
  pointwise []

theorem emb9 (t : Fin cfg0.N) (p : Fin 512) (r : Fin 16384) (hr : r.val = t.val * 512 + p.val) (q : Fin 512) : ((cfg0.win 9).blk t).view.emb (ix2 p q) = ix2 r q := by
  obtain ⟨v, hv⟩ := r
  obtain rfl : v = t.val * 512 + p.val := hr
  blk_ext [idx9 t]

theorem at9 (c : Dev nD) (t : Fin cfg0.N) (y) : iblk m c 9 t y = V m c main_v98 (((cfg0.win 9).blk t).view.emb y) := rfl

theorem read_kb (c : Dev nD) (t : Fin cfg0.N) (p : Fin 512) (r : Fin 16384) (hr : r.val = t.val * 512 + p.val) (q : Fin 512) : iblk m c 9 t (ix2 p q) = (m ((c : Thread nD τ).loc main_arg10)) (ix2 r q) := by
  rw [at9, emb9 t p r hr q]
  entry_read
  pointwise []

theorem emb10 (t : Fin cfg0.N) (p : Fin 512) (r : Fin 16384) (hr : r.val = t.val * 512 + p.val) (q : Fin 512) : ((cfg0.win 10).blk t).view.emb (ix2 p q) = ix2 r q := by
  obtain ⟨v, hv⟩ := r
  obtain rfl : v = t.val * 512 + p.val := hr
  blk_ext [idx10 t]

theorem at10 (c : Dev nD) (t : Fin cfg0.N) (y) : iblk m c 10 t y = V m c main_v99 (((cfg0.win 10).blk t).view.emb y) := rfl

theorem read_vb (c : Dev nD) (t : Fin cfg0.N) (p : Fin 512) (r : Fin 16384) (hr : r.val = t.val * 512 + p.val) (q : Fin 512) : iblk m c 10 t (ix2 p q) = (m ((c : Thread nD τ).loc main_arg11)) (ix2 r q) := by
  rw [at10, emb10 t p r hr q]
  entry_read
  pointwise []

theorem emb11 (t : Fin cfg0.N) (p : Fin 512) (r : Fin 16384) (hr : r.val = t.val * 512 + p.val) (q : Fin 512) : ((cfg0.win 11).blk t).view.emb (ix2 p q) = ix2 r q := by
  obtain ⟨v, hv⟩ := r
  obtain rfl : v = t.val * 512 + p.val := hr
  blk_ext [idx11 t]

theorem at11 (c : Dev nD) (t : Fin cfg0.N) (y) : iblk m c 11 t y = (m ((c : Thread nD τ).loc main_arg12)) (((cfg0.win 11).blk t).view.emb y) :=
  congrFun (V_main_arg12 m c) _

theorem read_rg (c : Dev nD) (t : Fin cfg0.N) (p : Fin 512) (r : Fin 16384) (hr : r.val = t.val * 512 + p.val) (q : Fin 512) : iblk m c 11 t (ix2 p q) = (m ((c : Thread nD τ).loc main_arg12)) (ix2 r q) :=
  (at11 m c t _).trans (congrArg (m ((c : Thread nD τ).loc main_arg12)) (emb11 t p r hr q))

theorem emb12 (t : Fin cfg0.N) (p : Fin 512) (r : Fin 16384) (hr : r.val = t.val * 512 + p.val) (q : Fin 1024) : ((cfg0.win 12).blk t).view.emb (ix2 p q) = ix2 r q := by
  obtain ⟨v, hv⟩ := r
  obtain rfl : v = t.val * 512 + p.val := hr
  blk_ext [idx12 t]

theorem at12 (c : Dev nD) (t : Fin cfg0.N) (y) : iblk m c 12 t y = (m ((c : Thread nD τ).loc main_arg13)) (((cfg0.win 12).blk t).view.emb y) :=
  congrFun (V_main_arg13 m c) _

theorem read_ga (c : Dev nD) (t : Fin cfg0.N) (p : Fin 512) (r : Fin 16384) (hr : r.val = t.val * 512 + p.val) (q : Fin 1024) : iblk m c 12 t (ix2 p q) = (m ((c : Thread nD τ).loc main_arg13)) (ix2 r q) :=
  (at12 m c t _).trans (congrArg (m ((c : Thread nD τ).loc main_arg13)) (emb12 t p r hr q))

theorem emb13 (t : Fin cfg0.N) (p : Fin 512) (r : Fin 16384) (hr : r.val = t.val * 512 + p.val) (q : Fin 1024) : ((cfg0.win 13).blk t).view.emb (ix2 p q) = ix2 r q := by
  obtain ⟨v, hv⟩ := r
  obtain rfl : v = t.val * 512 + p.val := hr
  blk_ext [idx13 t]

theorem at13 (c : Dev nD) (t : Fin cfg0.N) (y) : iblk m c 13 t y = (m ((c : Thread nD τ).loc main_arg14)) (((cfg0.win 13).blk t).view.emb y) :=
  congrFun (V_main_arg14 m c) _

theorem read_gr (c : Dev nD) (t : Fin cfg0.N) (p : Fin 512) (r : Fin 16384) (hr : r.val = t.val * 512 + p.val) (q : Fin 1024) : iblk m c 13 t (ix2 p q) = (m ((c : Thread nD τ).loc main_arg14)) (ix2 r q) :=
  (at13 m c t _).trans (congrArg (m ((c : Thread nD τ).loc main_arg14)) (emb13 t p r hr q))

theorem emb18 (t : Fin cfg0.N) (q : Fin 512) : ((cfg0.win 18).blk t).view.emb (ix2 0 q) = ix2 0 q := by
  blk_ext [idx18 t]

theorem at18 (c : Dev nD) (t : Fin cfg0.N) (y) : iblk m c 18 t y = V m c main_v89 (((cfg0.win 18).blk t).view.emb y) := rfl

theorem emb19 (t : Fin cfg0.N) (q : Fin 128) : ((cfg0.win 19).blk t).view.emb (ix2 0 q) = ix2 0 q := by
  blk_ext [idx19 t]

theorem at19 (c : Dev nD) (t : Fin cfg0.N) (y) : iblk m c 19 t y = V m c main_v93 (((cfg0.win 19).blk t).view.emb y) := rfl

theorem emb14 (t : Fin cfg0.N) (p : Fin 512) (r : Fin 16384) (hr : r.val = t.val * 512 + p.val) (l : Fin 128) : ((cfg0.win 14).blk t).view.emb (ix2 p l) = ix2 r l := by
  obtain ⟨v, hv⟩ := r
  obtain rfl : v = t.val * 512 + p.val := hr
  blk_ext [idx14 t]

theorem at14 (c : Dev nD) (t : Fin cfg0.N) (y) : iblk m c 14 t y = V m c main_v37 (((cfg0.win 14).blk t).view.emb y) := rfl

theorem emb15 (t : Fin cfg0.N) (p : Fin 512) (r : Fin 16384) (hr : r.val = t.val * 512 + p.val) (l : Fin 128) : ((cfg0.win 15).blk t).view.emb (ix2 p l) = ix2 r l := by
  obtain ⟨v, hv⟩ := r
  obtain rfl : v = t.val * 512 + p.val := hr
  blk_ext [idx15 t]

theorem at15 (c : Dev nD) (t : Fin cfg0.N) (y) : iblk m c 15 t y = V m c main_v42 (((cfg0.win 15).blk t).view.emb y) := rfl

theorem emb16 (t : Fin cfg0.N) (p : Fin 512) (r : Fin 16384) (hr : r.val = t.val * 512 + p.val) (l : Fin 128) : ((cfg0.win 16).blk t).view.emb (ix2 p l) = ix2 r l := by
  obtain ⟨v, hv⟩ := r
  obtain rfl : v = t.val * 512 + p.val := hr
  blk_ext [idx16 t]

theorem at16 (c : Dev nD) (t : Fin cfg0.N) (y) : iblk m c 16 t y = V m c main_v80 (((cfg0.win 16).blk t).view.emb y) := rfl

theorem emb17 (t : Fin cfg0.N) (p : Fin 512) (r : Fin 16384) (hr : r.val = t.val * 512 + p.val) (l : Fin 128) : ((cfg0.win 17).blk t).view.emb (ix2 p l) = ix2 r l := by
  obtain ⟨v, hv⟩ := r
  obtain rfl : v = t.val * 512 + p.val := hr
  blk_ext [idx17 t]

theorem at17 (c : Dev nD) (t : Fin cfg0.N) (y) : iblk m c 17 t y = V m c main_v85 (((cfg0.win 17).blk t).view.emb y) := rfl

end Cert.DProjIdeal.Grad

end
-- ==== Proof.DprojTables.lean ====
module

public import proofs.«01_k».proof.Proof.Gen.DProjIdeal.Frame.Runs
public import proofs.«01_k».proof.Proof.Gen.DProjRefIdeal.Read
public import Idealize.ShloMosaic.Lib.Pipeline.ValueKit
public import Idealize.ShloMosaic.Lib.Pointwise
public import proofs.«01_k».proof.Proof.DprojRefB

@[expose] public section

set_option maxRecDepth 16384

noncomputable section

open Idealize.ShloMosaic Idealize.ShloMosaic.TcCoe Idealize.SL.Sem
open Idealize.ShloMosaic.Pipeline (Dat)

namespace Cert.DProjIdeal.Grad

open Cert.DProjIdeal Cert.DProjIdeal.Gen

variable (m : (ℓ : Loc nD τ sig) → Buf (Elt Ideal) ℓ)

open Cert.TurnMath Cert.Norm
open Cert.DProjRefIdeal.Read

section Tables

theorem ofBits_base : Ideal.ofBits .f32 1176256512#32 = ((10000 : ℝ) : EReal) := by
  simp [Ideal.ofBits, Ideal.ieee, -EReal.coe_mul]; norm_num
theorem ofBits_16 : Ideal.ofBits .f32 1098907648#32 = ((16 : ℝ) : EReal) := by
  simp [Ideal.ofBits, Ideal.ieee, -EReal.coe_mul]; norm_num
theorem ofBits_32 : Ideal.ofBits .f32 1107296256#32 = ((32 : ℝ) : EReal) := by
  simp [Ideal.ofBits, Ideal.ieee, -EReal.coe_mul]; norm_num

/-- An angle of the tables is a real number, -/
theorem angle_real (a b : BitVec 32) {d : ℝ} {w : BitVec 32} (hw : Ideal.ofBits .f32 w = (d : EReal)) (hd : d ≠ 0) :
    Real ((FloatOps.sitofp .f32 a : Ideal .f32) * Ideal.pow (Ideal.ofBits .f32 1176256512#32) (Ideal.div (-(FloatOps.sitofp .f32 b : Ideal .f32) : EReal) (Ideal.ofBits .f32 w)) : EReal) := by
  rw [ofBits_base, hw]
  have e : ∀ c : BitVec 32, (FloatOps.sitofp .f32 c : Ideal .f32) = ((c.toInt : ℝ) : EReal) := fun _ => rfl
  rw [e, e, ← EReal.coe_neg, div_real _ _ hd]
  exact Real.mul ⟨_, rfl⟩ ⟨_, rfl⟩

/-- and so are its cosine and its sine. -/
theorem cos_angle {x : EReal} : Real x → Real (Ideal.cos x) := fun ⟨a, ha⟩ => ⟨_root_.Real.cos a, by rw [ha]; rfl⟩
theorem sin_angle {x : EReal} : Real x → Real (Ideal.sin x) := fun ⟨a, ha⟩ => ⟨_root_.Real.sin a, by rw [ha]; rfl⟩

theorem wideA0 (T : FVec Ideal S16384x32 .f32) (r : Fin 16384) (l : Fin 128) :
    shapeCast main_v37.ty.shape (broadcastInDim S1x16384x2x64 ![0, 1, 2, 3] bcast_S1x16384x1x64_S1x16384x2x64_0_1_2_3 fun i =>
      shapeCast main_v35.ty.shape (concatenate S16384x64 1 [⟨S16384x32, T⟩, ⟨S16384x32, T⟩] concatenates_S16384x32_S16384x32_S16384x64_d1) shapeCasts_S16384x64_S1x16384x1x64 i) shapeCasts_S1x16384x2x64_S16384x128 (ix2 r l)
    = T (ix2 r ⟨l.val % 32, by omega⟩) := by
  pointwise []
  have hl := l.isLt
  have hk := r.isLt
  split_ifs
  all_goals first
    | (exfalso; omega)
    | exact congrArg (fun j => T (ix2 r j)) (Fin.ext (by dsimp only; omega))
    | exact congrArg (fun j => (- T (ix2 r j) : EReal)) (Fin.ext (by dsimp only; omega))

theorem wideA1 (T : FVec Ideal S16384x32 .f32) (r : Fin 16384) (l : Fin 128) :
    shapeCast main_v42.ty.shape (broadcastInDim S1x16384x2x64 ![0, 1, 2, 3] bcast_S1x16384x1x64_S1x16384x2x64_0_1_2_3 fun i =>
      shapeCast main_v40.ty.shape (concatenate S16384x64 1 [⟨S16384x32, Host.negf T⟩, ⟨S16384x32, T⟩] concatenates_S16384x32_S16384x32_S16384x64_d1) shapeCasts_S16384x64_S1x16384x1x64 i) shapeCasts_S1x16384x2x64_S16384x128 (ix2 r l)
    = (if l.val % 64 < 32 then - T (ix2 r ⟨l.val % 32, by omega⟩) else T (ix2 r ⟨l.val % 32, by omega⟩) : EReal) := by
  pointwise []
  have hl := l.isLt
  have hk := r.isLt
  split_ifs
  all_goals first
    | (exfalso; omega)
    | exact congrArg (fun j => T (ix2 r j)) (Fin.ext (by dsimp only; omega))
    | exact congrArg (fun j => (- T (ix2 r j) : EReal)) (Fin.ext (by dsimp only; omega))

theorem tabA (A : FVec Ideal S256x16 .f32) (B : FVec Ideal S64x16 .f32) (r : Fin 16384) (j : Fin 32) :
    shapeCast main_v25.ty.shape (concatenate S256x64x32 2 [⟨S256x64x16, broadcastInDim S256x64x16 ![0, 1, 2] bcast_S256x1x16_S256x64x16_0_1_2 (broadcastInDim S256x1x16 ![0, 2] bcast_S256x16_S256x1x16_0_2 A)⟩,
      ⟨S256x64x16, broadcastInDim S256x64x16 ![0, 1, 2] bcast_S1x64x16_S256x64x16_0_1_2 (broadcastInDim S1x64x16 ![1, 2] bcast_S64x16_S1x64x16_1_2 B)⟩] concatenates_S256x64x16_S256x64x16_S256x64x32_d2) shapeCasts_S256x64x32_S16384x32 (ix2 r j)
    = if h : j.val < 16 then A (ix2 ⟨r.val / 64, by omega⟩ ⟨j.val, h⟩) else B (ix2 ⟨r.val % 64, by omega⟩ ⟨j.val - 16, by omega⟩) := by
  pointwise []

theorem wideR0 (T : FVec Ideal S16384x64 .f32) (r : Fin 16384) (l : Fin 128) :
    shapeCast main_v80.ty.shape (broadcastInDim S1x16384x1x128 ![0, 1, 2, 3] bcast_S1x16384x1x128_S1x16384x1x128_0_1_2_3 fun i =>
      shapeCast main_v78.ty.shape (concatenate S16384x128 1 [⟨S16384x64, T⟩, ⟨S16384x64, T⟩] concatenates_S16384x64_S16384x64_S16384x128_d1) shapeCasts_S16384x128_S1x16384x1x128 i) shapeCasts_S1x16384x1x128_S16384x128 (ix2 r l)
    = T (ix2 r ⟨l.val % 64, by omega⟩) := by
  pointwise []
  have hl := l.isLt
  have hk := r.isLt
  split_ifs
  all_goals first
    | (exfalso; omega)
    | exact congrArg (fun j => T (ix2 r j)) (Fin.ext (by dsimp only; omega))
    | exact congrArg (fun j => (- T (ix2 r j) : EReal)) (Fin.ext (by dsimp only; omega))

theorem wideR1 (T : FVec Ideal S16384x64 .f32) (r : Fin 16384) (l : Fin 128) :
    shapeCast main_v85.ty.shape (broadcastInDim S1x16384x1x128 ![0, 1, 2, 3] bcast_S1x16384x1x128_S1x16384x1x128_0_1_2_3 fun i =>
      shapeCast main_v83.ty.shape (concatenate S16384x128 1 [⟨S16384x64, Host.negf T⟩, ⟨S16384x64, T⟩] concatenates_S16384x64_S16384x64_S16384x128_d1) shapeCasts_S16384x128_S1x16384x1x128 i) shapeCasts_S1x16384x1x128_S16384x128 (ix2 r l)
    = (if l.val % 128 < 64 then - T (ix2 r ⟨l.val % 64, by omega⟩) else T (ix2 r ⟨l.val % 64, by omega⟩) : EReal) := by
  pointwise []
  have hl := l.isLt
  rw [show l.val % 128 = l.val from Nat.mod_eq_of_lt hl]
  split_ifs
  all_goals first
    | (exfalso; omega)
    | exact congrArg (fun j => T (ix2 r j)) (Fin.ext (by dsimp only; omega))
    | exact congrArg (fun j => (- T (ix2 r j) : EReal)) (Fin.ext (by dsimp only; omega))

theorem tabR (A : FVec Ideal S256x32 .f32) (B : FVec Ideal S64x32 .f32) (r : Fin 16384) (j : Fin 64) :
    shapeCast main_v68.ty.shape (concatenate S256x64x64 2 [⟨S256x64x32, broadcastInDim S256x64x32 ![0, 1, 2] bcast_S256x1x32_S256x64x32_0_1_2 (broadcastInDim S256x1x32 ![0, 2] bcast_S256x32_S256x1x32_0_2 A)⟩,
      ⟨S256x64x32, broadcastInDim S256x64x32 ![0, 1, 2] bcast_S1x64x32_S256x64x32_0_1_2 (broadcastInDim S1x64x32 ![1, 2] bcast_S64x32_S1x64x32_1_2 B)⟩] concatenates_S256x64x32_S256x64x32_S256x64x64_d2) shapeCasts_S256x64x64_S16384x64 (ix2 r j)
    = if h : j.val < 32 then A (ix2 ⟨r.val / 64, by omega⟩ ⟨j.val, h⟩) else B (ix2 ⟨r.val % 64, by omega⟩ ⟨j.val - 32, by omega⟩) := by
  pointwise []

theorem table_cosA (c : Dev nD) (r : Fin 16384) (l : Fin 128) : V m c main_v37 (ix2 r l) = cosA r ⟨l.val % 32, by omega⟩ := by
  entry_read
  refine (wideA0 _ r l).trans ?_

  all_goals
    refine (tabA _ _ r _).trans ?_
    unfold cosA
    pointwise [val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
    split_ifs <;> rfl

theorem cosA_real (r j) : Real (cosA r j) := by
  unfold cosA
  pointwise [val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
  split_ifs
  · exact cos_angle (angle_real _ _ ofBits_16 (by norm_num))
  · exact cos_angle (angle_real _ _ ofBits_16 (by norm_num))

theorem table_sinA (c : Dev nD) (r : Fin 16384) (l : Fin 128) : V m c main_v42 (ix2 r l) = (if l.val % 64 < 32 then - sinA r ⟨l.val % 32, by omega⟩ else sinA r ⟨l.val % 32, by omega⟩ : EReal) := by
  entry_read
  refine (wideA1 _ r l).trans ?_
  refine if_congr Iff.rfl (congrArg (fun z : EReal => -z) ?_) ?_
  all_goals
    refine (tabA _ _ r _).trans ?_
    unfold sinA
    pointwise [val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
    split_ifs <;> rfl

theorem sinA_real (r j) : Real (sinA r j) := by
  unfold sinA
  pointwise [val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
  split_ifs
  · exact sin_angle (angle_real _ _ ofBits_16 (by norm_num))
  · exact sin_angle (angle_real _ _ ofBits_16 (by norm_num))

theorem table_cosR (c : Dev nD) (r : Fin 16384) (l : Fin 128) : V m c main_v80 (ix2 r l) = cosR r ⟨l.val % 64, by omega⟩ := by
  entry_read
  refine (wideR0 _ r l).trans ?_

  all_goals
    refine (tabR _ _ r _).trans ?_
    unfold cosR
    pointwise [val_main_cst, val_main_cst_0, val_main_cst_1, val_main_cst_2, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51]
    split_ifs <;> rfl

theorem cosR_real (r j) : Real (cosR r j) := by
  unfold cosR
  pointwise [val_main_cst, val_main_cst_0, val_main_cst_1, val_main_cst_2, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51]
  split_ifs
  · exact cos_angle (angle_real _ _ ofBits_32 (by norm_num))
  · exact cos_angle (angle_real _ _ ofBits_32 (by norm_num))

theorem table_sinR (c : Dev nD) (r : Fin 16384) (l : Fin 128) : V m c main_v85 (ix2 r l) = (if l.val % 128 < 64 then - sinR r ⟨l.val % 64, by omega⟩ else sinR r ⟨l.val % 64, by omega⟩ : EReal) := by
  entry_read
  refine (wideR1 _ r l).trans ?_
  refine if_congr Iff.rfl (congrArg (fun z : EReal => -z) ?_) ?_
  all_goals
    refine (tabR _ _ r _).trans ?_
    unfold sinR
    pointwise [val_main_cst, val_main_cst_0, val_main_cst_1, val_main_cst_2, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51]
    split_ifs <;> rfl

theorem sinR_real (r j) : Real (sinR r j) := by
  unfold sinR
  pointwise [val_main_cst, val_main_cst_0, val_main_cst_1, val_main_cst_2, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51]
  split_ifs
  · exact sin_angle (angle_real _ _ ofBits_32 (by norm_num))
  · exact sin_angle (angle_real _ _ ofBits_32 (by norm_num))

end Tables

theorem gain_89 (c : Dev nD) (q : Fin 512) : V m c main_v89 (ix2 0 q) = (m ((c : Thread nD τ).loc main_arg1)) (ix1 ⟨q.val % 64, by omega⟩) := by
  entry_read
  pointwise []

theorem gain_93 (c : Dev nD) (q : Fin 128) : V m c main_v93 (ix2 0 q) = (m ((c : Thread nD τ).loc main_arg2)) (ix1 ⟨q.val % 64, by omega⟩) := by
  entry_read
  pointwise []

end Cert.DProjIdeal.Grad

end
-- ==== Proof.DprojTiles.lean ====
module

public import proofs.«01_k».proof.Proof.Gen.DProjIdeal.Frame.Runs
public import proofs.«01_k».proof.Proof.Gen.DProjRefIdeal.Read
public import Idealize.ShloMosaic.Lib.Pipeline.ValueKit
public import Idealize.ShloMosaic.Lib.Pointwise
public import proofs.«01_k».proof.Proof.TurnMath

@[expose] public section

set_option maxRecDepth 16384

noncomputable section

open Idealize.ShloMosaic Idealize.ShloMosaic.TcCoe Idealize.SL.Sem
open Idealize.ShloMosaic.Pipeline (Dat)

namespace Cert.DProjIdeal.Grad

open Cert.DProjIdeal Cert.DProjIdeal.Gen

variable (m : (ℓ : Loc nD τ sig) → Buf (Elt Ideal) ℓ)

open Cert.TurnMath Cert.Norm

section Store

/-- A store of some columns of a tile, read at a place: the stored value in those columns, the earlier stores elsewhere. -/
theorem canon_step (o w : ℕ) (inb) (pay : (⟨2, ![512, w]⟩ : Shape).Idx → Elt Ideal .bf16) (L : List (View.Piece (Elt Ideal) S512x4864 .bf16)) (p : Fin 512) (q : Fin 4864) :
    View.canon ((⟨Rect.unit ![0, o] ![512, w] inb, pay⟩ : View.Piece (Elt Ideal) S512x4864 .bf16) :: L) (ix2 p q)
    = if h : o ≤ q.val ∧ q.val < o + w then pay (ix2 p ⟨q.val - o, by omega⟩) else View.canon L (ix2 p q) := by
  split_ifs with h
  · have he : (Rect.unit (s := S512x4864) ![0, o] ![512, w] inb).emb (ix2 p ⟨q.val - o, by omega⟩) = ix2 p q :=
      funext fun a => Fin.ext (match a with
        | ⟨0, _⟩ => by show 0 + 1 * p.val = p.val; omega
        | ⟨1, _⟩ => by show o + 1 * (q.val - o) = q.val; omega)
    rw [← he]
    exact View.canon_cons_emb _ _ _ _
  · rw [View.canon_cons_of_not_mem]
    rw [Rect.mem_set_unit]
    intro hall
    exact h (hall (1 : Fin 2))

/-- The tile's nine stores, side by side. -/
theorem canon_rows (aq : FVec Ideal S512x512 .bf16) (ak : FVec Ideal S512x128 .bf16) (av : FVec Ideal S512x128 .bf16) (rq : FVec Ideal S512x512 .bf16) (rk : FVec Ideal S512x512 .bf16) (rv : FVec Ideal S512x512 .bf16) (rg : FVec Ideal S512x512 .bf16) (ga : FVec Ideal S512x1024 .bf16) (gr : FVec Ideal S512x1024 .bf16)
    (G : Fin 4864 → EReal) (p : Fin 512)
    (h_aq : ∀ n : Fin 512, aq (ix2 p n) = G ⟨0 + n.val, by omega⟩)
    (h_ak : ∀ n : Fin 128, ak (ix2 p n) = G ⟨512 + n.val, by omega⟩)
    (h_av : ∀ n : Fin 128, av (ix2 p n) = G ⟨640 + n.val, by omega⟩)
    (h_rq : ∀ n : Fin 512, rq (ix2 p n) = G ⟨768 + n.val, by omega⟩)
    (h_rk : ∀ n : Fin 512, rk (ix2 p n) = G ⟨1280 + n.val, by omega⟩)
    (h_rv : ∀ n : Fin 512, rv (ix2 p n) = G ⟨1792 + n.val, by omega⟩)
    (h_rg : ∀ n : Fin 512, rg (ix2 p n) = G ⟨2304 + n.val, by omega⟩)
    (h_ga : ∀ n : Fin 1024, ga (ix2 p n) = G ⟨2816 + n.val, by omega⟩)
    (h_gr : ∀ n : Fin 1024, gr (ix2 p n) = G ⟨3840 + n.val, by omega⟩) (q : Fin 4864) :
    View.canon (Val := Elt Ideal) (e := .bf16) [⟨Rect.unit ![0, 3840] ![512, 1024] inb_S512x4864_S512x1024_0_3840, gr⟩,
        ⟨Rect.unit ![0, 2816] ![512, 1024] inb_S512x4864_S512x1024_0_2816, ga⟩,
        ⟨Rect.unit ![0, 2304] ![512, 512] inb_S512x4864_S512x512_0_2304, rg⟩,
        ⟨Rect.unit ![0, 1792] ![512, 512] inb_S512x4864_S512x512_0_1792, rv⟩,
        ⟨Rect.unit ![0, 1280] ![512, 512] inb_S512x4864_S512x512_0_1280, rk⟩,
        ⟨Rect.unit ![0, 768] ![512, 512] inb_S512x4864_S512x512_0_768, rq⟩,
        ⟨Rect.unit ![0, 640] ![512, 128] inb_S512x4864_S512x128_0_640, av⟩,
        ⟨Rect.unit ![0, 512] ![512, 128] inb_S512x4864_S512x128_0_512, ak⟩,
        ⟨Rect.unit ![0, 0] ![512, 512] inb_S512x4864_S512x512_0_0, aq⟩] (ix2 p q) = G q := by
  refine (canon_step 3840 1024 _ gr _ p q).trans ?_
  split_ifs with h3840
  · exact (h_gr ⟨q.val - 3840, by omega⟩).trans (congrArg G (Fin.ext (by dsimp only; omega)))
  refine (canon_step 2816 1024 _ ga _ p q).trans ?_
  split_ifs with h2816
  · exact (h_ga ⟨q.val - 2816, by omega⟩).trans (congrArg G (Fin.ext (by dsimp only; omega)))
  refine (canon_step 2304 512 _ rg _ p q).trans ?_
  split_ifs with h2304
  · exact (h_rg ⟨q.val - 2304, by omega⟩).trans (congrArg G (Fin.ext (by dsimp only; omega)))
  refine (canon_step 1792 512 _ rv _ p q).trans ?_
  split_ifs with h1792
  · exact (h_rv ⟨q.val - 1792, by omega⟩).trans (congrArg G (Fin.ext (by dsimp only; omega)))
  refine (canon_step 1280 512 _ rk _ p q).trans ?_
  split_ifs with h1280
  · exact (h_rk ⟨q.val - 1280, by omega⟩).trans (congrArg G (Fin.ext (by dsimp only; omega)))
  refine (canon_step 768 512 _ rq _ p q).trans ?_
  split_ifs with h768
  · exact (h_rq ⟨q.val - 768, by omega⟩).trans (congrArg G (Fin.ext (by dsimp only; omega)))
  refine (canon_step 640 128 _ av _ p q).trans ?_
  split_ifs with h640
  · exact (h_av ⟨q.val - 640, by omega⟩).trans (congrArg G (Fin.ext (by dsimp only; omega)))
  refine (canon_step 512 128 _ ak _ p q).trans ?_
  split_ifs with h512
  · exact (h_ak ⟨q.val - 512, by omega⟩).trans (congrArg G (Fin.ext (by dsimp only; omega)))
  refine (canon_step 0 512 _ aq _ p q).trans ?_
  split_ifs with h0
  · exact (h_aq ⟨q.val - 0, by omega⟩).trans (congrArg G (Fin.ext (by dsimp only; omega)))
  have hq := q.isLt
  omega

end Store

end Cert.DProjIdeal.Grad

end
-- ==== Proof.DprojBlocks.lean ====
module

public import proofs.«01_k».proof.Proof.Gen.DProjIdeal.Frame.Runs
public import proofs.«01_k».proof.Proof.Gen.DProjRefIdeal.Read
public import Idealize.ShloMosaic.Lib.Pipeline.ValueKit
public import Idealize.ShloMosaic.Lib.Pointwise
public import proofs.«01_k».proof.Proof.DprojReads
public import proofs.«01_k».proof.Proof.DprojTables
public import proofs.«01_k».proof.Proof.DprojTiles
public import proofs.«01_k».proof.Proof.RowStore

@[expose] public section

set_option maxRecDepth 16384

noncomputable section

open Idealize.ShloMosaic Idealize.ShloMosaic.TcCoe Idealize.SL.Sem
open Idealize.ShloMosaic.Pipeline (Dat)

namespace Cert.DProjIdeal.Grad

open Cert.DProjIdeal Cert.DProjIdeal.Gen

variable (m : (ℓ : Loc nD τ sig) → Buf (Elt Ideal) ℓ)

open Cert.TurnMath Cert.Norm
open Cert.DProjRefIdeal.Read

/-- What a point's norms read: the queries' and the keys' columns, their cotangents turned back, and the gains. -/
def xq (c : Dev nD) (t : Fin cfg0.N) : FVec Ideal S512x512 .f32 := k0_pay6 (X0_0 m c t)
def yq (c : Dev nD) (t : Fin cfg0.N) : FVec Ideal S512x512 .f32 := k0_pay18 (k0_pay14 (iblk m c 14 t)) (k0_pay15 (iblk m c 15 t)) (iblk m c 2 t)
def gq (c : Dev nD) (t : Fin cfg0.N) : FVec Ideal S1x512 .f32 := k0_pay19 (iblk m c 18 t)
def xk (c : Dev nD) (t : Fin cfg0.N) : FVec Ideal S512x128 .f32 := k0_pay7 (iblk m c 1 t)
def yk (c : Dev nD) (t : Fin cfg0.N) : FVec Ideal S512x128 .f32 := k0_pay42 (k0_pay14 (iblk m c 14 t)) (k0_pay15 (iblk m c 15 t)) (k0_pay41 (iblk m c 3 t))
def gk (c : Dev nD) (t : Fin cfg0.N) : FVec Ideal S1x128 .f32 := k0_pay43 (iblk m c 19 t)

/-- The reference's gradient of the projection. -/
abbrev Out (c : Dev nD) : FVec Ideal S16384x4864 .bf16 := val_main_v297 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The query heads' norm gradient over a tile. -/
def normRow (x : FVec Ideal S512x512 .f32) (dy : FVec Ideal S512x512 .f32) (gn : FVec Ideal S1x512 .f32) : FVec Ideal S512x512 .f32 := k0_pay39 (F := Ideal) (k0_pay30 (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29) (k0_pay31 x (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29) (k0_pay32 dy gn) (k0_pay33 x dy gn (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29) (k0_pay34 x dy gn (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29) k0_pay36 (k0_pay37 x dy gn (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29) (k0_pay38 x dy gn (k0_pay24 (k0_pay21 x) (k0_pay22 x) (iota .tc S512x128 32 [1] iota_S512x128_d1_w32) k0_pay23) (k0_pay25 (k0_pay20 x)) (k0_pay26 (k0_pay20 x)) (k0_pay27 (k0_pay20 x)) (k0_pay28 (k0_pay20 x)) (iota .tc S512x128 32 [1] iota_S512x128_d1_w32) k0_pay29)

/-- The arguments that the norms' derivatives read are real numbers. -/
def Tame (c : Dev nD) : Prop :=
  (∀ i, Cert.Norm.Real (m ((c : Thread nD τ).loc main_arg0) i)) ∧ (∀ i, Cert.Norm.Real (m ((c : Thread nD τ).loc main_arg1) i)) ∧ (∀ i, Cert.Norm.Real (m ((c : Thread nD τ).loc main_arg2) i)) ∧ (∀ i, Cert.Norm.Real (m ((c : Thread nD τ).loc main_arg3) i)) ∧ (∀ i, Cert.Norm.Real (m ((c : Thread nD τ).loc main_arg4) i))

theorem ofBits_eighth : Ideal.ofBits .f32 0x3E000000#32 = ((1 / 8 : ℝ) : EReal) := by
  simp [Ideal.ofBits, Ideal.ieee, -EReal.coe_mul]; norm_num
theorem ofBits_ln : Ideal.ofBits .f32 0x3F317218#32 = ((11629080 / 2 ^ 24 : ℝ) : EReal) := by
  simp [Ideal.ofBits, Ideal.ieee, -EReal.coe_mul]; norm_num

theorem gq_apply (c : Dev nD) (t : Fin cfg0.N) (q) : gq m c t (ix2 0 q) = (m ((c : Thread nD τ).loc main_arg1)) (ix1 ⟨q.val % 64, by omega⟩) := by
  refine Eq.trans ?_ (((at18 m c t _).trans (congrArg (V m c main_v89) (emb18 t q))).trans (gain_89 m c q))
  unfold gq
  pointwise [k0_pay19]

theorem gk_apply (c : Dev nD) (t : Fin cfg0.N) (q) : gk m c t (ix2 0 q) = (m ((c : Thread nD τ).loc main_arg2)) (ix1 ⟨q.val % 64, by omega⟩) := by
  refine Eq.trans ?_ (((at19 m c t _).trans (congrArg (V m c main_v93) (emb19 t q))).trans (gain_93 m c q))
  unfold gk
  pointwise [k0_pay43]

section Columns

variable (c : Dev nD) (t : Fin cfg0.N) (p : Fin 512) (r : Fin 16384) (hr : r.val = t.val * 512 + p.val)

include hr

theorem xq_apply (q) : xq m c t (ix2 p q) = (m ((c : Thread nD τ).loc main_arg0)) (ix2 r ⟨q.val, by omega⟩) := by
  refine Eq.trans ?_ (read_q m c t p r hr q)
  unfold xq
  pointwise [k0_pay6]

theorem xk_apply (q) : xk m c t (ix2 p q) = (m ((c : Thread nD τ).loc main_arg0)) (ix2 r ⟨512 + q.val, by omega⟩) := by
  refine Eq.trans ?_ (read_k m c t p r hr q)
  unfold xk
  pointwise [k0_pay7]

theorem cosA_tile (l : Fin 128) : k0_pay14 (F := Ideal) (iblk m c 14 t) (ix2 p l) = cosA r ⟨l.val % 32, by omega⟩ := by
  refine Eq.trans ?_ (((at14 m c t _).trans (congrArg (V m c main_v37) (emb14 t p r hr l))).trans (table_cosA m c r l))
  pointwise [k0_pay14]

theorem sinA_tile (l : Fin 128) : k0_pay15 (F := Ideal) (iblk m c 15 t) (ix2 p l) = if l.val % 64 < 32 then -sinA r ⟨l.val % 32, by omega⟩ else sinA r ⟨l.val % 32, by omega⟩ := by
  refine Eq.trans ?_ (((at15 m c t _).trans (congrArg (V m c main_v42) (emb15 t p r hr l))).trans (table_sinA m c r l))
  pointwise [k0_pay15]

theorem cosR_tile (l : Fin 128) : (iblk m c 16 t) (ix2 p l) = cosR r ⟨l.val % 64, by omega⟩ := by
  refine Eq.trans ?_ (((at16 m c t _).trans (congrArg (V m c main_v80) (emb16 t p r hr l))).trans (table_cosR m c r l))
  rfl

theorem sinR_tile (l : Fin 128) : (iblk m c 17 t) (ix2 p l) = if l.val % 128 < 64 then -sinR r ⟨l.val % 64, by omega⟩ else sinR r ⟨l.val % 64, by omega⟩ := by
  refine Eq.trans ?_ (((at17 m c t _).trans (congrArg (V m c main_v85) (emb17 t p r hr l))).trans (table_sinR m c r l))
  rfl

theorem yq_apply (h k) : yq m c t (ix2 p (head (by decide : (512 : ℕ) = 8 * 64) h k)) = val_main_v273 (F := Ideal) (m ((c : Thread nD τ).loc main_arg3)) (ix3 r h k) := by
  rw [ref_q_turned]
  refine (turn_q _ _ p _ (cosA r) (sinA r) (cosA_tile m c t p r hr) (sinA_tile m c t p r hr) h k).trans ?_
  refine congrArg (fun f => turned (by decide : 64 = 2 * 32) f (cosA r) (sinA r) k) (funext fun j => ?_)
  refine congrArg (fun z : EReal => z * _) ((read_dq m c t p _).trans ?_)
  have e1 : (⟨t.val, t.isLt⟩ : Fin 32) = ⟨r.val / 512, by omega⟩ := Fin.ext (by show t.val = r.val / 512; omega)
  have e2 : p = (⟨r.val % 512, by omega⟩ : Fin 512) := Fin.ext (by show p.val = r.val % 512; omega)
  exact congrArg₂ (fun a b => (m ((c : Thread nD τ).loc main_arg3)) (ix3 a _ b)) e1 e2

theorem yk_apply (h k) : yk m c t (ix2 p (head (by decide : (128 : ℕ) = 2 * 64) h k)) = val_main_v234 (F := Ideal) (m ((c : Thread nD τ).loc main_arg4)) (ix3 r h k) := by
  rw [ref_k_turned]
  refine (turn_k _ _ p _ (cosA r) (sinA r) (cosA_tile m c t p r hr) (sinA_tile m c t p r hr) h k).trans ?_
  refine congrArg (fun f => turned (by decide : 64 = 2 * 32) f (cosA r) (sinA r) k) (funext fun j => ?_)
  exact congrArg (fun z : EReal => z * _) (Finset.sum_congr rfl fun a _ => read_dk m c t p r hr a _)

theorem part_q (h) : part (xq m c t) p h = qpart (m ((c : Thread nD τ).loc main_arg0)) r h :=
  funext fun k => xq_apply m c t p r hr _

theorem part_k (h) : partShort (xk m c t) p h = kpart (m ((c : Thread nD τ).loc main_arg0)) r h :=
  funext fun k => xk_apply m c t p r hr _

variable (ht : Tame m c)

include ht

omit hr in
theorem v273_real (h k) : Real (val_main_v273 (F := Ideal) (m ((c : Thread nD τ).loc main_arg3)) (ix3 r h k)) := by
  rw [ref_q_turned]
  exact turned_real _ (fun _ => (ht.2.2.2.1 _).mul ⟨_, ofBits_eighth⟩) (cosA_real r) (sinA_real r) k

omit hr in
theorem v234_real (h k) : Real (val_main_v234 (F := Ideal) (m ((c : Thread nD τ).loc main_arg4)) (ix3 r h k)) := by
  rw [ref_k_turned]
  exact turned_real _ (fun _ => (Real.sum _ fun _ => ht.2.2.2.2 _).mul ⟨_, ofBits_ln⟩) (cosA_real r) (sinA_real r) k

theorem xq_real (q) : Real (xq m c t (ix2 p q)) := by
  rw [xq_apply m c t p r hr]; exact ht.1 _
theorem xk_real (q) : Real (xk m c t (ix2 p q)) := by
  rw [xk_apply m c t p r hr]; exact ht.1 _
theorem yq_real (q) : Real (yq m c t (ix2 p q)) := by
  obtain ⟨h, k, rfl⟩ := exists_head q
  rw [yq_apply m c t p r hr]; exact v273_real m c r ht h k
theorem yk_real (q) : Real (yk m c t (ix2 p q)) := by
  obtain ⟨h, k, rfl⟩ := exists_head_short q
  rw [yk_apply m c t p r hr]; exact v234_real m c r ht h k
omit hr in
theorem gq_real (q) : Real (gq m c t (ix2 0 q)) := by
  rw [gq_apply]; exact ht.2.1 _
omit hr in
theorem gk_real (q) : Real (gk m c t (ix2 0 q)) := by
  rw [gk_apply]; exact ht.2.2.1 _

theorem block_aq (n : Fin 512) : k0_pay54 (F := Ideal) (normRow (xq m c t) (yq m c t) (gq m c t)) (ix2 p n) = Out m c (ix2 r ⟨0 + n.val, by omega⟩) := by
  refine Eq.trans (by pointwise [k0_pay54] : _ = normRow (xq m c t) (yq m c t) (gq m c t) (ix2 p n)) (Eq.trans ?_ ((cols _ _ _ _ _ _ _ _ _ _ _ _ _ _ _ r).1 n).symm)
  obtain ⟨h, k, rfl⟩ := exists_head n
  refine (grad_apply (xq m c t) (yq m c t) (gq m c t) p (xq_real m c t p r hr ht) (yq_real m c t p r hr ht) (gq_real m c t ht) h k).trans ?_
  have e : val_main_v294 (F := Ideal) (m ((c : Thread nD τ).loc main_arg0)) (m ((c : Thread nD τ).loc main_arg1)) (m ((c : Thread nD τ).loc main_arg3)) (ix2 r (head (by decide : (512 : ℕ) = 8 * 64) h k)) = val_main_v293 (F := Ideal) (m ((c : Thread nD τ).loc main_arg0)) (m ((c : Thread nD τ).loc main_arg1)) (m ((c : Thread nD τ).loc main_arg3)) (ix3 r h k) := by
    pointwise [val_main_v294]
    exact congrArg₂ (fun a b => val_main_v293 (F := Ideal) (m ((c : Thread nD τ).loc main_arg0)) (m ((c : Thread nD τ).loc main_arg1)) (m ((c : Thread nD τ).loc main_arg3)) (ix3 r a b)) (Fin.ext (by show (h.val * 64 + k.val) / 64 = h.val; omega)) (Fin.ext (by show (h.val * 64 + k.val) % 64 = k.val; omega))
  rw [e, ref_q_chain, part_q m c t p r hr]
  have ef : (fun j => yq m c t (ix2 p (head (by decide : (512 : ℕ) = 8 * 64) h j)) * gq m c t (ix2 0 (head (by decide : (512 : ℕ) = 8 * 64) h j))) = fun k => val_main_v273 (F := Ideal) (m ((c : Thread nD τ).loc main_arg3)) (ix3 r h k) * (m ((c : Thread nD τ).loc main_arg1)) (ix1 k) := by
    funext j
    rw [yq_apply m c t p r hr, gq_apply]
    refine congrArg (fun i => _ * (m ((c : Thread nD τ).loc main_arg1)) (ix1 i)) (Fin.ext ?_)
    show (h.val * 64 + j.val) % 64 = j.val
    omega
  rw [ef]
  exact plain_eq (fun _ => ht.1 _) (fun j => (v273_real m c r ht h j).mul (ht.2.1 _)) k

theorem block_ak (n : Fin 128) : k0_pay55 (F := Ideal) (k0_pay51 (F := Ideal) (xk m c t) (yk m c t) (gk m c t) k0_pay45 (k0_pay47 (xk m c t)) (k0_pay48 (xk m c t))) (ix2 p n) = Out m c (ix2 r ⟨512 + n.val, by omega⟩) := by
  refine Eq.trans (by pointwise [k0_pay55] : _ = (k0_pay51 (F := Ideal) (xk m c t) (yk m c t) (gk m c t) k0_pay45 (k0_pay47 (xk m c t)) (k0_pay48 (xk m c t))) (ix2 p n)) (Eq.trans ?_ ((cols _ _ _ _ _ _ _ _ _ _ _ _ _ _ _ r).2.1 n).symm)
  obtain ⟨h, k, rfl⟩ := exists_head_short n
  refine (grad_short (xk m c t) (yk m c t) (gk m c t) p (xk_real m c t p r hr ht) (yk_real m c t p r hr ht) (gk_real m c t ht) h k).trans ?_
  have e : val_main_v255 (F := Ideal) (m ((c : Thread nD τ).loc main_arg0)) (m ((c : Thread nD τ).loc main_arg2)) (m ((c : Thread nD τ).loc main_arg4)) (ix2 r (head (by decide : (128 : ℕ) = 2 * 64) h k)) = val_main_v254 (F := Ideal) (m ((c : Thread nD τ).loc main_arg0)) (m ((c : Thread nD τ).loc main_arg2)) (m ((c : Thread nD τ).loc main_arg4)) (ix3 r h k) := by
    pointwise [val_main_v255]
    exact congrArg₂ (fun a b => val_main_v254 (F := Ideal) (m ((c : Thread nD τ).loc main_arg0)) (m ((c : Thread nD τ).loc main_arg2)) (m ((c : Thread nD τ).loc main_arg4)) (ix3 r a b)) (Fin.ext (by show (h.val * 64 + k.val) / 64 = h.val; omega)) (Fin.ext (by show (h.val * 64 + k.val) % 64 = k.val; omega))
  rw [e, ref_k_chain, part_k m c t p r hr]
  have ef : (fun j => yk m c t (ix2 p (head (by decide : (128 : ℕ) = 2 * 64) h j)) * gk m c t (ix2 0 (head (by decide : (128 : ℕ) = 2 * 64) h j))) = fun k => val_main_v234 (F := Ideal) (m ((c : Thread nD τ).loc main_arg4)) (ix3 r h k) * (m ((c : Thread nD τ).loc main_arg2)) (ix1 k) := by
    funext j
    rw [yk_apply m c t p r hr, gk_apply]
    refine congrArg (fun i => _ * (m ((c : Thread nD τ).loc main_arg2)) (ix1 i)) (Fin.ext ?_)
    show (h.val * 64 + j.val) % 64 = j.val
    omega
  rw [ef]
  exact plain_eq (fun _ => ht.1 _) (fun j => (v234_real m c r ht h j).mul (ht.2.2.1 _)) k

omit ht

theorem block_av (n : Fin 128) : k0_pay56 (F := Ideal) (iblk m c 4 t) (ix2 p n) = Out m c (ix2 r ⟨640 + n.val, by omega⟩) := by
  refine Eq.trans ?_ ((cols _ _ _ _ _ _ _ _ _ _ _ _ _ _ _ r).2.2.1 n).symm
  rw [ref_av]
  pointwise [k0_pay56]
  exact Finset.sum_congr rfl fun a _ => read_dv m c t p r hr a n

theorem block_rq (n : Fin 512) : k0_pay61 (F := Ideal) (k0_pay58 (k0_pay8 (iblk m c 5 t)) (k0_pay11 (iblk m c 8 t)) (k0_pay16 (iblk m c 16 t))) (k0_pay59 (k0_pay8 (iblk m c 5 t)) (k0_pay11 (iblk m c 8 t)) (k0_pay17 (iblk m c 17 t))) k0_pay60 (ix2 p n) = Out m c (ix2 r ⟨768 + n.val, by omega⟩) := by
  refine Eq.trans ?_ ((cols _ _ _ _ _ _ _ _ _ _ _ _ _ _ _ r).2.2.2.1 n).symm
  obtain ⟨g, k, rfl⟩ : ∃ g k, n = lane g k := ⟨⟨n.val / 128, by omega⟩, ⟨n.val % 128, by omega⟩, Fin.ext (by show n.val = n.val / 128 * 128 + n.val % 128; omega)⟩
  have e : val_main_v218 (F := Ideal) (m ((c : Thread nD τ).loc main_arg6)) (m ((c : Thread nD τ).loc main_arg9)) (ix2 r (lane g k)) = val_main_v217 (F := Ideal) (m ((c : Thread nD τ).loc main_arg6)) (m ((c : Thread nD τ).loc main_arg9)) (ix3 r g k) := by
    pointwise [val_main_v218]
    exact congrArg₂ (fun a b => val_main_v217 (F := Ideal) (m ((c : Thread nD τ).loc main_arg6)) (m ((c : Thread nD τ).loc main_arg9)) (ix3 r a b)) (Fin.ext (by show (g.val * 128 + k.val) / 128 = g.val; omega)) (Fin.ext (by show (g.val * 128 + k.val) % 128 = k.val; omega))
  rw [e, ref_rq_turned]
  refine (turn_rq _ _ p _ _ (cosR r) (sinR r) (cosR_tile m c t p r hr) (sinR_tile m c t p r hr) g k).trans ?_
  simp only [read_qf m c t p r hr, read_qb m c t p r hr]

theorem block_rk (n : Fin 512) : k0_pay62 (F := Ideal) (k0_pay9 (iblk m c 6 t)) (k0_pay12 (iblk m c 9 t)) (k0_pay16 (iblk m c 16 t)) (k0_pay17 (iblk m c 17 t)) (ix2 p n) = Out m c (ix2 r ⟨1280 + n.val, by omega⟩) := by
  refine Eq.trans ?_ ((cols _ _ _ _ _ _ _ _ _ _ _ _ _ _ _ r).2.2.2.2.1 n).symm
  obtain ⟨g, k, rfl⟩ : ∃ g k, n = lane g k := ⟨⟨n.val / 128, by omega⟩, ⟨n.val % 128, by omega⟩, Fin.ext (by show n.val = n.val / 128 * 128 + n.val % 128; omega)⟩
  have e : val_main_v199 (F := Ideal) (m ((c : Thread nD τ).loc main_arg7)) (m ((c : Thread nD τ).loc main_arg10)) (ix2 r (lane g k)) = val_main_v198 (F := Ideal) (m ((c : Thread nD τ).loc main_arg7)) (m ((c : Thread nD τ).loc main_arg10)) (ix3 r g k) := by
    pointwise [val_main_v199]
    exact congrArg₂ (fun a b => val_main_v198 (F := Ideal) (m ((c : Thread nD τ).loc main_arg7)) (m ((c : Thread nD τ).loc main_arg10)) (ix3 r a b)) (Fin.ext (by show (g.val * 128 + k.val) / 128 = g.val; omega)) (Fin.ext (by show (g.val * 128 + k.val) % 128 = k.val; omega))
  rw [e, ref_rk_turned]
  refine (turn_rk _ _ p _ _ (cosR r) (sinR r) (cosR_tile m c t p r hr) (sinR_tile m c t p r hr) g k).trans ?_
  simp only [read_kf m c t p r hr, read_kb m c t p r hr]

theorem block_rv (n : Fin 512) : k0_pay63 (F := Ideal) (k0_pay10 (iblk m c 7 t)) (k0_pay13 (iblk m c 10 t)) (ix2 p n) = Out m c (ix2 r ⟨1792 + n.val, by omega⟩) := by
  refine Eq.trans ?_ ((cols _ _ _ _ _ _ _ _ _ _ _ _ _ _ _ r).2.2.2.2.2.1 n).symm
  pointwise [k0_pay63, k0_pay10, k0_pay13]
  rw [read_vf m c t p r hr, read_vb m c t p r hr]

theorem block_rg (n : Fin 512) : k0_pay1 (F := Ideal) (iblk m c 11 t) (ix2 p n) = Out m c (ix2 r ⟨2304 + n.val, by omega⟩) := by
  refine Eq.trans ?_ ((cols _ _ _ _ _ _ _ _ _ _ _ _ _ _ _ r).2.2.2.2.2.2.1 n).symm
  pointwise [k0_pay1]
  exact read_rg m c t p r hr n

theorem block_ga (n : Fin 1024) : k0_pay2 (F := Ideal) (iblk m c 12 t) (ix2 p n) = Out m c (ix2 r ⟨2816 + n.val, by omega⟩) := by
  refine Eq.trans ?_ ((cols _ _ _ _ _ _ _ _ _ _ _ _ _ _ _ r).2.2.2.2.2.2.2.1 n).symm
  pointwise [k0_pay2]
  exact read_ga m c t p r hr n

theorem block_gr (n : Fin 1024) : k0_pay3 (F := Ideal) (iblk m c 13 t) (ix2 p n) = Out m c (ix2 r ⟨3840 + n.val, by omega⟩) := by
  refine Eq.trans ?_ ((cols _ _ _ _ _ _ _ _ _ _ _ _ _ _ _ r).2.2.2.2.2.2.2.2 n).symm
  pointwise [k0_pay3]
  exact read_gr m c t p r hr n

end Columns

end Cert.DProjIdeal.Grad

end
-- ==== Proof.DprojRunA.lean ====
module

public import proofs.«01_k».proof.Proof.Gen.DProjIdeal.Frame.Runs

@[expose] public section

-- membership in a rectangle of production extents (`View.cover_of_tiled`): the elaborator's structural look
-- recurses once per coordinate of the long axes
set_option maxRecDepth 16384

noncomputable section

namespace Cert.DProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave in the staging memrefs of the outputs, as pieces, last first, with the proof that the body run on whole
    staging memrefs reaches the continuation with the inputs as they were and those pieces written (first point). -/
noncomputable def kernelRun0_A (c : Dev nD) (i : grid0.Coords) (arg1 : Memref sig .tc .vmem S512x512 .bf16) (harg1 : arg1.IsWhole) (arg2 : Memref sig .tc .vmem S512x128 .bf16) (harg2 : arg2.IsWhole) (arg3 : Memref sig .tc .vmem S1x512x512 .f32) (harg3 : arg3.IsWhole) (arg4 : Memref sig .tc .vmem S8x512x128 .bf16) (harg4 : arg4.IsWhole) (arg5 : Memref sig .tc .vmem S8x512x128 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S1x512 .f32) (harg19 : arg19.IsWhole) (arg20 : Memref sig .tc .vmem S1x128 .f32) (harg20 : arg20.IsWhole) (arg21 : Memref sig .tc .vmem S512x4864 .bf16) (harg21 : arg21.IsWhole) (arg22 : Memref sig .tc .vmem S8x512 .f32) (harg22 : arg22.IsWhole) (arg23 : Memref sig .tc .vmem S8x128 .f32) (harg23 : arg23.IsWhole) (hc0 : cond0_0 i)
    (x0 : Vec F S512x512 .bf16) (x1 : Vec F S512x128 .bf16) (x2 : Vec F S1x512x512 .f32) (x3 : Vec F S8x512x128 .bf16) (x4 : Vec F S8x512x128 .bf16) (x5 : Vec F S512x512 .bf16) (x6 : Vec F S512x512 .bf16) (x7 : Vec F S512x512 .bf16) (x8 : Vec F S512x512 .bf16) (x9 : Vec F S512x512 .bf16) (x10 : Vec F S512x512 .bf16) (x11 : Vec F S512x512 .bf16) (x12 : Vec F S512x1024 .bf16) (x13 : Vec F S512x1024 .bf16) (x14 : Vec F S512x128 .f32) (x15 : Vec F S512x128 .f32) (x16 : Vec F S512x128 .f32) (x17 : Vec F S512x128 .f32) (x18 : Vec F S1x512 .f32) (x19 : Vec F S1x128 .f32) :
    Σ' (L20 : List (View.Piece (Elt F) S512x4864 .bf16)), Σ' (L21 : List (View.Piece (Elt F) S8x512 .f32)), { L22 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22)) -∗ K ⟨⟩))
          ⊢ wp frame (wpE (defs₀ (F := F)) Variants.none c none) E (cc0_dproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    simp only [cc0_dproj_eq_skeleton]; unfold cc0_dproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]; · iexists _; iexact H20
    isplitl [H21]; · iexists _; iexact H21
    iexists _; iexact H22

end Cert.DProjIdeal.Gen

end
-- ==== Proof.DprojRunB.lean ====
module

public import proofs.«01_k».proof.Proof.Gen.DProjIdeal.Frame.Runs

@[expose] public section

-- membership in a rectangle of production extents (`View.cover_of_tiled`): the elaborator's structural look
-- recurses once per coordinate of the long axes
set_option maxRecDepth 16384

noncomputable section

namespace Cert.DProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave in the staging memrefs of the outputs, as pieces, last first, with the proof that the body run on whole
    staging memrefs reaches the continuation with the inputs as they were and those pieces written (a later point). -/
noncomputable def kernelRun0_B (c : Dev nD) (i : grid0.Coords) (arg1 : Memref sig .tc .vmem S512x512 .bf16) (harg1 : arg1.IsWhole) (arg2 : Memref sig .tc .vmem S512x128 .bf16) (harg2 : arg2.IsWhole) (arg3 : Memref sig .tc .vmem S1x512x512 .f32) (harg3 : arg3.IsWhole) (arg4 : Memref sig .tc .vmem S8x512x128 .bf16) (harg4 : arg4.IsWhole) (arg5 : Memref sig .tc .vmem S8x512x128 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S1x512 .f32) (harg19 : arg19.IsWhole) (arg20 : Memref sig .tc .vmem S1x128 .f32) (harg20 : arg20.IsWhole) (arg21 : Memref sig .tc .vmem S512x4864 .bf16) (harg21 : arg21.IsWhole) (arg22 : Memref sig .tc .vmem S8x512 .f32) (harg22 : arg22.IsWhole) (arg23 : Memref sig .tc .vmem S8x128 .f32) (harg23 : arg23.IsWhole) (hc0 : ¬cond0_0 i)
    (x0 : Vec F S512x512 .bf16) (x1 : Vec F S512x128 .bf16) (x2 : Vec F S1x512x512 .f32) (x3 : Vec F S8x512x128 .bf16) (x4 : Vec F S8x512x128 .bf16) (x5 : Vec F S512x512 .bf16) (x6 : Vec F S512x512 .bf16) (x7 : Vec F S512x512 .bf16) (x8 : Vec F S512x512 .bf16) (x9 : Vec F S512x512 .bf16) (x10 : Vec F S512x512 .bf16) (x11 : Vec F S512x512 .bf16) (x12 : Vec F S512x1024 .bf16) (x13 : Vec F S512x1024 .bf16) (x14 : Vec F S512x128 .f32) (x15 : Vec F S512x128 .f32) (x16 : Vec F S512x128 .f32) (x17 : Vec F S512x128 .f32) (x18 : Vec F S1x512 .f32) (x19 : Vec F S1x128 .f32) (xo21 : Vec F S8x512 .f32) (xo22 : Vec F S8x128 .f32) :
    Σ' (L20 : List (View.Piece (Elt F) S512x4864 .bf16)), Σ' (L21 : List (View.Piece (Elt F) S8x512 .f32)), { L22 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ owns (c : Thread nD τ) arg22 fullShare xo21 ∗ owns (c : Thread nD τ) arg23 fullShare xo22
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (arg22.view.loc (c : Thread nD τ) ↦[arg22.view.set]{fullShare} arg22.view.writes (Elt F) (harg22.unread xo21) L21) ∗ (arg23.view.loc (c : Thread nD τ) ↦[arg23.view.set]{fullShare} arg23.view.writes (Elt F) (harg23.unread xo22) L22)) -∗ K ⟨⟩))
          ⊢ wp frame (wpE (defs₀ (F := F)) Variants.none c none) E (cc0_dproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%f21, %hf21, H21⟩, ⟨%f22, %hf22, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg22.eq_unread hf21; obtain rfl := harg23.eq_unread hf22
    simp only [cc0_dproj_eq_skeleton]; unfold cc0_dproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]; · iexists _; iexact H20
    isplitl [H21]; · iexact H21
    iexact H22

end Cert.DProjIdeal.Gen

end
-- ==== Proof.DprojFrame.lean ====
module

public import proofs.«01_k».proof.Proof.DprojRunA
public import proofs.«01_k».proof.Proof.DprojRunB
public import Idealize.ShloMosaic.Lib.Claim

@[expose] public section

-- membership in a rectangle of production extents (`View.cover_of_tiled`): the elaborator's structural look
-- recurses once per coordinate of the long axes
set_option maxRecDepth 16384

noncomputable section

namespace Cert.DProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces of each output, one case at a time -/

section Pieces

variable (c : Dev nD) (i : grid0.Coords) (arg1 : Memref sig .tc .vmem S512x512 .bf16) (harg1 : arg1.IsWhole) (arg2 : Memref sig .tc .vmem S512x128 .bf16) (harg2 : arg2.IsWhole) (arg3 : Memref sig .tc .vmem S1x512x512 .f32) (harg3 : arg3.IsWhole) (arg4 : Memref sig .tc .vmem S8x512x128 .bf16) (harg4 : arg4.IsWhole) (arg5 : Memref sig .tc .vmem S8x512x128 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S1x512 .f32) (harg19 : arg19.IsWhole) (arg20 : Memref sig .tc .vmem S1x128 .f32) (harg20 : arg20.IsWhole) (arg21 : Memref sig .tc .vmem S512x4864 .bf16) (harg21 : arg21.IsWhole) (arg22 : Memref sig .tc .vmem S8x512 .f32) (harg22 : arg22.IsWhole) (arg23 : Memref sig .tc .vmem S8x128 .f32) (harg23 : arg23.IsWhole)

section Start

variable (hc0 : cond0_0 i)
    (x0 : Vec F S512x512 .bf16) (x1 : Vec F S512x128 .bf16) (x2 : Vec F S1x512x512 .f32) (x3 : Vec F S8x512x128 .bf16) (x4 : Vec F S8x512x128 .bf16) (x5 : Vec F S512x512 .bf16) (x6 : Vec F S512x512 .bf16) (x7 : Vec F S512x512 .bf16) (x8 : Vec F S512x512 .bf16) (x9 : Vec F S512x512 .bf16) (x10 : Vec F S512x512 .bf16) (x11 : Vec F S512x512 .bf16) (x12 : Vec F S512x1024 .bf16) (x13 : Vec F S512x1024 .bf16) (x14 : Vec F S512x128 .f32) (x15 : Vec F S512x128 .f32) (x16 : Vec F S512x128 .f32) (x17 : Vec F S512x128 .f32) (x18 : Vec F S1x512 .f32) (x19 : Vec F S1x128 .f32)

/-- The pieces of one output cover its block. -/
theorem cover0_A_20 (y : S512x4864.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 x19).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 x19).1 ![512, 128] (by sl_kernel_rfl) y

/-- What case A leaves in output 20's staging buffer: its pieces read back over junk. -/
def out0_A_20 : Vec F S512x4864 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 x19).1)

/-- The pieces of one output cover its block. -/
theorem cover0_A_21 (y : S8x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 x19).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 x19).2.1 ![1, 512] (by sl_kernel_rfl) y

/-- What case A leaves in output 21's staging buffer: its pieces read back over junk. -/
def out0_A_21 : Vec F S8x512 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 x19).2.1)

/-- The pieces of one output cover its block. -/
theorem cover0_A_22 (y : S8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 x19).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 x19).2.2.1 ![1, 128] (by sl_kernel_rfl) y

/-- What case A leaves in output 22's staging buffer: its pieces read back over junk. -/
def out0_A_22 : Vec F S8x128 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 x19).2.2.1)

end Start

section Later

variable (hc0 : ¬cond0_0 i)
    (x0 : Vec F S512x512 .bf16) (x1 : Vec F S512x128 .bf16) (x2 : Vec F S1x512x512 .f32) (x3 : Vec F S8x512x128 .bf16) (x4 : Vec F S8x512x128 .bf16) (x5 : Vec F S512x512 .bf16) (x6 : Vec F S512x512 .bf16) (x7 : Vec F S512x512 .bf16) (x8 : Vec F S512x512 .bf16) (x9 : Vec F S512x512 .bf16) (x10 : Vec F S512x512 .bf16) (x11 : Vec F S512x512 .bf16) (x12 : Vec F S512x1024 .bf16) (x13 : Vec F S512x1024 .bf16) (x14 : Vec F S512x128 .f32) (x15 : Vec F S512x128 .f32) (x16 : Vec F S512x128 .f32) (x17 : Vec F S512x128 .f32) (x18 : Vec F S1x512 .f32) (x19 : Vec F S1x128 .f32) (xo21 : Vec F S8x512 .f32) (xo22 : Vec F S8x128 .f32)

/-- The pieces of one output cover its block. -/
theorem cover0_B_20 (y : S512x4864.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 x19 xo21 xo22).1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 x19 xo21 xo22).1 ![512, 128] (by sl_kernel_rfl) y

/-- What case B leaves in output 20's staging buffer: its pieces read back over junk. -/
def out0_B_20 : Vec F S512x4864 .bf16 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 x19 xo21 xo22).1)

/-- What case B leaves in output 21's staging buffer: its stores read back over what the point before left there (they do not cover the block). -/
def out0_B_21 : Vec F S8x512 .f32 :=
  arg22.view.read (Elt F) (arg22.view.writes (Elt F) (harg22.unread xo21) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 x19 xo21 xo22).2.1)

/-- What case B leaves in output 22's staging buffer: its stores read back over what the point before left there (they do not cover the block). -/
def out0_B_22 : Vec F S8x128 .f32 :=
  arg23.view.read (Elt F) (arg23.view.writes (Elt F) (harg23.unread xo22) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 x19 xo21 xo22).2.2.1)

end Later

end Pieces

/-! ## What the outputs hold after each point -/

/-- What a point that starts the sums leaves in the outputs' buffers. -/
def tileA (c : Dev nD) (t : Fin cfg0.N) (h0 : t.val % 32 = 0) : Vec F S512x4864 .bf16 × Vec F S8x512 .f32 × Vec F S8x128 .f32 := (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t))

/-- What a later point leaves, over what the point before left. -/
def tileB (c : Dev nD) (t : Fin cfg0.N) (h0 : ¬t.val % 32 = 0) (b : Vec F S512x4864 .bf16 × Vec F S8x512 .f32 × Vec F S8x128 .f32) : Vec F S512x4864 .bf16 × Vec F S8x512 .f32 × Vec F S8x128 .f32 := (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) b.2.1 b.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) b.2.1 b.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) b.2.1 b.2.2)

/-- What the outputs' buffers hold after the body at position `n`. -/
def outsAt0 (c : Dev nD) : (n : ℕ) → n < cfg0.N → Vec F S512x4864 .bf16 × Vec F S8x512 .f32 × Vec F S8x128 .f32
  | 0, hn => tileA m c ⟨0, hn⟩ (Nat.zero_mod _)
  | n + 1, hn => if h0 : (n + 1) % 32 = 0 then tileA m c ⟨n + 1, hn⟩ h0 else tileB m c ⟨n + 1, hn⟩ h0 (outsAt0 c n (Nat.lt_of_succ_lt hn))

/-- `outsAt0` at a point of case A: that case's contents. -/
theorem outsAt0_A (c : Dev nD) (t : Fin cfg0.N) (h0 : t.val % 32 = 0) :
    outsAt0 m c t.val t.isLt = (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 m c t.val t.isLt = (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t.val t.isLt).1
    | ⟨21, _⟩ => (outsAt0 m c t.val t.isLt).2.1
    | ⟨22, _⟩ => (outsAt0 m c t.val t.isLt).2.2
    | ⟨_ + 23, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = (outsAt0 m c t.val t.isLt).1 := by dsimp only [dats]
theorem after0_21 (c : Dev nD) (t : Fin cfg0.N) : (dats m 0 c).after 21 t = (outsAt0 m c t.val t.isLt).2.1 := by dsimp only [dats]
theorem after0_22 (c : Dev nD) (t : Fin cfg0.N) : (dats m 0 c).after 22 t = (outsAt0 m c t.val t.isLt).2.2 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
/-- At a point of case B output 21's current staging buffer holds what the body left at the point before: the point is
    not the first, the buffer was not written back between (`flush0_21`), the window is live and uncut (Lib/Pipeline/Frame.lean
    `Dat.before_out_kept`). -/
theorem before0_21_B (c : Dev nD) (t : Fin cfg0.N) (h0 : ¬t.val % 32 = 0) (d) :
    (dats m 0 c).before 21 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 21 rfl t (by omega) (Bool.eq_false_iff.mpr fun h => by have := (flush0_21 _).mp h; dsimp only at this; omega)
    (fun _ => rfl) (fun _ _ => rfl)]
  dsimp only [dats]
/-- At a point of case B output 22's current staging buffer holds what the body left at the point before: the point is
    not the first, the buffer was not written back between (`flush0_22`), the window is live and uncut (Lib/Pipeline/Frame.lean
    `Dat.before_out_kept`). -/
theorem before0_22_B (c : Dev nD) (t : Fin cfg0.N) (h0 : ¬t.val % 32 = 0) (d) :
    (dats m 0 c).before 22 t d = (outsAt0 m c (t.val - 1) (Nat.lt_of_le_of_lt (Nat.sub_le _ _) t.isLt)).2.2 := by
  have hN : t.val < 32 := lt_of_lt_of_eq t.isLt (show cfg0.N = 32 from N_0)
  rw [Dat.before_out_kept _ 22 rfl t (by omega) (Bool.eq_false_iff.mpr fun h => by have := (flush0_22 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 4000000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  have hN : t.val < 32 := lt_of_lt_of_eq t.isLt (show cfg0.N = 32 from N_0)
  by_cases h0 : t.val % 32 = 0
  · rw [outsAt0_A m c t h0]
    unfold out0_A_20 out0_A_21 out0_A_22; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexists _; iexact H22
    iintro ⟨H0, H1, H2, H3, H4, H5, H6, H7, H8, H9, H10, H11, H12, H13, H14, H15, H16, H17, H18, H19, ⟨%e20, H20⟩, ⟨%e21, H21⟩, ⟨%e22, H22⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]
    · unfold owns; iexists _; isplitr
      swap; · iexact H20
      ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H21]
    · unfold owns; iexists _; isplitr
      swap; · iexact H21
      ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_21_B m c t h0, before0_22_B m c t h0]
    unfold out0_B_20 out0_B_21 out0_B_22; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexact H21
    isplitl [H22]; · iexact H22
    iintro ⟨H0, H1, H2, H3, H4, H5, H6, H7, H8, H9, H10, H11, H12, H13, H14, H15, H16, H17, H18, H19, ⟨%e20, H20⟩, H21, H22⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]
    · unfold owns; iexists _; isplitr
      swap; · iexact H20
      ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H21]
    · unfold owns; iexists _; isplitr
      swap; · iexact H21
      ipureintro; rfl
    unfold owns; iexists _; isplitr
    swap; · iexact H22
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- The launch, and every counter zero after it. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- From any memory with zero counters the program ends, with its arguments as they were and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.DProjIdeal.Gen

end
-- ==== Proof.DprojValue.lean ====
module

public import proofs.«01_k».proof.Proof.Gen.DProjIdeal.Frame.Runs
public import proofs.«01_k».proof.Proof.Gen.DProjRefIdeal.Read
public import Idealize.ShloMosaic.Lib.Pipeline.ValueKit
public import Idealize.ShloMosaic.Lib.Pointwise
public import proofs.«01_k».proof.Proof.DprojBlocks
public import proofs.«01_k».proof.Proof.DprojFrame

@[expose] public section

set_option maxRecDepth 16384

noncomputable section

open Idealize.ShloMosaic Idealize.ShloMosaic.TcCoe Idealize.SL.Sem
open Idealize.ShloMosaic.Pipeline (Dat)

namespace Cert.DProjIdeal.Grad

open Cert.DProjIdeal Cert.DProjIdeal.Gen

variable (m : (ℓ : Loc nD τ sig) → Buf (Elt Ideal) ℓ)

open Cert.TurnMath Cert.Norm
open Cert.DProjRefIdeal.Read

/-- What a point adds to the gain's derivative. -/
def Term21 (c : Dev nD) (t : Fin cfg0.N) (q : Fin 512) : EReal :=
  ∑ p : Fin 512, val_main_v81 (F := Ideal) (m ((c : Thread nD τ).loc main_arg0)) (ix3 (⟨t.val * 512 + p.val, by have : t.val < 32 := t.isLt; omega⟩ : Fin 16384) (⟨q.val / 64, by omega⟩ : Fin 8) (⟨q.val % 64, by omega⟩ : Fin 64))
    * val_main_v273 (F := Ideal) (m ((c : Thread nD τ).loc main_arg3)) (ix3 (⟨t.val * 512 + p.val, by have : t.val < 32 := t.isLt; omega⟩ : Fin 16384) (⟨q.val / 64, by omega⟩ : Fin 8) (⟨q.val % 64, by omega⟩ : Fin 64))

theorem gain_rows21 (c : Dev nD) (ht : Tame m c) (t : Fin cfg0.N) (v) (q : Fin 512) : k0_pay52 (F := Ideal) (k0_pay40 (yq m c t) (k0_pay31 (xq m c t) (k0_pay24 (k0_pay21 (xq m c t)) (k0_pay22 (xq m c t)) (iota .tc S512x128 32 [1] iota_S512x128_d1_w32) k0_pay23) (k0_pay25 (k0_pay20 (xq m c t))) (k0_pay26 (k0_pay20 (xq m c t))) (k0_pay27 (k0_pay20 (xq m c t))) (k0_pay28 (k0_pay20 (xq m c t))) (iota .tc S512x128 32 [1] iota_S512x128_d1_w32) k0_pay29)) v (ix2 0 q) = v (ix2 0 q) + Term21 m c t q := by
  obtain ⟨h, k, rfl⟩ := exists_head q
  have hl : ∀ p : Fin 512, t.val * 512 + p.val < 16384 := fun p => by have : t.val < 32 := t.isLt; omega
  refine (gain_apply (xq m c t) (yq m c t) (fun p q => xq_real m c t p ⟨t.val * 512 + p.val, hl p⟩ rfl ht q) v h k).trans ?_
  refine congrArg (fun z : EReal => _ + z) (Finset.sum_congr rfl fun p _ => ?_)
  rw [yq_apply m c t p ⟨_, hl p⟩ rfl, part_q m c t p ⟨_, hl p⟩ rfl, ← ref_q_normed, mul_comm]
  have e1 : (⟨(h.val * 64 + k.val) / 64, by omega⟩ : Fin 8) = h := Fin.ext (by show (h.val * 64 + k.val) / 64 = h.val; omega)
  have e2 : (⟨(h.val * 64 + k.val) % 64, by omega⟩ : Fin 64) = k := Fin.ext (by show (h.val * 64 + k.val) % 64 = k.val; omega)
  exact (congrArg₂ (fun a b => val_main_v81 (F := Ideal) (m ((c : Thread nD τ).loc main_arg0)) (ix3 _ a b) * val_main_v273 (F := Ideal) (m ((c : Thread nD τ).loc main_arg3)) (ix3 _ a b)) e1 e2).symm

theorem gain21_A (c : Dev nD) (ht : Tame m c) (t : Fin cfg0.N) (h : t.val % 32 = 0) (r q) : (outsAt0 m c t.val t.isLt).2.1 (ix2 r q) = if r.val = 0 then 0 + Term21 m c t q else 0 := by
  rw [outsAt0_A m c t h]; frame_out
  refine (Cert.RowStore.canon _ _ _ _ r q).trans ?_
  have hz : ∀ i, k0_pay4 (F := Ideal) i = 0 := fun i => by pointwise [k0_pay4]
  refine if_congr Iff.rfl ((gain_rows21 m c ht t _ q).trans ?_) (hz _)
  rw [Cert.RowStore.load _ _ _ _ 0 rfl q, hz]

theorem gain21_B (c : Dev nD) (ht : Tame m c) (t : Fin cfg0.N) (h : ¬t.val % 32 = 0) (r q) : (outsAt0 m c t.val t.isLt).2.1 (ix2 r q)
    = if r.val = 0 then (outsAt0 m c (t.val - 1) (Nat.lt_of_le_of_lt (Nat.sub_le _ _) t.isLt)).2.1 (ix2 0 q) + Term21 m c t q else (outsAt0 m c (t.val - 1) (Nat.lt_of_le_of_lt (Nat.sub_le _ _) t.isLt)).2.1 (ix2 r q) := by
  rw [outsAt0_B m c t h]; frame_out
  refine (Cert.RowStore.write _ _ _ _ _ r q).trans ?_
  rw [View.writes_nil, (hs0_21 t).read_unread]
  refine if_congr Iff.rfl ((gain_rows21 m c ht t _ q).trans ?_) rfl
  rw [Cert.RowStore.ld _ _ 0 rfl q]

theorem sum_terms21 (c : Dev nD) (q : Fin 512) : ∑ s, Term21 m c s q = (∑ r : Fin 16384, val_main_v81 (F := Ideal) (m ((c : Thread nD τ).loc main_arg0)) (ix3 r (⟨q.val / 64, by omega⟩ : Fin 8) (⟨q.val % 64, by omega⟩ : Fin 64)) * val_main_v273 (F := Ideal) (m ((c : Thread nD τ).loc main_arg3)) (ix3 r (⟨q.val / 64, by omega⟩ : Fin 8) (⟨q.val % 64, by omega⟩ : Fin 64)) : EReal) := by
  unfold Term21
  exact Fin.sum_mul_add_congr fun s p hl => rfl

theorem final21 (c : Dev nD) (ht : Tame m c) : (dats m 0 c).arrAt 21 (cfgs 0).N = val_main_v301 (F := Ideal) (m ((c : Thread nD τ).loc main_arg0)) (m ((c : Thread nD τ).loc main_arg3)) := by
  refine (dats m 0 c).arrAt_eq_of_covers 21 _ (by decide +kernel) fun t hf y => ?_
  blk_simp
  have hy : ((cfg0.win 21).blk t).view.emb y = y := by blk_ext [idx21 t]
  rw [hy, after0_21]
  refine (Cert.RowStore.total (fun n h => (outsAt0 m c n h).2.1) 32 (Term21 m c) 0 rfl (gain21_A m c ht) (gain21_B m c ht) (by decide) t
    (by have := (flush0_21 t).mp hf; have hN : cfg0.N = 32 := rfl; omega) y).trans ?_
  obtain ⟨z, q, rfl⟩ : ∃ a b, y = ix2 a b := ⟨y 0, y 1, funext fun j => match j with | ⟨0, _⟩ => rfl | ⟨1, _⟩ => rfl⟩
  refine (if_congr Iff.rfl (sum_terms21 m c q) rfl).trans ((congrArg (fun i => val_main_v301 (F := Ideal) (m ((c : Thread nD τ).loc main_arg0)) (m ((c : Thread nD τ).loc main_arg3)) (ix2 z i)) (Fin.ext (by show q.val / 64 * 64 + q.val % 64 = q.val; omega))).symm.trans (ref_gain_q _ _ z ⟨q.val / 64, by omega⟩ ⟨q.val % 64, by omega⟩)).symm

/-- What a point adds to the gain's derivative. -/
def Term22 (c : Dev nD) (t : Fin cfg0.N) (q : Fin 128) : EReal :=
  ∑ p : Fin 512, val_main_v116 (F := Ideal) (m ((c : Thread nD τ).loc main_arg0)) (ix3 (⟨t.val * 512 + p.val, by have : t.val < 32 := t.isLt; omega⟩ : Fin 16384) (⟨q.val / 64, by omega⟩ : Fin 2) (⟨q.val % 64, by omega⟩ : Fin 64))
    * val_main_v234 (F := Ideal) (m ((c : Thread nD τ).loc main_arg4)) (ix3 (⟨t.val * 512 + p.val, by have : t.val < 32 := t.isLt; omega⟩ : Fin 16384) (⟨q.val / 64, by omega⟩ : Fin 2) (⟨q.val % 64, by omega⟩ : Fin 64))

theorem gain_rows22 (c : Dev nD) (ht : Tame m c) (t : Fin cfg0.N) (v) (q : Fin 128) : k0_pay53 (F := Ideal) (xk m c t) (yk m c t) k0_pay45 (k0_pay47 (xk m c t)) (k0_pay48 (xk m c t)) v (ix2 0 q) = v (ix2 0 q) + Term22 m c t q := by
  obtain ⟨h, k, rfl⟩ := exists_head_short q
  have hl : ∀ p : Fin 512, t.val * 512 + p.val < 16384 := fun p => by have : t.val < 32 := t.isLt; omega
  refine (gain_short (xk m c t) (yk m c t) (fun p q => xk_real m c t p ⟨t.val * 512 + p.val, hl p⟩ rfl ht q) v h k).trans ?_
  refine congrArg (fun z : EReal => _ + z) (Finset.sum_congr rfl fun p _ => ?_)
  rw [yk_apply m c t p ⟨_, hl p⟩ rfl, part_k m c t p ⟨_, hl p⟩ rfl, ← ref_k_normed, mul_comm]
  have e1 : (⟨(h.val * 64 + k.val) / 64, by omega⟩ : Fin 2) = h := Fin.ext (by show (h.val * 64 + k.val) / 64 = h.val; omega)
  have e2 : (⟨(h.val * 64 + k.val) % 64, by omega⟩ : Fin 64) = k := Fin.ext (by show (h.val * 64 + k.val) % 64 = k.val; omega)
  exact (congrArg₂ (fun a b => val_main_v116 (F := Ideal) (m ((c : Thread nD τ).loc main_arg0)) (ix3 _ a b) * val_main_v234 (F := Ideal) (m ((c : Thread nD τ).loc main_arg4)) (ix3 _ a b)) e1 e2).symm

theorem gain22_A (c : Dev nD) (ht : Tame m c) (t : Fin cfg0.N) (h : t.val % 32 = 0) (r q) : (outsAt0 m c t.val t.isLt).2.2 (ix2 r q) = if r.val = 0 then 0 + Term22 m c t q else 0 := by
  rw [outsAt0_A m c t h]; frame_out
  refine (Cert.RowStore.canon _ _ _ _ r q).trans ?_
  have hz : ∀ i, k0_pay5 (F := Ideal) i = 0 := fun i => by pointwise [k0_pay5]
  refine if_congr Iff.rfl ((gain_rows22 m c ht t _ q).trans ?_) (hz _)
  rw [Cert.RowStore.load _ _ _ _ 0 rfl q, hz]

theorem gain22_B (c : Dev nD) (ht : Tame m c) (t : Fin cfg0.N) (h : ¬t.val % 32 = 0) (r q) : (outsAt0 m c t.val t.isLt).2.2 (ix2 r q)
    = if r.val = 0 then (outsAt0 m c (t.val - 1) (Nat.lt_of_le_of_lt (Nat.sub_le _ _) t.isLt)).2.2 (ix2 0 q) + Term22 m c t q else (outsAt0 m c (t.val - 1) (Nat.lt_of_le_of_lt (Nat.sub_le _ _) t.isLt)).2.2 (ix2 r q) := by
  rw [outsAt0_B m c t h]; frame_out
  refine (Cert.RowStore.write _ _ _ _ _ r q).trans ?_
  rw [View.writes_nil, (hs0_22 t).read_unread]
  refine if_congr Iff.rfl ((gain_rows22 m c ht t _ q).trans ?_) rfl
  rw [Cert.RowStore.ld _ _ 0 rfl q]

theorem sum_terms22 (c : Dev nD) (q : Fin 128) : ∑ s, Term22 m c s q = (∑ r : Fin 16384, val_main_v116 (F := Ideal) (m ((c : Thread nD τ).loc main_arg0)) (ix3 r (⟨q.val / 64, by omega⟩ : Fin 2) (⟨q.val % 64, by omega⟩ : Fin 64)) * val_main_v234 (F := Ideal) (m ((c : Thread nD τ).loc main_arg4)) (ix3 r (⟨q.val / 64, by omega⟩ : Fin 2) (⟨q.val % 64, by omega⟩ : Fin 64)) : EReal) := by
  unfold Term22
  exact Fin.sum_mul_add_congr fun s p hl => rfl

theorem final22 (c : Dev nD) (ht : Tame m c) : (dats m 0 c).arrAt 22 (cfgs 0).N = val_main_v305 (F := Ideal) (m ((c : Thread nD τ).loc main_arg0)) (m ((c : Thread nD τ).loc main_arg4)) := by
  refine (dats m 0 c).arrAt_eq_of_covers 22 _ (by decide +kernel) fun t hf y => ?_
  blk_simp
  have hy : ((cfg0.win 22).blk t).view.emb y = y := by blk_ext [idx22 t]
  rw [hy, after0_22]
  refine (Cert.RowStore.total (fun n h => (outsAt0 m c n h).2.2) 32 (Term22 m c) 0 rfl (gain22_A m c ht) (gain22_B m c ht) (by decide) t
    (by have := (flush0_22 t).mp hf; have hN : cfg0.N = 32 := rfl; omega) y).trans ?_
  obtain ⟨z, q, rfl⟩ : ∃ a b, y = ix2 a b := ⟨y 0, y 1, funext fun j => match j with | ⟨0, _⟩ => rfl | ⟨1, _⟩ => rfl⟩
  refine (if_congr Iff.rfl (sum_terms22 m c q) rfl).trans ((congrArg (fun i => val_main_v305 (F := Ideal) (m ((c : Thread nD τ).loc main_arg0)) (m ((c : Thread nD τ).loc main_arg4)) (ix2 z i)) (Fin.ext (by show q.val / 64 * 64 + q.val % 64 = q.val; omega))).symm.trans (ref_gain_k _ _ z ⟨q.val / 64, by omega⟩ ⟨q.val % 64, by omega⟩)).symm

theorem rows20 (c : Dev nD) (ht : Tame m c) (t : Fin cfg0.N) (p : Fin 512) (r : Fin 16384) (hr : r.val = t.val * 512 + p.val) (q : Fin 4864) :
    View.canon (Val := Elt Ideal) (e := .bf16) [⟨Rect.unit ![0, 3840] ![512, 1024] inb_S512x4864_S512x1024_0_3840, k0_pay3 (F := Ideal) (iblk m c 13 t)⟩, ⟨Rect.unit ![0, 2816] ![512, 1024] inb_S512x4864_S512x1024_0_2816, k0_pay2 (F := Ideal) (iblk m c 12 t)⟩, ⟨Rect.unit ![0, 2304] ![512, 512] inb_S512x4864_S512x512_0_2304, k0_pay1 (F := Ideal) (iblk m c 11 t)⟩, ⟨Rect.unit ![0, 1792] ![512, 512] inb_S512x4864_S512x512_0_1792, k0_pay63 (F := Ideal) (k0_pay10 (iblk m c 7 t)) (k0_pay13 (iblk m c 10 t))⟩, ⟨Rect.unit ![0, 1280] ![512, 512] inb_S512x4864_S512x512_0_1280, k0_pay62 (F := Ideal) (k0_pay9 (iblk m c 6 t)) (k0_pay12 (iblk m c 9 t)) (k0_pay16 (iblk m c 16 t)) (k0_pay17 (iblk m c 17 t))⟩, ⟨Rect.unit ![0, 768] ![512, 512] inb_S512x4864_S512x512_0_768, k0_pay61 (F := Ideal) (k0_pay58 (k0_pay8 (iblk m c 5 t)) (k0_pay11 (iblk m c 8 t)) (k0_pay16 (iblk m c 16 t))) (k0_pay59 (k0_pay8 (iblk m c 5 t)) (k0_pay11 (iblk m c 8 t)) (k0_pay17 (iblk m c 17 t))) k0_pay60⟩, ⟨Rect.unit ![0, 640] ![512, 128] inb_S512x4864_S512x128_0_640, k0_pay56 (F := Ideal) (iblk m c 4 t)⟩, ⟨Rect.unit ![0, 512] ![512, 128] inb_S512x4864_S512x128_0_512, k0_pay55 (F := Ideal) (k0_pay51 (F := Ideal) (xk m c t) (yk m c t) (gk m c t) k0_pay45 (k0_pay47 (xk m c t)) (k0_pay48 (xk m c t)))⟩, ⟨Rect.unit ![0, 0] ![512, 512] inb_S512x4864_S512x512_0_0, k0_pay54 (F := Ideal) (normRow (xq m c t) (yq m c t) (gq m c t))⟩] (ix2 p q) = Out m c (ix2 r q) :=
  canon_rows _ _ _ _ _ _ _ _ _ (fun q => Out m c (ix2 r q)) p
    (block_aq m c t p r hr ht) (block_ak m c t p r hr ht) (block_av m c t p r hr) (block_rq m c t p r hr) (block_rk m c t p r hr) (block_rv m c t p r hr) (block_rg m c t p r hr) (block_ga m c t p r hr) (block_gr m c t p r hr) q

set_option maxHeartbeats 2000000 in
theorem final20 (c : Dev nD) (ht : Tame m c) : (dats m 0 c).arrAt 20 (cfgs 0).N = Out m c := by
  refine (dats m 0 c).arrAt_eq_of_covers 20 _ (by decide +kernel) fun t hf y => ?_
  blk_simp
  obtain ⟨p, q, rfl⟩ : ∃ a b, y = ix2 a b := ⟨y 0, y 1, funext fun j => match j with | ⟨0, _⟩ => rfl | ⟨1, _⟩ => rfl⟩
  have hl : t.val * 512 + p.val < 16384 := by have : t.val < 32 := t.isLt; omega
  have hy : ((cfg0.win 20).blk t).view.emb (ix2 p q) = ix2 ⟨t.val * 512 + p.val, hl⟩ q := by blk_ext [idx20 t]
  rw [hy, after0_20]
  have h20 := rows20 m c ht t p ⟨t.val * 512 + p.val, hl⟩ rfl q
  unfold normRow xq yq gq xk yk gk at h20
  refine Eq.trans ?_ h20
  by_cases h0 : t.val % 32 = 0
  · rw [outsAt0_A m c t h0]; frame_out
  · rw [outsAt0_B m c t h0]; frame_out

end Cert.DProjIdeal.Grad

end
-- ==== Proof.Dproj.lean ====
module

public import proofs.«01_k».proof.Defs
public import proofs.«01_k».proof.Proof.DprojValue
public import proofs.«01_k».proof.Proof.DprojFrame
public import proofs.«01_k».proof.Proof.Gen.DProj
public import proofs.«01_k».proof.Proof.Gen.DProjRefIdeal.Run
public import proofs.«01_k».proof.Proof.Gen.Pre_finite_dproj
public import Idealize.ShloMosaic.Lib.Quiescent
public import Idealize.ShloMosaic.Lib.Tactic

@[expose] public section

set_option maxRecDepth 16384

noncomputable section

open Idealize.ShloMosaic Idealize.ShloMosaic.TcCoe Idealize.SL.Sem

namespace Cert.Proof.Dproj

/-- The program at words is the ideal one's text at words. -/
theorem same : @Cert.quiescent_DProj Cert.DProj.Gen.facts = (∀ (m : (ℓ : Loc Cert.DProjIdeal.nD Cert.DProjIdeal.τ Cert.DProjIdeal.sig) → Buf (Elt Bits) ℓ) (g : Dev Cert.DProjIdeal.nD → PrngReg), Cert.Pre_DProj m →
    θ_run (Cert.DProjIdeal.defs (F := Bits)) (onTc (τ := Cert.DProjIdeal.τ) (Cert.DProjIdeal.main (F := Bits))) ⟨m, fun _ => 0, g⟩ (fun r => (∀ c : Dev Cert.DProjIdeal.nD,
      r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
      ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1)
      ∧ r.2.mem ((c.tc : Thread Cert.DProjIdeal.nD Cert.DProjIdeal.τ).loc Cert.DProjIdeal.main_arg2) = m ((c.tc : Thread Cert.DProjIdeal.nD Cert.DProjIdeal.τ).loc Cert.DProjIdeal.main_arg2)
      ∧ r.2.mem ((c.tc : Thread Cert.DProjIdeal.nD Cert.DProjIdeal.τ).loc Cert.DProjIdeal.main_arg3) = m ((c.tc : Thread Cert.DProjIdeal.nD Cert.DProjIdeal.τ).loc Cert.DProjIdeal.main_arg3)
      ∧ r.2.mem ((c.tc : Thread Cert.DProjIdeal.nD Cert.DProjIdeal.τ).loc Cert.DProjIdeal.main_arg4) = m ((c.tc : Thread Cert.DProjIdeal.nD Cert.DProjIdeal.τ).loc Cert.DProjIdeal.main_arg4)
      ∧ r.2.mem ((c.tc : Thread Cert.DProjIdeal.nD Cert.DProjIdeal.τ).loc Cert.DProjIdeal.main_arg5) = m ((c.tc : Thread Cert.DProjIdeal.nD Cert.DProjIdeal.τ).loc Cert.DProjIdeal.main_arg5)
      ∧ r.2.mem ((c.tc : Thread Cert.DProjIdeal.nD Cert.DProjIdeal.τ).loc Cert.DProjIdeal.main_arg6) = m ((c.tc : Thread Cert.DProjIdeal.nD Cert.DProjIdeal.τ).loc Cert.DProjIdeal.main_arg6)
      ∧ r.2.mem ((c.tc : Thread Cert.DProjIdeal.nD Cert.DProjIdeal.τ).loc Cert.DProjIdeal.main_arg7) = m ((c.tc : Thread Cert.DProjIdeal.nD Cert.DProjIdeal.τ).loc Cert.DProjIdeal.main_arg7)
      ∧ r.2.mem ((c.tc : Thread Cert.DProjIdeal.nD Cert.DProjIdeal.τ).loc Cert.DProjIdeal.main_arg8) = m ((c.tc : Thread Cert.DProjIdeal.nD Cert.DProjIdeal.τ).loc Cert.DProjIdeal.main_arg8)
      ∧ r.2.mem ((c.tc : Thread Cert.DProjIdeal.nD Cert.DProjIdeal.τ).loc Cert.DProjIdeal.main_arg9) = m ((c.tc : Thread Cert.DProjIdeal.nD Cert.DProjIdeal.τ).loc Cert.DProjIdeal.main_arg9)
      ∧ r.2.mem ((c.tc : Thread Cert.DProjIdeal.nD Cert.DProjIdeal.τ).loc Cert.DProjIdeal.main_arg10) = m ((c.tc : Thread Cert.DProjIdeal.nD Cert.DProjIdeal.τ).loc Cert.DProjIdeal.main_arg10)
      ∧ r.2.mem ((c.tc : Thread Cert.DProjIdeal.nD Cert.DProjIdeal.τ).loc Cert.DProjIdeal.main_arg11) = m ((c.tc : Thread Cert.DProjIdeal.nD Cert.DProjIdeal.τ).loc Cert.DProjIdeal.main_arg11)
      ∧ r.2.mem ((c.tc : Thread Cert.DProjIdeal.nD Cert.DProjIdeal.τ).loc Cert.DProjIdeal.main_arg12) = m ((c.tc : Thread Cert.DProjIdeal.nD Cert.DProjIdeal.τ).loc Cert.DProjIdeal.main_arg12)
      ∧ r.2.mem ((c.tc : Thread Cert.DProjIdeal.nD Cert.DProjIdeal.τ).loc Cert.DProjIdeal.main_arg13) = m ((c.tc : Thread Cert.DProjIdeal.nD Cert.DProjIdeal.τ).loc Cert.DProjIdeal.main_arg13)
      ∧ r.2.mem ((c.tc : Thread Cert.DProjIdeal.nD Cert.DProjIdeal.τ).loc Cert.DProjIdeal.main_arg14) = m ((c.tc : Thread Cert.DProjIdeal.nD Cert.DProjIdeal.τ).loc Cert.DProjIdeal.main_arg14))
      ∧ r.2.sem = fun _ => 0)) := by
  sl_kernel_rfl

theorem frame : @Cert.quiescent_DProj Cert.DProj.Gen.facts := same ▸ fun m ρ _ => Cert.DProjIdeal.Gen.frame m ρ

theorem frame_ideal : Cert.quiescent_DProjIdeal := fun m ρ _ => Cert.DProjIdeal.Gen.frame m ρ

theorem frame_ideal_pre : Cert.quiescent_DProjIdeal_pre_finite_dproj := fun m ρ _ => Cert.DProjIdeal.Gen.frame m ρ

theorem frame_ref : Cert.quiescent_DProjRefIdeal := fun m ρ _ =>
  (θ_run Cert.DProjRefIdeal.defs _ _).mono
    (fun r h => ⟨fun c => (h c).2.2.2, Idealize.ShloMosaic.sem_eq_zero_of_no_sems (by decide) r.2⟩)
    (Cert.DProjRefIdeal.Value.run (F := Ideal) m ρ)

theorem frame_ref_pre : Cert.quiescent_DProjRefIdeal_pre_finite_dproj := fun m ρ _ => frame_ref m ρ trivial

set_option maxHeartbeats 2000000 in
/-- The kernel's run with each result as the reference writes it. -/
theorem run (m) (g) (hp : Cert.Pre_DProjIdeal_finite_dproj m) : θ_run (Cert.DProjIdeal.defs (F := Ideal)) (onTc (τ := Cert.DProjIdeal.τ) (Cert.DProjIdeal.main (F := Ideal))) ⟨m, fun _ => 0, g⟩ (fun r => ∀ c : Dev Cert.DProjIdeal.nD,
    r.2.mem ((c.tc : Thread Cert.DProjIdeal.nD Cert.DProjIdeal.τ).loc Cert.DProjIdeal.main_v106_0) = Cert.DProjRefIdeal.Read.val_main_v297 (F := Ideal) (m ((c.tc : Thread Cert.DProjIdeal.nD Cert.DProjIdeal.τ).loc Cert.DProjIdeal.main_arg0)) (m ((c.tc : Thread Cert.DProjIdeal.nD Cert.DProjIdeal.τ).loc Cert.DProjIdeal.main_arg1)) (m ((c.tc : Thread Cert.DProjIdeal.nD Cert.DProjIdeal.τ).loc Cert.DProjIdeal.main_arg2)) (m ((c.tc : Thread Cert.DProjIdeal.nD Cert.DProjIdeal.τ).loc Cert.DProjIdeal.main_arg3)) (m ((c.tc : Thread Cert.DProjIdeal.nD Cert.DProjIdeal.τ).loc Cert.DProjIdeal.main_arg4)) (m ((c.tc : Thread Cert.DProjIdeal.nD Cert.DProjIdeal.τ).loc Cert.DProjIdeal.main_arg5)) (m ((c.tc : Thread Cert.DProjIdeal.nD Cert.DProjIdeal.τ).loc Cert.DProjIdeal.main_arg6)) (m ((c.tc : Thread Cert.DProjIdeal.nD Cert.DProjIdeal.τ).loc Cert.DProjIdeal.main_arg7)) (m ((c.tc : Thread Cert.DProjIdeal.nD Cert.DProjIdeal.τ).loc Cert.DProjIdeal.main_arg8)) (m ((c.tc : Thread Cert.DProjIdeal.nD Cert.DProjIdeal.τ).loc Cert.DProjIdeal.main_arg9)) (m ((c.tc : Thread Cert.DProjIdeal.nD Cert.DProjIdeal.τ).loc Cert.DProjIdeal.main_arg10)) (m ((c.tc : Thread Cert.DProjIdeal.nD Cert.DProjIdeal.τ).loc Cert.DProjIdeal.main_arg11)) (m ((c.tc : Thread Cert.DProjIdeal.nD Cert.DProjIdeal.τ).loc Cert.DProjIdeal.main_arg12)) (m ((c.tc : Thread Cert.DProjIdeal.nD Cert.DProjIdeal.τ).loc Cert.DProjIdeal.main_arg13)) (m ((c.tc : Thread Cert.DProjIdeal.nD Cert.DProjIdeal.τ).loc Cert.DProjIdeal.main_arg14))
    ∧ r.2.mem ((c.tc : Thread Cert.DProjIdeal.nD Cert.DProjIdeal.τ).loc Cert.DProjIdeal.main_v106_1) = Cert.DProjRefIdeal.Read.val_main_v301 (F := Ideal) (m ((c.tc : Thread Cert.DProjIdeal.nD Cert.DProjIdeal.τ).loc Cert.DProjIdeal.main_arg0)) (m ((c.tc : Thread Cert.DProjIdeal.nD Cert.DProjIdeal.τ).loc Cert.DProjIdeal.main_arg3))
    ∧ r.2.mem ((c.tc : Thread Cert.DProjIdeal.nD Cert.DProjIdeal.τ).loc Cert.DProjIdeal.main_v106_2) = Cert.DProjRefIdeal.Read.val_main_v305 (F := Ideal) (m ((c.tc : Thread Cert.DProjIdeal.nD Cert.DProjIdeal.τ).loc Cert.DProjIdeal.main_arg0)) (m ((c.tc : Thread Cert.DProjIdeal.nD Cert.DProjIdeal.τ).loc Cert.DProjIdeal.main_arg4))) :=
  (θ_run _ _ _).mono (fun r h c => by
    have ht : Cert.DProjIdeal.Grad.Tame m c := ⟨fun i => Cert.Norm.Real.of_pre _ _ _ (hp c).1 i, fun i => Cert.Norm.Real.of_pre _ _ _ (hp c).2.1 i, fun i => Cert.Norm.Real.of_pre _ _ _ (hp c).2.2.1 i, fun i => Cert.Norm.Real.of_pre _ _ _ (hp c).2.2.2.1 i, fun i => Cert.Norm.Real.of_pre _ _ _ (hp c).2.2.2.2 i⟩
    exact ⟨((h.1 c).1 20).trans (Cert.DProjIdeal.Grad.final20 m c ht), ((h.1 c).1 21).trans (Cert.DProjIdeal.Grad.final21 m c ht),
      ((h.1 c).1 22).trans (Cert.DProjIdeal.Grad.final22 m c ht)⟩)
    (Cert.DProjIdeal.Gen.run_main_quiescent m g)

/-- The results as the reference's run writes them. -/
theorem value : Cert.algebraic_DProjIdeal_DProjRefIdeal_pre_finite_dproj := fun m g m' g' hpre ha =>
  ⟨_, _, _,
    (θ_run _ _ _).mono (fun r h c => ⟨(h.1 c).1, (h.1 c).2.1, (h.1 c).2.2, h.2.1 c⟩)
      (θ_run_and (run m g hpre) (Cert.DProjIdeal.Gen.frame m g)),
    (θ_run _ _ _).mono (fun r h c => ⟨(h c).1.trans (by rw [← (ha c).1, ← (ha c).2.1, ← (ha c).2.2.1, ← (ha c).2.2.2.1, ← (ha c).2.2.2.2.1, ← (ha c).2.2.2.2.2.1, ← (ha c).2.2.2.2.2.2.1, ← (ha c).2.2.2.2.2.2.2.1, ← (ha c).2.2.2.2.2.2.2.2.1, ← (ha c).2.2.2.2.2.2.2.2.2.1, ← (ha c).2.2.2.2.2.2.2.2.2.2.1, ← (ha c).2.2.2.2.2.2.2.2.2.2.2.1, ← (ha c).2.2.2.2.2.2.2.2.2.2.2.2.1, ← (ha c).2.2.2.2.2.2.2.2.2.2.2.2.2.1, ← (ha c).2.2.2.2.2.2.2.2.2.2.2.2.2.2]; rfl),
      (h c).2.1.trans (by rw [← (ha c).1, ← (ha c).2.2.2.1]; rfl),
      (h c).2.2.1.trans (by rw [← (ha c).1, ← (ha c).2.2.2.2.1]; rfl), (h c).2.2.2⟩)
      (Cert.DProjRefIdeal.Value.run (F := Ideal) m' g')⟩

end Cert.Proof.Dproj

end
-- ==== Proof.MpValue.lean ====
module

public import proofs.«01_k».proof.Proof.Gen.MpIdeal.Frame
public import proofs.«01_k».proof.Proof.Gen.MpRefIdeal.Read
public import Idealize.ShloMosaic.Lib.Pipeline.ValueKit
public import Idealize.ShloMosaic.Lib.Pointwise
public import proofs.«01_k».proof.Proof.MpbParts

@[expose] public section

set_option maxRecDepth 16384

noncomputable section

open Idealize.ShloMosaic Idealize.ShloMosaic.TcCoe Idealize.SL.Sem
open Idealize.ShloMosaic.Pipeline (Dat)

namespace Cert.MpIdeal.Rows

open Cert.MpIdeal Cert.MpIdeal.Gen

variable (m : (ℓ : Loc nD τ sig) → Buf (Elt Ideal) ℓ)

open Cert.HeadMath Cert.Norm Cert.GroupMath
open Cert.MpbIdeal.Grad (group arg)

section Kernel

variable (ya yb : FVec Ideal S512x512 .f32) (ga gb : FVec Ideal S512x256 .bf16) (gn : FVec Ideal S1x512 .f32)

/-- A tile's entry: the group's norm, the gain and the gate. -/
theorem tile_apply (p g k) : k0_pay1 (F := Ideal) (k0_pay3 ga gb) (k0_pay4 ya yb) (k0_pay5 ya yb) (k0_pay6 ya yb) (k0_pay7 ya yb) gn (ix2 p (lane g k))
    = scaled (group ya yb p g) k * gn (ix2 0 (lane g k)) * (arg ga gb p (lane g k) * gate (arg ga gb p (lane g k))) := by
  rw [← Cert.MpbIdeal.Grad.scaled_apply, ← Cert.MpbIdeal.Grad.gate_apply, ← Cert.MpbIdeal.Grad.arg_apply]
  refine congrArg₂ (fun u v : EReal => u * v) (congrArg₂ (fun u v : EReal => u * v) ?_ ?_) (congrArg₂ (fun u v : EReal => u * v) ?_ ?_)
  · refine congrArg₂ (fun u v : EReal => u * v) ?_ ?_ <;> rfl
  · pointwise []
  · rfl
  · rfl

end Kernel

section Reference

variable (ya yb : (⟨S16384x512, .f32⟩ : BufTy).Contents (Elt Ideal)) (pr : (⟨S16384x4864, .f32⟩ : BufTy).Contents (Elt Ideal)) (gn : (⟨S512, .f32⟩ : BufTy).Contents (Elt Ideal))

theorem ref_scaled (p g k) : Cert.MpRefIdeal.Read.val_main_v20 (F := Ideal) ya yb (ix2 p (lane g k)) = scaled (group ya yb p g) k :=
  Cert.MpbIdeal.Grad.ref_scaled ya yb p g k

theorem ref_gate (p q) : Cert.MpRefIdeal.Read.val_main_call0_v5 (F := Ideal) pr (ix2 p q) = gate (pr (ix2 p ⟨2304 + q.val, by omega⟩)) :=
  Cert.MpbIdeal.Grad.ref_gate pr p q

theorem ref_rows (p g k) : Cert.MpRefIdeal.Read.val_main_v27 (F := Ideal) ya yb pr gn (ix2 p (lane g k))
    = scaled (group ya yb p g) k * gn (ix1 (lane g k)) * (pr (ix2 p ⟨2304 + (lane g k).val, by omega⟩) * gate (pr (ix2 p ⟨2304 + (lane g k).val, by omega⟩))) := by
  pointwise [Cert.MpRefIdeal.Read.val_main_v27, Cert.MpRefIdeal.Read.val_main_v26, Cert.MpRefIdeal.Read.val_main_v25, Cert.MpRefIdeal.Read.val_main_v24, Cert.MpRefIdeal.Read.val_main_v23, Cert.MpRefIdeal.Read.val_main_v22, Cert.MpRefIdeal.Read.val_main_v21]
  rw [ref_scaled, ref_gate]

end Reference

theorem idx : ∀ t : Fin cfg0.N, win0_0.index t = ![t.val, 0] ∧ win0_1.index t = ![t.val, 0] ∧ win0_2.index t = ![t.val, 9]
    ∧ win0_3.index t = ![t.val, 10] ∧ win0_4.index t = ![t.val, 0, 0] ∧ win0_5.index t = ![0, 0] ∧ win0_6.index t = ![t.val, 0]
    ∧ win0_7.index t = ![t.val, 0] :=
  (by decide +kernel : ∀ t : Fin grid0.N, _)

theorem read_group (c : Dev nD) (t : Fin cfg0.N) (p : Fin 512) (r : Fin 16384) (hr : r.val = t.val * 512 + p.val) :
    group (iblk m c 0 t) (iblk m c 1 t) p = group (m ((c : Thread nD τ).loc main_arg0)) (m ((c : Thread nD τ).loc main_arg1)) r := by
  obtain ⟨v, hv⟩ := r
  obtain rfl : v = t.val * 512 + p.val := hr
  unfold group
  funext g k
  refine congrArg₂ (fun u v : EReal => u + v) ?_ ?_ <;> blk_point [iblk, V, idx t]

theorem read_arg (c : Dev nD) (t : Fin cfg0.N) (p : Fin 512) (r : Fin 16384) (hr : r.val = t.val * 512 + p.val) (q) : arg (iblk m c 2 t) (iblk m c 3 t) p q = (m ((c : Thread nD τ).loc main_arg2)) (ix2 r ⟨2304 + q.val, by omega⟩) := by
  obtain ⟨v, hv⟩ := r
  obtain rfl : v = t.val * 512 + p.val := hr
  unfold arg
  split_ifs with h <;> (
    blk_simp [iblk, V, idx t]
    entry_read
    pointwise []
    exact congrArg (m ((c : Thread nD τ).loc main_arg2)) (by blk_ext [idx t]))

theorem read_gain (c : Dev nD) (t : Fin cfg0.N) (q) : iblk m c 5 t (ix2 0 q) = (m ((c : Thread nD τ).loc main_arg4)) (ix1 q) := by
  blk_simp [iblk, V, idx t]
  entry_read
  pointwise []
  refine congrArg (m ((c : Thread nD τ).loc main_arg4)) (congrArg ix1 (Fin.ext ?_))
  blk_simp [idx t]

theorem read_columns (c : Dev nD) (t : Fin cfg0.N) (p q : Fin 512) (r : Fin 16384) (hr : r.val = t.val * 512 + p.val) : iblk m c 4 t (ix3 0 q p) = (m ((c : Thread nD τ).loc main_arg3)) (ix2 r q) := by
  obtain ⟨v, hv⟩ := r
  obtain rfl : v = t.val * 512 + p.val := hr
  blk_simp [iblk, V, idx t]
  entry_read
  pointwise []
  exact congrArg (m ((c : Thread nD τ).loc main_arg3)) (by blk_ext [idx t])

theorem final6 (c : Dev nD) : (dats m 0 c).arrAt 6 (cfgs 0).N = Cert.MpRefIdeal.Read.val_main_v27 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  blk_simp
  obtain ⟨p, q, rfl⟩ : ∃ p q, y = ix2 p q := ⟨y 0, y 1, funext fun a => match a with | ⟨0, _⟩ => rfl | ⟨1, _⟩ => rfl⟩
  obtain ⟨g, k, rfl⟩ := exists_lane q
  have hp : t.val * 512 + p.val < 16384 := by have : t.val < 32 := t.isLt; omega
  have hy : ((cfg0.win 6).blk t).view.emb (ix2 p (lane g k)) = ix2 ⟨t.val * 512 + p.val, hp⟩ (lane g k) := by blk_ext [idx t]
  rw [hy, after0_6]
  refine Eq.trans (b := k0_pay1 (F := Ideal) (k0_pay3 (iblk m c 2 t) (iblk m c 3 t)) (k0_pay4 (iblk m c 0 t) (iblk m c 1 t)) (k0_pay5 (iblk m c 0 t) (iblk m c 1 t)) (k0_pay6 (iblk m c 0 t) (iblk m c 1 t)) (k0_pay7 (iblk m c 0 t) (iblk m c 1 t)) (iblk m c 5 t) (ix2 p (lane g k))) (by frame_out) ?_
  rw [tile_apply, ref_rows, read_group m c t p ⟨_, hp⟩ rfl, read_arg m c t p ⟨_, hp⟩ rfl, read_gain]

theorem final7 (c : Dev nD) : (dats m 0 c).arrAt 7 (cfgs 0).N = Cert.MpRefIdeal.Read.val_main_v28 (F := Ideal) (m ((c : Thread nD τ).loc main_arg3)) := by
  refine (dats m 0 c).arrAt_eq_of_covers 7 _ (by decide +kernel) fun t hf y => ?_
  blk_simp
  obtain ⟨p, q, rfl⟩ : ∃ p q, y = ix2 p q := ⟨y 0, y 1, funext fun a => match a with | ⟨0, _⟩ => rfl | ⟨1, _⟩ => rfl⟩
  have hy : ((cfg0.win 7).blk t).view.emb (ix2 p q) = ix2 ⟨t.val * 512 + p.val, by have : t.val < 32 := t.isLt; omega⟩ q := by blk_ext [idx t]
  rw [hy, after0_7]
  refine Eq.trans (b := k0_pay2 (F := Ideal) (iblk m c 4 t) (ix2 p q)) (by frame_out) ?_
  pointwise [k0_pay2, Cert.MpRefIdeal.Read.val_main_v28]
  exact read_columns m c t p q _ rfl

end Cert.MpIdeal.Rows

end
-- ==== Proof.Mp.lean ====
module

public import proofs.«01_k».proof.Defs
public import proofs.«01_k».proof.Proof.MpValue
public import proofs.«01_k».proof.Proof.Gen.MpIdeal.Value
public import proofs.«01_k».proof.Proof.Gen.MpRefIdeal.Run
public import Idealize.ShloMosaic.Lib.Quiescent

@[expose] public section

set_option maxRecDepth 16384

noncomputable section

open Idealize.ShloMosaic Idealize.ShloMosaic.TcCoe Idealize.SL.Sem

namespace Cert.Proof.Mp

theorem frame_ref : Cert.quiescent_MpRefIdeal := fun m ρ _ =>
  (θ_run Cert.MpRefIdeal.defs _ _).mono
    (fun r h => ⟨fun c => (h c).2.2, Idealize.ShloMosaic.sem_eq_zero_of_no_sems (by decide) r.2⟩)
    (Cert.MpRefIdeal.Value.run (F := Ideal) m ρ)

/-- Both results are the reference's, for every argument. -/
theorem value : Cert.algebraic_MpIdeal_MpRefIdeal := fun m g m' g' _ ha =>
  ⟨_, _,
    (θ_run _ _ _).mono (fun r h c => ⟨(h c).1.trans (Cert.MpIdeal.Rows.final6 m c), (h c).2.1.trans (Cert.MpIdeal.Rows.final7 m c), (h c).2.2⟩)
      (Cert.MpIdeal.Value.run_blocks (F := Ideal) m g),
    (θ_run _ _ _).mono (fun r h c => ⟨(h c).1.trans (by rw [← (ha c).1, ← (ha c).2.1, ← (ha c).2.2.1, ← (ha c).2.2.2.2]; rfl),
      (h c).2.1.trans (by rw [← (ha c).2.2.2.1]; rfl), (h c).2.2⟩)
      (Cert.MpRefIdeal.Value.run (F := Ideal) m' g')⟩

end Cert.Proof.Mp

end
-- ==== Proof.RetOValue.lean ====
module

public import proofs.«01_k».proof.Proof.Gen.RetOIdeal.Frame
public import proofs.«01_k».proof.Proof.Gen.RetORefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RetOIdeal.Forward

open Cert.RetOIdeal Cert.RetOIdeal.Gen Cert.RetORefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 11] ∧ win0_4.index t = ![t.val, 12] ∧ win0_5.index t = ![t.val, 13] ∧ win0_6.index t = ![t.val, 14]
    ∧ win0_7.index t = ![t.val, 15] ∧ win0_8.index t = ![t.val, 16] ∧ win0_9.index t = ![t.val, 17] ∧ win0_10.index t = ![t.val, 18]
    ∧ win0_11.index t = ![t.val, 0] ∧ win0_12.index t = ![t.val, 0] :=
  (by decide +kernel : ∀ t : Fin grid0.N, _)

theorem first_exp (c : Dev nD) (t : Fin cfg0.N) (y) : k0_pay5 (F := Ideal) (iblk m c 3 t) (iblk m c 4 t) (iblk m c 5 t) (iblk m c 6 t) y
    = val_main_v3 (F := Ideal) (m ((c : Thread nD τ).loc main_arg3)) (((cfg0.win 12).blk t).view.emb y) := by
  pointwise [k0_pay5, val_main_v1, val_main_v2, val_main_v3]
  simp only [zero_sub]
  split_ifs <;> blk_point [iblk, V, idx t]

theorem second_arg (c : Dev nD) (t : Fin cfg0.N) (y) : k0_pay4 (F := Ideal) (iblk m c 7 t) (iblk m c 8 t) (iblk m c 9 t) (iblk m c 10 t) y
    = val_main_v9 (F := Ideal) (m ((c : Thread nD τ).loc main_arg3)) (((cfg0.win 12).blk t).view.emb y) := by
  pointwise [k0_pay4, val_main_v9]
  split_ifs <;> blk_point [iblk, V, idx t]

theorem point11 (c : Dev nD) (t : Fin cfg0.N) (y) : k0_pay1 (F := Ideal) (k0_pay3 (iblk m c 0 t) (iblk m c 1 t)) y
    = val_main_v18 (F := Ideal) (m ((c : Thread nD τ).loc main_arg0)) (m ((c : Thread nD τ).loc main_arg1)) (((cfg0.win 11).blk t).view.emb y) := by
  pointwise [k0_pay1, k0_pay3, val_main_v0, val_main_v18]
  blk_point [iblk, V, idx t]

/-- The two gated branches' sum at an entry of a tile. -/
theorem point12 (c : Dev nD) (t : Fin cfg0.N) (y) : k0_pay2 (F := Ideal) (k0_pay3 (iblk m c 0 t) (iblk m c 1 t)) (k0_pay4 (iblk m c 7 t) (iblk m c 8 t) (iblk m c 9 t) (iblk m c 10 t)) (k0_pay5 (iblk m c 3 t) (iblk m c 4 t) (iblk m c 5 t) (iblk m c 6 t)) (Scalar.ofBits .f32 0x3F800000#32) (iblk m c 2 t) y
    = val_main_v19 (F := Ideal) (m ((c : Thread nD τ).loc main_arg0)) (m ((c : Thread nD τ).loc main_arg1)) (m ((c : Thread nD τ).loc main_arg2)) (m ((c : Thread nD τ).loc main_arg3)) (((cfg0.win 12).blk t).view.emb y) := by
  have he := first_exp m c t y
  have hs := second_arg m c t y
  pointwise [k0_pay2, k0_pay3, val_main_v0, val_main_cst, val_main_v4, val_main_v5, val_main_cst_0, val_main_v6, val_main_v7, val_main_v8, val_main_v10, val_main_v11, val_main_cst_1, val_main_v12, val_main_v13, val_main_cst_2, val_main_v14, val_main_v15, val_main_v16, val_main_v17, val_main_v19]
  rw [he, hs]
  simp only [zero_sub]
  blk_point [iblk, V, idx t]

theorem final11 (c : Dev nD) : (dats m 0 c).arrAt 11 (cfgs 0).N = val_main_v18 (F := Ideal) (m ((c : Thread nD τ).loc main_arg0)) (m ((c : Thread nD τ).loc main_arg1)) := by
  refine (dats m 0 c).arrAt_eq_of_covers 11 _ (by decide +kernel) fun t _ y => ?_
  blk_simp
  rw [after0_11]
  unfold_out out0_11
  frame_out
  exact point11 m c t y

theorem final12 (c : Dev nD) : (dats m 0 c).arrAt 12 (cfgs 0).N = val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t _ y => ?_
  blk_simp
  rw [after0_12]
  unfold_out out0_12
  frame_out
  exact point12 m c t y

end Cert.RetOIdeal.Forward

end
-- ==== Proof.RetO.lean ====
module

public import proofs.«01_k».proof.Defs
public import proofs.«01_k».proof.Proof.RetOValue
public import proofs.«01_k».proof.Proof.Gen.RetOIdeal.Value
public import proofs.«01_k».proof.Proof.Gen.RetORefIdeal.Run
public import Idealize.ShloMosaic.Lib.Quiescent

@[expose] public section

set_option maxRecDepth 16384

noncomputable section

open Idealize.ShloMosaic Idealize.ShloMosaic.TcCoe Idealize.SL.Sem

namespace Cert.Proof.RetO

theorem frame_ref : Cert.quiescent_RetORefIdeal := fun m ρ _ =>
  (θ_run Cert.RetORefIdeal.defs _ _).mono
    (fun r h => ⟨fun c => (h c).2.2, Idealize.ShloMosaic.sem_eq_zero_of_no_sems (by decide) r.2⟩)
    (Cert.RetORefIdeal.Value.run (F := Ideal) m ρ)

/-- The results are the reference's, for every argument. -/
theorem value : Cert.algebraic_RetOIdeal_RetORefIdeal := fun m g m' g' _ ha =>
  ⟨_, _,
    (θ_run _ _ _).mono (fun r h c => ⟨(h c).1.trans (Cert.RetOIdeal.Forward.final11 m c), (h c).2.1.trans (Cert.RetOIdeal.Forward.final12 m c), (h c).2.2⟩)
      (Cert.RetOIdeal.Value.run_blocks (F := Ideal) m g),
    (θ_run _ _ _).mono (fun r h c => ⟨(h c).1.trans (by rw [← (ha c).1, ← (ha c).2.1]; rfl), (h c).2.1.trans (by rw [← (ha c).1, ← (ha c).2.1, ← (ha c).2.2.1, ← (ha c).2.2.2]; rfl), (h c).2.2⟩)
      (Cert.RetORefIdeal.Value.run (F := Ideal) m' g')⟩

end Cert.Proof.RetO

end
-- ==== Proof.UpValue.lean ====
module

public import proofs.«01_k».proof.Proof.Gen.UpIdeal.Frame
public import proofs.«01_k».proof.Proof.Gen.UpRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpIdeal.Forward

open Cert.UpIdeal Cert.UpIdeal.Gen Cert.UpRefIdeal.Read

variable (m : (ℓ : Loc nD τ sig) → Buf (Elt Ideal) ℓ)

theorem idx : ∀ t : Fin cfg0.N, win0_0.index t = ![t.val % 16, 0] ∧ win0_1.index t = ![0, t.val / 16] ∧ win0_2.index t = ![t.val % 16, t.val / 16] ∧ t.val / 16 < 2 :=
  (by decide +kernel : ∀ t : Fin grid0.N, _)

theorem point2 (c : Dev nD) (t : Fin cfg0.N) (y) : k0_pay1 (F := Ideal) (iblk m c 0 t) (iblk m c 1 t) y
    = val_main_v3 (F := Ideal) (m ((c : Thread nD τ).loc main_arg0)) (m ((c : Thread nD τ).loc main_arg1)) (((cfg0.win 2).blk t).view.emb y) := by
  pointwise [k0_pay1, val_main_v0, val_main_call0_cst, val_main_call0_v0, val_main_v1, val_main_v2, val_main_v3]
  blk_point [iblk, V, idx t]

theorem final2 (c : Dev nD) : (dats m 0 c).arrAt 2 (cfgs 0).N = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point2 m c t y

end Cert.UpIdeal.Forward

end
-- ==== Proof.Up.lean ====
module

public import proofs.«01_k».proof.Defs
public import proofs.«01_k».proof.Proof.UpValue
public import proofs.«01_k».proof.Proof.Gen.UpIdeal.Value
public import proofs.«01_k».proof.Proof.Gen.UpRefIdeal.Run
public import Idealize.ShloMosaic.Lib.Quiescent

@[expose] public section

set_option maxRecDepth 16384

noncomputable section

open Idealize.ShloMosaic Idealize.ShloMosaic.TcCoe Idealize.SL.Sem

namespace Cert.Proof.Up

theorem frame_ref : Cert.quiescent_UpRefIdeal := fun m ρ _ =>
  (θ_run Cert.UpRefIdeal.defs _ _).mono
    (fun r h => ⟨fun c => (h c).2, Idealize.ShloMosaic.sem_eq_zero_of_no_sems (by decide) r.2⟩)
    (Cert.UpRefIdeal.Value.run (F := Ideal) m ρ)

/-- The results are the reference's, for every argument. -/
theorem value : Cert.algebraic_UpIdeal_UpRefIdeal := fun m g m' g' _ ha =>
  ⟨_,
    (θ_run _ _ _).mono (fun r h c => ⟨(h c).1.trans (Cert.UpIdeal.Forward.final2 m c), (h c).2⟩)
      (Cert.UpIdeal.Value.run_blocks (F := Ideal) m g),
    (θ_run _ _ _).mono (fun r h c => ⟨(h c).1.trans (by rw [← (ha c).1, ← (ha c).2]; rfl), (h c).2⟩)
      (Cert.UpRefIdeal.Value.run (F := Ideal) m' g')⟩

end Cert.Proof.Up

end
-- ==== Proof.OutPValue.lean ====
module

public import proofs.«01_k».proof.Proof.Gen.OutPIdeal.Frame
public import proofs.«01_k».proof.Proof.Gen.OutPRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutPIdeal.Forward

open Cert.OutPIdeal Cert.OutPIdeal.Gen Cert.OutPRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The residual stream after the addition. -/
theorem point4 (c : Dev nD) (t : Fin cfg0.N) (y) : k0_pay1 (F := Ideal) (iblk m c 0 t) (iblk m c 1 t) (iblk m c 2 t) y
    = val_main_v1 (F := Ideal) (m ((c : Thread nD τ).loc main_arg0)) (m ((c : Thread nD τ).loc main_arg1)) (m ((c : Thread nD τ).loc main_arg2)) (((cfg0.win 4).blk t).view.emb y) := by
  pointwise [k0_pay1, val_main_v0, val_main_v1]
  blk_point [iblk, V, idx t]

theorem row (c : Dev nD) (t : Fin cfg0.N) (p : Fin 1024) (r : Fin 16384) (hr : r.val = t.val * 1024 + p.val) (q) : k0_pay1 (F := Ideal) (iblk m c 0 t) (iblk m c 1 t) (iblk m c 2 t) (ix2 p q)
    = val_main_v1 (F := Ideal) (m ((c : Thread nD τ).loc main_arg0)) (m ((c : Thread nD τ).loc main_arg1)) (m ((c : Thread nD τ).loc main_arg2)) (ix2 r q) := by
  obtain ⟨v, hv⟩ := r
  obtain rfl : v = t.val * 1024 + p.val := hr
  refine (point4 m c t (ix2 p q)).trans (congrArg (val_main_v1 (F := Ideal) (m ((c : Thread nD τ).loc main_arg0)) (m ((c : Thread nD τ).loc main_arg1)) (m ((c : Thread nD τ).loc main_arg2))) ?_)
  blk_ext [idx t]

theorem gain (c : Dev nD) (t : Fin cfg0.N) (q) : (iblk m c 3 t) (ix2 0 q) = (m ((c : Thread nD τ).loc main_arg3)) (ix1 q) := by
  blk_simp [iblk, V, idx t]
  entry_read
  pointwise []
  refine congrArg (m ((c : Thread nD τ).loc main_arg3)) (congrArg ix1 (Fin.ext ?_))
  blk_simp [idx t]

/-- The norm of a row of it. -/
theorem point5 (c : Dev nD) (t : Fin cfg0.N) (p : Fin 1024) (r : Fin 16384) (hr : r.val = t.val * 1024 + p.val) (q) : k0_pay2 (F := Ideal) (iblk m c 0 t) (iblk m c 1 t) (iblk m c 2 t) (iblk m c 3 t) (ix2 p q)
    = val_main_v15 (F := Ideal) (m ((c : Thread nD τ).loc main_arg0)) (m ((c : Thread nD τ).loc main_arg1)) (m ((c : Thread nD τ).loc main_arg2)) (m ((c : Thread nD τ).loc main_arg3)) (ix2 r q) := by
  pointwise [k0_pay2, val_main_v2, val_main_cst, val_main_v3, val_main_v4, val_main_cst_0, val_main_v5, val_main_v6, val_main_cst_1, val_main_v7, val_main_v8, val_main_v9, val_main_v10, val_main_v11, val_main_v12, val_main_v13, val_main_v14, val_main_v15]
  simp only [row m c t p r hr, gain]

theorem final4 (c : Dev nD) : (dats m 0 c).arrAt 4 (cfgs 0).N = val_main_v1 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  exact point4 m c t y

theorem final5 (c : Dev nD) : (dats m 0 c).arrAt 5 (cfgs 0).N = val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  obtain ⟨p, q, rfl⟩ : ∃ p q, y = ix2 p q := ⟨y 0, y 1, funext fun a => match a with | ⟨0, _⟩ => rfl | ⟨1, _⟩ => rfl⟩
  have ht : t.val < 16 := t.isLt
  have hp : t.val * 1024 + p.val < 16384 := by omega
  have hy : ((cfg0.win 5).blk t).view.emb (ix2 p q) = ix2 ⟨t.val * 1024 + p.val, hp⟩ q := by blk_ext [idx t]
  rw [hy, after0_5]
  frame_out
  exact point5 m c t p ⟨_, hp⟩ rfl q

end Cert.OutPIdeal.Forward

end
-- ==== Proof.OutP.lean ====
module

public import proofs.«01_k».proof.Defs
public import proofs.«01_k».proof.Proof.OutPValue
public import proofs.«01_k».proof.Proof.Gen.OutPIdeal.Value
public import proofs.«01_k».proof.Proof.Gen.OutPRefIdeal.Run
public import Idealize.ShloMosaic.Lib.Quiescent

@[expose] public section

set_option maxRecDepth 16384

noncomputable section

open Idealize.ShloMosaic Idealize.ShloMosaic.TcCoe Idealize.SL.Sem

namespace Cert.Proof.OutP

theorem frame_ref : Cert.quiescent_OutPRefIdeal := fun m ρ _ =>
  (θ_run Cert.OutPRefIdeal.defs _ _).mono
    (fun r h => ⟨fun c => (h c).2.2, Idealize.ShloMosaic.sem_eq_zero_of_no_sems (by decide) r.2⟩)
    (Cert.OutPRefIdeal.Value.run (F := Ideal) m ρ)

/-- The results are the reference's, for every argument. -/
theorem value : Cert.algebraic_OutPIdeal_OutPRefIdeal := fun m g m' g' _ ha =>
  ⟨_, _,
    (θ_run _ _ _).mono (fun r h c => ⟨(h c).1.trans (Cert.OutPIdeal.Forward.final4 m c), (h c).2.1.trans (Cert.OutPIdeal.Forward.final5 m c), (h c).2.2⟩)
      (Cert.OutPIdeal.Value.run_blocks (F := Ideal) m g),
    (θ_run _ _ _).mono (fun r h c => ⟨(h c).1.trans (by rw [← (ha c).1, ← (ha c).2.1, ← (ha c).2.2.1]; rfl), (h c).2.1.trans (by rw [← (ha c).1, ← (ha c).2.1, ← (ha c).2.2.1, ← (ha c).2.2.2]; rfl), (h c).2.2⟩)
      (Cert.OutPRefIdeal.Value.run (F := Ideal) m' g')⟩

end Cert.Proof.OutP

end
-- ==== Proof.DownValue.lean ====
module

public import proofs.«01_k».proof.Proof.Gen.DownIdeal.Frame
public import proofs.«01_k».proof.Proof.Gen.DownRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownIdeal.Forward

open Cert.DownIdeal Cert.DownIdeal.Gen Cert.DownRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The residual stream after the addition. -/
theorem point4 (c : Dev nD) (t : Fin cfg0.N) (y) : k0_pay1 (F := Ideal) (iblk m c 0 t) (iblk m c 1 t) (iblk m c 2 t) y
    = val_main_v1 (F := Ideal) (m ((c : Thread nD τ).loc main_arg0)) (m ((c : Thread nD τ).loc main_arg1)) (m ((c : Thread nD τ).loc main_arg2)) (((cfg0.win 4).blk t).view.emb y) := by
  pointwise [k0_pay1, val_main_v0, val_main_v1]
  blk_point [iblk, V, idx t]

theorem row (c : Dev nD) (t : Fin cfg0.N) (p : Fin 512) (r : Fin 16384) (hr : r.val = t.val * 512 + p.val) (q) : k0_pay1 (F := Ideal) (iblk m c 0 t) (iblk m c 1 t) (iblk m c 2 t) (ix2 p q)
    = val_main_v1 (F := Ideal) (m ((c : Thread nD τ).loc main_arg0)) (m ((c : Thread nD τ).loc main_arg1)) (m ((c : Thread nD τ).loc main_arg2)) (ix2 r q) := by
  obtain ⟨v, hv⟩ := r
  obtain rfl : v = t.val * 512 + p.val := hr
  refine (point4 m c t (ix2 p q)).trans (congrArg (val_main_v1 (F := Ideal) (m ((c : Thread nD τ).loc main_arg0)) (m ((c : Thread nD τ).loc main_arg1)) (m ((c : Thread nD τ).loc main_arg2))) ?_)
  blk_ext [idx t]

theorem gain (c : Dev nD) (t : Fin cfg0.N) (q) : (iblk m c 3 t) (ix2 0 q) = (m ((c : Thread nD τ).loc main_arg3)) (ix1 q) := by
  blk_simp [iblk, V, idx t]
  entry_read
  pointwise []
  refine congrArg (m ((c : Thread nD τ).loc main_arg3)) (congrArg ix1 (Fin.ext ?_))
  blk_simp [idx t]

/-- The norm of a row of it. -/
theorem point5 (c : Dev nD) (t : Fin cfg0.N) (p : Fin 512) (r : Fin 16384) (hr : r.val = t.val * 512 + p.val) (q) : k0_pay2 (F := Ideal) (iblk m c 0 t) (iblk m c 1 t) (iblk m c 2 t) (iblk m c 3 t) (ix2 p q)
    = val_main_v15 (F := Ideal) (m ((c : Thread nD τ).loc main_arg0)) (m ((c : Thread nD τ).loc main_arg1)) (m ((c : Thread nD τ).loc main_arg2)) (m ((c : Thread nD τ).loc main_arg3)) (ix2 r q) := by
  pointwise [k0_pay2, val_main_v2, val_main_cst, val_main_v3, val_main_v4, val_main_cst_0, val_main_v5, val_main_v6, val_main_cst_1, val_main_v7, val_main_v8, val_main_v9, val_main_v10, val_main_v11, val_main_v12, val_main_v13, val_main_v14, val_main_v15]
  simp only [row m c t p r hr, gain]

theorem final4 (c : Dev nD) : (dats m 0 c).arrAt 4 (cfgs 0).N = val_main_v1 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  exact point4 m c t y

theorem final5 (c : Dev nD) : (dats m 0 c).arrAt 5 (cfgs 0).N = val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  obtain ⟨p, q, rfl⟩ : ∃ p q, y = ix2 p q := ⟨y 0, y 1, funext fun a => match a with | ⟨0, _⟩ => rfl | ⟨1, _⟩ => rfl⟩
  have ht : t.val < 32 := t.isLt
  have hp : t.val * 512 + p.val < 16384 := by omega
  have hy : ((cfg0.win 5).blk t).view.emb (ix2 p q) = ix2 ⟨t.val * 512 + p.val, hp⟩ q := by blk_ext [idx t]
  rw [hy, after0_5]
  frame_out
  exact point5 m c t p ⟨_, hp⟩ rfl q

end Cert.DownIdeal.Forward

end
-- ==== Proof.Down.lean ====
module

public import proofs.«01_k».proof.Defs
public import proofs.«01_k».proof.Proof.DownValue
public import proofs.«01_k».proof.Proof.Gen.DownIdeal.Value
public import proofs.«01_k».proof.Proof.Gen.DownRefIdeal.Run
public import Idealize.ShloMosaic.Lib.Quiescent

@[expose] public section

set_option maxRecDepth 16384

noncomputable section

open Idealize.ShloMosaic Idealize.ShloMosaic.TcCoe Idealize.SL.Sem

namespace Cert.Proof.Down

theorem frame_ref : Cert.quiescent_DownRefIdeal := fun m ρ _ =>
  (θ_run Cert.DownRefIdeal.defs _ _).mono
    (fun r h => ⟨fun c => (h c).2.2, Idealize.ShloMosaic.sem_eq_zero_of_no_sems (by decide) r.2⟩)
    (Cert.DownRefIdeal.Value.run (F := Ideal) m ρ)

/-- The results are the reference's, for every argument. -/
theorem value : Cert.algebraic_DownIdeal_DownRefIdeal := fun m g m' g' _ ha =>
  ⟨_, _,
    (θ_run _ _ _).mono (fun r h c => ⟨(h c).1.trans (Cert.DownIdeal.Forward.final4 m c), (h c).2.1.trans (Cert.DownIdeal.Forward.final5 m c), (h c).2.2⟩)
      (Cert.DownIdeal.Value.run_blocks (F := Ideal) m g),
    (θ_run _ _ _).mono (fun r h c => ⟨(h c).1.trans (by rw [← (ha c).1, ← (ha c).2.1, ← (ha c).2.2.1]; rfl), (h c).2.1.trans (by rw [← (ha c).1, ← (ha c).2.1, ← (ha c).2.2.1, ← (ha c).2.2.2]; rfl), (h c).2.2⟩)
      (Cert.DownRefIdeal.Value.run (F := Ideal) m' g')⟩

end Cert.Proof.Down

end
-- ==== Proof.QkvParts.lean ====
module

public import proofs.«01_k».proof.Proof.Gen.QkvIdeal.Frame
public import proofs.«01_k».proof.Proof.Gen.QkvRefIdeal.Read
public import Idealize.ShloMosaic.Lib.Pipeline.ValueKit
public import Idealize.ShloMosaic.Lib.Pointwise
public import proofs.«01_k».proof.Proof.DprojTables

@[expose] public section

set_option maxRecDepth 16384

noncomputable section

open Idealize.ShloMosaic Idealize.ShloMosaic.TcCoe Idealize.SL.Sem
open Idealize.ShloMosaic.Pipeline (Dat)

namespace Cert.QkvIdeal.Rows

open Cert.QkvIdeal Cert.QkvIdeal.Gen

open Cert.TurnMath Cert.Norm
open Cert.DProjIdeal.Grad (exists_head exists_head_short segSum segSum_head pick seg_from short_head lane sum_second sum_third cosA sinA cosR sinR)
open Cert.QkvRefIdeal.Read

/-- A rotation of a row's two halves, `c` and `s` the cosines and sines. -/
def rotated {n H : ℕ} (hn : n = 2 * H) (y : Fin n → EReal) (c s : Fin H → EReal) (k : Fin n) : EReal :=
  if h : k.val < H then y k * c ⟨k.val, h⟩ - y ⟨k.val + H, by omega⟩ * s ⟨k.val, h⟩
  else y ⟨k.val - H, by omega⟩ * s ⟨k.val - H, by omega⟩ + y k * c ⟨k.val - H, by omega⟩

/-- The same on a row of several groups by two rolls of the whole row, the sine's sign in its table. -/
theorem rotated_eq {W n H : ℕ} (hn : n = 2 * H) (Y : Fin W → EReal) (g : ℕ) (hg : g * n + n ≤ W) (c s : Fin H → EReal) (k : Fin n) (q : Fin W) (hq : q.val = g * n + k.val)
    (u v : EReal) (hu : u = c ⟨k.val % H, Nat.mod_lt _ (by have := k.isLt; omega)⟩)
    (hv : v = if k.val < H then -s ⟨k.val % H, Nat.mod_lt _ (by have := k.isLt; omega)⟩ else s ⟨k.val % H, Nat.mod_lt _ (by have := k.isLt; omega)⟩)
    (P : Prop) [Decidable P] (hP : P ↔ k.val < H) (a b : Fin W) (ha : a.val = (q.val + W - (W - H)) % W) (hb : b.val = (q.val + W - H) % W) :
    Y q * u + (if P then Y a else Y b) * v = rotated hn (fun j => Y ⟨g * n + j.val, by omega⟩) c s k := by
  have hk := k.isLt
  have hlt : g * n + k.val < W := by omega
  obtain rfl : q = ⟨g * n + k.val, hlt⟩ := Fin.ext hq
  subst hu hv
  unfold rotated
  by_cases h : k.val < H
  · have hm : k.val % H = k.val := Nat.mod_eq_of_lt h
    have hae : a = ⟨g * n + (k.val + H), by omega⟩ := Fin.ext (ha.trans (by
      rw [show g * n + k.val + W - (W - H) = g * n + (k.val + H) by omega]
      exact Nat.mod_eq_of_lt (by omega)))
    rw [if_pos (hP.mpr h), if_pos h, dif_pos h, hae, mul_neg, ← sub_eq_add_neg]
    simp only [hm]
  · have hm : k.val % H = k.val - H := by rw [Nat.mod_eq_sub_mod (by omega), Nat.mod_eq_of_lt (by omega)]
    have hbe : b = ⟨g * n + (k.val - H), by omega⟩ := Fin.ext (hb.trans (by
      rw [show g * n + k.val + W - H = g * n + (k.val - H) + W by omega, Nat.add_mod_right]
      exact Nat.mod_eq_of_lt (by omega)))
    rw [if_neg (fun hp => h (hP.mp hp)), if_neg h, dif_neg h, hbe, add_comm]
    simp only [hm]

/-- A row over its root mean square, times the gain. -/
def gained (x g : Fin 64 → EReal) (k : Fin 64) : EReal := x k * root x * g k

section Kernel

variable (c s : FVec Ideal S512x128 .f32) (p : Fin 512)

/-- A tile's queries after their norm. -/
def normQ (x : FVec Ideal S512x512 .bf16) (g : FVec Ideal S1x512 .f32) : FVec Ideal S512x512 .f32 :=
  k0_pay18 (F := Ideal) (k0_pay2 x) (k0_pay11 g) (k0_pay14 (k0_pay13 x)) (k0_pay15 (k0_pay12 x)) (k0_pay16 (k0_pay12 x)) (k0_pay17 (k0_pay12 x))

theorem row_q (x : FVec Ideal S512x512 .bf16) (q) : k0_pay2 (F := Ideal) x (ix2 p q) = x (ix2 p q) := by
  pointwise [k0_pay2]

theorem square_q (x : FVec Ideal S512x512 .bf16) (q) : k0_pay12 (F := Ideal) x (ix2 p q) = x (ix2 p q) * x (ix2 p q) := by
  pointwise [k0_pay12]
  rw [row_q]

theorem sum_first (x : FVec Ideal S512x512 .bf16) (hf : ∀ q, Real (x (ix2 p q))) (l : Fin 128) : k0_pay14 (F := Ideal) (k0_pay13 x) (ix2 p l)
    = segSum (fun i => k0_pay12 (F := Ideal) x (ix2 p i)) ⟨l.val, by omega⟩ := by
  pointwise [k0_pay14, k0_pay13]
  exact (seg_eq (fun l => k0_pay12 (F := Ideal) x (ix2 p ⟨l.val, by omega⟩)) (fun i => square_q p x _ ▸ (hf _).mul (hf _)) l).trans (Finset.sum_congr rfl fun j _ => rfl)

theorem norm_of (y w : FVec Ideal S512x512 .f32) (g : FVec Ideal S1x512 .f32) (hf : ∀ q, Real (w (ix2 p q))) (a b d : FVec Ideal S512x128 .f32)
    (ha : ∀ l, a (ix2 p l) = segSum (fun i => w (ix2 p i)) ⟨l.val, by omega⟩) (hb : ∀ l, b (ix2 p l) = segSum (fun i => w (ix2 p i)) ⟨128 + l.val, by omega⟩)
    (hd : ∀ l, d (ix2 p l) = segSum (fun i => w (ix2 p i)) ⟨256 + l.val, by omega⟩) (q : Fin 512) :
    k0_pay18 (F := Ideal) y g a b d (k0_pay17 w) (ix2 p q)
    = y (ix2 p q) * Ideal.rsqrt (segSum (fun i => w (ix2 p i)) q * rec + Ideal.ofBits .f32 0x358637BD#32) * g (ix2 0 q) := by
  pointwise [k0_pay18, k0_pay17]
  exact congrArg (fun z => _ * Ideal.rsqrt (z * rec + _) * _) (pick (fun l => a (ix2 p l)) (fun l => b (ix2 p l)) (fun l => d (ix2 p l))
    (seg (fun l => w (ix2 p ⟨384 + l.val, by omega⟩))) (segSum (fun i => w (ix2 p i))) ha hb hd
    (fun l => (seg_eq (fun l => w (ix2 p ⟨384 + l.val, by omega⟩)) (fun i => hf _) l).trans (seg_from _ hf 384 (by decide) rfl l)) q)

theorem norm_q (x : FVec Ideal S512x512 .bf16) (g : FVec Ideal S1x512 .f32) (hx : ∀ q, Real (x (ix2 p q))) (h k) : normQ x g (ix2 p (head (by decide : (512 : ℕ) = 8 * 64) h k))
    = gained (fun j => x (ix2 p (head (by decide : (512 : ℕ) = 8 * 64) h j))) (fun j => g (ix2 0 (head (by decide : (512 : ℕ) = 8 * 64) h j))) k := by
  have hf : ∀ q, Real (k0_pay12 (F := Ideal) x (ix2 p q)) := fun q => square_q p x q ▸ (hx q).mul (hx q)
  refine (norm_of p (k0_pay2 x) (k0_pay12 x) (k0_pay11 g) hf _ _ _ (sum_first p x hx) (sum_second _ p hf) (sum_third _ p hf) _).trans ?_
  rw [segSum_head, mul_rec_num]
  simp only [square_q, row_q]
  refine congrArg₂ (fun u v : EReal => u * v) rfl ?_
  pointwise [k0_pay11]

/-- A tile's queries as the kernel stores them, before the transposition. -/
def tileQ (x : FVec Ideal S512x512 .bf16) (g : FVec Ideal S1x512 .f32) : FVec Ideal S512x512 .f32 :=
  k0_pay22 (F := Ideal) (k0_pay8 s) (normQ x g)
    (k0_pay19 (k0_pay2 x) (k0_pay7 c) (k0_pay11 g) (k0_pay14 (k0_pay13 x)) (k0_pay15 (k0_pay12 x)) (k0_pay16 (k0_pay12 x)) (k0_pay17 (k0_pay12 x))) k0_pay20
    (k0_pay21 (k0_pay2 x) (k0_pay11 g) (k0_pay14 (k0_pay13 x)) (k0_pay15 (k0_pay12 x)) (k0_pay16 (k0_pay12 x)) (k0_pay17 (k0_pay12 x)))

theorem rolls_q (x g) (q : Fin 512) : tileQ c s x g (ix2 p q)
    = (normQ x g (ix2 p q) * c (ix2 p ⟨q.val % 128, Nat.mod_lt _ (by decide)⟩) + (if q.val % 64 < 32 then normQ x g (ix2 p ⟨(q.val + 512 - 480) % 512, Nat.mod_lt _ (by decide)⟩) else normQ x g (ix2 p ⟨(q.val + 512 - 32) % 512, Nat.mod_lt _ (by decide)⟩))
      * s (ix2 p ⟨q.val % 128, Nat.mod_lt _ (by decide)⟩)) * Ideal.ofBits .f32 0x3E38AA3B#32 := by
  unfold tileQ normQ
  pointwise [k0_pay22, k0_pay19, k0_pay20, k0_pay21, k0_pay7, k0_pay8]
  rw [quad (fun l => c (ix2 p l)) _ q.isLt, quad (fun l => s (ix2 p l)) _ q.isLt]
  exact congrArg (fun z => (_ + z * _) * _) ((congrArg (fun b => Scalar.select b _ _) (cut_64 q)).trans (select_ofBool ..))

theorem tile_q (x g) (hx : ∀ q, Real (x (ix2 p q))) (C S : Fin 32 → EReal)
    (hC : ∀ l : Fin 128, c (ix2 p l) = C ⟨l.val % 32, by omega⟩)
    (hS : ∀ l : Fin 128, s (ix2 p l) = if l.val % 64 < 32 then -S ⟨l.val % 32, by omega⟩ else S ⟨l.val % 32, by omega⟩) (h k) :
    tileQ c s x g (ix2 p (head (by decide : (512 : ℕ) = 8 * 64) h k))
    = rotated (by decide : 64 = 2 * 32) (gained (fun j => x (ix2 p (head (by decide : (512 : ℕ) = 8 * 64) h j))) (fun j => g (ix2 0 (head (by decide : (512 : ℕ) = 8 * 64) h j)))) C S k * Ideal.ofBits .f32 0x3E38AA3B#32 := by
  refine (rolls_q c s p x g _).trans (congrArg (fun z : EReal => z * _) ((rotated_eq (W := 512) (by decide : 64 = 2 * 32) (fun q => normQ x g (ix2 p q)) h.val (by omega) C S k (head (by decide : (512 : ℕ) = 8 * 64) h k) rfl _ _
    ((hC _).trans (congrArg C (Fin.ext (by show (h.val * 64 + k.val) % 128 % 32 = k.val % 32; omega))))
    ((hS _).trans (if_congr (by show (h.val * 64 + k.val) % 128 % 64 < 32 ↔ _; omega) (congrArg (fun z => -S z) (Fin.ext (by show (h.val * 64 + k.val) % 128 % 32 = k.val % 32; omega))) (congrArg S (Fin.ext (by show (h.val * 64 + k.val) % 128 % 32 = k.val % 32; omega)))))
    _ (by show (h.val * 64 + k.val) % 64 < 32 ↔ _; omega) _ _ rfl rfl).trans ?_))
  exact congrArg (fun y => rotated (by decide : 64 = 2 * 32) y C S k) (funext fun j => norm_q p x g hx h j)

/-- A tile's keys as the kernel stores them. -/
def tileK (x : FVec Ideal S512x128 .bf16) (g : FVec Ideal S1x128 .f32) : FVec Ideal S512x128 .f32 :=
  k0_pay28 (F := Ideal) (k0_pay8 s) (k0_pay23 (k0_pay3 x) g) (k0_pay24 (k0_pay3 x) (k0_pay7 c) g) (Scalar.select (Scalar.cmpi .eq 64#32 0#32) 1#32 64#32) k0_pay25 k0_pay26 k0_pay27
    (Scalar.cmpi .slt (Scalar.select (Scalar.cmpi .eq 64#32 0#32) 1#32 64#32) 0#32)

theorem norm_k (x : FVec Ideal S512x128 .bf16) (g : FVec Ideal S1x128 .f32) (hx : ∀ q, Real (x (ix2 p q))) (h k) : k0_pay23 (F := Ideal) (k0_pay3 x) g (ix2 p (head (by decide : (128 : ℕ) = 2 * 64) h k))
    = gained (fun j => x (ix2 p (head (by decide : (128 : ℕ) = 2 * 64) h j))) (fun j => g (ix2 0 (head (by decide : (128 : ℕ) = 2 * 64) h j))) k := by
  pointwise [k0_pay23, k0_pay3]
  refine congrArg₂ (fun u v : EReal => u * v) (congrArg (fun z => _ * Ideal.rsqrt z) ((congrArg (fun z => z * rec + _) ((seg_eq (fun i => x (ix2 p i) * x (ix2 p i)) (fun i => (hx i).mul (hx i)) (head (by decide : (128 : ℕ) = 2 * 64) h k)).trans (short_head (fun i => x (ix2 p i) * x (ix2 p i)) h k))).trans ?_)) rfl
  rw [mul_rec_num]
  rfl

theorem rolls_k (x g) (q : Fin 128) : tileK c s x g (ix2 p q)
    = k0_pay23 (F := Ideal) (k0_pay3 x) g (ix2 p q) * c (ix2 p q) + (if q.val % 64 < 32 then k0_pay23 (F := Ideal) (k0_pay3 x) g (ix2 p ⟨(q.val + 128 - 96) % 128, Nat.mod_lt _ (by decide)⟩) else k0_pay23 (F := Ideal) (k0_pay3 x) g (ix2 p ⟨(q.val + 128 - 32) % 128, Nat.mod_lt _ (by decide)⟩)) * s (ix2 p q) := by
  unfold tileK
  pointwise [k0_pay28, k0_pay24, k0_pay25, k0_pay26, k0_pay27, k0_pay7, k0_pay8]
  exact congrArg (fun z => _ + z * _) ((congrArg (fun b => Scalar.select b _ _) (cut_64_short q)).trans (select_ofBool ..))

theorem tile_k (x g) (hx : ∀ q, Real (x (ix2 p q))) (C S : Fin 32 → EReal)
    (hC : ∀ l : Fin 128, c (ix2 p l) = C ⟨l.val % 32, by omega⟩)
    (hS : ∀ l : Fin 128, s (ix2 p l) = if l.val % 64 < 32 then -S ⟨l.val % 32, by omega⟩ else S ⟨l.val % 32, by omega⟩) (h k) :
    tileK c s x g (ix2 p (head (by decide : (128 : ℕ) = 2 * 64) h k))
    = rotated (by decide : 64 = 2 * 32) (gained (fun j => x (ix2 p (head (by decide : (128 : ℕ) = 2 * 64) h j))) (fun j => g (ix2 0 (head (by decide : (128 : ℕ) = 2 * 64) h j)))) C S k := by
  refine (rolls_k c s p x g _).trans ((rotated_eq (W := 128) (by decide : 64 = 2 * 32) (fun q => k0_pay23 (F := Ideal) (k0_pay3 x) g (ix2 p q)) h.val (by omega) C S k (head (by decide : (128 : ℕ) = 2 * 64) h k) rfl _ _
    ((hC _).trans (congrArg C (Fin.ext (by show (h.val * 64 + k.val) % 32 = k.val % 32; omega))))
    ((hS _).trans (if_congr (by show (h.val * 64 + k.val) % 64 < 32 ↔ _; omega) (congrArg (fun z => -S z) (Fin.ext (by show (h.val * 64 + k.val) % 32 = k.val % 32; omega))) (congrArg S (Fin.ext (by show (h.val * 64 + k.val) % 32 = k.val % 32; omega)))))
    _ (by show (h.val * 64 + k.val) % 64 < 32 ↔ _; omega) _ _ rfl rfl).trans ?_)
  exact congrArg (fun y => rotated (by decide : 64 = 2 * 32) y C S k) (funext fun j => norm_k p x g hx h j)

theorem rolls_rq (x : FVec Ideal S512x512 .f32) (q : Fin 512) : k0_pay53 (F := Ideal) x (k0_pay10 s) (k0_pay51 x (k0_pay9 c)) (Scalar.select (Scalar.cmpi .eq 128#32 0#32) 1#32 128#32) k0_pay52 0#32 (ix2 p q)
    = (x (ix2 p q) * c (ix2 p ⟨q.val % 128, Nat.mod_lt _ (by decide)⟩) + (if q.val % 128 < 64 then x (ix2 p ⟨(q.val + 512 - 448) % 512, Nat.mod_lt _ (by decide)⟩) else x (ix2 p ⟨(q.val + 512 - 64) % 512, Nat.mod_lt _ (by decide)⟩))
      * s (ix2 p ⟨q.val % 128, Nat.mod_lt _ (by decide)⟩)) * Ideal.ofBits .f32 0x3DB504F3#32 := by
  pointwise [k0_pay53, k0_pay51, k0_pay52, k0_pay9, k0_pay10]
  rw [quad (fun l => c (ix2 p l)) _ q.isLt, quad (fun l => s (ix2 p l)) _ q.isLt]
  exact congrArg (fun z => (_ + z * _) * _) ((congrArg (fun b => Scalar.select b _ _) (cut_128 q)).trans (select_ofBool ..))

theorem rolls_rk (x : FVec Ideal S512x512 .f32) (q : Fin 512) : k0_pay1 (F := Ideal) x (k0_pay10 s) (k0_pay54 x (k0_pay9 c)) k0_pay55 (ix2 p q)
    = x (ix2 p q) * c (ix2 p ⟨q.val % 128, Nat.mod_lt _ (by decide)⟩) + (if q.val % 128 < 64 then x (ix2 p ⟨(q.val + 512 - 448) % 512, Nat.mod_lt _ (by decide)⟩) else x (ix2 p ⟨(q.val + 512 - 64) % 512, Nat.mod_lt _ (by decide)⟩))
      * s (ix2 p ⟨q.val % 128, Nat.mod_lt _ (by decide)⟩) := by
  pointwise [k0_pay1, k0_pay54, k0_pay55, k0_pay9, k0_pay10]
  rw [quad (fun l => c (ix2 p l)) _ q.isLt, quad (fun l => s (ix2 p l)) _ q.isLt]
  exact congrArg (fun z => _ + z * _) ((congrArg (fun b => Scalar.select b _ _) (cut_128 q)).trans (select_ofBool ..))

/-- A group of the recurrence rotated. -/
theorem tile_r (x : FVec Ideal S512x512 .f32) (C S : Fin 64 → EReal)
    (hC : ∀ l : Fin 128, c (ix2 p l) = C ⟨l.val % 64, by omega⟩)
    (hS : ∀ l : Fin 128, s (ix2 p l) = if l.val % 128 < 64 then -S ⟨l.val % 64, by omega⟩ else S ⟨l.val % 64, by omega⟩) (g k) :
    x (ix2 p (lane g k)) * c (ix2 p ⟨(lane g k).val % 128, Nat.mod_lt _ (by decide)⟩) + (if (lane g k).val % 128 < 64 then x (ix2 p ⟨((lane g k).val + 512 - 448) % 512, Nat.mod_lt _ (by decide)⟩) else x (ix2 p ⟨((lane g k).val + 512 - 64) % 512, Nat.mod_lt _ (by decide)⟩))
      * s (ix2 p ⟨(lane g k).val % 128, Nat.mod_lt _ (by decide)⟩)
    = rotated (by decide : 128 = 2 * 64) (fun j => x (ix2 p (lane g j))) C S k :=
  rotated_eq (W := 512) (by decide : 128 = 2 * 64) (fun q => x (ix2 p q)) g.val (by omega) C S k (lane g k) rfl _ _
    ((hC _).trans (congrArg C (Fin.ext (by show (g.val * 128 + k.val) % 128 % 64 = k.val % 64; omega))))
    ((hS _).trans (if_congr (by show (g.val * 128 + k.val) % 128 % 128 < 64 ↔ _; omega) (congrArg (fun z => -S z) (Fin.ext (by show (g.val * 128 + k.val) % 128 % 64 = k.val % 64; omega))) (congrArg S (Fin.ext (by show (g.val * 128 + k.val) % 128 % 64 = k.val % 64; omega)))))
    _ (by show (g.val * 128 + k.val) % 128 < 64 ↔ _; omega) _ _ rfl rfl

end Kernel

section Reference

variable (pr : (⟨S16384x4864, .f32⟩ : BufTy).Contents (Elt Ideal)) (gn : (⟨S64, .f32⟩ : BufTy).Contents (Elt Ideal))

theorem ref_q_row (r h k) : val_main_v53 (F := Ideal) pr (ix3 r h k) = pr (ix2 r ⟨h.val * 64 + k.val, by omega⟩) := by
  pointwise [val_main_v53, val_main_v52]

theorem ref_q_root (r h) : val_main_v61 (F := Ideal) pr (ix3 r h 0) = root (fun k => pr (ix2 r ⟨h.val * 64 + k.val, by omega⟩)) := by
  pointwise [val_main_v61, val_main_v60, val_main_v59, val_main_v58, val_main_v57, val_main_v56, val_main_v55, val_main_v54, val_main_cst, val_main_cst_0, val_main_cst_1, val_main_cst_10, val_main_cst_11, val_main_cst_12, val_main_cst_2, val_main_cst_3, val_main_cst_4, val_main_cst_5, val_main_cst_6, val_main_cst_7, val_main_cst_8, val_main_cst_9]
  simp only [ref_q_row, zero_add]
  rfl

theorem ref_q_gained (r h k) : val_main_v66 (F := Ideal) pr gn (ix3 r h k) = gained (fun k => pr (ix2 r ⟨h.val * 64 + k.val, by omega⟩)) (fun k => gn (ix1 k)) k := by
  pointwise [val_main_v66, val_main_v65, val_main_v64, val_main_v63, val_main_v62]
  rw [ref_q_row, ref_q_root]
  rfl

theorem ref_k_row (r h k) : val_main_v87 (F := Ideal) pr (ix3 r h k) = pr (ix2 r ⟨512 + (h.val * 64 + k.val), by omega⟩) := by
  pointwise [val_main_v87, val_main_v86]

theorem ref_k_root (r h) : val_main_v95 (F := Ideal) pr (ix3 r h 0) = root (fun k => pr (ix2 r ⟨512 + (h.val * 64 + k.val), by omega⟩)) := by
  pointwise [val_main_v95, val_main_v94, val_main_v93, val_main_v92, val_main_v91, val_main_v90, val_main_v89, val_main_v88, val_main_cst, val_main_cst_0, val_main_cst_1, val_main_cst_10, val_main_cst_11, val_main_cst_12, val_main_cst_2, val_main_cst_3, val_main_cst_4, val_main_cst_5, val_main_cst_6, val_main_cst_7, val_main_cst_8, val_main_cst_9]
  simp only [ref_k_row, zero_add]
  rfl

theorem ref_k_gained (r h k) : val_main_v100 (F := Ideal) pr gn (ix3 r h k) = gained (fun k => pr (ix2 r ⟨512 + (h.val * 64 + k.val), by omega⟩)) (fun k => gn (ix1 k)) k := by
  pointwise [val_main_v100, val_main_v99, val_main_v98, val_main_v97, val_main_v96]
  rw [ref_k_row, ref_k_root]
  rfl

theorem ref_q_rotated (r h k) : val_main_v81 (F := Ideal) pr gn (ix3 r h k) = rotated (by decide : 64 = 2 * 32) (fun k => val_main_v66 (F := Ideal) pr gn (ix3 r h k)) (cosA r) (sinA r) k := by
  pointwise [val_main_v81, val_main_v80, val_main_v79, val_main_v78, val_main_v77, val_main_v76, val_main_v75, val_main_v74, val_main_v73, val_main_v72, val_main_v71, val_main_v70, val_main_v69, val_main_v68, val_main_v67]
  unfold rotated
  split_ifs
  all_goals first
    | (exfalso; omega)
    | exact congrArg (fun j => val_main_v66 (F := Ideal) pr gn (ix3 r h k) * cosA r _ - val_main_v66 (F := Ideal) pr gn (ix3 r h j) * sinA r _) (Fin.ext (Nat.add_comm ..))
    | exact congrArg (fun j => val_main_v66 (F := Ideal) pr gn (ix3 r h ⟨k.val - 32, by omega⟩) * sinA r _ + val_main_v66 (F := Ideal) pr gn (ix3 r h j) * cosA r _) (Fin.ext (by dsimp only; omega))

theorem ref_k_rotated (r h k) : val_main_v115 (F := Ideal) pr gn (ix3 r h k) = rotated (by decide : 64 = 2 * 32) (fun k => val_main_v100 (F := Ideal) pr gn (ix3 r h k)) (cosA r) (sinA r) k := by
  pointwise [val_main_v115, val_main_v114, val_main_v113, val_main_v112, val_main_v111, val_main_v110, val_main_v109, val_main_v108, val_main_v107, val_main_v106, val_main_v105, val_main_v104, val_main_v103, val_main_v102, val_main_v101]
  unfold rotated
  split_ifs
  all_goals first
    | (exfalso; omega)
    | exact congrArg (fun j => val_main_v100 (F := Ideal) pr gn (ix3 r h k) * cosA r _ - val_main_v100 (F := Ideal) pr gn (ix3 r h j) * sinA r _) (Fin.ext (Nat.add_comm ..))
    | exact congrArg (fun j => val_main_v100 (F := Ideal) pr gn (ix3 r h ⟨k.val - 32, by omega⟩) * sinA r _ + val_main_v100 (F := Ideal) pr gn (ix3 r h j) * cosA r _) (Fin.ext (by dsimp only; omega))

theorem ref_rq_rotated (r h k) : val_main_v134 (F := Ideal) pr (ix3 r h k) = rotated (by decide : 128 = 2 * 64) (fun k => val_main_v119 (F := Ideal) pr (ix3 r h k)) (cosR r) (sinR r) k := by
  pointwise [val_main_v134, val_main_v133, val_main_v132, val_main_v131, val_main_v130, val_main_v129, val_main_v128, val_main_v127, val_main_v126, val_main_v125, val_main_v124, val_main_v123, val_main_v122, val_main_v121, val_main_v120]
  unfold rotated
  split_ifs
  all_goals first
    | (exfalso; omega)
    | exact congrArg (fun j => val_main_v119 (F := Ideal) pr (ix3 r h k) * cosR r _ - val_main_v119 (F := Ideal) pr (ix3 r h j) * sinR r _) (Fin.ext (Nat.add_comm ..))
    | exact congrArg (fun j => val_main_v119 (F := Ideal) pr (ix3 r h ⟨k.val - 64, by omega⟩) * sinR r _ + val_main_v119 (F := Ideal) pr (ix3 r h j) * cosR r _) (Fin.ext (by dsimp only; omega))

theorem ref_rk_rotated (r h k) : val_main_v153 (F := Ideal) pr (ix3 r h k) = rotated (by decide : 128 = 2 * 64) (fun k => val_main_v138 (F := Ideal) pr (ix3 r h k)) (cosR r) (sinR r) k := by
  pointwise [val_main_v153, val_main_v152, val_main_v151, val_main_v150, val_main_v149, val_main_v148, val_main_v147, val_main_v146, val_main_v145, val_main_v144, val_main_v143, val_main_v142, val_main_v141, val_main_v140, val_main_v139]
  unfold rotated
  split_ifs
  all_goals first
    | (exfalso; omega)
    | exact congrArg (fun j => val_main_v138 (F := Ideal) pr (ix3 r h k) * cosR r _ - val_main_v138 (F := Ideal) pr (ix3 r h j) * sinR r _) (Fin.ext (Nat.add_comm ..))
    | exact congrArg (fun j => val_main_v138 (F := Ideal) pr (ix3 r h ⟨k.val - 64, by omega⟩) * sinR r _ + val_main_v138 (F := Ideal) pr (ix3 r h j) * cosR r _) (Fin.ext (by dsimp only; omega))

end Reference

end Cert.QkvIdeal.Rows

end
-- ==== Proof.QkvTiles.lean ====
module

public import proofs.«01_k».proof.Proof.Gen.QkvIdeal.Frame
public import proofs.«01_k».proof.Proof.Gen.QkvRefIdeal.Read
public import Idealize.ShloMosaic.Lib.Pipeline.ValueKit
public import Idealize.ShloMosaic.Lib.Pointwise
public import proofs.«01_k».proof.Proof.QkvParts
public import proofs.«01_k».proof.Proof.GroupMath

@[expose] public section

set_option maxRecDepth 16384

noncomputable section

open Idealize.ShloMosaic Idealize.ShloMosaic.TcCoe Idealize.SL.Sem
open Idealize.ShloMosaic.Pipeline (Dat)

namespace Cert.QkvIdeal.Rows

open Cert.QkvIdeal Cert.QkvIdeal.Gen

open Cert.TurnMath Cert.Norm
open Cert.GroupMath (column column_head column_zero)
open Cert.DProjIdeal.Grad (exists_head exists_head_short lane cosA sinA cosR sinR)
open Cert.QkvRefIdeal.Read

/-- The sixteen stores of the queries' columns, the zero halves between them. -/
theorem canon_columns (V : FVec Ideal S512x512 .f32) (q l) : View.canon (Val := Elt Ideal) (e := .bf16)
      [⟨Rect.unit ![0, 896, 0] ![1, 64, 512] inb_S1x1024x512_S1x64x512_0_896_0, k0_pay46 (F := Ideal) (k0_pay30 (F := Ideal))⟩,
        ⟨Rect.unit ![0, 960, 0] ![1, 64, 512] inb_S1x1024x512_S1x64x512_0_960_0, k0_pay45 (F := Ideal) (k0_pay29 (F := Ideal) V)⟩,
        ⟨Rect.unit ![0, 768, 0] ![1, 64, 512] inb_S1x1024x512_S1x64x512_0_768_0, k0_pay44 (F := Ideal) (k0_pay30 (F := Ideal))⟩,
        ⟨Rect.unit ![0, 832, 0] ![1, 64, 512] inb_S1x1024x512_S1x64x512_0_832_0, k0_pay43 (F := Ideal) (k0_pay29 (F := Ideal) V)⟩,
        ⟨Rect.unit ![0, 640, 0] ![1, 64, 512] inb_S1x1024x512_S1x64x512_0_640_0, k0_pay42 (F := Ideal) (k0_pay30 (F := Ideal))⟩,
        ⟨Rect.unit ![0, 704, 0] ![1, 64, 512] inb_S1x1024x512_S1x64x512_0_704_0, k0_pay41 (F := Ideal) (k0_pay29 (F := Ideal) V)⟩,
        ⟨Rect.unit ![0, 512, 0] ![1, 64, 512] inb_S1x1024x512_S1x64x512_0_512_0, k0_pay40 (F := Ideal) (k0_pay30 (F := Ideal))⟩,
        ⟨Rect.unit ![0, 576, 0] ![1, 64, 512] inb_S1x1024x512_S1x64x512_0_576_0, k0_pay39 (F := Ideal) (k0_pay29 (F := Ideal) V)⟩,
        ⟨Rect.unit ![0, 448, 0] ![1, 64, 512] inb_S1x1024x512_S1x64x512_0_448_0, k0_pay38 (F := Ideal) (k0_pay30 (F := Ideal))⟩,
        ⟨Rect.unit ![0, 384, 0] ![1, 64, 512] inb_S1x1024x512_S1x64x512_0_384_0, k0_pay37 (F := Ideal) (k0_pay29 (F := Ideal) V)⟩,
        ⟨Rect.unit ![0, 320, 0] ![1, 64, 512] inb_S1x1024x512_S1x64x512_0_320_0, k0_pay36 (F := Ideal) (k0_pay30 (F := Ideal))⟩,
        ⟨Rect.unit ![0, 256, 0] ![1, 64, 512] inb_S1x1024x512_S1x64x512_0_256_0, k0_pay35 (F := Ideal) V⟩,
        ⟨Rect.unit ![0, 192, 0] ![1, 64, 512] inb_S1x1024x512_S1x64x512_0_192_0, k0_pay34 (F := Ideal)⟩,
        ⟨Rect.unit ![0, 128, 0] ![1, 64, 512] inb_S1x1024x512_S1x64x512_0_128_0, k0_pay33 (F := Ideal) V⟩,
        ⟨Rect.unit ![0, 64, 0] ![1, 64, 512] inb_S1x1024x512_S1x64x512_0_64_0, k0_pay32 (F := Ideal)⟩,
        ⟨Rect.unit ![0, 0, 0] ![1, 64, 512] inb_S1x1024x512_S1x64x512_0_0_0, k0_pay31 (F := Ideal) V⟩] (ix3 0 q l)
    = column (fun n => V (ix2 l n)) q := by
  canon_tiles x h
  all_goals
    obtain ⟨a, k, l', rfl⟩ : ∃ a k l', x = ix3 a k l' := ⟨x 0, x 1, x 2, funext fun j => match j with | ⟨0, _⟩ => rfl | ⟨1, _⟩ => rfl | ⟨2, _⟩ => rfl⟩
    obtain rfl : l' = l := Fin.ext h2.symm
    obtain rfl : a = 0 := Fin.ext (by omega)
    have hk : k.val < 64 := k.isLt
    first
      | replace h1 : q.val = k.val := h1
      | replace h1 : q.val = 64 + k.val := h1
      | replace h1 : q.val = 128 + k.val := h1
      | replace h1 : q.val = 192 + k.val := h1
      | replace h1 : q.val = 256 + k.val := h1
      | replace h1 : q.val = 320 + k.val := h1
      | replace h1 : q.val = 384 + k.val := h1
      | replace h1 : q.val = 448 + k.val := h1
      | replace h1 : q.val = 512 + k.val := h1
      | replace h1 : q.val = 576 + k.val := h1
      | replace h1 : q.val = 640 + k.val := h1
      | replace h1 : q.val = 704 + k.val := h1
      | replace h1 : q.val = 768 + k.val := h1
      | replace h1 : q.val = 832 + k.val := h1
      | replace h1 : q.val = 896 + k.val := h1
      | replace h1 : q.val = 960 + k.val := h1
    first
      | (refine Eq.trans ?_ (column_zero _ q (q.val / 128) k (by omega) (by omega)).symm
         pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
         done)
      | (refine Eq.trans ?_ (column_head _ q (q.val / 128) k (by omega) (by omega)).symm
         pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
         first | done | exact congrArg (fun n => V (ix2 l' n)) (Fin.ext (by dsimp only; omega)))

theorem scale : Ideal.ofBits .f32 0x3E000000#32 * Ideal.ofBits .f32 0x3FB8AA3B#32 = Ideal.ofBits .f32 0x3E38AA3B#32 := by
  have e : Ideal.ofBits .f32 0x3FB8AA3B#32 = ((12102203 / 2 ^ 23 : ℝ) : EReal) := by
    simp [Ideal.ofBits, Ideal.ieee, -EReal.coe_mul]; norm_num
  have f : Ideal.ofBits .f32 0x3E38AA3B#32 = ((12102203 / 2 ^ 26 : ℝ) : EReal) := by
    simp [Ideal.ofBits, Ideal.ieee, -EReal.coe_mul]; norm_num
  have d : Ideal.ofBits .f32 0x3E000000#32 = ((1 / 8 : ℝ) : EReal) := by
    simp [Ideal.ofBits, Ideal.ieee, -EReal.coe_mul]; norm_num
  rw [d, e, f, ← EReal.coe_mul]
  norm_num

section Reference

variable (pr : (⟨S16384x4864, .f32⟩ : BufTy).Contents (Elt Ideal)) (gn : (⟨S64, .f32⟩ : BufTy).Contents (Elt Ideal))

theorem ref_q_out (r h k) : val_main_v85 (F := Ideal) pr gn (ix3 r h k)
    = rotated (by decide : 64 = 2 * 32) (gained (fun k => pr (ix2 r ⟨h.val * 64 + k.val, by omega⟩)) (fun k => gn (ix1 k))) (cosA r) (sinA r) k * Ideal.ofBits .f32 0x3E38AA3B#32 := by
  pointwise [val_main_v85, val_main_v84, val_main_v83, val_main_v82, val_main_cst_6, val_main_cst_7]
  rw [ref_q_rotated, mul_assoc, scale]
  exact congrArg (fun y => rotated (by decide : 64 = 2 * 32) y (cosA r) (sinA r) k * _) (funext fun k => ref_q_gained pr gn r h k)

set_option maxHeartbeats 1000000 in
theorem ref_columns (p q k) : val_main_v163 (F := Ideal) pr gn (ix3 p q k)
    = column (fun l => val_main_v85 (F := Ideal) pr gn (ix3 ⟨p.val * 512 + k.val, by omega⟩ ⟨l.val / 64, by omega⟩ ⟨l.val % 64, by omega⟩)) q := by
  pointwise [val_main_v163, val_main_v162, val_main_v161, val_main_v160, val_main_v159, val_main_v158, val_main_v157, val_main_v156, val_main_v155, val_main_v154, val_main_cst_12]
  unfold column
  split_ifs
  all_goals first
    | (exfalso; omega)
    | with_reducible rfl
    | exact congrArg₂ (fun a b => val_main_v85 (F := Ideal) pr gn (ix3 _ a b)) (Fin.ext (by dsimp only; omega)) (Fin.ext (by dsimp only; omega))

theorem ref_k_out (r h k) : val_main_v116 (F := Ideal) pr gn (ix2 r (head (by decide : (128 : ℕ) = 2 * 64) h k))
    = rotated (by decide : 64 = 2 * 32) (gained (fun k => pr (ix2 r ⟨512 + (h.val * 64 + k.val), by omega⟩)) (fun k => gn (ix1 k))) (cosA r) (sinA r) k := by
  pointwise [val_main_v116]
  refine Eq.trans (congrArg₂ (fun a b => val_main_v115 (F := Ideal) pr gn (ix3 r a b)) (Fin.ext ?_ : _ = h) (Fin.ext ?_ : _ = k)) ((ref_k_rotated pr gn r h k).trans ?_)
  · show (h.val * 64 + k.val) / 64 = h.val
    omega
  · show (h.val * 64 + k.val) % 64 = k.val
    omega
  · exact congrArg (fun y => rotated (by decide : 64 = 2 * 32) y (cosA r) (sinA r) k) (funext fun k => ref_k_gained pr gn r h k)

theorem ref_rq_row (r g k) : val_main_v119 (F := Ideal) pr (ix3 r g k) = pr (ix2 r ⟨768 + (g.val * 128 + k.val), by omega⟩) := by
  pointwise [val_main_v119, val_main_v118]

theorem ref_rk_row (r g k) : val_main_v138 (F := Ideal) pr (ix3 r g k) = pr (ix2 r ⟨1280 + (g.val * 128 + k.val), by omega⟩) := by
  pointwise [val_main_v138, val_main_v137]

theorem ref_rq_out (r g k) : val_main_v172 (F := Ideal) pr (ix2 r (lane g k))
    = rotated (by decide : 128 = 2 * 64) (fun k => pr (ix2 r ⟨768 + (g.val * 128 + k.val), by omega⟩)) (cosR r) (sinR r) k * Ideal.ofBits .f32 0x3DB504F3#32 := by
  pointwise [val_main_v172, val_main_v136, val_main_v135, val_main_cst_11]
  refine congrArg (fun z : EReal => z * _) (Eq.trans (congrArg₂ (fun a b => val_main_v134 (F := Ideal) pr (ix3 r a b)) (Fin.ext ?_ : _ = g) (Fin.ext ?_ : _ = k)) ((ref_rq_rotated pr r g k).trans ?_))
  · show (g.val * 128 + k.val) / 128 = g.val
    omega
  · show (g.val * 128 + k.val) % 128 = k.val
    omega
  · exact congrArg (fun y => rotated (by decide : 128 = 2 * 64) y (cosR r) (sinR r) k) (funext fun k => ref_rq_row pr r g k)

theorem ref_rk_out (r g k) : val_main_v173 (F := Ideal) pr (ix2 r (lane g k))
    = rotated (by decide : 128 = 2 * 64) (fun k => pr (ix2 r ⟨1280 + (g.val * 128 + k.val), by omega⟩)) (cosR r) (sinR r) k := by
  pointwise [val_main_v173]
  refine Eq.trans (congrArg₂ (fun a b => val_main_v153 (F := Ideal) pr (ix3 r a b)) (Fin.ext ?_ : _ = g) (Fin.ext ?_ : _ = k)) ((ref_rk_rotated pr r g k).trans ?_)
  · show (g.val * 128 + k.val) / 128 = g.val
    omega
  · show (g.val * 128 + k.val) % 128 = k.val
    omega
  · exact congrArg (fun y => rotated (by decide : 128 = 2 * 64) y (cosR r) (sinR r) k) (funext fun k => ref_rk_row pr r g k)

end Reference

end Cert.QkvIdeal.Rows

end
-- ==== Proof.QkvReads.lean ====
module

public import proofs.«01_k».proof.Proof.Gen.QkvIdeal.Frame
public import proofs.«01_k».proof.Proof.Gen.QkvRefIdeal.Read
public import Idealize.ShloMosaic.Lib.Pipeline.ValueKit
public import Idealize.ShloMosaic.Lib.Pointwise
public import proofs.«01_k».proof.Proof.QkvTiles

@[expose] public section

set_option maxRecDepth 16384

noncomputable section

open Idealize.ShloMosaic Idealize.ShloMosaic.TcCoe Idealize.SL.Sem
open Idealize.ShloMosaic.Pipeline (Dat)

namespace Cert.QkvIdeal.Rows

open Cert.QkvIdeal Cert.QkvIdeal.Gen

open Cert.TurnMath Cert.Norm
open Cert.GroupMath (column)
open Cert.DProjIdeal.Grad (exists_head exists_head_short lane cosA sinA cosR sinR wideA0 wideA1 wideR0 wideR1 tabA tabR)
variable (m : (ℓ : Loc nD τ sig) → Buf (Elt Ideal) ℓ)

theorem idx : ∀ t : Fin cfg0.N, win0_0.index t = ![t.val, 0] ∧ win0_1.index t = ![t.val, 4] ∧ win0_2.index t = ![t.val, 5]
    ∧ win0_3.index t = ![t.val, 3] ∧ win0_4.index t = ![t.val, 4] ∧ win0_5.index t = ![t.val, 5] ∧ win0_6.index t = ![t.val, 6]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0] ∧ win0_13.index t = ![t.val, 0, 0] ∧ win0_14.index t = ![t.val, 0]
    ∧ win0_15.index t = ![t.val, 0, 0] ∧ win0_16.index t = ![t.val, 0] ∧ win0_17.index t = ![t.val, 0, 0] ∧ win0_18.index t = ![t.val, 0] ∧ win0_19.index t = ![t.val, 0] :=
  (by decide +kernel : ∀ t : Fin grid0.N, _)

section Tables

open Cert.DProjRefIdeal.Read

theorem table_cosA (c : Dev nD) (r : Fin 16384) (l : Fin 128) : V m c main_v37 (ix2 r l) = cosA r ⟨l.val % 32, by omega⟩ := by
  entry_read
  refine (wideA0 _ r l).trans ?_
  all_goals
    refine (tabA _ _ r _).trans ?_
    unfold cosA
    pointwise [val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
    split_ifs <;> rfl

theorem table_sinA (c : Dev nD) (r : Fin 16384) (l : Fin 128) : V m c main_v42 (ix2 r l) = (if l.val % 64 < 32 then - sinA r ⟨l.val % 32, by omega⟩ else sinA r ⟨l.val % 32, by omega⟩ : EReal) := by
  entry_read
  refine (wideA1 _ r l).trans ?_
  refine if_congr Iff.rfl (congrArg (fun z : EReal => -z) ?_) ?_
  all_goals
    refine (tabA _ _ r _).trans ?_
    unfold sinA
    pointwise [val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
    split_ifs <;> rfl

theorem table_cosR (c : Dev nD) (r : Fin 16384) (l : Fin 128) : V m c main_v80 (ix2 r l) = cosR r ⟨l.val % 64, by omega⟩ := by
  entry_read
  refine (wideR0 _ r l).trans ?_
  all_goals
    refine (tabR _ _ r _).trans ?_
    unfold cosR
    pointwise [val_main_cst, val_main_cst_0, val_main_cst_1, val_main_cst_2, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51]
    split_ifs <;> rfl

theorem table_sinR (c : Dev nD) (r : Fin 16384) (l : Fin 128) : V m c main_v85 (ix2 r l) = (if l.val % 128 < 64 then - sinR r ⟨l.val % 64, by omega⟩ else sinR r ⟨l.val % 64, by omega⟩ : EReal) := by
  entry_read
  refine (wideR1 _ r l).trans ?_
  refine if_congr Iff.rfl (congrArg (fun z : EReal => -z) ?_) ?_
  all_goals
    refine (tabR _ _ r _).trans ?_
    unfold sinR
    pointwise [val_main_cst, val_main_cst_0, val_main_cst_1, val_main_cst_2, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51]
    split_ifs <;> rfl

end Tables

theorem gain_q (c : Dev nD) (q : Fin 512) : V m c main_v89 (ix2 0 q) = (m ((c : Thread nD τ).loc main_arg1)) (ix1 ⟨q.val % 64, by omega⟩) := by
  entry_read
  pointwise []

theorem gain_k (c : Dev nD) (q : Fin 128) : V m c main_v93 (ix2 0 q) = (m ((c : Thread nD τ).loc main_arg2)) (ix1 ⟨q.val % 64, by omega⟩) := by
  entry_read
  pointwise []

theorem row (c : Dev nD) (r q) : V m c main_v94 (ix2 r q) = (m ((c : Thread nD τ).loc main_arg0)) (ix2 r q) := by
  entry_read
  pointwise []

section Reads

variable (c : Dev nD) (t : Fin cfg0.N) (p : Fin 512) (r : Fin 16384) (hr : r.val = t.val * 512 + p.val)

include hr

theorem read0 (q : Fin 512) : X0_0 m c t (ix2 p q) = (m ((c : Thread nD τ).loc main_arg0)) (ix2 r ⟨q.val, by omega⟩) := by
  obtain ⟨v, hv⟩ := r
  obtain rfl : v = t.val * 512 + p.val := hr
  refine (dif_pos (moved0_0 t (ix2 p q))).trans (Eq.trans (congrArg (V m c main_v94) (a₂ := ix2 ⟨t.val * 512 + p.val, hv⟩ ⟨q.val, by omega⟩) ?_) (row m c _ _))
  blk_ext [idx t]

theorem emb1 (q : Fin 128) : ((cfg0.win 1).blk t).view.emb (ix2 p q) = ix2 r ⟨512 + q.val, by omega⟩ := by
  obtain ⟨v, hv⟩ := r
  obtain rfl : v = t.val * 512 + p.val := hr
  blk_ext [idx t]

theorem read1 (q : Fin 128) : iblk m c 1 t (ix2 p q) = (m ((c : Thread nD τ).loc main_arg0)) (ix2 r ⟨512 + q.val, by omega⟩) :=
  ((congrArg (V m c main_v94) (emb1 t p r hr q)).trans (row m c r _))

theorem emb2 (q : Fin 128) : ((cfg0.win 2).blk t).view.emb (ix2 p q) = ix2 r ⟨640 + q.val, by omega⟩ := by
  obtain ⟨v, hv⟩ := r
  obtain rfl : v = t.val * 512 + p.val := hr
  blk_ext [idx t]

theorem read2 (q : Fin 128) : iblk m c 2 t (ix2 p q) = (m ((c : Thread nD τ).loc main_arg0)) (ix2 r ⟨640 + q.val, by omega⟩) :=
  ((congrArg (V m c main_v94) (emb2 t p r hr q)).trans (row m c r _))

theorem emb3 (q : Fin 256) : ((cfg0.win 3).blk t).view.emb (ix2 p q) = ix2 r ⟨768 + q.val, by omega⟩ := by
  obtain ⟨v, hv⟩ := r
  obtain rfl : v = t.val * 512 + p.val := hr
  blk_ext [idx t]

theorem read3 (q : Fin 256) : iblk m c 3 t (ix2 p q) = (m ((c : Thread nD τ).loc main_arg0)) (ix2 r ⟨768 + q.val, by omega⟩) :=
  ((congrArg (V m c main_v94) (emb3 t p r hr q)).trans (row m c r _))

theorem emb4 (q : Fin 256) : ((cfg0.win 4).blk t).view.emb (ix2 p q) = ix2 r ⟨1024 + q.val, by omega⟩ := by
  obtain ⟨v, hv⟩ := r
  obtain rfl : v = t.val * 512 + p.val := hr
  blk_ext [idx t]

theorem read4 (q : Fin 256) : iblk m c 4 t (ix2 p q) = (m ((c : Thread nD τ).loc main_arg0)) (ix2 r ⟨1024 + q.val, by omega⟩) :=
  ((congrArg (V m c main_v94) (emb4 t p r hr q)).trans (row m c r _))

theorem emb5 (q : Fin 256) : ((cfg0.win 5).blk t).view.emb (ix2 p q) = ix2 r ⟨1280 + q.val, by omega⟩ := by
  obtain ⟨v, hv⟩ := r
  obtain rfl : v = t.val * 512 + p.val := hr
  blk_ext [idx t]

theorem read5 (q : Fin 256) : iblk m c 5 t (ix2 p q) = (m ((c : Thread nD τ).loc main_arg0)) (ix2 r ⟨1280 + q.val, by omega⟩) :=
  ((congrArg (V m c main_v94) (emb5 t p r hr q)).trans (row m c r _))

theorem emb6 (q : Fin 256) : ((cfg0.win 6).blk t).view.emb (ix2 p q) = ix2 r ⟨1536 + q.val, by omega⟩ := by
  obtain ⟨v, hv⟩ := r
  obtain rfl : v = t.val * 512 + p.val := hr
  blk_ext [idx t]

theorem read6 (q : Fin 256) : iblk m c 6 t (ix2 p q) = (m ((c : Thread nD τ).loc main_arg0)) (ix2 r ⟨1536 + q.val, by omega⟩) :=
  ((congrArg (V m c main_v94) (emb6 t p r hr q)).trans (row m c r _))

theorem emb7 (q : Fin 128) : ((cfg0.win 7).blk t).view.emb (ix2 p q) = ix2 r q := by
  obtain ⟨v, hv⟩ := r
  obtain rfl : v = t.val * 512 + p.val := hr
  blk_ext [idx t]

theorem read7 (l : Fin 128) : iblk m c 7 t (ix2 p l) = cosA r ⟨l.val % 32, by omega⟩ :=
  (congrArg (V m c _) (emb7 t p r hr l)).trans (table_cosA m c r l)

theorem emb8 (q : Fin 128) : ((cfg0.win 8).blk t).view.emb (ix2 p q) = ix2 r q := by
  obtain ⟨v, hv⟩ := r
  obtain rfl : v = t.val * 512 + p.val := hr
  blk_ext [idx t]

theorem read8 (l : Fin 128) : iblk m c 8 t (ix2 p l) = (if l.val % 64 < 32 then - sinA r ⟨l.val % 32, by omega⟩ else sinA r ⟨l.val % 32, by omega⟩ : EReal) :=
  (congrArg (V m c _) (emb8 t p r hr l)).trans (table_sinA m c r l)

theorem emb9 (q : Fin 128) : ((cfg0.win 9).blk t).view.emb (ix2 p q) = ix2 r q := by
  obtain ⟨v, hv⟩ := r
  obtain rfl : v = t.val * 512 + p.val := hr
  blk_ext [idx t]

theorem read9 (l : Fin 128) : iblk m c 9 t (ix2 p l) = cosR r ⟨l.val % 64, by omega⟩ :=
  (congrArg (V m c _) (emb9 t p r hr l)).trans (table_cosR m c r l)

theorem emb10 (q : Fin 128) : ((cfg0.win 10).blk t).view.emb (ix2 p q) = ix2 r q := by
  obtain ⟨v, hv⟩ := r
  obtain rfl : v = t.val * 512 + p.val := hr
  blk_ext [idx t]

theorem read10 (l : Fin 128) : iblk m c 10 t (ix2 p l) = (if l.val % 128 < 64 then - sinR r ⟨l.val % 64, by omega⟩ else sinR r ⟨l.val % 64, by omega⟩ : EReal) :=
  (congrArg (V m c _) (emb10 t p r hr l)).trans (table_sinR m c r l)

theorem joined_rq (g k) : k0_pay5 (F := Ideal) (iblk m c 3 t) (iblk m c 4 t) (ix2 p (lane g k)) = (m ((c : Thread nD τ).loc main_arg0)) (ix2 r ⟨768 + (g.val * 128 + k.val), by omega⟩) := by
  pointwise [k0_pay5]
  have e : (lane g k).val = g.val * 128 + k.val := rfl
  split_ifs
  rotate_right
  · rename_i hn
    exact absurd rfl hn
  · exact (read3 m c t p r hr _).trans (congrArg (m ((c : Thread nD τ).loc main_arg0)) (congrArg (ix2 r) (Fin.ext (by dsimp only; omega))))
  · exact (read4 m c t p r hr _).trans (congrArg (m ((c : Thread nD τ).loc main_arg0)) (congrArg (ix2 r) (Fin.ext (by dsimp only; omega))))

theorem joined_rk (g k) : k0_pay6 (F := Ideal) (iblk m c 5 t) (iblk m c 6 t) (ix2 p (lane g k)) = (m ((c : Thread nD τ).loc main_arg0)) (ix2 r ⟨1280 + (g.val * 128 + k.val), by omega⟩) := by
  pointwise [k0_pay6]
  have e : (lane g k).val = g.val * 128 + k.val := rfl
  split_ifs
  rotate_right
  · rename_i hn
    exact absurd rfl hn
  · exact (read5 m c t p r hr _).trans (congrArg (m ((c : Thread nD τ).loc main_arg0)) (congrArg (ix2 r) (Fin.ext (by dsimp only; omega))))
  · exact (read6 m c t p r hr _).trans (congrArg (m ((c : Thread nD τ).loc main_arg0)) (congrArg (ix2 r) (Fin.ext (by dsimp only; omega))))

end Reads

theorem emb11 (t : Fin cfg0.N) (q : Fin 512) : ((cfg0.win 11).blk t).view.emb (ix2 0 q) = ix2 0 q := by
  blk_ext [idx t]

theorem read11 (c : Dev nD) (t : Fin cfg0.N) (q : Fin 512) : iblk m c 11 t (ix2 0 q) = (m ((c : Thread nD τ).loc main_arg1)) (ix1 ⟨q.val % 64, by omega⟩) := by
  show V m c main_v89 (((cfg0.win 11).blk t).view.emb (ix2 0 q)) = _
  rw [emb11]
  exact gain_q m c q

theorem emb12 (t : Fin cfg0.N) (q : Fin 128) : ((cfg0.win 12).blk t).view.emb (ix2 0 q) = ix2 0 q := by
  blk_ext [idx t]

theorem read12 (c : Dev nD) (t : Fin cfg0.N) (q : Fin 128) : iblk m c 12 t (ix2 0 q) = (m ((c : Thread nD τ).loc main_arg2)) (ix1 ⟨q.val % 64, by omega⟩) := by
  show V m c main_v93 (((cfg0.win 12).blk t).view.emb (ix2 0 q)) = _
  rw [emb12]
  exact gain_k m c q

end Cert.QkvIdeal.Rows

end
-- ==== Proof.QkvValue.lean ====
module

public import proofs.«01_k».proof.Proof.Gen.QkvIdeal.Frame
public import proofs.«01_k».proof.Proof.Gen.QkvRefIdeal.Read
public import Idealize.ShloMosaic.Lib.Pipeline.ValueKit
public import Idealize.ShloMosaic.Lib.Pointwise
public import proofs.«01_k».proof.Proof.QkvReads

@[expose] public section

set_option maxRecDepth 16384

noncomputable section

open Idealize.ShloMosaic Idealize.ShloMosaic.TcCoe Idealize.SL.Sem
open Idealize.ShloMosaic.Pipeline (Dat)

namespace Cert.QkvIdeal.Rows

open Cert.QkvIdeal Cert.QkvIdeal.Gen

open Cert.TurnMath Cert.Norm
open Cert.GroupMath (column)
open Cert.DProjIdeal.Grad (exists_head exists_head_short lane cosA sinA cosR sinR)
open Cert.QkvRefIdeal.Read

variable (m : (ℓ : Loc nD τ sig) → Buf (Elt Ideal) ℓ)

section Points

variable (c : Dev nD) (h0 : ∀ i, Cert.Norm.Real ((m ((c : Thread nD τ).loc main_arg0)) i)) (t : Fin cfg0.N) (p : Fin 512) (r : Fin 16384) (hr : r.val = t.val * 512 + p.val)

include hr

include h0 in
theorem point_q (h k) : tileQ (iblk m c 7 t) (iblk m c 8 t) (X0_0 m c t) (iblk m c 11 t) (ix2 p (head (by decide : (512 : ℕ) = 8 * 64) h k))
    = val_main_v85 (F := Ideal) (m ((c : Thread nD τ).loc main_arg0)) (m ((c : Thread nD τ).loc main_arg1)) (ix3 r h k) := by
  refine (tile_q _ _ p _ _ (fun q => read0 m c t p r hr q ▸ h0 _) (cosA r) (sinA r) (read7 m c t p r hr) (read8 m c t p r hr) h k).trans (Eq.trans ?_ (ref_q_out _ _ r h k).symm)
  refine congrArg (fun y => rotated (by decide : 64 = 2 * 32) y (cosA r) (sinA r) k * _) (congrArg₂ gained (funext fun j => read0 m c t p r hr _) (funext fun j => (read11 m c t _).trans (congrArg (m ((c : Thread nD τ).loc main_arg1)) (congrArg ix1 (Fin.ext ?_)))))
  show (h.val * 64 + j.val) % 64 = j.val
  omega

include h0 in
theorem point_k (h k) : tileK (iblk m c 7 t) (iblk m c 8 t) (iblk m c 1 t) (iblk m c 12 t) (ix2 p (head (by decide : (128 : ℕ) = 2 * 64) h k))
    = val_main_v116 (F := Ideal) (m ((c : Thread nD τ).loc main_arg0)) (m ((c : Thread nD τ).loc main_arg2)) (ix2 r (head (by decide : (128 : ℕ) = 2 * 64) h k)) := by
  refine (tile_k _ _ p _ _ (fun q => read1 m c t p r hr q ▸ h0 _) (cosA r) (sinA r) (read7 m c t p r hr) (read8 m c t p r hr) h k).trans (Eq.trans ?_ (ref_k_out _ _ r h k).symm)
  refine congrArg (fun y => rotated (by decide : 64 = 2 * 32) y (cosA r) (sinA r) k) (congrArg₂ gained (funext fun j => read1 m c t p r hr _) (funext fun j => (read12 m c t _).trans (congrArg (m ((c : Thread nD τ).loc main_arg2)) (congrArg ix1 (Fin.ext ?_)))))
  show (h.val * 64 + j.val) % 64 = j.val
  omega

theorem point_rq (g k) : k0_pay53 (F := Ideal) (k0_pay5 (iblk m c 3 t) (iblk m c 4 t)) (k0_pay10 (iblk m c 10 t)) (k0_pay51 (k0_pay5 (iblk m c 3 t) (iblk m c 4 t)) (k0_pay9 (iblk m c 9 t))) (Scalar.select (Scalar.cmpi .eq 128#32 0#32) 1#32 128#32) k0_pay52 0#32 (ix2 p (lane g k))
    = val_main_v172 (F := Ideal) (m ((c : Thread nD τ).loc main_arg0)) (ix2 r (lane g k)) := by
  rw [rolls_rq, tile_r _ _ p _ (cosR r) (sinR r) (read9 m c t p r hr) (read10 m c t p r hr) g k, ref_rq_out]
  exact congrArg (fun y => rotated (by decide : 128 = 2 * 64) y (cosR r) (sinR r) k * _) (funext fun j => joined_rq m c t p r hr g j)

theorem point_rk (g k) : k0_pay1 (F := Ideal) (k0_pay6 (iblk m c 5 t) (iblk m c 6 t)) (k0_pay10 (iblk m c 10 t)) (k0_pay54 (k0_pay6 (iblk m c 5 t) (iblk m c 6 t)) (k0_pay9 (iblk m c 9 t))) k0_pay55 (ix2 p (lane g k))
    = val_main_v173 (F := Ideal) (m ((c : Thread nD τ).loc main_arg0)) (ix2 r (lane g k)) := by
  rw [rolls_rk, tile_r _ _ p _ (cosR r) (sinR r) (read9 m c t p r hr) (read10 m c t p r hr) g k, ref_rk_out]
  exact congrArg (fun y => rotated (by decide : 128 = 2 * 64) y (cosR r) (sinR r) k) (funext fun j => joined_rk m c t p r hr g j)

end Points

theorem final13 (c : Dev nD) (h0 : ∀ i, Cert.Norm.Real ((m ((c : Thread nD τ).loc main_arg0)) i)) : (dats m 0 c).arrAt 13 (cfgs 0).N = val_main_v163 (F := Ideal) (m ((c : Thread nD τ).loc main_arg0)) (m ((c : Thread nD τ).loc main_arg1)) := by
  refine (dats m 0 c).arrAt_eq_of_covers 13 _ (by decide +kernel) fun t hf y => ?_
  blk_simp
  obtain ⟨a, q, l, rfl⟩ : ∃ (a : Fin 1) (q : Fin 1024) (l : Fin 512), y = ix3 a q l := ⟨y 0, y 1, y 2, funext fun j => match j with | ⟨0, _⟩ => rfl | ⟨1, _⟩ => rfl | ⟨2, _⟩ => rfl⟩
  obtain rfl : a = 0 := Fin.ext (by omega)
  have ht : t.val < 32 := t.isLt
  have hy : ((cfg0.win 13).blk t).view.emb (ix3 0 q l) = ix3 ⟨t.val, ht⟩ q l := by blk_ext [idx t]
  rw [hy, after0_13]
  refine Eq.trans ?_ ((canon_columns (tileQ (iblk m c 7 t) (iblk m c 8 t) (X0_0 m c t) (iblk m c 11 t)) q l).trans (Eq.trans ?_ (ref_columns _ _ _ _ _).symm))
  · unfold outsAt0
    dsimp only
    frame_out
    rfl
  · refine congrArg (fun f => column f q) (funext fun n => ?_)
    obtain ⟨h, k, rfl⟩ := exists_head n
    refine (point_q m c h0 t l ⟨t.val * 512 + l.val, by omega⟩ rfl h k).trans (congrArg₂ (fun a b => val_main_v85 (F := Ideal) (m ((c : Thread nD τ).loc main_arg0)) (m ((c : Thread nD τ).loc main_arg1)) (ix3 _ a b)) (Fin.ext ?_) (Fin.ext ?_))
    · show h.val = (h.val * 64 + k.val) / 64
      omega
    · show k.val = (h.val * 64 + k.val) % 64
      omega

theorem final14 (c : Dev nD) (h0 : ∀ i, Cert.Norm.Real ((m ((c : Thread nD τ).loc main_arg0)) i)) : (dats m 0 c).arrAt 14 (cfgs 0).N = val_main_v164 (F := Ideal) (m ((c : Thread nD τ).loc main_arg0)) (m ((c : Thread nD τ).loc main_arg2)) := by
  refine (dats m 0 c).arrAt_eq_of_covers 14 _ (by decide +kernel) fun t hf y => ?_
  blk_simp
  obtain ⟨p, q, rfl⟩ : ∃ p q, y = ix2 p q := ⟨y 0, y 1, funext fun a => match a with | ⟨0, _⟩ => rfl | ⟨1, _⟩ => rfl⟩
  have hy : ((cfg0.win 14).blk t).view.emb (ix2 p q) = ix2 ⟨t.val * 512 + p.val, by have : t.val < 32 := t.isLt; omega⟩ q := by blk_ext [idx t]
  rw [hy, after0_14]
  refine Eq.trans (b := k0_pay47 (F := Ideal) (tileK (iblk m c 7 t) (iblk m c 8 t) (iblk m c 1 t) (iblk m c 12 t)) (ix2 p q)) (by frame_out; rfl) ?_
  obtain ⟨h, k, rfl⟩ := exists_head_short q
  pointwise [k0_pay47, val_main_v164]
  exact point_k m c h0 t p _ rfl h k

theorem final15 (c : Dev nD) (h0 : ∀ i, Cert.Norm.Real ((m ((c : Thread nD τ).loc main_arg0)) i)) : (dats m 0 c).arrAt 15 (cfgs 0).N = val_main_v167 (F := Ideal) (m ((c : Thread nD τ).loc main_arg0)) (m ((c : Thread nD τ).loc main_arg2)) := by
  refine (dats m 0 c).arrAt_eq_of_covers 15 _ (by decide +kernel) fun t hf y => ?_
  blk_simp
  obtain ⟨a, q, l, rfl⟩ : ∃ (a : Fin 1) (q : Fin 128) (l : Fin 512), y = ix3 a q l := ⟨y 0, y 1, y 2, funext fun j => match j with | ⟨0, _⟩ => rfl | ⟨1, _⟩ => rfl | ⟨2, _⟩ => rfl⟩
  obtain rfl : a = 0 := Fin.ext (by omega)
  have ht : t.val < 32 := t.isLt
  have hy : ((cfg0.win 15).blk t).view.emb (ix3 0 q l) = ix3 ⟨t.val, ht⟩ q l := by blk_ext [idx t]
  rw [hy, after0_15]
  refine Eq.trans (b := k0_pay48 (F := Ideal) (tileK (iblk m c 7 t) (iblk m c 8 t) (iblk m c 1 t) (iblk m c 12 t)) (ix3 0 q l)) (by frame_out; rfl) ?_
  obtain ⟨h, k, rfl⟩ := exists_head_short q
  pointwise [k0_pay48, val_main_v167, val_main_v166, val_main_v165]
  exact point_k m c h0 t l _ rfl h k

theorem final16 (c : Dev nD) : (dats m 0 c).arrAt 16 (cfgs 0).N = val_main_v168 (F := Ideal) (m ((c : Thread nD τ).loc main_arg0)) := by
  refine (dats m 0 c).arrAt_eq_of_covers 16 _ (by decide +kernel) fun t hf y => ?_
  blk_simp
  obtain ⟨p, q, rfl⟩ : ∃ p q, y = ix2 p q := ⟨y 0, y 1, funext fun a => match a with | ⟨0, _⟩ => rfl | ⟨1, _⟩ => rfl⟩
  have hy : ((cfg0.win 16).blk t).view.emb (ix2 p q) = ix2 ⟨t.val * 512 + p.val, by have : t.val < 32 := t.isLt; omega⟩ q := by blk_ext [idx t]
  rw [hy, after0_16]
  refine Eq.trans (b := k0_pay49 (F := Ideal) (k0_pay4 (iblk m c 2 t)) (ix2 p q)) (by frame_out) ?_
  pointwise [k0_pay49, k0_pay4, val_main_v168, val_main_v117]
  exact read2 m c t p _ rfl q

theorem final17 (c : Dev nD) : (dats m 0 c).arrAt 17 (cfgs 0).N = val_main_v171 (F := Ideal) (m ((c : Thread nD τ).loc main_arg0)) := by
  refine (dats m 0 c).arrAt_eq_of_covers 17 _ (by decide +kernel) fun t hf y => ?_
  blk_simp
  obtain ⟨a, q, l, rfl⟩ : ∃ (a : Fin 1) (q : Fin 128) (l : Fin 512), y = ix3 a q l := ⟨y 0, y 1, y 2, funext fun j => match j with | ⟨0, _⟩ => rfl | ⟨1, _⟩ => rfl | ⟨2, _⟩ => rfl⟩
  obtain rfl : a = 0 := Fin.ext (by omega)
  have ht : t.val < 32 := t.isLt
  have hy : ((cfg0.win 17).blk t).view.emb (ix3 0 q l) = ix3 ⟨t.val, ht⟩ q l := by blk_ext [idx t]
  rw [hy, after0_17]
  refine Eq.trans (b := k0_pay50 (F := Ideal) (k0_pay4 (iblk m c 2 t)) (ix3 0 q l)) (by frame_out) ?_
  pointwise [k0_pay50, k0_pay4, val_main_v171, val_main_v170, val_main_v169, val_main_v117]
  exact read2 m c t l _ rfl q

theorem final18 (c : Dev nD) : (dats m 0 c).arrAt 18 (cfgs 0).N = val_main_v172 (F := Ideal) (m ((c : Thread nD τ).loc main_arg0)) := by
  refine (dats m 0 c).arrAt_eq_of_covers 18 _ (by decide +kernel) fun t hf y => ?_
  blk_simp
  obtain ⟨p, q, rfl⟩ : ∃ p q, y = ix2 p q := ⟨y 0, y 1, funext fun a => match a with | ⟨0, _⟩ => rfl | ⟨1, _⟩ => rfl⟩
  have hy : ((cfg0.win 18).blk t).view.emb (ix2 p q) = ix2 ⟨t.val * 512 + p.val, by have : t.val < 32 := t.isLt; omega⟩ q := by blk_ext [idx t]
  rw [hy, after0_18]
  refine Eq.trans (b := k0_pay53 (F := Ideal) (k0_pay5 (iblk m c 3 t) (iblk m c 4 t)) (k0_pay10 (iblk m c 10 t)) (k0_pay51 (k0_pay5 (iblk m c 3 t) (iblk m c 4 t)) (k0_pay9 (iblk m c 9 t))) (Scalar.select (Scalar.cmpi .eq 128#32 0#32) 1#32 128#32) k0_pay52 0#32 (ix2 p q)) (by frame_out; rfl) ?_
  obtain ⟨g, k, rfl⟩ : ∃ g k, q = lane g k := Cert.GroupMath.exists_lane q
  exact point_rq m c t p _ rfl g k

theorem final19 (c : Dev nD) : (dats m 0 c).arrAt 19 (cfgs 0).N = val_main_v173 (F := Ideal) (m ((c : Thread nD τ).loc main_arg0)) := by
  refine (dats m 0 c).arrAt_eq_of_covers 19 _ (by decide +kernel) fun t hf y => ?_
  blk_simp
  obtain ⟨p, q, rfl⟩ : ∃ p q, y = ix2 p q := ⟨y 0, y 1, funext fun a => match a with | ⟨0, _⟩ => rfl | ⟨1, _⟩ => rfl⟩
  have hy : ((cfg0.win 19).blk t).view.emb (ix2 p q) = ix2 ⟨t.val * 512 + p.val, by have : t.val < 32 := t.isLt; omega⟩ q := by blk_ext [idx t]
  rw [hy, after0_19]
  refine Eq.trans (b := k0_pay1 (F := Ideal) (k0_pay6 (iblk m c 5 t) (iblk m c 6 t)) (k0_pay10 (iblk m c 10 t)) (k0_pay54 (k0_pay6 (iblk m c 5 t) (iblk m c 6 t)) (k0_pay9 (iblk m c 9 t))) k0_pay55 (ix2 p q)) (by frame_out) ?_
  obtain ⟨g, k, rfl⟩ : ∃ g k, q = lane g k := Cert.GroupMath.exists_lane q
  exact point_rk m c t p _ rfl g k

end Cert.QkvIdeal.Rows

end
-- ==== Proof.Qkv.lean ====
module

public import proofs.«01_k».proof.Defs
public import proofs.«01_k».proof.Proof.QkvValue
public import proofs.«01_k».proof.Proof.Gen.QkvIdeal.Value
public import proofs.«01_k».proof.Proof.Gen.QkvRefIdeal.Run
public import proofs.«01_k».proof.Proof.Gen.Pre_finite_qkv
public import Idealize.ShloMosaic.Lib.Quiescent

@[expose] public section

set_option maxRecDepth 16384

noncomputable section

open Idealize.ShloMosaic Idealize.ShloMosaic.TcCoe Idealize.SL.Sem

namespace Cert.Proof.Qkv

theorem frame_ref : Cert.quiescent_QkvRefIdeal := fun m ρ _ =>
  (θ_run Cert.QkvRefIdeal.defs _ _).mono
    (fun r h => ⟨fun c => (h c).2.2.2.2.2.2.2, Idealize.ShloMosaic.sem_eq_zero_of_no_sems (by decide) r.2⟩)
    (Cert.QkvRefIdeal.Value.run (F := Ideal) m ρ)

theorem frame_ref_pre : Cert.quiescent_QkvRefIdeal_pre_finite_qkv := fun m ρ _ => frame_ref m ρ trivial

/-- The precondition makes every entry of the projection a real number. -/
theorem tame (m) (h : Pre_QkvIdeal_finite_qkv m) (c : Dev Cert.QkvIdeal.nD) (i) : Cert.Norm.Real (m ((c : Thread Cert.QkvIdeal.nD Cert.QkvIdeal.τ).loc Cert.QkvIdeal.main_arg0) i) :=
  Cert.Norm.Real.of_pre _ _ _ (h c) i

/-- The results as the reference's run writes them. -/
theorem value : Cert.algebraic_QkvIdeal_QkvRefIdeal_pre_finite_qkv := fun m g m' g' hpre ha =>
  ⟨_, _, _, _, _, _, _,
    (θ_run _ _ _).mono (fun r h c => ⟨(h c).1.trans (Cert.QkvIdeal.Rows.final13 m c (tame m hpre c)), (h c).2.1.trans (Cert.QkvIdeal.Rows.final14 m c (tame m hpre c)), (h c).2.2.1.trans (Cert.QkvIdeal.Rows.final15 m c (tame m hpre c)), (h c).2.2.2.1.trans (Cert.QkvIdeal.Rows.final16 m c), (h c).2.2.2.2.1.trans (Cert.QkvIdeal.Rows.final17 m c), (h c).2.2.2.2.2.1.trans (Cert.QkvIdeal.Rows.final18 m c), (h c).2.2.2.2.2.2.1.trans (Cert.QkvIdeal.Rows.final19 m c), (h c).2.2.2.2.2.2.2⟩)
      (Cert.QkvIdeal.Value.run_blocks (F := Ideal) m g),
    (θ_run _ _ _).mono (fun r h c => ⟨(h c).1.trans (by rw [← (ha c).1, ← (ha c).2.1]; rfl),
      (h c).2.1.trans (by rw [← (ha c).1, ← (ha c).2.2]; rfl),
      (h c).2.2.1.trans (by rw [← (ha c).1, ← (ha c).2.2]; rfl),
      (h c).2.2.2.1.trans (by rw [← (ha c).1]; rfl),
      (h c).2.2.2.2.1.trans (by rw [← (ha c).1]; rfl),
      (h c).2.2.2.2.2.1.trans (by rw [← (ha c).1]; rfl),
      (h c).2.2.2.2.2.2.1.trans (by rw [← (ha c).1]; rfl), (h c).2.2.2.2.2.2.2⟩)
      (Cert.QkvRefIdeal.Value.run (F := Ideal) m' g')⟩

end Cert.Proof.Qkv

end
-- ==== Proof.lean ====
module

public import proofs.«01_k».proof.Defs
public import proofs.«01_k».proof.Proof.Du
public import proofs.«01_k».proof.Proof.Gen.DU.Frame
public import proofs.«01_k».proof.Proof.Gen.DUIdeal.Frame
public import proofs.«01_k».proof.Proof.Gen.DUIdeal.Value
public import proofs.«01_k».proof.Proof.Gen.DURefIdeal.Run
public import proofs.«01_k».proof.Proof.Gen.DURefIdeal.Read
public import proofs.«01_k».proof.Proof.Dm
public import proofs.«01_k».proof.Proof.Gen.DM.Frame
public import proofs.«01_k».proof.Proof.Gen.DMIdeal.Frame
public import proofs.«01_k».proof.Proof.Gen.DMIdeal.Value
public import proofs.«01_k».proof.Proof.Gen.DMRefIdeal.Run
public import proofs.«01_k».proof.Proof.Gen.DMRefIdeal.Read
public import proofs.«01_k».proof.Proof.Dhp
public import proofs.«01_k».proof.Proof.Gen.DHp.Frame
public import proofs.«01_k».proof.Proof.Gen.DHpIdeal.Frame
public import proofs.«01_k».proof.Proof.Gen.DHpIdeal.Value
public import proofs.«01_k».proof.Proof.Gen.DHpRefIdeal.Run
public import proofs.«01_k».proof.Proof.Gen.DHpRefIdeal.Read
public import proofs.«01_k».proof.Proof.Gen.Pre_finite_dhp
public import proofs.«01_k».proof.Proof.Dhm
public import proofs.«01_k».proof.Proof.Gen.DHm.Frame
public import proofs.«01_k».proof.Proof.Gen.DHmIdeal.Frame
public import proofs.«01_k».proof.Proof.Gen.DHmIdeal.Value
public import proofs.«01_k».proof.Proof.Gen.DHmRefIdeal.Run
public import proofs.«01_k».proof.Proof.Gen.DHmRefIdeal.Read
public import proofs.«01_k».proof.Proof.Gen.Pre_finite_dhm
public import proofs.«01_k».proof.Proof.Dh
public import proofs.«01_k».proof.Proof.Gen.DH.Frame
public import proofs.«01_k».proof.Proof.Gen.DHIdeal.Frame
public import proofs.«01_k».proof.Proof.Gen.DHIdeal.Value
public import proofs.«01_k».proof.Proof.Gen.DHRefIdeal.Run
public import proofs.«01_k».proof.Proof.Gen.DHRefIdeal.Read
public import proofs.«01_k».proof.Proof.Gen.Pre_finite_dh
public import proofs.«01_k».proof.Proof.HeadCall
public import proofs.«01_k».proof.Proof.Gen.Head.Frame
public import proofs.«01_k».proof.Proof.Gen.HeadIdeal.Frame
public import proofs.«01_k».proof.Proof.Gen.HeadIdeal.Value
public import proofs.«01_k».proof.Proof.Gen.HeadRefIdeal.Run
public import proofs.«01_k».proof.Proof.Gen.HeadRefIdeal.Read
public import proofs.«01_k».proof.Proof.Gen.Pre_finite_head_call
public import proofs.«01_k».proof.Proof.Mpb
public import proofs.«01_k».proof.Proof.Gen.Mpb.Frame
public import proofs.«01_k».proof.Proof.Gen.MpbIdeal.Frame
public import proofs.«01_k».proof.Proof.Gen.MpbIdeal.Value
public import proofs.«01_k».proof.Proof.Gen.MpbRefIdeal.Run
public import proofs.«01_k».proof.Proof.Gen.MpbRefIdeal.Read
public import proofs.«01_k».proof.Proof.Gen.Pre_finite_mpb
public import proofs.«01_k».proof.Proof.AttnClaims
public import proofs.«01_k».proof.Proof.Gen.Attn.Frame
public import proofs.«01_k».proof.Proof.Gen.AttnIdeal.Frame
public import proofs.«01_k».proof.Proof.Gen.AttnRefIdeal.Run
public import proofs.«01_k».proof.Proof.Gen.AttnRefIdeal.Read
public import proofs.«01_k».proof.Proof.Gen.Pre_finite_attn
public import proofs.«01_k».proof.Proof.Dproj
public import proofs.«01_k».proof.Proof.Gen.DProj
public import proofs.«01_k».proof.Proof.Gen.DProjRefIdeal.Run
public import proofs.«01_k».proof.Proof.Gen.DProjRefIdeal.Read
public import proofs.«01_k».proof.Proof.Gen.Pre_finite_dproj
public import proofs.«01_k».proof.Proof.Mp
public import proofs.«01_k».proof.Proof.Gen.Mp.Frame
public import proofs.«01_k».proof.Proof.Gen.MpIdeal.Frame
public import proofs.«01_k».proof.Proof.Gen.MpIdeal.Value
public import proofs.«01_k».proof.Proof.Gen.MpRefIdeal.Run
public import proofs.«01_k».proof.Proof.Gen.MpRefIdeal.Read
public import proofs.«01_k».proof.Proof.RetO
public import proofs.«01_k».proof.Proof.Gen.RetO.Frame
public import proofs.«01_k».proof.Proof.Gen.RetOIdeal.Frame
public import proofs.«01_k».proof.Proof.Gen.RetOIdeal.Value
public import proofs.«01_k».proof.Proof.Gen.RetORefIdeal.Run
public import proofs.«01_k».proof.Proof.Gen.RetORefIdeal.Read
public import proofs.«01_k».proof.Proof.Up
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import proofs.«01_k».proof.Proof.OutP
public import proofs.«01_k».proof.Proof.Gen.OutP.Frame
public import proofs.«01_k».proof.Proof.Gen.OutPIdeal.Frame
public import proofs.«01_k».proof.Proof.Gen.OutPIdeal.Value
public import proofs.«01_k».proof.Proof.Gen.OutPRefIdeal.Run
public import proofs.«01_k».proof.Proof.Gen.OutPRefIdeal.Read
public import proofs.«01_k».proof.Proof.Down
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Qkv
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.Pre_finite_qkv

@[expose] public section

noncomputable section

namespace Cert.Proof

theorem claim : Cert.Claim := ⟨Cert.DU.Gen.facts,
  Cert.DUIdeal.Gen.facts,
  Cert.DURefIdeal.Gen.facts,
  Cert.DM.Gen.facts,
  Cert.DMIdeal.Gen.facts,
  Cert.DMRefIdeal.Gen.facts,
  Cert.DHp.Gen.facts,
  Cert.DHpIdeal.Gen.facts,
  Cert.DHpRefIdeal.Gen.facts,
  Cert.DHm.Gen.facts,
  Cert.DHmIdeal.Gen.facts,
  Cert.DHmRefIdeal.Gen.facts,
  Cert.DH.Gen.facts,
  Cert.DHIdeal.Gen.facts,
  Cert.DHRefIdeal.Gen.facts,
  Cert.Head.Gen.facts,
  Cert.HeadIdeal.Gen.facts,
  Cert.HeadRefIdeal.Gen.facts,
  Cert.Mpb.Gen.facts,
  Cert.MpbIdeal.Gen.facts,
  Cert.MpbRefIdeal.Gen.facts,
  Cert.Attn.Gen.facts,
  Cert.AttnIdeal.Gen.facts,
  Cert.AttnRefIdeal.Gen.facts,
  Cert.DProj.Gen.facts,
  Cert.DProjIdeal.Gen.facts,
  Cert.DProjRefIdeal.Gen.facts,
  Cert.Mp.Gen.facts,
  Cert.MpIdeal.Gen.facts,
  Cert.MpRefIdeal.Gen.facts,
  Cert.RetO.Gen.facts,
  Cert.RetOIdeal.Gen.facts,
  Cert.RetORefIdeal.Gen.facts,
  Cert.Up.Gen.facts,
  Cert.UpIdeal.Gen.facts,
  Cert.UpRefIdeal.Gen.facts,
  Cert.OutP.Gen.facts,
  Cert.OutPIdeal.Gen.facts,
  Cert.OutPRefIdeal.Gen.facts,
  Cert.Down.Gen.facts,
  Cert.DownIdeal.Gen.facts,
  Cert.DownRefIdeal.Gen.facts,
  Cert.Qkv.Gen.facts,
  Cert.QkvIdeal.Gen.facts,
  Cert.QkvRefIdeal.Gen.facts,
  Cert.Pre_finite_dhp.Gen.facts,
  Cert.Pre_finite_dhm.Gen.facts,
  Cert.Pre_finite_dh.Gen.facts,
  Cert.Pre_finite_head_call.Gen.facts,
  Cert.Pre_finite_mpb.Gen.facts,
  Cert.Pre_finite_attn.Gen.facts,
  Cert.Pre_finite_dproj.Gen.facts,
  Cert.Pre_finite_qkv.Gen.facts,
  fun m ρ _ => Cert.DU.Gen.frame m ρ,
  fun m ρ _ => Cert.DUIdeal.Gen.frame m ρ,
  Cert.Proof.Du.frame_ref,
  fun m ρ _ => Cert.DM.Gen.frame m ρ,
  fun m ρ _ => Cert.DMIdeal.Gen.frame m ρ,
  Cert.Proof.Dm.frame_ref,
  fun m ρ _ => Cert.DHp.Gen.frame m ρ,
  fun m ρ _ => Cert.DHpIdeal.Gen.frame m ρ,
  fun m ρ _ => Cert.DHpIdeal.Gen.frame m ρ,
  Cert.Proof.Dhp.frame_ref,
  Cert.Proof.Dhp.frame_ref_pre,
  fun m ρ _ => Cert.DHm.Gen.frame m ρ,
  fun m ρ _ => Cert.DHmIdeal.Gen.frame m ρ,
  fun m ρ _ => Cert.DHmIdeal.Gen.frame m ρ,
  Cert.Proof.Dhm.frame_ref,
  Cert.Proof.Dhm.frame_ref_pre,
  fun m ρ _ => Cert.DH.Gen.frame m ρ,
  fun m ρ _ => Cert.DHIdeal.Gen.frame m ρ,
  fun m ρ _ => Cert.DHIdeal.Gen.frame m ρ,
  Cert.Proof.Dh.frame_ref,
  Cert.Proof.Dh.frame_ref_pre,
  fun m ρ _ => Cert.Head.Gen.frame m ρ,
  fun m ρ _ => Cert.HeadIdeal.Gen.frame m ρ,
  fun m ρ _ => Cert.HeadIdeal.Gen.frame m ρ,
  Cert.Proof.HeadCall.frame_ref,
  Cert.Proof.HeadCall.frame_ref_pre,
  fun m ρ _ => Cert.Mpb.Gen.frame m ρ,
  fun m ρ _ => Cert.MpbIdeal.Gen.frame m ρ,
  fun m ρ _ => Cert.MpbIdeal.Gen.frame m ρ,
  Cert.Proof.Mpb.frame_ref,
  Cert.Proof.Mpb.frame_ref_pre,
  Cert.Proof.Attn.frame,
  fun m ρ _ => Cert.AttnIdeal.Body.frames m ρ,
  fun m ρ _ => Cert.AttnIdeal.Body.frames m ρ,
  Cert.Proof.Attn.frame_ref,
  Cert.Proof.Attn.frame_ref_pre,
  Cert.Proof.Dproj.frame,
  Cert.Proof.Dproj.frame_ideal,
  Cert.Proof.Dproj.frame_ideal_pre,
  Cert.Proof.Dproj.frame_ref,
  Cert.Proof.Dproj.frame_ref_pre,
  fun m ρ _ => Cert.Mp.Gen.frame m ρ,
  fun m ρ _ => Cert.MpIdeal.Gen.frame m ρ,
  Cert.Proof.Mp.frame_ref,
  fun m ρ _ => Cert.RetO.Gen.frame m ρ,
  fun m ρ _ => Cert.RetOIdeal.Gen.frame m ρ,
  Cert.Proof.RetO.frame_ref,
  fun m ρ _ => Cert.Up.Gen.frame m ρ,
  fun m ρ _ => Cert.UpIdeal.Gen.frame m ρ,
  Cert.Proof.Up.frame_ref,
  fun m ρ _ => Cert.OutP.Gen.frame m ρ,
  fun m ρ _ => Cert.OutPIdeal.Gen.frame m ρ,
  Cert.Proof.OutP.frame_ref,
  fun m ρ _ => Cert.Down.Gen.frame m ρ,
  fun m ρ _ => Cert.DownIdeal.Gen.frame m ρ,
  Cert.Proof.Down.frame_ref,
  fun m ρ _ => Cert.Qkv.Gen.frame m ρ,
  fun m ρ _ => Cert.QkvIdeal.Gen.frame m ρ,
  fun m ρ _ => Cert.QkvIdeal.Gen.frame m ρ,
  Cert.Proof.Qkv.frame_ref,
  Cert.Proof.Qkv.frame_ref_pre,
  trivial,
  Cert.Proof.Du.value,
  trivial,
  Cert.Proof.Dm.value,
  trivial,
  Cert.Proof.Dhp.value,
  trivial,
  Cert.Proof.Dhm.value,
  trivial,
  Cert.Proof.Dh.value,
  trivial,
  Cert.Proof.HeadCall.value,
  trivial,
  Cert.Proof.Mpb.value,
  trivial,
  Cert.Proof.Attn.value,
  trivial,
  Cert.Proof.Dproj.value,
  trivial,
  Cert.Proof.Mp.value,
  trivial,
  Cert.Proof.RetO.value,
  trivial,
  Cert.Proof.Up.value,
  trivial,
  Cert.Proof.OutP.value,
  trivial,
  Cert.Proof.Down.value,
  trivial,
  Cert.Proof.Qkv.value⟩

end Cert.Proof

end
